-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4)
      ∧ r.2.mem ((c.tc : Thread Cert.Kernel41.nD Cert.Kernel41.τ).loc Cert.Kernel41.main_arg5) = m ((c.tc : Thread Cert.Kernel41.nD Cert.Kernel41.τ).loc Cert.Kernel41.main_arg5)
      ∧ r.2.mem ((c.tc : Thread Cert.Kernel41.nD Cert.Kernel41.τ).loc Cert.Kernel41.main_arg6) = m ((c.tc : Thread Cert.Kernel41.nD Cert.Kernel41.τ).loc Cert.Kernel41.main_arg6)
      ∧ r.2.mem ((c.tc : Thread Cert.Kernel41.nD Cert.Kernel41.τ).loc Cert.Kernel41.main_arg7) = m ((c.tc : Thread Cert.Kernel41.nD Cert.Kernel41.τ).loc Cert.Kernel41.main_arg7))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
      ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
      ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
      ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4)
      ∧ r.2.mem ((c.tc : Thread Cert.Reference41Ideal.nD Cert.Reference41Ideal.τ).loc Cert.Reference41Ideal.main_arg5) = m ((c.tc : Thread Cert.Reference41Ideal.nD Cert.Reference41Ideal.τ).loc Cert.Reference41Ideal.main_arg5)
      ∧ r.2.mem ((c.tc : Thread Cert.Reference41Ideal.nD Cert.Reference41Ideal.τ).loc Cert.Reference41Ideal.main_arg6) = m ((c.tc : Thread Cert.Reference41Ideal.nD Cert.Reference41Ideal.τ).loc Cert.Reference41Ideal.main_arg6)
      ∧ r.2.mem ((c.tc : Thread Cert.Reference41Ideal.nD Cert.Reference41Ideal.τ).loc Cert.Reference41Ideal.main_arg7) = m ((c.tc : Thread Cert.Reference41Ideal.nD Cert.Reference41Ideal.τ).loc Cert.Reference41Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v61)) (v3 : (c : Dev Cert.KernelIdeal.nD) → Buf (Elt Ideal) ((c.tc : Thread Cert.KernelIdeal.nD Cert.KernelIdeal.τ).loc Cert.KernelIdeal.main_v63)) (v4 : (c : Dev Cert.KernelIdeal.nD) → Buf (Elt Ideal) ((c.tc : Thread Cert.KernelIdeal.nD Cert.KernelIdeal.τ).loc Cert.KernelIdeal.main_v65)) (v5 : (c : Dev Cert.KernelIdeal.nD) → Buf (Elt Ideal) ((c.tc : Thread Cert.KernelIdeal.nD Cert.KernelIdeal.τ).loc Cert.KernelIdeal.main_v68)) (v6 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v61) = v2 c
          ∧ r.2.mem ((c.tc : Thread Cert.KernelIdeal.nD Cert.KernelIdeal.τ).loc Cert.KernelIdeal.main_v63) = v3 c
          ∧ r.2.mem ((c.tc : Thread Cert.KernelIdeal.nD Cert.KernelIdeal.τ).loc Cert.KernelIdeal.main_v65) = v4 c
          ∧ r.2.mem ((c.tc : Thread Cert.KernelIdeal.nD Cert.KernelIdeal.τ).loc Cert.KernelIdeal.main_v68) = v5 c
          ∧ r.2.mem ((c.tc : Thread Cert.KernelIdeal.nD Cert.KernelIdeal.τ).loc Cert.KernelIdeal.main_v71) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v82) = v5 c
          ∧ r.2.mem ((c.tc : Thread Cert.ReferenceIdeal.nD Cert.ReferenceIdeal.τ).loc Cert.ReferenceIdeal.main_v72) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)) (v1 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_v3) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v35) = v0 c
          ∧ r.2.mem ((c.tc : Thread Cert.Reference18Ideal.nD Cert.Reference18Ideal.τ).loc Cert.Reference18Ideal.main_v21) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3)) (v1 : (c : Dev Cert.Kernel19Ideal.nD) → Buf (Elt Ideal) ((c.tc : Thread Cert.Kernel19Ideal.nD Cert.Kernel19Ideal.τ).loc Cert.Kernel19Ideal.main_v4)) (v2 : (c : Dev Cert.Kernel19Ideal.nD) → Buf (Elt Ideal) ((c.tc : Thread Cert.Kernel19Ideal.nD Cert.Kernel19Ideal.τ).loc Cert.Kernel19Ideal.main_v5)) (v3 : (c : Dev Cert.Kernel19Ideal.nD) → Buf (Elt Ideal) ((c.tc : Thread Cert.Kernel19Ideal.nD Cert.Kernel19Ideal.τ).loc Cert.Kernel19Ideal.main_v6)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_v4) = v1 c
          ∧ r.2.mem ((c.tc : Thread Cert.Kernel19Ideal.nD Cert.Kernel19Ideal.τ).loc Cert.Kernel19Ideal.main_v5) = v2 c
          ∧ r.2.mem ((c.tc : Thread Cert.Kernel19Ideal.nD Cert.Kernel19Ideal.τ).loc Cert.Kernel19Ideal.main_v6) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v28) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v30) = v2 c
          ∧ r.2.mem ((c.tc : Thread Cert.Reference19Ideal.nD Cert.Reference19Ideal.τ).loc Cert.Reference19Ideal.main_v27) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v19)) (v1 : (c : Dev Cert.Kernel20Ideal.nD) → Buf (Elt Ideal) ((c.tc : Thread Cert.Kernel20Ideal.nD Cert.Kernel20Ideal.τ).loc Cert.Kernel20Ideal.main_v23)) (v2 : (c : Dev Cert.Kernel20Ideal.nD) → Buf (Elt Ideal) ((c.tc : Thread Cert.Kernel20Ideal.nD Cert.Kernel20Ideal.τ).loc Cert.Kernel20Ideal.main_v27)) (v3 : (c : Dev Cert.Kernel20Ideal.nD) → Buf (Elt Ideal) ((c.tc : Thread Cert.Kernel20Ideal.nD Cert.Kernel20Ideal.τ).loc Cert.Kernel20Ideal.main_v28)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v19) = v0 c
          ∧ r.2.mem ((c.tc : Thread Cert.Kernel20Ideal.nD Cert.Kernel20Ideal.τ).loc Cert.Kernel20Ideal.main_v23) = v1 c
          ∧ r.2.mem ((c.tc : Thread Cert.Kernel20Ideal.nD Cert.Kernel20Ideal.τ).loc Cert.Kernel20Ideal.main_v27) = v2 c
          ∧ r.2.mem ((c.tc : Thread Cert.Kernel20Ideal.nD Cert.Kernel20Ideal.τ).loc Cert.Kernel20Ideal.main_v28) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v20) = v0 c
          ∧ r.2.mem ((c.tc : Thread Cert.Reference20Ideal.nD Cert.Reference20Ideal.τ).loc Cert.Reference20Ideal.main_v21) = v1 c
          ∧ r.2.mem ((c.tc : Thread Cert.Reference20Ideal.nD Cert.Reference20Ideal.τ).loc Cert.Reference20Ideal.main_v18) = v2 c
          ∧ r.2.mem ((c.tc : Thread Cert.Reference20Ideal.nD Cert.Reference20Ideal.τ).loc Cert.Reference20Ideal.main_v24) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v20)) (v1 : (c : Dev Cert.Kernel21Ideal.nD) → Buf (Elt Ideal) ((c.tc : Thread Cert.Kernel21Ideal.nD Cert.Kernel21Ideal.τ).loc Cert.Kernel21Ideal.main_v23)) (v2 : (c : Dev Cert.Kernel21Ideal.nD) → Buf (Elt Ideal) ((c.tc : Thread Cert.Kernel21Ideal.nD Cert.Kernel21Ideal.τ).loc Cert.Kernel21Ideal.main_v24)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v20) = v0 c
          ∧ r.2.mem ((c.tc : Thread Cert.Kernel21Ideal.nD Cert.Kernel21Ideal.τ).loc Cert.Kernel21Ideal.main_v23) = v1 c
          ∧ r.2.mem ((c.tc : Thread Cert.Kernel21Ideal.nD Cert.Kernel21Ideal.τ).loc Cert.Kernel21Ideal.main_v24) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v38) = v0 c
          ∧ r.2.mem ((c.tc : Thread Cert.Reference21Ideal.nD Cert.Reference21Ideal.τ).loc Cert.Reference21Ideal.main_v40) = v1 c
          ∧ r.2.mem ((c.tc : Thread Cert.Reference21Ideal.nD Cert.Reference21Ideal.τ).loc Cert.Reference21Ideal.main_v44) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v2) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v37) = v0 c
          ∧ r.2.mem ((c.tc : Thread Cert.Reference22Ideal.nD Cert.Reference22Ideal.τ).loc Cert.Reference22Ideal.main_v22) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v7)) (v1 : (c : Dev Cert.Kernel23Ideal.nD) → Buf (Elt Ideal) ((c.tc : Thread Cert.Kernel23Ideal.nD Cert.Kernel23Ideal.τ).loc Cert.Kernel23Ideal.main_v8)) (v2 : (c : Dev Cert.Kernel23Ideal.nD) → Buf (Elt Ideal) ((c.tc : Thread Cert.Kernel23Ideal.nD Cert.Kernel23Ideal.τ).loc Cert.Kernel23Ideal.main_v9)) (v3 : (c : Dev Cert.Kernel23Ideal.nD) → Buf (Elt Ideal) ((c.tc : Thread Cert.Kernel23Ideal.nD Cert.Kernel23Ideal.τ).loc Cert.Kernel23Ideal.main_v10)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v7) = v0 c
          ∧ r.2.mem ((c.tc : Thread Cert.Kernel23Ideal.nD Cert.Kernel23Ideal.τ).loc Cert.Kernel23Ideal.main_v8) = v1 c
          ∧ r.2.mem ((c.tc : Thread Cert.Kernel23Ideal.nD Cert.Kernel23Ideal.τ).loc Cert.Kernel23Ideal.main_v9) = v2 c
          ∧ r.2.mem ((c.tc : Thread Cert.Kernel23Ideal.nD Cert.Kernel23Ideal.τ).loc Cert.Kernel23Ideal.main_v10) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v41) = v0 c
          ∧ r.2.mem ((c.tc : Thread Cert.Reference23Ideal.nD Cert.Reference23Ideal.τ).loc Cert.Reference23Ideal.main_v40) = v1 c
          ∧ r.2.mem ((c.tc : Thread Cert.Reference23Ideal.nD Cert.Reference23Ideal.τ).loc Cert.Reference23Ideal.main_v35) = v2 c
          ∧ r.2.mem ((c.tc : Thread Cert.Reference23Ideal.nD Cert.Reference23Ideal.τ).loc Cert.Reference23Ideal.main_v28) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v110) = v0 c
          ∧ r.2.mem ((c.tc : Thread Cert.Reference24Ideal.nD Cert.Reference24Ideal.τ).loc Cert.Reference24Ideal.main_v99) = v1 c
          ∧ r.2.mem ((c.tc : Thread Cert.Reference24Ideal.nD Cert.Reference24Ideal.τ).loc Cert.Reference24Ideal.main_v109) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)) (v3 : (c : Dev Cert.Kernel25Ideal.nD) → Buf (Elt Ideal) ((c.tc : Thread Cert.Kernel25Ideal.nD Cert.Kernel25Ideal.τ).loc Cert.Kernel25Ideal.main_v1_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_v1_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v10) = v0 c
          ∧ r.2.mem ((c.tc : Thread Cert.Reference25Ideal.nD Cert.Reference25Ideal.τ).loc Cert.Reference25Ideal.main_v14) = v1 c
          ∧ r.2.mem ((c.tc : Thread Cert.Reference25Ideal.nD Cert.Reference25Ideal.τ).loc Cert.Reference25Ideal.main_v23) = v2 c
          ∧ r.2.mem ((c.tc : Thread Cert.Reference25Ideal.nD Cert.Reference25Ideal.τ).loc Cert.Reference25Ideal.main_v29) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v5)) (v1 : (c : Dev Cert.Kernel26Ideal.nD) → Buf (Elt Ideal) ((c.tc : Thread Cert.Kernel26Ideal.nD Cert.Kernel26Ideal.τ).loc Cert.Kernel26Ideal.main_v6)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v5) = v0 c
          ∧ r.2.mem ((c.tc : Thread Cert.Kernel26Ideal.nD Cert.Kernel26Ideal.τ).loc Cert.Kernel26Ideal.main_v6) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_v11) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v13)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v13) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v17) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v17)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v17) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v3) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v16) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v14) = v0 c
          ∧ r.2.mem ((c.tc : Thread Cert.Reference33Ideal.nD Cert.Reference33Ideal.τ).loc Cert.Reference33Ideal.main_v8) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)) →
    ∃ (v0 : (c : Dev Cert.Kernel34Ideal.nD) → Buf (Elt Ideal) ((c.tc : Thread Cert.Kernel34Ideal.nD Cert.Kernel34Ideal.τ).loc Cert.Kernel34Ideal.main_v1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_arg0) = v0 c
          ∧ r.2.mem ((c.tc : Thread Cert.Reference35Ideal.nD Cert.Reference35Ideal.τ).loc Cert.Reference35Ideal.main_v23) = v1 c
          ∧ r.2.mem ((c.tc : Thread Cert.Reference35Ideal.nD Cert.Reference35Ideal.τ).loc Cert.Reference35Ideal.main_v4) = v2 c
          ∧ r.2.mem ((c.tc : Thread Cert.Reference35Ideal.nD Cert.Reference35Ideal.τ).loc Cert.Reference35Ideal.main_v10) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v5)) (v1 : (c : Dev Cert.Kernel36Ideal.nD) → Buf (Elt Ideal) ((c.tc : Thread Cert.Kernel36Ideal.nD Cert.Kernel36Ideal.τ).loc Cert.Kernel36Ideal.main_v6)) (v2 : (c : Dev Cert.Kernel36Ideal.nD) → Buf (Elt Ideal) ((c.tc : Thread Cert.Kernel36Ideal.nD Cert.Kernel36Ideal.τ).loc Cert.Kernel36Ideal.main_v7)) (v3 : (c : Dev Cert.Kernel36Ideal.nD) → Buf (Elt Ideal) ((c.tc : Thread Cert.Kernel36Ideal.nD Cert.Kernel36Ideal.τ).loc Cert.Kernel36Ideal.main_v8)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v5) = v0 c
          ∧ r.2.mem ((c.tc : Thread Cert.Kernel36Ideal.nD Cert.Kernel36Ideal.τ).loc Cert.Kernel36Ideal.main_v6) = v1 c
          ∧ r.2.mem ((c.tc : Thread Cert.Kernel36Ideal.nD Cert.Kernel36Ideal.τ).loc Cert.Kernel36Ideal.main_v7) = v2 c
          ∧ r.2.mem ((c.tc : Thread Cert.Kernel36Ideal.nD Cert.Kernel36Ideal.τ).loc Cert.Kernel36Ideal.main_v8) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_arg0) = v0 c
          ∧ r.2.mem ((c.tc : Thread Cert.Reference36Ideal.nD Cert.Reference36Ideal.τ).loc Cert.Reference36Ideal.main_v23) = v1 c
          ∧ r.2.mem ((c.tc : Thread Cert.Reference36Ideal.nD Cert.Reference36Ideal.τ).loc Cert.Reference36Ideal.main_v4) = v2 c
          ∧ r.2.mem ((c.tc : Thread Cert.Reference36Ideal.nD Cert.Reference36Ideal.τ).loc Cert.Reference36Ideal.main_v10) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_arg0) = v0 c
          ∧ r.2.mem ((c.tc : Thread Cert.Reference37Ideal.nD Cert.Reference37Ideal.τ).loc Cert.Reference37Ideal.main_v23) = v1 c
          ∧ r.2.mem ((c.tc : Thread Cert.Reference37Ideal.nD Cert.Reference37Ideal.τ).loc Cert.Reference37Ideal.main_v4) = v2 c
          ∧ r.2.mem ((c.tc : Thread Cert.Reference37Ideal.nD Cert.Reference37Ideal.τ).loc Cert.Reference37Ideal.main_v10) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v5)) (v1 : (c : Dev Cert.Kernel38Ideal.nD) → Buf (Elt Ideal) ((c.tc : Thread Cert.Kernel38Ideal.nD Cert.Kernel38Ideal.τ).loc Cert.Kernel38Ideal.main_v6)) (v2 : (c : Dev Cert.Kernel38Ideal.nD) → Buf (Elt Ideal) ((c.tc : Thread Cert.Kernel38Ideal.nD Cert.Kernel38Ideal.τ).loc Cert.Kernel38Ideal.main_v7)) (v3 : (c : Dev Cert.Kernel38Ideal.nD) → Buf (Elt Ideal) ((c.tc : Thread Cert.Kernel38Ideal.nD Cert.Kernel38Ideal.τ).loc Cert.Kernel38Ideal.main_v8)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v5) = v0 c
          ∧ r.2.mem ((c.tc : Thread Cert.Kernel38Ideal.nD Cert.Kernel38Ideal.τ).loc Cert.Kernel38Ideal.main_v6) = v1 c
          ∧ r.2.mem ((c.tc : Thread Cert.Kernel38Ideal.nD Cert.Kernel38Ideal.τ).loc Cert.Kernel38Ideal.main_v7) = v2 c
          ∧ r.2.mem ((c.tc : Thread Cert.Kernel38Ideal.nD Cert.Kernel38Ideal.τ).loc Cert.Kernel38Ideal.main_v8) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_arg0) = v0 c
          ∧ r.2.mem ((c.tc : Thread Cert.Reference38Ideal.nD Cert.Reference38Ideal.τ).loc Cert.Reference38Ideal.main_v23) = v1 c
          ∧ r.2.mem ((c.tc : Thread Cert.Reference38Ideal.nD Cert.Reference38Ideal.τ).loc Cert.Reference38Ideal.main_v4) = v2 c
          ∧ r.2.mem ((c.tc : Thread Cert.Reference38Ideal.nD Cert.Reference38Ideal.τ).loc Cert.Reference38Ideal.main_v10) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v5)) (v1 : (c : Dev Cert.Kernel39Ideal.nD) → Buf (Elt Ideal) ((c.tc : Thread Cert.Kernel39Ideal.nD Cert.Kernel39Ideal.τ).loc Cert.Kernel39Ideal.main_v6)) (v2 : (c : Dev Cert.Kernel39Ideal.nD) → Buf (Elt Ideal) ((c.tc : Thread Cert.Kernel39Ideal.nD Cert.Kernel39Ideal.τ).loc Cert.Kernel39Ideal.main_v7)) (v3 : (c : Dev Cert.Kernel39Ideal.nD) → Buf (Elt Ideal) ((c.tc : Thread Cert.Kernel39Ideal.nD Cert.Kernel39Ideal.τ).loc Cert.Kernel39Ideal.main_v8)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v5) = v0 c
          ∧ r.2.mem ((c.tc : Thread Cert.Kernel39Ideal.nD Cert.Kernel39Ideal.τ).loc Cert.Kernel39Ideal.main_v6) = v1 c
          ∧ r.2.mem ((c.tc : Thread Cert.Kernel39Ideal.nD Cert.Kernel39Ideal.τ).loc Cert.Kernel39Ideal.main_v7) = v2 c
          ∧ r.2.mem ((c.tc : Thread Cert.Kernel39Ideal.nD Cert.Kernel39Ideal.τ).loc Cert.Kernel39Ideal.main_v8) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_arg0) = v0 c
          ∧ r.2.mem ((c.tc : Thread Cert.Reference39Ideal.nD Cert.Reference39Ideal.τ).loc Cert.Reference39Ideal.main_v23) = v1 c
          ∧ r.2.mem ((c.tc : Thread Cert.Reference39Ideal.nD Cert.Reference39Ideal.τ).loc Cert.Reference39Ideal.main_v4) = v2 c
          ∧ r.2.mem ((c.tc : Thread Cert.Reference39Ideal.nD Cert.Reference39Ideal.τ).loc Cert.Reference39Ideal.main_v10) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_arg0) = v0 c
          ∧ r.2.mem ((c.tc : Thread Cert.Reference40Ideal.nD Cert.Reference40Ideal.τ).loc Cert.Reference40Ideal.main_v23) = v1 c
          ∧ r.2.mem ((c.tc : Thread Cert.Reference40Ideal.nD Cert.Reference40Ideal.τ).loc Cert.Reference40Ideal.main_v4) = v2 c
          ∧ r.2.mem ((c.tc : Thread Cert.Reference40Ideal.nD Cert.Reference40Ideal.τ).loc Cert.Reference40Ideal.main_v10) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)
      ∧ m' ((c.tc : Thread Cert.Reference41Ideal.nD Cert.Reference41Ideal.τ).loc Cert.Reference41Ideal.main_arg5) = m ((c.tc : Thread Cert.Kernel41Ideal.nD Cert.Kernel41Ideal.τ).loc Cert.Kernel41Ideal.main_arg5)
      ∧ m' ((c.tc : Thread Cert.Reference41Ideal.nD Cert.Reference41Ideal.τ).loc Cert.Reference41Ideal.main_arg6) = m ((c.tc : Thread Cert.Kernel41Ideal.nD Cert.Kernel41Ideal.τ).loc Cert.Kernel41Ideal.main_arg6)
      ∧ m' ((c.tc : Thread Cert.Reference41Ideal.nD Cert.Reference41Ideal.τ).loc Cert.Reference41Ideal.main_arg7) = m ((c.tc : Thread Cert.Kernel41Ideal.nD Cert.Kernel41Ideal.τ).loc Cert.Kernel41Ideal.main_arg7)) →
    ∃ (v0 : (c : Dev Cert.Kernel41Ideal.nD) → Buf (Elt Ideal) ((c.tc : Thread Cert.Kernel41Ideal.nD Cert.Kernel41Ideal.τ).loc Cert.Kernel41Ideal.main_v10)) (v1 : (c : Dev Cert.Kernel41Ideal.nD) → Buf (Elt Ideal) ((c.tc : Thread Cert.Kernel41Ideal.nD Cert.Kernel41Ideal.τ).loc Cert.Kernel41Ideal.main_v11)) (v2 : (c : Dev Cert.Kernel41Ideal.nD) → Buf (Elt Ideal) ((c.tc : Thread Cert.Kernel41Ideal.nD Cert.Kernel41Ideal.τ).loc Cert.Kernel41Ideal.main_v12)) (v3 : (c : Dev Cert.Kernel41Ideal.nD) → Buf (Elt Ideal) ((c.tc : Thread Cert.Kernel41Ideal.nD Cert.Kernel41Ideal.τ).loc Cert.Kernel41Ideal.main_v13)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v10) = v0 c
          ∧ r.2.mem ((c.tc : Thread Cert.Kernel41Ideal.nD Cert.Kernel41Ideal.τ).loc Cert.Kernel41Ideal.main_v11) = v1 c
          ∧ r.2.mem ((c.tc : Thread Cert.Kernel41Ideal.nD Cert.Kernel41Ideal.τ).loc Cert.Kernel41Ideal.main_v12) = v2 c
          ∧ r.2.mem ((c.tc : Thread Cert.Kernel41Ideal.nD Cert.Kernel41Ideal.τ).loc Cert.Kernel41Ideal.main_v13) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
          ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
          ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
          ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v33) = v0 c
          ∧ r.2.mem ((c.tc : Thread Cert.Reference41Ideal.nD Cert.Reference41Ideal.τ).loc Cert.Reference41Ideal.main_v36) = v1 c
          ∧ r.2.mem ((c.tc : Thread Cert.Reference41Ideal.nD Cert.Reference41Ideal.τ).loc Cert.Reference41Ideal.main_v39) = v2 c
          ∧ r.2.mem ((c.tc : Thread Cert.Reference41Ideal.nD Cert.Reference41Ideal.τ).loc Cert.Reference41Ideal.main_v42) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4)
          ∧ r.2.mem ((c.tc : Thread Cert.Reference41Ideal.nD Cert.Reference41Ideal.τ).loc Cert.Reference41Ideal.main_arg5) = m' ((c.tc : Thread Cert.Reference41Ideal.nD Cert.Reference41Ideal.τ).loc Cert.Reference41Ideal.main_arg5)
          ∧ r.2.mem ((c.tc : Thread Cert.Reference41Ideal.nD Cert.Reference41Ideal.τ).loc Cert.Reference41Ideal.main_arg6) = m' ((c.tc : Thread Cert.Reference41Ideal.nD Cert.Reference41Ideal.τ).loc Cert.Reference41Ideal.main_arg6)
          ∧ r.2.mem ((c.tc : Thread Cert.Reference41Ideal.nD Cert.Reference41Ideal.τ).loc Cert.Reference41Ideal.main_arg7) = m' ((c.tc : Thread Cert.Reference41Ideal.nD Cert.Reference41Ideal.τ).loc Cert.Reference41Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
-- ==== Pre_finite.lean ====
abbrev S2048x512 : Shape := ⟨2, ![2048, 512]⟩
abbrev S2048x32x64 : Shape := ⟨3, ![2048, 32, 64]⟩
abbrev S32x64x16 : Shape := ⟨3, ![32, 64, 16]⟩
abbrev S32x16x64 : Shape := ⟨3, ![32, 16, 64]⟩
abbrev S32x64 : Shape := ⟨2, ![32, 64]⟩
abbrev S_ : Shape := ⟨0, ![]⟩

class Facts : Prop where
  bcast_S_S2048x512 : S_.BroadcastsInDim S2048x512 (![] : Fin 0 → Fin S2048x512.rank)
  bcast_S_S2048x32x64 : S_.BroadcastsInDim S2048x32x64 (![] : Fin 0 → Fin S2048x32x64.rank)
  bcast_S_S32x16x64 : S_.BroadcastsInDim S32x16x64 (![] : Fin 0 → Fin S32x16x64.rank)
  bcast_S_S32x64 : S_.BroadcastsInDim S32x64 (![] : Fin 0 → Fin S32x64.rank)

variable [Facts]

def fn {F : FTy → Type} [FloatOps F] (main_arg0 : FVec F S2048x512 .f32) (main_arg1 : FVec F S2048x512 .f32) (main_arg2 : FVec F S2048x32x64 .f32) (main_arg3 : FVec F S2048x32x64 .f32) (main_arg4 : FVec F S32x64x16 .f32) (main_arg5 : FVec F S32x64x16 .f32) (main_arg6 : FVec F S32x16x64 .f32) (main_arg7 : FVec F S32x16x64 .f32) (main_arg8 : FVec F S32x64 .f32) (main_arg9 : FVec F S32x64 .f32) : IVec S2048x512 1 × IVec S2048x32x64 1 × IVec S32x16x64 1 × IVec S32x16x64 1 × IVec S32x64 1 × IVec S32x64 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x32x64 .f32 := Host.absf main_arg3
  let main_cst_0 : FVec F S_ .f32 := constant S_ .f32 0x7F800000#32
  let main_v4 : FVec F S2048x32x64 .f32 := broadcastInDim S2048x32x64 ![] bcast_S_S2048x32x64 main_cst_0
  let main_v5 : IVec S2048x32x64 1 := cmpf .olt main_v3 main_v4
  let main_v6 : FVec F S32x16x64 .f32 := Host.absf main_arg6
  let main_cst_1 : FVec F S_ .f32 := constant S_ .f32 0x7F800000#32
  let main_v7 : FVec F S32x16x64 .f32 := broadcastInDim S32x16x64 ![] bcast_S_S32x16x64 main_cst_1
  let main_v8 : IVec S32x16x64 1 := cmpf .olt main_v6 main_v7
  let main_v9 : FVec F S32x16x64 .f32 := Host.absf main_arg7
  let main_cst_2 : FVec F S_ .f32 := constant S_ .f32 0x7F800000#32
  let main_v10 : FVec F S32x16x64 .f32 := broadcastInDim S32x16x64 ![] bcast_S_S32x16x64 main_cst_2
  let main_v11 : IVec S32x16x64 1 := cmpf .olt main_v9 main_v10
  let main_v12 : FVec F S32x64 .f32 := Host.absf main_arg8
  let main_cst_3 : FVec F S_ .f32 := constant S_ .f32 0x7F800000#32
  let main_v13 : FVec F S32x64 .f32 := broadcastInDim S32x64 ![] bcast_S_S32x64 main_cst_3
  let main_v14 : IVec S32x64 1 := cmpf .olt main_v12 main_v13
  let main_v15 : FVec F S32x64 .f32 := Host.absf main_arg9
  let main_cst_4 : FVec F S_ .f32 := constant S_ .f32 0x7F800000#32
  let main_v16 : FVec F S32x64 .f32 := broadcastInDim S32x64 ![] bcast_S_S32x64 main_cst_4
  let main_v17 : IVec S32x64 1 := cmpf .olt main_v15 main_v16
  (main_v2, main_v5, main_v8, main_v11, main_v14, main_v17)
-- ==== Kernel.lean ====
abbrev S2048x512 : Shape := ⟨2, ![2048, 512]⟩
abbrev S2048x32x64 : Shape := ⟨3, ![2048, 32, 64]⟩
abbrev S32x64x16 : Shape := ⟨3, ![32, 64, 16]⟩
abbrev S32x16x64 : Shape := ⟨3, ![32, 16, 64]⟩
abbrev S32x64 : Shape := ⟨2, ![32, 64]⟩
abbrev S2048x2048 : Shape := ⟨2, ![2048, 2048]⟩
abbrev S8x256x2048 : Shape := ⟨3, ![8, 256, 2048]⟩
abbrev S256x8x2048 : Shape := ⟨3, ![256, 8, 2048]⟩
abbrev S1x2048x2048 : Shape := ⟨3, ![1, 2048, 2048]⟩
abbrev S2x2048x2048 : Shape := ⟨3, ![2, 2048, 2048]⟩
abbrev S8x256x512 : Shape := ⟨3, ![8, 256, 512]⟩
abbrev S256x8x512 : Shape := ⟨3, ![256, 8, 512]⟩
abbrev S32x1x32x1 : Shape := ⟨4, ![32, 1, 32, 1]⟩
abbrev S32x64x1x16 : Shape := ⟨4, ![32, 64, 1, 16]⟩
abbrev S_ : Shape := ⟨0, ![]⟩
abbrev S32x64x32x16 : Shape := ⟨4, ![32, 64, 32, 16]⟩
abbrev S4096x512 : Shape := ⟨2, ![4096, 512]⟩
abbrev S32x16x1x64 : Shape := ⟨4, ![32, 16, 1, 64]⟩
abbrev S32x16x32x64 : Shape := ⟨4, ![32, 16, 32, 64]⟩
abbrev S512x2048 : Shape := ⟨2, ![512, 2048]⟩
abbrev S1024x2048 : Shape := ⟨2, ![1024, 2048]⟩
abbrev S1x2048 : Shape := ⟨2, ![1, 2048]⟩
abbrev S2x2048x512 : Shape := ⟨3, ![2, 2048, 512]⟩
abbrev S2x512x2048 : Shape := ⟨3, ![2, 512, 2048]⟩
abbrev S2048x128 : Shape := ⟨2, ![2048, 128]⟩
abbrev S128x512 : Shape := ⟨2, ![128, 512]⟩
abbrev S512x128 : Shape := ⟨2, ![512, 128]⟩
abbrev S1x512 : Shape := ⟨2, ![1, 512]⟩
abbrev S2x512x128 : Shape := ⟨3, ![2, 512, 128]⟩
abbrev S2x128x512 : Shape := ⟨3, ![2, 128, 512]⟩
abbrev S8x512 : Shape := ⟨2, ![8, 512]⟩
abbrev S1x2048x512 : Shape := ⟨3, ![1, 2048, 512]⟩
abbrev S2040x512 : Shape := ⟨2, ![2040, 512]⟩
abbrev S512 : Shape := ⟨1, ![512]⟩
abbrev S1x512x128 : Shape := ⟨3, ![1, 512, 128]⟩
abbrev S1x128x512 : Shape := ⟨3, ![1, 128, 512]⟩
abbrev S1x32x1x32x1 : Shape := ⟨5, ![1, 32, 1, 32, 1]⟩
abbrev S2x32x64x32x16 : Shape := ⟨5, ![2, 32, 64, 32, 16]⟩
abbrev S2x32x64x16 : Shape := ⟨4, ![2, 32, 64, 16]⟩
abbrev S2x32x16x32x64 : Shape := ⟨5, ![2, 32, 16, 32, 64]⟩
abbrev S2x32x16x64 : Shape := ⟨4, ![2, 32, 16, 64]⟩
abbrev S1x32x64x16 : Shape := ⟨4, ![1, 32, 64, 16]⟩
abbrev S1x32x16x64 : Shape := ⟨4, ![1, 32, 16, 64]⟩

abbrev nBuf : Space → Nat
  | .hbm => 116
  | .vmem => 30
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x32x64, .f32⟩
  | .hbm, ⟨3, _⟩ => ⟨S2048x32x64, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32x64, .f32⟩
  | .hbm, ⟨9, _⟩ => ⟨S32x64, .f32⟩
  | .hbm, ⟨10, _⟩ => ⟨S2048x2048, .f32⟩
  | .hbm, ⟨11, _⟩ => ⟨S8x256x2048, .f32⟩
  | .hbm, ⟨12, _⟩ => ⟨S256x8x2048, .f32⟩
  | .hbm, ⟨13, _⟩ => ⟨S2048x2048, .f32⟩
  | .hbm, ⟨14, _⟩ => ⟨S2048x2048, .f32⟩
  | .hbm, ⟨15, _⟩ => ⟨S8x256x2048, .f32⟩
  | .hbm, ⟨16, _⟩ => ⟨S256x8x2048, .f32⟩
  | .hbm, ⟨17, _⟩ => ⟨S2048x2048, .f32⟩
  | .hbm, ⟨18, _⟩ => ⟨S1x2048x2048, .f32⟩
  | .hbm, ⟨19, _⟩ => ⟨S1x2048x2048, .f32⟩
  | .hbm, ⟨20, _⟩ => ⟨S2x2048x2048, .f32⟩
  | .hbm, ⟨21, _⟩ => ⟨S8x256x512, .f32⟩
  | .hbm, ⟨22, _⟩ => ⟨S256x8x512, .f32⟩
  | .hbm, ⟨23, _⟩ => ⟨S2048x512, .f32⟩
  | .hbm, ⟨24, _⟩ => ⟨S2048x512, .bf16⟩
  | .hbm, ⟨25, _⟩ => ⟨S8x256x512, .f32⟩
  | .hbm, ⟨26, _⟩ => ⟨S256x8x512, .f32⟩
  | .hbm, ⟨27, _⟩ => ⟨S2048x512, .f32⟩
  | .hbm, ⟨28, _⟩ => ⟨S32x1x32x1, .i32⟩
  | .hbm, ⟨29, _⟩ => ⟨S32x1x32x1, .i32⟩
  | .hbm, ⟨30, _⟩ => ⟨S32x1x32x1, .i1⟩
  | .hbm, ⟨31, _⟩ => ⟨S32x64x1x16, .f32⟩
  | .hbm, ⟨32, _⟩ => ⟨S_, .f32⟩
  | .hbm, ⟨33, _⟩ => ⟨S_, .f32⟩
  | .hbm, ⟨34, _⟩ => ⟨S32x64x32x16, .i1⟩
  | .hbm, ⟨35, _⟩ => ⟨S32x64x32x16, .f32⟩
  | .hbm, ⟨36, _⟩ => ⟨S32x64x32x16, .f32⟩
  | .hbm, ⟨37, _⟩ => ⟨S32x64x32x16, .f32⟩
  | .hbm, ⟨38, _⟩ => ⟨S2048x512, .f32⟩
  | .hbm, ⟨39, _⟩ => ⟨S32x1x32x1, .i1⟩
  | .hbm, ⟨40, _⟩ => ⟨S32x64x1x16, .f32⟩
  | .hbm, ⟨41, _⟩ => ⟨S_, .f32⟩
  | .hbm, ⟨42, _⟩ => ⟨S_, .f32⟩
  | .hbm, ⟨43, _⟩ => ⟨S32x64x32x16, .i1⟩
  | .hbm, ⟨44, _⟩ => ⟨S32x64x32x16, .f32⟩
  | .hbm, ⟨45, _⟩ => ⟨S32x64x32x16, .f32⟩
  | .hbm, ⟨46, _⟩ => ⟨S32x64x32x16, .f32⟩
  | .hbm, ⟨47, _⟩ => ⟨S2048x512, .f32⟩
  | .hbm, ⟨48, _⟩ => ⟨S4096x512, .f32⟩
  | .hbm, ⟨49, _⟩ => ⟨S4096x512, .bf16⟩
  | .hbm, ⟨50, _⟩ => ⟨S32x16x64, .f32⟩
  | .hbm, ⟨51, _⟩ => ⟨S32x1x32x1, .i32⟩
  | .hbm, ⟨52, _⟩ => ⟨S32x1x32x1, .i32⟩
  | .hbm, ⟨53, _⟩ => ⟨S32x1x32x1, .i1⟩
  | .hbm, ⟨54, _⟩ => ⟨S32x16x1x64, .f32⟩
  | .hbm, ⟨55, _⟩ => ⟨S_, .f32⟩
  | .hbm, ⟨56, _⟩ => ⟨S_, .f32⟩
  | .hbm, ⟨57, _⟩ => ⟨S32x16x32x64, .i1⟩
  | .hbm, ⟨58, _⟩ => ⟨S32x16x32x64, .f32⟩
  | .hbm, ⟨59, _⟩ => ⟨S32x16x32x64, .f32⟩
  | .hbm, ⟨60, _⟩ => ⟨S32x16x32x64, .f32⟩
  | .hbm, ⟨61, _⟩ => ⟨S512x2048, .f32⟩
  | .hbm, ⟨62, _⟩ => ⟨S32x1x32x1, .i1⟩
  | .hbm, ⟨63, _⟩ => ⟨S32x16x1x64, .f32⟩
  | .hbm, ⟨64, _⟩ => ⟨S_, .f32⟩
  | .hbm, ⟨65, _⟩ => ⟨S_, .f32⟩
  | .hbm, ⟨66, _⟩ => ⟨S32x16x32x64, .i1⟩
  | .hbm, ⟨67, _⟩ => ⟨S32x16x32x64, .f32⟩
  | .hbm, ⟨68, _⟩ => ⟨S32x16x32x64, .f32⟩
  | .hbm, ⟨69, _⟩ => ⟨S32x16x32x64, .f32⟩
  | .hbm, ⟨70, _⟩ => ⟨S512x2048, .f32⟩
  | .hbm, ⟨71, _⟩ => ⟨S1024x2048, .f32⟩
  | .hbm, ⟨72, _⟩ => ⟨S1024x2048, .bf16⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S1x2048, .f32⟩
  | .hbm, ⟨77, _⟩ => ⟨S2x2048x512, .f32⟩
  | .hbm, ⟨78, _⟩ => ⟨S2x512x2048, .f32⟩
  | .hbm, ⟨79, _⟩ => ⟨S2048x512, .f32⟩
  | .hbm, ⟨80, _⟩ => ⟨S1x32x1x32x1, .i32⟩
  | .hbm, ⟨81, _⟩ => ⟨S1x32x1x32x1, .i32⟩
  | .hbm, ⟨82, _⟩ => ⟨S1x32x1x32x1, .i1⟩
  | .hbm, ⟨83, _⟩ => ⟨S2x32x64x32x16, .f32⟩
  | .hbm, ⟨84, _⟩ => ⟨S_, .f32⟩
  | .hbm, ⟨85, _⟩ => ⟨S_, .f32⟩
  | .hbm, ⟨86, _⟩ => ⟨S2x32x64x32x16, .i1⟩
  | .hbm, ⟨87, _⟩ => ⟨S2x32x64x32x16, .f32⟩
  | .hbm, ⟨88, _⟩ => ⟨S2x32x64x32x16, .f32⟩
  | .hbm, ⟨89, _⟩ => ⟨S_, .f32⟩
  | .hbm, ⟨90, _⟩ => ⟨S2x32x64x16, .f32⟩
  | .hbm, ⟨91, _⟩ => ⟨S1x32x1x32x1, .i32⟩
  | .hbm, ⟨92, _⟩ => ⟨S1x32x1x32x1, .i32⟩
  | .hbm, ⟨93, _⟩ => ⟨S1x32x1x32x1, .i1⟩
  | .hbm, ⟨94, _⟩ => ⟨S2x32x16x32x64, .f32⟩
  | .hbm, ⟨95, _⟩ => ⟨S_, .f32⟩
  | .hbm, ⟨96, _⟩ => ⟨S_, .f32⟩
  | .hbm, ⟨97, _⟩ => ⟨S2x32x16x32x64, .i1⟩
  | .hbm, ⟨98, _⟩ => ⟨S2x32x16x32x64, .f32⟩
  | .hbm, ⟨99, _⟩ => ⟨S2x32x16x32x64, .f32⟩
  | .hbm, ⟨100, _⟩ => ⟨S_, .f32⟩
  | .hbm, ⟨101, _⟩ => ⟨S2x32x16x64, .f32⟩
  | .hbm, ⟨102, _⟩ => ⟨S32x64, .f32⟩
  | .hbm, ⟨103, _⟩ => ⟨S32x64, .f32⟩
  | .hbm, ⟨104, _⟩ => ⟨S1x32x64x16, .f32⟩
  | .hbm, ⟨105, _⟩ => ⟨S32x64x16, .f32⟩
  | .hbm, ⟨106, _⟩ => ⟨S1x32x64x16, .f32⟩
  | .hbm, ⟨107, _⟩ => ⟨S32x64x16, .f32⟩
  | .hbm, ⟨108, _⟩ => ⟨S1x32x16x64, .f32⟩
  | .hbm, ⟨109, _⟩ => ⟨S32x16x64, .f32⟩
  | .hbm, ⟨110, _⟩ => ⟨S1x32x16x64, .f32⟩
  | .hbm, ⟨111, _⟩ => ⟨S32x16x64, .f32⟩
  | .hbm, ⟨112, _⟩ => ⟨S32x16x64, .f32⟩
  | .hbm, ⟨113, _⟩ => ⟨S256x8x512, .f32⟩
  | .hbm, ⟨114, _⟩ => ⟨S8x256x512, .f32⟩
  | .hbm, ⟨115, _⟩ => ⟨S2048x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .f32⟩
  | .local _ .vmem, ⟨3, _⟩ => ⟨S2048x128, .f32⟩
  | .local _ .vmem, ⟨4, _⟩ => ⟨S2x2048x512, .f32⟩
  | .local _ .vmem, ⟨5, _⟩ => ⟨S2x2048x512, .f32⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S2x512x128, .f32⟩
  | .local _ .vmem, ⟨23, _⟩ => ⟨S2x512x128, .f32⟩
  | .local _ .vmem, ⟨24, _⟩ => ⟨S2x128x512, .f32⟩
  | .local _ .vmem, ⟨25, _⟩ => ⟨S2x128x512, .f32⟩
  | .local _ .vmem, ⟨26, _⟩ => ⟨S2048x128, .f32⟩
  | .local _ .vmem, ⟨27, _⟩ => ⟨S2048x128, .f32⟩
  | .local _ .vmem, ⟨28, _⟩ => ⟨S2048x512, .f32⟩
  | .local _ .vmem, ⟨29, _⟩ => ⟨S2048x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_2 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45_0 : Ref sig .tc := ⟨.hbm, 75, rfl⟩
abbrev main_v45_1 : Ref sig .tc := ⟨.hbm, 76, rfl⟩
abbrev main_v45_2 : Ref sig .tc := ⟨.hbm, 77, rfl⟩
abbrev main_v45_3 : Ref sig .tc := ⟨.hbm, 78, rfl⟩
abbrev main_v45_4 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_3 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v50 : Ref sig .tc := ⟨.hbm, 88, rfl⟩
abbrev main_cst_4 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_5 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_v56 : Ref sig .tc := ⟨.hbm, 99, rfl⟩
abbrev main_cst_6 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c256_i32 : BitVec 32 := 256#32
  let v25 : BitVec 32 := Scalar.addi c0_i32 c256_i32
  let c1_i32 : BitVec 32 := 1#32
  ⟨c0_i32, v25, c1_i32⟩
def k0_mult1 (k0_t1 : Fin k0_t1_loop.trips) : BitVec 32 :=
  let c255_i32 : BitVec 32 := 255#32
  let c0_i32 : BitVec 32 := 0#32
  let c1_i32 : BitVec 32 := 1#32
  let arg17 : BitVec 32 := Scf.iv c0_i32 c1_i32 k0_t1
  let v326 : BitVec 32 := Scalar.subi c255_i32 arg17
  let c8_i32 : BitVec 32 := 8#32
  let v330 : BitVec 32 := Scalar.muli v326 c8_i32
  v330
def k0_off1 (k0_t1 : Fin k0_t1_loop.trips) : Fin 2 → Nat :=
  let c255_i32 : BitVec 32 := 255#32
  let c0_i32 : BitVec 32 := 0#32
  let c1_i32 : BitVec 32 := 1#32
  let arg17 : BitVec 32 := Scf.iv c0_i32 c1_i32 k0_t1
  let v326 : BitVec 32 := Scalar.subi c255_i32 arg17
  let c8_i32 : BitVec 32 := 8#32
  let v330 : BitVec 32 := Scalar.muli v326 c8_i32
  let v331 : BitVec 32 := v330
  let v332 : Index := Scalar.indexCast v331
  let c0_120 : Index := 0#32
  ![v332.toNat, 0]
def k0_mult2 (k0_t1 : Fin k0_t1_loop.trips) : BitVec 32 :=
  let c255_i32 : BitVec 32 := 255#32
  let c0_i32 : BitVec 32 := 0#32
  let c1_i32 : BitVec 32 := 1#32
  let arg17 : BitVec 32 := Scf.iv c0_i32 c1_i32 k0_t1
  let v326 : BitVec 32 := Scalar.subi c255_i32 arg17
  let c8_i32_121 : BitVec 32 := 8#32
  let v338 : BitVec 32 := Scalar.muli v326 c8_i32_121
  v338
def k0_mult3 (k0_t1 : Fin k0_t1_loop.trips) : BitVec 32 :=
  let c255_i32 : BitVec 32 := 255#32
  let c0_i32 : BitVec 32 := 0#32
  let c1_i32 : BitVec 32 := 1#32
  let arg17 : BitVec 32 := Scf.iv c0_i32 c1_i32 k0_t1
  let v326 : BitVec 32 := Scalar.subi c255_i32 arg17
  let c8_i32_123 : BitVec 32 := 8#32
  let v343 : BitVec 32 := Scalar.muli v326 c8_i32_123
  v343
def k0_mult4 (k0_t1 : Fin k0_t1_loop.trips) : BitVec 32 :=
  let c255_i32 : BitVec 32 := 255#32
  let c0_i32 : BitVec 32 := 0#32
  let c1_i32 : BitVec 32 := 1#32
  let arg17 : BitVec 32 := Scf.iv c0_i32 c1_i32 k0_t1
  let v326 : BitVec 32 := Scalar.subi c255_i32 arg17
  let c8_i32_125 : BitVec 32 := 8#32
  let v349 : BitVec 32 := Scalar.muli v326 c8_i32_125
  v349
@[reducible] def k0_t2_loop : Scf.Loop 32 :=
  let c0_i32_36 : BitVec 32 := 0#32
  let c256_i32_37 : BitVec 32 := 256#32
  let v220 : BitVec 32 := Scalar.addi c0_i32_36 c256_i32_37
  let c1_i32_38 : BitVec 32 := 1#32
  ⟨c0_i32_36, v220, c1_i32_38⟩
def k0_mult5 (k0_t2 : Fin k0_t2_loop.trips) : BitVec 32 :=
  let c255_i32 : BitVec 32 := 255#32
  let c0_i32_36 : BitVec 32 := 0#32
  let c1_i32_38 : BitVec 32 := 1#32
  let arg17 : BitVec 32 := Scf.iv c0_i32_36 c1_i32_38 k0_t2
  let v326 : BitVec 32 := Scalar.subi c255_i32 arg17
  let c8_i32 : BitVec 32 := 8#32
  let v327 : BitVec 32 := Scalar.muli v326 c8_i32
  v327
def k0_off2 (k0_t2 : Fin k0_t2_loop.trips) : Fin 2 → Nat :=
  let c255_i32 : BitVec 32 := 255#32
  let c0_i32_36 : BitVec 32 := 0#32
  let c1_i32_38 : BitVec 32 := 1#32
  let arg17 : BitVec 32 := Scf.iv c0_i32_36 c1_i32_38 k0_t2
  let v326 : BitVec 32 := Scalar.subi c255_i32 arg17
  let c8_i32 : BitVec 32 := 8#32
  let v327 : BitVec 32 := Scalar.muli v326 c8_i32
  let v328 : BitVec 32 := v327
  let v329 : Index := Scalar.indexCast v328
  let c0_120 : Index := 0#32
  ![v329.toNat, 0]
def k0_mult6 (k0_t2 : Fin k0_t2_loop.trips) : BitVec 32 :=
  let c255_i32 : BitVec 32 := 255#32
  let c0_i32_36 : BitVec 32 := 0#32
  let c1_i32_38 : BitVec 32 := 1#32
  let arg17 : BitVec 32 := Scf.iv c0_i32_36 c1_i32_38 k0_t2
  let v326 : BitVec 32 := Scalar.subi c255_i32 arg17
  let c8_i32_121 : BitVec 32 := 8#32
  let v335 : BitVec 32 := Scalar.muli v326 c8_i32_121
  v335
def k0_mult7 (k0_t2 : Fin k0_t2_loop.trips) : BitVec 32 :=
  let c255_i32 : BitVec 32 := 255#32
  let c0_i32_36 : BitVec 32 := 0#32
  let c1_i32_38 : BitVec 32 := 1#32
  let arg17 : BitVec 32 := Scf.iv c0_i32_36 c1_i32_38 k0_t2
  let v326 : BitVec 32 := Scalar.subi c255_i32 arg17
  let c8_i32_123 : BitVec 32 := 8#32
  let v341 : BitVec 32 := Scalar.muli v326 c8_i32_123
  v341
def k0_mult8 (k0_t2 : Fin k0_t2_loop.trips) : BitVec 32 :=
  let c255_i32 : BitVec 32 := 255#32
  let c0_i32_36 : BitVec 32 := 0#32
  let c1_i32_38 : BitVec 32 := 1#32
  let arg17 : BitVec 32 := Scf.iv c0_i32_36 c1_i32_38 k0_t2
  let v326 : BitVec 32 := Scalar.subi c255_i32 arg17
  let c8_i32_125 : BitVec 32 := 8#32
  let v349 : BitVec 32 := Scalar.muli v326 c8_i32_125
  v349
def k0_cond1 (i : grid0.Coords) : BitVec 1 :=
  let arg0 : BitVec 32 := BitVec.ofNat 32 (i 0).val
  let c1_i32_104 : BitVec 32 := 1#32
  let c0_i32_105 : BitVec 32 := 0#32
  let v300 : BitVec 1 := Scalar.cmpi .eq c1_i32_104 c0_i32_105
  let c1_i32_106 : BitVec 32 := 1#32
  let v301 : BitVec 32 := Scalar.select v300 c1_i32_106 c1_i32_104
  let v302 : BitVec 32 := Scalar.remsi arg0 v301
  let c0_i32_108 : BitVec 32 := 0#32
  let v304 : BitVec 1 := Scalar.cmpi .slt v302 c0_i32_108
  let c0_i32_109 : BitVec 32 := 0#32
  let v305 : BitVec 1 := Scalar.cmpi .slt v301 c0_i32_109
  let v306 : BitVec 1 := Scalar.xori v304 v305
  let c0_i32_107 : BitVec 32 := 0#32
  let v303 : BitVec 1 := Scalar.cmpi .ne v302 c0_i32_107
  let v307 : BitVec 1 := Scalar.andi v306 v303
  let v308 : BitVec 32 := Scalar.addi v302 v301
  let v309 : BitVec 32 := Scalar.select v307 v308 v302
  let c0_i32_110 : BitVec 32 := 0#32
  let v310 : BitVec 1 := Scalar.cmpi .eq v309 c0_i32_110
  let v311 : BitVec 32 := Scalar.extui v310
  let c0_i32_111 : BitVec 32 := 0#32
  let v312 : BitVec 1 := Scalar.cmpi .ne v311 c0_i32_111
  v312

def k0_cond2 (i : grid0.Coords) : BitVec 1 :=
  let arg0 : BitVec 32 := BitVec.ofNat 32 (i 0).val
  let c1_i32_112 : BitVec 32 := 1#32
  let c0_i32_113 : BitVec 32 := 0#32
  let v313 : BitVec 1 := Scalar.cmpi .eq c1_i32_112 c0_i32_113
  let c1_i32_114 : BitVec 32 := 1#32
  let v314 : BitVec 32 := Scalar.select v313 c1_i32_114 c1_i32_112
  let v315 : BitVec 32 := Scalar.remsi arg0 v314
  let c0_i32_116 : BitVec 32 := 0#32
  let v317 : BitVec 1 := Scalar.cmpi .slt v315 c0_i32_116
  let c0_i32_117 : BitVec 32 := 0#32
  let v318 : BitVec 1 := Scalar.cmpi .slt v314 c0_i32_117
  let v319 : BitVec 1 := Scalar.xori v317 v318
  let c0_i32_115 : BitVec 32 := 0#32
  let v316 : BitVec 1 := Scalar.cmpi .ne v315 c0_i32_115
  let v320 : BitVec 1 := Scalar.andi v319 v316
  let v321 : BitVec 32 := Scalar.addi v315 v314
  let v322 : BitVec 32 := Scalar.select v320 v321 v315
  let c0_i32_118 : BitVec 32 := 0#32
  let v323 : BitVec 1 := Scalar.cmpi .sgt v322 c0_i32_118
  let v324 : BitVec 32 := Scalar.extui v323
  let c0_i32_119 : BitVec 32 := 0#32
  let v325 : BitVec 1 := Scalar.cmpi .ne v324 c0_i32_119
  v325

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![v16.toNat, arg0.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  ![v17.toNat, arg0.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_6 (i : grid0.Coords) : Fin 2 → Nat :=
  let arg0 : BitVec 32 := BitVec.ofNat 32 (i 0).val
  let c4_i32 : BitVec 32 := 4#32
  let v0 : BitVec 32 := Scalar.addi c4_i32 arg0
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, arg0.toNat, v16.toNat]

def cc0_transform_12 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat, arg0.toNat]

def cc0_transform_13 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x512 : Shape := ⟨2, ![2048, 512]⟩
abbrev S2048x32x64 : Shape := ⟨3, ![2048, 32, 64]⟩
abbrev S32x64x16 : Shape := ⟨3, ![32, 64, 16]⟩
abbrev S32x16x64 : Shape := ⟨3, ![32, 16, 64]⟩
abbrev S32x64 : Shape := ⟨2, ![32, 64]⟩
abbrev S32x2048x16 : Shape := ⟨3, ![32, 2048, 16]⟩
abbrev S2048x32x16 : Shape := ⟨3, ![2048, 32, 16]⟩
abbrev S32x2048x64 : Shape := ⟨3, ![32, 2048, 64]⟩
abbrev S_ : Shape := ⟨0, ![]⟩
abbrev S1x32x64 : Shape := ⟨3, ![1, 32, 64]⟩
abbrev S2047x32x64 : Shape := ⟨3, ![2047, 32, 64]⟩

abbrev nBuf : Space → Nat
  | .hbm => 151
  | .vmem => 0
  | .smem => 0
  | _ => 0

abbrev hbmTy0_0 (i : Nat) : BufTy := match i % 128 with
  | 0 => ⟨S2048x512, .f32⟩
  | 1 => ⟨S2048x512, .f32⟩
  | 2 => ⟨S2048x32x64, .f32⟩
  | 3 => ⟨S2048x32x64, .f32⟩
  | 4 => ⟨S32x64x16, .f32⟩
  | 5 => ⟨S32x64x16, .f32⟩
  | 6 => ⟨S32x16x64, .f32⟩
  | 7 => ⟨S32x16x64, .f32⟩
  | 8 => ⟨S32x64, .f32⟩
  | 9 => ⟨S32x64, .f32⟩
  | 10 => ⟨S32x2048x16, .f32⟩
  | 11 => ⟨S2048x32x16, .f32⟩
  | 12 => ⟨S32x2048x16, .f32⟩
  | 13 => ⟨S2048x32x16, .f32⟩
  | 14 => ⟨S2048x32x16, .f32⟩
  | 15 => ⟨S2048x512, .f32⟩
  | 16 => ⟨S2048x32x16, .f32⟩
  | 17 => ⟨S2048x32x16, .f32⟩
  | 18 => ⟨S32x2048x16, .f32⟩
  | 19 => ⟨S32x2048x64, .f32⟩
  | 20 => ⟨S2048x32x64, .f32⟩
  | 21 => ⟨S32x2048x16, .f32⟩
  | 22 => ⟨S32x2048x64, .f32⟩
  | 23 => ⟨S2048x32x64, .f32⟩
  | 24 => ⟨S_, .f32⟩
  | 25 => ⟨S32x64, .f32⟩
  | 26 => ⟨S_, .f32⟩
  | 27 => ⟨S32x64, .f32⟩
  | 28 => ⟨S_, .f32⟩
  | 29 => ⟨S32x64, .f32⟩
  | 30 => ⟨S_, .f32⟩
  | 31 => ⟨S2048x32x64, .f32⟩
  | 32 => ⟨S_, .f32⟩
  | 33 => ⟨S2048x32x64, .f32⟩
  | 34 => ⟨S_, .i32⟩
  | 35 => ⟨S2048x32x64, .f32⟩
  | 36 => ⟨S2048x32x64, .f32⟩
  | 37 => ⟨S32x64, .f32⟩
  | 38 => ⟨S32x64, .f32⟩
  | 39 => ⟨S_, .i32⟩
  | 40 => ⟨S32x64, .f32⟩
  | 41 => ⟨S32x64, .f32⟩
  | 42 => ⟨S2048x32x64, .f32⟩
  | 43 => ⟨S2048x32x64, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S1x32x64, .f32⟩
  | 53 => ⟨S32x64, .f32⟩
  | 54 => ⟨S_, .i32⟩
  | 55 => ⟨S_, .i32⟩
  | 56 => ⟨S1x32x64, .f32⟩
  | 57 => ⟨S32x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S32x64, .f32⟩
  | 64 => ⟨S32x64, .f32⟩
  | 65 => ⟨S32x64, .f32⟩
  | 66 => ⟨S32x64, .f32⟩
  | 67 => ⟨S1x32x64, .f32⟩
  | 68 => ⟨S_, .i32⟩
  | 69 => ⟨S_, .i32⟩
  | 70 => ⟨S2048x32x64, .f32⟩
  | 71 => ⟨S1x32x64, .f32⟩
  | 72 => ⟨S_, .i32⟩
  | 73 => ⟨S_, .i32⟩
  | 74 => ⟨S2048x32x64, .f32⟩
  | 75 => ⟨S_, .i32⟩
  | 76 => ⟨S_, .i32⟩
  | 77 => ⟨S_, .f32⟩
  | 78 => ⟨S1x32x64, .f32⟩
  | 79 => ⟨S2047x32x64, .f32⟩
  | 80 => ⟨S2048x32x64, .f32⟩
  | 81 => ⟨S2047x32x64, .f32⟩
  | 82 => ⟨S2048x32x64, .f32⟩
  | 83 => ⟨S1x32x64, .f32⟩
  | 84 => ⟨S2048x32x64, .f32⟩
  | 85 => ⟨S2048x32x64, .f32⟩
  | 86 => ⟨S1x32x64, .f32⟩
  | 87 => ⟨S2048x32x64, .f32⟩
  | 88 => ⟨S2048x32x64, .f32⟩
  | 89 => ⟨S2048x32x64, .f32⟩
  | 90 => ⟨S1x32x64, .f32⟩
  | 91 => ⟨S2048x32x64, .f32⟩
  | 92 => ⟨S2048x32x64, .f32⟩
  | 93 => ⟨S1x32x64, .f32⟩
  | 94 => ⟨S2048x32x64, .f32⟩
  | 95 => ⟨S2048x32x64, .f32⟩
  | 96 => ⟨S2048x32x64, .f32⟩
  | 97 => ⟨S2048x32x64, .f32⟩
  | 98 => ⟨S_, .f32⟩
  | 99 => ⟨S32x64, .f32⟩
  | 100 => ⟨S1x32x64, .f32⟩
  | 101 => ⟨S_, .f32⟩
  | 102 => ⟨S32x64, .f32⟩
  | 103 => ⟨S2048x32x64, .f32⟩
  | 104 => ⟨S_, .f32⟩
  | 105 => ⟨S32x64, .f32⟩
  | 106 => ⟨S1x32x64, .f32⟩
  | 107 => ⟨S_, .f32⟩
  | 108 => ⟨S32x64, .f32⟩
  | 109 => ⟨S2048x32x64, .f32⟩
  | 110 => ⟨S2048x32x64, .f32⟩
  | 111 => ⟨S_, .f32⟩
  | 112 => ⟨S32x64, .f32⟩
  | 113 => ⟨S1x32x64, .f32⟩
  | 114 => ⟨S_, .f32⟩
  | 115 => ⟨S32x64, .f32⟩
  | 116 => ⟨S32x64, .f32⟩
  | 117 => ⟨S2048x32x64, .f32⟩
  | 118 => ⟨S_, .f32⟩
  | 119 => ⟨S32x64, .f32⟩
  | 120 => ⟨S1x32x64, .f32⟩
  | 121 => ⟨S_, .f32⟩
  | 122 => ⟨S32x64, .f32⟩
  | 123 => ⟨S32x64, .f32⟩
  | 124 => ⟨S2048x32x16, .f32⟩
  | 125 => ⟨S32x2048x64, .f32⟩
  | 126 => ⟨S2048x32x64, .f32⟩
  | 127 => ⟨S32x2048x64, .f32⟩
  | _ => ⟨S2048x512, .f32⟩

abbrev hbmTy0_1 (i : Nat) : BufTy := match i % 128 with
  | 0 => ⟨S2048x32x64, .f32⟩
  | 1 => ⟨S32x2048x64, .f32⟩
  | 2 => ⟨S32x64x16, .f32⟩
  | 3 => ⟨S32x2048x16, .f32⟩
  | 4 => ⟨S2048x32x16, .f32⟩
  | 5 => ⟨S32x2048x64, .f32⟩
  | 6 => ⟨S32x64x16, .f32⟩
  | 7 => ⟨S32x2048x16, .f32⟩
  | 8 => ⟨S2048x32x16, .f32⟩
  | 9 => ⟨S2048x32x16, .f32⟩
  | 10 => ⟨S2048x512, .f32⟩
  | 11 => ⟨S32x2048x16, .f32⟩
  | 12 => ⟨S2048x32x16, .f32⟩
  | 13 => ⟨S32x2048x16, .f32⟩
  | 14 => ⟨S2048x32x16, .f32⟩
  | 15 => ⟨S2048x32x16, .f32⟩
  | 16 => ⟨S2048x512, .f32⟩
  | 17 => ⟨S2048x32x16, .f32⟩
  | 18 => ⟨S2048x32x16, .f32⟩
  | 19 => ⟨S32x2048x16, .f32⟩
  | 20 => ⟨S32x16x64, .f32⟩
  | 21 => ⟨S32x2048x16, .f32⟩
  | 22 => ⟨S32x16x64, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_c : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v19_3 : Ref sig .tc := ⟨.hbm, 38, rfl⟩
abbrev main_v19_4 : Ref sig .tc := ⟨.hbm, 39, rfl⟩
abbrev main_v19_5 : Ref sig .tc := ⟨.hbm, 40, rfl⟩
abbrev main_v19_6 : Ref sig .tc := ⟨.hbm, 41, rfl⟩
abbrev main_v19_7 : Ref sig .tc := ⟨.hbm, 42, rfl⟩
abbrev main_v19_8 : Ref sig .tc := ⟨.hbm, 43, rfl⟩
abbrev main_while0c_c_21 : Ref sig .tc := ⟨.hbm, 44, rfl⟩
abbrev main_while0c_v85 : Ref sig .tc := ⟨.hbm, 45, rfl⟩
abbrev main_while0b_c_21 : Ref sig .tc := ⟨.hbm, 46, rfl⟩
abbrev main_while0b_v85 : Ref sig .tc := ⟨.hbm, 47, rfl⟩
abbrev main_while0b_c_22 : Ref sig .tc := ⟨.hbm, 48, rfl⟩
abbrev main_while0b_v86 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_v0 : Ref sig .tc := ⟨.hbm, 52, rfl⟩
abbrev main_while0b_v87 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_v0 : Ref sig .tc := ⟨.hbm, 56, rfl⟩
abbrev main_while0b_v88 : Ref sig .tc := ⟨.hbm, 57, rfl⟩
abbrev main_while0b_v89 : Ref sig .tc := ⟨.hbm, 58, rfl⟩
abbrev main_while0b_v90 : Ref sig .tc := ⟨.hbm, 59, rfl⟩
abbrev main_while0b_v91 : Ref sig .tc := ⟨.hbm, 60, rfl⟩
abbrev main_while0b_v92 : Ref sig .tc := ⟨.hbm, 61, rfl⟩
abbrev main_while0b_v93 : Ref sig .tc := ⟨.hbm, 62, rfl⟩
abbrev main_while0b_v94 : Ref sig .tc := ⟨.hbm, 63, rfl⟩
abbrev main_while0b_v95 : Ref sig .tc := ⟨.hbm, 64, rfl⟩
abbrev main_while0b_v96 : Ref sig .tc := ⟨.hbm, 65, rfl⟩
abbrev main_while0b_v97 : Ref sig .tc := ⟨.hbm, 66, rfl⟩
abbrev main_while0b_call2_v0 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_v98 : Ref sig .tc := ⟨.hbm, 70, rfl⟩
abbrev main_while0b_call3_v0 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_v99 : Ref sig .tc := ⟨.hbm, 74, rfl⟩
abbrev main_while0b_c_23 : Ref sig .tc := ⟨.hbm, 75, rfl⟩
abbrev main_while0b_v100 : Ref sig .tc := ⟨.hbm, 76, rfl⟩
abbrev main_cst_4 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_cst_5 : Ref sig .tc := ⟨.hbm, 98, rfl⟩
abbrev main_v40 : Ref sig .tc := ⟨.hbm, 99, rfl⟩
abbrev main_v41 : Ref sig .tc := ⟨.hbm, 100, rfl⟩
abbrev main_cst_6 : Ref sig .tc := ⟨.hbm, 101, rfl⟩
abbrev main_v42 : Ref sig .tc := ⟨.hbm, 102, rfl⟩
abbrev main_v43 : Ref sig .tc := ⟨.hbm, 103, rfl⟩
abbrev main_cst_7 : Ref sig .tc := ⟨.hbm, 104, rfl⟩
abbrev main_v44 : Ref sig .tc := ⟨.hbm, 105, rfl⟩
abbrev main_v45 : Ref sig .tc := ⟨.hbm, 106, rfl⟩
abbrev main_cst_8 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_9 : Ref sig .tc := ⟨.hbm, 111, rfl⟩
abbrev main_v49 : Ref sig .tc := ⟨.hbm, 112, rfl⟩
abbrev main_v50 : Ref sig .tc := ⟨.hbm, 113, rfl⟩
abbrev main_cst_10 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_cst_11 : Ref sig .tc := ⟨.hbm, 118, rfl⟩
abbrev main_v54 : Ref sig .tc := ⟨.hbm, 119, rfl⟩
abbrev main_v55 : Ref sig .tc := ⟨.hbm, 120, rfl⟩
abbrev main_cst_12 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S2048x1024 : Shape := ⟨2, ![2048, 1024]⟩
abbrev S1024x8192 : Shape := ⟨2, ![1024, 8192]⟩
abbrev S8x256x1024 : Shape := ⟨3, ![8, 256, 1024]⟩
abbrev S256x8x1024 : Shape := ⟨3, ![256, 8, 1024]⟩
abbrev S1x2048x1024 : Shape := ⟨3, ![1, 2048, 1024]⟩
abbrev S2x2048x1024 : Shape := ⟨3, ![2, 2048, 1024]⟩
abbrev S1024x8x1024 : Shape := ⟨3, ![1024, 8, 1024]⟩
abbrev S8x1024x1024 : Shape := ⟨3, ![8, 1024, 1024]⟩
abbrev S2048x8192 : Shape := ⟨2, ![2048, 8192]⟩
abbrev S1x1024x512 : Shape := ⟨3, ![1, 1024, 512]⟩
abbrev S2048x512 : Shape := ⟨2, ![2048, 512]⟩
abbrev S1024x512 : Shape := ⟨2, ![1024, 512]⟩
abbrev S2048x7168 : Shape := ⟨2, ![2048, 7168]⟩

abbrev nBuf : Space → Nat
  | .hbm => 19
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S2048x1024, .bf16⟩
  | .hbm, ⟨3, _⟩ => ⟨S8x256x1024, .bf16⟩
  | .hbm, ⟨4, _⟩ => ⟨S256x8x1024, .bf16⟩
  | .hbm, ⟨5, _⟩ => ⟨S2048x1024, .bf16⟩
  | .hbm, ⟨6, _⟩ => ⟨S1x2048x1024, .bf16⟩
  | .hbm, ⟨7, _⟩ => ⟨S1x2048x1024, .bf16⟩
  | .hbm, ⟨8, _⟩ => ⟨S2x2048x1024, .bf16⟩
  | .hbm, ⟨9, _⟩ => ⟨S1024x8x1024, .f32⟩
  | .hbm, ⟨10, _⟩ => ⟨S8x1024x1024, .f32⟩
  | .hbm, ⟨11, _⟩ => ⟨S8x1024x1024, .bf16⟩
  | .hbm, ⟨12, _⟩ => ⟨S2048x8192, .f32⟩
  | .hbm, ⟨13, _⟩ => ⟨S2048x1024, .f32⟩
  | .hbm, ⟨14, _⟩ => ⟨S256x8x1024, .f32⟩
  | .hbm, ⟨15, _⟩ => ⟨S8x256x1024, .f32⟩
  | .hbm, ⟨16, _⟩ => ⟨S2048x1024, .f32⟩
  | .hbm, ⟨17, _⟩ => ⟨S2048x7168, .f32⟩
  | .hbm, ⟨18, _⟩ => ⟨S2048x8192, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S1024x8192 : Shape := ⟨2, ![1024, 8192]⟩
abbrev S2048x8192 : Shape := ⟨2, ![2048, 8192]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S2048x8192, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S2048x1024 : Shape := ⟨2, ![2048, 1024]⟩
abbrev S2048x8192 : Shape := ⟨2, ![2048, 8192]⟩
abbrev S8x256x1024 : Shape := ⟨3, ![8, 256, 1024]⟩
abbrev S256x8x1024 : Shape := ⟨3, ![256, 8, 1024]⟩
abbrev S1x2048x1024 : Shape := ⟨3, ![1, 2048, 1024]⟩
abbrev S2x2048x1024 : Shape := ⟨3, ![2, 2048, 1024]⟩
abbrev S2048x7168 : Shape := ⟨2, ![2048, 7168]⟩
abbrev S8x1024x1024 : Shape := ⟨3, ![8, 1024, 1024]⟩
abbrev S2048x512 : Shape := ⟨2, ![2048, 512]⟩
abbrev S1x1024x512 : Shape := ⟨3, ![1, 1024, 512]⟩
abbrev S1024x512 : Shape := ⟨2, ![1024, 512]⟩
abbrev S1024x8x1024 : Shape := ⟨3, ![1024, 8, 1024]⟩
abbrev S1024x8192 : Shape := ⟨2, ![1024, 8192]⟩

abbrev nBuf : Space → Nat
  | .hbm => 20
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x8192, .f32⟩
  | .hbm, ⟨2, _⟩ => ⟨S2048x1024, .bf16⟩
  | .hbm, ⟨3, _⟩ => ⟨S8x256x1024, .bf16⟩
  | .hbm, ⟨4, _⟩ => ⟨S256x8x1024, .bf16⟩
  | .hbm, ⟨5, _⟩ => ⟨S2048x1024, .bf16⟩
  | .hbm, ⟨6, _⟩ => ⟨S1x2048x1024, .bf16⟩
  | .hbm, ⟨7, _⟩ => ⟨S1x2048x1024, .bf16⟩
  | .hbm, ⟨8, _⟩ => ⟨S2x2048x1024, .bf16⟩
  | .hbm, ⟨9, _⟩ => ⟨S2048x1024, .f32⟩
  | .hbm, ⟨10, _⟩ => ⟨S8x256x1024, .f32⟩
  | .hbm, ⟨11, _⟩ => ⟨S256x8x1024, .f32⟩
  | .hbm, ⟨12, _⟩ => ⟨S2048x1024, .f32⟩
  | .hbm, ⟨13, _⟩ => ⟨S2048x7168, .f32⟩
  | .hbm, ⟨14, _⟩ => ⟨S2048x8192, .f32⟩
  | .hbm, ⟨15, _⟩ => ⟨S2048x8192, .bf16⟩
  | .hbm, ⟨16, _⟩ => ⟨S8x1024x1024, .bf16⟩
  | .hbm, ⟨17, _⟩ => ⟨S1024x8x1024, .bf16⟩
  | .hbm, ⟨18, _⟩ => ⟨S1024x8192, .bf16⟩
  | .hbm, ⟨19, _⟩ => ⟨S1024x8192, .f32⟩
  | .local _ .vmem, ⟨0, _⟩ => ⟨S1x2048x1024, .bf16⟩
  | .local _ .vmem, ⟨1, _⟩ => ⟨S1x2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference3Ideal.lean ====
abbrev S2048x1024 : Shape := ⟨2, ![2048, 1024]⟩
abbrev S2048x8192 : Shape := ⟨2, ![2048, 8192]⟩
abbrev S8192x1024 : Shape := ⟨2, ![8192, 1024]⟩
abbrev S1024x8192 : Shape := ⟨2, ![1024, 8192]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x8192, .f32⟩
  | .hbm, ⟨2, _⟩ => ⟨S8192x1024, .f32⟩
  | .hbm, ⟨3, _⟩ => ⟨S1024x8192, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S2048x8192 : Shape := ⟨2, ![2048, 8192]⟩
abbrev S1024x8192 : Shape := ⟨2, ![1024, 8192]⟩
abbrev S2048x1024 : Shape := ⟨2, ![2048, 1024]⟩
abbrev S8x256x1024 : Shape := ⟨3, ![8, 256, 1024]⟩
abbrev S256x8x1024 : Shape := ⟨3, ![256, 8, 1024]⟩
abbrev S2048x7168 : Shape := ⟨2, ![2048, 7168]⟩
abbrev S1024x8x1024 : Shape := ⟨3, ![1024, 8, 1024]⟩
abbrev S8x1024x1024 : Shape := ⟨3, ![8, 1024, 1024]⟩
abbrev S1x1024x1024 : Shape := ⟨3, ![1, 1024, 1024]⟩
abbrev S1024x1024 : Shape := ⟨2, ![1024, 1024]⟩

abbrev nBuf : Space → Nat
  | .hbm => 13
  | .vmem => 5
  | .smem => 0
  | _ => 0

abbrev bufTy : (tb : Table) → Fin (tcTables nBuf tb) → BufTy
  | .hbm, ⟨0, _⟩ => ⟨S2048x8192, .f32⟩
  | .hbm, ⟨1, _⟩ => ⟨S1024x8192, .f32⟩
  | .hbm, ⟨2, _⟩ => ⟨S2048x1024, .f32⟩
  | .hbm, ⟨3, _⟩ => ⟨S8x256x1024, .f32⟩
  | .hbm, ⟨4, _⟩ => ⟨S256x8x1024, .f32⟩
  | .hbm, ⟨5, _⟩ => ⟨S2048x1024, .f32⟩
  | .hbm, ⟨6, _⟩ => ⟨S2048x7168, .f32⟩
  | .hbm, ⟨7, _⟩ => ⟨S2048x8192, .f32⟩
  | .hbm, ⟨8, _⟩ => ⟨S2048x8192, .bf16⟩
  | .hbm, ⟨9, _⟩ => ⟨S1024x8x1024, .f32⟩
  | .hbm, ⟨10, _⟩ => ⟨S8x1024x1024, .f32⟩
  | .hbm, ⟨11, _⟩ => ⟨S8x1024x1024, .bf16⟩
  | .hbm, ⟨12, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 7], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S2048x8192 : Shape := ⟨2, ![2048, 8192]⟩
abbrev S1024x8192 : Shape := ⟨2, ![1024, 8192]⟩
abbrev S1024x7168 : Shape := ⟨2, ![1024, 7168]⟩
abbrev S2048x7168 : Shape := ⟨2, ![2048, 7168]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S1024x8192, .f32⟩
  | .hbm, ⟨2, _⟩ => ⟨S1024x7168, .f32⟩
  | .hbm, ⟨3, _⟩ => ⟨S2048x7168, .f32⟩
  | .hbm, ⟨4, _⟩ => ⟨S2048x1024, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S2048x8192 : Shape := ⟨2, ![2048, 8192]⟩
abbrev S1024x8192 : Shape := ⟨2, ![1024, 8192]⟩
abbrev S2048x1024 : Shape := ⟨2, ![2048, 1024]⟩
abbrev S8x256x1024 : Shape := ⟨3, ![8, 256, 1024]⟩
abbrev S256x8x1024 : Shape := ⟨3, ![256, 8, 1024]⟩
abbrev S2048x7168 : Shape := ⟨2, ![2048, 7168]⟩
abbrev S1024x8x1024 : Shape := ⟨3, ![1024, 8, 1024]⟩
abbrev S8x1024x1024 : Shape := ⟨3, ![8, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 16
  | .vmem => 5
  | .smem => 0
  | _ => 0

abbrev bufTy : (tb : Table) → Fin (tcTables nBuf tb) → BufTy
  | .hbm, ⟨0, _⟩ => ⟨S2048x8192, .f32⟩
  | .hbm, ⟨1, _⟩ => ⟨S1024x8192, .f32⟩
  | .hbm, ⟨2, _⟩ => ⟨S2048x1024, .f32⟩
  | .hbm, ⟨3, _⟩ => ⟨S8x256x1024, .f32⟩
  | .hbm, ⟨4, _⟩ => ⟨S256x8x1024, .f32⟩
  | .hbm, ⟨5, _⟩ => ⟨S2048x1024, .f32⟩
  | .hbm, ⟨6, _⟩ => ⟨S2048x7168, .f32⟩
  | .hbm, ⟨7, _⟩ => ⟨S2048x8192, .f32⟩
  | .hbm, ⟨8, _⟩ => ⟨S2048x8192, .bf16⟩
  | .hbm, ⟨9, _⟩ => ⟨S1024x8x1024, .f32⟩
  | .hbm, ⟨10, _⟩ => ⟨S8x1024x1024, .f32⟩
  | .hbm, ⟨11, _⟩ => ⟨S8x1024x1024, .bf16⟩
  | .hbm, ⟨12, _⟩ => ⟨S2048x1024, .f32⟩
  | .hbm, ⟨13, _⟩ => ⟨S256x8x1024, .f32⟩
  | .hbm, ⟨14, _⟩ => ⟨S8x256x1024, .f32⟩
  | .hbm, ⟨15, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x8192 : Shape := ⟨2, ![2048, 8192]⟩
abbrev S1024x8192 : Shape := ⟨2, ![1024, 8192]⟩
abbrev S1024x1024 : Shape := ⟨2, ![1024, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S1024x8192, .f32⟩
  | .hbm, ⟨2, _⟩ => ⟨S1024x1024, .f32⟩
  | .hbm, ⟨3, _⟩ => ⟨S2048x1024, .f32⟩
  | .hbm, ⟨4, _⟩ => ⟨S2048x1024, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩

abbrev nBuf : Space → Nat
  | .hbm => 6
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .bf16⟩
  | .hbm, ⟨3, _⟩ => ⟨S2048x1024, .bf16⟩
  | .hbm, ⟨4, _⟩ => ⟨S512x1024, .bf16⟩
  | .hbm, ⟨5, _⟩ => ⟨S512x1024, .f32⟩
  | .local _ .vmem, ⟨0, _⟩ => ⟨S2048x512, .bf16⟩
  | .local _ .vmem, ⟨1, _⟩ => ⟨S2048x1024, .bf16⟩
  | .local _ .vmem, ⟨2, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S2048x512 : Shape := ⟨2, ![2048, 512]⟩
abbrev S2048x1024 : Shape := ⟨2, ![2048, 1024]⟩
abbrev S1024x512 : Shape := ⟨2, ![1024, 512]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S1024x512, .f32⟩
  | .hbm, ⟨3, _⟩ => ⟨S512x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .bf16⟩
  | .hbm, ⟨3, _⟩ => ⟨S2048x1024, .bf16⟩
  | .hbm, ⟨4, _⟩ => ⟨S512x1024, .bf16⟩
  | .hbm, ⟨5, _⟩ => ⟨S512x1024, .f32⟩
  | .local _ .vmem, ⟨0, _⟩ => ⟨S2048x512, .bf16⟩
  | .local _ .vmem, ⟨1, _⟩ => ⟨S2048x1024, .bf16⟩
  | .local _ .vmem, ⟨2, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x512 : Shape := ⟨2, ![2048, 512]⟩
abbrev S2048x1024 : Shape := ⟨2, ![2048, 1024]⟩
abbrev S1024x512 : Shape := ⟨2, ![1024, 512]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S1024x512, .f32⟩
  | .hbm, ⟨3, _⟩ => ⟨S512x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S2048x1024 : Shape := ⟨2, ![2048, 1024]⟩
abbrev S512x1024 : Shape := ⟨2, ![512, 1024]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S512x1024, .f32⟩
  | .hbm, ⟨2, _⟩ => ⟨S2048x1024, .bf16⟩
  | .hbm, ⟨3, _⟩ => ⟨S512x1024, .bf16⟩
  | .hbm, ⟨4, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S512x1024, .f32⟩
  | .hbm, ⟨2, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S2048x1024 : Shape := ⟨2, ![2048, 1024]⟩
abbrev S512x1024 : Shape := ⟨2, ![512, 1024]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S512x1024, .f32⟩
  | .hbm, ⟨2, _⟩ => ⟨S2048x1024, .bf16⟩
  | .hbm, ⟨3, _⟩ => ⟨S512x1024, .bf16⟩
  | .hbm, ⟨4, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S512x1024, .f32⟩
  | .hbm, ⟨2, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S2048x512 : Shape := ⟨2, ![2048, 512]⟩
abbrev S8x256x512 : Shape := ⟨3, ![8, 256, 512]⟩
abbrev S256x8x512 : Shape := ⟨3, ![256, 8, 512]⟩
abbrev S512x512 : Shape := ⟨2, ![512, 512]⟩

abbrev nBuf : Space → Nat
  | .hbm => 11
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S8x256x512, .f32⟩
  | .hbm, ⟨3, _⟩ => ⟨S256x8x512, .f32⟩
  | .hbm, ⟨4, _⟩ => ⟨S2048x512, .f32⟩
  | .hbm, ⟨5, _⟩ => ⟨S8x256x512, .f32⟩
  | .hbm, ⟨6, _⟩ => ⟨S256x8x512, .f32⟩
  | .hbm, ⟨7, _⟩ => ⟨S2048x512, .f32⟩
  | .hbm, ⟨8, _⟩ => ⟨S2048x512, .bf16⟩
  | .hbm, ⟨9, _⟩ => ⟨S512x512, .bf16⟩
  | .hbm, ⟨10, _⟩ => ⟨S512x512, .f32⟩
  | .local _ .vmem, ⟨0, _⟩ => ⟨S2048x512, .f32⟩
  | .local _ .vmem, ⟨1, _⟩ => ⟨S2048x512, .bf16⟩
  | .local _ .vmem, ⟨2, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S2048x512 : Shape := ⟨2, ![2048, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512x512, .f32⟩
  | .hbm, ⟨3, _⟩ => ⟨S512x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S2048x512 : Shape := ⟨2, ![2048, 512]⟩
abbrev S512x512 : Shape := ⟨2, ![512, 512]⟩
abbrev S8x256x512 : Shape := ⟨3, ![8, 256, 512]⟩
abbrev S256x8x512 : Shape := ⟨3, ![256, 8, 512]⟩
abbrev S1024x512 : Shape := ⟨2, ![1024, 512]⟩

abbrev nBuf : Space → Nat
  | .hbm => 11
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S8x256x512, .f32⟩
  | .hbm, ⟨3, _⟩ => ⟨S256x8x512, .f32⟩
  | .hbm, ⟨4, _⟩ => ⟨S2048x512, .f32⟩
  | .hbm, ⟨5, _⟩ => ⟨S2048x512, .bf16⟩
  | .hbm, ⟨6, _⟩ => ⟨S512x512, .bf16⟩
  | .hbm, ⟨7, _⟩ => ⟨S2048x512, .f32⟩
  | .hbm, ⟨8, _⟩ => ⟨S256x8x512, .f32⟩
  | .hbm, ⟨9, _⟩ => ⟨S8x256x512, .f32⟩
  | .hbm, ⟨10, _⟩ => ⟨S2048x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x512 : Shape := ⟨2, ![2048, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S2048x512 : Shape := ⟨2, ![2048, 512]⟩
abbrev S512x512 : Shape := ⟨2, ![512, 512]⟩
abbrev S8x256x512 : Shape := ⟨3, ![8, 256, 512]⟩
abbrev S256x8x512 : Shape := ⟨3, ![256, 8, 512]⟩
abbrev S1024x512 : Shape := ⟨2, ![1024, 512]⟩

abbrev nBuf : Space → Nat
  | .hbm => 10
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S8x256x512, .f32⟩
  | .hbm, ⟨3, _⟩ => ⟨S256x8x512, .f32⟩
  | .hbm, ⟨4, _⟩ => ⟨S2048x512, .f32⟩
  | .hbm, ⟨5, _⟩ => ⟨S512x512, .bf16⟩
  | .hbm, ⟨6, _⟩ => ⟨S2048x512, .f32⟩
  | .hbm, ⟨7, _⟩ => ⟨S256x8x512, .f32⟩
  | .hbm, ⟨8, _⟩ => ⟨S8x256x512, .f32⟩
  | .hbm, ⟨9, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x512 : Shape := ⟨2, ![2048, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x512, .bf16⟩
  | .hbm, ⟨3, _⟩ => ⟨S512x1024, .bf16⟩
  | .hbm, ⟨4, _⟩ => ⟨S2048x1024, .bf16⟩
  | .hbm, ⟨5, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x512, .bf16⟩
  | .hbm, ⟨3, _⟩ => ⟨S512x1024, .bf16⟩
  | .hbm, ⟨4, _⟩ => ⟨S2048x1024, .bf16⟩
  | .hbm, ⟨5, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .bf16⟩
  | .hbm, ⟨5, _⟩ => ⟨S1x1024, .f32⟩
  | .hbm, ⟨6, _⟩ => ⟨S2048x1024, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel19.lean ====
abbrev S2048x1024 : Shape := ⟨2, ![2048, 1024]⟩
abbrev S2048x8192 : Shape := ⟨2, ![2048, 8192]⟩
abbrev S512x1024 : Shape := ⟨2, ![512, 1024]⟩

abbrev nBuf : Space → Nat
  | .hbm => 14
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c6_i32 : BitVec 32 := 6#32
  let c0_i32_0 : BitVec 32 := 0#32
  ![v0.toNat, c6_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c7_i32 : BitVec 32 := 7#32
  let c0_i32_0 : BitVec 32 := 0#32
  ![v0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S2048x1024 : Shape := ⟨2, ![2048, 1024]⟩
abbrev S2048x8192 : Shape := ⟨2, ![2048, 8192]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel20.lean ====
abbrev S2048x512 : Shape := ⟨2, ![2048, 512]⟩
abbrev S2048x8192 : Shape := ⟨2, ![2048, 8192]⟩
abbrev S512 : Shape := ⟨1, ![512]⟩
abbrev S8x256x512 : Shape := ⟨3, ![8, 256, 512]⟩
abbrev S256x8x512 : Shape := ⟨3, ![256, 8, 512]⟩
abbrev S2048x1024 : Shape := ⟨2, ![2048, 1024]⟩
abbrev S8x256x1024 : Shape := ⟨3, ![8, 256, 1024]⟩
abbrev S256x8x1024 : Shape := ⟨3, ![256, 8, 1024]⟩
abbrev S2048x7168 : Shape := ⟨2, ![2048, 7168]⟩
abbrev S1x512 : Shape := ⟨2, ![1, 512]⟩
abbrev S512x512 : Shape := ⟨2, ![512, 512]⟩

abbrev nBuf : Space → Nat
  | .hbm => 37
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8192, .f32⟩
  | .hbm, ⟨4, _⟩ => ⟨S512, .f32⟩
  | .hbm, ⟨5, _⟩ => ⟨S8x256x512, .f32⟩
  | .hbm, ⟨6, _⟩ => ⟨S256x8x512, .f32⟩
  | .hbm, ⟨7, _⟩ => ⟨S2048x512, .f32⟩
  | .hbm, ⟨8, _⟩ => ⟨S8x256x512, .f32⟩
  | .hbm, ⟨9, _⟩ => ⟨S256x8x512, .f32⟩
  | .hbm, ⟨10, _⟩ => ⟨S2048x512, .f32⟩
  | .hbm, ⟨11, _⟩ => ⟨S8x256x512, .f32⟩
  | .hbm, ⟨12, _⟩ => ⟨S256x8x512, .f32⟩
  | .hbm, ⟨13, _⟩ => ⟨S2048x512, .f32⟩
  | .hbm, ⟨14, _⟩ => ⟨S2048x1024, .f32⟩
  | .hbm, ⟨15, _⟩ => ⟨S8x256x1024, .f32⟩
  | .hbm, ⟨16, _⟩ => ⟨S256x8x1024, .f32⟩
  | .hbm, ⟨17, _⟩ => ⟨S2048x1024, .f32⟩
  | .hbm, ⟨18, _⟩ => ⟨S2048x7168, .f32⟩
  | .hbm, ⟨19, _⟩ => ⟨S2048x8192, .f32⟩
  | .hbm, ⟨20, _⟩ => ⟨S1x512, .f32⟩
  | .hbm, ⟨21, _⟩ => ⟨S2048x512, .f32⟩
  | .hbm, ⟨22, _⟩ => ⟨S2048x512, .bf16⟩
  | .hbm, ⟨23, _⟩ => ⟨S2048x512, .bf16⟩
  | .hbm, ⟨24, _⟩ => ⟨S1x512, .f32⟩
  | .hbm, ⟨25, _⟩ => ⟨S256x8x512, .f32⟩
  | .hbm, ⟨26, _⟩ => ⟨S8x256x512, .f32⟩
  | .hbm, ⟨27, _⟩ => ⟨S2048x512, .f32⟩
  | .hbm, ⟨28, _⟩ => ⟨S2048x512, .f32⟩
  | .hbm, ⟨29, _⟩ => ⟨S256x8x512, .f32⟩
  | .hbm, ⟨30, _⟩ => ⟨S8x256x512, .f32⟩
  | .hbm, ⟨31, _⟩ => ⟨S2048x512, .f32⟩
  | .hbm, ⟨32, _⟩ => ⟨S2048x512, .f32⟩
  | .hbm, ⟨33, _⟩ => ⟨S256x8x512, .f32⟩
  | .hbm, ⟨34, _⟩ => ⟨S8x256x512, .f32⟩
  | .hbm, ⟨35, _⟩ => ⟨S2048x512, .f32⟩
  | .hbm, ⟨36, _⟩ => ⟨S512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference20Ideal.lean ====
abbrev S2048x512 : Shape := ⟨2, ![2048, 512]⟩
abbrev S2048x8192 : Shape := ⟨2, ![2048, 8192]⟩
abbrev S512 : Shape := ⟨1, ![512]⟩
abbrev S1x512 : Shape := ⟨2, ![1, 512]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8192, .f32⟩
  | .hbm, ⟨4, _⟩ => ⟨S512, .f32⟩
  | .hbm, ⟨5, _⟩ => ⟨S2048x512, .f32⟩
  | .hbm, ⟨6, _⟩ => ⟨S1x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v14_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v14_1 : Ref sig .tc := ⟨.hbm, 33, rfl⟩
abbrev main_v14_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== Kernel21.lean ====
abbrev S2048x512 : Shape := ⟨2, ![2048, 512]⟩
abbrev S2048x8192 : Shape := ⟨2, ![2048, 8192]⟩
abbrev S512 : Shape := ⟨1, ![512]⟩
abbrev S8x256x512 : Shape := ⟨3, ![8, 256, 512]⟩
abbrev S256x8x512 : Shape := ⟨3, ![256, 8, 512]⟩
abbrev S2048x1024 : Shape := ⟨2, ![2048, 1024]⟩
abbrev S8x256x1024 : Shape := ⟨3, ![8, 256, 1024]⟩
abbrev S256x8x1024 : Shape := ⟨3, ![256, 8, 1024]⟩
abbrev S2048x7168 : Shape := ⟨2, ![2048, 7168]⟩
abbrev S1x512 : Shape := ⟨2, ![1, 512]⟩
abbrev S512x512 : Shape := ⟨2, ![512, 512]⟩

abbrev nBuf : Space → Nat
  | .hbm => 32
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8192, .f32⟩
  | .hbm, ⟨4, _⟩ => ⟨S512, .f32⟩
  | .hbm, ⟨5, _⟩ => ⟨S8x256x512, .f32⟩
  | .hbm, ⟨6, _⟩ => ⟨S256x8x512, .f32⟩
  | .hbm, ⟨7, _⟩ => ⟨S2048x512, .f32⟩
  | .hbm, ⟨8, _⟩ => ⟨S8x256x512, .f32⟩
  | .hbm, ⟨9, _⟩ => ⟨S256x8x512, .f32⟩
  | .hbm, ⟨10, _⟩ => ⟨S2048x512, .f32⟩
  | .hbm, ⟨11, _⟩ => ⟨S8x256x512, .f32⟩
  | .hbm, ⟨12, _⟩ => ⟨S256x8x512, .f32⟩
  | .hbm, ⟨13, _⟩ => ⟨S2048x512, .f32⟩
  | .hbm, ⟨14, _⟩ => ⟨S2048x1024, .f32⟩
  | .hbm, ⟨15, _⟩ => ⟨S8x256x1024, .f32⟩
  | .hbm, ⟨16, _⟩ => ⟨S256x8x1024, .f32⟩
  | .hbm, ⟨17, _⟩ => ⟨S2048x1024, .f32⟩
  | .hbm, ⟨18, _⟩ => ⟨S2048x7168, .f32⟩
  | .hbm, ⟨19, _⟩ => ⟨S2048x8192, .f32⟩
  | .hbm, ⟨20, _⟩ => ⟨S1x512, .f32⟩
  | .hbm, ⟨21, _⟩ => ⟨S2048x512, .bf16⟩
  | .hbm, ⟨22, _⟩ => ⟨S2048x512, .f32⟩
  | .hbm, ⟨23, _⟩ => ⟨S1x512, .f32⟩
  | .hbm, ⟨24, _⟩ => ⟨S2048x512, .f32⟩
  | .hbm, ⟨25, _⟩ => ⟨S256x8x512, .f32⟩
  | .hbm, ⟨26, _⟩ => ⟨S8x256x512, .f32⟩
  | .hbm, ⟨27, _⟩ => ⟨S2048x512, .f32⟩
  | .hbm, ⟨28, _⟩ => ⟨S256x8x512, .f32⟩
  | .hbm, ⟨29, _⟩ => ⟨S8x256x512, .f32⟩
  | .hbm, ⟨30, _⟩ => ⟨S2048x512, .f32⟩
  | .hbm, ⟨31, _⟩ => ⟨S512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference21Ideal.lean ====
abbrev S2048x512 : Shape := ⟨2, ![2048, 512]⟩
abbrev S2048x8192 : Shape := ⟨2, ![2048, 8192]⟩
abbrev S512 : Shape := ⟨1, ![512]⟩
abbrev S1x512 : Shape := ⟨2, ![1, 512]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8192, .f32⟩
  | .hbm, ⟨4, _⟩ => ⟨S512, .f32⟩
  | .hbm, ⟨5, _⟩ => ⟨S2048x512, .f32⟩
  | .hbm, ⟨6, _⟩ => ⟨S1x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S_, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S_, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Kernel22.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S1x1024, .f32⟩
  | .hbm, ⟨8, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference22Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel23.lean ====
abbrev S32x64 : Shape := ⟨2, ![32, 64]⟩
abbrev S32x64x16 : Shape := ⟨3, ![32, 64, 16]⟩
abbrev S2048x16 : Shape := ⟨2, ![2048, 16]⟩
abbrev S2048x1 : Shape := ⟨2, ![2048, 1]⟩
abbrev S2048 : Shape := ⟨1, ![2048]⟩

abbrev nBuf : Space → Nat
  | .hbm => 20
  | .vmem => 10
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64x16, .f32⟩
  | .hbm, ⟨3, _⟩ => ⟨S32x64x16, .f32⟩
  | .hbm, ⟨4, _⟩ => ⟨S32x64x16, .f32⟩
  | .hbm, ⟨5, _⟩ => ⟨S32x64x16, .f32⟩
  | .hbm, ⟨6, _⟩ => ⟨S2048x16, .f32⟩
  | .hbm, ⟨7, _⟩ => ⟨S2048x16, .f32⟩
  | .hbm, ⟨8, _⟩ => ⟨S2048x1, .f32⟩
  | .hbm, ⟨9, _⟩ => ⟨S2048x1, .f32⟩
  | .hbm, ⟨10, _⟩ => ⟨S2048x16, .f32⟩
  | .hbm, ⟨11, _⟩ => ⟨S2048x16, .f32⟩
  | .hbm, ⟨12, _⟩ => ⟨S2048x1, .f32⟩
  | .hbm, ⟨13, _⟩ => ⟨S2048x1, .f32⟩
  | .hbm, ⟨14, _⟩ => ⟨S2048x16, .f32⟩
  | .hbm, ⟨15, _⟩ => ⟨S2048x16, .f32⟩
  | .hbm, ⟨16, _⟩ => ⟨S32x64, .f32⟩
  | .hbm, ⟨17, _⟩ => ⟨S32x64, .f32⟩
  | .hbm, ⟨18, _⟩ => ⟨S32x64x16, .f32⟩
  | .hbm, ⟨19, _⟩ => ⟨S32x64x16, .f32⟩
  | .local _ .vmem, ⟨0, _⟩ => ⟨S2048x1, .f32⟩
  | .local _ .vmem, ⟨1, _⟩ => ⟨S2048x1, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x1, .f32⟩
  | .local _ .vmem, ⟨7, _⟩ => ⟨S2048x1, .f32⟩
  | .local _ .vmem, ⟨8, _⟩ => ⟨S2048x16, .f32⟩
  | .local _ .vmem, ⟨9, _⟩ => ⟨S2048x16, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2048x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference23Ideal.lean ====
abbrev S32x64 : Shape := ⟨2, ![32, 64]⟩
abbrev S32x64x16 : Shape := ⟨3, ![32, 64, 16]⟩
abbrev S32x64x1 : Shape := ⟨3, ![32, 64, 1]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64x16, .f32⟩
  | .hbm, ⟨3, _⟩ => ⟨S32x64x16, .f32⟩
  | .hbm, ⟨4, _⟩ => ⟨S32x64x16, .f32⟩
  | .hbm, ⟨5, _⟩ => ⟨S32x64x16, .f32⟩
  | .hbm, ⟨6, _⟩ => ⟨S32x64x1, .f32⟩
  | .hbm, ⟨7, _⟩ => ⟨S32x64x1, .f32⟩
  | .hbm, ⟨8, _⟩ => ⟨S32x64x16, .f32⟩
  | .hbm, ⟨9, _⟩ => ⟨S32x64x16, .f32⟩
  | .hbm, ⟨10, _⟩ => ⟨S32x64x16, .f32⟩
  | .hbm, ⟨11, _⟩ => ⟨S32x64x16, .f32⟩
  | .hbm, ⟨12, _⟩ => ⟨S32x64x16, .f32⟩
  | .hbm, ⟨13, _⟩ => ⟨S32x64x16, .f32⟩
  | .hbm, ⟨14, _⟩ => ⟨S32x64x16, .f32⟩
  | .hbm, ⟨15, _⟩ => ⟨S32x64x16, .f32⟩
  | .hbm, ⟨16, _⟩ => ⟨S32x64x16, .f32⟩
  | .hbm, ⟨17, _⟩ => ⟨S32x64x16, .f32⟩
  | .hbm, ⟨18, _⟩ => ⟨S32x64x16, .f32⟩
  | .hbm, ⟨19, _⟩ => ⟨S32x64x16, .f32⟩
  | .hbm, ⟨20, _⟩ => ⟨S32x64x16, .f32⟩
  | .hbm, ⟨21, _⟩ => ⟨S32x64x16, .f32⟩
  | .hbm, ⟨22, _⟩ => ⟨S32x64x16, .f32⟩
  | .hbm, ⟨23, _⟩ => ⟨S_, .f32⟩
  | .hbm, ⟨24, _⟩ => ⟨S32x64, .f32⟩
  | .hbm, ⟨25, _⟩ => ⟨S32x64x1, .f32⟩
  | .hbm, ⟨26, _⟩ => ⟨S32x64x16, .f32⟩
  | .hbm, ⟨27, _⟩ => ⟨S32x64x16, .f32⟩
  | .hbm, ⟨28, _⟩ => ⟨S32x64x16, .f32⟩
  | .hbm, ⟨29, _⟩ => ⟨S_, .f32⟩
  | .hbm, ⟨30, _⟩ => ⟨S32x64, .f32⟩
  | .hbm, ⟨31, _⟩ => ⟨S32x64x1, .f32⟩
  | .hbm, ⟨32, _⟩ => ⟨S32x64x16, .f32⟩
  | .hbm, ⟨33, _⟩ => ⟨S32x64x16, .f32⟩
  | .hbm, ⟨34, _⟩ => ⟨S32x64x16, .f32⟩
  | .hbm, ⟨35, _⟩ => ⟨S32x64x16, .f32⟩
  | .hbm, ⟨36, _⟩ => ⟨S32x64x16, .f32⟩
  | .hbm, ⟨37, _⟩ => ⟨S32x64x16, .f32⟩
  | .hbm, ⟨38, _⟩ => ⟨S_, .f32⟩
  | .hbm, ⟨39, _⟩ => ⟨S32x64, .f32⟩
  | .hbm, ⟨40, _⟩ => ⟨S32x64x1, .f32⟩
  | .hbm, ⟨41, _⟩ => ⟨S32x64x1, .f32⟩
  | .hbm, ⟨42, _⟩ => ⟨S32x64x16, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S_, .f32⟩
  | .hbm, ⟨47, _⟩ => ⟨S32x64, .f32⟩
  | .hbm, ⟨48, _⟩ => ⟨S32x64x1, .f32⟩
  | .hbm, ⟨49, _⟩ => ⟨S32x64x1, .f32⟩
  | .hbm, ⟨50, _⟩ => ⟨S_, .f32⟩
  | .hbm, ⟨51, _⟩ => ⟨S32x64, .f32⟩
  | .hbm, ⟨52, _⟩ => ⟨S_, .f32⟩
  | .hbm, ⟨53, _⟩ => ⟨S32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel24.lean ====
abbrev S32x64 : Shape := ⟨2, ![32, 64]⟩
abbrev S32 : Shape := ⟨1, ![32]⟩
abbrev S32x1 : Shape := ⟨2, ![32, 1]⟩

abbrev nBuf : Space → Nat
  | .hbm => 12
  | .vmem => 10
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x1, .f32⟩
  | .hbm, ⟨8, _⟩ => ⟨S32x64, .f32⟩
  | .hbm, ⟨9, _⟩ => ⟨S32x64, .f32⟩
  | .hbm, ⟨10, _⟩ => ⟨S32x1, .f32⟩
  | .hbm, ⟨11, _⟩ => ⟨S32, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x1, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference24Ideal.lean ====
abbrev S32x64 : Shape := ⟨2, ![32, 64]⟩
abbrev S32 : Shape := ⟨1, ![32]⟩
abbrev S_ : Shape := ⟨0, ![]⟩
abbrev S32x1 : Shape := ⟨2, ![32, 1]⟩

abbrev nBuf : Space → Nat
  | .hbm => 132
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64, .f32⟩
  | 4 => ⟨S32x64, .f32⟩
  | 5 => ⟨S32x64, .f32⟩
  | 6 => ⟨S32x64, .f32⟩
  | 7 => ⟨S_, .f32⟩
  | 8 => ⟨S32x64, .f32⟩
  | 9 => ⟨S32x64, .f32⟩
  | 10 => ⟨S_, .f32⟩
  | 11 => ⟨S32x64, .f32⟩
  | 12 => ⟨S32x64, .i1⟩
  | 13 => ⟨S_, .f32⟩
  | 14 => ⟨S32x64, .f32⟩
  | 15 => ⟨S32x64, .i1⟩
  | 16 => ⟨S_, .f32⟩
  | 17 => ⟨S32x64, .f32⟩
  | 18 => ⟨S_, .f32⟩
  | 19 => ⟨S32x64, .f32⟩
  | 20 => ⟨S_, .f32⟩
  | 21 => ⟨S32x64, .f32⟩
  | 22 => ⟨S32x64, .f32⟩
  | 23 => ⟨S32x64, .f32⟩
  | 24 => ⟨S32, .f32⟩
  | 25 => ⟨S32x1, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S_, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S_, .f32⟩
  | 51 => ⟨S32x64, .f32⟩
  | 52 => ⟨S32x64, .f32⟩
  | 53 => ⟨S32x64, .f32⟩
  | 54 => ⟨S_, .f32⟩
  | 55 => ⟨S32x64, .f32⟩
  | 56 => ⟨S32x64, .f32⟩
  | 57 => ⟨S32x64, .f32⟩
  | 58 => ⟨S32x64, .f32⟩
  | 59 => ⟨S32x64, .f32⟩
  | 60 => ⟨S32x64, .f32⟩
  | 61 => ⟨S_, .f32⟩
  | 62 => ⟨S32x64, .f32⟩
  | 63 => ⟨S32x64, .f32⟩
  | 64 => ⟨S32x64, .f32⟩
  | 65 => ⟨S32x64, .f32⟩
  | 66 => ⟨S32x64, .f32⟩
  | 67 => ⟨S32x64, .f32⟩
  | 68 => ⟨S32x64, .f32⟩
  | 69 => ⟨S32x64, .f32⟩
  | 70 => ⟨S32x64, .f32⟩
  | 71 => ⟨S32x64, .f32⟩
  | 72 => ⟨S32x64, .f32⟩
  | 73 => ⟨S32x64, .f32⟩
  | 74 => ⟨S32x64, .f32⟩
  | 75 => ⟨S32x64, .f32⟩
  | 76 => ⟨S32x64, .f32⟩
  | 77 => ⟨S32x64, .f32⟩
  | 78 => ⟨S32x64, .f32⟩
  | 79 => ⟨S32x64, .f32⟩
  | 80 => ⟨S32x64, .f32⟩
  | 81 => ⟨S32x64, .f32⟩
  | 82 => ⟨S32x64, .f32⟩
  | 83 => ⟨S32x64, .f32⟩
  | 84 => ⟨S32x64, .f32⟩
  | 85 => ⟨S32x64, .f32⟩
  | 86 => ⟨S32x64, .f32⟩
  | 87 => ⟨S32x64, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x64, .f32⟩
  | 98 => ⟨S32x64, .f32⟩
  | 99 => ⟨S32x64, .f32⟩
  | 100 => ⟨S_, .f32⟩
  | 101 => ⟨S32, .f32⟩
  | 102 => ⟨S32x1, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S_, .f32⟩
  | 113 => ⟨S32, .f32⟩
  | 114 => ⟨S32x1, .f32⟩
  | 115 => ⟨S32x1, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S_, .f32⟩
  | 122 => ⟨S32, .f32⟩
  | 123 => ⟨S32x1, .f32⟩
  | 124 => ⟨S32x1, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S_, .f32⟩
  | 1 => ⟨S32, .f32⟩
  | 2 => ⟨S32, .f32⟩
  | 3 => ⟨S32x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_9 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_10 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_11 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_12 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩

abbrev nD : Nat := 1
abbrev τ : Topo := Topo.v7x

variable {F : FTy → Type} [FloatOps F]
-- ==== Kernel25.lean ====
abbrev S32x64 : Shape := ⟨2, ![32, 64]⟩
abbrev S32 : Shape := ⟨1, ![32]⟩
abbrev S32x1 : Shape := ⟨2, ![32, 1]⟩

abbrev nBuf : Space → Nat
  | .hbm => 8
  | .vmem => 7
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x1, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S32x64 : Shape := ⟨2, ![32, 64]⟩
abbrev S32 : Shape := ⟨1, ![32]⟩
abbrev S_ : Shape := ⟨0, ![]⟩
abbrev S32x1 : Shape := ⟨2, ![32, 1]⟩

abbrev nBuf : Space → Nat
  | .hbm => 36
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S_, .f32⟩
  | .hbm, ⟨4, _⟩ => ⟨S32x64, .f32⟩
  | .hbm, ⟨5, _⟩ => ⟨S32x64, .f32⟩
  | .hbm, ⟨6, _⟩ => ⟨S32, .f32⟩
  | .hbm, ⟨7, _⟩ => ⟨S32x1, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S_, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S_, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel26.lean ====
abbrev S32x64 : Shape := ⟨2, ![32, 64]⟩
abbrev S32x64x16 : Shape := ⟨3, ![32, 64, 16]⟩
abbrev S2048x1 : Shape := ⟨2, ![2048, 1]⟩
abbrev S2048x16 : Shape := ⟨2, ![2048, 16]⟩

abbrev nBuf : Space → Nat
  | .hbm => 12
  | .vmem => 6
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64x16, .f32⟩
  | .hbm, ⟨3, _⟩ => ⟨S32x64x16, .f32⟩
  | .hbm, ⟨4, _⟩ => ⟨S2048x1, .f32⟩
  | .hbm, ⟨5, _⟩ => ⟨S2048x1, .f32⟩
  | .hbm, ⟨6, _⟩ => ⟨S2048x16, .f32⟩
  | .hbm, ⟨7, _⟩ => ⟨S2048x16, .f32⟩
  | .hbm, ⟨8, _⟩ => ⟨S2048x16, .f32⟩
  | .hbm, ⟨9, _⟩ => ⟨S2048x16, .f32⟩
  | .hbm, ⟨10, _⟩ => ⟨S32x64x16, .f32⟩
  | .hbm, ⟨11, _⟩ => ⟨S32x64x16, .f32⟩
  | .local _ .vmem, ⟨0, _⟩ => ⟨S2048x1, .f32⟩
  | .local _ .vmem, ⟨1, _⟩ => ⟨S2048x1, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference26Ideal.lean ====
abbrev S32x64 : Shape := ⟨2, ![32, 64]⟩
abbrev S32x64x16 : Shape := ⟨3, ![32, 64, 16]⟩
abbrev S32x64x1 : Shape := ⟨3, ![32, 64, 1]⟩

abbrev nBuf : Space → Nat
  | .hbm => 16
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64x16, .f32⟩
  | .hbm, ⟨3, _⟩ => ⟨S32x64x16, .f32⟩
  | .hbm, ⟨4, _⟩ => ⟨S32x64x1, .f32⟩
  | .hbm, ⟨5, _⟩ => ⟨S32x64x1, .f32⟩
  | .hbm, ⟨6, _⟩ => ⟨S32x64x16, .f32⟩
  | .hbm, ⟨7, _⟩ => ⟨S32x64x16, .f32⟩
  | .hbm, ⟨8, _⟩ => ⟨S32x64x16, .f32⟩
  | .hbm, ⟨9, _⟩ => ⟨S32x64x16, .f32⟩
  | .hbm, ⟨10, _⟩ => ⟨S32x64x16, .f32⟩
  | .hbm, ⟨11, _⟩ => ⟨S32x64x16, .f32⟩
  | .hbm, ⟨12, _⟩ => ⟨S32x64x16, .f32⟩
  | .hbm, ⟨13, _⟩ => ⟨S32x64x16, .f32⟩
  | .hbm, ⟨14, _⟩ => ⟨S32x64x16, .f32⟩
  | .hbm, ⟨15, _⟩ => ⟨S32x64x16, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel27.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel28.lean ====
abbrev S2048x512 : Shape := ⟨2, ![2048, 512]⟩
abbrev S2048x8192 : Shape := ⟨2, ![2048, 8192]⟩
abbrev S512 : Shape := ⟨1, ![512]⟩
abbrev S8x256x512 : Shape := ⟨3, ![8, 256, 512]⟩
abbrev S256x8x512 : Shape := ⟨3, ![256, 8, 512]⟩
abbrev S2048x1024 : Shape := ⟨2, ![2048, 1024]⟩
abbrev S8x256x1024 : Shape := ⟨3, ![8, 256, 1024]⟩
abbrev S256x8x1024 : Shape := ⟨3, ![256, 8, 1024]⟩
abbrev S2048x7168 : Shape := ⟨2, ![2048, 7168]⟩
abbrev S1x512 : Shape := ⟨2, ![1, 512]⟩
abbrev S512x512 : Shape := ⟨2, ![512, 512]⟩

abbrev nBuf : Space → Nat
  | .hbm => 17
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x8192, .f32⟩
  | .hbm, ⟨2, _⟩ => ⟨S512, .f32⟩
  | .hbm, ⟨3, _⟩ => ⟨S8x256x512, .f32⟩
  | .hbm, ⟨4, _⟩ => ⟨S256x8x512, .f32⟩
  | .hbm, ⟨5, _⟩ => ⟨S2048x512, .f32⟩
  | .hbm, ⟨6, _⟩ => ⟨S2048x1024, .f32⟩
  | .hbm, ⟨7, _⟩ => ⟨S8x256x1024, .f32⟩
  | .hbm, ⟨8, _⟩ => ⟨S256x8x1024, .f32⟩
  | .hbm, ⟨9, _⟩ => ⟨S2048x1024, .f32⟩
  | .hbm, ⟨10, _⟩ => ⟨S2048x7168, .f32⟩
  | .hbm, ⟨11, _⟩ => ⟨S2048x8192, .f32⟩
  | .hbm, ⟨12, _⟩ => ⟨S1x512, .f32⟩
  | .hbm, ⟨13, _⟩ => ⟨S2048x512, .f32⟩
  | .hbm, ⟨14, _⟩ => ⟨S256x8x512, .f32⟩
  | .hbm, ⟨15, _⟩ => ⟨S8x256x512, .f32⟩
  | .hbm, ⟨16, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S2048x512 : Shape := ⟨2, ![2048, 512]⟩
abbrev S2048x8192 : Shape := ⟨2, ![2048, 8192]⟩
abbrev S512 : Shape := ⟨1, ![512]⟩
abbrev S1x512 : Shape := ⟨2, ![1, 512]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x8192, .f32⟩
  | .hbm, ⟨2, _⟩ => ⟨S512, .f32⟩
  | .hbm, ⟨3, _⟩ => ⟨S2048x512, .f32⟩
  | .hbm, ⟨4, _⟩ => ⟨S1x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel29.lean ====
abbrev S2048x512 : Shape := ⟨2, ![2048, 512]⟩
abbrev S2048x8192 : Shape := ⟨2, ![2048, 8192]⟩
abbrev S512 : Shape := ⟨1, ![512]⟩
abbrev S8x256x512 : Shape := ⟨3, ![8, 256, 512]⟩
abbrev S256x8x512 : Shape := ⟨3, ![256, 8, 512]⟩
abbrev S2048x1024 : Shape := ⟨2, ![2048, 1024]⟩
abbrev S8x256x1024 : Shape := ⟨3, ![8, 256, 1024]⟩
abbrev S256x8x1024 : Shape := ⟨3, ![256, 8, 1024]⟩
abbrev S2048x7168 : Shape := ⟨2, ![2048, 7168]⟩
abbrev S1x512 : Shape := ⟨2, ![1, 512]⟩
abbrev S512x512 : Shape := ⟨2, ![512, 512]⟩

abbrev nBuf : Space → Nat
  | .hbm => 22
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x8192, .f32⟩
  | .hbm, ⟨3, _⟩ => ⟨S512, .f32⟩
  | .hbm, ⟨4, _⟩ => ⟨S8x256x512, .f32⟩
  | .hbm, ⟨5, _⟩ => ⟨S256x8x512, .f32⟩
  | .hbm, ⟨6, _⟩ => ⟨S2048x512, .f32⟩
  | .hbm, ⟨7, _⟩ => ⟨S8x256x512, .f32⟩
  | .hbm, ⟨8, _⟩ => ⟨S256x8x512, .f32⟩
  | .hbm, ⟨9, _⟩ => ⟨S2048x512, .f32⟩
  | .hbm, ⟨10, _⟩ => ⟨S2048x1024, .f32⟩
  | .hbm, ⟨11, _⟩ => ⟨S8x256x1024, .f32⟩
  | .hbm, ⟨12, _⟩ => ⟨S256x8x1024, .f32⟩
  | .hbm, ⟨13, _⟩ => ⟨S2048x1024, .f32⟩
  | .hbm, ⟨14, _⟩ => ⟨S2048x7168, .f32⟩
  | .hbm, ⟨15, _⟩ => ⟨S2048x8192, .f32⟩
  | .hbm, ⟨16, _⟩ => ⟨S1x512, .f32⟩
  | .hbm, ⟨17, _⟩ => ⟨S2048x512, .bf16⟩
  | .hbm, ⟨18, _⟩ => ⟨S2048x512, .f32⟩
  | .hbm, ⟨19, _⟩ => ⟨S256x8x512, .f32⟩
  | .hbm, ⟨20, _⟩ => ⟨S8x256x512, .f32⟩
  | .hbm, ⟨21, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference29Ideal.lean ====
abbrev S2048x512 : Shape := ⟨2, ![2048, 512]⟩
abbrev S2048x8192 : Shape := ⟨2, ![2048, 8192]⟩
abbrev S512 : Shape := ⟨1, ![512]⟩
abbrev S1x512 : Shape := ⟨2, ![1, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x8192, .f32⟩
  | .hbm, ⟨3, _⟩ => ⟨S512, .f32⟩
  | .hbm, ⟨4, _⟩ => ⟨S2048x512, .f32⟩
  | .hbm, ⟨5, _⟩ => ⟨S1x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Kernel30.lean ====
abbrev S2048x1024 : Shape := ⟨2, ![2048, 1024]⟩
abbrev S2048x8192 : Shape := ⟨2, ![2048, 8192]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x8192, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c6_i32 : BitVec 32 := 6#32
  let c0_i32_0 : BitVec 32 := 0#32
  ![v0.toNat, c6_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c7_i32 : BitVec 32 := 7#32
  let c0_i32_0 : BitVec 32 := 0#32
  ![v0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S2048x1024 : Shape := ⟨2, ![2048, 1024]⟩
abbrev S2048x8192 : Shape := ⟨2, ![2048, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x8192, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel31.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel32.lean ====
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .bf16⟩
  | .hbm, ⟨3, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S2048x512 : Shape := ⟨2, ![2048, 512]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel33.lean ====
abbrev S2048x1024 : Shape := ⟨2, ![2048, 1024]⟩
abbrev S1x1 : Shape := ⟨2, ![1, 1]⟩
abbrev S512x1024 : Shape := ⟨2, ![512, 1024]⟩
abbrev S1024 : Shape := ⟨1, ![1024]⟩
abbrev S1x1024 : Shape := ⟨2, ![1, 1024]⟩
abbrev S1 : Shape := ⟨1, ![1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1, .f32⟩
  | .hbm, ⟨4, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference33Ideal.lean ====
abbrev S2048x1024 : Shape := ⟨2, ![2048, 1024]⟩
abbrev S_ : Shape := ⟨0, ![]⟩
abbrev S2048 : Shape := ⟨1, ![2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel34.lean ====
abbrev S8x544x1024 : Shape := ⟨3, ![8, 544, 1024]⟩
abbrev S4352x1024 : Shape := ⟨2, ![4352, 1024]⟩
abbrev S544x1024 : Shape := ⟨2, ![544, 1024]⟩
abbrev S136x1024 : Shape := ⟨2, ![136, 1024]⟩

abbrev nBuf : Space → Nat
  | .hbm => 3
  | .vmem => 18
  | .smem => 0
  | _ => 0

abbrev bufTy : (tb : Table) → Fin (tcTables nBuf tb) → BufTy
  | .hbm, ⟨0, _⟩ => ⟨S8x544x1024, .f32⟩
  | .hbm, ⟨1, _⟩ => ⟨S4352x1024, .f32⟩
  | .hbm, ⟨2, _⟩ => ⟨S544x1024, .f32⟩
  | .local _ .vmem, ⟨0, _⟩ => ⟨S136x1024, .f32⟩
  | .local _ .vmem, ⟨1, _⟩ => ⟨S136x1024, .f32⟩
  | .local _ .vmem, ⟨2, _⟩ => ⟨S136x1024, .f32⟩
  | .local _ .vmem, ⟨3, _⟩ => ⟨S136x1024, .f32⟩
  | .local _ .vmem, ⟨4, _⟩ => ⟨S136x1024, .f32⟩
  | .local _ .vmem, ⟨5, _⟩ => ⟨S136x1024, .f32⟩
  | .local _ .vmem, ⟨6, _⟩ => ⟨S136x1024, .f32⟩
  | .local _ .vmem, ⟨7, _⟩ => ⟨S136x1024, .f32⟩
  | .local _ .vmem, ⟨8, _⟩ => ⟨S136x1024, .f32⟩
  | .local _ .vmem, ⟨9, _⟩ => ⟨S136x1024, .f32⟩
  | .local _ .vmem, ⟨10, _⟩ => ⟨S136x1024, .f32⟩
  | .local _ .vmem, ⟨11, _⟩ => ⟨S136x1024, .f32⟩
  | .local _ .vmem, ⟨12, _⟩ => ⟨S136x1024, .f32⟩
  | .local _ .vmem, ⟨13, _⟩ => ⟨S136x1024, .f32⟩
  | .local _ .vmem, ⟨14, _⟩ => ⟨S136x1024, .f32⟩
  | .local _ .vmem, ⟨15, _⟩ => ⟨S136x1024, .f32⟩
  | .local _ .vmem, ⟨16, _⟩ => ⟨S136x1024, .f32⟩
  | .local _ .vmem, ⟨17, _⟩ => ⟨S136x1024, .f32⟩
  | _, _ => ⟨S8x544x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S136x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S136x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S136x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S136x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S136x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S136x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference34Ideal.lean ====
abbrev S8x544x1024 : Shape := ⟨3, ![8, 544, 1024]⟩
abbrev S_ : Shape := ⟨0, ![]⟩
abbrev S544x1024 : Shape := ⟨2, ![544, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x544x1024, .f32⟩
  | .hbm, ⟨1, _⟩ => ⟨S_, .f32⟩
  | .hbm, ⟨2, _⟩ => ⟨S544x1024, .f32⟩
  | _, _ => ⟨S8x544x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel35.lean ====
abbrev S4x1024 : Shape := ⟨2, ![4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference35Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S4x32x64 : Shape := ⟨3, ![4, 32, 64]⟩
abbrev S128x64 : Shape := ⟨2, ![128, 64]⟩

abbrev nBuf : Space → Nat
  | .hbm => 16
  | .vmem => 8
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32x64, .f32⟩
  | .hbm, ⟨3, _⟩ => ⟨S4x32x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .hbm, ⟨12, _⟩ => ⟨S4x32x64, .f32⟩
  | .hbm, ⟨13, _⟩ => ⟨S4x32x64, .f32⟩
  | .hbm, ⟨14, _⟩ => ⟨S4x32x64, .f32⟩
  | .hbm, ⟨15, _⟩ => ⟨S4x32x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference36Ideal.lean ====
abbrev S4x32x64 : Shape := ⟨3, ![4, 32, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32x64, .f32⟩
  | .hbm, ⟨3, _⟩ => ⟨S4x32x64, .f32⟩
  | .hbm, ⟨4, _⟩ => ⟨S_, .f32⟩
  | .hbm, ⟨5, _⟩ => ⟨S4x32x64, .f32⟩
  | .hbm, ⟨6, _⟩ => ⟨S4x32x64, .f32⟩
  | .hbm, ⟨7, _⟩ => ⟨S_, .f32⟩
  | .hbm, ⟨8, _⟩ => ⟨S4x32x64, .f32⟩
  | .hbm, ⟨9, _⟩ => ⟨S4x32x64, .f32⟩
  | .hbm, ⟨10, _⟩ => ⟨S4x32x64, .f32⟩
  | .hbm, ⟨11, _⟩ => ⟨S_, .f32⟩
  | .hbm, ⟨12, _⟩ => ⟨S4x32x64, .f32⟩
  | .hbm, ⟨13, _⟩ => ⟨S4x32x64, .f32⟩
  | .hbm, ⟨14, _⟩ => ⟨S4x32x64, .f32⟩
  | .hbm, ⟨15, _⟩ => ⟨S_, .f32⟩
  | .hbm, ⟨16, _⟩ => ⟨S4x32x64, .f32⟩
  | .hbm, ⟨17, _⟩ => ⟨S4x32x64, .f32⟩
  | .hbm, ⟨18, _⟩ => ⟨S4x32x64, .f32⟩
  | .hbm, ⟨19, _⟩ => ⟨S_, .f32⟩
  | .hbm, ⟨20, _⟩ => ⟨S4x32x64, .f32⟩
  | .hbm, ⟨21, _⟩ => ⟨S4x32x64, .f32⟩
  | .hbm, ⟨22, _⟩ => ⟨S_, .f32⟩
  | .hbm, ⟨23, _⟩ => ⟨S4x32x64, .f32⟩
  | .hbm, ⟨24, _⟩ => ⟨S4x32x64, .f32⟩
  | .hbm, ⟨25, _⟩ => ⟨S4x32x64, .f32⟩
  | .hbm, ⟨26, _⟩ => ⟨S_, .f32⟩
  | .hbm, ⟨27, _⟩ => ⟨S4x32x64, .f32⟩
  | .hbm, ⟨28, _⟩ => ⟨S4x32x64, .f32⟩
  | .hbm, ⟨29, _⟩ => ⟨S4x32x64, .f32⟩
  | .hbm, ⟨30, _⟩ => ⟨S_, .f32⟩
  | .hbm, ⟨31, _⟩ => ⟨S4x32x64, .f32⟩
  | .hbm, ⟨32, _⟩ => ⟨S4x32x64, .f32⟩
  | .hbm, ⟨33, _⟩ => ⟨S4x32x64, .f32⟩
  | .hbm, ⟨34, _⟩ => ⟨S_, .f32⟩
  | .hbm, ⟨35, _⟩ => ⟨S4x32x64, .f32⟩
  | .hbm, ⟨36, _⟩ => ⟨S4x32x64, .f32⟩
  | _, _ => ⟨S4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S4x32 : Shape := ⟨2, ![4, 32]⟩

abbrev nBuf : Space → Nat
  | .hbm => 8
  | .vmem => 8
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .hbm, ⟨7, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | .local _ .vmem, ⟨7, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference37Ideal.lean ====
abbrev S4x32 : Shape := ⟨2, ![4, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S_, .f32⟩
  | .hbm, ⟨5, _⟩ => ⟨S4x32, .f32⟩
  | .hbm, ⟨6, _⟩ => ⟨S4x32, .f32⟩
  | .hbm, ⟨7, _⟩ => ⟨S_, .f32⟩
  | .hbm, ⟨8, _⟩ => ⟨S4x32, .f32⟩
  | .hbm, ⟨9, _⟩ => ⟨S4x32, .f32⟩
  | .hbm, ⟨10, _⟩ => ⟨S4x32, .f32⟩
  | .hbm, ⟨11, _⟩ => ⟨S_, .f32⟩
  | .hbm, ⟨12, _⟩ => ⟨S4x32, .f32⟩
  | .hbm, ⟨13, _⟩ => ⟨S4x32, .f32⟩
  | .hbm, ⟨14, _⟩ => ⟨S4x32, .f32⟩
  | .hbm, ⟨15, _⟩ => ⟨S_, .f32⟩
  | .hbm, ⟨16, _⟩ => ⟨S4x32, .f32⟩
  | .hbm, ⟨17, _⟩ => ⟨S4x32, .f32⟩
  | .hbm, ⟨18, _⟩ => ⟨S4x32, .f32⟩
  | .hbm, ⟨19, _⟩ => ⟨S_, .f32⟩
  | .hbm, ⟨20, _⟩ => ⟨S4x32, .f32⟩
  | .hbm, ⟨21, _⟩ => ⟨S4x32, .f32⟩
  | .hbm, ⟨22, _⟩ => ⟨S_, .f32⟩
  | .hbm, ⟨23, _⟩ => ⟨S4x32, .f32⟩
  | .hbm, ⟨24, _⟩ => ⟨S4x32, .f32⟩
  | .hbm, ⟨25, _⟩ => ⟨S4x32, .f32⟩
  | .hbm, ⟨26, _⟩ => ⟨S_, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S_, .f32⟩
  | .hbm, ⟨31, _⟩ => ⟨S4x32, .f32⟩
  | .hbm, ⟨32, _⟩ => ⟨S4x32, .f32⟩
  | .hbm, ⟨33, _⟩ => ⟨S4x32, .f32⟩
  | .hbm, ⟨34, _⟩ => ⟨S_, .f32⟩
  | .hbm, ⟨35, _⟩ => ⟨S4x32, .f32⟩
  | .hbm, ⟨36, _⟩ => ⟨S4x32, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S4x32x64x16 : Shape := ⟨4, ![4, 32, 64, 16]⟩
abbrev S8192x16 : Shape := ⟨2, ![8192, 16]⟩
abbrev S1024x16 : Shape := ⟨2, ![1024, 16]⟩

abbrev nBuf : Space → Nat
  | .hbm => 16
  | .vmem => 16
  | .smem => 0
  | _ => 0

abbrev bufTy : (tb : Table) → Fin (tcTables nBuf tb) → BufTy
  | .hbm, ⟨0, _⟩ => ⟨S4x32x64x16, .f32⟩
  | .hbm, ⟨1, _⟩ => ⟨S4x32x64x16, .f32⟩
  | .hbm, ⟨2, _⟩ => ⟨S4x32x64x16, .f32⟩
  | .hbm, ⟨3, _⟩ => ⟨S4x32x64x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S8192x16, .f32⟩
  | .hbm, ⟨12, _⟩ => ⟨S4x32x64x16, .f32⟩
  | .hbm, ⟨13, _⟩ => ⟨S4x32x64x16, .f32⟩
  | .hbm, ⟨14, _⟩ => ⟨S4x32x64x16, .f32⟩
  | .hbm, ⟨15, _⟩ => ⟨S4x32x64x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | .local _ .vmem, ⟨14, _⟩ => ⟨S1024x16, .f32⟩
  | .local _ .vmem, ⟨15, _⟩ => ⟨S1024x16, .f32⟩
  | _, _ => ⟨S4x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference38Ideal.lean ====
abbrev S4x32x64x16 : Shape := ⟨4, ![4, 32, 64, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32x64x16, .f32⟩
  | .hbm, ⟨1, _⟩ => ⟨S4x32x64x16, .f32⟩
  | .hbm, ⟨2, _⟩ => ⟨S4x32x64x16, .f32⟩
  | .hbm, ⟨3, _⟩ => ⟨S4x32x64x16, .f32⟩
  | .hbm, ⟨4, _⟩ => ⟨S_, .f32⟩
  | .hbm, ⟨5, _⟩ => ⟨S4x32x64x16, .f32⟩
  | .hbm, ⟨6, _⟩ => ⟨S4x32x64x16, .f32⟩
  | .hbm, ⟨7, _⟩ => ⟨S_, .f32⟩
  | .hbm, ⟨8, _⟩ => ⟨S4x32x64x16, .f32⟩
  | .hbm, ⟨9, _⟩ => ⟨S4x32x64x16, .f32⟩
  | .hbm, ⟨10, _⟩ => ⟨S4x32x64x16, .f32⟩
  | .hbm, ⟨11, _⟩ => ⟨S_, .f32⟩
  | .hbm, ⟨12, _⟩ => ⟨S4x32x64x16, .f32⟩
  | .hbm, ⟨13, _⟩ => ⟨S4x32x64x16, .f32⟩
  | .hbm, ⟨14, _⟩ => ⟨S4x32x64x16, .f32⟩
  | .hbm, ⟨15, _⟩ => ⟨S_, .f32⟩
  | .hbm, ⟨16, _⟩ => ⟨S4x32x64x16, .f32⟩
  | .hbm, ⟨17, _⟩ => ⟨S4x32x64x16, .f32⟩
  | .hbm, ⟨18, _⟩ => ⟨S4x32x64x16, .f32⟩
  | .hbm, ⟨19, _⟩ => ⟨S_, .f32⟩
  | .hbm, ⟨20, _⟩ => ⟨S4x32x64x16, .f32⟩
  | .hbm, ⟨21, _⟩ => ⟨S4x32x64x16, .f32⟩
  | .hbm, ⟨22, _⟩ => ⟨S_, .f32⟩
  | .hbm, ⟨23, _⟩ => ⟨S4x32x64x16, .f32⟩
  | .hbm, ⟨24, _⟩ => ⟨S4x32x64x16, .f32⟩
  | .hbm, ⟨25, _⟩ => ⟨S4x32x64x16, .f32⟩
  | .hbm, ⟨26, _⟩ => ⟨S_, .f32⟩
  | .hbm, ⟨27, _⟩ => ⟨S4x32x64x16, .f32⟩
  | .hbm, ⟨28, _⟩ => ⟨S4x32x64x16, .f32⟩
  | .hbm, ⟨29, _⟩ => ⟨S4x32x64x16, .f32⟩
  | .hbm, ⟨30, _⟩ => ⟨S_, .f32⟩
  | .hbm, ⟨31, _⟩ => ⟨S4x32x64x16, .f32⟩
  | .hbm, ⟨32, _⟩ => ⟨S4x32x64x16, .f32⟩
  | .hbm, ⟨33, _⟩ => ⟨S4x32x64x16, .f32⟩
  | .hbm, ⟨34, _⟩ => ⟨S_, .f32⟩
  | .hbm, ⟨35, _⟩ => ⟨S4x32x64x16, .f32⟩
  | .hbm, ⟨36, _⟩ => ⟨S4x32x64x16, .f32⟩
  | _, _ => ⟨S4x32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S4x32x16x64 : Shape := ⟨4, ![4, 32, 16, 64]⟩
abbrev S2048x64 : Shape := ⟨2, ![2048, 64]⟩
abbrev S1024x64 : Shape := ⟨2, ![1024, 64]⟩

abbrev nBuf : Space → Nat
  | .hbm => 16
  | .vmem => 16
  | .smem => 0
  | _ => 0

abbrev bufTy : (tb : Table) → Fin (tcTables nBuf tb) → BufTy
  | .hbm, ⟨0, _⟩ => ⟨S4x32x16x64, .f32⟩
  | .hbm, ⟨1, _⟩ => ⟨S4x32x16x64, .f32⟩
  | .hbm, ⟨2, _⟩ => ⟨S4x32x16x64, .f32⟩
  | .hbm, ⟨3, _⟩ => ⟨S4x32x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S4x32x16x64, .f32⟩
  | .hbm, ⟨13, _⟩ => ⟨S4x32x16x64, .f32⟩
  | .hbm, ⟨14, _⟩ => ⟨S4x32x16x64, .f32⟩
  | .hbm, ⟨15, _⟩ => ⟨S4x32x16x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | _, _ => ⟨S4x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S4x32x16x64 : Shape := ⟨4, ![4, 32, 16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32x16x64, .f32⟩
  | .hbm, ⟨1, _⟩ => ⟨S4x32x16x64, .f32⟩
  | .hbm, ⟨2, _⟩ => ⟨S4x32x16x64, .f32⟩
  | .hbm, ⟨3, _⟩ => ⟨S4x32x16x64, .f32⟩
  | .hbm, ⟨4, _⟩ => ⟨S_, .f32⟩
  | .hbm, ⟨5, _⟩ => ⟨S4x32x16x64, .f32⟩
  | .hbm, ⟨6, _⟩ => ⟨S4x32x16x64, .f32⟩
  | .hbm, ⟨7, _⟩ => ⟨S_, .f32⟩
  | .hbm, ⟨8, _⟩ => ⟨S4x32x16x64, .f32⟩
  | .hbm, ⟨9, _⟩ => ⟨S4x32x16x64, .f32⟩
  | .hbm, ⟨10, _⟩ => ⟨S4x32x16x64, .f32⟩
  | .hbm, ⟨11, _⟩ => ⟨S_, .f32⟩
  | .hbm, ⟨12, _⟩ => ⟨S4x32x16x64, .f32⟩
  | .hbm, ⟨13, _⟩ => ⟨S4x32x16x64, .f32⟩
  | .hbm, ⟨14, _⟩ => ⟨S4x32x16x64, .f32⟩
  | .hbm, ⟨15, _⟩ => ⟨S_, .f32⟩
  | .hbm, ⟨16, _⟩ => ⟨S4x32x16x64, .f32⟩
  | .hbm, ⟨17, _⟩ => ⟨S4x32x16x64, .f32⟩
  | .hbm, ⟨18, _⟩ => ⟨S4x32x16x64, .f32⟩
  | .hbm, ⟨19, _⟩ => ⟨S_, .f32⟩
  | .hbm, ⟨20, _⟩ => ⟨S4x32x16x64, .f32⟩
  | .hbm, ⟨21, _⟩ => ⟨S4x32x16x64, .f32⟩
  | .hbm, ⟨22, _⟩ => ⟨S_, .f32⟩
  | .hbm, ⟨23, _⟩ => ⟨S4x32x16x64, .f32⟩
  | .hbm, ⟨24, _⟩ => ⟨S4x32x16x64, .f32⟩
  | .hbm, ⟨25, _⟩ => ⟨S4x32x16x64, .f32⟩
  | .hbm, ⟨26, _⟩ => ⟨S_, .f32⟩
  | .hbm, ⟨27, _⟩ => ⟨S4x32x16x64, .f32⟩
  | .hbm, ⟨28, _⟩ => ⟨S4x32x16x64, .f32⟩
  | .hbm, ⟨29, _⟩ => ⟨S4x32x16x64, .f32⟩
  | .hbm, ⟨30, _⟩ => ⟨S_, .f32⟩
  | .hbm, ⟨31, _⟩ => ⟨S4x32x16x64, .f32⟩
  | .hbm, ⟨32, _⟩ => ⟨S4x32x16x64, .f32⟩
  | .hbm, ⟨33, _⟩ => ⟨S4x32x16x64, .f32⟩
  | .hbm, ⟨34, _⟩ => ⟨S_, .f32⟩
  | .hbm, ⟨35, _⟩ => ⟨S4x32x16x64, .f32⟩
  | .hbm, ⟨36, _⟩ => ⟨S4x32x16x64, .f32⟩
  | _, _ => ⟨S4x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S4x512 : Shape := ⟨2, ![4, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference40Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel41.lean ====
abbrev S8x1024x1024 : Shape := ⟨3, ![8, 1024, 1024]⟩
abbrev S4x1024x1024 : Shape := ⟨3, ![4, 1024, 1024]⟩
abbrev S8192x1024 : Shape := ⟨2, ![8192, 1024]⟩
abbrev S4096x1024 : Shape := ⟨2, ![4096, 1024]⟩
abbrev S256x1024 : Shape := ⟨2, ![256, 1024]⟩

abbrev nBuf : Space → Nat
  | .hbm => 25
  | .vmem => 30
  | .smem => 0
  | _ => 0

abbrev bufTy : (tb : Table) → Fin (tcTables nBuf tb) → BufTy
  | .hbm, ⟨0, _⟩ => ⟨S8x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S8x1024x1024, .bf16⟩
  | .hbm, ⟨9, _⟩ => ⟨S8192x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4x1024x1024, .f32⟩
  | .hbm, ⟨22, _⟩ => ⟨S4x1024x1024, .f32⟩
  | .hbm, ⟨23, _⟩ => ⟨S4x1024x1024, .f32⟩
  | .hbm, ⟨24, _⟩ => ⟨S4x1024x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference41Ideal.lean ====
abbrev S8x1024x1024 : Shape := ⟨3, ![8, 1024, 1024]⟩
abbrev S4x1024x1024 : Shape := ⟨3, ![4, 1024, 1024]⟩
abbrev S_ : Shape := ⟨0, ![]⟩
abbrev S1024x1024 : Shape := ⟨2, ![1024, 1024]⟩
abbrev S1x1024x1024 : Shape := ⟨3, ![1, 1024, 1024]⟩
abbrev S3x1024x1024 : Shape := ⟨3, ![3, 1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S_, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1x1024x1024, .f32⟩
  | .hbm, ⟨13, _⟩ => ⟨S1024x1024, .f32⟩
  | .hbm, ⟨14, _⟩ => ⟨S1x1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S_, .f32⟩
  | .hbm, ⟨47, _⟩ => ⟨S1024x1024, .f32⟩
  | .hbm, ⟨48, _⟩ => ⟨S1024x1024, .f32⟩
  | .hbm, ⟨49, _⟩ => ⟨S1x1024x1024, .f32⟩
  | .hbm, ⟨50, _⟩ => ⟨S3x1024x1024, .f32⟩
  | .hbm, ⟨51, _⟩ => ⟨S4x1024x1024, .f32⟩
  | .hbm, ⟨52, _⟩ => ⟨S1x1024x1024, .f32⟩
  | .hbm, ⟨53, _⟩ => ⟨S3x1024x1024, .f32⟩
  | .hbm, ⟨54, _⟩ => ⟨S4x1024x1024, .f32⟩
  | .hbm, ⟨55, _⟩ => ⟨S1x1024x1024, .f32⟩
  | .hbm, ⟨56, _⟩ => ⟨S3x1024x1024, .f32⟩
  | .hbm, ⟨57, _⟩ => ⟨S4x1024x1024, .f32⟩
  | .hbm, ⟨58, _⟩ => ⟨S1x1024x1024, .f32⟩
  | .hbm, ⟨59, _⟩ => ⟨S3x1024x1024, .f32⟩
  | .hbm, ⟨60, _⟩ => ⟨S4x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.Adjoint.lean ====
module

public import Mathlib.Data.Complex.Basic
public import Mathlib.Data.EReal.Operations
public import Mathlib.Tactic.Ring
public import Mathlib.Tactic.LinearCombination

/-!
  The adjoint of the diagonal recurrence, as complex numbers: `back μ d T k` is what the recurrence
  `a ← μ a + d t`, run over the times `T - 1, T - 2, …` from zero, holds after `k` steps. Cut into chunks
  of equal length it is each chunk's own recurrence from zero plus a power of `μ` times what the chunk
  after it hands over (`back_chunk`). The extended reals' pair `(x, y)` stands for `z` when it is
  `(z.re, z.im)`; the four products of a complex product close over such pairs.
-/

@[expose] public section

noncomputable section

namespace Adjoint

/-- The reverse recurrence after `k` steps over the times `T - 1, …, T - k`. -/
def back (μ : ℂ) (d : ℕ → ℂ) (T : ℕ) : ℕ → ℂ
  | 0 => 0
  | k + 1 => μ * back μ d T k + d (T - 1 - k)

/-- The recurrence reads its drive at the times below `T` only. -/
theorem back_congr (μ : ℂ) (d e : ℕ → ℂ) (T : ℕ) (h : ∀ t < T, d t = e t) :
    ∀ k, k ≤ T → back μ d T k = back μ e T k
  | 0, _ => rfl
  | k + 1, hk => by
    rw [back, back, back_congr μ d e T h k (Nat.le_of_succ_le hk), h _ (by omega)]

/-- What the chunk after chunk `c` hands over, `n` chunks of length `L` in all: the chunk's own recurrence at its end
    plus `μ ^ L` times what the chunk after that one handed over. -/
def carry (μ : ℂ) (d : ℕ → ℕ → ℂ) (L : ℕ) : ℕ → ℂ
  | 0 => 0
  | m + 1 => μ ^ L * carry μ d L m + back μ (d m) L L

/-- The recurrence over `n` chunks of length `L` after `m` chunks and `k` steps, chunk `m` from the end driven by
    `d m`: that chunk's own recurrence plus `μ ^ k` times the carry. -/
theorem back_chunk (μ : ℂ) (f : ℕ → ℂ) (d : ℕ → ℕ → ℂ) (n L : ℕ)
    (hd : ∀ m < n, ∀ j < L, d m j = f (L * (n - 1 - m) + j)) :
    ∀ m, m < n → ∀ k, k ≤ L → back μ f (L * n) (L * m + k) = back μ (d m) L k + μ ^ k * carry μ d L m := by
  have step : ∀ m, m < n → back μ f (L * n) (L * m) = carry μ d L m →
      ∀ k, k ≤ L → back μ f (L * n) (L * m + k) = back μ (d m) L k + μ ^ k * carry μ d L m := by
    intro m hm h0 k
    induction k with
    | zero => intro _; simpa [back] using h0
    | succ k ih =>
      intro hk
      have e : L * n - 1 - (L * m + k) = L * (n - 1 - m) + (L - 1 - k) := by
        obtain ⟨r, rfl⟩ : ∃ r, n = m + 1 + r := ⟨n - (m + 1), by omega⟩
        have : m + 1 + r - 1 - m = r := by omega
        rw [this, Nat.mul_add, Nat.mul_add, Nat.mul_one]
        omega
      rw [← Nat.add_assoc, back, ih (by omega), e, ← hd m hm _ (by omega), back]
      ring
  intro m
  induction m with
  | zero => intro hm; exact step 0 hm (by simp [back, carry])
  | succ m ih =>
    intro hm
    refine step (m + 1) hm ?_
    have h := ih (by omega) L le_rfl
    rw [Nat.mul_add, Nat.mul_one, h, carry]
    ring

/-- The real part of a complex product, over the extended reals. -/
theorem re_mul (z w : ℂ) : ((z * w).re : EReal) = (z.re : EReal) * (w.re : EReal) - (z.im : EReal) * (w.im : EReal) := by
  rw [Complex.mul_re, EReal.coe_sub, EReal.coe_mul, EReal.coe_mul]

/-- The imaginary part of a complex product, over the extended reals. -/
theorem im_mul (z w : ℂ) : ((z * w).im : EReal) = (z.re : EReal) * (w.im : EReal) + (z.im : EReal) * (w.re : EReal) := by
  rw [Complex.mul_im, EReal.coe_add, EReal.coe_mul, EReal.coe_mul]

theorem re_add (z w : ℂ) : ((z + w).re : EReal) = (z.re : EReal) + (w.re : EReal) := by
  rw [Complex.add_re, EReal.coe_add]

theorem im_add (z w : ℂ) : ((z + w).im : EReal) = (z.im : EReal) + (w.im : EReal) := by
  rw [Complex.add_im, EReal.coe_add]

theorem re_zero : ((0 : ℂ).re : EReal) = 0 := by simp

theorem im_zero : ((0 : ℂ).im : EReal) = 0 := by simp

end Adjoint

end
-- ==== Proof.Sweep.lean ====
module

public import proofs.«01_k».proof.Proof.Gen.KernelIdeal.Loops
public import proofs.«01_k».proof.Proof.Adjoint
public import Idealize.ShloMosaic.Lib.Pointwise
public import Idealize.ShloMosaic.Lib.WritesUnit
public import Idealize.ShloMosaic.Lib.Pipeline.FrameBody
public import Idealize.ShloMosaic.Lib.Pipeline.ValueKit.Tiles
public import Mathlib.Analysis.Complex.Basic

@[expose] public section

set_option maxRecDepth 8192

noncomputable section

namespace Cert.KernelIdeal.Body

open Idealize.ShloMosaic Idealize.ShloMosaic.TcCoe Idealize.SL.Sem
open Cert.KernelIdeal Cert.KernelIdeal.Gen

theorem off1_eq : ∀ k : Fin k0_t1_loop.trips, k0_off1 k = ![8 * (255 - k.val), 0] := by decide +kernel

theorem off2_eq : ∀ k : Fin k0_t2_loop.trips, k0_off2 k = ![8 * (255 - k.val), 0] := by decide +kernel

theorem trips1 : k0_t1_loop.trips = 256 := by decide +kernel

theorem trips2 : k0_t2_loop.trips = 256 := by decide +kernel

variable (𝒱 : Variants) (c : Dev nD) (bd : Option 𝒱.V) (i : grid0.Coords) (arg1 : Memref sig .tc .vmem S2048x128 .bf16) (harg1 : arg1.IsWhole) (arg2 : Memref sig .tc .vmem S2048x128 .f32) (harg2 : arg2.IsWhole) (arg3 : Memref sig .tc .vmem S2x2048x512 .f32) (harg3 : arg3.IsWhole) (arg4 : Memref sig .tc .vmem S128x512 .bf16) (harg4 : arg4.IsWhole) (arg5 : Memref sig .tc .vmem S128x512 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x512x128 .f32) (harg12 : arg12.IsWhole) (arg13 : Memref sig .tc .vmem S2x128x512 .f32) (harg13 : arg13.IsWhole) (arg14 : Memref sig .tc .vmem S2048x128 .f32) (harg14 : arg14.IsWhole) (arg15 : Memref sig .tc .vmem S2048x512 .f32) (harg15 : arg15.IsWhole) (arg16 : Memref sig .tc .vmem S2048x512 .f32) (harg16 : arg16.IsWhole)

section
variable {F : FTy → Type} [FloatOps F]

theorem trip1_eq (v14 v16 : Vec F S1x512 .f32) (k : Fin k0_t1_loop.trips) (acc f15 f16) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 k).1 acc f15 f16
        = (k0_pay9 v14 v16 acc.1 acc.2 (arg15.view.readAt (Elt F) (Rect.unit (s := S2048x512) (k0_off1 k) S8x512.size (k0_off1_inb k)).toLoadRect f15),
           k0_pay10 v14 v16 acc.1 acc.2 (arg16.view.readAt (Elt F) (Rect.unit (s := S2048x512) (k0_off1 k) S8x512.size (k0_off1_inb k)).toLoadRect f16))
    ∧ (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 k).2.1 acc f15 f16
        = [⟨Rect.unit (s := S2048x512) (k0_off1 k) S8x512.size (k0_off1_inb k),
            k0_pay11 v14 v16 acc.1 acc.2 (arg15.view.readAt (Elt F) (Rect.unit (s := S2048x512) (k0_off1 k) S8x512.size (k0_off1_inb k)).toLoadRect f15)⟩]
    ∧ (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 k).2.2.1 acc f15 f16
        = [⟨Rect.unit (s := S2048x512) (k0_off1 k) S8x512.size (k0_off1_inb k),
            k0_pay12 v14 v16 acc.1 acc.2 (arg16.view.readAt (Elt F) (Rect.unit (s := S2048x512) (k0_off1 k) S8x512.size (k0_off1_inb k)).toLoadRect f16)⟩] := by
  unfold trip_k0_t1
  exact ⟨rfl, rfl, rfl⟩

theorem trip2_eq (v21 v23 v26_0 v26_1 : FVec F S8x512 .f32) (v73 v76 : FVec F S1x512 .f32) (v77 : IVec S8x512 32)
    (v174 v179 : FVec F S8x512 .f32) (v184 v189 : FVec F S1x512 .f32) (v191 : IVec S8x512 1) (v193 : FVec F S8x512 .f32)
    (k : Fin k0_t2_loop.trips) (acc f15 f16) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 k).1 acc f15 f16
        = (k0_pay58 v21 v23 acc.1 acc.2, k0_pay59 v21 v23 acc.1 acc.2)
    ∧ (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 k).2.1 acc f15 f16
        = [⟨Rect.unit (s := S2048x512) (k0_off2 k) S8x512.size (k0_off2_inb k),
            k0_pay56 v26_0 v26_1 v73 v76 v77 v174 v179 v184 v189 v191 v193 acc.1 acc.2 (arg15.view.readAt (Elt F) (Rect.unit (s := S2048x512) (k0_off2 k) S8x512.size (k0_off2_inb k)).toLoadRect f15)⟩]
    ∧ (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 k).2.2.1 acc f15 f16
        = [⟨Rect.unit (s := S2048x512) (k0_off2 k) S8x512.size (k0_off2_inb k),
            k0_pay57 v26_0 v26_1 v73 v76 v77 v174 v179 v184 v189 v191 v193 acc.1 acc.2 (arg16.view.readAt (Elt F) (Rect.unit (s := S2048x512) (k0_off2 k) S8x512.size (k0_off2_inb k)).toLoadRect f16)⟩] := by
  unfold trip_k0_t2
  exact ⟨rfl, rfl, rfl⟩

end

open scoped ComplexConjugate
open Adjoint

/-- Two arrays over the chunks and lanes hold the real and the imaginary parts of `z`. -/
def Rep (x y : FVec Ideal S8x512 .f32) (z : ℕ → ℕ → ℂ) : Prop :=
  ∀ (p : Fin 8) (l : Fin 512), x (ix2 p l) = ((z p l).re : EReal) ∧ y (ix2 p l) = ((z p l).im : EReal)

/-- Two arrays over the rows and lanes of the scratch hold the real and the imaginary parts of `z`. -/
def RepS (x y : S2048x512.Idx → Elt Ideal .f32) (z : ℕ → ℕ → ℂ) : Prop :=
  ∀ (r : Fin 2048) (l : Fin 512), x (ix2 r l) = ((z r l).re : EReal) ∧ y (ix2 r l) = ((z r l).im : EReal)

/-- A row of lanes holds the real and the imaginary parts of `z`. -/
def RepR (x y : FVec Ideal S1x512 .f32) (z : ℕ → ℂ) : Prop :=
  ∀ l : Fin 512, x (ix2 0 l) = ((z l).re : EReal) ∧ y (ix2 0 l) = ((z l).im : EReal)

theorem zero_sub_coe (x : ℝ) : (0 : EReal) - (x : EReal) = ((-x : ℝ) : EReal) := by
  rw [← EReal.coe_zero, ← EReal.coe_sub, zero_sub]

theorem pay6_at (v14 : Vec Ideal S1x512 .f32) (p : Fin 8) (l : Fin 512) : k0_pay6 v14 (ix2 p l) = v14 (ix2 0 l) := by
  pointwise [k0_pay6]

theorem pay7_at (v16 : Vec Ideal S1x512 .f32) (p : Fin 8) (l : Fin 512) : k0_pay7 v16 (ix2 p l) = 0 - v16 (ix2 0 l) := by
  pointwise [k0_pay7]

/-- The coefficient the two sweeps carry is the conjugate of the diagonal. -/
theorem rep_mu {v14 v16 : Vec Ideal S1x512 .f32} {lam : ℕ → ℂ} (h : RepR v14 v16 lam) :
    Rep (k0_pay6 v14) (k0_pay7 v16) (fun _ l => conj (lam l)) := fun p l =>
  ⟨by rw [pay6_at, (h l).1, Complex.conj_re], by rw [pay7_at, (h l).2, zero_sub_coe, Complex.conj_im]⟩

theorem pay9_eq (v14 v16 : Vec Ideal S1x512 .f32) (a b : FVec Ideal S8x512 .f32) (x : Vec Ideal S8x512 .f32) (p : Fin 8) (l : Fin 512) :
    k0_pay9 v14 v16 a b x (ix2 p l)
      = (k0_pay6 v14 (ix2 p l) * a (ix2 p l) - k0_pay7 v16 (ix2 p l) * b (ix2 p l)) + x (ix2 p l) := rfl

theorem pay10_eq (v14 v16 : Vec Ideal S1x512 .f32) (a b : FVec Ideal S8x512 .f32) (x : Vec Ideal S8x512 .f32) (p : Fin 8) (l : Fin 512) :
    k0_pay10 v14 v16 a b x (ix2 p l)
      = (k0_pay6 v14 (ix2 p l) * b (ix2 p l) + k0_pay7 v16 (ix2 p l) * a (ix2 p l)) + x (ix2 p l) := rfl

theorem rep_advance {v14 v16 : Vec Ideal S1x512 .f32} {lam : ℕ → ℂ} (h : RepR v14 v16 lam) {a b x y : FVec Ideal S8x512 .f32}
    {z d : ℕ → ℕ → ℂ} (hz : Rep a b z) (hd : Rep x y d) :
    Rep (k0_pay9 v14 v16 a b x) (k0_pay10 v14 v16 a b y) (fun p l => conj (lam l) * z p l + d p l) := fun p l => by
  obtain ⟨hm1, hm2⟩ := rep_mu h p l
  obtain ⟨ha, hb⟩ := hz p l
  obtain ⟨hx, hy⟩ := hd p l
  refine ⟨?_, ?_⟩
  · rw [pay9_eq, hm1, hm2, ha, hb, hx, re_add, re_mul]
  · rw [pay10_eq, hm1, hm2, ha, hb, hy, im_add, im_mul]

theorem pay11_eq (v14 v16 : Vec Ideal S1x512 .f32) (a b : FVec Ideal S8x512 .f32) (x : Vec Ideal S8x512 .f32) :
    k0_pay11 v14 v16 a b x = k0_pay9 v14 v16 a b x := by rw [k0_pay11, shapeCast_self]

theorem pay12_eq (v14 v16 : Vec Ideal S1x512 .f32) (a b : FVec Ideal S8x512 .f32) (x : Vec Ideal S8x512 .f32) :
    k0_pay12 v14 v16 a b x = k0_pay10 v14 v16 a b x := by rw [k0_pay12, shapeCast_self]

/-- The eight rows a trip of either loop reads, out of the scratch. -/
theorem rep_rows {X Y : S2048x512.Idx → Elt Ideal .f32} {z : ℕ → ℕ → ℂ} (h : RepS X Y z) (o : ℕ)
    (off : Fin 2 → ℕ) (inb) (hoff : off = ![8 * o, 0]) :
    Rep (View.ld X (Rect.unit (s := S2048x512) off S8x512.size inb)) (View.ld Y (Rect.unit (s := S2048x512) off S8x512.size inb))
      (fun p l => z (8 * o + p) l) := fun p l => by
  subst hoff
  have hb : 8 * o + p < 2048 := by have := inb 0; simp at this; omega
  have e : ∀ W : S2048x512.Idx → Elt Ideal .f32,
      View.ld W (Rect.unit (s := S2048x512) ![8 * o, 0] S8x512.size inb) (ix2 p l) = W (ix2 ⟨8 * o + p, hb⟩ l) := fun W =>
    View.ld_unit_apply_of _ _ _ _ _ _ (Fin.forall_fin_two.mpr ⟨by simp, by simp⟩)
  rw [e, e]
  exact h ⟨8 * o + p, hb⟩ l

/-- The rows after the trip that stores at row block `o`: the block's new contents, the others as before. -/
theorem rep_store {arg15 arg16 : Memref sig .tc .vmem S2048x512 .f32} (G15 : BufTy.Contents (Elt Ideal) arg15.view.ty)
    (G16 : BufTy.Contents (Elt Ideal) arg16.view.ty) (L15 L16) {z w : ℕ → ℕ → ℂ} (o : ℕ) (off : Fin 2 → ℕ) (inb)
    (hoff : off = ![8 * o, 0]) {x y : FVec Ideal S8x512 .f32}
    (h : RepS (arg15.view.read (Elt Ideal) (arg15.view.writes (Elt Ideal) G15 L15))
      (arg16.view.read (Elt Ideal) (arg16.view.writes (Elt Ideal) G16 L16)) z) (hw : Rep x y w) :
    RepS (arg15.view.read (Elt Ideal) (arg15.view.writes (Elt Ideal) G15 (⟨Rect.unit (s := S2048x512) off S8x512.size inb, x⟩ :: L15)))
      (arg16.view.read (Elt Ideal) (arg16.view.writes (Elt Ideal) G16 (⟨Rect.unit (s := S2048x512) off S8x512.size inb, y⟩ :: L16)))
      (fun r l => if r / 8 = o then w (r % 8) l else z r l) := fun r l => by
  by_cases hr : r.val / 8 = o
  · simp only [hr, if_true]
    have h1 := View.read_writes_cons_rows_of_mem arg15.view G15 inb x L15 (ix2 r l)
      (ix2 (⟨r.val % 8, Nat.mod_lt _ (by decide)⟩ : Fin 8) l) hoff (by simp; omega) (by simp)
    have h2 := View.read_writes_cons_rows_of_mem arg16.view G16 inb y L16 (ix2 r l)
      (ix2 (⟨r.val % 8, Nat.mod_lt _ (by decide)⟩ : Fin 8) l) hoff (by simp; omega) (by simp)
    rw [h1, h2]
    exact hw _ _
  · simp only [hr, if_false]
    have hd : (ix2 r l (0 : Fin 2)).val < 8 * o ∨ 8 * o + 8 ≤ (ix2 r l (0 : Fin 2)).val := by simp; omega
    have h1 := View.read_writes_cons_rows_of_not_mem arg15.view G15 (W := 8) inb x L15 (ix2 r l) hoff rfl hd
    have h2 := View.read_writes_cons_rows_of_not_mem arg16.view G16 (W := 8) inb y L16 (ix2 r l) hoff rfl hd
    rw [h1, h2]
    exact h r l

/-- The chunk's own adjoint after `k` steps of the first sweep. -/
def own (lam : ℕ → ℂ) (d : ℕ → ℕ → ℂ) (k : ℕ) : ℕ → ℕ → ℂ := fun p l => back (conj (lam l)) (fun j => d (8 * j + p) l) 256 k

/-- The scratch after `k` trips of the first sweep. -/
def swept (lam : ℕ → ℂ) (d : ℕ → ℕ → ℂ) (k : ℕ) : ℕ → ℕ → ℂ := fun r l =>
  if 256 - k ≤ r / 8 then own lam d (256 - r / 8) (r % 8) l else d r l

theorem sweep1 (v14 v16 : Vec Ideal S1x512 .f32) {lam : ℕ → ℂ} (hl : RepR v14 v16 lam) {d : ℕ → ℕ → ℂ} (G15 G16)
    (hG : RepS (arg15.view.read (Elt Ideal) G15) (arg16.view.read (Elt Ideal) G16) d)
    (init : FVec Ideal S8x512 .f32 × FVec Ideal S8x512 .f32) (hi : Rep init.1 init.2 (fun _ _ => 0)) :
    ∀ k : ℕ, k ≤ 256 →
      Rep (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 G15 G16 init k).1.1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 G15 G16 init k).1.2 (own lam d k)
      ∧ RepS (arg15.view.read (Elt Ideal) (arg15.view.writes (Elt Ideal) G15 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 G15 G16 init k).2.1))
        (arg16.view.read (Elt Ideal) (arg16.view.writes (Elt Ideal) G16 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 G15 G16 init k).2.2)) (swept lam d k) := by
  intro k
  induction k with
  | zero =>
    intro _
    refine ⟨hi, fun r l => ?_⟩
    have : ¬ (256 - 0 ≤ r.val / 8) := by omega
    simp only [swept, this, if_false]
    exact hG r l
  | succ k ih =>
    intro hk
    obtain ⟨ih1, ih2⟩ := ih (by omega)
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 G15 G16 init ⟨k, by rw [trips1]; omega⟩
    simp only at hs
    rw [hs]
    generalize st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 G15 G16 init k = S at ih1 ih2 ⊢
    obtain ⟨t1, t2, t3⟩ := trip1_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v14 v16 ⟨k, by rw [trips1]; omega⟩ S.1
      (arg15.view.writes (Elt Ideal) G15 S.2.1) (arg16.view.writes (Elt Ideal) G16 S.2.2)
    simp only [tripR_k0_t1, tripL_k0_t1, t1, t2, t3, List.singleton_append]
    have hx := rep_rows ih2 (255 - k) _ (k0_off1_inb ⟨k, by rw [trips1]; omega⟩) (off1_eq _)
    have hn := rep_advance hl ih1 hx
    have hown : (fun p l => conj (lam l) * own lam d k p l + swept lam d k (8 * (255 - k) + p) l) = fun p l => if p < 8 then own lam d (k + 1) p l else
        conj (lam l) * own lam d k p l + swept lam d k (8 * (255 - k) + p) l := by
      funext p l
      split
      · have h1 : ¬ (256 - k ≤ (8 * (255 - k) + p) / 8) := by omega
        simp only [swept, h1, if_false, own, back]
      · rfl
    rw [hown] at hn
    have hn' : Rep (k0_pay9 v14 v16 S.1.1 S.1.2 _) (k0_pay10 v14 v16 S.1.1 S.1.2 _) (own lam d (k + 1)) := fun p l => by
      have := hn p l
      simp only [p.isLt, if_true] at this
      exact this
    refine ⟨hn', ?_⟩
    have := rep_store G15 G16 S.2.1 S.2.2 (255 - k) _ (k0_off1_inb ⟨k, by rw [trips1]; omega⟩) (off1_eq _) ih2 hn'
    intro r l
    have := this r l
    rw [pay11_eq, pay12_eq]
    refine this.imp (·.trans ?_) (·.trans ?_) <;>
    · congr 2
      simp only [swept]
      split
      · rename_i h
        have h1 : 256 - (k + 1) ≤ r.val / 8 := by omega
        have h2 : 256 - r.val / 8 = k + 1 := by omega
        simp only [h1, if_true, h2]
      · rename_i h
        have h1 : 256 - (k + 1) ≤ r.val / 8 ↔ 256 - k ≤ r.val / 8 := by omega
        simp only [h1]

section
variable (v21 v23 v26_0 v26_1 : FVec Ideal S8x512 .f32) (v73 v76 : FVec Ideal S1x512 .f32) (v77 : IVec S8x512 32)
    (v174 v179 : FVec Ideal S8x512 .f32) (v184 v189 : FVec Ideal S1x512 .f32) (v191 : IVec S8x512 1) (v193 : FVec Ideal S8x512 .f32)

theorem rep_power {a b : FVec Ideal S8x512 .f32} {z w : ℕ → ℕ → ℂ} (h : Rep v21 v23 w) (hz : Rep a b z) :
    Rep (k0_pay58 v21 v23 a b) (k0_pay59 v21 v23 a b) (fun p l => z p l * w p l) := fun p l => by
  obtain ⟨h1, h2⟩ := h p l
  obtain ⟨h3, h4⟩ := hz p l
  refine ⟨?_, ?_⟩
  · rw [re_mul, ← h1, ← h2, ← h3, ← h4]; rfl
  · rw [im_mul, ← h1, ← h2, ← h3, ← h4]; rfl

theorem rep_fix {a b x y : FVec Ideal S8x512 .f32} {z w c : ℕ → ℕ → ℂ}
    (hc : Rep (k0_pay54 v26_0 v73 v76 v77 v174 v184 v189 v191 v193) (k0_pay55 v26_1 v73 v76 v77 v179 v184 v189) c)
    (hw : Rep a b w) (hz : Rep x y z) :
    Rep (k0_pay56 v26_0 v26_1 v73 v76 v77 v174 v179 v184 v189 v191 v193 a b x) (k0_pay57 v26_0 v26_1 v73 v76 v77 v174 v179 v184 v189 v191 v193 a b y)
      (fun p l => z p l + w p l * c p l) := fun p l => by
  obtain ⟨h1, h2⟩ := hc p l
  obtain ⟨h3, h4⟩ := hw p l
  obtain ⟨h5, h6⟩ := hz p l
  rw [k0_pay56, k0_pay57, shapeCast_self, shapeCast_self]
  refine ⟨?_, ?_⟩
  · rw [re_add, re_mul, ← h1, ← h2, ← h3, ← h4, ← h5]; rfl
  · rw [im_add, im_mul, ← h1, ← h2, ← h3, ← h4, ← h6]; rfl

/-- The scratch after `k` trips of the second sweep. -/
def fixed (lam : ℕ → ℂ) (z c : ℕ → ℕ → ℂ) (k : ℕ) : ℕ → ℕ → ℂ := fun r l =>
  if 256 - k ≤ r / 8 then z r l + conj (lam l) ^ (256 - r / 8) * c (r % 8) l else z r l

theorem sweep2 {lam : ℕ → ℂ} (hl : Rep v21 v23 (fun _ l => conj (lam l))) {z q : ℕ → ℕ → ℂ} (G15 G16)
    (hG : RepS (arg15.view.read (Elt Ideal) G15) (arg16.view.read (Elt Ideal) G16) z)
    (hc : Rep (k0_pay54 v26_0 v73 v76 v77 v174 v184 v189 v191 v193) (k0_pay55 v26_1 v73 v76 v77 v179 v184 v189) q) :
    ∀ k : ℕ, k ≤ 256 →
      Rep (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 G15 G16 (v21, v23) k).1.1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 G15 G16 (v21, v23) k).1.2
        (fun _ l => conj (lam l) ^ (k + 1))
      ∧ RepS (arg15.view.read (Elt Ideal) (arg15.view.writes (Elt Ideal) G15 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 G15 G16 (v21, v23) k).2.1))
        (arg16.view.read (Elt Ideal) (arg16.view.writes (Elt Ideal) G16 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 G15 G16 (v21, v23) k).2.2)) (fixed lam z q k) := by
  intro k
  induction k with
  | zero =>
    intro _
    refine ⟨fun p l => by simp only [Nat.zero_add, pow_one]; exact hl p l, fun r l => ?_⟩
    have : ¬ (256 - 0 ≤ r.val / 8) := by omega
    simp only [fixed, this, if_false]
    exact hG r l
  | succ k ih =>
    intro hk
    obtain ⟨ih1, ih2⟩ := ih (by omega)
    have hs := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 G15 G16 (v21, v23) ⟨k, by rw [trips2]; omega⟩
    simp only at hs
    rw [hs]
    generalize st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 G15 G16 (v21, v23) k = S at ih1 ih2 ⊢
    obtain ⟨t1, t2, t3⟩ := trip2_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v21 v23 v26_0 v26_1 v73 v76 v77 v174 v179 v184 v189 v191 v193 ⟨k, by rw [trips2]; omega⟩ S.1
      (arg15.view.writes (Elt Ideal) G15 S.2.1) (arg16.view.writes (Elt Ideal) G16 S.2.2)
    simp only [tripR_k0_t2, tripL_k0_t2, t1, t2, t3, List.singleton_append]
    have hx := rep_rows ih2 (255 - k) _ (k0_off2_inb ⟨k, by rw [trips2]; omega⟩) (off2_eq _)
    refine ⟨rep_power v21 v23 hl ih1, ?_⟩
    have hf := rep_fix v26_0 v26_1 v73 v76 v77 v174 v179 v184 v189 v191 v193 hc ih1 hx
    have := rep_store G15 G16 S.2.1 S.2.2 (255 - k) _ (k0_off2_inb ⟨k, by rw [trips2]; omega⟩) (off2_eq _) ih2 hf
    intro r l
    refine (this r l).imp (·.trans ?_) (·.trans ?_) <;>
    · congr 2
      simp only [fixed]
      by_cases h : r.val / 8 = 255 - k
      · have h1 : 256 - (k + 1) ≤ r.val / 8 := by omega
        have h2 : 256 - r.val / 8 = k + 1 := by omega
        have h3 : ¬ (256 - k ≤ (8 * (255 - k) + r.val % 8) / 8) := by omega
        have h4 : 8 * (255 - k) + r.val % 8 = r.val := by omega
        have h5 : ¬ (256 - k ≤ r.val / 8) := by omega
        rw [if_pos h, if_pos h1, h4, if_neg h5, h2]
      · have h1 : 256 - (k + 1) ≤ r.val / 8 ↔ 256 - k ≤ r.val / 8 := by omega
        simp only [h1, h, if_false]

end

end Cert.KernelIdeal.Body

end
-- ==== Proof.Carry.lean ====
module

public import proofs.«01_k».proof.Proof.Sweep

@[expose] public section

noncomputable section

namespace Cert.KernelIdeal.Body

open Idealize.ShloMosaic Idealize.ShloMosaic.TcCoe Idealize.SL.Sem
open Cert.KernelIdeal Cert.KernelIdeal.Gen
open scoped ComplexConjugate
open Adjoint

theorem select_at (c : BitVec 32) (x : FVec Ideal S1x512 .f32) (X : FVec Ideal S8x512 .f32) (p : Fin 8) (l : Fin 512) :
    select (cmpi .eq (iota .tc S8x512 32 [0] iota_S8x512_d0_w32) (broadcast S8x512 c))
      (broadcastTo S8x512 (shapeCast S1x512 x shapeCasts_S1x512_S1x512) broadcasts_S1x512_S8x512) X (ix2 p l)
      = if BitVec.ofNat 32 p.val = c then x (ix2 0 l) else X (ix2 p l) := by
  pointwise
  by_cases h : BitVec.ofNat 32 p.val = c
  · simp [h, IntOp.cmpi, Scalar.select]
  · have h' : (BitVec.ofNat 32 p.val == c) = false := beq_eq_false_iff_ne.mpr h
    simp [h, h', IntOp.cmpi, Scalar.select]

theorem rep_select {x y : FVec Ideal S1x512 .f32} {z : ℕ → ℂ} {X Y : FVec Ideal S8x512 .f32} {w : ℕ → ℕ → ℂ} (hz : RepR x y z)
    (hw : Rep X Y w) (k : ℕ) (hk : k < 8) :
    Rep (select (cmpi .eq (iota .tc S8x512 32 [0] iota_S8x512_d0_w32) (broadcast S8x512 (BitVec.ofNat 32 k)))
        (broadcastTo S8x512 (shapeCast S1x512 x shapeCasts_S1x512_S1x512) broadcasts_S1x512_S8x512) X)
      (select (cmpi .eq (iota .tc S8x512 32 [0] iota_S8x512_d0_w32) (broadcast S8x512 (BitVec.ofNat 32 k)))
        (broadcastTo S8x512 (shapeCast S1x512 y shapeCasts_S1x512_S1x512) broadcasts_S1x512_S8x512) Y)
      (fun p l => if p = k then z l else w p l) := fun p l => by
  rw [select_at, select_at]
  have h : BitVec.ofNat 32 p.val = BitVec.ofNat 32 k ↔ p.val = k := by
    rw [← BitVec.toNat_inj, BitVec.toNat_ofNat, BitVec.toNat_ofNat]
    omega
  simp only [h]
  split
  · exact hz l
  · exact hw p l

theorem two_f32 : Ideal.ofBits FTy.f32 0x40000000#32 = ((2 : ℝ) : EReal) := by
  simp [Ideal.ofBits, Ideal.ieee, -EReal.coe_mul]; norm_num

theorem rep_square {x y : FVec Ideal S1x512 .f32} {z w : ℕ → ℂ} (h : RepR x y z) (hw : ∀ l, w l = z l * z l) :
    RepR (subf (mulf x x) (mulf y y)) (mulf (mulf (broadcast S1x512 (Scalar.ofBits .f32 0x40000000#32)) x) y) w := fun l => by
  obtain ⟨hx, hy⟩ := h l
  have e1 : subf (mulf x x) (mulf y y) (ix2 0 l) = x (ix2 0 l) * x (ix2 0 l) - y (ix2 0 l) * y (ix2 0 l) := rfl
  have e2 : mulf (mulf (broadcast S1x512 (Scalar.ofBits .f32 0x40000000#32)) x) y (ix2 0 l)
      = Ideal.ofBits FTy.f32 0x40000000#32 * x (ix2 0 l) * y (ix2 0 l) := rfl
  rw [e1, e2, two_f32, hx, hy, hw]
  refine ⟨(re_mul _ _).symm, ?_⟩
  rw [Complex.mul_im, ← EReal.coe_mul, ← EReal.coe_mul]
  congr 1
  ring

theorem rep_carry {m1 m2 a b : FVec Ideal S1x512 .f32} {m z : ℕ → ℂ} {X Y : FVec Ideal S8x512 .f32} {H : ℕ → ℕ → ℂ}
    (hm : RepR m1 m2 m) (hz : RepR a b z) (hH : Rep X Y H) (k : Fin 8) (sl : S8x512.Slices ![k.val, 0] S1x512) {w : ℕ → ℂ}
    (hw : ∀ l, w l = m l * z l + H k l) :
    RepR (addf (subf (mulf m1 a) (mulf m2 b)) (extractStridedSlice S1x512 ![k.val, 0] X sl))
      (addf (addf (mulf m1 b) (mulf m2 a)) (extractStridedSlice S1x512 ![k.val, 0] Y sl)) w := fun l => by
  obtain ⟨h1, h2⟩ := hm l
  obtain ⟨h3, h4⟩ := hz l
  obtain ⟨h5, h6⟩ := hH k l
  have e : ∀ W : FVec Ideal S8x512 .f32, extractStridedSlice S1x512 ![k.val, 0] W sl (ix2 0 l) = W (ix2 k l) := by
    intro W
    pointwise
  have e1 : addf (subf (mulf m1 a) (mulf m2 b)) (extractStridedSlice S1x512 ![k.val, 0] X sl) (ix2 0 l)
      = (m1 (ix2 0 l) * a (ix2 0 l) - m2 (ix2 0 l) * b (ix2 0 l)) + X (ix2 k l) := by rw [← e X]; rfl
  have e2 : addf (addf (mulf m1 b) (mulf m2 a)) (extractStridedSlice S1x512 ![k.val, 0] Y sl) (ix2 0 l)
      = (m1 (ix2 0 l) * b (ix2 0 l) + m2 (ix2 0 l) * a (ix2 0 l)) + Y (ix2 k l) := by rw [← e Y]; rfl
  rw [e1, e2, h1, h2, h3, h4, h5, h6, hw, re_add, im_add, re_mul, im_mul]
  exact ⟨rfl, rfl⟩

/-- What chunk `p` takes from the chunks after it, by `carry` from the last chunk. -/
def taken (lam : ℕ → ℂ) (d : ℕ → ℕ → ℂ) : ℕ → ℕ → ℂ := fun p l =>
  carry (conj (lam l)) (fun m j => d (8 * j + (7 - m)) l) 256 (7 - p)

section
variable {v14 v16 : Vec Ideal S1x512 .f32} {lam : ℕ → ℂ} {d : ℕ → ℕ → ℂ} {v26_0 v26_1 : FVec Ideal S8x512 .f32}

theorem rep_mu1 (hl : RepR v14 v16 lam) : RepR (k0_pay13 v14) (k0_pay14 v16) (fun l => conj (lam l)) := fun l => by
  have h := rep_mu hl 0 l
  have e : ∀ W : FVec Ideal S8x512 .f32, extractStridedSlice S1x512 ![0, 0] W slices_S8x512_o0_0_S1x512 (ix2 0 l) = W (ix2 0 l) := by
    intro W
    pointwise
  rw [k0_pay13, k0_pay14, e, e]
  exact h

/-- Eight squarings of the conjugate. -/
theorem rep_pow (hl : RepR v14 v16 lam) :
    RepR (k0_pay30 (k0_pay14 v16) (k0_pay15 v14 v16) (k0_pay16 v14)) (k0_pay31 (k0_pay14 v16) (k0_pay15 v14 v16) (k0_pay16 v14))
      (fun l => conj (lam l) ^ 256) := by
  have h1 : RepR (k0_pay15 v14 v16) (k0_pay17 (k0_pay14 v16) (k0_pay16 v14)) (fun l => conj (lam l) ^ 2) :=
    rep_square (rep_mu1 hl) (fun l => by ring)
  have h2 : RepR (k0_pay18 (k0_pay14 v16) (k0_pay15 v14 v16) (k0_pay16 v14)) (k0_pay19 (k0_pay14 v16) (k0_pay15 v14 v16) (k0_pay16 v14))
      (fun l => conj (lam l) ^ 4) := rep_square h1 (fun l => by ring)
  have h3 : RepR (k0_pay20 (k0_pay14 v16) (k0_pay15 v14 v16) (k0_pay16 v14)) (k0_pay21 (k0_pay14 v16) (k0_pay15 v14 v16) (k0_pay16 v14))
      (fun l => conj (lam l) ^ 8) := rep_square h2 (fun l => by ring)
  have h4 : RepR (k0_pay22 (k0_pay14 v16) (k0_pay15 v14 v16) (k0_pay16 v14)) (k0_pay23 (k0_pay14 v16) (k0_pay15 v14 v16) (k0_pay16 v14))
      (fun l => conj (lam l) ^ 16) := rep_square h3 (fun l => by ring)
  have h5 : RepR (k0_pay24 (k0_pay14 v16) (k0_pay15 v14 v16) (k0_pay16 v14)) (k0_pay25 (k0_pay14 v16) (k0_pay15 v14 v16) (k0_pay16 v14))
      (fun l => conj (lam l) ^ 32) := rep_square h4 (fun l => by ring)
  have h6 : RepR (k0_pay26 (k0_pay14 v16) (k0_pay15 v14 v16) (k0_pay16 v14)) (k0_pay27 (k0_pay14 v16) (k0_pay15 v14 v16) (k0_pay16 v14))
      (fun l => conj (lam l) ^ 64) := rep_square h5 (fun l => by ring)
  have h7 : RepR (k0_pay28 (k0_pay14 v16) (k0_pay15 v14 v16) (k0_pay16 v14)) (k0_pay29 (k0_pay14 v16) (k0_pay15 v14 v16) (k0_pay16 v14))
      (fun l => conj (lam l) ^ 128) := rep_square h6 (fun l => by ring)
  exact rep_square h7 (fun l => by ring)

variable {v24 : FVec Ideal S8x512 .f32} {v28 v31 v33 v73 v76 v78 v79 v84 v124 v129 v184 v189 : FVec Ideal S1x512 .f32}
  {v77 : IVec S8x512 32} {v119 v134 v138 v174 v179 v193 : FVec Ideal S8x512 .f32} {v136 v191 : IVec S8x512 1}

/-- The carries of all the chunks, one row each: what the second sweep multiplies by the powers. -/
theorem rep_taken (hH : Rep v26_0 v26_1 (own lam d 256))
    (hm : RepR v73 v76 (fun l => conj (lam l) ^ 256))
    (e73 : v73 = k0_pay30 v28 v31 v33) (e76 : v76 = k0_pay31 v28 v31 v33) (h24 : Rep v24 v24 (fun _ _ => 0))
    (e77 : v77 = iota .tc S8x512 32 [0] iota_S8x512_d0_w32) (e78 : v78 = k0_pay32) (e79 : v79 = k0_pay33)
    (e84 : v84 = k0_pay34 v26_0 v28 v31 v33)
    (e119 : v119 = k0_pay38 v24 v26_1 v73 v76 v77 v78 v79 v84) (e124 : v124 = k0_pay39 v26_0 v26_1 v73 v76 v78 v79 v84)
    (e129 : v129 = k0_pay40 v26_0 v26_1 v73 v76 v78 v79 v84) (e134 : v134 = k0_pay41 v24 v26_0 v26_1 v73 v76 v77 v78 v79 v84)
    (e136 : v136 = k0_pay42 v77) (e138 : v138 = k0_pay43 v26_0 v26_1 v73 v76 v78 v79 v84)
    (e174 : v174 = k0_pay48 v26_0 v26_1 v73 v76 v77 v124 v129 v134) (e179 : v179 = k0_pay49 v26_0 v26_1 v73 v76 v77 v119 v124 v129 v136 v138)
    (e184 : v184 = k0_pay50 v26_0 v26_1 v73 v76 v124 v129) (e189 : v189 = k0_pay51 v26_0 v26_1 v73 v76 v124 v129)
    (e191 : v191 = k0_pay52 v77) (e193 : v193 = k0_pay53 v26_0 v26_1 v73 v76 v124 v129) :
    Rep (k0_pay54 v26_0 v73 v76 v77 v174 v184 v189 v191 v193) (k0_pay55 v26_1 v73 v76 v77 v179 v184 v189) (taken lam d) := by
  have ht : ∀ p : ℕ, p < 7 → ∀ l, taken lam d p l = conj (lam l) ^ 256 * taken lam d (p + 1) l + own lam d 256 (p + 1) l := by
    intro p hp l
    have h1 : 7 - p = (7 - (p + 1)) + 1 := by omega
    have h2 : 7 - (7 - (p + 1)) = p + 1 := by omega
    simp only [taken, own]
    rw [h1, carry, h2]
  have h7 : RepR v78 v79 (taken lam d 7) := fun l => by
    subst e78 e79
    have e : k0_pay32 (F := Ideal) (ix2 0 l) = 0 := by pointwise [k0_pay32]
    have e' : k0_pay33 (F := Ideal) (ix2 0 l) = 0 := by pointwise [k0_pay33]
    rw [e, e', taken, Nat.sub_self, carry, re_zero, im_zero]
    exact ⟨rfl, rfl⟩
  have h6 : RepR v84 (k0_pay35 v26_1 v73 v76 v78 v79) (taken lam d 6) := by
    have := rep_carry hm h7 hH 7 slices_S8x512_o7_0_S1x512 (ht 6 (by decide))
    subst e84
    rw [e73, e76, e78, e79] at this
    rw [e73, e76, e78, e79]
    exact this
  have h5 : RepR (k0_pay36 v26_0 v26_1 v73 v76 v78 v79 v84) (k0_pay37 v26_1 v73 v76 v78 v79 v84) (taken lam d 5) :=
    rep_carry hm h6 hH 6 slices_S8x512_o6_0_S1x512 (ht 5 (by decide))
  have h4 : RepR v124 v129 (taken lam d 4) := by
    subst e124 e129
    exact rep_carry hm h5 hH 5 slices_S8x512_o5_0_S1x512 (ht 4 (by decide))
  have h3 : RepR (k0_pay44 v26_0 v73 v76 v124 v129) (k0_pay45 v26_1 v73 v76 v124 v129) (taken lam d 3) :=
    rep_carry hm h4 hH 4 slices_S8x512_o4_0_S1x512 (ht 3 (by decide))
  have h2 : RepR (k0_pay46 v26_0 v26_1 v73 v76 v124 v129) (k0_pay47 v26_0 v26_1 v73 v76 v124 v129) (taken lam d 2) :=
    rep_carry hm h3 hH 3 slices_S8x512_o3_0_S1x512 (ht 2 (by decide))
  have h1 : RepR v184 v189 (taken lam d 1) := by
    subst e184 e189
    exact rep_carry hm h2 hH 2 slices_S8x512_o2_0_S1x512 (ht 1 (by decide))
  have h0 := rep_carry hm h1 hH 1 slices_S8x512_o1_0_S1x512 (ht 0 (by decide))
  have s6 := rep_select h6 h24 6 (by decide)
  have s5 := rep_select h5 s6 5 (by decide)
  have s4 := rep_select h4 s5 4 (by decide)
  have s3 := rep_select h3 s4 3 (by decide)
  have s2 := rep_select h2 s3 2 (by decide)
  have s1 := rep_select h1 s2 1 (by decide)
  have s0 := rep_select h0 s1 0 (by decide)
  subst e193 e191 e179 e174 e138 e136 e134 e119 e77 e184 e189 e124 e129
  intro p l
  have hv : ∀ q : ℕ, q < 8 → (if q = 0 then taken lam d 0 l else if q = 1 then taken lam d 1 l else if q = 2 then taken lam d 2 l
      else if q = 3 then taken lam d 3 l else if q = 4 then taken lam d 4 l else if q = 5 then taken lam d 5 l
      else if q = 6 then taken lam d 6 l else 0) = taken lam d q l := by
    intro q hq
    by_cases h : q = 7
    · subst h
      simp [taken, carry]
    · split_ifs <;> first | (subst_vars; rfl) | omega
  have h := s0 p l
  simp only [hv p p.isLt] at h
  exact h

end

end Cert.KernelIdeal.Body

end
-- ==== Proof.Rows.lean ====
module

public import proofs.«01_k».proof.Proof.Carry
public import proofs.«01_k».proof.Proof.Gen.KernelIdeal.Frame

@[expose] public section

set_option maxRecDepth 8192

noncomputable section

namespace Cert.KernelIdeal.Body

open Idealize.ShloMosaic Idealize.ShloMosaic.TcCoe Idealize.SL.Sem
open Cert.KernelIdeal Cert.KernelIdeal.Gen
open scoped ComplexConjugate
open Adjoint

theorem origin : (![0, 0] : Fin 2 → ℕ) = fun _ => 0 := by decide

/-- The adjoint of the recurrence at time `t`: the drive's rows are `d`, chunk after chunk interleaved. -/
def adj (lam : ℕ → ℂ) (d : ℕ → ℕ → ℂ) (t l : ℕ) : ℂ :=
  back (conj (lam l)) (fun t => d (8 * (t % 256) + t / 256) l) 2048 (2048 - t)

/-- The two sweeps together: a row of the scratch holds the adjoint of its own time. -/
theorem fixed_eq (lam : ℕ → ℂ) (d : ℕ → ℕ → ℂ) (r l : ℕ) (hr : r < 2048) :
    fixed lam (swept lam d 256) (taken lam d) 256 r l = adj lam d (256 * (r % 8) + r / 8) l := by
  have hj : r / 8 < 256 := by omega
  have hp : r % 8 < 8 := Nat.mod_lt _ (by decide)
  have h := back_chunk (conj (lam l)) (fun t => d (8 * (t % 256) + t / 256) l) (fun m j => d (8 * j + (7 - m)) l) 8 256
    (fun m hm j hj => by
      have h1 : (256 * (8 - 1 - m) + j) % 256 = j := by omega
      have h2 : (256 * (8 - 1 - m) + j) / 256 = 7 - m := by omega
      simp only [h1, h2]) (7 - r % 8) (by omega) (256 - r / 8) (by omega)
  have h3 : 256 * (7 - r % 8) + (256 - r / 8) = 2048 - (256 * (r % 8) + r / 8) := by omega
  have h4 : 7 - (7 - r % 8) = r % 8 := by omega
  rw [h3] at h
  simp only [h4] at h
  simp only [adj, fixed, swept, own, taken, Nat.sub_self, Nat.zero_le, if_true]
  exact h.symm

theorem load_eq {m n : ℕ} {e : EltTy} {M : Memref sig .tc .vmem (⟨2, ![m, n]⟩ : Shape) e} (h : M.IsWhole)
    (inb : ∀ a, (![0, 0] : Fin 2 → ℕ) a + (![m, n] : Fin 2 → ℕ) a ≤ (⟨2, ![m, n]⟩ : Shape).size a) (X : (⟨2, ![m, n]⟩ : Shape).Idx → Elt Ideal e) :
    View.readAt (Elt Ideal) M.view (Rect.unit (s := (⟨2, ![m, n]⟩ : Shape)) ![0, 0] ![m, n] inb).toLoadRect (h.unread X) = X := by
  rw [View.readAt_eq_ld, h.read_unread]
  exact View.ld_unit_zero (S := (⟨2, ![m, n]⟩ : Shape)) origin inb X

theorem rep_zero : Rep (k0_pay8 (F := Ideal)) k0_pay8 (fun _ _ => 0) := fun p l => by
  have e : k0_pay8 (F := Ideal) (ix2 p l) = 0 := by pointwise [k0_pay8]
  rw [e, re_zero, im_zero]
  exact ⟨rfl, rfl⟩

section
variable (c : Dev nD) (i : grid0.Coords) (arg1 : Memref sig .tc .vmem S2048x128 .bf16) (harg1 : arg1.IsWhole) (arg2 : Memref sig .tc .vmem S2048x128 .f32) (harg2 : arg2.IsWhole) (arg3 : Memref sig .tc .vmem S2x2048x512 .f32) (harg3 : arg3.IsWhole) (arg4 : Memref sig .tc .vmem S128x512 .bf16) (harg4 : arg4.IsWhole) (arg5 : Memref sig .tc .vmem S128x512 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x512x128 .f32) (harg12 : arg12.IsWhole) (arg13 : Memref sig .tc .vmem S2x128x512 .f32) (harg13 : arg13.IsWhole) (arg14 : Memref sig .tc .vmem S2048x128 .f32) (harg14 : arg14.IsWhole) (arg15 : Memref sig .tc .vmem S2048x512 .f32) (harg15 : arg15.IsWhole) (arg16 : Memref sig .tc .vmem S2048x512 .f32) (harg16 : arg16.IsWhole)
  (x0 : Vec Ideal S2048x128 .bf16) (x3 : Vec Ideal S128x512 .bf16) (x4 : Vec Ideal S128x512 .bf16) (x7 : Vec Ideal S1x512 .f32) (x8 : Vec Ideal S1x512 .f32)

theorem loaded {A B : Memref sig .tc .vmem S2048x512 .f32} {x y : FVec Ideal S2048x512 .f32} {d : ℕ → ℕ → ℂ} (h : RepS x y d) :
    RepS (A.view.read (Elt Ideal) (A.view.writes (Elt Ideal) A.view.junk [⟨Rect.unit (s := S2048x512) ![0, 0] S2048x512.size inb_S2048x512_S2048x512_0_0, x⟩]))
      (B.view.read (Elt Ideal) (B.view.writes (Elt Ideal) B.view.junk [⟨Rect.unit (s := S2048x512) ![0, 0] S2048x512.size inb_S2048x512_S2048x512_0_0, y⟩])) d := by
  rw [View.read_writes_junk_eq_canon, View.read_writes_junk_eq_canon, View.canon_unit_zero (S := S2048x512) origin, View.canon_unit_zero (S := S2048x512) origin]
  exact h

/-- The two sweeps: the chunks' own adjoints, then the carries times the powers, leave the adjoint in the scratch. -/
theorem rep_adj {lam : ℕ → ℂ} {d : ℕ → ℕ → ℂ} (hl : RepR x7 x8 lam) (hd : RepS (k0_pay4 x0 x3) (k0_pay5 x0 x4) d) :
    RepS (kernelRun0_A.sl.v222 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (kernelRun0_A.sl.v223 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (fun r l => adj lam d (256 * (r % 8) + r / 8) l) := by
  have t1 : Scf.trips k0_t1_loop.lb k0_t1_loop.ub k0_t1_loop.st = 256 := trips1
  have t2 : Scf.trips k0_t2_loop.lb k0_t2_loop.ub k0_t2_loop.st = 256 := trips2
  have hd' := loaded (A := arg15) (B := arg16) hd
  obtain ⟨s1, s2⟩ := sweep1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x7 x8 hl _ _ hd' (k0_pay8, k0_pay8) rep_zero 256 le_rfl
  have hown : Rep (kernelRun0_A.sl.r_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (kernelRun0_A.sl.r_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (own lam d 256) := by
    unfold kernelRun0_A.sl.r_3 kernelRun0_A.sl.r_4 kernelRun0_A.sl.HS0_1 kernelRun0_A.sl.HS1_1
    simp only [t1, load_eq]
    exact s1
  have hm : RepR (kernelRun0_A.sl.r_8 (F := Ideal) c arg8 harg8 arg9 harg9 x7 x8) (kernelRun0_A.sl.r_9 (F := Ideal) c arg8 harg8 arg9 harg9 x7 x8) (fun l => conj (lam l) ^ 256) := by
    unfold kernelRun0_A.sl.r_8 kernelRun0_A.sl.r_9 kernelRun0_A.sl.r_5 kernelRun0_A.sl.r_6 kernelRun0_A.sl.r_7
    simp only [load_eq]
    exact rep_pow hl
  have h21 : Rep (kernelRun0_A.sl.r_1 (F := Ideal) c arg8 harg8 x7) (kernelRun0_A.sl.r_2 (F := Ideal) c arg9 harg9 x8) (fun _ l => conj (lam l)) := by
    unfold kernelRun0_A.sl.r_1 kernelRun0_A.sl.r_2
    simp only [load_eq]
    exact rep_mu hl
  have ht := rep_taken hown hm rfl rfl rep_zero rfl rfl rfl (v84 := kernelRun0_A.sl.r_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl (v119 := kernelRun0_A.sl.r_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl (v124 := kernelRun0_A.sl.r_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl
    (v129 := kernelRun0_A.sl.r_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl (v134 := kernelRun0_A.sl.r_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl rfl (v138 := kernelRun0_A.sl.r_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl (v174 := kernelRun0_A.sl.r_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl (v179 := kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl
    (v184 := kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl (v189 := kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl rfl (v193 := kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) rfl
  have h2 := (sweep2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ h21 _ _ s2 ht 256 le_rfl).2
  unfold kernelRun0_A.sl.v222 kernelRun0_A.sl.v223 kernelRun0_A.sl.HS0_1 kernelRun0_A.sl.HS1_1
  simp only [t1, t2, load_eq]
  simp only [View.readCov, View.readAt_eq_ld, View.writes_append, View.ld_unit_zero (S := S2048x512) origin]
  intro r l
  have h := h2 r l
  rw [fixed_eq _ _ _ _ r.isLt] at h
  exact h

end

end Cert.KernelIdeal.Body

end
-- ==== Proof.Outs.lean ====
module

public import proofs.«01_k».proof.Proof.Rows

@[expose] public section

set_option maxRecDepth 8192

noncomputable section

namespace Cert.KernelIdeal.Body

open Idealize.ShloMosaic Idealize.ShloMosaic.TcCoe Idealize.SL.Sem
open Cert.KernelIdeal Cert.KernelIdeal.Gen
open scoped ComplexConjugate
open Adjoint

theorem origin3 : (![0, 0, 0] : Fin 3 → ℕ) = fun _ => 0 := by decide

/-- The state one step earlier, at the row that holds it. -/
def prev (x2 : Vec Ideal S2x2048x512 .f32) (s : Fin 2) (r : Fin 2048) (l : Fin 512) : EReal :=
  if r.val = 0 then 0 else if h : r.val < 8 then x2 (ix3 s ⟨2039 + r.val, by omega⟩ l) else x2 (ix3 s ⟨r.val - 8, by omega⟩ l)

theorem slab_at {M : Memref sig .tc .vmem S2x2048x512 .f32} (h : M.IsWhole) (X : Vec Ideal S2x2048x512 .f32) (o : Fin 2) (off : Fin 3 → ℕ) (inb)
    (hoff : off = ![o.val, 0, 0]) (r : Fin 2048) (l : Fin 512) :
    View.readAt (Elt Ideal) M.view (Rect.unit (s := S2x2048x512) off S1x2048x512.size inb).toLoadRect (h.unread X) (ix3 0 r l) = X (ix3 o r l) := by
  subst hoff
  rw [View.readAt_eq_ld, h.read_unread]
  refine View.ld_unit_apply_of _ _ _ _ _ _ ?_
  intro a
  fin_cases a <;> simp

theorem squeeze_at (x : FVec Ideal S1x2048x512 .f32) (r : Fin 2048) (l : Fin 512) :
    shapeCast S2048x512 x shapeCasts_S1x2048x512_S2048x512 (ix2 r l) = x (ix3 0 r l) := by
  pointwise

theorem window_at {M : Memref sig .tc .vmem S2x2048x512 .f32} (h : M.IsWhole) (X : Vec Ideal S2x2048x512 .f32) (o : Fin 2) (off : Fin 3 → ℕ) (inb)
    (hr) (hq) (hoff : off = ![o.val, 0, 0]) {m : ℕ} (b : ℕ) (inb') (r : Fin m) (l : Fin 512) (hb : b + r.val < 2048) :
    View.readAt (Elt Ideal) ((M.slice (Rect.unit (s := S2x2048x512) off S1x2048x512.size inb) hr).squeeze S2048x512 hq).view
      (Rect.unit (s := S2048x512) ![b, 0] ![m, 512] inb').toLoadRect (h.unread X) (ix2 r l) = X (ix3 o ⟨b + r.val, hb⟩ l) := by
  rw [View.readAt_eq_ld, View.ld_unit_apply_of _ _ _ _ _ (ix2 (⟨b + r.val, hb⟩ : Fin 2048) l) (Fin.forall_fin_two.mpr ⟨by simp, by simp⟩),
    Memref.read_squeeze_slice _ _ _ _ shapeCasts_S1x2048x512_S2048x512]
  rw [squeeze_at, slab_at h X o off inb hoff]

theorem earlier_at (x y : Vec Ideal S8x512 .f32) (w : Vec Ideal S2040x512 .f32) (hy : y = k0_pay60 x) (r : Fin 2048) (l : Fin 512) :
    k0_pay61 y w (ix2 r l) = if r.val = 0 then 0 else if h : r.val < 8 then x (ix2 ⟨r.val - 1, by omega⟩ l) else w (ix2 ⟨r.val - 8, by omega⟩ l) := by
  subst hy
  pointwise [k0_pay61, k0_pay60]
  by_cases h : r.val < 8
  · obtain ⟨r, hr⟩ := r
    simp only at h
    interval_cases r <;> simp [Scalar.select, IntOp.cmpi]
  · have h0 : ¬ (r.val = 0) := by omega
    rw [dif_neg h, if_neg h0, dif_neg h]

theorem earlier_at' (x : Vec Ideal S8x512 .f32) (w : Vec Ideal S2040x512 .f32) (r : Fin 2048) (l : Fin 512) :
    k0_pay62 x w (ix2 r l) = if r.val = 0 then 0 else if h : r.val < 8 then x (ix2 ⟨r.val - 1, by omega⟩ l) else w (ix2 ⟨r.val - 8, by omega⟩ l) :=
  earlier_at x _ w rfl r l

theorem sum_at (x : FVec Ideal S2048x512 .f32) (l : Fin 512) :
    shapeCast S1x512 (multiReduction .add [0] S512 x 0x00000000#32 reduces_S2048x512_S512 (.inl rfl) rfl) shapeCasts_S512_S1x512 (ix2 0 l)
      = ∑ r : Fin 2048, x (ix2 r l) := by
  pointwise

/-- Two members of a stack stored one after the other. -/
theorem canon_two {m n : ℕ} (P Q : (⟨3, ![1, m, n]⟩ : Shape).Idx → Elt Ideal .f32) (inb1) (inb0) (k : Fin 2) (a : Fin m) (b : Fin n) :
    View.canon [(⟨Rect.unit (s := (⟨3, ![2, m, n]⟩ : Shape)) ![1, 0, 0] ![1, m, n] inb1, P⟩ : View.Piece (Elt Ideal) (⟨3, ![2, m, n]⟩ : Shape) .f32),
        ⟨Rect.unit (s := (⟨3, ![2, m, n]⟩ : Shape)) ![0, 0, 0] ![1, m, n] inb0, Q⟩] (ix3 k a b)
      = if k = 0 then Q (ix3 0 a b) else P (ix3 0 a b) := by
  by_cases hk : k = 0
  · subst hk
    rw [if_pos rfl, View.canon_cons_of_not_mem]
    · have e : (ix3 (0 : Fin 2) a b : (⟨3, ![2, m, n]⟩ : Shape).Idx) = (Rect.unit (s := (⟨3, ![2, m, n]⟩ : Shape)) ![0, 0, 0] ![1, m, n] inb0).emb (ix3 (0 : Fin 1) a b) := by
        funext x; apply Fin.ext; rw [Rect.emb_apply]; fin_cases x <;> simp [Rect.unit]
      rw [e]
      exact View.canon_cons_emb _ _ _ _
    · rw [Rect.mem_set_unit]
      intro h
      have := (h 0).1
      simp at this
  · obtain rfl : k = 1 := by omega
    rw [if_neg hk]
    have e : (ix3 (1 : Fin 2) a b : (⟨3, ![2, m, n]⟩ : Shape).Idx) = (Rect.unit (s := (⟨3, ![2, m, n]⟩ : Shape)) ![1, 0, 0] ![1, m, n] inb1).emb (ix3 (0 : Fin 1) a b) := by
      funext x; apply Fin.ext; rw [Rect.emb_apply]; fin_cases x <;> simp [Rect.unit]
    rw [e]
    exact View.canon_cons_emb _ _ _ _

section
variable (c : Dev nD) (i : grid0.Coords) (arg1 : Memref sig .tc .vmem S2048x128 .bf16) (harg1 : arg1.IsWhole) (arg2 : Memref sig .tc .vmem S2048x128 .f32) (harg2 : arg2.IsWhole) (arg3 : Memref sig .tc .vmem S2x2048x512 .f32) (harg3 : arg3.IsWhole) (arg4 : Memref sig .tc .vmem S128x512 .bf16) (harg4 : arg4.IsWhole) (arg5 : Memref sig .tc .vmem S128x512 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x512x128 .f32) (harg12 : arg12.IsWhole) (arg13 : Memref sig .tc .vmem S2x128x512 .f32) (harg13 : arg13.IsWhole) (arg14 : Memref sig .tc .vmem S2048x128 .f32) (harg14 : arg14.IsWhole) (arg15 : Memref sig .tc .vmem S2048x512 .f32) (harg15 : arg15.IsWhole) (arg16 : Memref sig .tc .vmem S2048x512 .f32) (harg16 : arg16.IsWhole) (hc0) (hc1)
  (x0 : Vec Ideal S2048x128 .bf16) (x1 : Vec Ideal S2048x128 .f32) (x2 : Vec Ideal S2x2048x512 .f32) (x3 : Vec Ideal S128x512 .bf16) (x4 : Vec Ideal S128x512 .bf16) (x5 : Vec Ideal S512x128 .bf16) (x6 : Vec Ideal S512x128 .bf16) (x7 : Vec Ideal S1x512 .f32) (x8 : Vec Ideal S1x512 .f32)

theorem prev_at (r : Fin 2048) (l : Fin 512) :
    k0_pay61 (kernelRun0_A.sl.r_21 (F := Ideal) c arg3 harg3 x2) (kernelRun0_A.sl.v236 (F := Ideal) c arg3 harg3 x2) (ix2 r l) = prev x2 0 r l := by
  unfold kernelRun0_A.sl.r_21
  rw [earlier_at _ _ _ rfl]
  unfold kernelRun0_A.sl.v226 kernelRun0_A.sl.v236 prev
  split_ifs with h h'
  · rfl
  · refine (window_at harg3 x2 0 ![0, 0, 0] _ _ _ rfl 2040 _ _ _ (by simp; omega)).trans ?_
    congr 3
    simp only
    omega
  · refine (window_at harg3 x2 0 ![0, 0, 0] _ _ _ rfl 0 _ _ _ (by simp; omega)).trans ?_
    congr 3
    simp only
    omega

theorem prev_at' (r : Fin 2048) (l : Fin 512) :
    k0_pay62 (kernelRun0_A.sl.v241 (F := Ideal) c arg3 harg3 x2) (kernelRun0_A.sl.v251 (F := Ideal) c arg3 harg3 x2) (ix2 r l) = prev x2 1 r l := by
  rw [earlier_at']
  unfold kernelRun0_A.sl.v241 kernelRun0_A.sl.v251 prev
  split_ifs with h h'
  · rfl
  · refine (window_at harg3 x2 1 ![1, 0, 0] _ _ _ rfl 2040 _ _ _ (by simp; omega)).trans ?_
    congr 3
    simp only
    omega
  · refine (window_at harg3 x2 1 ![1, 0, 0] _ _ _ rfl 0 _ _ _ (by simp; omega)).trans ?_
    congr 3
    simp only
    omega

theorem out9_at (l : Fin 512) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix2 0 l)
    = ∑ r : Fin 2048, ((kernelRun0_A.sl.v222 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (ix2 r l) * prev x2 0 r l + (kernelRun0_A.sl.v223 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (ix2 r l) * prev x2 1 r l) := by
  unfold out0_A_9
  rw [View.read_writes_junk_eq_canon]
  unfold kernelRun0_A
  dsimp only
  rw [View.canon_unit_zero (S := S1x512) origin]
  unfold k0_pay63
  rw [sum_at]
  refine Finset.sum_congr rfl fun r _ => ?_
  rw [← prev_at c arg3 harg3 x2, ← prev_at' c arg3 harg3 x2]
  rfl

theorem out10_at (l : Fin 512) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix2 0 l)
    = ∑ r : Fin 2048, ((kernelRun0_A.sl.v223 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (ix2 r l) * prev x2 0 r l - (kernelRun0_A.sl.v222 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (ix2 r l) * prev x2 1 r l) := by
  unfold out0_A_10
  rw [View.read_writes_junk_eq_canon]
  unfold kernelRun0_A
  dsimp only
  rw [View.canon_unit_zero (S := S1x512) origin]
  unfold k0_pay64
  rw [sum_at]
  refine Finset.sum_congr rfl fun r _ => ?_
  rw [← prev_at c arg3 harg3 x2, ← prev_at' c arg3 harg3 x2]
  rfl

theorem pay68_at (v : Vec Ideal S2048x512 .f32) (x : Vec Ideal S2048x128 .f32) (a : Fin 512) (b : Fin 128) :
    k0_pay68 (k0_pay65 v) x (ix3 0 a b) = ∑ r : Fin 2048, v (ix2 r a) * x (ix2 r b) := by
  pointwise [k0_pay68, k0_pay65, k0_pay67]

theorem pay69_at (v : Vec Ideal S2048x512 .f32) (x : Vec Ideal S2048x128 .f32) (a : Fin 512) (b : Fin 128) :
    k0_pay69 (k0_pay66 v) x (ix3 0 a b) = ∑ r : Fin 2048, v (ix2 r a) * x (ix2 r b) := by
  pointwise [k0_pay69, k0_pay66, k0_pay67]

theorem pay70_at (x : Vec Ideal S2048x128 .bf16) (v : Vec Ideal S1x2048x512 .f32) (a : Fin 128) (b : Fin 512) :
    k0_pay70 (k0_pay3 x) v (ix3 0 a b) = ∑ r : Fin 2048, x (ix2 r a) * v (ix3 0 r b) := by
  pointwise [k0_pay70, k0_pay3]

theorem pay71_at (x : Vec Ideal S2048x128 .bf16) (v : Vec Ideal S1x2048x512 .f32) (a : Fin 128) (b : Fin 512) :
    k0_pay71 (k0_pay3 x) v (ix3 0 a b) = ∑ r : Fin 2048, x (ix2 r a) * v (ix3 0 r b) := by
  pointwise [k0_pay71, k0_pay3]

theorem pay1_at (v v' : Vec Ideal S2048x512 .f32) (w w' : Vec Ideal S512x128 .bf16) (r : Fin 2048) (b : Fin 128) :
    k0_pay1 (k0_pay66 v') (k0_pay72 (k0_pay65 v) w) w' (ix2 r b)
      = (∑ k : Fin 512, v (ix2 r k) * w (ix2 k b)) + ∑ k : Fin 512, v' (ix2 r k) * w' (ix2 k b) := by
  pointwise [k0_pay1, k0_pay72, k0_pay65, k0_pay66]

theorem pay4_at (x : Vec Ideal S2048x128 .bf16) (w : Vec Ideal S128x512 .bf16) (r : Fin 2048) (l : Fin 512) :
    k0_pay4 x w (ix2 r l) = ∑ k : Fin 128, x (ix2 r k) * w (ix2 k l) := by
  pointwise [k0_pay4, k0_pay3]

theorem pay5_at (x : Vec Ideal S2048x128 .bf16) (w : Vec Ideal S128x512 .bf16) (r : Fin 2048) (l : Fin 512) :
    k0_pay5 x w (ix2 r l) = ∑ k : Fin 128, x (ix2 r k) * w (ix2 k l) := by
  pointwise [k0_pay5, k0_pay3]

theorem out11_at (s : Fin 2) (a : Fin 512) (b : Fin 128) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix3 s a b)
    = if s = 0 then ∑ r : Fin 2048, (kernelRun0_A.sl.v222 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (ix2 r a) * x1 (ix2 r b) else ∑ r : Fin 2048, (kernelRun0_A.sl.v223 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (ix2 r a) * x1 (ix2 r b) := by
  unfold out0_A_11
  rw [View.read_writes_junk_eq_canon]
  unfold kernelRun0_A
  dsimp only
  simp only [load_eq]
  rw [← pay68_at, ← pay69_at]
  exact canon_two _ _ _ _ s a b

theorem out12_at (s : Fin 2) (a : Fin 128) (b : Fin 512) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix3 s a b)
    = ∑ r : Fin 2048, x0 (ix2 r a) * x2 (ix3 s r b) := by
  unfold out0_A_12
  rw [View.read_writes_junk_eq_canon]
  unfold kernelRun0_A
  dsimp only
  unfold kernelRun0_A.sl.r
  simp only [load_eq]
  refine (canon_two _ _ _ _ s a b).trans ?_
  rw [pay70_at, pay71_at]
  split_ifs with h
  · subst h
    refine Finset.sum_congr rfl fun r _ => congrArg _ (slab_at harg3 x2 0 _ _ rfl r b)
  · obtain rfl : s = 1 := by omega
    refine Finset.sum_congr rfl fun r _ => congrArg _ (slab_at harg3 x2 1 _ _ rfl r b)

theorem out13_at (r : Fin 2048) (b : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix2 r b)
    = (∑ k : Fin 512, (kernelRun0_A.sl.v222 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (ix2 r k) * x5 (ix2 k b)) + ∑ k : Fin 512, (kernelRun0_A.sl.v223 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x4 x7 x8) (ix2 r k) * x6 (ix2 k b) := by
  unfold out0_A_13
  rw [View.read_writes_junk_eq_canon]
  unfold kernelRun0_A
  dsimp only
  rw [View.canon_unit_zero (S := S2048x128) origin]
  unfold kernelRun0_A.sl.r_24 kernelRun0_A.sl.r_22 kernelRun0_A.sl.r_23
  simp only [load_eq]
  exact pay1_at _ _ _ _ r b

end

end Cert.KernelIdeal.Body

end
-- ==== Proof.Prefix.lean ====
module

public import proofs.«01_k».proof.Proof.Gen.KernelIdeal.Frame
public import Idealize.ShloMosaic.Lib.Pointwise

@[expose] public section

set_option maxRecDepth 8192

noncomputable section

namespace Cert.KernelIdeal.Body

open Idealize.ShloMosaic Idealize.ShloMosaic.TcCoe Idealize.SL.Sem
open Cert.KernelIdeal Cert.KernelIdeal.Gen

/-- The time of a row in the order of the chunks. -/
def time (r : Fin 2048) : Fin 2048 := ⟨256 * (r.val % 8) + r.val / 8, by omega⟩

theorem select_eq_nat {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases e : a = b
  · simp [Scalar.select, IntOp.cmpi, e]
  · have h' : (BitVec.ofNat 32 a == BitVec.ofNat 32 b) = false := by simpa using fun q => e (h.1 q)
    rw [if_neg e]
    simp only [Scalar.select, IntOp.cmpi, h']
    rfl

/-- The array with the output matrices of the groups on its diagonal. -/
def outer (x : FVec Ideal S32x16x64 .f32) : FVec Ideal S512x2048 .f32 :=
  shapeCast S512x2048
    (select
      (broadcastInDim S32x16x32x64 ![0, 1, 2, 3] bcast_S32x1x32x1_S32x16x32x64_0_1_2_3
        (cmpi .eq (iotaInDim S32x1x32x1 32 0) (iotaInDim S32x1x32x1 32 2)))
      (broadcastInDim S32x16x32x64 ![0, 1, 2, 3] bcast_S32x16x1x64_S32x16x32x64_0_1_2_3
        (broadcastInDim S32x16x1x64 ![0, 1, 3] bcast_S32x16x64_S32x16x1x64_0_1_3 x))
      (broadcastInDim S32x16x32x64 ![] bcast_S_S32x16x32x64 (constant (F := Ideal) S_ .f32 0x00000000#32)))
    shapeCasts_S32x16x32x64_S512x2048

/-- The array with the input matrices of the groups on its diagonal. -/
def inner (x : FVec Ideal S32x64x16 .f32) : FVec Ideal S2048x512 .f32 :=
  shapeCast S2048x512
    (select
      (broadcastInDim S32x64x32x16 ![0, 1, 2, 3] bcast_S32x1x32x1_S32x64x32x16_0_1_2_3
        (cmpi .eq (iotaInDim S32x1x32x1 32 0) (iotaInDim S32x1x32x1 32 2)))
      (broadcastInDim S32x64x32x16 ![0, 1, 2, 3] bcast_S32x64x1x16_S32x64x32x16_0_1_2_3
        (broadcastInDim S32x64x1x16 ![0, 1, 3] bcast_S32x64x16_S32x64x1x16_0_1_3 x))
      (broadcastInDim S32x64x32x16 ![] bcast_S_S32x64x32x16 (constant (F := Ideal) S_ .f32 0x00000000#32)))
    shapeCasts_S32x64x32x16_S2048x512

/-- Rows in the order of the chunks. -/
def chunked (x : FVec Ideal S2048x512 .f32) : FVec Ideal S2048x512 .f32 :=
  shapeCast S2048x512 (transpose S256x8x512 [1, 0, 2] (shapeCast S8x256x512 x shapeCasts_S2048x512_S8x256x512) transposes_S8x256x512_S256x8x512_1_0_2) shapeCasts_S256x8x512_S2048x512

/-- The states with their rows in the order of the chunks. -/
def chunkedS (x : FVec Ideal S2048x32x64 .f32) : FVec Ideal S1x2048x2048 .f32 :=
  broadcastInDim S1x2048x2048 ![1, 2] bcast_S2048x2048_S1x2048x2048_1_2
    (shapeCast S2048x2048 (transpose S256x8x2048 [1, 0, 2] (shapeCast S8x256x2048 (shapeCast S2048x2048 x shapeCasts_S2048x32x64_S2048x2048) shapeCasts_S2048x2048_S8x256x2048) transposes_S8x256x2048_S256x8x2048_1_0_2) shapeCasts_S256x8x2048_S2048x2048)

theorem outer_at (x : FVec Ideal S32x16x64 .f32) (p : Fin 512) (k : Fin 2048) :
    (outer x (ix2 p k) : EReal) =
      if p.val / 16 = k.val / 64 then (x (ix3 ⟨p.val / 16, by omega⟩ ⟨p.val % 16, by omega⟩ ⟨k.val % 64, by omega⟩) : EReal) else 0 := by
  pointwise [outer]
  exact select_eq_nat _ _ (by omega) (by omega) _ _

theorem inner_at (x : FVec Ideal S32x64x16 .f32) (p : Fin 2048) (k : Fin 512) :
    (inner x (ix2 p k) : EReal) =
      if p.val / 64 = k.val / 16 then (x (ix3 ⟨p.val / 64, by omega⟩ ⟨p.val % 64, by omega⟩ ⟨k.val % 16, by omega⟩) : EReal) else 0 := by
  pointwise [inner]
  exact select_eq_nat _ _ (by omega) (by omega) _ _

theorem chunked_at (x : FVec Ideal S2048x512 .f32) (r : Fin 2048) (k : Fin 512) :
    (chunked x (ix2 r k) : EReal) = x (ix2 (time r) k) := by
  pointwise [chunked]
  simp only [time, Nat.mul_comm]

theorem chunkedS_at (x : FVec Ideal S2048x32x64 .f32) (s : Fin 1) (r : Fin 2048) (k : Fin 2048) :
    (chunkedS x (ix3 s r k) : EReal) = x (ix3 (time r) ⟨k.val / 64, by omega⟩ ⟨k.val % 64, by omega⟩) := by
  pointwise [chunkedS]
  simp only [time, Nat.mul_comm]

variable (m : (ℓ : Loc nD τ sig) → Buf (Elt Ideal) ℓ) (c : Dev nD)

set_option maxHeartbeats 1000000

theorem v42_eq : (V m c main_v42 : FVec Ideal S1024x2048 .bf16) = truncf .bf16 (concatenate S1024x2048 0
      [⟨S512x2048, outer (m ((c : Thread nD τ).loc main_arg6))⟩, ⟨S512x2048, outer (Host.negf (F := Ideal) (s := S32x16x64) (φ := .f32) (m ((c : Thread nD τ).loc main_arg7)))⟩] concatenates_S512x2048_S512x2048_S1024x2048_d0) bitsLt_bf16_f32 := by
  unfold V V0
  simp only [List.flatten_cons, List.flatten_nil, List.append_nil, List.cons_append, List.nil_append]
  after_results
  rfl

theorem v29_eq : (V m c main_v29 : FVec Ideal S4096x512 .bf16) = truncf .bf16 (concatenate S4096x512 0
      [⟨S2048x512, inner (m ((c : Thread nD τ).loc main_arg4))⟩, ⟨S2048x512, inner (m ((c : Thread nD τ).loc main_arg5))⟩] concatenates_S2048x512_S2048x512_S4096x512_d0) bitsLt_bf16_f32 := by
  unfold V V0
  simp only [List.flatten_cons, List.flatten_nil, List.append_nil, List.cons_append, List.nil_append]
  after_results
  rfl

theorem v10_eq : (V m c main_v10 : FVec Ideal S2x2048x2048 .f32) = concatenate S2x2048x2048 0
      [⟨S1x2048x2048, chunkedS (m ((c : Thread nD τ).loc main_arg2))⟩, ⟨S1x2048x2048, chunkedS (m ((c : Thread nD τ).loc main_arg3))⟩] concatenates_S1x2048x2048_S1x2048x2048_S2x2048x2048_d0 := by
  unfold V V0
  simp only [List.flatten_cons, List.flatten_nil, List.append_nil, List.cons_append, List.nil_append]
  after_results
  rfl

theorem v14_eq : (V m c main_v14 : FVec Ideal S2048x512 .bf16) = truncf .bf16 (chunked (m ((c : Thread nD τ).loc main_arg0))) bitsLt_bf16_f32 := by
  unfold V V0
  simp only [List.flatten_cons, List.flatten_nil, List.append_nil, List.cons_append, List.nil_append]
  after_results_simp
  rfl

theorem v17_eq : (V m c main_v17 : FVec Ideal S2048x512 .f32) = chunked (m ((c : Thread nD τ).loc main_arg1)) := by
  unfold V V0
  simp only [List.flatten_cons, List.flatten_nil, List.append_nil, List.cons_append, List.nil_append]
  after_results_simp
  rfl

theorem v43_eq : (V m c main_v43 : FVec Ideal S1x2048 .f32) = shapeCast (s := S32x64) S1x2048 (m ((c : Thread nD τ).loc main_arg8)) shapeCasts_S32x64_S1x2048 := by
  unfold V V0
  simp only [List.flatten_cons, List.flatten_nil, List.append_nil, List.cons_append, List.nil_append]
  after_results_simp
  rfl

theorem v44_eq : (V m c main_v44 : FVec Ideal S1x2048 .f32) = shapeCast (s := S32x64) S1x2048 (m ((c : Thread nD τ).loc main_arg9)) shapeCasts_S32x64_S1x2048 := by
  unfold V V0
  simp only [List.flatten_cons, List.flatten_nil, List.append_nil, List.cons_append, List.nil_append]
  after_results_simp
  rfl

end Cert.KernelIdeal.Body

end
-- ==== Proof.Blocks.lean ====
module

public import proofs.«01_k».proof.Proof.Prefix
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.KernelIdeal.Body

open Idealize.ShloMosaic Idealize.ShloMosaic.TcCoe Idealize.SL.Sem
open Cert.KernelIdeal Cert.KernelIdeal.Gen

theorem places : ∀ t : Fin grid0.N,
    win0_0.index t = ![0, t.val] ∧ win0_1.index t = ![0, t.val] ∧ win0_2.index t = ![0, 0, t.val] ∧
    win0_3.index t = ![t.val, t.val] ∧ win0_4.index t = ![4 + t.val, t.val] ∧
    win0_5.index t = ![t.val, t.val] ∧ win0_6.index t = ![4 + t.val, t.val] ∧
    win0_7.index t = ![0, t.val] ∧ win0_8.index t = ![0, t.val] := by decide +kernel

variable (m : (ℓ : Loc nD τ sig) → Buf (Elt Ideal) ℓ) (c : Dev nD)

theorem four (t : Fin grid0.N) : t.val < 4 := lt_of_lt_of_eq t.isLt N_0

/-- The lane of the 512 inputs that lane `k` of block `t` is. -/
def chan (t : Fin grid0.N) (k : Fin 128) : Fin 512 := ⟨128 * t.val + k.val, by have := four t; omega⟩

/-- The lane of the 2048 states that lane `k` of block `t` is. -/
def lane (t : Fin grid0.N) (k : Fin 512) : Fin 2048 := ⟨512 * t.val + k.val, by have := four t; omega⟩

/-- Group, channel and state. -/
def grpC (k : Fin 512) : Fin 32 := ⟨k.val / 16, by omega⟩
def chnC (k : Fin 512) : Fin 16 := ⟨k.val % 16, by omega⟩
def grpS (k : Fin 2048) : Fin 32 := ⟨k.val / 64, by omega⟩
def staS (k : Fin 2048) : Fin 64 := ⟨k.val % 64, by omega⟩

/-- The ten arguments at a device. -/
abbrev aDy : FVec Ideal S2048x512 .f32 := m ((c : Thread nD τ).loc main_arg0)
abbrev aU : FVec Ideal S2048x512 .f32 := m ((c : Thread nD τ).loc main_arg1)
abbrev aSr : FVec Ideal S2048x32x64 .f32 := m ((c : Thread nD τ).loc main_arg2)
abbrev aSi : FVec Ideal S2048x32x64 .f32 := m ((c : Thread nD τ).loc main_arg3)
abbrev aBr : FVec Ideal S32x64x16 .f32 := m ((c : Thread nD τ).loc main_arg4)
abbrev aBi : FVec Ideal S32x64x16 .f32 := m ((c : Thread nD τ).loc main_arg5)
abbrev aCr : FVec Ideal S32x16x64 .f32 := m ((c : Thread nD τ).loc main_arg6)
abbrev aCi : FVec Ideal S32x16x64 .f32 := m ((c : Thread nD τ).loc main_arg7)
abbrev aLr : FVec Ideal S32x64 .f32 := m ((c : Thread nD τ).loc main_arg8)
abbrev aLi : FVec Ideal S32x64 .f32 := m ((c : Thread nD τ).loc main_arg9)

theorem v14_at (r : Fin 2048) (k : Fin 512) :
    ((V m c main_v14 : FVec Ideal S2048x512 .bf16) (ix2 r k) : EReal) = aDy m c (ix2 (time r) k) := by
  rw [v14_eq]
  exact chunked_at _ r k

theorem v10_at (s : Fin 2) (r k : Fin 2048) :
    ((V m c main_v10 : FVec Ideal S2x2048x2048 .f32) (ix3 s r k) : EReal) =
      if s = 0 then aSr m c (ix3 (time r) (grpS k) (staS k)) else aSi m c (ix3 (time r) (grpS k) (staS k)) := by
  rw [v10_eq]
  fin_cases s <;> pointwise <;> exact chunkedS_at _ _ r k

theorem v42_lo (p : Fin 512) (k : Fin 2048) :
    ((V m c main_v42 : FVec Ideal S1024x2048 .bf16) (ix2 ⟨p.val, by omega⟩ k) : EReal) = outer (aCr m c) (ix2 p k) := by
  rw [v42_eq]
  pointwise

theorem v42_hi (p : Fin 512) (k : Fin 2048) :
    ((V m c main_v42 : FVec Ideal S1024x2048 .bf16) (ix2 ⟨512 + p.val, by omega⟩ k) : EReal) =
      outer (Host.negf (F := Ideal) (aCi m c)) (ix2 p k) := by
  rw [v42_eq]
  pointwise

theorem v29_lo (p : Fin 2048) (k : Fin 512) :
    ((V m c main_v29 : FVec Ideal S4096x512 .bf16) (ix2 ⟨p.val, by omega⟩ k) : EReal) = inner (aBr m c) (ix2 p k) := by
  rw [v29_eq]
  pointwise

theorem v29_hi (p : Fin 2048) (k : Fin 512) :
    ((V m c main_v29 : FVec Ideal S4096x512 .bf16) (ix2 ⟨2048 + p.val, by omega⟩ k) : EReal) = inner (aBi m c) (ix2 p k) := by
  rw [v29_eq]
  pointwise

theorem v43_at (k : Fin 2048) :
    ((V m c main_v43 : FVec Ideal S1x2048 .f32) (ix2 0 k) : EReal) = aLr m c (ix2 (grpS k) (staS k)) := by
  rw [v43_eq]
  pointwise
  rfl

theorem v44_at (k : Fin 2048) :
    ((V m c main_v44 : FVec Ideal S1x2048 .f32) (ix2 0 k) : EReal) = aLi m c (ix2 (grpS k) (staS k)) := by
  rw [v44_eq]
  pointwise
  rfl

theorem blk0_at (t : Fin grid0.N) (r : Fin 2048) (k : Fin 128) :
    (iblk m c 0 t (ix2 r k) : EReal) = aDy m c (ix2 (time r) (chan t k)) := by
  rw [← v14_at]
  have := places t
  blk_ext [iblk, places t, chan]

theorem blk1_at (t : Fin grid0.N) (r : Fin 2048) (k : Fin 128) :
    (iblk m c 1 t (ix2 r k) : EReal) = aU m c (ix2 (time r) (chan t k)) := by
  rw [← chunked_at (aU m c), ← v17_eq]
  have := places t
  blk_ext [iblk, places t, chan]

theorem blk2_at (t : Fin grid0.N) (s : Fin 2) (r : Fin 2048) (k : Fin 512) :
    (iblk m c 2 t (ix3 s r k) : EReal) =
      if s = 0 then aSr m c (ix3 (time r) (grpS (lane t k)) (staS (lane t k)))
      else aSi m c (ix3 (time r) (grpS (lane t k)) (staS (lane t k))) := by
  rw [← v10_at]
  have := places t
  blk_ext [iblk, places t, lane]

theorem blk3_at (t : Fin grid0.N) (p : Fin 128) (k : Fin 512) :
    (iblk m c 3 t (ix2 p k) : EReal) = outer (aCr m c) (ix2 (chan t p) (lane t k)) := by
  rw [← v42_lo]
  have := places t
  blk_ext [iblk, places t, lane, chan]

theorem blk4_at (t : Fin grid0.N) (p : Fin 128) (k : Fin 512) :
    (iblk m c 4 t (ix2 p k) : EReal) = outer (Host.negf (F := Ideal) (aCi m c)) (ix2 (chan t p) (lane t k)) := by
  rw [← v42_hi]
  have := places t
  blk_ext [iblk, places t, lane, chan]

theorem blk5_at (t : Fin grid0.N) (k : Fin 512) (p : Fin 128) :
    (iblk m c 5 t (ix2 k p) : EReal) = inner (aBr m c) (ix2 (lane t k) (chan t p)) := by
  rw [← v29_lo]
  have := places t
  blk_ext [iblk, places t, lane, chan]

theorem blk6_at (t : Fin grid0.N) (k : Fin 512) (p : Fin 128) :
    (iblk m c 6 t (ix2 k p) : EReal) = inner (aBi m c) (ix2 (lane t k) (chan t p)) := by
  rw [← v29_hi]
  have := places t
  blk_ext [iblk, places t, lane, chan]

theorem blk7_at (t : Fin grid0.N) (k : Fin 512) :
    (iblk m c 7 t (ix2 0 k) : EReal) = aLr m c (ix2 (grpS (lane t k)) (staS (lane t k))) := by
  rw [← v43_at]
  have := places t
  blk_ext [iblk, places t, lane]

theorem blk8_at (t : Fin grid0.N) (k : Fin 512) :
    (iblk m c 8 t (ix2 0 k) : EReal) = aLi m c (ix2 (grpS (lane t k)) (staS (lane t k))) := by
  rw [← v44_at]
  have := places t
  blk_ext [iblk, places t, lane]

end Cert.KernelIdeal.Body

end
-- ==== Proof.Spec.lean ====
module

public import proofs.«01_k».proof.Proof.Adjoint
public import Idealize.ShloMosaic.Lib.Pointwise
public import Mathlib.Analysis.Complex.Basic
public import Mathlib.Data.Fintype.BigOperators

/-!
  The gradients of the diagonal recurrence as formulas in the arguments: the decay of a state, the drive of its
  adjoint (the cotangent of the outputs times the group's output matrix), the adjoint at a time, and the seven sums
  over times, states and channels which the results are. Both programs are read as these.
-/

@[expose] public section

noncomputable section

namespace Adjoint

open Idealize.ShloMosaic
open scoped ComplexConjugate

abbrev Rows := FVec Ideal (⟨2, ![2048, 512]⟩ : Shape) .f32
abbrev States := FVec Ideal (⟨3, ![2048, 32, 64]⟩ : Shape) .f32
abbrev Outer := FVec Ideal (⟨3, ![32, 16, 64]⟩ : Shape) .f32
abbrev Inner := FVec Ideal (⟨3, ![32, 64, 16]⟩ : Shape) .f32
abbrev Decay := FVec Ideal (⟨2, ![32, 64]⟩ : Shape) .f32

/-- Channel `j` of group `g` among the 512. -/
def chn (g : Fin 32) (j : Fin 16) : Fin 512 := ⟨16 * g.val + j.val, by omega⟩

/-- What the value claim assumes of the arguments: the entries the adjoint is made of are real numbers. -/
structure Finite (dy : Rows) (si : States) (cr ci : Outer) (lr li : Decay) : Prop where
  dy : ∀ i, dy i = ((dy i).toReal : EReal)
  si : ∀ i, si i = ((si i).toReal : EReal)
  cr : ∀ i, cr i = ((cr i).toReal : EReal)
  ci : ∀ i, ci i = ((ci i).toReal : EReal)
  lr : ∀ i, lr i = ((lr i).toReal : EReal)
  li : ∀ i, li i = ((li i).toReal : EReal)

/-- The decay of state `n` of group `g`. -/
def decay (lr li : Decay) (g : Fin 32) (n : Fin 64) : ℂ := ⟨(lr (ix2 g n)).toReal, (li (ix2 g n)).toReal⟩

/-- The drive of the adjoint at time `t`. -/
def drive (dy : Rows) (cr ci : Outer) (g : Fin 32) (n : Fin 64) (t : ℕ) : ℂ :=
  if h : t < 2048 then
    ⟨∑ j : Fin 16, (dy (ix2 ⟨t, h⟩ (chn g j))).toReal * (cr (ix3 g j n)).toReal,
      -∑ j : Fin 16, (dy (ix2 ⟨t, h⟩ (chn g j))).toReal * (ci (ix3 g j n)).toReal⟩
  else 0

/-- The adjoint at time `t`. -/
def adjoint (dy : Rows) (cr ci : Outer) (lr li : Decay) (t : Fin 2048) (g : Fin 32) (n : Fin 64) : ℂ :=
  back (conj (decay lr li g n)) (drive dy cr ci g n) 2048 (2048 - t)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_dot {n : ℕ} (f g : Fin n → EReal) (hf : ∀ i, f i = ((f i).toReal : EReal)) (hg : ∀ i, g i = ((g i).toReal : EReal)) :
    ((∑ j, (f j).toReal * (g j).toReal : ℝ) : EReal) = ∑ j, f j * g j := by
  rw [coe_sum]
  refine Finset.sum_congr rfl fun j _ => ?_
  rw [EReal.coe_mul, ← hf, ← hg]

variable {dy : Rows} {si : States} {cr ci : Outer} {lr li : Decay}

theorem drive_re (H : Finite dy si cr ci lr li) (g : Fin 32) (n : Fin 64) (t : Fin 2048) :
    ((drive dy cr ci g n t).re : EReal) = ∑ j : Fin 16, dy (ix2 t (chn g j)) * cr (ix3 g j n) := by
  rw [drive, dif_pos t.isLt]
  exact coe_dot (fun j => dy (ix2 t (chn g j))) (fun j => cr (ix3 g j n)) (fun _ => H.dy _) (fun _ => H.cr _)

theorem drive_im (H : Finite dy si cr ci lr li) (g : Fin 32) (n : Fin 64) (t : Fin 2048) :
    ((drive dy cr ci g n t).im : EReal) = -∑ j : Fin 16, dy (ix2 t (chn g j)) * ci (ix3 g j n) := by
  rw [drive, dif_pos t.isLt]
  have h := coe_dot (fun j => dy (ix2 t (chn g j))) (fun j => ci (ix3 g j n)) (fun _ => H.dy _) (fun _ => H.ci _)
  rw [← h]
  exact EReal.coe_neg _

theorem neg_dot {n : ℕ} (f g : Fin n → EReal) (hf : ∀ i, f i = ((f i).toReal : EReal)) (hg : ∀ i, g i = ((g i).toReal : EReal)) :
    ∑ j, f j * -g j = -∑ j, f j * g j := by
  obtain ⟨a, rfl⟩ : ∃ a : Fin n → ℝ, f = fun i => (a i : EReal) := ⟨_, funext hf⟩
  obtain ⟨b, rfl⟩ : ∃ b : Fin n → ℝ, g = fun i => (b i : EReal) := ⟨_, funext hg⟩
  simp only [← EReal.coe_neg, ← EReal.coe_mul, ← coe_sum, mul_neg, Finset.sum_neg_distrib]

/-- The adjoint's own equation: the last time's is its drive, and each time's is its drive plus the conjugate decay times the next's. -/
theorem adjoint_last (h : (2047 : ℕ) < 2048) (g : Fin 32) (n : Fin 64) :
    adjoint dy cr ci lr li ⟨2047, h⟩ g n = drive dy cr ci g n 2047 := by
  simp [adjoint, back]

/-- The gradient of the decay's real part. -/
def dLr (dy : Rows) (sr si : States) (cr ci : Outer) (lr li : Decay) (g : Fin 32) (n : Fin 64) : EReal :=
  ∑ t : Fin 2048, (((adjoint dy cr ci lr li t g n).re : EReal) * (if h : t.val = 0 then 0 else sr (ix3 ⟨t.val - 1, by omega⟩ g n))
    + ((adjoint dy cr ci lr li t g n).im : EReal) * (if h : t.val = 0 then 0 else si (ix3 ⟨t.val - 1, by omega⟩ g n)))

/-- The gradient of the decay's imaginary part. -/
def dLi (dy : Rows) (sr si : States) (cr ci : Outer) (lr li : Decay) (g : Fin 32) (n : Fin 64) : EReal :=
  ∑ t : Fin 2048, (((adjoint dy cr ci lr li t g n).im : EReal) * (if h : t.val = 0 then 0 else sr (ix3 ⟨t.val - 1, by omega⟩ g n))
    - ((adjoint dy cr ci lr li t g n).re : EReal) * (if h : t.val = 0 then 0 else si (ix3 ⟨t.val - 1, by omega⟩ g n)))

/-- The gradients of the input matrices. -/
def dBr (dy u : Rows) (cr ci : Outer) (lr li : Decay) (g : Fin 32) (n : Fin 64) (j : Fin 16) : EReal :=
  ∑ t : Fin 2048, ((adjoint dy cr ci lr li t g n).re : EReal) * u (ix2 t (chn g j))

def dBi (dy u : Rows) (cr ci : Outer) (lr li : Decay) (g : Fin 32) (n : Fin 64) (j : Fin 16) : EReal :=
  ∑ t : Fin 2048, ((adjoint dy cr ci lr li t g n).im : EReal) * u (ix2 t (chn g j))

/-- The gradients of the output matrices, the imaginary one up to its sign. -/
def dC (dy : Rows) (s : States) (g : Fin 32) (j : Fin 16) (n : Fin 64) : EReal :=
  ∑ t : Fin 2048, dy (ix2 t (chn g j)) * s (ix3 t g n)

/-- The gradient of the inputs. -/
def dU (dy : Rows) (br bi : Inner) (cr ci : Outer) (lr li : Decay) (t : Fin 2048) (g : Fin 32) (j : Fin 16) : EReal :=
  (∑ n : Fin 64, ((adjoint dy cr ci lr li t g n).re : EReal) * br (ix3 g n j))
    + ∑ n : Fin 64, ((adjoint dy cr ci lr li t g n).im : EReal) * bi (ix3 g n j)

/-- A sum over lanes in which one group's lanes alone count. -/
theorem sum_lanes (m a b : ℕ) (q : ℕ) (hq : q < a) (hm : m = a * b) (F : Fin m → EReal) (hF : ∀ k : Fin m, k.val / b ≠ q → F k = 0) :
    ∑ k : Fin m, F k = ∑ j : Fin b, F ⟨b * q + j.val, by
      subst hm
      calc b * q + j.val < b * q + b := by omega
        _ = b * (q + 1) := by ring
        _ ≤ b * a := Nat.mul_le_mul_left _ hq
        _ = a * b := by ring⟩ := by
  symm
  refine Fintype.sum_of_injective _ (fun j j' h => ?_) _ _ (fun k hk => ?_) (fun _ => rfl)
  · exact Fin.ext (by simpa using congrArg Fin.val h)
  · refine hF k fun e => hk ⟨⟨k.val % b, Nat.mod_lt _ ?_⟩, Fin.ext ?_⟩
    · rcases Nat.eq_zero_or_pos b with h | h
      · subst h; exact absurd k.isLt (by omega)
      · exact h
    · simp only
      rw [← e]
      exact Nat.div_add_mod _ _

end Adjoint

end
-- ==== Proof.Drive.lean ====
module

public import proofs.«01_k».proof.Proof.Outs
public import proofs.«01_k».proof.Proof.Blocks
public import proofs.«01_k».proof.Proof.Spec

@[expose] public section

set_option maxRecDepth 8192

noncomputable section

namespace Cert.KernelIdeal.Body

open Idealize.ShloMosaic Idealize.ShloMosaic.TcCoe Idealize.SL.Sem
open Cert.KernelIdeal Cert.KernelIdeal.Gen
open scoped ComplexConjugate
open Adjoint

variable (m : (ℓ : Loc nD τ sig) → Buf (Elt Ideal) ℓ) (c : Dev nD)

/-- What is assumed of the arguments at a device. -/
abbrev FinAt : Prop := Adjoint.Finite (aDy m c) (aSi m c) (aCr m c) (aCi m c) (aLr m c) (aLi m c)

/-- The decays of a block's lanes. -/
def lamB (t : Fin grid0.N) (l : ℕ) : ℂ := if h : l < 512 then decay (aLr m c) (aLi m c) (grpS (lane t ⟨l, h⟩)) (staS (lane t ⟨l, h⟩)) else 0

/-- The drive of a block's lanes, its rows in the order of the chunks. -/
def drvB (t : Fin grid0.N) (r l : ℕ) : ℂ :=
  if h : l < 512 then drive (aDy m c) (aCr m c) (aCi m c) (grpS (lane t ⟨l, h⟩)) (staS (lane t ⟨l, h⟩)) (256 * (r % 8) + r / 8) else 0

/-- The adjoint of a block's lane. -/
abbrev adjB (t : Fin grid0.N) (τ : Fin 2048) (l : Fin 512) : ℂ :=
  adjoint (aDy m c) (aCr m c) (aCi m c) (aLr m c) (aLi m c) τ (grpS (lane t l)) (staS (lane t l))

theorem adj_eq (t : Fin grid0.N) (r : Fin 2048) (l : Fin 512) :
    adj (lamB m c t) (drvB m c t) (256 * (r.val % 8) + r.val / 8) l = adjB m c t (time r) l := by
  unfold adj adjB adjoint
  rw [lamB, dif_pos l.isLt]
  refine back_congr _ _ _ _ (fun s hs => ?_) _ (by omega)
  have e : 256 * ((8 * (s % 256) + s / 256) % 8) + (8 * (s % 256) + s / 256) / 8 = s := by omega
  rw [drvB, dif_pos l.isLt, e]

variable {m c} in
theorem lam_rep (H : FinAt m c) (t : Fin grid0.N) : RepR (iblk m c 7 t) (iblk m c 8 t) (lamB m c t) := by
  intro l
  rw [blk7_at, blk8_at, lamB, dif_pos l.isLt]
  exact ⟨H.lr _, H.li _⟩

/-- A product with the diagonal array of output matrices over the block's channels is the group's product. -/
theorem outer_sum (f : Fin 512 → EReal) (x : FVec Ideal S32x16x64 .f32) (t : Fin grid0.N) (l : Fin 512) :
    ∑ k : Fin 128, f (chan t k) * (outer x (ix2 (chan t k) (lane t l)) : EReal)
      = ∑ j : Fin 16, f (chn (grpS (lane t l)) j) * (x (ix3 (grpS (lane t l)) j (staS (lane t l))) : EReal) := by
  have ht := four t
  rw [sum_lanes 128 8 16 (l.val / 64) (by omega) rfl]
  · refine Finset.sum_congr rfl fun j _ => ?_
    have e : chan t ⟨16 * (l.val / 64) + j.val, by omega⟩ = chn (grpS (lane t l)) j :=
      Fin.ext (by simp only [chan, chn, grpS, lane]; omega)
    rw [e, outer_at, if_pos (by simp only [chn, grpS, lane]; omega)]
    congr 3
    · exact Fin.ext (by simp only [chn, grpS, lane]; omega)
    · exact Fin.ext (by simp only [chn]; omega)
  · intro k hk
    rw [outer_at, if_neg (by simp only [chan, lane]; omega), mul_zero]

/-- A product with the diagonal array of input matrices over the block's states is the group's product. -/
theorem inner_sum (f : Fin 2048 → EReal) (x : FVec Ideal S32x64x16 .f32) (t : Fin grid0.N) (b : Fin 128) :
    ∑ k : Fin 512, f (lane t k) * (inner x (ix2 (lane t k) (chan t b)) : EReal)
      = ∑ n : Fin 64, f ⟨64 * (grpC (chan t b)).val + n.val, by omega⟩ * (x (ix3 (grpC (chan t b)) n (chnC (chan t b))) : EReal) := by
  have ht := four t
  rw [sum_lanes 512 8 64 (b.val / 16) (by omega) rfl]
  · refine Finset.sum_congr rfl fun j _ => ?_
    have e : lane t ⟨64 * (b.val / 16) + j.val, by omega⟩ = ⟨64 * (grpC (chan t b)).val + j.val, by omega⟩ :=
      Fin.ext (by simp only [chan, grpC, lane]; omega)
    rw [e, inner_at, if_pos (by simp only [chan, grpC]; omega)]
    congr 3
    · exact Fin.ext (by simp only [chan, grpC]; omega)
    · exact Fin.ext (by simp only []; omega)
  · intro k hk
    rw [inner_at, if_neg (by simp only [chan, lane]; omega), mul_zero]

variable {m c} in
theorem drv_rep (H : FinAt m c) (t : Fin grid0.N) :
    RepS (k0_pay4 (F := Ideal) (iblk m c 0 t) (iblk m c 3 t)) (k0_pay5 (F := Ideal) (iblk m c 0 t) (iblk m c 4 t)) (drvB m c t) := by
  intro r l
  have h1 := drive_re H (grpS (lane t l)) (staS (lane t l)) (time r)
  have h2 := drive_im H (grpS (lane t l)) (staS (lane t l)) (time r)
  rw [pay4_at, pay5_at, drvB, dif_pos l.isLt]
  refine ⟨(?_ : _ = _).trans h1.symm, (?_ : _ = _).trans h2.symm⟩
  · simp only [blk0_at, blk3_at]
    exact outer_sum (fun k => aDy m c (ix2 (time r) k)) _ t l
  · simp only [blk0_at, blk4_at]
    refine (outer_sum (fun k => aDy m c (ix2 (time r) k)) _ t l).trans ?_
    exact neg_dot (fun j => aDy m c (ix2 (time r) (chn (grpS (lane t l)) j))) (fun j => aCi m c (ix3 (grpS (lane t l)) j (staS (lane t l)))) (fun _ => H.dy _) (fun _ => H.ci _)

theorem time_bij : Function.Bijective time := by
  refine (Finite.injective_iff_bijective).1 fun a b h => ?_
  have := congrArg Fin.val h
  simp only [time] at this
  exact Fin.ext (by omega)

theorem sum_time (f : Fin 2048 → EReal) : ∑ r, f (time r) = ∑ t, f t := time_bij.sum_comp f

/-- The states one time earlier, nothing before the first. -/
theorem prev_time (t : Fin grid0.N) (s : Fin 2) (r : Fin 2048) (l : Fin 512) :
    prev (iblk m c 2 t) s r l = if h : (time r).val = 0 then 0 else
      (if s = 0 then aSr m c else aSi m c) (ix3 ⟨(time r).val - 1, by omega⟩ (grpS (lane t l)) (staS (lane t l))) := by
  have e : (time r).val = 0 ↔ r.val = 0 := by simp only [time]; omega
  unfold prev
  by_cases h0 : r.val = 0
  · rw [if_pos h0, dif_pos (e.2 h0)]
  · rw [if_neg h0, dif_neg (fun q => h0 (e.1 q))]
    split_ifs with h hs hs <;> rw [blk2_at] <;> simp only [hs, if_true, if_false] <;> congr 2 <;>
      exact Fin.ext (by simp only [time]; omega)

end Cert.KernelIdeal.Body

end
-- ==== Proof.Arrays.lean ====
module

public import proofs.«01_k».proof.Proof.Drive

@[expose] public section

set_option maxRecDepth 8192

noncomputable section

namespace Cert.KernelIdeal.Body

open Idealize.ShloMosaic Idealize.ShloMosaic.TcCoe Idealize.SL.Sem
open Cert.KernelIdeal Cert.KernelIdeal.Gen
open scoped ComplexConjugate
open Adjoint

variable {m : (ℓ : Loc nD τ sig) → Buf (Elt Ideal) ℓ} {c : Dev nD}

/-- The scratch of a point holds the adjoint of the block's lanes. -/
theorem scratch_at (H : FinAt m c) (t : Fin grid0.N) (r : Fin 2048) (l : Fin 512) :
    (kernelRun0_A.sl.v222 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 3 t) (iblk m c 4 t) (iblk m c 7 t) (iblk m c 8 t) (ix2 r l) : EReal) = ((adjB m c t (time r) l).re : EReal)
      ∧ (kernelRun0_A.sl.v223 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 3 t) (iblk m c 4 t) (iblk m c 7 t) (iblk m c 8 t) (ix2 r l) : EReal) = ((adjB m c t (time r) l).im : EReal) := by
  have h := rep_adj c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 3 t) (iblk m c 4 t) (iblk m c 7 t) (iblk m c 8 t) (lam_rep H t) (drv_rep H t) r l
  rw [h.1, h.2, ← adj_eq]
  exact ⟨rfl, rfl⟩

theorem after9_at (H : FinAt m c) (t : Fin grid0.N) (l : Fin 512) :
    ((outsAt0 m c t).1 (ix2 0 l) : EReal) = dLr (aDy m c) (aSr m c) (aSi m c) (aCr m c) (aCi m c) (aLr m c) (aLi m c) (grpS (lane t l)) (staS (lane t l)) := by
  unfold outsAt0
  dsimp only
  rw [out9_at, dLr]
  refine Eq.trans (Finset.sum_congr rfl fun r _ => ?_) (sum_time _)
  rw [prev_time, prev_time, (scratch_at H t r l).1, (scratch_at H t r l).2]
  rfl

theorem after10_at (H : FinAt m c) (t : Fin grid0.N) (l : Fin 512) :
    ((outsAt0 m c t).2.1 (ix2 0 l) : EReal) = dLi (aDy m c) (aSr m c) (aSi m c) (aCr m c) (aCi m c) (aLr m c) (aLi m c) (grpS (lane t l)) (staS (lane t l)) := by
  unfold outsAt0
  dsimp only
  rw [out10_at, dLi]
  refine Eq.trans (Finset.sum_congr rfl fun r _ => ?_) (sum_time _)
  rw [prev_time, prev_time, (scratch_at H t r l).1, (scratch_at H t r l).2]
  rfl

theorem chn_eq (p : Fin 512) : chn (grpC p) (chnC p) = p := Fin.ext (by simp only [chn, grpC, chnC]; omega)

/-- The products of the states' adjoints with the inputs, any state against any channel. -/
def prodB (s : Fin 2) (a : Fin 2048) (b : Fin 512) : EReal :=
  if s = 0 then ∑ τ : Fin 2048, ((adjoint (aDy m c) (aCr m c) (aCi m c) (aLr m c) (aLi m c) τ (grpS a) (staS a)).re : EReal) * aU m c (ix2 τ b)
  else ∑ τ : Fin 2048, ((adjoint (aDy m c) (aCr m c) (aCi m c) (aLr m c) (aLi m c) τ (grpS a) (staS a)).im : EReal) * aU m c (ix2 τ b)

/-- The products of the outputs' cotangents with the states, any channel against any state. -/
def prodC (s : Fin 2) (b : Fin 512) (a : Fin 2048) : EReal :=
  ∑ τ : Fin 2048, aDy m c (ix2 τ b) * (if s = 0 then aSr m c else aSi m c) (ix3 τ (grpS a) (staS a))

theorem after11_at (H : FinAt m c) (t : Fin grid0.N) (s : Fin 2) (a : Fin 512) (b : Fin 128) :
    ((outsAt0 m c t).2.2.1 (ix3 s a b) : EReal) = prodB (m := m) (c := c) s (lane t a) (chan t b) := by
  unfold outsAt0
  dsimp only
  rw [out11_at, prodB]
  split_ifs
  · refine Eq.trans (Finset.sum_congr rfl fun r _ => ?_) (sum_time _)
    rw [(scratch_at H t r a).1, blk1_at]
  · refine Eq.trans (Finset.sum_congr rfl fun r _ => ?_) (sum_time _)
    rw [(scratch_at H t r a).2, blk1_at]

theorem after12_at (t : Fin grid0.N) (s : Fin 2) (a : Fin 128) (b : Fin 512) :
    ((outsAt0 m c t).2.2.2.1 (ix3 s a b) : EReal) = prodC (m := m) (c := c) s (chan t a) (lane t b) := by
  unfold outsAt0
  dsimp only
  rw [out12_at, prodC]
  refine Eq.trans (Finset.sum_congr rfl fun r _ => ?_) (sum_time _)
  rw [blk0_at, blk2_at]
  split_ifs <;> rfl

theorem after13_at (H : FinAt m c) (t : Fin grid0.N) (r : Fin 2048) (b : Fin 128) :
    ((outsAt0 m c t).2.2.2.2 (ix2 r b) : EReal) =
      dU (aDy m c) (aBr m c) (aBi m c) (aCr m c) (aCi m c) (aLr m c) (aLi m c) (time r) (grpC (chan t b)) (chnC (chan t b)) := by
  unfold outsAt0
  dsimp only
  rw [out13_at, dU]
  have e (n : Fin 64) (q) : grpS ⟨64 * (grpC (chan t b)).val + n.val, q⟩ = grpC (chan t b) := Fin.ext (by simp only [grpS]; omega)
  have e' (n : Fin 64) (q) : staS ⟨64 * (grpC (chan t b)).val + n.val, q⟩ = n := Fin.ext (by simp only [staS]; omega)
  congr 1
  · simp only [(scratch_at H t r _).1, blk5_at]
    refine (inner_sum (fun k => ((adjoint (aDy m c) (aCr m c) (aCi m c) (aLr m c) (aLi m c) (time r) (grpS k) (staS k)).re : EReal)) _ t b).trans ?_
    simp only [e, e']
  · simp only [(scratch_at H t r _).2, blk6_at]
    refine (inner_sum (fun k => ((adjoint (aDy m c) (aCr m c) (aCi m c) (aLr m c) (aLi m c) (time r) (grpS k) (staS k)).im : EReal)) _ t b).trans ?_
    simp only [e, e']

theorem places' : ∀ t : Fin grid0.N, win0_9.index t = ![0, t.val] ∧ win0_10.index t = ![0, t.val] ∧
    win0_11.index t = ![0, t.val, t.val] ∧ win0_12.index t = ![0, t.val, t.val] ∧ win0_13.index t = ![0, t.val] := by decide +kernel

theorem arr9 (H : FinAt m c) : (dats m 0 c).arrAt 9 (cfgs 0).N = fun i : S1x2048.Idx =>
    dLr (aDy m c) (aSr m c) (aSi m c) (aCr m c) (aCi m c) (aLr m c) (aLi m c) (grpS (i 1)) (staS (i 1)) := by
  refine (dats m 0 c).arrAt_eq_of_covers 9 _ (by decide +kernel) fun t hf y => ?_
  blk_simp
  rw [after0_9]
  idx_vars y
  obtain rfl : y0 = 0 := Subsingleton.elim _ _
  have e : (win0_9.blk t).view.emb (ix2 0 y1) 1 = lane t y1 := by
    refine Fin.ext ?_
    blk_simp [places' t, lane]
    exact congrArg (· + _) (Nat.mul_comm _ _)
  exact (after9_at H t y1).trans (by rw [← e])

theorem arr10 (H : FinAt m c) : (dats m 0 c).arrAt 10 (cfgs 0).N = fun i : S1x2048.Idx =>
    dLi (aDy m c) (aSr m c) (aSi m c) (aCr m c) (aCi m c) (aLr m c) (aLi m c) (grpS (i 1)) (staS (i 1)) := by
  refine (dats m 0 c).arrAt_eq_of_covers 10 _ (by decide +kernel) fun t hf y => ?_
  blk_simp
  rw [after0_10]
  idx_vars y
  obtain rfl : y0 = 0 := Subsingleton.elim _ _
  have e : (win0_10.blk t).view.emb (ix2 0 y1) 1 = lane t y1 := by
    refine Fin.ext ?_
    blk_simp [places' t, lane]
    exact congrArg (· + _) (Nat.mul_comm _ _)
  exact (after10_at H t y1).trans (by rw [← e])

theorem arr13 (H : FinAt m c) : (dats m 0 c).arrAt 13 (cfgs 0).N = fun i : S2048x512.Idx =>
    dU (aDy m c) (aBr m c) (aBi m c) (aCr m c) (aCi m c) (aLr m c) (aLi m c) (time (i 0)) (grpC (i 1)) (chnC (i 1)) := by
  refine (dats m 0 c).arrAt_eq_of_covers 13 _ (by decide +kernel) fun t hf y => ?_
  blk_simp
  rw [after0_13]
  idx_vars y
  have e0 : (win0_13.blk t).view.emb (ix2 y0 y1) 0 = y0 := by
    refine Fin.ext ?_
    blk_simp [places' t]
  have e : (win0_13.blk t).view.emb (ix2 y0 y1) 1 = chan t y1 := by
    refine Fin.ext ?_
    blk_simp [places' t, chan]
    exact congrArg (· + _) (Nat.mul_comm _ _)
  refine (after13_at H t y0 y1).trans ?_
  rw [← e]
  exact congrArg (fun z => dU (aDy m c) (aBr m c) (aBi m c) (aCr m c) (aCi m c) (aLr m c) (aLi m c) (time z) _ _) e0.symm

/-- What the third output array holds: the blocks on its diagonal are written. -/
theorem arr11 (H : FinAt m c) : (dats m 0 c).arrAt 11 (cfgs 0).N = fun i : S2x2048x512.Idx =>
    if (i 1).val / 512 = (i 2).val / 128 then prodB (m := m) (c := c) (i 0) (i 1) (i 2) else (dats m 0 c).A 11 i := by
  refine (dats m 0 c).arrAt_eq_of_coversWhere 11 _ (fun β => β (1 : Fin 3) = β (2 : Fin 3)) (by decide +kernel) (fun t hf y => ?_) (fun j => Iff.rfl)
  blk_simp
  rw [after0_11]
  idx_vars y
  have e0 : (win0_11.blk t).view.emb (ix3 y0 y1 y2) 0 = y0 := by
    refine Fin.ext ?_
    blk_simp [places' t]
  have e1 : (win0_11.blk t).view.emb (ix3 y0 y1 y2) 1 = lane t y1 := by
    refine Fin.ext ?_
    blk_simp [places' t, lane]
    exact congrArg (· + _) (Nat.mul_comm _ _)
  have e2 : (win0_11.blk t).view.emb (ix3 y0 y1 y2) 2 = chan t y2 := by
    refine Fin.ext ?_
    blk_simp [places' t, chan]
    exact congrArg (· + _) (Nat.mul_comm _ _)
  refine (after11_at H t y0 y1 y2).trans ?_
  rw [← e1, ← e2]
  exact congrArg (fun z => prodB (m := m) (c := c) z _ _) e0.symm

/-- What the fourth output array holds: the blocks on its diagonal are written. -/
theorem arr12 : (dats m 0 c).arrAt 12 (cfgs 0).N = fun i : S2x512x2048.Idx =>
    if (i 1).val / 128 = (i 2).val / 512 then prodC (m := m) (c := c) (i 0) (i 1) (i 2) else (dats m 0 c).A 12 i := by
  refine (dats m 0 c).arrAt_eq_of_coversWhere 12 _ (fun β => β (1 : Fin 3) = β (2 : Fin 3)) (by decide +kernel) (fun t hf y => ?_) (fun j => Iff.rfl)
  blk_simp
  rw [after0_12]
  idx_vars y
  have e0 : (win0_12.blk t).view.emb (ix3 y0 y1 y2) 0 = y0 := by
    refine Fin.ext ?_
    blk_simp [places' t]
  have e1 : (win0_12.blk t).view.emb (ix3 y0 y1 y2) 1 = chan t y1 := by
    refine Fin.ext ?_
    blk_simp [places' t, chan]
    exact congrArg (· + _) (Nat.mul_comm _ _)
  have e2 : (win0_12.blk t).view.emb (ix3 y0 y1 y2) 2 = lane t y2 := by
    refine Fin.ext ?_
    blk_simp [places' t, lane]
    exact congrArg (· + _) (Nat.mul_comm _ _)
  refine (after12_at t y0 y1 y2).trans ?_
  rw [← e1, ← e2]
  exact congrArg (fun z => prodC (m := m) (c := c) z _ _) e0.symm

end Cert.KernelIdeal.Body

end
-- ==== Proof.Tail.lean ====
module

public import proofs.«01_k».proof.Proof.Arrays
public import Idealize.ShloMosaic.Lib.Pointwise

@[expose] public section

set_option maxRecDepth 8192

noncomputable section

namespace Cert.KernelIdeal.Body

open Idealize.ShloMosaic Idealize.ShloMosaic.TcCoe Idealize.SL.Sem
open Cert.KernelIdeal Cert.KernelIdeal.Gen
open scoped ComplexConjugate
open Adjoint

/-- The diagonal groups of the products with the inputs. -/
def diagB (x : FVec Ideal S2x2048x512 .f32) : FVec Ideal S2x32x64x16 .f32 :=
  Host.reduceAdd
    (select
      (broadcastInDim S2x32x64x32x16 ![0, 1, 2, 3, 4] bcast_S1x32x1x32x1_S2x32x64x32x16_0_1_2_3_4
        (cmpi .eq (iotaInDim S1x32x1x32x1 32 1) (iotaInDim S1x32x1x32x1 32 3)))
      (shapeCast S2x32x64x32x16 x shapeCasts_S2x2048x512_S2x32x64x32x16)
      (broadcastInDim S2x32x64x32x16 ![] bcast_S_S2x32x64x32x16 (constant (F := Ideal) S_ .f32 0x00000000#32)))
    (constant (F := Ideal) S_ .f32 0x00000000#32) reducesTo_S2x32x64x32x16_S2x32x64x16_d3 h_S_

/-- The diagonal groups of the products with the states. -/
def diagC (x : FVec Ideal S2x512x2048 .f32) : FVec Ideal S2x32x16x64 .f32 :=
  Host.reduceAdd
    (select
      (broadcastInDim S2x32x16x32x64 ![0, 1, 2, 3, 4] bcast_S1x32x1x32x1_S2x32x16x32x64_0_1_2_3_4
        (cmpi .eq (iotaInDim S1x32x1x32x1 32 1) (iotaInDim S1x32x1x32x1 32 3)))
      (shapeCast S2x32x16x32x64 x shapeCasts_S2x512x2048_S2x32x16x32x64)
      (broadcastInDim S2x32x16x32x64 ![] bcast_S_S2x32x16x32x64 (constant (F := Ideal) S_ .f32 0x00000000#32)))
    (constant (F := Ideal) S_ .f32 0x00000000#32) reducesTo_S2x32x16x32x64_S2x32x16x64_d3 h_S_

theorem diagB_at (x : FVec Ideal S2x2048x512 .f32) (s : Fin 2) (g : Fin 32) (n : Fin 64) (j : Fin 16) :
    (diagB x (ix4 s g n j) : EReal) = x (ix3 s ⟨64 * g.val + n.val, by omega⟩ (chn g j)) := by
  pointwise [diagB]
  refine (Finset.sum_congr rfl fun h _ => select_eq_nat _ _ (by omega) (by omega) _ _).trans ?_
  rw [Finset.sum_eq_single g (fun h _ hne => if_neg fun e => hne (Fin.ext e.symm)) (fun h => absurd (Finset.mem_univ _) h), if_pos rfl]
  simp only [chn, Nat.mul_comm]

theorem diagC_at (x : FVec Ideal S2x512x2048 .f32) (s : Fin 2) (g : Fin 32) (j : Fin 16) (n : Fin 64) :
    (diagC x (ix4 s g j n) : EReal) = x (ix3 s (chn g j) ⟨64 * g.val + n.val, by omega⟩) := by
  pointwise [diagC]
  refine (Finset.sum_congr rfl fun h _ => select_eq_nat _ _ (by omega) (by omega) _ _).trans ?_
  rw [Finset.sum_eq_single g (fun h _ hne => if_neg fun e => hne (Fin.ext e.symm)) (fun h => absurd (Finset.mem_univ _) h), if_pos rfl]
  simp only [chn, Nat.mul_comm]

section
variable (W : Valuation τ sig (Elt Ideal))

abbrev tailOps : List (HloOp τ sig (Elt Ideal)) := [hostOps1, hostOps1_1, hostOps1_2, hostOps1_3, hostOps1_4].flatten

theorem tail58 : (StableHlo.after tailOps W (Proc.devRef .tc main_v58) : FVec Ideal S32x64 .f32)
    = shapeCast (s := S1x2048) S32x64 (W (Proc.devRef .tc main_v45_0)) shapeCasts_S1x2048_S32x64 := by
  unfold tailOps
  simp only [List.flatten_cons, List.flatten_nil, List.append_nil, List.cons_append, List.nil_append]
  after_results_simp
  rfl

theorem tail59 : (StableHlo.after tailOps W (Proc.devRef .tc main_v59) : FVec Ideal S32x64 .f32)
    = shapeCast (s := S1x2048) S32x64 (W (Proc.devRef .tc main_v45_1)) shapeCasts_S1x2048_S32x64 := by
  unfold tailOps
  simp only [List.flatten_cons, List.flatten_nil, List.append_nil, List.cons_append, List.nil_append]
  after_results_simp
  rfl

theorem tail61 : (StableHlo.after tailOps W (Proc.devRef .tc main_v61) : FVec Ideal S32x64x16 .f32)
    = shapeCast S32x64x16 (extractStridedSlice S1x32x64x16 ![0, 0, 0, 0] (diagB (W (Proc.devRef .tc main_v45_2))) slices_S2x32x64x16_S1x32x64x16_0_0_0_0) shapeCasts_S1x32x64x16_S32x64x16 := by
  unfold tailOps
  simp only [List.flatten_cons, List.flatten_nil, List.append_nil, List.cons_append, List.nil_append]
  after_results_simp
  rfl

theorem tail63 : (StableHlo.after tailOps W (Proc.devRef .tc main_v63) : FVec Ideal S32x64x16 .f32)
    = shapeCast S32x64x16 (extractStridedSlice S1x32x64x16 ![1, 0, 0, 0] (diagB (W (Proc.devRef .tc main_v45_2))) slices_S2x32x64x16_S1x32x64x16_1_0_0_0) shapeCasts_S1x32x64x16_S32x64x16 := by
  unfold tailOps
  simp only [List.flatten_cons, List.flatten_nil, List.append_nil, List.cons_append, List.nil_append]
  after_results_simp
  rfl

theorem tail65 : (StableHlo.after tailOps W (Proc.devRef .tc main_v65) : FVec Ideal S32x16x64 .f32)
    = shapeCast S32x16x64 (extractStridedSlice S1x32x16x64 ![0, 0, 0, 0] (diagC (W (Proc.devRef .tc main_v45_3))) slices_S2x32x16x64_S1x32x16x64_0_0_0_0) shapeCasts_S1x32x16x64_S32x16x64 := by
  unfold tailOps
  simp only [List.flatten_cons, List.flatten_nil, List.append_nil, List.cons_append, List.nil_append]
  after_results_simp
  rfl

theorem tail68 : (StableHlo.after tailOps W (Proc.devRef .tc main_v68) : FVec Ideal S32x16x64 .f32)
    = Host.negf (shapeCast S32x16x64 (extractStridedSlice S1x32x16x64 ![1, 0, 0, 0] (diagC (W (Proc.devRef .tc main_v45_3))) slices_S2x32x16x64_S1x32x16x64_1_0_0_0) shapeCasts_S1x32x16x64_S32x16x64) := by
  unfold tailOps
  simp only [List.flatten_cons, List.flatten_nil, List.append_nil, List.cons_append, List.nil_append]
  after_results_simp
  rfl

theorem tail71 : (StableHlo.after tailOps W (Proc.devRef .tc main_v71) : FVec Ideal S2048x512 .f32)
    = shapeCast S2048x512 (transpose S8x256x512 [1, 0, 2] (shapeCast (s := S2048x512) S256x8x512 (W (Proc.devRef .tc main_v45_4)) shapeCasts_S2048x512_S256x8x512) transposes_S256x8x512_S8x256x512_1_0_2) shapeCasts_S8x256x512_S2048x512 := by
  unfold tailOps
  simp only [List.flatten_cons, List.flatten_nil, List.append_nil, List.cons_append, List.nil_append]
  after_results_simp
  rfl

end

variable {m : (ℓ : Loc nD τ sig) → Buf (Elt Ideal) ℓ} {c : Dev nD}

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1, hostOps1_1, hostOps1_2, hostOps1_3, hostOps1_4] c b

theorem grpS_mk (g : Fin 32) (n : Fin 64) (h) : grpS ⟨g.val * 64 + n.val, h⟩ = g := Fin.ext (by simp only [grpS]; omega)
theorem staS_mk (g : Fin 32) (n : Fin 64) (h) : staS ⟨g.val * 64 + n.val, h⟩ = n := Fin.ext (by simp only [staS]; omega)
theorem grpS_mk' (g : Fin 32) (n : Fin 64) (h) : grpS ⟨64 * g.val + n.val, h⟩ = g := Fin.ext (by simp only [grpS]; omega)
theorem staS_mk' (g : Fin 32) (n : Fin 64) (h) : staS ⟨64 * g.val + n.val, h⟩ = n := Fin.ext (by simp only [staS]; omega)
theorem time_mk (t : Fin 2048) (h) : time ⟨t.val % 256 * 8 + t.val / 256, h⟩ = t := Fin.ext (by simp only [time]; omega)

theorem value58 (H : FinAt m c) : endOf m c main_v58 = fun i : S32x64.Idx => dLr (aDy m c) (aSr m c) (aSi m c) (aCr m c) (aCi m c) (aLr m c) (aLi m c) (i 0) (i 1) := by
  refine (tail58 (after0 m c)).trans ?_
  rw [show after0 m c (Proc.devRef .tc main_v45_0) = _ from (left 9).trans (arr9 H)]
  funext i
  idx_vars i
  pointwise
  rw [grpS_mk, staS_mk]

theorem value59 (H : FinAt m c) : endOf m c main_v59 = fun i : S32x64.Idx => dLi (aDy m c) (aSr m c) (aSi m c) (aCr m c) (aCi m c) (aLr m c) (aLi m c) (i 0) (i 1) := by
  refine (tail59 (after0 m c)).trans ?_
  rw [show after0 m c (Proc.devRef .tc main_v45_1) = _ from (left 10).trans (arr10 H)]
  funext i
  idx_vars i
  pointwise
  rw [grpS_mk, staS_mk]

theorem value61 (H : FinAt m c) : endOf m c main_v61 = fun i : S32x64x16.Idx => dBr (aDy m c) (aU m c) (aCr m c) (aCi m c) (aLr m c) (aLi m c) (i 0) (i 1) (i 2) := by
  refine (tail61 (after0 m c)).trans ?_
  rw [show after0 m c (Proc.devRef .tc main_v45_2) = _ from (left 11).trans (arr11 H)]
  funext i
  idx_vars i
  pointwise
  rw [diagB_at]
  refine (if_pos (show (64 * i0.val + i1.val) / 512 = (16 * i0.val + i2.val) / 128 by omega)).trans ?_
  refine (if_pos rfl : prodB (m := m) (c := c) 0 ⟨64 * i0.val + i1.val, by omega⟩ (chn i0 i2) = _).trans ?_
  simp only [grpS_mk', staS_mk']
  rfl

theorem value63 (H : FinAt m c) : endOf m c main_v63 = fun i : S32x64x16.Idx => dBi (aDy m c) (aU m c) (aCr m c) (aCi m c) (aLr m c) (aLi m c) (i 0) (i 1) (i 2) := by
  refine (tail63 (after0 m c)).trans ?_
  rw [show after0 m c (Proc.devRef .tc main_v45_2) = _ from (left 11).trans (arr11 H)]
  funext i
  idx_vars i
  pointwise
  rw [diagB_at]
  refine (if_pos (show (64 * i0.val + i1.val) / 512 = (16 * i0.val + i2.val) / 128 by omega)).trans ?_
  refine (if_neg (by decide) : prodB (m := m) (c := c) 1 ⟨64 * i0.val + i1.val, by omega⟩ (chn i0 i2) = _).trans ?_
  simp only [grpS_mk', staS_mk']
  rfl

theorem value65 : endOf m c main_v65 = fun i : S32x16x64.Idx => dC (aDy m c) (aSr m c) (i 0) (i 1) (i 2) := by
  refine (tail65 (after0 m c)).trans ?_
  rw [show after0 m c (Proc.devRef .tc main_v45_3) = _ from (left 12).trans arr12]
  funext i
  idx_vars i
  pointwise
  rw [diagC_at]
  refine (if_pos (show (16 * i0.val + i1.val) / 128 = (64 * i0.val + i2.val) / 512 by omega)).trans ?_
  show prodC (m := m) (c := c) 0 (chn i0 i1) ⟨64 * i0.val + i2.val, by omega⟩ = _
  rw [prodC, grpS_mk', staS_mk', if_pos rfl]
  rfl

theorem value68 : endOf m c main_v68 = fun i : S32x16x64.Idx => -dC (aDy m c) (aSi m c) (i 0) (i 1) (i 2) := by
  refine (tail68 (after0 m c)).trans ?_
  rw [show after0 m c (Proc.devRef .tc main_v45_3) = _ from (left 12).trans arr12]
  funext i
  idx_vars i
  pointwise
  rw [diagC_at]
  congr 1
  refine (if_pos (show (16 * i0.val + i1.val) / 128 = (64 * i0.val + i2.val) / 512 by omega)).trans ?_
  show prodC (m := m) (c := c) 1 (chn i0 i1) ⟨64 * i0.val + i2.val, by omega⟩ = _
  rw [prodC, grpS_mk', staS_mk', if_neg (by decide)]
  rfl

theorem value71 (H : FinAt m c) : endOf m c main_v71 = fun i : S2048x512.Idx =>
    dU (aDy m c) (aBr m c) (aBi m c) (aCr m c) (aCi m c) (aLr m c) (aLi m c) (i 0) (grpC (i 1)) (chnC (i 1)) := by
  refine (tail71 (after0 m c)).trans ?_
  rw [show after0 m c (Proc.devRef .tc main_v45_4) = _ from (left 13).trans (arr13 H)]
  funext i
  idx_vars i
  pointwise
  rw [time_mk]

end Cert.KernelIdeal.Body

end
-- ==== Proof.Scan.lean ====
module

public import proofs.«01_k».proof.Proof.Gen.ReferenceIdeal.Run
public import proofs.«01_k».proof.Proof.Spec
public import Idealize.ShloMosaic.Lib.Pointwise
public import Idealize.ShloMosaic.Lib.WordCmp
public import Idealize.ShloMosaic.Lib.DynamicIndex

/-!
  The reference's loop. It runs the adjoint's recurrence from the last time to the first, one row a trip; after `k`
  trips the carried pair is the conjugate decay times the adjoint of `k` steps, and the rows from `2048 - k` on are
  the adjoint's.
-/

@[expose] public section

set_option maxRecDepth 8192

noncomputable section

namespace Cert.ReferenceIdeal.Scan

open Idealize.ShloMosaic Idealize.ShloMosaic.TcCoe Idealize.SL.Sem Idealize.ShloMosaic.StableHlo Idealize.ShloMosaic.WordCmp
open Cert.ReferenceIdeal Cert.ReferenceIdeal.Gen Cert.ReferenceIdeal.Value
open scoped ComplexConjugate
open Adjoint

variable {dy : Rows} {si : States} {cr ci : Outer} {lr li : Decay}

/-- The reverse recurrence of state `n` of group `g` after `k` steps. -/
abbrev run (dy : Rows) (cr ci : Outer) (lr li : Decay) (g : Fin 32) (n : Fin 64) (k : ℕ) : ℂ :=
  back (conj (decay lr li g n)) (drive dy cr ci g n) 2048 k

/-- What the loop's buffers hold after `k` trips. -/
structure Inv (dy : Rows) (cr ci : Outer) (lr li : Decay) (k : ℕ) (V : Valuation τ sig (Elt Ideal)) : Prop where
  dre : (V (Proc.devRef .tc main_v19_0) : FVec Ideal S2048x32x64 .f32) = fun i => ((drive dy cr ci (i 1) (i 2) (i 0).val).re : EReal)
  dim : (V (Proc.devRef .tc main_v19_1) : FVec Ideal S2048x32x64 .f32) = fun i => ((drive dy cr ci (i 1) (i 2) (i 0).val).im : EReal)
  lre : (V (Proc.devRef .tc main_v19_2) : FVec Ideal S32x64 .f32) = lr
  lim : (V (Proc.devRef .tc main_v19_3) : FVec Ideal S32x64 .f32) = li
  ctr : (V (Proc.devRef .tc main_v19_4) : IVec S_ 32) = fun _ => BitVec.ofNat 32 k
  cre : (V (Proc.devRef .tc main_v19_5) : FVec Ideal S32x64 .f32)
    = fun i => ((conj (decay lr li (i 0) (i 1)) * run dy cr ci lr li (i 0) (i 1) k).re : EReal)
  cim : (V (Proc.devRef .tc main_v19_6) : FVec Ideal S32x64 .f32)
    = fun i => ((conj (decay lr li (i 0) (i 1)) * run dy cr ci lr li (i 0) (i 1) k).im : EReal)
  rre : ∀ (t : Fin 2048) (g : Fin 32) (n : Fin 64), 2048 - k ≤ t.val →
    (V (Proc.devRef .tc main_v19_7) : FVec Ideal S2048x32x64 .f32) (ix3 t g n) = ((adjoint dy cr ci lr li t g n).re : EReal)
  rim : ∀ (t : Fin 2048) (g : Fin 32) (n : Fin 64), 2048 - k ≤ t.val →
    (V (Proc.devRef .tc main_v19_8) : FVec Ideal S2048x32x64 .f32) (ix3 t g n) = ((adjoint dy cr ci lr li t g n).im : EReal)

variable {V : Valuation τ sig (Elt Ideal)} {k : ℕ}

/-- The row trip `k` reads and writes. -/
def at3 (k : ℕ) : Fin 3 → ℕ := ![2047 - k, 0, 0]

theorem at3_fits (hk : k < 2048) : S2048x32x64.Slices (at3 k) S1x32x64 :=
  ⟨rfl, fun a => by fin_cases a <;> simp [at3, Shape.size] <;> omega⟩

theorem starts (I : Inv dy cr ci lr li k V) (hk : k < 2048) (a : Fin 3) :
    (((![res_main_while0b_v86 V, constantI S_ 32 0#32, constantI S_ 32 0#32] : Fin 3 → (⟨S_, .i32⟩ : BufTy).Contents (Elt Ideal))) a (Shape.Idx.first h_S_)).toInt
      = (at3 k a : Int) := by
  have h : (res_main_while0b_v86 V : IVec S_ 32) (Shape.Idx.first h_S_) = BitVec.ofNat 32 (2047 - k) := by
    unfold res_main_while0b_v86
    rw [I.ctr]
    show (2048#32 - BitVec.ofNat 32 k) - 1#32 = _
    apply BitVec.eq_of_toNat_eq
    simp only [BitVec.toNat_sub, BitVec.toNat_ofNat]
    omega
  fin_cases a
  · show ((res_main_while0b_v86 V : IVec S_ 32) (Shape.Idx.first h_S_)).toInt = _
    rw [h, WordCmp.toInt_ofNat_of_lt (by omega)]
    rfl
  · rfl
  · rfl

theorem run_re (g : Fin 32) (n : Fin 64) (x y : EReal)
    (hx : x = ((conj (decay lr li g n) * run dy cr ci lr li g n k).re : EReal)) (hy : y = ((drive dy cr ci g n (2047 - k)).re : EReal)) :
    x + y = ((run dy cr ci lr li g n (k + 1)).re : EReal) := by
  rw [hx, hy, run, run, back, re_add]

theorem run_im (g : Fin 32) (n : Fin 64) (x y : EReal)
    (hx : x = ((conj (decay lr li g n) * run dy cr ci lr li g n k).im : EReal)) (hy : y = ((drive dy cr ci g n (2047 - k)).im : EReal)) :
    x + y = ((run dy cr ci lr li g n (k + 1)).im : EReal) := by
  rw [hx, hy, run, run, back, im_add]

/-- One trip's row of the adjoint: the next step of the recurrence. -/
theorem row_re (I : Inv dy cr ci lr li k V) (hk : k < 2048) (g : Fin 32) (n : Fin 64) :
    (res_main_while0b_v89 V : FVec Ideal S32x64 .f32) (ix2 g n) = ((run dy cr ci lr li g n (k + 1)).re : EReal) := by
  unfold res_main_while0b_v89
  rw [I.cre, I.dre, Host.dynamicSlice_eq_extractStridedSlice S1x32x64 _ _ (at3 k) _ (at3_fits hk) (starts I hk)]
  pointwise
  refine run_re g n _ _ rfl ?_
  simp [at3]

theorem row_im (I : Inv dy cr ci lr li k V) (hk : k < 2048) (g : Fin 32) (n : Fin 64) :
    (res_main_while0b_v90 V : FVec Ideal S32x64 .f32) (ix2 g n) = ((run dy cr ci lr li g n (k + 1)).im : EReal) := by
  unfold res_main_while0b_v90
  rw [I.cim, I.dim, Host.dynamicSlice_eq_extractStridedSlice S1x32x64 _ _ (at3 k) _ (at3_fits hk) (starts I hk)]
  pointwise
  refine run_im g n _ _ rfl ?_
  simp [at3]

theorem conj_re (H : Finite dy si cr ci lr li) (g : Fin 32) (n : Fin 64) (z : ℂ) :
    li (ix2 g n) * (z.im : EReal) + lr (ix2 g n) * (z.re : EReal) = ((conj (decay lr li g n) * z).re : EReal) := by
  rw [H.li, H.lr, ← EReal.coe_mul, ← EReal.coe_mul, ← EReal.coe_add]
  congr 1
  simp only [decay, Complex.mul_re, Complex.conj_re, Complex.conj_im]
  ring

theorem conj_im (H : Finite dy si cr ci lr li) (g : Fin 32) (n : Fin 64) (z : ℂ) :
    lr (ix2 g n) * (z.im : EReal) + li (ix2 g n) * -(z.re : EReal) = ((conj (decay lr li g n) * z).im : EReal) := by
  rw [H.li, H.lr, ← EReal.coe_neg, ← EReal.coe_mul, ← EReal.coe_mul, ← EReal.coe_add]
  congr 1
  simp only [decay, Complex.mul_im, Complex.conj_re, Complex.conj_im]
  ring

/-- The written row is at its place, the others as they were. -/
theorem write_at (hk : k < 2048) (x : FVec Ideal S2048x32x64 .f32) (r : FVec Ideal S32x64 .f32) (t : Fin 2048) (g : Fin 32) (n : Fin 64) :
    updateSlice x (broadcastInDim S1x32x64 ![1, 2] bcast_S32x64_S1x32x64_1_2 r) (at3 k) (at3_fits hk) (ix3 t g n)
      = if t.val = 2047 - k then r (ix2 g n) else x (ix3 t g n) := by
  pointwise
  have e0 : at3 k 0 = 2047 - k := rfl
  have e1 : at3 k 1 = 0 := rfl
  have e2 : at3 k 2 = 0 := rfl
  by_cases h : t.val = 2047 - k
  · rw [if_pos h, dif_pos (by omega)]
    rfl
  · rw [if_neg h, dif_neg (by omega)]

theorem Inv.next (H : Finite dy si cr ci lr li) (I : Inv dy cr ci lr li k V) (hk : k < 2048) :
    Inv dy cr ci lr li (k + 1) (STEP V) where
  dre := (STEP_main_v19_0 V).trans I.dre
  dim := (STEP_main_v19_1 V).trans I.dim
  lre := (STEP_main_v19_2 V).trans I.lre
  lim := (STEP_main_v19_3 V).trans I.lim
  ctr := by
    refine (STEP_main_v19_4 V).trans ?_
    unfold step_main_v19_4
    rw [I.ctr]
    funext i
    show BitVec.ofNat 32 k + 1#32 = _
    rw [BitVec.ofNat_add]
  cre := by
    refine (STEP_main_v19_5 V).trans ?_
    unfold step_main_v19_5
    rw [I.lre, I.lim, id_eq]
    funext i
    idx_vars i
    pointwise
    rw [row_re I hk, row_im I hk]
    exact conj_re H i0 i1 _
  cim := by
    refine (STEP_main_v19_6 V).trans ?_
    unfold step_main_v19_6
    rw [I.lre, I.lim, id_eq]
    funext i
    idx_vars i
    pointwise
    rw [row_re I hk, row_im I hk]
    exact conj_im H i0 i1 _
  rre := fun t g n ht => by
    rw [STEP_main_v19_7 V]
    unfold step_main_v19_7
    rw [id_eq, dynamicUpdateSlice_eq_update _ _ _ _ (at3 k) (at3_fits hk) (starts I hk), write_at hk]
    split
    · next e => rw [row_re I hk, adjoint, show 2048 - t.val = k + 1 by omega]
    · next e => exact I.rre t g n (by omega)
  rim := fun t g n ht => by
    rw [STEP_main_v19_8 V]
    unfold step_main_v19_8
    rw [id_eq, dynamicUpdateSlice_eq_update _ _ _ _ (at3 k) (at3_fits hk) (starts I hk), write_at hk]
    split
    · next e => rw [row_im I hk, adjoint, show 2048 - t.val = k + 1 by omega]
    · next e => exact I.rim t g n (by omega)

variable {m : (ℓ : Loc nD τ sig) → Buf (Elt Ideal) ℓ} {c : Dev nD}

abbrev aDy (m : (ℓ : Loc nD τ sig) → Buf (Elt Ideal) ℓ) (c : Dev nD) : Rows := m ((c : Thread nD τ).loc main_arg0)
abbrev aU (m : (ℓ : Loc nD τ sig) → Buf (Elt Ideal) ℓ) (c : Dev nD) : Rows := m ((c : Thread nD τ).loc main_arg1)
abbrev aSr (m : (ℓ : Loc nD τ sig) → Buf (Elt Ideal) ℓ) (c : Dev nD) : States := m ((c : Thread nD τ).loc main_arg2)
abbrev aSi (m : (ℓ : Loc nD τ sig) → Buf (Elt Ideal) ℓ) (c : Dev nD) : States := m ((c : Thread nD τ).loc main_arg3)
abbrev aBr (m : (ℓ : Loc nD τ sig) → Buf (Elt Ideal) ℓ) (c : Dev nD) : Inner := m ((c : Thread nD τ).loc main_arg4)
abbrev aBi (m : (ℓ : Loc nD τ sig) → Buf (Elt Ideal) ℓ) (c : Dev nD) : Inner := m ((c : Thread nD τ).loc main_arg5)
abbrev aCr (m : (ℓ : Loc nD τ sig) → Buf (Elt Ideal) ℓ) (c : Dev nD) : Outer := m ((c : Thread nD τ).loc main_arg6)
abbrev aCi (m : (ℓ : Loc nD τ sig) → Buf (Elt Ideal) ℓ) (c : Dev nD) : Outer := m ((c : Thread nD τ).loc main_arg7)
abbrev aLr (m : (ℓ : Loc nD τ sig) → Buf (Elt Ideal) ℓ) (c : Dev nD) : Decay := m ((c : Thread nD τ).loc main_arg8)
abbrev aLi (m : (ℓ : Loc nD τ sig) → Buf (Elt Ideal) ℓ) (c : Dev nD) : Decay := m ((c : Thread nD τ).loc main_arg9)

abbrev FinAt (m : (ℓ : Loc nD τ sig) → Buf (Elt Ideal) ℓ) (c : Dev nD) : Prop :=
  Adjoint.Finite (aDy m c) (aSi m c) (aCr m c) (aCi m c) (aLr m c) (aLi m c)

theorem neg_mul_swap (a b : EReal) : -a * b = a * -b := by
  rw [EReal.neg_mul, mul_comm a (-b), EReal.neg_mul, mul_comm b a]

/-- The loop's entry: the drives are the cotangents' products with the output matrices, the carried pair is zero. -/
theorem entry (H : FinAt m c) : Inv (aDy m c) (aCr m c) (aCi m c) (aLr m c) (aLi m c) 0 (entryContents preI m c) where
  dre := by
    have e : (entryContents preI m c (Proc.devRef .tc main_v19_0) : FVec Ideal S2048x32x64 .f32) =
      transpose S2048x32x64 [1, 0, 2] (Host.dotGeneral dot_S32x2048x16_S32x16x64_S32x2048x64_2_1_1_2_0_0 none
        (transpose S32x2048x16 [1, 0, 2] (shapeCast (s := S2048x512) S2048x32x16 (aDy m c) shapeCasts_S2048x512_S2048x32x16)
          transposes_S2048x32x16_S32x2048x16_1_0_2) (aCr m c)) transposes_S32x2048x64_S2048x32x64_1_0_2 := by
      simp only [entryContents, afterL_cons, afterL_nil]
      after_reads_simp
      rfl
    rw [e]
    funext i
    idx_vars i
    refine Eq.trans ?_ (drive_re H i1 i2 i0).symm
    pointwise
    simp only [chn, Nat.mul_comm]
  dim := by
    have e : (entryContents preI m c (Proc.devRef .tc main_v19_1) : FVec Ideal S2048x32x64 .f32) =
      transpose S2048x32x64 [1, 0, 2] (Host.dotGeneral dot_S32x2048x16_S32x16x64_S32x2048x64_2_1_1_2_0_0 none
        (transpose S32x2048x16 [1, 0, 2] (Host.negf (shapeCast (s := S2048x512) S2048x32x16 (aDy m c) shapeCasts_S2048x512_S2048x32x16))
          transposes_S2048x32x16_S32x2048x16_1_0_2) (aCi m c)) transposes_S32x2048x64_S2048x32x64_1_0_2 := by
      simp only [entryContents, afterL_cons, afterL_nil]
      after_reads_simp
      rfl
    rw [e]
    funext i
    idx_vars i
    refine Eq.trans ?_ (drive_im H i1 i2 i0).symm
    pointwise
    refine Eq.trans (Finset.sum_congr rfl fun j _ => ?_)
      (neg_dot (fun j => aDy m c (ix2 i0 (chn i1 j))) (fun j => aCi m c (ix3 i1 j i2)) (fun _ => H.dy _) (fun _ => H.ci _))
    simp only [chn, Nat.mul_comm]
    exact (neg_mul_swap _ _)
  lre := by
    simp only [entryContents, afterL_cons, afterL_nil]
    after_reads_simp
    rfl
  lim := by
    simp only [entryContents, afterL_cons, afterL_nil]
    after_reads_simp
    rfl
  ctr := ctr_entry m c
  cre := by
    have e : (entryContents preI m c (Proc.devRef .tc main_v19_5) : FVec Ideal S32x64 .f32)
        = broadcastInDim S32x64 ![] bcast_S_S32x64 (constant (F := Ideal) S_ .f32 0x00000000#32) := by
      simp only [entryContents, afterL_cons, afterL_nil]
      after_reads_simp
      rfl
    rw [e]
    funext i
    idx_vars i
    pointwise
    simp [Adjoint.back]
  cim := by
    have e : (entryContents preI m c (Proc.devRef .tc main_v19_6) : FVec Ideal S32x64 .f32)
        = broadcastInDim S32x64 ![] bcast_S_S32x64 (constant (F := Ideal) S_ .f32 0x00000000#32) := by
      simp only [entryContents, afterL_cons, afterL_nil]
      after_reads_simp
      rfl
    rw [e]
    funext i
    idx_vars i
    pointwise
    simp [Adjoint.back]
  rre := fun t _ _ ht => absurd t.isLt (by omega)
  rim := fun t _ _ ht => absurd t.isLt (by omega)

theorem loop (H : FinAt m c) : ∀ k, k ≤ 2048 →
    Inv (aDy m c) (aCr m c) (aCi m c) (aLr m c) (aLi m c) k (STEP^[k] (entryContents preI m c))
  | 0, _ => entry H
  | k + 1, hk => by
    rw [Function.iterate_succ_apply']
    exact (loop H k (by omega)).next H (by omega)

/-- What the loop leaves. -/
abbrev left (m : (ℓ : Loc nD τ sig) → Buf (Elt Ideal) ℓ) (c : Dev nD) : Valuation τ sig (Elt Ideal) := STEP^[2048] (entryContents preI m c)

theorem rows_re (H : FinAt m c) : (left m c (Proc.devRef .tc main_v19_7) : FVec Ideal S2048x32x64 .f32)
    = fun i : S2048x32x64.Idx => ((adjoint (aDy m c) (aCr m c) (aCi m c) (aLr m c) (aLi m c) (i 0) (i 1) (i 2)).re : EReal) := by
  funext i
  idx_vars i
  exact (loop H 2048 le_rfl).rre i0 i1 i2 (by omega)

theorem rows_im (H : FinAt m c) : (left m c (Proc.devRef .tc main_v19_8) : FVec Ideal S2048x32x64 .f32)
    = fun i : S2048x32x64.Idx => ((adjoint (aDy m c) (aCr m c) (aCi m c) (aLr m c) (aLi m c) (i 0) (i 1) (i 2)).im : EReal) := by
  funext i
  idx_vars i
  exact (loop H 2048 le_rfl).rim i0 i1 i2 (by omega)

theorem left_arg0 : (left m c (Proc.devRef .tc main_arg0) : Rows) = aDy m c := iter_main_arg0 m c 2048
theorem left_arg1 : (left m c (Proc.devRef .tc main_arg1) : Rows) = aU m c := iter_main_arg1 m c 2048
theorem left_arg2 : (left m c (Proc.devRef .tc main_arg2) : States) = aSr m c := iter_main_arg2 m c 2048
theorem left_arg3 : (left m c (Proc.devRef .tc main_arg3) : States) = aSi m c := iter_main_arg3 m c 2048
theorem left_arg4 : (left m c (Proc.devRef .tc main_arg4) : Inner) = aBr m c := iter_main_arg4 m c 2048
theorem left_arg5 : (left m c (Proc.devRef .tc main_arg5) : Inner) = aBi m c := iter_main_arg5 m c 2048

/-- A channel's group, and its place in the group. -/
def grp (p : Fin 512) : Fin 32 := ⟨p.val / 16, by omega⟩
def within (p : Fin 512) : Fin 16 := ⟨p.val % 16, by omega⟩

/-- The states one time earlier, zero before the first. -/
def earlier (s : States) : FVec Ideal S2048x32x64 .f32 :=
  concatenate S2048x32x64 0 [⟨S1x32x64, broadcastInDim S1x32x64 ![] bcast_S_S1x32x64 (constant (F := Ideal) S_ .f32 0x00000000#32)⟩,
    ⟨S2047x32x64, extractStridedSlice (s := S2048x32x64) S2047x32x64 ![0, 0, 0] s slices_S2048x32x64_S2047x32x64_0_0_0⟩]
    concatenates_S1x32x64_S2047x32x64_S2048x32x64_d0

theorem earlier_at (s : States) (t : Fin 2048) (g : Fin 32) (n : Fin 64) :
    (earlier s (ix3 t g n) : EReal) = if h : t.val = 0 then 0 else s (ix3 ⟨t.val - 1, by omega⟩ g n) := by
  pointwise [earlier]
  by_cases h : t.val = 0
  · rw [dif_pos h, dif_pos (by omega)]
  · rw [dif_neg h, dif_neg (by omega)]

theorem out57 (H : FinAt m c) : (out_main_v57 (left m c) : FVec Ideal S32x64 .f32)
    = fun i : S32x64.Idx => dLr (aDy m c) (aSr m c) (aSi m c) (aCr m c) (aCi m c) (aLr m c) (aLi m c) (i 0) (i 1) := by
  unfold out_main_v57
  rw [rows_re H, rows_im H, left_arg2, left_arg3]
  funext i
  idx_vars i
  change addf (Host.reduceAdd (shapeCast S1x32x64 (Host.reduceAdd (mulf _ (earlier (aSi m c))) _ _ _) _) _ _ _)
    (Host.reduceAdd (shapeCast S1x32x64 (Host.reduceAdd (mulf _ (earlier (aSr m c))) _ _ _) _) _ _ _) (ix2 i0 i1) = _
  pointwise
  simp only [Finset.univ_unique, Finset.sum_singleton]
  rw [add_comm, ← Finset.sum_add_distrib, dLr]
  refine Finset.sum_congr rfl fun t _ => ?_
  rw [earlier_at, earlier_at]

theorem out52 (H : FinAt m c) : (out_main_v52 (left m c) : FVec Ideal S32x64 .f32)
    = fun i : S32x64.Idx => dLi (aDy m c) (aSr m c) (aSi m c) (aCr m c) (aCi m c) (aLr m c) (aLi m c) (i 0) (i 1) := by
  unfold out_main_v52
  rw [rows_re H, rows_im H, left_arg2, left_arg3]
  funext i
  idx_vars i
  change addf (Host.reduceAdd (shapeCast S1x32x64 (Host.reduceAdd (mulf _ (earlier (aSr m c))) _ _ _) _) _ _ _)
    (Host.reduceAdd (shapeCast S1x32x64 (Host.reduceAdd (mulf (Host.negf _) (earlier (aSi m c))) _ _ _) _) _ _ _) (ix2 i0 i1) = _
  pointwise
  simp only [Finset.univ_unique, Finset.sum_singleton]
  rw [← Finset.sum_add_distrib, dLi]
  refine Finset.sum_congr rfl fun t _ => ?_
  rw [earlier_at, earlier_at, EReal.neg_mul, sub_eq_add_neg]

theorem out68 (H : FinAt m c) : (out_main_v68 (left m c) : FVec Ideal S32x64x16 .f32)
    = fun i : S32x64x16.Idx => dBr (aDy m c) (aU m c) (aCr m c) (aCi m c) (aLr m c) (aLi m c) (i 0) (i 1) (i 2) := by
  unfold out_main_v68
  rw [rows_re H, left_arg1]
  funext i
  idx_vars i
  pointwise [dBr]
  simp only [chn, Nat.mul_comm]

theorem out64 (H : FinAt m c) : (out_main_v64 (left m c) : FVec Ideal S32x64x16 .f32)
    = fun i : S32x64x16.Idx => dBi (aDy m c) (aU m c) (aCr m c) (aCi m c) (aLr m c) (aLi m c) (i 0) (i 1) (i 2) := by
  unfold out_main_v64
  rw [rows_im H, left_arg1]
  funext i
  idx_vars i
  pointwise [dBi]
  simp only [chn, Nat.mul_comm]

theorem out84 : (out_main_v84 (left m c) : FVec Ideal S32x16x64 .f32) = fun i : S32x16x64.Idx => dC (aDy m c) (aSr m c) (i 0) (i 1) (i 2) := by
  unfold out_main_v84
  rw [left_arg0, left_arg2]
  funext i
  idx_vars i
  pointwise [dC]
  simp only [chn, Nat.mul_comm]

theorem out82 (H : FinAt m c) : (out_main_v82 (left m c) : FVec Ideal S32x16x64 .f32) = fun i : S32x16x64.Idx => -dC (aDy m c) (aSi m c) (i 0) (i 1) (i 2) := by
  unfold out_main_v82
  rw [left_arg0, left_arg3]
  funext i
  idx_vars i
  pointwise [dC]
  refine Eq.trans (Finset.sum_congr rfl fun t _ => ?_)
    (neg_dot (fun t => aDy m c (ix2 t (chn i0 i1))) (fun t => aSi m c (ix3 t i0 i2)) (fun _ => H.dy _) (fun _ => H.si _))
  simp only [chn, Nat.mul_comm]
  exact neg_mul_swap _ _

theorem out72 (H : FinAt m c) : (out_main_v72 (left m c) : FVec Ideal S2048x512 .f32) = fun i : S2048x512.Idx =>
    dU (aDy m c) (aBr m c) (aBi m c) (aCr m c) (aCi m c) (aLr m c) (aLi m c) (i 0) (grp (i 1)) (within (i 1)) := by
  unfold out_main_v72
  rw [rows_re H, rows_im H, left_arg4, left_arg5]
  funext i
  idx_vars i
  pointwise [dU]
  exact add_comm (G := EReal) _ _

end Cert.ReferenceIdeal.Scan

end
-- ==== Proof.Pre.lean ====
module

public import proofs.«01_k».proof.Defs
public import proofs.«01_k».proof.Proof.Tail
public import proofs.«01_k».proof.Proof.Scan
public import Idealize.ShloMosaic.Lib.Pointwise

@[expose] public section

set_option maxRecDepth 8192

noncomputable section

namespace Cert.Join

open Idealize.ShloMosaic Idealize.ShloMosaic.TcCoe Idealize.SL.Sem

/-- The shape relations the precondition states. -/
theorem preFacts : Cert.Pre_finite.Facts where
  bcast_S_S2048x512 := by decide
  bcast_S_S2048x32x64 := by decide
  bcast_S_S32x16x64 := by decide
  bcast_S_S32x64 := by decide

/-- An extended real whose absolute value lies below infinity is a real number. -/
theorem real_of_abs (x : EReal) (h : max x (-x) < ⊤) : x = ((x.toReal : ℝ) : EReal) := by
  refine (EReal.coe_toReal ?_ ?_).symm
  · rintro rfl
    simp at h
  · rintro rfl
    simp at h

/-- What the precondition says of one array: every entry is a real number. -/
theorem real_of_olt {s : Shape} (x : FVec Ideal s .f32) (B : Pre_finite.S_.BroadcastsInDim s (![] : Fin 0 → Fin s.rank))
    (h : cmpf .olt (Host.absf x) (broadcastInDim s ![] B (constant (F := Ideal) Pre_finite.S_ .f32 0x7F800000#32)) = fun _ => 1#1)
    (i : s.Idx) : x i = (((x i : EReal).toReal : ℝ) : EReal) := by
  have h1 := congrFun h i
  have e : Ideal.ofBits .f32 0x7F800000#32 = (⊤ : EReal) := by
    simp [Ideal.ofBits, Ideal.ieee]
  pointwise at h1
  rw [e] at h1
  refine real_of_abs _ ?_
  by_contra hn
  rw [show decide ((FloatOps.absf (F := Ideal) (φ := .f32) (x i) : EReal) < ⊤) = false from decide_eq_false hn] at h1
  exact absurd h1 (by decide)

/-- The kernel's precondition in the form its value lemmas take. -/
theorem finite_kernel (m : (ℓ : Loc KernelIdeal.nD KernelIdeal.τ KernelIdeal.sig) → Buf (Elt Ideal) ℓ)
    (h : Pre_KernelIdeal_finite (hPre_finite := preFacts) m) (c : Dev KernelIdeal.nD) : KernelIdeal.Body.FinAt m c where
  dy := real_of_olt _ _ (h c).1
  si := real_of_olt _ _ (h c).2.1
  cr := real_of_olt _ _ (h c).2.2.1
  ci := real_of_olt _ _ (h c).2.2.2.1
  lr := real_of_olt _ _ (h c).2.2.2.2.1
  li := real_of_olt _ _ (h c).2.2.2.2.2

end Cert.Join

end
-- ==== Proof.Join.lean ====
module

public import proofs.«01_k».proof.Proof.Pre

@[expose] public section

set_option maxRecDepth 8192

noncomputable section

namespace Cert.Join

open Idealize.ShloMosaic Idealize.ShloMosaic.TcCoe Idealize.SL.Sem

/-- The reference runs no semaphore: every counter family over its signature is the zero one. -/
theorem no_counter (s : GSem ReferenceIdeal.nD ReferenceIdeal.τ ReferenceIdeal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_ReferenceIdeal (hReferenceIdeal := ReferenceIdeal.Gen.facts) := fun m ρ _ =>
  (θ_run ReferenceIdeal.defs _ _).mono (fun r h => ⟨fun c => (h c).2.2.2.2.2.2.2, no_counter _⟩) (ReferenceIdeal.Value.run m ρ)

/-- The kernel's seven results and its arguments at the end of its run. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ fun r => ∀ c : Dev KernelIdeal.nD,
      r.2.mem ((c.tc : Thread KernelIdeal.nD KernelIdeal.τ).loc KernelIdeal.main_v58) = KernelIdeal.Body.endOf m c KernelIdeal.main_v58
      ∧ r.2.mem ((c.tc : Thread KernelIdeal.nD KernelIdeal.τ).loc KernelIdeal.main_v59) = KernelIdeal.Body.endOf m c KernelIdeal.main_v59
      ∧ r.2.mem ((c.tc : Thread KernelIdeal.nD KernelIdeal.τ).loc KernelIdeal.main_v61) = KernelIdeal.Body.endOf m c KernelIdeal.main_v61
      ∧ r.2.mem ((c.tc : Thread KernelIdeal.nD KernelIdeal.τ).loc KernelIdeal.main_v63) = KernelIdeal.Body.endOf m c KernelIdeal.main_v63
      ∧ r.2.mem ((c.tc : Thread KernelIdeal.nD KernelIdeal.τ).loc KernelIdeal.main_v65) = KernelIdeal.Body.endOf m c KernelIdeal.main_v65
      ∧ r.2.mem ((c.tc : Thread KernelIdeal.nD KernelIdeal.τ).loc KernelIdeal.main_v68) = KernelIdeal.Body.endOf m c KernelIdeal.main_v68
      ∧ r.2.mem ((c.tc : Thread KernelIdeal.nD KernelIdeal.τ).loc KernelIdeal.main_v71) = KernelIdeal.Body.endOf m c KernelIdeal.main_v71 := by
  refine (θ_run KernelIdeal.defs _ _).mono (fun r h c => ?_) (KernelIdeal.Gen.run_main m ρ)
  exact ⟨h.rest_eq c KernelIdeal.main_v58 (by decide), h.rest_eq c KernelIdeal.main_v59 (by decide), h.rest_eq c KernelIdeal.main_v61 (by decide),
    h.rest_eq c KernelIdeal.main_v63 (by decide), h.rest_eq c KernelIdeal.main_v65 (by decide), h.rest_eq c KernelIdeal.main_v68 (by decide),
    h.rest_eq c KernelIdeal.main_v71 (by decide)⟩

/-- At finite arguments the kernel and the reference end with the same seven results. -/
theorem same : algebraic_KernelIdeal_ReferenceIdeal_pre_finite (hKernelIdeal := KernelIdeal.Gen.facts)
    (hReferenceIdeal := ReferenceIdeal.Gen.facts) (hPre_finite := preFacts) := by
  intro m g m' g' hm ha
  refine ⟨fun c => KernelIdeal.Body.endOf m c _, fun c => KernelIdeal.Body.endOf m c _, fun c => KernelIdeal.Body.endOf m c _,
    fun c => KernelIdeal.Body.endOf m c _, fun c => KernelIdeal.Body.endOf m c _, fun c => KernelIdeal.Body.endOf m c _,
    fun c => KernelIdeal.Body.endOf m c _, ?_, ?_⟩
  · refine (θ_run KernelIdeal.defs _ _).mono (fun r h c => ?_) (θ_run_and (kernel_run m g) (KernelIdeal.Gen.unchanged m g))
    obtain ⟨h0, h1, h2, h3, h4, h5, h6⟩ := h.1 c
    exact ⟨h0, h1, h2, h3, h4, h5, h6, h.2 c⟩
  · refine (θ_run ReferenceIdeal.defs _ _).mono (fun r h c => ?_) (ReferenceIdeal.Value.run m' g')
    obtain ⟨h0, h1, h2, h3, h4, h5, h6, hrest⟩ := h c
    have H := finite_kernel m hm c
    obtain ⟨e0, e1, e2, e3, e4, e5, e6, e7, e8, e9⟩ := ha c
    have H' : ReferenceIdeal.Scan.FinAt m' c := by
      unfold ReferenceIdeal.Scan.FinAt ReferenceIdeal.Scan.aDy ReferenceIdeal.Scan.aSi ReferenceIdeal.Scan.aCr ReferenceIdeal.Scan.aCi
        ReferenceIdeal.Scan.aLr ReferenceIdeal.Scan.aLi
      rw [e0, e3, e6, e7, e8, e9]
      exact H
    refine ⟨h0.trans ?_, h1.trans ?_, h2.trans ?_, h3.trans ?_, h4.trans ?_, h5.trans ?_, h6.trans ?_, hrest⟩
    · refine (ReferenceIdeal.Scan.out57 H').trans (Eq.trans ?_ (KernelIdeal.Body.value58 H).symm)
      unfold ReferenceIdeal.Scan.aDy ReferenceIdeal.Scan.aSr ReferenceIdeal.Scan.aSi ReferenceIdeal.Scan.aCr ReferenceIdeal.Scan.aCi
        ReferenceIdeal.Scan.aLr ReferenceIdeal.Scan.aLi
      rw [e0, e2, e3, e6, e7, e8, e9]
    · refine (ReferenceIdeal.Scan.out52 H').trans (Eq.trans ?_ (KernelIdeal.Body.value59 H).symm)
      unfold ReferenceIdeal.Scan.aDy ReferenceIdeal.Scan.aSr ReferenceIdeal.Scan.aSi ReferenceIdeal.Scan.aCr ReferenceIdeal.Scan.aCi
        ReferenceIdeal.Scan.aLr ReferenceIdeal.Scan.aLi
      rw [e0, e2, e3, e6, e7, e8, e9]
    · refine (ReferenceIdeal.Scan.out68 H').trans (Eq.trans ?_ (KernelIdeal.Body.value61 H).symm)
      unfold ReferenceIdeal.Scan.aDy ReferenceIdeal.Scan.aU ReferenceIdeal.Scan.aCr ReferenceIdeal.Scan.aCi
        ReferenceIdeal.Scan.aLr ReferenceIdeal.Scan.aLi
      rw [e0, e1, e6, e7, e8, e9]
    · refine (ReferenceIdeal.Scan.out64 H').trans (Eq.trans ?_ (KernelIdeal.Body.value63 H).symm)
      unfold ReferenceIdeal.Scan.aDy ReferenceIdeal.Scan.aU ReferenceIdeal.Scan.aCr ReferenceIdeal.Scan.aCi
        ReferenceIdeal.Scan.aLr ReferenceIdeal.Scan.aLi
      rw [e0, e1, e6, e7, e8, e9]
    · refine ReferenceIdeal.Scan.out84.trans (Eq.trans ?_ KernelIdeal.Body.value65.symm)
      unfold ReferenceIdeal.Scan.aDy ReferenceIdeal.Scan.aSr
      rw [e0, e2]
    · refine (ReferenceIdeal.Scan.out82 H').trans (Eq.trans ?_ KernelIdeal.Body.value68.symm)
      unfold ReferenceIdeal.Scan.aDy ReferenceIdeal.Scan.aSi
      rw [e0, e3]
    · refine (ReferenceIdeal.Scan.out72 H').trans (Eq.trans ?_ (KernelIdeal.Body.value71 H).symm)
      unfold ReferenceIdeal.Scan.aDy ReferenceIdeal.Scan.aBr ReferenceIdeal.Scan.aBi ReferenceIdeal.Scan.aCr ReferenceIdeal.Scan.aCi
        ReferenceIdeal.Scan.aLr ReferenceIdeal.Scan.aLi
      rw [e0, e4, e5, e6, e7, e8, e9]
      rfl

end Cert.Join

end
-- ==== Proof.Order.lean ====
module

public import Idealize.ShloMosaic.Lib.Pointwise

@[expose] public section

noncomputable section

namespace Cert.Order

/-- The time that row `r` holds where the rows are in the order of the chunks. -/
def time (r : Fin 2048) : Fin 2048 := ⟨256 * (r.val % 8) + r.val / 8, by omega⟩

theorem time_bij : Function.Bijective time := by
  refine Finite.injective_iff_bijective.mp fun a b h => ?_
  have := congrArg Fin.val h
  simp only [time] at this
  exact Fin.ext (by omega)

theorem sum_time (f : Fin 2048 → EReal) : ∑ r, f (time r) = ∑ t, f t := time_bij.sum_comp f

theorem time_mk (t : Fin 2048) (h) : time ⟨t.val % 256 * 8 + t.val / 256, h⟩ = t := Fin.ext (by simp only [time]; omega)

/-- The row of the time-ordered array that row `r` of the computed one holds, in column `q`: the first 1024 columns
have their rows in the order of the chunks. -/
def row (q : Fin 8192) (r : Fin 2048) : Fin 2048 := if q.val < 1024 then time r else r

theorem sum_row (q : Fin 8192) (f : Fin 2048 → EReal) : ∑ r, f (row q r) = ∑ t, f t := by
  unfold row
  split
  · exact sum_time f
  · rfl

end Cert.Order

end
-- ==== Proof.Proj.lean ====
module

public import proofs.«01_k».proof.Proof.Gen.Kernel2Ideal.Frame
public import proofs.«01_k».proof.Proof.Gen.Reference2Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel2Ideal.Body

open Idealize.ShloMosaic Idealize.ShloMosaic.TcCoe Idealize.SL.Sem
open Cert.Kernel2Ideal Cert.Kernel2Ideal.Gen Cert.Order

theorem places : ∀ t : Fin grid0.N,
    win0_0.index t = ![if t.val < 2 then 1 else 0, 0, 0] ∧ win0_1.index t = ![t.val / 2, 0, t.val % 2] ∧
    win0_2.index t = ![0, t.val] := by decide +kernel

/-- The stack of the rows in time order and of the rows in the order of the chunks. -/
def stack (x : FVec Ideal S2048x1024 .f32) : FVec Ideal S2x2048x1024 .bf16 :=
  concatenate S2x2048x1024 0
    [⟨S1x2048x1024, broadcastInDim S1x2048x1024 ![1, 2] bcast_S2048x1024_S1x2048x1024_1_2 (truncf .bf16 x bitsLt_bf16_f32)⟩,
      ⟨S1x2048x1024, broadcastInDim S1x2048x1024 ![1, 2] bcast_S2048x1024_S1x2048x1024_1_2
        (shapeCast S2048x1024 (transpose S256x8x1024 [1, 0, 2] (shapeCast S8x256x1024 (truncf .bf16 x bitsLt_bf16_f32) shapeCasts_S2048x1024_S8x256x1024)
          transposes_S8x256x1024_S256x8x1024_1_0_2) shapeCasts_S256x8x1024_S2048x1024)⟩]
    concatenates_S1x2048x1024_S1x2048x1024_S2x2048x1024_d0

/-- The weights cut into eight slabs of columns. -/
def slabs (x : FVec Ideal S1024x8192 .f32) : FVec Ideal S8x1024x1024 .bf16 :=
  truncf .bf16 (transpose S8x1024x1024 [1, 0, 2] (shapeCast S1024x8x1024 x shapeCasts_S1024x8192_S1024x8x1024)
    transposes_S1024x8x1024_S8x1024x1024_1_0_2) bitsLt_bf16_f32

theorem stack_at (x : FVec Ideal S2048x1024 .f32) (s : Fin 2) (r : Fin 2048) (k : Fin 1024) :
    (stack x (ix3 s r k) : EReal) = x (ix2 (if s = 0 then r else time r) k) := by
  fin_cases s
  · pointwise [stack]
  · pointwise [stack]
    simp [time, Nat.mul_comm]

theorem slabs_at (x : FVec Ideal S1024x8192 .f32) (s : Fin 8) (k q : Fin 1024) :
    (slabs x (ix3 s k q) : EReal) = x (ix2 k ⟨1024 * s.val + q.val, by omega⟩) := by
  pointwise [slabs]
  simp only [Nat.mul_comm]

variable {m : (ℓ : Loc nD τ sig) → Buf (Elt Ideal) ℓ} {c : Dev nD}

/-- The two arguments at a device. -/
abbrev aH (m : (ℓ : Loc nD τ sig) → Buf (Elt Ideal) ℓ) (c : Dev nD) : FVec Ideal S2048x1024 .f32 := m ((c : Thread nD τ).loc main_arg0)
abbrev aW (m : (ℓ : Loc nD τ sig) → Buf (Elt Ideal) ℓ) (c : Dev nD) : FVec Ideal S1024x8192 .f32 := m ((c : Thread nD τ).loc main_arg1)

theorem v6_eq : (V m c main_v6 : FVec Ideal S2x2048x1024 .bf16) = stack (aH m c) := by
  unfold V V0
  simp only [List.flatten_cons, List.flatten_nil, List.append_nil, List.cons_append, List.nil_append]
  after_results_simp
  rfl

theorem v9_eq : (V m c main_v9 : FVec Ideal S8x1024x1024 .bf16) = slabs (aW m c) := by
  unfold V V0
  simp only [List.flatten_cons, List.flatten_nil, List.append_nil, List.cons_append, List.nil_append]
  after_results_simp
  rfl

theorem sixteen (t : Fin grid0.N) : t.val < 16 := lt_of_lt_of_eq t.isLt N_0

/-- The column that column `l` of block `t` is. -/
def col (t : Fin grid0.N) (l : Fin 512) : Fin 8192 := ⟨512 * t.val + l.val, by have := sixteen t; omega⟩

theorem blk0_at (t : Fin grid0.N) (l : Fin 512) (r : Fin 2048) (k : Fin 1024) :
    (iblk m c 0 t (ix3 0 r k) : EReal) = aH m c (ix2 (row (col t l) r) k) := by
  have e : (iblk m c 0 t (ix3 0 r k) : EReal) = stack (aH m c) (ix3 (if t.val < 2 then 1 else 0) r k) := by
    rw [← v6_eq]
    by_cases h : t.val < 2
    · simp only [h, if_true]
      blk_ext [iblk, places t, h]
      simp
    · simp only [h, if_false]
      blk_ext [iblk, places t, h]
      simp
  rw [e, stack_at]
  by_cases h : t.val < 2
  · have h' : 512 * t.val + l.val < 1024 := by omega
    simp [row, col, h, h']
  · have h' : ¬ 512 * t.val + l.val < 1024 := by omega
    simp [row, col, h, h']

theorem blk1_at (t : Fin grid0.N) (k : Fin 1024) (l : Fin 512) :
    (iblk m c 1 t (ix3 0 k l) : EReal) = aW m c (ix2 k (col t l)) := by
  have ht := sixteen t
  have e : (iblk m c 1 t (ix3 0 k l) : EReal) = slabs (aW m c) (ix3 ⟨t.val / 2, by omega⟩ k ⟨512 * (t.val % 2) + l.val, by omega⟩) := by
    rw [← v9_eq]
    blk_ext [iblk, places t]
  rw [e, slabs_at]
  congr 2
  exact Fin.ext (by simp only [col]; omega)

theorem out_at (x0 : Vec Ideal S1x2048x1024 .bf16) (x1 : Vec Ideal S1x1024x512 .bf16) (r : Fin 2048) (l : Fin 512) :
    (out0_2 x0 x1 (ix2 r l) : EReal) = ∑ k : Fin 1024, (x0 (ix3 0 r k) : EReal) * x1 (ix3 0 k l) := by
  unfold out0_2
  rw [View.canon_unit_zero (S := S2048x512) (by decide), View.ld_unit_zero (S := S1x2048x1024) (by decide), View.ld_unit_zero (S := S1x1024x512) (by decide)]
  pointwise [k0_pay1]

/-- The product with the rows of the first 1024 columns in the order of the chunks. -/
theorem arr2 : (dats m 0 c).arrAt 2 (cfgs 0).N = fun i : S2048x8192.Idx =>
    ∑ k : Fin 1024, (aH m c (ix2 (row (i 1) (i 0)) k) : EReal) * aW m c (ix2 k (i 1)) := by
  refine (dats m 0 c).arrAt_eq_of_covers 2 _ (by decide +kernel) fun t hf y => ?_
  blk_simp
  rw [after0_2]
  idx_vars y
  have e0 : (win0_2.blk t).view.emb (ix2 y0 y1) 0 = y0 := by
    refine Fin.ext ?_
    blk_simp [places t]
  have e1 : (win0_2.blk t).view.emb (ix2 y0 y1) 1 = col t y1 := by
    refine Fin.ext ?_
    blk_simp [places t, col]
    exact congrArg (· + _) (Nat.mul_comm _ _)
  refine (out_at _ _ y0 y1).trans ?_
  rw [e0, e1]
  exact Finset.sum_congr rfl fun k _ => by rw [blk0_at t y1, blk1_at]

abbrev tailOps : List (HloOp τ sig (Elt Ideal)) := [hostOps1].flatten

theorem tail16 (W : Valuation τ sig (Elt Ideal)) : (StableHlo.after tailOps W (Proc.devRef .tc main_v16) : FVec Ideal S2048x8192 .f32)
    = concatenate S2048x8192 1
      [⟨S2048x1024, shapeCast S2048x1024 (transpose S8x256x1024 [1, 0, 2] (shapeCast S256x8x1024
          (extractStridedSlice S2048x1024 ![0, 0] (W (Proc.devRef .tc main_v10) : FVec Ideal S2048x8192 .f32) slices_S2048x8192_S2048x1024_0_0)
          shapeCasts_S2048x1024_S256x8x1024) transposes_S256x8x1024_S8x256x1024_1_0_2) shapeCasts_S8x256x1024_S2048x1024⟩,
        ⟨S2048x7168, extractStridedSlice S2048x7168 ![0, 1024] (W (Proc.devRef .tc main_v10) : FVec Ideal S2048x8192 .f32) slices_S2048x8192_S2048x7168_0_1024⟩]
      concatenates_S2048x1024_S2048x7168_S2048x8192_d1 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v16 = fun i : S2048x8192.Idx =>
    ∑ k : Fin 1024, (aH m c (ix2 (i 0) k) : EReal) * aW m c (ix2 k (i 1)) := by
  refine (tail16 (after0 m c)).trans ?_
  rw [show after0 m c (Proc.devRef .tc main_v10) = _ from (left 2).trans arr2]
  funext i
  idx_vars i
  pointwise
  split
  · rename_i h
    simp only [row, h, if_true, time_mk]
  · rename_i h
    have e : 1024 + (i1.val - 1024) = i1.val := by omega
    simp only [row, e, h, if_false]

end Cert.Kernel2Ideal.Body

namespace Cert.Join2

open Idealize.ShloMosaic Idealize.ShloMosaic.TcCoe Idealize.SL.Sem

/-- The reference runs no semaphore: every counter family over its signature is the zero one. -/
theorem no_counter (s : GSem Reference2Ideal.nD Reference2Ideal.τ Reference2Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference2Ideal (hReference2Ideal := Reference2Ideal.Gen.facts) := fun m ρ _ =>
  (θ_run Reference2Ideal.defs _ _).mono (fun r h => ⟨fun c => (h c).2, no_counter _⟩) (Reference2Ideal.Value.run m ρ)

open Reference2Ideal in
theorem reference_at (x : FVec Ideal S2048x1024 .f32) (y : FVec Ideal S1024x8192 .f32) (r : Fin 2048) (q : Fin 8192) :
    (Host.dotGeneral dot_S2048x1024_S1024x8192_S2048x8192_1_0_0_1_n_n none x y (ix2 r q) : EReal) = ∑ k : Fin 1024, (x (ix2 r k) : EReal) * y (ix2 k q) := by
  pointwise

/-- The kernel and the reference end with the same product. -/
theorem same : algebraic_Kernel2Ideal_Reference2Ideal (hKernel2Ideal := Kernel2Ideal.Gen.facts) (hReference2Ideal := Reference2Ideal.Gen.facts) := by
  intro m g m' g' _ ha
  refine ⟨fun c => Kernel2Ideal.Body.endOf m c _, ?_, ?_⟩
  · refine (θ_run Kernel2Ideal.defs _ _).mono (fun r h c => ?_) (θ_run_and (Kernel2Ideal.Gen.run_main m g) (Kernel2Ideal.Gen.unchanged m g))
    exact ⟨h.1.rest_eq c Kernel2Ideal.main_v16 (by decide), h.2 c⟩
  · refine (θ_run Reference2Ideal.defs _ _).mono (fun r h c => ?_) (Reference2Ideal.Value.run m' g')
    obtain ⟨h0, hrest⟩ := h c
    obtain ⟨e0, e1⟩ := ha c
    refine ⟨h0.trans ?_, hrest⟩
    refine Eq.trans ?_ Kernel2Ideal.Body.value.symm
    rw [e0, e1]
    funext i
    idx_vars i
    exact reference_at _ _ i0 i1

end Cert.Join2

end
-- ==== Proof.DwIn.lean ====
module

public import proofs.«01_k».proof.Proof.Gen.Kernel3Ideal.Frame
public import proofs.«01_k».proof.Proof.Gen.Reference3Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel3Ideal.Body

open Idealize.ShloMosaic Idealize.ShloMosaic.TcCoe Idealize.SL.Sem
open Cert.Kernel3Ideal Cert.Kernel3Ideal.Gen Cert.Order

theorem places : ∀ t : Fin grid0.N,
    win0_0.index t = ![if t.val < 2 then 1 else 0, 0, 0] ∧ win0_1.index t = ![0, t.val] ∧
    win0_2.index t = ![t.val / 2, 0, t.val % 2] := by decide +kernel

/-- The stack of the rows in time order and of the rows in the order of the chunks. -/
def stack (x : FVec Ideal S2048x1024 .f32) : FVec Ideal S2x2048x1024 .bf16 :=
  concatenate S2x2048x1024 0
    [⟨S1x2048x1024, broadcastInDim S1x2048x1024 ![1, 2] bcast_S2048x1024_S1x2048x1024_1_2 (truncf .bf16 x bitsLt_bf16_f32)⟩,
      ⟨S1x2048x1024, broadcastInDim S1x2048x1024 ![1, 2] bcast_S2048x1024_S1x2048x1024_1_2
        (shapeCast S2048x1024 (transpose S256x8x1024 [1, 0, 2] (shapeCast S8x256x1024 (truncf .bf16 x bitsLt_bf16_f32) shapeCasts_S2048x1024_S8x256x1024)
          transposes_S8x256x1024_S256x8x1024_1_0_2) shapeCasts_S256x8x1024_S2048x1024)⟩]
    concatenates_S1x2048x1024_S1x2048x1024_S2x2048x1024_d0

/-- The array with the rows of its first 1024 columns in the order of the chunks. -/
def step (x : FVec Ideal S2048x8192 .f32) : FVec Ideal S2048x8192 .bf16 :=
  truncf .bf16 (concatenate S2048x8192 1
    [⟨S2048x1024, shapeCast S2048x1024 (transpose S256x8x1024 [1, 0, 2] (shapeCast S8x256x1024
        (extractStridedSlice S2048x1024 ![0, 0] x slices_S2048x8192_S2048x1024_0_0)
        shapeCasts_S2048x1024_S8x256x1024) transposes_S8x256x1024_S256x8x1024_1_0_2) shapeCasts_S256x8x1024_S2048x1024⟩,
      ⟨S2048x7168, extractStridedSlice S2048x7168 ![0, 1024] x slices_S2048x8192_S2048x7168_0_1024⟩]
    concatenates_S2048x1024_S2048x7168_S2048x8192_d1) bitsLt_bf16_f32

theorem stack_at (x : FVec Ideal S2048x1024 .f32) (s : Fin 2) (r : Fin 2048) (k : Fin 1024) :
    (stack x (ix3 s r k) : EReal) = x (ix2 (if s = 0 then r else time r) k) := by
  fin_cases s
  · pointwise [stack]
  · pointwise [stack]
    simp [time, Nat.mul_comm]

theorem step_at (x : FVec Ideal S2048x8192 .f32) (r : Fin 2048) (q : Fin 8192) :
    (step x (ix2 r q) : EReal) = x (ix2 (row q r) q) := by
  pointwise [step]
  split
  · rename_i h
    simp [row, h, time, Nat.mul_comm]
  · rename_i h
    have e : 1024 + (q.val - 1024) = q.val := by omega
    simp only [row, h, e, if_false]

variable {m : (ℓ : Loc nD τ sig) → Buf (Elt Ideal) ℓ} {c : Dev nD}

/-- The two arguments at a device. -/
abbrev aH (m : (ℓ : Loc nD τ sig) → Buf (Elt Ideal) ℓ) (c : Dev nD) : FVec Ideal S2048x1024 .f32 := m ((c : Thread nD τ).loc main_arg0)
abbrev aD (m : (ℓ : Loc nD τ sig) → Buf (Elt Ideal) ℓ) (c : Dev nD) : FVec Ideal S2048x8192 .f32 := m ((c : Thread nD τ).loc main_arg1)

theorem v6_eq : (V m c main_v6 : FVec Ideal S2x2048x1024 .bf16) = stack (aH m c) := by
  unfold V V0
  simp only [List.flatten_cons, List.flatten_nil, List.append_nil, List.cons_append, List.nil_append]
  after_results_simp
  rfl

theorem v13_eq : (V m c main_v13 : FVec Ideal S2048x8192 .bf16) = step (aD m c) := by
  unfold V V0
  simp only [List.flatten_cons, List.flatten_nil, List.append_nil, List.cons_append, List.nil_append]
  after_results_simp
  rfl

theorem sixteen (t : Fin grid0.N) : t.val < 16 := lt_of_lt_of_eq t.isLt N_0

/-- The column that column `l` of block `t` is. -/
def col (t : Fin grid0.N) (l : Fin 512) : Fin 8192 := ⟨512 * t.val + l.val, by have := sixteen t; omega⟩

theorem blk0_at (t : Fin grid0.N) (l : Fin 512) (r : Fin 2048) (k : Fin 1024) :
    (iblk m c 0 t (ix3 0 r k) : EReal) = aH m c (ix2 (row (col t l) r) k) := by
  have e : (iblk m c 0 t (ix3 0 r k) : EReal) = stack (aH m c) (ix3 (if t.val < 2 then 1 else 0) r k) := by
    rw [← v6_eq]
    by_cases h : t.val < 2
    · simp only [h, if_true]
      blk_ext [iblk, places t, h]
      simp
    · simp only [h, if_false]
      blk_ext [iblk, places t, h]
      simp
  rw [e, stack_at]
  by_cases h : t.val < 2
  · have h' : 512 * t.val + l.val < 1024 := by omega
    simp [row, col, h, h']
  · have h' : ¬ 512 * t.val + l.val < 1024 := by omega
    simp [row, col, h, h']

theorem blk1_at (t : Fin grid0.N) (r : Fin 2048) (l : Fin 512) :
    (iblk m c 1 t (ix2 r l) : EReal) = aD m c (ix2 (row (col t l) r) (col t l)) := by
  rw [← step_at (aD m c), ← v13_eq]
  blk_ext [iblk, places t, col]

theorem out_at (x0 : Vec Ideal S1x2048x1024 .bf16) (x1 : Vec Ideal S2048x512 .bf16) (k : Fin 1024) (l : Fin 512) :
    (out0_2 x0 x1 (ix3 0 k l) : EReal) = ∑ r : Fin 2048, (x0 (ix3 0 r k) : EReal) * x1 (ix2 r l) := by
  unfold out0_2
  rw [View.canon_unit_zero (S := S1x1024x512) (by decide), View.ld_unit_zero (S := S1x2048x1024) (by decide), View.ld_unit_zero (S := S2048x512) (by decide)]
  pointwise [k0_pay1]

/-- The column that column `q` of slab `s` is. -/
def place (s : Fin 8) (q : Fin 1024) : Fin 8192 := ⟨1024 * s.val + q.val, by omega⟩

/-- The gradient in slabs of columns. -/
theorem arr2 : (dats m 0 c).arrAt 2 (cfgs 0).N = fun i : S8x1024x1024.Idx =>
    ∑ r : Fin 2048, (aH m c (ix2 r (i 1)) : EReal) * aD m c (ix2 r (place (i 0) (i 2))) := by
  refine (dats m 0 c).arrAt_eq_of_covers 2 _ (by decide +kernel) fun t hf y => ?_
  blk_simp
  rw [after0_2]
  idx_vars y
  obtain rfl : y0 = 0 := Subsingleton.elim _ _
  have ht := sixteen t
  have e1 : (win0_2.blk t).view.emb (ix3 0 y1 y2) 1 = y1 := by
    refine Fin.ext ?_
    blk_simp [places t]
  have e0 : place ((win0_2.blk t).view.emb (ix3 0 y1 y2) 0) ((win0_2.blk t).view.emb (ix3 0 y1 y2) 2) = col t y2 := by
    refine Fin.ext ?_
    blk_simp [places t, col, place]
    simp
    omega
  refine (out_at _ _ y1 y2).trans ?_
  rw [e0, e1]
  refine Eq.trans (Finset.sum_congr rfl fun r _ => ?_) (sum_row (col t y2) fun r => (aH m c (ix2 r y1) : EReal) * aD m c (ix2 r (col t y2)))
  rw [blk0_at t y2, blk1_at]

abbrev tailOps : List (HloOp τ sig (Elt Ideal)) := [hostOps1].flatten

theorem tail17 (W : Valuation τ sig (Elt Ideal)) : (StableHlo.after tailOps W (Proc.devRef .tc main_v17) : FVec Ideal S1024x8192 .f32)
    = extf (F := Ideal) .f32 (shapeCast S1024x8192 (transpose S1024x8x1024 [1, 0, 2] (W (Proc.devRef .tc main_v14) : FVec Ideal S8x1024x1024 .bf16)
        transposes_S8x1024x1024_S1024x8x1024_1_0_2) shapeCasts_S1024x8x1024_S1024x8192) bitsLt_bf16_f32 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem place_mk (q : Fin 8192) (h h') : place ⟨q.val / 1024, h⟩ ⟨q.val % 1024, h'⟩ = q := Fin.ext (by simp only [place]; omega)

theorem value : endOf m c main_v17 = fun i : S1024x8192.Idx =>
    ∑ r : Fin 2048, (aH m c (ix2 r (i 0)) : EReal) * aD m c (ix2 r (i 1)) := by
  refine (tail17 (after0 m c)).trans ?_
  rw [show after0 m c (Proc.devRef .tc main_v14) = _ from (left 2).trans arr2]
  funext i
  idx_vars i
  pointwise
  rw [place_mk]

end Cert.Kernel3Ideal.Body

namespace Cert.Join3

open Idealize.ShloMosaic Idealize.ShloMosaic.TcCoe Idealize.SL.Sem

/-- The reference runs no semaphore: every counter family over its signature is the zero one. -/
theorem no_counter (s : GSem Reference3Ideal.nD Reference3Ideal.τ Reference3Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference3Ideal (hReference3Ideal := Reference3Ideal.Gen.facts) := fun m ρ _ =>
  (θ_run Reference3Ideal.defs _ _).mono (fun r h => ⟨fun c => (h c).2, no_counter _⟩) (Reference3Ideal.Value.run m ρ)

open Reference3Ideal Reference3Ideal.Facts₀ in
theorem reference_at (x : FVec Ideal S2048x1024 .f32) (y : FVec Ideal S2048x8192 .f32) (k : Fin 1024) (q : Fin 8192) :
    (transpose S1024x8192 [1, 0] (Host.dotGeneral dot_S2048x8192_S2048x1024_S8192x1024_0_0_1_1_n_n none y x) transposes_S8192x1024_S1024x8192_1_0 (ix2 k q) : EReal)
      = ∑ r : Fin 2048, (x (ix2 r k) : EReal) * y (ix2 r q) := by
  pointwise
  exact Finset.sum_congr rfl fun r _ => mul_comm _ _

/-- The kernel and the reference end with the same product. -/
theorem same : algebraic_Kernel3Ideal_Reference3Ideal (hKernel3Ideal := Kernel3Ideal.Gen.facts) (hReference3Ideal := Reference3Ideal.Gen.facts) := by
  intro m g m' g' _ ha
  refine ⟨fun c => Kernel3Ideal.Body.endOf m c _, ?_, ?_⟩
  · refine (θ_run Kernel3Ideal.defs _ _).mono (fun r h c => ?_) (θ_run_and (Kernel3Ideal.Gen.run_main m g) (Kernel3Ideal.Gen.unchanged m g))
    exact ⟨h.1.rest_eq c Kernel3Ideal.main_v17 (by decide), h.2 c⟩
  · refine (θ_run Reference3Ideal.defs _ _).mono (fun r h c => ?_) (Reference3Ideal.Value.run m' g')
    obtain ⟨h0, hrest⟩ := h c
    obtain ⟨e0, e1⟩ := ha c
    refine ⟨h0.trans ?_, hrest⟩
    refine Eq.trans ?_ Kernel3Ideal.Body.value.symm
    rw [e0, e1]
    funext i
    idx_vars i
    exact reference_at _ _ i0 i1

end Cert.Join3

end
-- ==== Proof.DhTime.lean ====
module

public import proofs.«01_k».proof.Proof.Gen.Kernel4Ideal.Value
public import proofs.«01_k».proof.Proof.Gen.Reference4Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel4Ideal.Body

open Idealize.ShloMosaic Idealize.ShloMosaic.TcCoe Idealize.SL.Sem
open Cert.Kernel4Ideal Cert.Kernel4Ideal.Gen Cert.Order

theorem places : ∀ t : Fin grid0.N,
    win0_0.index t = ![0, 1 + t.val] ∧ win0_1.index t = ![1 + t.val, 0, 0] ∧ win0_2.index t = ![0, 0] := by decide +kernel

/-- The array with the rows of its first 1024 columns in the order of the chunks. -/
def step (x : FVec Ideal S2048x8192 .f32) : FVec Ideal S2048x8192 .bf16 :=
  truncf .bf16 (concatenate S2048x8192 1
    [⟨S2048x1024, shapeCast S2048x1024 (transpose S256x8x1024 [1, 0, 2] (shapeCast S8x256x1024
        (extractStridedSlice S2048x1024 ![0, 0] x slices_S2048x8192_S2048x1024_0_0)
        shapeCasts_S2048x1024_S8x256x1024) transposes_S8x256x1024_S256x8x1024_1_0_2) shapeCasts_S256x8x1024_S2048x1024⟩,
      ⟨S2048x7168, extractStridedSlice S2048x7168 ![0, 1024] x slices_S2048x8192_S2048x7168_0_1024⟩]
    concatenates_S2048x1024_S2048x7168_S2048x8192_d1) bitsLt_bf16_f32

/-- The weights cut into eight slabs of columns. -/
def slabs (x : FVec Ideal S1024x8192 .f32) : FVec Ideal S8x1024x1024 .bf16 :=
  truncf .bf16 (transpose S8x1024x1024 [1, 0, 2] (shapeCast S1024x8x1024 x shapeCasts_S1024x8192_S1024x8x1024)
    transposes_S1024x8x1024_S8x1024x1024_1_0_2) bitsLt_bf16_f32

theorem step_at (x : FVec Ideal S2048x8192 .f32) (r : Fin 2048) (q : Fin 8192) :
    (step x (ix2 r q) : EReal) = x (ix2 (row q r) q) := by
  pointwise [step]
  split
  · rename_i h
    simp [row, h, time, Nat.mul_comm]
  · rename_i h
    have e : 1024 + (q.val - 1024) = q.val := by omega
    simp only [row, h, e, if_false]

theorem slabs_at (x : FVec Ideal S1024x8192 .f32) (s : Fin 8) (k q : Fin 1024) :
    (slabs x (ix3 s k q) : EReal) = x (ix2 k ⟨1024 * s.val + q.val, by omega⟩) := by
  pointwise [slabs]
  simp only [Nat.mul_comm]

variable {m : (ℓ : Loc nD τ sig) → Buf (Elt Ideal) ℓ} {c : Dev nD}

/-- The two arguments at a device. -/
abbrev aD (m : (ℓ : Loc nD τ sig) → Buf (Elt Ideal) ℓ) (c : Dev nD) : FVec Ideal S2048x8192 .f32 := m ((c : Thread nD τ).loc main_arg0)
abbrev aW (m : (ℓ : Loc nD τ sig) → Buf (Elt Ideal) ℓ) (c : Dev nD) : FVec Ideal S1024x8192 .f32 := m ((c : Thread nD τ).loc main_arg1)

theorem v6_eq : (V m c main_v6 : FVec Ideal S2048x8192 .bf16) = step (aD m c) := by
  unfold V
  after_results_simp
  rfl

theorem v9_eq : (V m c main_v9 : FVec Ideal S8x1024x1024 .bf16) = slabs (aW m c) := by
  unfold V
  after_results_simp
  rfl

theorem seven (t : Fin grid0.N) : t.val < 7 := lt_of_lt_of_eq t.isLt N_0

/-- Column `k` of the `n`-th slab after the first. -/
def far (n : ℕ) (k : Fin 1024) (h : n < 7) : Fin 8192 := ⟨1024 * (1 + n) + k.val, by omega⟩

theorem row_far (n : ℕ) (k : Fin 1024) (h : n < 7) (r : Fin 2048) : row (far n k h) r = r :=
  if_neg (by simp only [far]; omega)

theorem blk0_at (t : Fin grid0.N) (r : Fin 2048) (k : Fin 1024) :
    (iblk m c 0 t (ix2 r k) : EReal) = aD m c (ix2 r (far t.val k (seven t))) := by
  have e := step_at (aD m c) r (far t.val k (seven t))
  rw [row_far] at e
  rw [← e, ← v6_eq]
  blk_ext [iblk, places t, far]

theorem blk1_at (t : Fin grid0.N) (d k : Fin 1024) :
    (iblk m c 1 t (ix3 0 d k) : EReal) = aW m c (ix2 d (far t.val k (seven t))) := by
  have ht := seven t
  have e : (iblk m c 1 t (ix3 0 d k) : EReal) = slabs (aW m c) (ix3 ⟨1 + t.val, by omega⟩ d k) := by
    rw [← v9_eq]
    blk_ext [iblk, places t]
  rw [e, slabs_at]
  rfl

section
variable (c : Dev nD) (i : grid0.Coords) (arg3 : Memref sig .tc .vmem S2048x1024 .bf16) (harg3 : arg3.IsWhole)
  (arg4 : Memref sig .tc .vmem S1x1024x1024 .bf16) (harg4 : arg4.IsWhole) (arg5 : Memref sig .tc .vmem S2048x1024 .f32) (harg5 : arg5.IsWhole)
  (x0 : Vec Ideal S2048x1024 .bf16) (x1 : Vec Ideal S1x1024x1024 .bf16)

theorem outA_at (hc0 : cond0_0 i) (hc1 : ¬cond0_1 i) (r : Fin 2048) (d : Fin 1024) :
    (out0_A_2 c i arg3 harg3 arg4 harg4 arg5 harg5 hc0 hc1 x0 x1 (ix2 r d) : EReal) = ∑ k : Fin 1024, (x0 (ix2 r k) : EReal) * x1 (ix3 0 d k) := by
  unfold out0_A_2
  rw [View.read_writes_junk_eq_canon]
  unfold kernelRun0_A
  dsimp only
  rw [View.canon_unit_zero (S := S2048x1024) (by decide)]
  simp only [View.readAt_eq_ld, harg3.read_unread, harg4.read_unread]
  rw [View.ld_unit_zero (S := S2048x1024) (by decide), View.ld_unit_zero (S := S1x1024x1024) (by decide)]
  pointwise [k0_pay1]

theorem outB_at (hc0 : ¬cond0_0 i) (hc1 : cond0_1 i) (x2 : Vec Ideal S2048x1024 .f32) (r : Fin 2048) (d : Fin 1024) :
    (out0_B_2 c i arg3 harg3 arg4 harg4 arg5 harg5 hc0 hc1 x0 x1 x2 (ix2 r d) : EReal)
      = x2 (ix2 r d) + ∑ k : Fin 1024, (x0 (ix2 r k) : EReal) * x1 (ix3 0 d k) := by
  unfold out0_B_2
  rw [View.read_writes_junk_eq_canon]
  unfold kernelRun0_B
  dsimp only
  rw [View.canon_unit_zero (S := S2048x1024) (by decide)]
  simp only [View.readAt_eq_ld, harg3.read_unread, harg4.read_unread, harg5.read_unread]
  rw [View.ld_unit_zero (S := S2048x1024) (by decide), View.ld_unit_zero (S := S1x1024x1024) (by decide), View.ld_unit_zero (S := S2048x1024) (by decide)]
  pointwise [k0_pay2, k0_pay1]

end

/-- What the `n`-th slab after the first adds to the gradient. -/
def part (m : (ℓ : Loc nD τ sig) → Buf (Elt Ideal) ℓ) (c : Dev nD) (r : Fin 2048) (d : Fin 1024) (n : ℕ) : EReal :=
  if h : n < 7 then ∑ k : Fin 1024, (aD m c (ix2 r (far n k h)) : EReal) * aW m c (ix2 d (far n k h)) else 0

theorem part_at (t : Fin grid0.N) (r : Fin 2048) (d : Fin 1024) (x0 : Vec Ideal S2048x1024 .bf16) (x1 : Vec Ideal S1x1024x1024 .bf16)
    (h0 : x0 = iblk m c 0 t) (h1 : x1 = iblk m c 1 t) :
    ∑ k : Fin 1024, (x0 (ix2 r k) : EReal) * x1 (ix3 0 d k) = part m c r d t.val := by
  subst h0 h1
  rw [part, dif_pos (seven t)]
  exact Finset.sum_congr rfl fun k _ => congrArg₂ (· * ·) (blk0_at t r k) (blk1_at t d k)

/-- After point `n` the result's buffer holds the sum over the slabs up to the `n`-th. -/
theorem outs_at (r : Fin 2048) (d : Fin 1024) : ∀ (n : ℕ) (hn : n < cfg0.N),
    (outsAt0 m c n hn (ix2 r d) : EReal) = ∑ s ∈ Finset.range (n + 1), part m c r d s
  | 0, hn => by
    rw [outsAt0_A m c ⟨0, hn⟩ rfl (Nat.not_succ_le_zero 0), Finset.sum_range_one]
    exact (outA_at ..).trans (part_at ⟨0, hn⟩ r d _ _ rfl rfl)
  | n + 1, hn => by
    have h7 := seven ⟨n + 1, hn⟩
    simp only at h7
    rw [outsAt0_B m c ⟨n + 1, hn⟩ (by simp only; omega) (by simp only; omega), Finset.sum_range_succ, ← outs_at r d n (Nat.lt_of_succ_lt hn)]
    exact (outB_at ..).trans (congrArg (_ + ·) (part_at ⟨n + 1, hn⟩ r d _ _ rfl rfl))

/-- Column `k` of the columns after the first 1024. -/
def rest (k : Fin 7168) : Fin 8192 := ⟨1024 + k.val, by omega⟩

theorem sum_part (r : Fin 2048) (d : Fin 1024) :
    ∑ s ∈ Finset.range 7, part m c r d s = ∑ k : Fin 7168, (aD m c (ix2 r (rest k)) : EReal) * aW m c (ix2 d (rest k)) := by
  rw [Finset.sum_range]
  rw [← Fintype.sum_equiv (finProdFinEquiv (m := 7) (n := 1024)) (fun p => (aD m c (ix2 r (far p.1.val p.2 p.1.isLt)) : EReal) * aW m c (ix2 d (far p.1.val p.2 p.1.isLt)))
    (fun k : Fin 7168 => (aD m c (ix2 r (rest k)) : EReal) * aW m c (ix2 d (rest k))) (fun p => ?_)]
  · rw [Fintype.sum_prod_type]
    exact Finset.sum_congr rfl fun s _ => dif_pos s.isLt
  · have e : far p.1.val p.2 p.1.isLt = rest (finProdFinEquiv p) := Fin.ext (by simp only [far, rest, finProdFinEquiv_apply_val]; omega)
    rw [e]

/-- The gradient. -/
theorem value : (dats m 0 c).arrAt 2 cfg0.N = fun i : S2048x1024.Idx =>
    ∑ k : Fin 7168, (aD m c (ix2 (i 0) (rest k)) : EReal) * aW m c (ix2 (i 1) (rest k)) := by
  refine (dats m 0 c).arrAt_eq_of_covers 2 _ (by decide +kernel) fun t hf y => ?_
  have h6 : t.val = 6 := by
    have := (flush0_2 t).mp hf
    have := seven t
    omega
  blk_simp
  rw [after0_2]
  idx_vars y
  have e0 : (win0_2.blk t).view.emb (ix2 y0 y1) 0 = y0 := by
    refine Fin.ext ?_
    blk_simp [places t]
  have e1 : (win0_2.blk t).view.emb (ix2 y0 y1) 1 = y1 := by
    refine Fin.ext ?_
    blk_simp [places t]
  refine (outs_at y0 y1 _ _).trans ?_
  rw [e0, e1, h6]
  exact sum_part y0 y1

end Cert.Kernel4Ideal.Body

namespace Cert.Join4

open Idealize.ShloMosaic Idealize.ShloMosaic.TcCoe Idealize.SL.Sem

/-- The reference runs no semaphore: every counter family over its signature is the zero one. -/
theorem no_counter (s : GSem Reference4Ideal.nD Reference4Ideal.τ Reference4Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference4Ideal (hReference4Ideal := Reference4Ideal.Gen.facts) := fun m ρ _ =>
  (θ_run Reference4Ideal.defs _ _).mono (fun r h => ⟨fun c => (h c).2, no_counter _⟩) (Reference4Ideal.Value.run m ρ)

open Reference4Ideal Reference4Ideal.Facts₀ in
theorem reference_at (x : FVec Ideal S2048x8192 .f32) (y : FVec Ideal S1024x8192 .f32) (r : Fin 2048) (d : Fin 1024) :
    (Host.dotGeneral dot_S2048x7168_S1024x7168_S2048x1024_1_1_0_0_n_n none (extractStridedSlice S2048x7168 ![0, 1024] x slices_S2048x8192_S2048x7168_0_1024)
        (extractStridedSlice S1024x7168 ![0, 1024] y slices_S1024x8192_S1024x7168_0_1024) (ix2 r d) : EReal)
      = ∑ k : Fin 7168, (x (ix2 r (Kernel4Ideal.Body.rest k)) : EReal) * y (ix2 d (Kernel4Ideal.Body.rest k)) := by
  pointwise [Kernel4Ideal.Body.rest]

/-- The kernel and the reference end with the same product. -/
theorem same : algebraic_Kernel4Ideal_Reference4Ideal (hKernel4Ideal := Kernel4Ideal.Gen.facts) (hReference4Ideal := Reference4Ideal.Gen.facts) := by
  intro m g m' g' _ ha
  refine ⟨fun c => (Kernel4Ideal.Gen.dats m 0 c).arrAt 2 Kernel4Ideal.cfg0.N, Kernel4Ideal.Value.run_blocks m g, ?_⟩
  · refine (θ_run Reference4Ideal.defs _ _).mono (fun r h c => ?_) (Reference4Ideal.Value.run m' g')
    obtain ⟨h0, hrest⟩ := h c
    obtain ⟨e0, e1⟩ := ha c
    refine ⟨h0.trans ?_, hrest⟩
    refine Eq.trans ?_ Kernel4Ideal.Body.value.symm
    rw [e0, e1]
    funext i
    idx_vars i
    exact reference_at _ _ i0 i1

end Cert.Join4

end
-- ==== Proof.DhChunked.lean ====
module

public import proofs.«01_k».proof.Proof.Gen.Kernel5Ideal.Frame
public import proofs.«01_k».proof.Proof.Gen.Reference5Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel5Ideal.Body

open Idealize.ShloMosaic Idealize.ShloMosaic.TcCoe Idealize.SL.Sem
open Cert.Kernel5Ideal Cert.Kernel5Ideal.Gen Cert.Order

theorem places : ∀ t : Fin grid0.N,
    win0_0.index t = ![t.val, 0] ∧ win0_1.index t = ![0, 0, 0] ∧ win0_2.index t = ![t.val, 0] := by decide +kernel

/-- The array with the rows of its first 1024 columns in the order of the chunks. -/
def step (x : FVec Ideal S2048x8192 .f32) : FVec Ideal S2048x8192 .bf16 :=
  truncf .bf16 (concatenate S2048x8192 1
    [⟨S2048x1024, shapeCast S2048x1024 (transpose S256x8x1024 [1, 0, 2] (shapeCast S8x256x1024
        (extractStridedSlice S2048x1024 ![0, 0] x slices_S2048x8192_S2048x1024_0_0)
        shapeCasts_S2048x1024_S8x256x1024) transposes_S8x256x1024_S256x8x1024_1_0_2) shapeCasts_S256x8x1024_S2048x1024⟩,
      ⟨S2048x7168, extractStridedSlice S2048x7168 ![0, 1024] x slices_S2048x8192_S2048x7168_0_1024⟩]
    concatenates_S2048x1024_S2048x7168_S2048x8192_d1) bitsLt_bf16_f32

/-- The weights cut into eight slabs of columns. -/
def slabs (x : FVec Ideal S1024x8192 .f32) : FVec Ideal S8x1024x1024 .bf16 :=
  truncf .bf16 (transpose S8x1024x1024 [1, 0, 2] (shapeCast S1024x8x1024 x shapeCasts_S1024x8192_S1024x8x1024)
    transposes_S1024x8x1024_S8x1024x1024_1_0_2) bitsLt_bf16_f32

theorem step_at (x : FVec Ideal S2048x8192 .f32) (r : Fin 2048) (q : Fin 8192) :
    (step x (ix2 r q) : EReal) = x (ix2 (row q r) q) := by
  pointwise [step]
  split
  · rename_i h
    simp [row, h, time, Nat.mul_comm]
  · rename_i h
    have e : 1024 + (q.val - 1024) = q.val := by omega
    simp only [row, h, e, if_false]

theorem slabs_at (x : FVec Ideal S1024x8192 .f32) (s : Fin 8) (k q : Fin 1024) :
    (slabs x (ix3 s k q) : EReal) = x (ix2 k ⟨1024 * s.val + q.val, by omega⟩) := by
  pointwise [slabs]
  simp only [Nat.mul_comm]

variable {m : (ℓ : Loc nD τ sig) → Buf (Elt Ideal) ℓ} {c : Dev nD}

/-- The two arguments at a device. -/
abbrev aD (m : (ℓ : Loc nD τ sig) → Buf (Elt Ideal) ℓ) (c : Dev nD) : FVec Ideal S2048x8192 .f32 := m ((c : Thread nD τ).loc main_arg0)
abbrev aW (m : (ℓ : Loc nD τ sig) → Buf (Elt Ideal) ℓ) (c : Dev nD) : FVec Ideal S1024x8192 .f32 := m ((c : Thread nD τ).loc main_arg1)

theorem v6_eq : (V m c main_v6 : FVec Ideal S2048x8192 .bf16) = step (aD m c) := by
  unfold V V0
  simp only [List.flatten_cons, List.flatten_nil, List.append_nil, List.cons_append, List.nil_append]
  after_results_simp
  rfl

theorem v9_eq : (V m c main_v9 : FVec Ideal S8x1024x1024 .bf16) = slabs (aW m c) := by
  unfold V V0
  simp only [List.flatten_cons, List.flatten_nil, List.append_nil, List.cons_append, List.nil_append]
  after_results_simp
  rfl

theorem four (t : Fin grid0.N) : t.val < 4 := lt_of_lt_of_eq t.isLt N_0

/-- The row that row `r` of block `t` is. -/
def spot (t : Fin grid0.N) (r : Fin 512) : Fin 2048 := ⟨512 * t.val + r.val, by have := four t; omega⟩

/-- Column `k` of the first 1024 columns. -/
def near (k : Fin 1024) : Fin 8192 := ⟨k.val, by omega⟩

theorem row_near (k : Fin 1024) (r : Fin 2048) : row (near k) r = time r := if_pos k.isLt

theorem blk0_at (t : Fin grid0.N) (r : Fin 512) (k : Fin 1024) :
    (iblk m c 0 t (ix2 r k) : EReal) = aD m c (ix2 (time (spot t r)) (near k)) := by
  rw [← row_near k, ← step_at (aD m c), ← v6_eq]
  blk_ext [iblk, places t, spot, near]

theorem blk1_at (t : Fin grid0.N) (k d : Fin 1024) :
    (iblk m c 1 t (ix3 0 d k) : EReal) = aW m c (ix2 d (near k)) := by
  have e : (iblk m c 1 t (ix3 0 d k) : EReal) = slabs (aW m c) (ix3 0 d k) := by
    rw [← v9_eq]
    blk_ext [iblk, places t]
  rw [e, slabs_at]
  congr 2
  exact Fin.ext (by simp [near])

theorem out_at (x0 : Vec Ideal S512x1024 .bf16) (x1 : Vec Ideal S1x1024x1024 .bf16) (r : Fin 512) (d : Fin 1024) :
    (out0_2 x0 x1 (ix2 r d) : EReal) = ∑ k : Fin 1024, (x0 (ix2 r k) : EReal) * x1 (ix3 0 d k) := by
  unfold out0_2
  rw [View.canon_unit_zero (S := S512x1024) (by decide), View.ld_unit_zero (S := S512x1024) (by decide), View.ld_unit_zero (S := S1x1024x1024) (by decide)]
  pointwise [k0_pay1]

/-- The gradient with its rows in the order of the chunks. -/
theorem arr2 : (dats m 0 c).arrAt 2 (cfgs 0).N = fun i : S2048x1024.Idx =>
    ∑ k : Fin 1024, (aD m c (ix2 (time (i 0)) (near k)) : EReal) * aW m c (ix2 (i 1) (near k)) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out_at _ _ y0 y1).trans ?_
  rw [e0, e1]
  exact Finset.sum_congr rfl fun k _ => by rw [blk0_at, blk1_at]

abbrev tailOps : List (HloOp τ sig (Elt Ideal)) := [hostOps1].flatten

theorem tail13 (W : Valuation τ sig (Elt Ideal)) : (StableHlo.after tailOps W (Proc.devRef .tc main_v13) : FVec Ideal S2048x1024 .f32)
    = shapeCast S2048x1024 (transpose S8x256x1024 [1, 0, 2] (shapeCast S256x8x1024 (W (Proc.devRef .tc main_v10) : FVec Ideal S2048x1024 .f32)
        shapeCasts_S2048x1024_S256x8x1024) transposes_S256x8x1024_S8x256x1024_1_0_2) shapeCasts_S8x256x1024_S2048x1024 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v13 = fun i : S2048x1024.Idx =>
    ∑ k : Fin 1024, (aD m c (ix2 (i 0) (near k)) : EReal) * aW m c (ix2 (i 1) (near k)) := by
  refine (tail13 (after0 m c)).trans ?_
  rw [show after0 m c (Proc.devRef .tc main_v10) = _ from (left 2).trans arr2]
  funext i
  idx_vars i
  pointwise
  rw [time_mk]

end Cert.Kernel5Ideal.Body

namespace Cert.Join5

open Idealize.ShloMosaic Idealize.ShloMosaic.TcCoe Idealize.SL.Sem

/-- The reference runs no semaphore: every counter family over its signature is the zero one. -/
theorem no_counter (s : GSem Reference5Ideal.nD Reference5Ideal.τ Reference5Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference5Ideal (hReference5Ideal := Reference5Ideal.Gen.facts) := fun m ρ _ =>
  (θ_run Reference5Ideal.defs _ _).mono (fun r h => ⟨fun c => (h c).2, no_counter _⟩) (Reference5Ideal.Value.run m ρ)

open Reference5Ideal Reference5Ideal.Facts₀ in
theorem reference_at (x : FVec Ideal S2048x8192 .f32) (y : FVec Ideal S1024x8192 .f32) (r : Fin 2048) (d : Fin 1024) :
    (Host.dotGeneral dot_S2048x1024_S1024x1024_S2048x1024_1_1_0_0_n_n none (extractStridedSlice S2048x1024 ![0, 0] x slices_S2048x8192_S2048x1024_0_0)
        (extractStridedSlice S1024x1024 ![0, 0] y slices_S1024x8192_S1024x1024_0_0) (ix2 r d) : EReal)
      = ∑ k : Fin 1024, (x (ix2 r (Kernel5Ideal.Body.near k)) : EReal) * y (ix2 d (Kernel5Ideal.Body.near k)) := by
  pointwise [Kernel5Ideal.Body.near]

/-- The kernel and the reference end with the same product. -/
theorem same : algebraic_Kernel5Ideal_Reference5Ideal (hKernel5Ideal := Kernel5Ideal.Gen.facts) (hReference5Ideal := Reference5Ideal.Gen.facts) := by
  intro m g m' g' _ ha
  refine ⟨fun c => Kernel5Ideal.Body.endOf m c _, ?_, ?_⟩
  · refine (θ_run Kernel5Ideal.defs _ _).mono (fun r h c => ?_) (θ_run_and (Kernel5Ideal.Gen.run_main m g) (Kernel5Ideal.Gen.unchanged m g))
    exact ⟨h.1.rest_eq c Kernel5Ideal.main_v13 (by decide), h.2 c⟩
  · refine (θ_run Reference5Ideal.defs _ _).mono (fun r h c => ?_) (Reference5Ideal.Value.run m' g')
    obtain ⟨h0, hrest⟩ := h c
    obtain ⟨e0, e1⟩ := ha c
    refine ⟨h0.trans ?_, hrest⟩
    refine Eq.trans ?_ Kernel5Ideal.Body.value.symm
    rw [e0, e1]
    funext i
    idx_vars i
    exact reference_at _ _ i0 i1

end Cert.Join5

end
-- ==== Proof.DwOut.lean ====
module

public import proofs.«01_k».proof.Proof.Gen.Kernel6Ideal.Frame
public import proofs.«01_k».proof.Proof.Gen.Reference6Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel6Ideal.Body

open Idealize.ShloMosaic Idealize.ShloMosaic.TcCoe Idealize.SL.Sem
open Cert.Kernel6Ideal Cert.Kernel6Ideal.Gen Cert.Order

theorem places : ∀ t : Fin grid0.N,
    win0_0.index t = ![0, 0] ∧ win0_1.index t = ![0, 0] ∧ win0_2.index t = ![0, 0] := by decide +kernel

/-- The first operand as the call takes it. -/
def lhs (x : FVec Ideal S2048x1024 .f32) : FVec Ideal S2048x1024 .bf16 :=
  truncf .bf16 x bitsLt_bf16_f32

/-- The second operand as the call takes it. -/
def rhs (x : FVec Ideal S2048x1024 .f32) : FVec Ideal S2048x1024 .bf16 :=
  truncf .bf16 x bitsLt_bf16_f32

theorem lhs_at (x : FVec Ideal S2048x1024 .f32) (r : Fin 2048) (k : Fin 1024) : (lhs x (ix2 r k) : EReal) = x (ix2 r k) := by
  pointwise [lhs]

theorem rhs_at (x : FVec Ideal S2048x1024 .f32) (r : Fin 2048) (k : Fin 1024) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x1024 .f32 := m ((c : Thread nD τ).loc main_arg0)
abbrev aY (m : (ℓ : Loc nD τ sig) → Buf (Elt Ideal) ℓ) (c : Dev nD) : FVec Ideal S2048x1024 .f32 := m ((c : Thread nD τ).loc main_arg1)

theorem lhs_eq : (V m c main_v0 : FVec Ideal S2048x1024 .bf16) = lhs (aX m c) := by
  unfold V V0
  simp only [List.flatten_cons, List.flatten_nil, List.append_nil, List.cons_append, List.nil_append]
  after_results_simp
  rfl

theorem rhs_eq : (V m c main_v1 : FVec Ideal S2048x1024 .bf16) = rhs (aY m c) := by
  unfold V V0
  simp only [List.flatten_cons, List.flatten_nil, List.append_nil, List.cons_append, List.nil_append]
  after_results_simp
  rfl

theorem blk0_at (t : Fin grid0.N) (r : Fin 2048) (k : Fin 1024) : (iblk m c 0 t (ix2 r k) : EReal) = aX m c (ix2 r k) := by
  rw [← lhs_at (aX m c), ← lhs_eq]
  blk_ext [iblk, places t]

theorem blk1_at (t : Fin grid0.N) (r : Fin 2048) (l : Fin 1024) : (iblk m c 1 t (ix2 r l) : EReal) = aY m c (ix2 r l) := by
  rw [← rhs_at (aY m c), ← rhs_eq]
  blk_ext [iblk, places t]

theorem out_at (x0 : Vec Ideal S2048x1024 .bf16) (x1 : Vec Ideal S2048x1024 .bf16) (k : Fin 1024) (l : Fin 1024) :
    (out0_2 x0 x1 (ix2 k l) : EReal) = ∑ r : Fin 2048, (x0 (ix2 r k) : EReal) * x1 (ix2 r l) := by
  unfold out0_2
  rw [View.canon_unit_zero (S := S1024x1024) (by decide), View.ld_unit_zero (S := S2048x1024) (by decide)]
  pointwise [k0_pay1]

/-- What the call leaves in its result. -/
theorem arr2 : (dats m 0 c).arrAt 2 (cfgs 0).N = fun i : S1024x1024.Idx =>
    ∑ r : Fin 2048, (aX m c (ix2 r (i 0)) : EReal) * aY m c (ix2 r (i 1)) := by
  refine (dats m 0 c).arrAt_eq_of_covers 2 _ (by decide +kernel) fun t hf y => ?_
  blk_simp
  rw [after0_2]
  idx_vars y
  have e0 : (win0_2.blk t).view.emb (ix2 y0 y1) 0 = y0 := by
    refine Fin.ext ?_
    blk_simp [places t]
  have e1 : (win0_2.blk t).view.emb (ix2 y0 y1) 1 = y1 := by
    refine Fin.ext ?_
    blk_simp [places t]
  refine (out_at _ _ y0 y1).trans ?_
  rw [e0, e1]
  refine Finset.sum_congr rfl fun r _ => ?_
  rw [blk0_at, blk1_at]

abbrev tailOps : List (HloOp τ sig (Elt Ideal)) := [hostOps1].flatten

theorem tail_eq (W : Valuation τ sig (Elt Ideal)) : (StableHlo.after tailOps W (Proc.devRef .tc main_v3) : FVec Ideal S1024x1024 .f32)
    = extf (F := Ideal) .f32 (W (Proc.devRef .tc main_v2) : FVec Ideal S1024x1024 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v3 = fun i : S1024x1024.Idx =>
    ∑ r : Fin 2048, (aX m c (ix2 r (i 0)) : EReal) * aY m c (ix2 r (i 1)) := by
  refine (tail_eq (after0 m c)).trans ?_
  rw [show after0 m c (Proc.devRef .tc main_v2) = _ from (left 2).trans arr2]
  funext i
  idx_vars i
  pointwise

end Cert.Kernel6Ideal.Body

namespace Cert.Join6

open Idealize.ShloMosaic Idealize.ShloMosaic.TcCoe Idealize.SL.Sem

/-- The reference runs no semaphore: every counter family over its signature is the zero one. -/
theorem no_counter (s : GSem Reference6Ideal.nD Reference6Ideal.τ Reference6Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference6Ideal (hReference6Ideal := Reference6Ideal.Gen.facts) := fun m ρ _ =>
  (θ_run Reference6Ideal.defs _ _).mono (fun r h => ⟨fun c => (h c).2, no_counter _⟩) (Reference6Ideal.Value.run m ρ)

open Reference6Ideal Reference6Ideal.Facts₀ in
theorem reference_at (x : FVec Ideal S2048x1024 .f32) (y : FVec Ideal S2048x1024 .f32) (r : Fin 1024) (l : Fin 1024) :
    (transpose S1024x1024 [1, 0] (Host.dotGeneral dot_S2048x1024_S2048x1024_S1024x1024_0_0_1_1_n_n none y x) transposes_S1024x1024_S1024x1024_1_0 (ix2 r l) : EReal)
      = ∑ q : Fin 2048, (x (ix2 q r) : EReal) * y (ix2 q l) := by
  pointwise
  exact Finset.sum_congr rfl fun r _ => mul_comm _ _

/-- The kernel and the reference end with the same product. -/
theorem same : algebraic_Kernel6Ideal_Reference6Ideal (hKernel6Ideal := Kernel6Ideal.Gen.facts) (hReference6Ideal := Reference6Ideal.Gen.facts) := by
  intro m g m' g' _ ha
  refine ⟨fun c => Kernel6Ideal.Body.endOf m c _, ?_, ?_⟩
  · refine (θ_run Kernel6Ideal.defs _ _).mono (fun r h c => ?_) (θ_run_and (Kernel6Ideal.Gen.run_main m g) (Kernel6Ideal.Gen.unchanged m g))
    exact ⟨h.1.rest_eq c Kernel6Ideal.main_v3 (by decide), h.2 c⟩
  · refine (θ_run Reference6Ideal.defs _ _).mono (fun r h c => ?_) (Reference6Ideal.Value.run m' g')
    obtain ⟨h0, hrest⟩ := h c
    obtain ⟨e0, e1⟩ := ha c
    refine ⟨h0.trans ?_, hrest⟩
    refine Eq.trans ?_ Kernel6Ideal.Body.value.symm
    rw [e0, e1]
    funext i
    idx_vars i
    exact reference_at _ _ i0 i1

end Cert.Join6

end
-- ==== Proof.DMerged.lean ====
module

public import proofs.«01_k».proof.Proof.Gen.Kernel7Ideal.Value
public import proofs.«01_k».proof.Proof.Gen.Reference7Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel7Ideal.Body

open Idealize.ShloMosaic Idealize.ShloMosaic.TcCoe Idealize.SL.Sem
open Cert.Kernel7Ideal Cert.Kernel7Ideal.Gen Cert.Order

theorem places : ∀ t : Fin grid0.N,
    win0_0.index t = ![t.val, 0] ∧ win0_1.index t = ![0, 0] ∧ win0_2.index t = ![t.val, 0] := by decide +kernel

/-- The first operand as the call takes it. -/
def lhs (x : FVec Ideal S2048x1024 .f32) : FVec Ideal S2048x1024 .bf16 :=
  truncf .bf16 x bitsLt_bf16_f32

/-- The second operand as the call takes it. -/
def rhs (x : FVec Ideal S1024x1024 .f32) : FVec Ideal S1024x1024 .bf16 :=
  truncf .bf16 x bitsLt_bf16_f32

theorem lhs_at (x : FVec Ideal S2048x1024 .f32) (r : Fin 2048) (k : Fin 1024) : (lhs x (ix2 r k) : EReal) = x (ix2 r k) := by
  pointwise [lhs]

theorem rhs_at (x : FVec Ideal S1024x1024 .f32) (r : Fin 1024) (k : Fin 1024) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x1024 .f32 := m ((c : Thread nD τ).loc main_arg0)
abbrev aY (m : (ℓ : Loc nD τ sig) → Buf (Elt Ideal) ℓ) (c : Dev nD) : FVec Ideal S1024x1024 .f32 := m ((c : Thread nD τ).loc main_arg1)

theorem lhs_eq : (V m c main_v0 : FVec Ideal S2048x1024 .bf16) = lhs (aX m c) := by
  unfold V
  after_results_simp
  rfl

theorem rhs_eq : (V m c main_v1 : FVec Ideal S1024x1024 .bf16) = rhs (aY m c) := by
  unfold V
  after_results_simp
  rfl

theorem two (t : Fin grid0.N) : t.val < 2 := lt_of_lt_of_eq t.isLt N_0

/-- The row that row `r` of block `t` is. -/
def spot (t : Fin grid0.N) (r : Fin 1024) : Fin 2048 := ⟨1024 * t.val + r.val, by have := two t; omega⟩

theorem blk0_at (t : Fin grid0.N) (r : Fin 1024) (k : Fin 1024) : (iblk m c 0 t (ix2 r k) : EReal) = aX m c (ix2 (spot t r) k) := by
  rw [← lhs_at (aX m c), ← lhs_eq]
  blk_ext [iblk, places t, spot]

theorem blk1_at (t : Fin grid0.N) (k : Fin 1024) (l : Fin 1024) : (iblk m c 1 t (ix2 k l) : EReal) = aY m c (ix2 k l) := by
  rw [← rhs_at (aY m c), ← rhs_eq]
  blk_ext [iblk, places t]

theorem out_at (x0 : Vec Ideal S1024x1024 .bf16) (x1 : Vec Ideal S1024x1024 .bf16) (r : Fin 1024) (l : Fin 1024) :
    (out0_2 x0 x1 (ix2 r l) : EReal) = ∑ k : Fin 1024, (x0 (ix2 r k) : EReal) * x1 (ix2 l k) := by
  unfold out0_2
  rw [View.canon_unit_zero (S := S1024x1024) (by decide), View.ld_unit_zero (S := S1024x1024) (by decide)]
  pointwise [k0_pay1]

/-- What the call leaves in its result. -/
theorem arr2 : (dats m 0 c).arrAt 2 (cfgs 0).N = fun i : S2048x1024.Idx =>
    ∑ k : Fin 1024, (aX m c (ix2 (i 0) k) : EReal) * aY m c (ix2 (i 1) k) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out_at _ _ y0 y1).trans ?_
  rw [e0, e1]
  refine Finset.sum_congr rfl fun k _ => ?_
  rw [blk0_at, blk1_at]

end Cert.Kernel7Ideal.Body

namespace Cert.Join7

open Idealize.ShloMosaic Idealize.ShloMosaic.TcCoe Idealize.SL.Sem

/-- The reference runs no semaphore: every counter family over its signature is the zero one. -/
theorem no_counter (s : GSem Reference7Ideal.nD Reference7Ideal.τ Reference7Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference7Ideal (hReference7Ideal := Reference7Ideal.Gen.facts) := fun m ρ _ =>
  (θ_run Reference7Ideal.defs _ _).mono (fun r h => ⟨fun c => (h c).2, no_counter _⟩) (Reference7Ideal.Value.run m ρ)

open Reference7Ideal Reference7Ideal.Facts₀ in
theorem reference_at (x : FVec Ideal S2048x1024 .f32) (y : FVec Ideal S1024x1024 .f32) (r : Fin 2048) (l : Fin 1024) :
    (Host.dotGeneral dot_S2048x1024_S1024x1024_S2048x1024_1_1_0_0_n_n none x y (ix2 r l) : EReal)
      = ∑ k : Fin 1024, (x (ix2 r k) : EReal) * y (ix2 l k) := by
  pointwise

/-- The kernel and the reference end with the same product. -/
theorem same : algebraic_Kernel7Ideal_Reference7Ideal (hKernel7Ideal := Kernel7Ideal.Gen.facts) (hReference7Ideal := Reference7Ideal.Gen.facts) := by
  intro m g m' g' _ ha
  refine ⟨fun c => (Kernel7Ideal.Gen.dats m 0 c).arrAt 2 Kernel7Ideal.cfg0.N, Kernel7Ideal.Value.run_blocks m g, ?_⟩
  · refine (θ_run Reference7Ideal.defs _ _).mono (fun r h c => ?_) (Reference7Ideal.Value.run m' g')
    obtain ⟨h0, hrest⟩ := h c
    obtain ⟨e0, e1⟩ := ha c
    refine ⟨h0.trans ?_, hrest⟩
    refine Eq.trans ?_ Kernel7Ideal.Body.arr2.symm
    rw [e0, e1]
    funext i
    idx_vars i
    exact reference_at _ _ i0 i1

end Cert.Join7

end
-- ==== Proof.DwBranchS.lean ====
module

public import proofs.«01_k».proof.Proof.Gen.Kernel8Ideal.Frame
public import proofs.«01_k».proof.Proof.Gen.Reference8Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel8Ideal.Body

open Idealize.ShloMosaic Idealize.ShloMosaic.TcCoe Idealize.SL.Sem
open Cert.Kernel8Ideal Cert.Kernel8Ideal.Gen Cert.Order

theorem places : ∀ t : Fin grid0.N,
    win0_0.index t = ![0, 0] ∧ win0_1.index t = ![0, 0] ∧ win0_2.index t = ![0, 0] := by decide +kernel

/-- The first operand as the call takes it. -/
def lhs (x : FVec Ideal S2048x512 .f32) : FVec Ideal S2048x512 .bf16 :=
  truncf .bf16 x bitsLt_bf16_f32

/-- The second operand as the call takes it. -/
def rhs (x : FVec Ideal S2048x1024 .f32) : FVec Ideal S2048x1024 .bf16 :=
  truncf .bf16 x bitsLt_bf16_f32

theorem lhs_at (x : FVec Ideal S2048x512 .f32) (r : Fin 2048) (k : Fin 512) : (lhs x (ix2 r k) : EReal) = x (ix2 r k) := by
  pointwise [lhs]

theorem rhs_at (x : FVec Ideal S2048x1024 .f32) (r : Fin 2048) (k : Fin 1024) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x512 .f32 := m ((c : Thread nD τ).loc main_arg0)
abbrev aY (m : (ℓ : Loc nD τ sig) → Buf (Elt Ideal) ℓ) (c : Dev nD) : FVec Ideal S2048x1024 .f32 := m ((c : Thread nD τ).loc main_arg1)

theorem lhs_eq : (V m c main_v0 : FVec Ideal S2048x512 .bf16) = lhs (aX m c) := by
  unfold V V0
  simp only [List.flatten_cons, List.flatten_nil, List.append_nil, List.cons_append, List.nil_append]
  after_results_simp
  rfl

theorem rhs_eq : (V m c main_v1 : FVec Ideal S2048x1024 .bf16) = rhs (aY m c) := by
  unfold V V0
  simp only [List.flatten_cons, List.flatten_nil, List.append_nil, List.cons_append, List.nil_append]
  after_results_simp
  rfl

theorem blk0_at (t : Fin grid0.N) (r : Fin 2048) (k : Fin 512) : (iblk m c 0 t (ix2 r k) : EReal) = aX m c (ix2 r k) := by
  rw [← lhs_at (aX m c), ← lhs_eq]
  blk_ext [iblk, places t]

theorem blk1_at (t : Fin grid0.N) (r : Fin 2048) (l : Fin 1024) : (iblk m c 1 t (ix2 r l) : EReal) = aY m c (ix2 r l) := by
  rw [← rhs_at (aY m c), ← rhs_eq]
  blk_ext [iblk, places t]

theorem out_at (x0 : Vec Ideal S2048x512 .bf16) (x1 : Vec Ideal S2048x1024 .bf16) (k : Fin 512) (l : Fin 1024) :
    (out0_2 x0 x1 (ix2 k l) : EReal) = ∑ r : Fin 2048, (x0 (ix2 r k) : EReal) * x1 (ix2 r l) := by
  unfold out0_2
  rw [View.canon_unit_zero (S := S512x1024) (by decide), View.ld_unit_zero (S := S2048x512) (by decide), View.ld_unit_zero (S := S2048x1024) (by decide)]
  pointwise [k0_pay1]

/-- What the call leaves in its result. -/
theorem arr2 : (dats m 0 c).arrAt 2 (cfgs 0).N = fun i : S512x1024.Idx =>
    ∑ r : Fin 2048, (aX m c (ix2 r (i 0)) : EReal) * aY m c (ix2 r (i 1)) := by
  refine (dats m 0 c).arrAt_eq_of_covers 2 _ (by decide +kernel) fun t hf y => ?_
  blk_simp
  rw [after0_2]
  idx_vars y
  have e0 : (win0_2.blk t).view.emb (ix2 y0 y1) 0 = y0 := by
    refine Fin.ext ?_
    blk_simp [places t]
  have e1 : (win0_2.blk t).view.emb (ix2 y0 y1) 1 = y1 := by
    refine Fin.ext ?_
    blk_simp [places t]
  refine (out_at _ _ y0 y1).trans ?_
  rw [e0, e1]
  refine Finset.sum_congr rfl fun r _ => ?_
  rw [blk0_at, blk1_at]

abbrev tailOps : List (HloOp τ sig (Elt Ideal)) := [hostOps1].flatten

theorem tail_eq (W : Valuation τ sig (Elt Ideal)) : (StableHlo.after tailOps W (Proc.devRef .tc main_v3) : FVec Ideal S512x1024 .f32)
    = extf (F := Ideal) .f32 (W (Proc.devRef .tc main_v2) : FVec Ideal S512x1024 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v3 = fun i : S512x1024.Idx =>
    ∑ r : Fin 2048, (aX m c (ix2 r (i 0)) : EReal) * aY m c (ix2 r (i 1)) := by
  refine (tail_eq (after0 m c)).trans ?_
  rw [show after0 m c (Proc.devRef .tc main_v2) = _ from (left 2).trans arr2]
  funext i
  idx_vars i
  pointwise

end Cert.Kernel8Ideal.Body

namespace Cert.Join8

open Idealize.ShloMosaic Idealize.ShloMosaic.TcCoe Idealize.SL.Sem

/-- The reference runs no semaphore: every counter family over its signature is the zero one. -/
theorem no_counter (s : GSem Reference8Ideal.nD Reference8Ideal.τ Reference8Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference8Ideal (hReference8Ideal := Reference8Ideal.Gen.facts) := fun m ρ _ =>
  (θ_run Reference8Ideal.defs _ _).mono (fun r h => ⟨fun c => (h c).2, no_counter _⟩) (Reference8Ideal.Value.run m ρ)

open Reference8Ideal Reference8Ideal.Facts₀ in
theorem reference_at (x : FVec Ideal S2048x512 .f32) (y : FVec Ideal S2048x1024 .f32) (r : Fin 512) (l : Fin 1024) :
    (transpose S512x1024 [1, 0] (Host.dotGeneral dot_S2048x1024_S2048x512_S1024x512_0_0_1_1_n_n none y x) transposes_S1024x512_S512x1024_1_0 (ix2 r l) : EReal)
      = ∑ q : Fin 2048, (x (ix2 q r) : EReal) * y (ix2 q l) := by
  pointwise
  exact Finset.sum_congr rfl fun r _ => mul_comm _ _

/-- The kernel and the reference end with the same product. -/
theorem same : algebraic_Kernel8Ideal_Reference8Ideal (hKernel8Ideal := Kernel8Ideal.Gen.facts) (hReference8Ideal := Reference8Ideal.Gen.facts) := by
  intro m g m' g' _ ha
  refine ⟨fun c => Kernel8Ideal.Body.endOf m c _, ?_, ?_⟩
  · refine (θ_run Kernel8Ideal.defs _ _).mono (fun r h c => ?_) (θ_run_and (Kernel8Ideal.Gen.run_main m g) (Kernel8Ideal.Gen.unchanged m g))
    exact ⟨h.1.rest_eq c Kernel8Ideal.main_v3 (by decide), h.2 c⟩
  · refine (θ_run Reference8Ideal.defs _ _).mono (fun r h c => ?_) (Reference8Ideal.Value.run m' g')
    obtain ⟨h0, hrest⟩ := h c
    obtain ⟨e0, e1⟩ := ha c
    refine ⟨h0.trans ?_, hrest⟩
    refine Eq.trans ?_ Kernel8Ideal.Body.value.symm
    rw [e0, e1]
    funext i
    idx_vars i
    exact reference_at _ _ i0 i1

end Cert.Join8

end
-- ==== Proof.DwBranchA.lean ====
module

public import proofs.«01_k».proof.Proof.Gen.Kernel9Ideal.Frame
public import proofs.«01_k».proof.Proof.Gen.Reference9Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel9Ideal.Body

open Idealize.ShloMosaic Idealize.ShloMosaic.TcCoe Idealize.SL.Sem
open Cert.Kernel9Ideal Cert.Kernel9Ideal.Gen Cert.Order

theorem places : ∀ t : Fin grid0.N,
    win0_0.index t = ![0, 0] ∧ win0_1.index t = ![0, 0] ∧ win0_2.index t = ![0, 0] := by decide +kernel

/-- The first operand as the call takes it. -/
def lhs (x : FVec Ideal S2048x512 .f32) : FVec Ideal S2048x512 .bf16 :=
  truncf .bf16 x bitsLt_bf16_f32

/-- The second operand as the call takes it. -/
def rhs (x : FVec Ideal S2048x1024 .f32) : FVec Ideal S2048x1024 .bf16 :=
  truncf .bf16 x bitsLt_bf16_f32

theorem lhs_at (x : FVec Ideal S2048x512 .f32) (r : Fin 2048) (k : Fin 512) : (lhs x (ix2 r k) : EReal) = x (ix2 r k) := by
  pointwise [lhs]

theorem rhs_at (x : FVec Ideal S2048x1024 .f32) (r : Fin 2048) (k : Fin 1024) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x512 .f32 := m ((c : Thread nD τ).loc main_arg0)
abbrev aY (m : (ℓ : Loc nD τ sig) → Buf (Elt Ideal) ℓ) (c : Dev nD) : FVec Ideal S2048x1024 .f32 := m ((c : Thread nD τ).loc main_arg1)

theorem lhs_eq : (V m c main_v0 : FVec Ideal S2048x512 .bf16) = lhs (aX m c) := by
  unfold V V0
  simp only [List.flatten_cons, List.flatten_nil, List.append_nil, List.cons_append, List.nil_append]
  after_results_simp
  rfl

theorem rhs_eq : (V m c main_v1 : FVec Ideal S2048x1024 .bf16) = rhs (aY m c) := by
  unfold V V0
  simp only [List.flatten_cons, List.flatten_nil, List.append_nil, List.cons_append, List.nil_append]
  after_results_simp
  rfl

theorem blk0_at (t : Fin grid0.N) (r : Fin 2048) (k : Fin 512) : (iblk m c 0 t (ix2 r k) : EReal) = aX m c (ix2 r k) := by
  rw [← lhs_at (aX m c), ← lhs_eq]
  blk_ext [iblk, places t]

theorem blk1_at (t : Fin grid0.N) (r : Fin 2048) (l : Fin 1024) : (iblk m c 1 t (ix2 r l) : EReal) = aY m c (ix2 r l) := by
  rw [← rhs_at (aY m c), ← rhs_eq]
  blk_ext [iblk, places t]

theorem out_at (x0 : Vec Ideal S2048x512 .bf16) (x1 : Vec Ideal S2048x1024 .bf16) (k : Fin 512) (l : Fin 1024) :
    (out0_2 x0 x1 (ix2 k l) : EReal) = ∑ r : Fin 2048, (x0 (ix2 r k) : EReal) * x1 (ix2 r l) := by
  unfold out0_2
  rw [View.canon_unit_zero (S := S512x1024) (by decide), View.ld_unit_zero (S := S2048x512) (by decide), View.ld_unit_zero (S := S2048x1024) (by decide)]
  pointwise [k0_pay1]

/-- What the call leaves in its result. -/
theorem arr2 : (dats m 0 c).arrAt 2 (cfgs 0).N = fun i : S512x1024.Idx =>
    ∑ r : Fin 2048, (aX m c (ix2 r (i 0)) : EReal) * aY m c (ix2 r (i 1)) := by
  refine (dats m 0 c).arrAt_eq_of_covers 2 _ (by decide +kernel) fun t hf y => ?_
  blk_simp
  rw [after0_2]
  idx_vars y
  have e0 : (win0_2.blk t).view.emb (ix2 y0 y1) 0 = y0 := by
    refine Fin.ext ?_
    blk_simp [places t]
  have e1 : (win0_2.blk t).view.emb (ix2 y0 y1) 1 = y1 := by
    refine Fin.ext ?_
    blk_simp [places t]
  refine (out_at _ _ y0 y1).trans ?_
  rw [e0, e1]
  refine Finset.sum_congr rfl fun r _ => ?_
  rw [blk0_at, blk1_at]

abbrev tailOps : List (HloOp τ sig (Elt Ideal)) := [hostOps1].flatten

theorem tail_eq (W : Valuation τ sig (Elt Ideal)) : (StableHlo.after tailOps W (Proc.devRef .tc main_v3) : FVec Ideal S512x1024 .f32)
    = extf (F := Ideal) .f32 (W (Proc.devRef .tc main_v2) : FVec Ideal S512x1024 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v3 = fun i : S512x1024.Idx =>
    ∑ r : Fin 2048, (aX m c (ix2 r (i 0)) : EReal) * aY m c (ix2 r (i 1)) := by
  refine (tail_eq (after0 m c)).trans ?_
  rw [show after0 m c (Proc.devRef .tc main_v2) = _ from (left 2).trans arr2]
  funext i
  idx_vars i
  pointwise

end Cert.Kernel9Ideal.Body

namespace Cert.Join9

open Idealize.ShloMosaic Idealize.ShloMosaic.TcCoe Idealize.SL.Sem

/-- The reference runs no semaphore: every counter family over its signature is the zero one. -/
theorem no_counter (s : GSem Reference9Ideal.nD Reference9Ideal.τ Reference9Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference9Ideal (hReference9Ideal := Reference9Ideal.Gen.facts) := fun m ρ _ =>
  (θ_run Reference9Ideal.defs _ _).mono (fun r h => ⟨fun c => (h c).2, no_counter _⟩) (Reference9Ideal.Value.run m ρ)

open Reference9Ideal Reference9Ideal.Facts₀ in
theorem reference_at (x : FVec Ideal S2048x512 .f32) (y : FVec Ideal S2048x1024 .f32) (r : Fin 512) (l : Fin 1024) :
    (transpose S512x1024 [1, 0] (Host.dotGeneral dot_S2048x1024_S2048x512_S1024x512_0_0_1_1_n_n none y x) transposes_S1024x512_S512x1024_1_0 (ix2 r l) : EReal)
      = ∑ q : Fin 2048, (x (ix2 q r) : EReal) * y (ix2 q l) := by
  pointwise
  exact Finset.sum_congr rfl fun r _ => mul_comm _ _

/-- The kernel and the reference end with the same product. -/
theorem same : algebraic_Kernel9Ideal_Reference9Ideal (hKernel9Ideal := Kernel9Ideal.Gen.facts) (hReference9Ideal := Reference9Ideal.Gen.facts) := by
  intro m g m' g' _ ha
  refine ⟨fun c => Kernel9Ideal.Body.endOf m c _, ?_, ?_⟩
  · refine (θ_run Kernel9Ideal.defs _ _).mono (fun r h c => ?_) (θ_run_and (Kernel9Ideal.Gen.run_main m g) (Kernel9Ideal.Gen.unchanged m g))
    exact ⟨h.1.rest_eq c Kernel9Ideal.main_v3 (by decide), h.2 c⟩
  · refine (θ_run Reference9Ideal.defs _ _).mono (fun r h c => ?_) (Reference9Ideal.Value.run m' g')
    obtain ⟨h0, hrest⟩ := h c
    obtain ⟨e0, e1⟩ := ha c
    refine ⟨h0.trans ?_, hrest⟩
    refine Eq.trans ?_ Kernel9Ideal.Body.value.symm
    rw [e0, e1]
    funext i
    idx_vars i
    exact reference_at _ _ i0 i1

end Cert.Join9

end
-- ==== Proof.DYs.lean ====
module

public import proofs.«01_k».proof.Proof.Gen.Kernel10Ideal.Value
public import proofs.«01_k».proof.Proof.Gen.Reference10Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel10Ideal.Body

open Idealize.ShloMosaic Idealize.ShloMosaic.TcCoe Idealize.SL.Sem
open Cert.Kernel10Ideal Cert.Kernel10Ideal.Gen Cert.Order

theorem places : ∀ t : Fin grid0.N,
    win0_0.index t = ![t.val, 0] ∧ win0_1.index t = ![0, 0] ∧ win0_2.index t = ![t.val, 0] := by decide +kernel

/-- The first operand as the call takes it. -/
def lhs (x : FVec Ideal S2048x1024 .f32) : FVec Ideal S2048x1024 .bf16 :=
  truncf .bf16 x bitsLt_bf16_f32

/-- The second operand as the call takes it. -/
def rhs (x : FVec Ideal S512x1024 .f32) : FVec Ideal S512x1024 .bf16 :=
  truncf .bf16 x bitsLt_bf16_f32

theorem lhs_at (x : FVec Ideal S2048x1024 .f32) (r : Fin 2048) (k : Fin 1024) : (lhs x (ix2 r k) : EReal) = x (ix2 r k) := by
  pointwise [lhs]

theorem rhs_at (x : FVec Ideal S512x1024 .f32) (r : Fin 512) (k : Fin 1024) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x1024 .f32 := m ((c : Thread nD τ).loc main_arg0)
abbrev aY (m : (ℓ : Loc nD τ sig) → Buf (Elt Ideal) ℓ) (c : Dev nD) : FVec Ideal S512x1024 .f32 := m ((c : Thread nD τ).loc main_arg1)

theorem lhs_eq : (V m c main_v0 : FVec Ideal S2048x1024 .bf16) = lhs (aX m c) := by
  unfold V
  after_results_simp
  rfl

theorem rhs_eq : (V m c main_v1 : FVec Ideal S512x1024 .bf16) = rhs (aY m c) := by
  unfold V
  after_results_simp
  rfl

theorem two (t : Fin grid0.N) : t.val < 2 := lt_of_lt_of_eq t.isLt N_0

/-- The row that row `r` of block `t` is. -/
def spot (t : Fin grid0.N) (r : Fin 1024) : Fin 2048 := ⟨1024 * t.val + r.val, by have := two t; omega⟩

theorem blk0_at (t : Fin grid0.N) (r : Fin 1024) (k : Fin 1024) : (iblk m c 0 t (ix2 r k) : EReal) = aX m c (ix2 (spot t r) k) := by
  rw [← lhs_at (aX m c), ← lhs_eq]
  blk_ext [iblk, places t, spot]

theorem blk1_at (t : Fin grid0.N) (k : Fin 512) (l : Fin 1024) : (iblk m c 1 t (ix2 k l) : EReal) = aY m c (ix2 k l) := by
  rw [← rhs_at (aY m c), ← rhs_eq]
  blk_ext [iblk, places t]

theorem out_at (x0 : Vec Ideal S1024x1024 .bf16) (x1 : Vec Ideal S512x1024 .bf16) (r : Fin 1024) (l : Fin 512) :
    (out0_2 x0 x1 (ix2 r l) : EReal) = ∑ k : Fin 1024, (x0 (ix2 r k) : EReal) * x1 (ix2 l k) := by
  unfold out0_2
  rw [View.canon_unit_zero (S := S1024x512) (by decide), View.ld_unit_zero (S := S1024x1024) (by decide), View.ld_unit_zero (S := S512x1024) (by decide)]
  pointwise [k0_pay1]

/-- What the call leaves in its result. -/
theorem arr2 : (dats m 0 c).arrAt 2 (cfgs 0).N = fun i : S2048x512.Idx =>
    ∑ k : Fin 1024, (aX m c (ix2 (i 0) k) : EReal) * aY m c (ix2 (i 1) k) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out_at _ _ y0 y1).trans ?_
  rw [e0, e1]
  refine Finset.sum_congr rfl fun k _ => ?_
  rw [blk0_at, blk1_at]

end Cert.Kernel10Ideal.Body

namespace Cert.Join10

open Idealize.ShloMosaic Idealize.ShloMosaic.TcCoe Idealize.SL.Sem

/-- The reference runs no semaphore: every counter family over its signature is the zero one. -/
theorem no_counter (s : GSem Reference10Ideal.nD Reference10Ideal.τ Reference10Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference10Ideal (hReference10Ideal := Reference10Ideal.Gen.facts) := fun m ρ _ =>
  (θ_run Reference10Ideal.defs _ _).mono (fun r h => ⟨fun c => (h c).2, no_counter _⟩) (Reference10Ideal.Value.run m ρ)

open Reference10Ideal Reference10Ideal.Facts₀ in
theorem reference_at (x : FVec Ideal S2048x1024 .f32) (y : FVec Ideal S512x1024 .f32) (r : Fin 2048) (l : Fin 512) :
    (Host.dotGeneral dot_S2048x1024_S512x1024_S2048x512_1_1_0_0_n_n none x y (ix2 r l) : EReal)
      = ∑ k : Fin 1024, (x (ix2 r k) : EReal) * y (ix2 l k) := by
  pointwise

/-- The kernel and the reference end with the same product. -/
theorem same : algebraic_Kernel10Ideal_Reference10Ideal (hKernel10Ideal := Kernel10Ideal.Gen.facts) (hReference10Ideal := Reference10Ideal.Gen.facts) := by
  intro m g m' g' _ ha
  refine ⟨fun c => (Kernel10Ideal.Gen.dats m 0 c).arrAt 2 Kernel10Ideal.cfg0.N, Kernel10Ideal.Value.run_blocks m g, ?_⟩
  · refine (θ_run Reference10Ideal.defs _ _).mono (fun r h c => ?_) (Reference10Ideal.Value.run m' g')
    obtain ⟨h0, hrest⟩ := h c
    obtain ⟨e0, e1⟩ := ha c
    refine ⟨h0.trans ?_, hrest⟩
    refine Eq.trans ?_ Kernel10Ideal.Body.arr2.symm
    rw [e0, e1]
    funext i
    idx_vars i
    exact reference_at _ _ i0 i1

end Cert.Join10

end
-- ==== Proof.DYa.lean ====
module

public import proofs.«01_k».proof.Proof.Gen.Kernel11Ideal.Value
public import proofs.«01_k».proof.Proof.Gen.Reference11Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel11Ideal.Body

open Idealize.ShloMosaic Idealize.ShloMosaic.TcCoe Idealize.SL.Sem
open Cert.Kernel11Ideal Cert.Kernel11Ideal.Gen Cert.Order

theorem places : ∀ t : Fin grid0.N,
    win0_0.index t = ![t.val, 0] ∧ win0_1.index t = ![0, 0] ∧ win0_2.index t = ![t.val, 0] := by decide +kernel

/-- The first operand as the call takes it. -/
def lhs (x : FVec Ideal S2048x1024 .f32) : FVec Ideal S2048x1024 .bf16 :=
  truncf .bf16 x bitsLt_bf16_f32

/-- The second operand as the call takes it. -/
def rhs (x : FVec Ideal S512x1024 .f32) : FVec Ideal S512x1024 .bf16 :=
  truncf .bf16 x bitsLt_bf16_f32

theorem lhs_at (x : FVec Ideal S2048x1024 .f32) (r : Fin 2048) (k : Fin 1024) : (lhs x (ix2 r k) : EReal) = x (ix2 r k) := by
  pointwise [lhs]

theorem rhs_at (x : FVec Ideal S512x1024 .f32) (r : Fin 512) (k : Fin 1024) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x1024 .f32 := m ((c : Thread nD τ).loc main_arg0)
abbrev aY (m : (ℓ : Loc nD τ sig) → Buf (Elt Ideal) ℓ) (c : Dev nD) : FVec Ideal S512x1024 .f32 := m ((c : Thread nD τ).loc main_arg1)

theorem lhs_eq : (V m c main_v0 : FVec Ideal S2048x1024 .bf16) = lhs (aX m c) := by
  unfold V
  after_results_simp
  rfl

theorem rhs_eq : (V m c main_v1 : FVec Ideal S512x1024 .bf16) = rhs (aY m c) := by
  unfold V
  after_results_simp
  rfl

theorem two (t : Fin grid0.N) : t.val < 2 := lt_of_lt_of_eq t.isLt N_0

/-- The row that row `r` of block `t` is. -/
def spot (t : Fin grid0.N) (r : Fin 1024) : Fin 2048 := ⟨1024 * t.val + r.val, by have := two t; omega⟩

theorem blk0_at (t : Fin grid0.N) (r : Fin 1024) (k : Fin 1024) : (iblk m c 0 t (ix2 r k) : EReal) = aX m c (ix2 (spot t r) k) := by
  rw [← lhs_at (aX m c), ← lhs_eq]
  blk_ext [iblk, places t, spot]

theorem blk1_at (t : Fin grid0.N) (k : Fin 512) (l : Fin 1024) : (iblk m c 1 t (ix2 k l) : EReal) = aY m c (ix2 k l) := by
  rw [← rhs_at (aY m c), ← rhs_eq]
  blk_ext [iblk, places t]

theorem out_at (x0 : Vec Ideal S1024x1024 .bf16) (x1 : Vec Ideal S512x1024 .bf16) (r : Fin 1024) (l : Fin 512) :
    (out0_2 x0 x1 (ix2 r l) : EReal) = ∑ k : Fin 1024, (x0 (ix2 r k) : EReal) * x1 (ix2 l k) := by
  unfold out0_2
  rw [View.canon_unit_zero (S := S1024x512) (by decide), View.ld_unit_zero (S := S1024x1024) (by decide), View.ld_unit_zero (S := S512x1024) (by decide)]
  pointwise [k0_pay1]

/-- What the call leaves in its result. -/
theorem arr2 : (dats m 0 c).arrAt 2 (cfgs 0).N = fun i : S2048x512.Idx =>
    ∑ k : Fin 1024, (aX m c (ix2 (i 0) k) : EReal) * aY m c (ix2 (i 1) k) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out_at _ _ y0 y1).trans ?_
  rw [e0, e1]
  refine Finset.sum_congr rfl fun k _ => ?_
  rw [blk0_at, blk1_at]

end Cert.Kernel11Ideal.Body

namespace Cert.Join11

open Idealize.ShloMosaic Idealize.ShloMosaic.TcCoe Idealize.SL.Sem

/-- The reference runs no semaphore: every counter family over its signature is the zero one. -/
theorem no_counter (s : GSem Reference11Ideal.nD Reference11Ideal.τ Reference11Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference11Ideal (hReference11Ideal := Reference11Ideal.Gen.facts) := fun m ρ _ =>
  (θ_run Reference11Ideal.defs _ _).mono (fun r h => ⟨fun c => (h c).2, no_counter _⟩) (Reference11Ideal.Value.run m ρ)

open Reference11Ideal Reference11Ideal.Facts₀ in
theorem reference_at (x : FVec Ideal S2048x1024 .f32) (y : FVec Ideal S512x1024 .f32) (r : Fin 2048) (l : Fin 512) :
    (Host.dotGeneral dot_S2048x1024_S512x1024_S2048x512_1_1_0_0_n_n none x y (ix2 r l) : EReal)
      = ∑ k : Fin 1024, (x (ix2 r k) : EReal) * y (ix2 l k) := by
  pointwise

/-- The kernel and the reference end with the same product. -/
theorem same : algebraic_Kernel11Ideal_Reference11Ideal (hKernel11Ideal := Kernel11Ideal.Gen.facts) (hReference11Ideal := Reference11Ideal.Gen.facts) := by
  intro m g m' g' _ ha
  refine ⟨fun c => (Kernel11Ideal.Gen.dats m 0 c).arrAt 2 Kernel11Ideal.cfg0.N, Kernel11Ideal.Value.run_blocks m g, ?_⟩
  · refine (θ_run Reference11Ideal.defs _ _).mono (fun r h c => ?_) (Reference11Ideal.Value.run m' g')
    obtain ⟨h0, hrest⟩ := h c
    obtain ⟨e0, e1⟩ := ha c
    refine ⟨h0.trans ?_, hrest⟩
    refine Eq.trans ?_ Kernel11Ideal.Body.arr2.symm
    rw [e0, e1]
    funext i
    idx_vars i
    exact reference_at _ _ i0 i1

end Cert.Join11

end
-- ==== Proof.DwGlu.lean ====
module

public import proofs.«01_k».proof.Proof.Gen.Kernel12Ideal.Frame
public import proofs.«01_k».proof.Proof.Gen.Reference12Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel12Ideal.Body

open Idealize.ShloMosaic Idealize.ShloMosaic.TcCoe Idealize.SL.Sem
open Cert.Kernel12Ideal Cert.Kernel12Ideal.Gen Cert.Order

theorem places : ∀ t : Fin grid0.N,
    win0_0.index t = ![0, 0] ∧ win0_1.index t = ![0, 0] ∧ win0_2.index t = ![0, 0] := by decide +kernel

/-- The first operand as the call takes it: its rows in the order of the chunks. -/
def lhs (x : FVec Ideal S2048x512 .f32) : FVec Ideal S2048x512 .f32 :=
  shapeCast S2048x512 (transpose S256x8x512 [1, 0, 2] (shapeCast S8x256x512 x
      shapeCasts_S2048x512_S8x256x512) transposes_S8x256x512_S256x8x512_1_0_2) shapeCasts_S256x8x512_S2048x512

/-- The second operand as the call takes it: its rows in the order of the chunks. -/
def rhs (x : FVec Ideal S2048x512 .f32) : FVec Ideal S2048x512 .bf16 :=
  truncf .bf16 (shapeCast S2048x512 (transpose S256x8x512 [1, 0, 2] (shapeCast S8x256x512 x
      shapeCasts_S2048x512_S8x256x512) transposes_S8x256x512_S256x8x512_1_0_2) shapeCasts_S256x8x512_S2048x512) bitsLt_bf16_f32

theorem lhs_at (x : FVec Ideal S2048x512 .f32) (r : Fin 2048) (k : Fin 512) : (lhs x (ix2 r k) : EReal) = x (ix2 (time r) k) := by
  pointwise [lhs]
  simp [time, Nat.mul_comm]

theorem rhs_at (x : FVec Ideal S2048x512 .f32) (r : Fin 2048) (k : Fin 512) : (rhs x (ix2 r k) : EReal) = x (ix2 (time r) k) := by
  pointwise [rhs]
  simp [time, Nat.mul_comm]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x512 .f32 := m ((c : Thread nD τ).loc main_arg0)
abbrev aY (m : (ℓ : Loc nD τ sig) → Buf (Elt Ideal) ℓ) (c : Dev nD) : FVec Ideal S2048x512 .f32 := m ((c : Thread nD τ).loc main_arg1)

theorem lhs_eq : (V m c main_v2 : FVec Ideal S2048x512 .f32) = lhs (aX m c) := by
  unfold V V0
  simp only [List.flatten_cons, List.flatten_nil, List.append_nil, List.cons_append, List.nil_append]
  after_results_simp
  rfl

theorem rhs_eq : (V m c main_v6 : FVec Ideal S2048x512 .bf16) = rhs (aY m c) := by
  unfold V V0
  simp only [List.flatten_cons, List.flatten_nil, List.append_nil, List.cons_append, List.nil_append]
  after_results_simp
  rfl

theorem blk0_at (t : Fin grid0.N) (r : Fin 2048) (k : Fin 512) : (iblk m c 0 t (ix2 r k) : EReal) = aX m c (ix2 (time r) k) := by
  rw [← lhs_at (aX m c), ← lhs_eq]
  blk_ext [iblk, places t]

theorem blk1_at (t : Fin grid0.N) (r : Fin 2048) (l : Fin 512) : (iblk m c 1 t (ix2 r l) : EReal) = aY m c (ix2 (time r) l) := by
  rw [← rhs_at (aY m c), ← rhs_eq]
  blk_ext [iblk, places t]

theorem out_at (x0 : Vec Ideal S2048x512 .f32) (x1 : Vec Ideal S2048x512 .bf16) (k : Fin 512) (l : Fin 512) :
    (out0_2 x0 x1 (ix2 k l) : EReal) = ∑ r : Fin 2048, (x0 (ix2 r k) : EReal) * x1 (ix2 r l) := by
  unfold out0_2
  rw [View.canon_unit_zero (S := S512x512) (by decide), View.ld_unit_zero (S := S2048x512) (by decide), View.ld_unit_zero (S := S2048x512) (by decide)]
  pointwise [k0_pay1]

/-- What the call leaves in its result. -/
theorem arr2 : (dats m 0 c).arrAt 2 (cfgs 0).N = fun i : S512x512.Idx =>
    ∑ r : Fin 2048, (aX m c (ix2 r (i 0)) : EReal) * aY m c (ix2 r (i 1)) := by
  refine (dats m 0 c).arrAt_eq_of_covers 2 _ (by decide +kernel) fun t hf y => ?_
  blk_simp
  rw [after0_2]
  idx_vars y
  have e0 : (win0_2.blk t).view.emb (ix2 y0 y1) 0 = y0 := by
    refine Fin.ext ?_
    blk_simp [places t]
  have e1 : (win0_2.blk t).view.emb (ix2 y0 y1) 1 = y1 := by
    refine Fin.ext ?_
    blk_simp [places t]
  refine (out_at _ _ y0 y1).trans ?_
  rw [e0, e1]
  refine Eq.trans (Finset.sum_congr rfl fun r _ => ?_) (sum_time fun r => (aX m c (ix2 r y0) : EReal) * aY m c (ix2 r y1))
  rw [blk0_at, blk1_at]

abbrev tailOps : List (HloOp τ sig (Elt Ideal)) := [hostOps1].flatten

theorem tail_eq (W : Valuation τ sig (Elt Ideal)) : (StableHlo.after tailOps W (Proc.devRef .tc main_v8) : FVec Ideal S512x512 .f32)
    = extf (F := Ideal) .f32 (W (Proc.devRef .tc main_v7) : FVec Ideal S512x512 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v8 = fun i : S512x512.Idx =>
    ∑ r : Fin 2048, (aX m c (ix2 r (i 0)) : EReal) * aY m c (ix2 r (i 1)) := by
  refine (tail_eq (after0 m c)).trans ?_
  rw [show after0 m c (Proc.devRef .tc main_v7) = _ from (left 2).trans arr2]
  funext i
  idx_vars i
  pointwise

end Cert.Kernel12Ideal.Body

namespace Cert.Join12

open Idealize.ShloMosaic Idealize.ShloMosaic.TcCoe Idealize.SL.Sem

/-- The reference runs no semaphore: every counter family over its signature is the zero one. -/
theorem no_counter (s : GSem Reference12Ideal.nD Reference12Ideal.τ Reference12Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference12Ideal (hReference12Ideal := Reference12Ideal.Gen.facts) := fun m ρ _ =>
  (θ_run Reference12Ideal.defs _ _).mono (fun r h => ⟨fun c => (h c).2, no_counter _⟩) (Reference12Ideal.Value.run m ρ)

open Reference12Ideal Reference12Ideal.Facts₀ in
theorem reference_at (x : FVec Ideal S2048x512 .f32) (y : FVec Ideal S2048x512 .f32) (r : Fin 512) (l : Fin 512) :
    (transpose S512x512 [1, 0] (Host.dotGeneral dot_S2048x512_S2048x512_S512x512_0_0_1_1_n_n none y x) transposes_S512x512_S512x512_1_0 (ix2 r l) : EReal)
      = ∑ q : Fin 2048, (x (ix2 q r) : EReal) * y (ix2 q l) := by
  pointwise
  exact Finset.sum_congr rfl fun r _ => mul_comm _ _

/-- The kernel and the reference end with the same product. -/
theorem same : algebraic_Kernel12Ideal_Reference12Ideal (hKernel12Ideal := Kernel12Ideal.Gen.facts) (hReference12Ideal := Reference12Ideal.Gen.facts) := by
  intro m g m' g' _ ha
  refine ⟨fun c => Kernel12Ideal.Body.endOf m c _, ?_, ?_⟩
  · refine (θ_run Kernel12Ideal.defs _ _).mono (fun r h c => ?_) (θ_run_and (Kernel12Ideal.Gen.run_main m g) (Kernel12Ideal.Gen.unchanged m g))
    exact ⟨h.1.rest_eq c Kernel12Ideal.main_v8 (by decide), h.2 c⟩
  · refine (θ_run Reference12Ideal.defs _ _).mono (fun r h c => ?_) (Reference12Ideal.Value.run m' g')
    obtain ⟨h0, hrest⟩ := h c
    obtain ⟨e0, e1⟩ := ha c
    refine ⟨h0.trans ?_, hrest⟩
    refine Eq.trans ?_ Kernel12Ideal.Body.value.symm
    rw [e0, e1]
    funext i
    idx_vars i
    exact reference_at _ _ i0 i1

end Cert.Join12

end
-- ==== Proof.DY1.lean ====
module

public import proofs.«01_k».proof.Proof.Gen.Kernel13Ideal.Frame
public import proofs.«01_k».proof.Proof.Gen.Reference13Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel13Ideal.Body

open Idealize.ShloMosaic Idealize.ShloMosaic.TcCoe Idealize.SL.Sem
open Cert.Kernel13Ideal Cert.Kernel13Ideal.Gen Cert.Order

theorem places : ∀ t : Fin grid0.N,
    win0_0.index t = ![t.val, 0] ∧ win0_1.index t = ![0, 0] ∧ win0_2.index t = ![t.val, 0] := by decide +kernel

/-- The first operand as the call takes it: its rows in the order of the chunks. -/
def lhs (x : FVec Ideal S2048x512 .f32) : FVec Ideal S2048x512 .bf16 :=
  truncf .bf16 (shapeCast S2048x512 (transpose S256x8x512 [1, 0, 2] (shapeCast S8x256x512 x
      shapeCasts_S2048x512_S8x256x512) transposes_S8x256x512_S256x8x512_1_0_2) shapeCasts_S256x8x512_S2048x512) bitsLt_bf16_f32

/-- The second operand as the call takes it. -/
def rhs (x : FVec Ideal S512x512 .f32) : FVec Ideal S512x512 .bf16 :=
  truncf .bf16 x bitsLt_bf16_f32

theorem lhs_at (x : FVec Ideal S2048x512 .f32) (r : Fin 2048) (k : Fin 512) : (lhs x (ix2 r k) : EReal) = x (ix2 (time r) k) := by
  pointwise [lhs]
  simp [time, Nat.mul_comm]

theorem rhs_at (x : FVec Ideal S512x512 .f32) (r : Fin 512) (k : Fin 512) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x512 .f32 := m ((c : Thread nD τ).loc main_arg0)
abbrev aY (m : (ℓ : Loc nD τ sig) → Buf (Elt Ideal) ℓ) (c : Dev nD) : FVec Ideal S512x512 .f32 := m ((c : Thread nD τ).loc main_arg1)

theorem lhs_eq : (V m c main_v3 : FVec Ideal S2048x512 .bf16) = lhs (aX m c) := by
  unfold V V0
  simp only [List.flatten_cons, List.flatten_nil, List.append_nil, List.cons_append, List.nil_append]
  after_results_simp
  rfl

theorem rhs_eq : (V m c main_v4 : FVec Ideal S512x512 .bf16) = rhs (aY m c) := by
  unfold V V0
  simp only [List.flatten_cons, List.flatten_nil, List.append_nil, List.cons_append, List.nil_append]
  after_results_simp
  rfl

theorem two (t : Fin grid0.N) : t.val < 2 := lt_of_lt_of_eq t.isLt N_0

/-- The row that row `r` of block `t` is. -/
def spot (t : Fin grid0.N) (r : Fin 1024) : Fin 2048 := ⟨1024 * t.val + r.val, by have := two t; omega⟩

theorem blk0_at (t : Fin grid0.N) (r : Fin 1024) (k : Fin 512) : (iblk m c 0 t (ix2 r k) : EReal) = aX m c (ix2 (time (spot t r)) k) := by
  rw [← lhs_at (aX m c), ← lhs_eq]
  blk_ext [iblk, places t, spot]

theorem blk1_at (t : Fin grid0.N) (k : Fin 512) (l : Fin 512) : (iblk m c 1 t (ix2 k l) : EReal) = aY m c (ix2 k l) := by
  rw [← rhs_at (aY m c), ← rhs_eq]
  blk_ext [iblk, places t]

theorem out_at (x0 : Vec Ideal S1024x512 .bf16) (x1 : Vec Ideal S512x512 .bf16) (r : Fin 1024) (l : Fin 512) :
    (out0_2 x0 x1 (ix2 r l) : EReal) = ∑ k : Fin 512, (x0 (ix2 r k) : EReal) * x1 (ix2 l k) := by
  unfold out0_2
  rw [View.canon_unit_zero (S := S1024x512) (by decide), View.ld_unit_zero (S := S1024x512) (by decide), View.ld_unit_zero (S := S512x512) (by decide)]
  pointwise [k0_pay1]

/-- What the call leaves in its result. -/
theorem arr2 : (dats m 0 c).arrAt 2 (cfgs 0).N = fun i : S2048x512.Idx =>
    ∑ k : Fin 512, (aX m c (ix2 (time (i 0)) k) : EReal) * aY m c (ix2 (i 1) k) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out_at _ _ y0 y1).trans ?_
  rw [e0, e1]
  refine Finset.sum_congr rfl fun k _ => ?_
  rw [blk0_at, blk1_at]

abbrev tailOps : List (HloOp τ sig (Elt Ideal)) := [hostOps1].flatten

theorem tail_eq (W : Valuation τ sig (Elt Ideal)) : (StableHlo.after tailOps W (Proc.devRef .tc main_v8) : FVec Ideal S2048x512 .f32)
    = shapeCast S2048x512 (transpose S8x256x512 [1, 0, 2] (shapeCast S256x8x512 (W (Proc.devRef .tc main_v5) : FVec Ideal S2048x512 .f32)
        shapeCasts_S2048x512_S256x8x512) transposes_S256x8x512_S8x256x512_1_0_2) shapeCasts_S8x256x512_S2048x512 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v8 = fun i : S2048x512.Idx =>
    ∑ k : Fin 512, (aX m c (ix2 (i 0) k) : EReal) * aY m c (ix2 (i 1) k) := by
  refine (tail_eq (after0 m c)).trans ?_
  rw [show after0 m c (Proc.devRef .tc main_v5) = _ from (left 2).trans arr2]
  funext i
  idx_vars i
  pointwise
  rw [time_mk]

end Cert.Kernel13Ideal.Body

namespace Cert.Join13

open Idealize.ShloMosaic Idealize.ShloMosaic.TcCoe Idealize.SL.Sem

/-- The reference runs no semaphore: every counter family over its signature is the zero one. -/
theorem no_counter (s : GSem Reference13Ideal.nD Reference13Ideal.τ Reference13Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference13Ideal (hReference13Ideal := Reference13Ideal.Gen.facts) := fun m ρ _ =>
  (θ_run Reference13Ideal.defs _ _).mono (fun r h => ⟨fun c => (h c).2, no_counter _⟩) (Reference13Ideal.Value.run m ρ)

open Reference13Ideal Reference13Ideal.Facts₀ in
theorem reference_at (x : FVec Ideal S2048x512 .f32) (y : FVec Ideal S512x512 .f32) (r : Fin 2048) (l : Fin 512) :
    (Host.dotGeneral dot_S2048x512_S512x512_S2048x512_1_1_0_0_n_n none x y (ix2 r l) : EReal)
      = ∑ k : Fin 512, (x (ix2 r k) : EReal) * y (ix2 l k) := by
  pointwise

/-- The kernel and the reference end with the same product. -/
theorem same : algebraic_Kernel13Ideal_Reference13Ideal (hKernel13Ideal := Kernel13Ideal.Gen.facts) (hReference13Ideal := Reference13Ideal.Gen.facts) := by
  intro m g m' g' _ ha
  refine ⟨fun c => Kernel13Ideal.Body.endOf m c _, ?_, ?_⟩
  · refine (θ_run Kernel13Ideal.defs _ _).mono (fun r h c => ?_) (θ_run_and (Kernel13Ideal.Gen.run_main m g) (Kernel13Ideal.Gen.unchanged m g))
    exact ⟨h.1.rest_eq c Kernel13Ideal.main_v8 (by decide), h.2 c⟩
  · refine (θ_run Reference13Ideal.defs _ _).mono (fun r h c => ?_) (Reference13Ideal.Value.run m' g')
    obtain ⟨h0, hrest⟩ := h c
    obtain ⟨e0, e1⟩ := ha c
    refine ⟨h0.trans ?_, hrest⟩
    refine Eq.trans ?_ Kernel13Ideal.Body.value.symm
    rw [e0, e1]
    funext i
    idx_vars i
    exact reference_at _ _ i0 i1

end Cert.Join13

end
-- ==== Proof.Glu.lean ====
module

public import proofs.«01_k».proof.Proof.Gen.Kernel14Ideal.Frame
public import proofs.«01_k».proof.Proof.Gen.Reference14Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel14Ideal.Body

open Idealize.ShloMosaic Idealize.ShloMosaic.TcCoe Idealize.SL.Sem
open Cert.Kernel14Ideal Cert.Kernel14Ideal.Gen Cert.Order

theorem places : ∀ t : Fin grid0.N,
    win0_0.index t = ![t.val, 0] ∧ win0_1.index t = ![0, 0] ∧ win0_2.index t = ![t.val, 0] := by decide +kernel

/-- The first operand as the call takes it: its rows in the order of the chunks. -/
def lhs (x : FVec Ideal S2048x512 .f32) : FVec Ideal S2048x512 .f32 :=
  shapeCast S2048x512 (transpose S256x8x512 [1, 0, 2] (shapeCast S8x256x512 x
      shapeCasts_S2048x512_S8x256x512) transposes_S8x256x512_S256x8x512_1_0_2) shapeCasts_S256x8x512_S2048x512

/-- The second operand as the call takes it. -/
def rhs (x : FVec Ideal S512x512 .f32) : FVec Ideal S512x512 .bf16 :=
  truncf .bf16 x bitsLt_bf16_f32

theorem lhs_at (x : FVec Ideal S2048x512 .f32) (r : Fin 2048) (k : Fin 512) : (lhs x (ix2 r k) : EReal) = x (ix2 (time r) k) := by
  pointwise [lhs]
  simp [time, Nat.mul_comm]

theorem rhs_at (x : FVec Ideal S512x512 .f32) (r : Fin 512) (k : Fin 512) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x512 .f32 := m ((c : Thread nD τ).loc main_arg0)
abbrev aY (m : (ℓ : Loc nD τ sig) → Buf (Elt Ideal) ℓ) (c : Dev nD) : FVec Ideal S512x512 .f32 := m ((c : Thread nD τ).loc main_arg1)

theorem lhs_eq : (V m c main_v2 : FVec Ideal S2048x512 .f32) = lhs (aX m c) := by
  unfold V V0
  simp only [List.flatten_cons, List.flatten_nil, List.append_nil, List.cons_append, List.nil_append]
  after_results_simp
  rfl

theorem rhs_eq : (V m c main_v3 : FVec Ideal S512x512 .bf16) = rhs (aY m c) := by
  unfold V V0
  simp only [List.flatten_cons, List.flatten_nil, List.append_nil, List.cons_append, List.nil_append]
  after_results_simp
  rfl

theorem two (t : Fin grid0.N) : t.val < 2 := lt_of_lt_of_eq t.isLt N_0

/-- The row that row `r` of block `t` is. -/
def spot (t : Fin grid0.N) (r : Fin 1024) : Fin 2048 := ⟨1024 * t.val + r.val, by have := two t; omega⟩

theorem blk0_at (t : Fin grid0.N) (r : Fin 1024) (k : Fin 512) : (iblk m c 0 t (ix2 r k) : EReal) = aX m c (ix2 (time (spot t r)) k) := by
  rw [← lhs_at (aX m c), ← lhs_eq]
  blk_ext [iblk, places t, spot]

theorem blk1_at (t : Fin grid0.N) (k : Fin 512) (l : Fin 512) : (iblk m c 1 t (ix2 k l) : EReal) = aY m c (ix2 k l) := by
  rw [← rhs_at (aY m c), ← rhs_eq]
  blk_ext [iblk, places t]

theorem out_at (x0 : Vec Ideal S1024x512 .f32) (x1 : Vec Ideal S512x512 .bf16) (r : Fin 1024) (l : Fin 512) :
    (out0_2 x0 x1 (ix2 r l) : EReal) = ∑ k : Fin 512, (x0 (ix2 r k) : EReal) * x1 (ix2 k l) := by
  unfold out0_2
  rw [View.canon_unit_zero (S := S1024x512) (by decide), View.ld_unit_zero (S := S1024x512) (by decide), View.ld_unit_zero (S := S512x512) (by decide)]
  pointwise [k0_pay1]

/-- What the call leaves in its result. -/
theorem arr2 : (dats m 0 c).arrAt 2 (cfgs 0).N = fun i : S2048x512.Idx =>
    ∑ k : Fin 512, (aX m c (ix2 (time (i 0)) k) : EReal) * aY m c (ix2 k (i 1)) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out_at _ _ y0 y1).trans ?_
  rw [e0, e1]
  refine Finset.sum_congr rfl fun k _ => ?_
  rw [blk0_at, blk1_at]

abbrev tailOps : List (HloOp τ sig (Elt Ideal)) := [hostOps1].flatten

theorem tail_eq (W : Valuation τ sig (Elt Ideal)) : (StableHlo.after tailOps W (Proc.devRef .tc main_v7) : FVec Ideal S2048x512 .f32)
    = shapeCast S2048x512 (transpose S8x256x512 [1, 0, 2] (shapeCast S256x8x512 (W (Proc.devRef .tc main_v4) : FVec Ideal S2048x512 .f32)
        shapeCasts_S2048x512_S256x8x512) transposes_S256x8x512_S8x256x512_1_0_2) shapeCasts_S8x256x512_S2048x512 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v7 = fun i : S2048x512.Idx =>
    ∑ k : Fin 512, (aX m c (ix2 (i 0) k) : EReal) * aY m c (ix2 k (i 1)) := by
  refine (tail_eq (after0 m c)).trans ?_
  rw [show after0 m c (Proc.devRef .tc main_v4) = _ from (left 2).trans arr2]
  funext i
  idx_vars i
  pointwise
  rw [time_mk]

end Cert.Kernel14Ideal.Body

namespace Cert.Join14

open Idealize.ShloMosaic Idealize.ShloMosaic.TcCoe Idealize.SL.Sem

/-- The reference runs no semaphore: every counter family over its signature is the zero one. -/
theorem no_counter (s : GSem Reference14Ideal.nD Reference14Ideal.τ Reference14Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference14Ideal (hReference14Ideal := Reference14Ideal.Gen.facts) := fun m ρ _ =>
  (θ_run Reference14Ideal.defs _ _).mono (fun r h => ⟨fun c => (h c).2, no_counter _⟩) (Reference14Ideal.Value.run m ρ)

open Reference14Ideal Reference14Ideal.Facts₀ in
theorem reference_at (x : FVec Ideal S2048x512 .f32) (y : FVec Ideal S512x512 .f32) (r : Fin 2048) (l : Fin 512) :
    (Host.dotGeneral dot_S2048x512_S512x512_S2048x512_1_0_0_1_n_n none x y (ix2 r l) : EReal)
      = ∑ k : Fin 512, (x (ix2 r k) : EReal) * y (ix2 k l) := by
  pointwise

/-- The kernel and the reference end with the same product. -/
theorem same : algebraic_Kernel14Ideal_Reference14Ideal (hKernel14Ideal := Kernel14Ideal.Gen.facts) (hReference14Ideal := Reference14Ideal.Gen.facts) := by
  intro m g m' g' _ ha
  refine ⟨fun c => Kernel14Ideal.Body.endOf m c _, ?_, ?_⟩
  · refine (θ_run Kernel14Ideal.defs _ _).mono (fun r h c => ?_) (θ_run_and (Kernel14Ideal.Gen.run_main m g) (Kernel14Ideal.Gen.unchanged m g))
    exact ⟨h.1.rest_eq c Kernel14Ideal.main_v7 (by decide), h.2 c⟩
  · refine (θ_run Reference14Ideal.defs _ _).mono (fun r h c => ?_) (Reference14Ideal.Value.run m' g')
    obtain ⟨h0, hrest⟩ := h c
    obtain ⟨e0, e1⟩ := ha c
    refine ⟨h0.trans ?_, hrest⟩
    refine Eq.trans ?_ Kernel14Ideal.Body.value.symm
    rw [e0, e1]
    funext i
    idx_vars i
    exact reference_at _ _ i0 i1

end Cert.Join14

end
-- ==== Proof.BranchS.lean ====
module

public import proofs.«01_k».proof.Proof.Gen.Kernel15Ideal.Frame
public import proofs.«01_k».proof.Proof.Gen.Reference15Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel15Ideal.Body

open Idealize.ShloMosaic Idealize.ShloMosaic.TcCoe Idealize.SL.Sem
open Cert.Kernel15Ideal Cert.Kernel15Ideal.Gen Cert.Order

theorem places : ∀ t : Fin grid0.N,
    win0_0.index t = ![t.val, 0] ∧ win0_1.index t = ![0, 0] ∧ win0_2.index t = ![t.val, 0] := by decide +kernel

/-- The first operand as the call takes it. -/
def lhs (x : FVec Ideal S2048x512 .f32) : FVec Ideal S2048x512 .bf16 :=
  truncf .bf16 x bitsLt_bf16_f32

/-- The second operand as the call takes it. -/
def rhs (x : FVec Ideal S512x1024 .f32) : FVec Ideal S512x1024 .bf16 :=
  truncf .bf16 x bitsLt_bf16_f32

theorem lhs_at (x : FVec Ideal S2048x512 .f32) (r : Fin 2048) (k : Fin 512) : (lhs x (ix2 r k) : EReal) = x (ix2 r k) := by
  pointwise [lhs]

theorem rhs_at (x : FVec Ideal S512x1024 .f32) (r : Fin 512) (k : Fin 1024) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x512 .f32 := m ((c : Thread nD τ).loc main_arg0)
abbrev aY (m : (ℓ : Loc nD τ sig) → Buf (Elt Ideal) ℓ) (c : Dev nD) : FVec Ideal S512x1024 .f32 := m ((c : Thread nD τ).loc main_arg1)

theorem lhs_eq : (V m c main_v0 : FVec Ideal S2048x512 .bf16) = lhs (aX m c) := by
  unfold V V0
  simp only [List.flatten_cons, List.flatten_nil, List.append_nil, List.cons_append, List.nil_append]
  after_results_simp
  rfl

theorem rhs_eq : (V m c main_v1 : FVec Ideal S512x1024 .bf16) = rhs (aY m c) := by
  unfold V V0
  simp only [List.flatten_cons, List.flatten_nil, List.append_nil, List.cons_append, List.nil_append]
  after_results_simp
  rfl

theorem two (t : Fin grid0.N) : t.val < 2 := lt_of_lt_of_eq t.isLt N_0

/-- The row that row `r` of block `t` is. -/
def spot (t : Fin grid0.N) (r : Fin 1024) : Fin 2048 := ⟨1024 * t.val + r.val, by have := two t; omega⟩

theorem blk0_at (t : Fin grid0.N) (r : Fin 1024) (k : Fin 512) : (iblk m c 0 t (ix2 r k) : EReal) = aX m c (ix2 (spot t r) k) := by
  rw [← lhs_at (aX m c), ← lhs_eq]
  blk_ext [iblk, places t, spot]

theorem blk1_at (t : Fin grid0.N) (k : Fin 512) (l : Fin 1024) : (iblk m c 1 t (ix2 k l) : EReal) = aY m c (ix2 k l) := by
  rw [← rhs_at (aY m c), ← rhs_eq]
  blk_ext [iblk, places t]

theorem out_at (x0 : Vec Ideal S1024x512 .bf16) (x1 : Vec Ideal S512x1024 .bf16) (r : Fin 1024) (l : Fin 1024) :
    (out0_2 x0 x1 (ix2 r l) : EReal) = ∑ k : Fin 512, (x0 (ix2 r k) : EReal) * x1 (ix2 k l) := by
  unfold out0_2
  rw [View.canon_unit_zero (S := S1024x1024) (by decide), View.ld_unit_zero (S := S1024x512) (by decide), View.ld_unit_zero (S := S512x1024) (by decide)]
  pointwise [k0_pay1]

/-- What the call leaves in its result. -/
theorem arr2 : (dats m 0 c).arrAt 2 (cfgs 0).N = fun i : S2048x1024.Idx =>
    ∑ k : Fin 512, (aX m c (ix2 (i 0) k) : EReal) * aY m c (ix2 k (i 1)) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out_at _ _ y0 y1).trans ?_
  rw [e0, e1]
  refine Finset.sum_congr rfl fun k _ => ?_
  rw [blk0_at, blk1_at]

abbrev tailOps : List (HloOp τ sig (Elt Ideal)) := [hostOps1].flatten

theorem tail_eq (W : Valuation τ sig (Elt Ideal)) : (StableHlo.after tailOps W (Proc.devRef .tc main_v3) : FVec Ideal S2048x1024 .f32)
    = extf (F := Ideal) .f32 (W (Proc.devRef .tc main_v2) : FVec Ideal S2048x1024 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v3 = fun i : S2048x1024.Idx =>
    ∑ k : Fin 512, (aX m c (ix2 (i 0) k) : EReal) * aY m c (ix2 k (i 1)) := by
  refine (tail_eq (after0 m c)).trans ?_
  rw [show after0 m c (Proc.devRef .tc main_v2) = _ from (left 2).trans arr2]
  funext i
  idx_vars i
  pointwise

end Cert.Kernel15Ideal.Body

namespace Cert.Join15

open Idealize.ShloMosaic Idealize.ShloMosaic.TcCoe Idealize.SL.Sem

/-- The reference runs no semaphore: every counter family over its signature is the zero one. -/
theorem no_counter (s : GSem Reference15Ideal.nD Reference15Ideal.τ Reference15Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference15Ideal (hReference15Ideal := Reference15Ideal.Gen.facts) := fun m ρ _ =>
  (θ_run Reference15Ideal.defs _ _).mono (fun r h => ⟨fun c => (h c).2, no_counter _⟩) (Reference15Ideal.Value.run m ρ)

open Reference15Ideal Reference15Ideal.Facts₀ in
theorem reference_at (x : FVec Ideal S2048x512 .f32) (y : FVec Ideal S512x1024 .f32) (r : Fin 2048) (l : Fin 1024) :
    (Host.dotGeneral dot_S2048x512_S512x1024_S2048x1024_1_0_0_1_n_n none x y (ix2 r l) : EReal)
      = ∑ k : Fin 512, (x (ix2 r k) : EReal) * y (ix2 k l) := by
  pointwise

/-- The kernel and the reference end with the same product. -/
theorem same : algebraic_Kernel15Ideal_Reference15Ideal (hKernel15Ideal := Kernel15Ideal.Gen.facts) (hReference15Ideal := Reference15Ideal.Gen.facts) := by
  intro m g m' g' _ ha
  refine ⟨fun c => Kernel15Ideal.Body.endOf m c _, ?_, ?_⟩
  · refine (θ_run Kernel15Ideal.defs _ _).mono (fun r h c => ?_) (θ_run_and (Kernel15Ideal.Gen.run_main m g) (Kernel15Ideal.Gen.unchanged m g))
    exact ⟨h.1.rest_eq c Kernel15Ideal.main_v3 (by decide), h.2 c⟩
  · refine (θ_run Reference15Ideal.defs _ _).mono (fun r h c => ?_) (Reference15Ideal.Value.run m' g')
    obtain ⟨h0, hrest⟩ := h c
    obtain ⟨e0, e1⟩ := ha c
    refine ⟨h0.trans ?_, hrest⟩
    refine Eq.trans ?_ Kernel15Ideal.Body.value.symm
    rw [e0, e1]
    funext i
    idx_vars i
    exact reference_at _ _ i0 i1

end Cert.Join15

end
-- ==== Proof.BranchA.lean ====
module

public import proofs.«01_k».proof.Proof.Gen.Kernel16Ideal.Frame
public import proofs.«01_k».proof.Proof.Gen.Reference16Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel16Ideal.Body

open Idealize.ShloMosaic Idealize.ShloMosaic.TcCoe Idealize.SL.Sem
open Cert.Kernel16Ideal Cert.Kernel16Ideal.Gen Cert.Order

theorem places : ∀ t : Fin grid0.N,
    win0_0.index t = ![t.val, 0] ∧ win0_1.index t = ![0, 0] ∧ win0_2.index t = ![t.val, 0] := by decide +kernel

/-- The first operand as the call takes it. -/
def lhs (x : FVec Ideal S2048x512 .f32) : FVec Ideal S2048x512 .bf16 :=
  truncf .bf16 x bitsLt_bf16_f32

/-- The second operand as the call takes it. -/
def rhs (x : FVec Ideal S512x1024 .f32) : FVec Ideal S512x1024 .bf16 :=
  truncf .bf16 x bitsLt_bf16_f32

theorem lhs_at (x : FVec Ideal S2048x512 .f32) (r : Fin 2048) (k : Fin 512) : (lhs x (ix2 r k) : EReal) = x (ix2 r k) := by
  pointwise [lhs]

theorem rhs_at (x : FVec Ideal S512x1024 .f32) (r : Fin 512) (k : Fin 1024) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x512 .f32 := m ((c : Thread nD τ).loc main_arg0)
abbrev aY (m : (ℓ : Loc nD τ sig) → Buf (Elt Ideal) ℓ) (c : Dev nD) : FVec Ideal S512x1024 .f32 := m ((c : Thread nD τ).loc main_arg1)

theorem lhs_eq : (V m c main_v0 : FVec Ideal S2048x512 .bf16) = lhs (aX m c) := by
  unfold V V0
  simp only [List.flatten_cons, List.flatten_nil, List.append_nil, List.cons_append, List.nil_append]
  after_results_simp
  rfl

theorem rhs_eq : (V m c main_v1 : FVec Ideal S512x1024 .bf16) = rhs (aY m c) := by
  unfold V V0
  simp only [List.flatten_cons, List.flatten_nil, List.append_nil, List.cons_append, List.nil_append]
  after_results_simp
  rfl

theorem two (t : Fin grid0.N) : t.val < 2 := lt_of_lt_of_eq t.isLt N_0

/-- The row that row `r` of block `t` is. -/
def spot (t : Fin grid0.N) (r : Fin 1024) : Fin 2048 := ⟨1024 * t.val + r.val, by have := two t; omega⟩

theorem blk0_at (t : Fin grid0.N) (r : Fin 1024) (k : Fin 512) : (iblk m c 0 t (ix2 r k) : EReal) = aX m c (ix2 (spot t r) k) := by
  rw [← lhs_at (aX m c), ← lhs_eq]
  blk_ext [iblk, places t, spot]

theorem blk1_at (t : Fin grid0.N) (k : Fin 512) (l : Fin 1024) : (iblk m c 1 t (ix2 k l) : EReal) = aY m c (ix2 k l) := by
  rw [← rhs_at (aY m c), ← rhs_eq]
  blk_ext [iblk, places t]

theorem out_at (x0 : Vec Ideal S1024x512 .bf16) (x1 : Vec Ideal S512x1024 .bf16) (r : Fin 1024) (l : Fin 1024) :
    (out0_2 x0 x1 (ix2 r l) : EReal) = ∑ k : Fin 512, (x0 (ix2 r k) : EReal) * x1 (ix2 k l) := by
  unfold out0_2
  rw [View.canon_unit_zero (S := S1024x1024) (by decide), View.ld_unit_zero (S := S1024x512) (by decide), View.ld_unit_zero (S := S512x1024) (by decide)]
  pointwise [k0_pay1]

/-- What the call leaves in its result. -/
theorem arr2 : (dats m 0 c).arrAt 2 (cfgs 0).N = fun i : S2048x1024.Idx =>
    ∑ k : Fin 512, (aX m c (ix2 (i 0) k) : EReal) * aY m c (ix2 k (i 1)) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out_at _ _ y0 y1).trans ?_
  rw [e0, e1]
  refine Finset.sum_congr rfl fun k _ => ?_
  rw [blk0_at, blk1_at]

abbrev tailOps : List (HloOp τ sig (Elt Ideal)) := [hostOps1].flatten

theorem tail_eq (W : Valuation τ sig (Elt Ideal)) : (StableHlo.after tailOps W (Proc.devRef .tc main_v3) : FVec Ideal S2048x1024 .f32)
    = extf (F := Ideal) .f32 (W (Proc.devRef .tc main_v2) : FVec Ideal S2048x1024 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value : endOf m c main_v3 = fun i : S2048x1024.Idx =>
    ∑ k : Fin 512, (aX m c (ix2 (i 0) k) : EReal) * aY m c (ix2 k (i 1)) := by
  refine (tail_eq (after0 m c)).trans ?_
  rw [show after0 m c (Proc.devRef .tc main_v2) = _ from (left 2).trans arr2]
  funext i
  idx_vars i
  pointwise

end Cert.Kernel16Ideal.Body

namespace Cert.Join16

open Idealize.ShloMosaic Idealize.ShloMosaic.TcCoe Idealize.SL.Sem

/-- The reference runs no semaphore: every counter family over its signature is the zero one. -/
theorem no_counter (s : GSem Reference16Ideal.nD Reference16Ideal.τ Reference16Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference16Ideal (hReference16Ideal := Reference16Ideal.Gen.facts) := fun m ρ _ =>
  (θ_run Reference16Ideal.defs _ _).mono (fun r h => ⟨fun c => (h c).2, no_counter _⟩) (Reference16Ideal.Value.run m ρ)

open Reference16Ideal Reference16Ideal.Facts₀ in
theorem reference_at (x : FVec Ideal S2048x512 .f32) (y : FVec Ideal S512x1024 .f32) (r : Fin 2048) (l : Fin 1024) :
    (Host.dotGeneral dot_S2048x512_S512x1024_S2048x1024_1_0_0_1_n_n none x y (ix2 r l) : EReal)
      = ∑ k : Fin 512, (x (ix2 r k) : EReal) * y (ix2 k l) := by
  pointwise

/-- The kernel and the reference end with the same product. -/
theorem same : algebraic_Kernel16Ideal_Reference16Ideal (hKernel16Ideal := Kernel16Ideal.Gen.facts) (hReference16Ideal := Reference16Ideal.Gen.facts) := by
  intro m g m' g' _ ha
  refine ⟨fun c => Kernel16Ideal.Body.endOf m c _, ?_, ?_⟩
  · refine (θ_run Kernel16Ideal.defs _ _).mono (fun r h c => ?_) (θ_run_and (Kernel16Ideal.Gen.run_main m g) (Kernel16Ideal.Gen.unchanged m g))
    exact ⟨h.1.rest_eq c Kernel16Ideal.main_v3 (by decide), h.2 c⟩
  · refine (θ_run Reference16Ideal.defs _ _).mono (fun r h c => ?_) (Reference16Ideal.Value.run m' g')
    obtain ⟨h0, hrest⟩ := h c
    obtain ⟨e0, e1⟩ := ha c
    refine ⟨h0.trans ?_, hrest⟩
    refine Eq.trans ?_ Kernel16Ideal.Body.value.symm
    rw [e0, e1]
    funext i
    idx_vars i
    exact reference_at _ _ i0 i1

end Cert.Join16

end
-- ==== Proof.Out.lean ====
module

public import proofs.«01_k».proof.Proof.Gen.Kernel17Ideal.Value
public import proofs.«01_k».proof.Proof.Gen.Reference17Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel17Ideal.Body

open Idealize.ShloMosaic Idealize.ShloMosaic.TcCoe Idealize.SL.Sem
open Cert.Kernel17Ideal Cert.Kernel17Ideal.Gen Cert.Order

theorem places : ∀ t : Fin grid0.N,
    win0_0.index t = ![t.val, 0] ∧ win0_1.index t = ![0, 0] ∧ win0_2.index t = ![t.val, 0] := by decide +kernel

/-- The first operand as the call takes it. -/
def lhs (x : FVec Ideal S2048x1024 .f32) : FVec Ideal S2048x1024 .bf16 :=
  truncf .bf16 x bitsLt_bf16_f32

/-- The second operand as the call takes it. -/
def rhs (x : FVec Ideal S1024x1024 .f32) : FVec Ideal S1024x1024 .bf16 :=
  truncf .bf16 x bitsLt_bf16_f32

theorem lhs_at (x : FVec Ideal S2048x1024 .f32) (r : Fin 2048) (k : Fin 1024) : (lhs x (ix2 r k) : EReal) = x (ix2 r k) := by
  pointwise [lhs]

theorem rhs_at (x : FVec Ideal S1024x1024 .f32) (r : Fin 1024) (k : Fin 1024) : (rhs x (ix2 r k) : EReal) = x (ix2 r k) := by
  pointwise [rhs]

variable {m : (ℓ : Loc nD τ sig) → Buf (Elt Ideal) ℓ} {c : Dev nD}

/-- The two arguments at a device. -/
abbrev aX (m : (ℓ : Loc nD τ sig) → Buf (Elt Ideal) ℓ) (c : Dev nD) : FVec Ideal S2048x1024 .f32 := m ((c : Thread nD τ).loc main_arg0)
abbrev aY (m : (ℓ : Loc nD τ sig) → Buf (Elt Ideal) ℓ) (c : Dev nD) : FVec Ideal S1024x1024 .f32 := m ((c : Thread nD τ).loc main_arg1)

theorem lhs_eq : (V m c main_v0 : FVec Ideal S2048x1024 .bf16) = lhs (aX m c) := by
  unfold V
  after_results_simp
  rfl

theorem rhs_eq : (V m c main_v1 : FVec Ideal S1024x1024 .bf16) = rhs (aY m c) := by
  unfold V
  after_results_simp
  rfl

theorem two (t : Fin grid0.N) : t.val < 2 := lt_of_lt_of_eq t.isLt N_0

/-- The row that row `r` of block `t` is. -/
def spot (t : Fin grid0.N) (r : Fin 1024) : Fin 2048 := ⟨1024 * t.val + r.val, by have := two t; omega⟩

theorem blk0_at (t : Fin grid0.N) (r : Fin 1024) (k : Fin 1024) : (iblk m c 0 t (ix2 r k) : EReal) = aX m c (ix2 (spot t r) k) := by
  rw [← lhs_at (aX m c), ← lhs_eq]
  blk_ext [iblk, places t, spot]

theorem blk1_at (t : Fin grid0.N) (k : Fin 1024) (l : Fin 1024) : (iblk m c 1 t (ix2 k l) : EReal) = aY m c (ix2 k l) := by
  rw [← rhs_at (aY m c), ← rhs_eq]
  blk_ext [iblk, places t]

theorem out_at (x0 : Vec Ideal S1024x1024 .bf16) (x1 : Vec Ideal S1024x1024 .bf16) (r : Fin 1024) (l : Fin 1024) :
    (out0_2 x0 x1 (ix2 r l) : EReal) = ∑ k : Fin 1024, (x0 (ix2 r k) : EReal) * x1 (ix2 k l) := by
  unfold out0_2
  rw [View.canon_unit_zero (S := S1024x1024) (by decide), View.ld_unit_zero (S := S1024x1024) (by decide)]
  pointwise [k0_pay1]

/-- What the call leaves in its result. -/
theorem arr2 : (dats m 0 c).arrAt 2 (cfgs 0).N = fun i : S2048x1024.Idx =>
    ∑ k : Fin 1024, (aX m c (ix2 (i 0) k) : EReal) * aY m c (ix2 k (i 1)) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out_at _ _ y0 y1).trans ?_
  rw [e0, e1]
  refine Finset.sum_congr rfl fun k _ => ?_
  rw [blk0_at, blk1_at]

end Cert.Kernel17Ideal.Body

namespace Cert.Join17

open Idealize.ShloMosaic Idealize.ShloMosaic.TcCoe Idealize.SL.Sem

/-- The reference runs no semaphore: every counter family over its signature is the zero one. -/
theorem no_counter (s : GSem Reference17Ideal.nD Reference17Ideal.τ Reference17Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference17Ideal (hReference17Ideal := Reference17Ideal.Gen.facts) := fun m ρ _ =>
  (θ_run Reference17Ideal.defs _ _).mono (fun r h => ⟨fun c => (h c).2, no_counter _⟩) (Reference17Ideal.Value.run m ρ)

open Reference17Ideal Reference17Ideal.Facts₀ in
theorem reference_at (x : FVec Ideal S2048x1024 .f32) (y : FVec Ideal S1024x1024 .f32) (r : Fin 2048) (l : Fin 1024) :
    (Host.dotGeneral dot_S2048x1024_S1024x1024_S2048x1024_1_0_0_1_n_n none x y (ix2 r l) : EReal)
      = ∑ k : Fin 1024, (x (ix2 r k) : EReal) * y (ix2 k l) := by
  pointwise

/-- The kernel and the reference end with the same product. -/
theorem same : algebraic_Kernel17Ideal_Reference17Ideal (hKernel17Ideal := Kernel17Ideal.Gen.facts) (hReference17Ideal := Reference17Ideal.Gen.facts) := by
  intro m g m' g' _ ha
  refine ⟨fun c => (Kernel17Ideal.Gen.dats m 0 c).arrAt 2 Kernel17Ideal.cfg0.N, Kernel17Ideal.Value.run_blocks m g, ?_⟩
  · refine (θ_run Reference17Ideal.defs _ _).mono (fun r h c => ?_) (Reference17Ideal.Value.run m' g')
    obtain ⟨h0, hrest⟩ := h c
    obtain ⟨e0, e1⟩ := ha c
    refine ⟨h0.trans ?_, hrest⟩
    refine Eq.trans ?_ Kernel17Ideal.Body.arr2.symm
    rw [e0, e1]
    funext i
    idx_vars i
    exact reference_at _ _ i0 i1

end Cert.Join17

end
-- ==== Proof.Norms.lean ====
module

public import Idealize.ShloMosaic.Lib.Pointwise

@[expose] public section

noncomputable section

namespace Cert.Norms

open Idealize.ShloMosaic

/-- The number of features and the guard under the root, as the constants the programs hold. -/
def width : EReal := Ideal.ofBits .f32 0x44800000#32
def eps : EReal := Ideal.ofBits .f32 0x358637BD#32

/-- The mean square of a row, and the factor that normalises the row. -/
def mean (x : Fin 1024 → EReal) : EReal := Ideal.div (∑ k, x k * x k) width + eps
def scl (x : Fin 1024 → EReal) : EReal := Ideal.rsqrt (mean x)

/-- What the gradient of the factor sends back to each feature. -/
def pull (d x g : Fin 1024 → EReal) : EReal :=
  Ideal.div ((∑ k, x k * (d k * g k)) * (Ideal.ofBits .f32 0xBF000000#32 * Ideal.div (scl x) (mean x))) width

/-- The gradient of a row under the normalisation. -/
def back (d x g : Fin 1024 → EReal) (l : Fin 1024) : EReal := d l * g l * scl x + x l * pull d x g + pull d x g * x l

/-- What a row adds to the gradient of the gain. -/
def gain (d x : Fin 1024 → EReal) (l : Fin 1024) : EReal := x l * scl x * d l

end Cert.Norms

end
-- ==== Proof.PostNorm.lean ====
module

public import proofs.«01_k».proof.Proof.Gen.Kernel18Ideal.Frame
public import proofs.«01_k».proof.Proof.Gen.Reference18Ideal.Run
public import proofs.«01_k».proof.Defs
public import proofs.«01_k».proof.Proof.Norms
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel18Ideal.Body

open Idealize.ShloMosaic Idealize.ShloMosaic.TcCoe Idealize.SL.Sem
open Cert.Kernel18Ideal Cert.Kernel18Ideal.Gen Cert.Norms

theorem places : ∀ t : Fin grid0.N,
    win0_0.index t = ![t.val, 0] ∧ win0_1.index t = ![t.val, 0] ∧ win0_2.index t = ![0, 0] ∧ win0_3.index t = ![t.val, 0]
      ∧ win0_4.index t = ![0, 0] := by decide +kernel

theorem pay6_at (x0 x1 : Vec Ideal S512x1024 .f32) (x2 : Vec Ideal S1x1024 .f32) (r : Fin 512) (l : Fin 1024) :
    (k0_pay6 x0 x1 x2 (ix2 r l) : EReal) = back (fun k => x0 (ix2 r k)) (fun k => x1 (ix2 r k)) (fun k => x2 (ix2 0 k)) l := by
  pointwise [k0_pay6, k0_pay4, k0_pay3, back, pull, scl, mean, width, eps]
  simp only [Fin.sum_univ_one]

theorem pay5_at (x0 x1 : Vec Ideal S512x1024 .f32) (l : Fin 1024) :
    (k0_pay5 x0 x1 (ix2 0 l) : EReal) = ∑ r : Fin 512, gain (fun k => x0 (ix2 r k)) (fun k => x1 (ix2 r k)) l := by
  pointwise [k0_pay5, k0_pay4, k0_pay3, gain, scl, mean, width, eps]

section
variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S1x1024 .f32) (harg3 : arg3.IsWhole)
  (arg4 : Memref sig .tc .vmem S512x1024 .bf16) (harg4 : arg4.IsWhole) (arg5 : Memref sig .tc .vmem S1x1024 .f32) (harg5 : arg5.IsWhole)
  (x0 x1 : Vec Ideal S512x1024 .f32) (x2 : Vec Ideal S1x1024 .f32)

theorem outA3 (hc0 : cond0_0 i) : out0_A_3 c i arg1 harg1 arg2 harg2 arg3 harg3 arg4 harg4 arg5 harg5 hc0 x0 x1 x2 = k0_pay6 x0 x1 x2 := by
  unfold out0_A_3
  rw [View.read_writes_junk_eq_canon]
  unfold kernelRun0_A
  dsimp only
  rw [View.canon_unit_zero (S := S512x1024) (by decide)]
  simp only [View.readAt_eq_ld, harg1.read_unread, harg2.read_unread, harg3.read_unread]
  repeat rw [View.ld_unit_zero (S := S512x1024) (by decide)]
  repeat rw [View.ld_unit_zero (S := S1x1024) (by decide)]

theorem outB3 (hc0 : ¬cond0_0 i) (xo4 : Vec Ideal S1x1024 .f32) :
    out0_B_3 c i arg1 harg1 arg2 harg2 arg3 harg3 arg4 harg4 arg5 harg5 hc0 x0 x1 x2 xo4 = k0_pay6 x0 x1 x2 := by
  unfold out0_B_3
  rw [View.read_writes_junk_eq_canon]
  unfold kernelRun0_B
  dsimp only
  rw [View.canon_unit_zero (S := S512x1024) (by decide)]
  simp only [View.readAt_eq_ld, harg1.read_unread, harg2.read_unread, harg3.read_unread]
  repeat rw [View.ld_unit_zero (S := S512x1024) (by decide)]
  repeat rw [View.ld_unit_zero (S := S1x1024) (by decide)]

theorem outB4 (hc0 : ¬cond0_0 i) (xo4 : Vec Ideal S1x1024 .f32) :
    out0_B_4 c i arg1 harg1 arg2 harg2 arg3 harg3 arg4 harg4 arg5 harg5 hc0 x0 x1 x2 xo4 = k0_pay2 (k0_pay5 x0 x1) xo4 := by
  unfold out0_B_4
  rw [View.read_writes_junk_eq_canon]
  unfold kernelRun0_B
  dsimp only [kernelRun0_B.sl.r]
  rw [View.canon_unit_zero (S := S1x1024) (by decide)]
  simp only [View.readAt_eq_ld, harg1.read_unread, harg2.read_unread, harg5.read_unread]
  repeat rw [View.ld_unit_zero (S := S512x1024) (by decide)]
  repeat rw [View.ld_unit_zero (S := S1x1024) (by decide)]

theorem outA4 (hc0 : cond0_0 i) : out0_A_4 c i arg1 harg1 arg2 harg2 arg3 harg3 arg4 harg4 arg5 harg5 hc0 x0 x1 x2
    = k0_pay2 (k0_pay5 x0 x1) (k0_pay1 (F := Ideal)) := by
  unfold out0_A_4
  rw [View.read_writes_junk_eq_canon]
  unfold kernelRun0_A
  dsimp only [kernelRun0_A.sl.r, kernelRun0_A.sl.v42, kernelRun0_A.sl.H4_1]
  rw [View.canon_cons_unit_zero (S := S1x1024) (by decide), View.readCov_unit_zero (S := S1x1024) _ (by decide)]
  simp only [View.readAt_eq_ld, harg1.read_unread, harg2.read_unread]
  repeat rw [View.ld_unit_zero (S := S512x1024) (by decide)]

end

variable {m : (ℓ : Loc nD τ sig) → Buf (Elt Ideal) ℓ} {c : Dev nD}

/-- The arguments at a device: the gradient, the rows that were normalised and the gain. -/
abbrev aD (m : (ℓ : Loc nD τ sig) → Buf (Elt Ideal) ℓ) (c : Dev nD) : FVec Ideal S2048x1024 .f32 := m ((c : Thread nD τ).loc main_arg0)
abbrev aX (m : (ℓ : Loc nD τ sig) → Buf (Elt Ideal) ℓ) (c : Dev nD) : FVec Ideal S2048x1024 .f32 := m ((c : Thread nD τ).loc main_arg1)
abbrev aG (m : (ℓ : Loc nD τ sig) → Buf (Elt Ideal) ℓ) (c : Dev nD) : FVec Ideal S1024 .f32 := m ((c : Thread nD τ).loc main_arg2)

/-- The gain as the call takes it. -/
def line (x : FVec Ideal S1024 .f32) : FVec Ideal S1x1024 .f32 := shapeCast S1x1024 x shapeCasts_S1024_S1x1024

theorem line_at (x : FVec Ideal S1024 .f32) (k : Fin 1024) : (line x (ix2 0 k) : EReal) = x (ix1 k) := by
  pointwise [line]

theorem d_eq : (V m c main_arg0 : FVec Ideal S2048x1024 .f32) = aD m c := by
  unfold V V0
  simp only [List.flatten_cons, List.flatten_nil, List.append_nil, List.cons_append, List.nil_append]
  after_results_simp

theorem x_eq : (V m c main_arg1 : FVec Ideal S2048x1024 .f32) = aX m c := by
  unfold V V0
  simp only [List.flatten_cons, List.flatten_nil, List.append_nil, List.cons_append, List.nil_append]
  after_results_simp

theorem g_eq : (V m c main_v0 : FVec Ideal S1x1024 .f32) = line (aG m c) := by
  unfold V V0
  simp only [List.flatten_cons, List.flatten_nil, List.append_nil, List.cons_append, List.nil_append]
  after_results_simp
  rfl

theorem four (t : Fin grid0.N) : t.val < 4 := lt_of_lt_of_eq t.isLt N_0

/-- The row that row `r` of block `n` is. -/
def spot (n : ℕ) (h : n < 4) (r : Fin 512) : Fin 2048 := ⟨512 * n + r.val, by omega⟩

theorem blk0_at (t : Fin grid0.N) (r : Fin 512) (k : Fin 1024) : (iblk m c 0 t (ix2 r k) : EReal) = aD m c (ix2 (spot t.val (four t) r) k) := by
  rw [← d_eq]
  blk_ext [iblk, places t, spot]

theorem blk1_at (t : Fin grid0.N) (r : Fin 512) (k : Fin 1024) : (iblk m c 1 t (ix2 r k) : EReal) = aX m c (ix2 (spot t.val (four t) r) k) := by
  rw [← x_eq]
  blk_ext [iblk, places t, spot]

theorem blk2_at (t : Fin grid0.N) (k : Fin 1024) : (iblk m c 2 t (ix2 0 k) : EReal) = aG m c (ix1 k) := by
  rw [← line_at (aG m c), ← g_eq]
  blk_ext [iblk, places t]

/-- A row of the gradient, of what was normalised, and the gain. -/
def rowD (m : (ℓ : Loc nD τ sig) → Buf (Elt Ideal) ℓ) (c : Dev nD) (r : Fin 2048) (k : Fin 1024) : EReal := aD m c (ix2 r k)
def rowX (m : (ℓ : Loc nD τ sig) → Buf (Elt Ideal) ℓ) (c : Dev nD) (r : Fin 2048) (k : Fin 1024) : EReal := aX m c (ix2 r k)
def rowG (m : (ℓ : Loc nD τ sig) → Buf (Elt Ideal) ℓ) (c : Dev nD) (k : Fin 1024) : EReal := aG m c (ix1 k)

theorem outs1 (t : Fin grid0.N) : (outsAt0 m c t.val t.isLt).1 = k0_pay6 (iblk m c 0 t) (iblk m c 1 t) (iblk m c 2 t) := by
  by_cases h : t.val % 4 = 0
  · rw [outsAt0_A m c t h]
    dsimp only
    rw [outA3]
  · rw [outsAt0_B m c t h]
    dsimp only
    rw [outB3]

theorem outs1_at (t : Fin grid0.N) (r : Fin 512) (l : Fin 1024) :
    ((outsAt0 m c t.val t.isLt).1 (ix2 r l) : EReal) = back (rowD m c (spot t.val (four t) r)) (rowX m c (spot t.val (four t) r)) (rowG m c) l := by
  rw [outs1]
  refine (pay6_at _ _ _ r l).trans ?_
  congr 1 <;> funext k
  · exact blk0_at t r k
  · exact blk1_at t r k
  · exact blk2_at t k

/-- What block `n` adds to the gradient of the gain. -/
def part (m : (ℓ : Loc nD τ sig) → Buf (Elt Ideal) ℓ) (c : Dev nD) (l : Fin 1024) (n : ℕ) : EReal :=
  if h : n < 4 then ∑ r : Fin 512, gain (rowD m c (spot n h r)) (rowX m c (spot n h r)) l else 0

theorem part_at (t : Fin grid0.N) (l : Fin 1024) (x0 x1 : Vec Ideal S512x1024 .f32) (h0 : x0 = iblk m c 0 t) (h1 : x1 = iblk m c 1 t) :
    (k0_pay5 x0 x1 (ix2 0 l) : EReal) = part m c l t.val := by
  subst h0 h1
  rw [pay5_at, part, dif_pos (four t)]
  refine Finset.sum_congr rfl fun r _ => ?_
  congr 1 <;> funext k
  · exact blk0_at t r k
  · exact blk1_at t r k

theorem pay2_at (v w : FVec Ideal S1x1024 .f32) (l : Fin 1024) : (k0_pay2 v w (ix2 0 l) : EReal) = w (ix2 0 l) + v (ix2 0 l) := by
  pointwise [k0_pay2]

theorem pay1_at (l : Fin 1024) : (k0_pay1 (F := Ideal) (ix2 0 l) : EReal) = 0 := by
  pointwise [k0_pay1]

/-- After point `n` the buffer holds the sum over the blocks up to the `n`-th. -/
theorem outs_at (l : Fin 1024) : ∀ (n : ℕ) (hn : n < cfg0.N),
    ((outsAt0 m c n hn).2 (ix2 0 l) : EReal) = ∑ s ∈ Finset.range (n + 1), part m c l s
  | 0, hn => by
    rw [outsAt0_A m c ⟨0, hn⟩ rfl, Finset.sum_range_one]
    dsimp only
    rw [outA4, pay2_at, pay1_at, zero_add]
    exact part_at ⟨0, hn⟩ l _ _ rfl rfl
  | n + 1, hn => by
    have h4 := four ⟨n + 1, hn⟩
    simp only at h4
    rw [outsAt0_B m c ⟨n + 1, hn⟩ (by simp only; omega), Finset.sum_range_succ, ← outs_at l n (Nat.lt_of_succ_lt hn)]
    dsimp only
    rw [outB4, pay2_at]
    exact congrArg (_ + ·) (part_at ⟨n + 1, hn⟩ l _ _ rfl rfl)

theorem sum_part (l : Fin 1024) : ∑ s ∈ Finset.range 4, part m c l s = ∑ r : Fin 2048, gain (rowD m c r) (rowX m c r) l := by
  rw [Finset.sum_range]
  rw [← Fintype.sum_equiv (finProdFinEquiv (m := 4) (n := 512)) (fun p => gain (rowD m c (spot p.1.val p.1.isLt p.2)) (rowX m c (spot p.1.val p.1.isLt p.2)) l)
    (fun r : Fin 2048 => gain (rowD m c r) (rowX m c r) l) (fun p => ?_)]
  · rw [Fintype.sum_prod_type]
    exact Finset.sum_congr rfl fun s _ => dif_pos s.isLt
  · have e : spot p.1.val p.1.isLt p.2 = finProdFinEquiv p := Fin.ext (by simp only [spot, finProdFinEquiv_apply_val]; omega)
    rw [e]

theorem arr3 : (dats m 0 c).arrAt 3 (cfgs 0).N = fun i : S2048x1024.Idx => back (rowD m c (i 0)) (rowX m c (i 0)) (rowG m c) (i 1) := by
  refine (dats m 0 c).arrAt_eq_of_covers 3 _ (by decide +kernel) fun t hf y => ?_
  blk_simp
  rw [after0_3]
  idx_vars y
  have e0 : (win0_3.blk t).view.emb (ix2 y0 y1) 0 = spot t.val (four t) y0 := by
    refine Fin.ext ?_
    blk_simp [places t, spot]
    exact congrArg (· + _) (Nat.mul_comm _ _)
  have e1 : (win0_3.blk t).view.emb (ix2 y0 y1) 1 = y1 := by
    refine Fin.ext ?_
    blk_simp [places t]
  rw [e0, e1]
  exact outs1_at t y0 y1

theorem arr4 : (dats m 0 c).arrAt 4 (cfgs 0).N = fun i : S1x1024.Idx => ∑ r : Fin 2048, gain (rowD m c r) (rowX m c r) (i 1) := by
  refine (dats m 0 c).arrAt_eq_of_covers 4 _ (by decide +kernel) fun t hf y => ?_
  have h3 : t.val = 3 := by
    have := (flush0_4 t).mp hf
    have := four t
    omega
  blk_simp
  rw [after0_4]
  idx_vars y
  have e1 : (win0_4.blk t).view.emb (ix2 y0 y1) 1 = y1 := by
    refine Fin.ext ?_
    blk_simp [places t]
  obtain rfl : y0 = 0 := Subsingleton.elim _ _
  refine (outs_at y1 _ _).trans ?_
  rw [e1, h3]
  exact sum_part y1

abbrev tailOps : List (HloOp τ sig (Elt Ideal)) := [hostOps1].flatten

theorem tail0_eq (W : Valuation τ sig (Elt Ideal)) : (StableHlo.after tailOps W (Proc.devRef .tc main_v2) : FVec Ideal S2048x1024 .f32)
    = extf (F := Ideal) .f32 (W (Proc.devRef .tc main_v1_0) : FVec Ideal S2048x1024 .bf16) bitsLt_bf16_f32 := by
  unfold tailOps
  simp only [List.flatten_cons, List.flatten_nil, List.append_nil, List.cons_append, List.nil_append]
  after_results_simp

theorem tail1_eq (W : Valuation τ sig (Elt Ideal)) : (StableHlo.after tailOps W (Proc.devRef .tc main_v3) : FVec Ideal S1024 .f32)
    = shapeCast S1024 (W (Proc.devRef .tc main_v1_1) : FVec Ideal S1x1024 .f32) shapeCasts_S1x1024_S1024 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v2 = fun i : S2048x1024.Idx => back (rowD m c (i 0)) (rowX m c (i 0)) (rowG m c) (i 1) := by
  refine (tail0_eq (after0 m c)).trans ?_
  rw [show after0 m c (Proc.devRef .tc main_v1_0) = _ from (left 3).trans arr3]
  rfl

theorem value1 : endOf m c main_v3 = fun i : S1024.Idx => ∑ r : Fin 2048, gain (rowD m c r) (rowX m c r) (i 0) := by
  refine (tail1_eq (after0 m c)).trans ?_
  rw [show after0 m c (Proc.devRef .tc main_v1_1) = _ from (left 4).trans arr4]
  funext i
  idx_vars i
  pointwise

end Cert.Kernel18Ideal.Body

namespace Cert.Join18

open Idealize.ShloMosaic Idealize.ShloMosaic.TcCoe Idealize.SL.Sem

/-- The reference runs no semaphore: every counter family over its signature is the zero one. -/
theorem no_counter (s : GSem Reference18Ideal.nD Reference18Ideal.τ Reference18Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference18Ideal (hReference18Ideal := Reference18Ideal.Gen.facts) := fun m ρ _ =>
  (θ_run Reference18Ideal.defs _ _).mono (fun r h => ⟨fun c => (h c).2.2, no_counter _⟩) (Reference18Ideal.Value.run m ρ)

/-- The kernel and the reference end with the same gradients. -/
theorem same : algebraic_Kernel18Ideal_Reference18Ideal (hKernel18Ideal := Kernel18Ideal.Gen.facts) (hReference18Ideal := Reference18Ideal.Gen.facts) := by
  intro m g m' g' _ ha
  refine ⟨fun c => Kernel18Ideal.Body.endOf m c _, fun c => Kernel18Ideal.Body.endOf m c _,
    ?_, ?_⟩
  · refine (θ_run Kernel18Ideal.defs _ _).mono (fun r h c => ?_) (θ_run_and (Kernel18Ideal.Gen.run_main m g) (Kernel18Ideal.Gen.unchanged m g))
    exact ⟨h.1.rest_eq c Kernel18Ideal.main_v2 (by decide), h.1.rest_eq c Kernel18Ideal.main_v3 (by decide), h.2 c⟩
  · refine (θ_run Reference18Ideal.defs _ _).mono (fun r h c => ?_) (Reference18Ideal.Value.run m' g')
    obtain ⟨h0, h1, hrest⟩ := h c
    obtain ⟨e0, e1, e2⟩ := ha c
    refine ⟨h0.trans ?_, h1.trans ?_, hrest⟩
    · refine Eq.trans ?_ Kernel18Ideal.Body.value0.symm
      rw [e0, e1, e2]
      funext i
      idx_vars i
      pointwise [Norms.back, Norms.pull, Kernel18Ideal.Body.rowD, Kernel18Ideal.Body.rowX, Kernel18Ideal.Body.rowG, Norms.scl, Norms.mean, Norms.width, Norms.eps]
      simp only [Fin.sum_univ_one]
    · refine Eq.trans ?_ Kernel18Ideal.Body.value1.symm
      rw [e0, e1]
      funext i
      idx_vars i
      pointwise [Norms.gain, Kernel18Ideal.Body.rowD, Kernel18Ideal.Body.rowX, Kernel18Ideal.Body.rowG, Norms.scl, Norms.mean, Norms.width, Norms.eps]
      simp only [Fin.sum_univ_one]

end Cert.Join18

end
-- ==== Proof.Scalars.lean ====
module

public import Idealize.ShloMosaic.Lib.Pointwise

@[expose] public section

noncomputable section

namespace Cert.Scalars

open Idealize.ShloMosaic

/-- The logistic function as both programs spell it. -/
def logi (x : EReal) : EReal := Ideal.div 1 (1 + Ideal.exp (-x))

theorem exp_real (r : ℝ) : Ideal.exp (r : EReal) = (Real.exp r : EReal) := rfl

theorem exp_top : Ideal.exp (⊤ : EReal) = ⊤ := rfl

theorem exp_bot : Ideal.exp (⊥ : EReal) = 0 := rfl

theorem div_real {r s : ℝ} (h : s ≠ 0) : Ideal.div (r : EReal) (s : EReal) = ((r / s : ℝ) : EReal) := by
  have hs : (s : EReal) ≠ 0 := by exact_mod_cast h
  rw [Ideal.div, if_neg hs, ← EReal.coe_inv, ← EReal.coe_mul, div_eq_mul_inv]

theorem div_top (x : EReal) : Ideal.div x ⊤ = 0 := by
  rw [Ideal.div, if_neg EReal.top_ne_zero, EReal.inv_top, mul_zero]

theorem one_div_one : Ideal.div (1 : EReal) 1 = 1 := by
  have := div_real (r := 1) (s := 1) one_ne_zero
  simpa using this

theorem logi_real (r : ℝ) : logi (r : EReal) = ((1 / (1 + Real.exp (-r)) : ℝ) : EReal) := by
  have h : (1 : ℝ) + Real.exp (-r) ≠ 0 := (add_pos one_pos (Real.exp_pos _)).ne'
  rw [logi, ← EReal.coe_neg, exp_real, ← EReal.coe_one, ← EReal.coe_add, div_real h]

theorem logi_top : logi ⊤ = 1 := by
  rw [logi, EReal.neg_top, exp_bot, add_zero, one_div_one]

theorem logi_bot : logi ⊥ = 0 := by
  rw [logi, EReal.neg_bot, exp_top, EReal.add_top_of_ne_bot (by decide), div_top]

/-- The derivative of the logistic function, spelt by its quotient and by its own value. -/
theorem logi_slope (x : EReal) :
    Ideal.div 1 ((1 + Ideal.exp (-x)) * (1 + Ideal.exp (-x))) * Ideal.exp (-x) = logi x * (1 - logi x) := by
  induction x with
  | bot =>
    rw [logi_bot, EReal.neg_bot, exp_top, EReal.add_top_of_ne_bot (by decide), EReal.top_mul_top, div_top]
    simp
  | top =>
    rw [logi_top, EReal.neg_top, exp_bot, mul_zero]
    have : (1 : EReal) - 1 = 0 := by rw [← EReal.coe_one, ← EReal.coe_sub, sub_self, EReal.coe_zero]
    rw [this, mul_zero]
  | coe r =>
    have h : (1 : ℝ) + Real.exp (-r) ≠ 0 := (add_pos one_pos (Real.exp_pos _)).ne'
    rw [logi_real, ← EReal.coe_neg, exp_real, ← EReal.coe_one, ← EReal.coe_add, ← EReal.coe_mul, div_real (mul_ne_zero h h), ← EReal.coe_mul, ← EReal.coe_sub,
      ← EReal.coe_mul]
    refine congrArg _ ?_
    field_simp
    ring

end Cert.Scalars

end
-- ==== Proof.MergeGrad.lean ====
module

public import proofs.«01_k».proof.Proof.Gen.Kernel19Ideal.Frame
public import proofs.«01_k».proof.Proof.Gen.Reference19Ideal.Run
public import proofs.«01_k».proof.Defs
public import proofs.«01_k».proof.Proof.Scalars
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel19Ideal.Body

open Idealize.ShloMosaic Idealize.ShloMosaic.TcCoe Idealize.SL.Sem
open Cert.Kernel19Ideal Cert.Kernel19Ideal.Gen Cert.Scalars

theorem places : ∀ t : Fin grid0.N,
    win0_0.index t = ![t.val, 0] ∧ win0_1.index t = ![t.val, 0] ∧ win0_2.index t = ![t.val, 0] ∧ win0_3.index t = ![t.val, 6]
      ∧ win0_4.index t = ![t.val, 7] ∧ win0_5.index t = ![t.val, 0] ∧ win0_6.index t = ![t.val, 0] ∧ win0_7.index t = ![t.val, 0]
      ∧ win0_8.index t = ![t.val, 0] := by decide +kernel

/-- A half of the merged value as the call takes it. -/
def half (x : FVec Ideal S2048x1024 .f32) : FVec Ideal S2048x1024 .bf16 := truncf .bf16 x bitsLt_bf16_f32

theorem half_at (x : FVec Ideal S2048x1024 .f32) (r : Fin 2048) (k : Fin 1024) : (half x (ix2 r k) : EReal) = x (ix2 r k) := by
  pointwise [half]

variable {m : (ℓ : Loc nD τ sig) → Buf (Elt Ideal) ℓ} {c : Dev nD}

/-- The arguments at a device: the gradient, the two halves and the projection that holds their gates. -/
abbrev aD (m : (ℓ : Loc nD τ sig) → Buf (Elt Ideal) ℓ) (c : Dev nD) : FVec Ideal S2048x1024 .f32 := m ((c : Thread nD τ).loc main_arg0)
abbrev aS (m : (ℓ : Loc nD τ sig) → Buf (Elt Ideal) ℓ) (c : Dev nD) : FVec Ideal S2048x1024 .f32 := m ((c : Thread nD τ).loc main_arg1)
abbrev aA (m : (ℓ : Loc nD τ sig) → Buf (Elt Ideal) ℓ) (c : Dev nD) : FVec Ideal S2048x1024 .f32 := m ((c : Thread nD τ).loc main_arg2)
abbrev aP (m : (ℓ : Loc nD τ sig) → Buf (Elt Ideal) ℓ) (c : Dev nD) : FVec Ideal S2048x8192 .f32 := m ((c : Thread nD τ).loc main_arg3)

theorem half0_eq : (V m c main_v0 : FVec Ideal S2048x1024 .bf16) = half (aS m c) := by
  unfold V V0
  simp only [List.flatten_cons, List.flatten_nil, List.append_nil, List.cons_append, List.nil_append]
  after_results_simp
  rfl

theorem half1_eq : (V m c main_v1 : FVec Ideal S2048x1024 .bf16) = half (aA m c) := by
  unfold V V0
  simp only [List.flatten_cons, List.flatten_nil, List.append_nil, List.cons_append, List.nil_append]
  after_results_simp
  rfl

theorem d_eq : (V m c main_arg0 : FVec Ideal S2048x1024 .f32) = aD m c := by
  unfold V V0
  simp only [List.flatten_cons, List.flatten_nil, List.append_nil, List.cons_append, List.nil_append]
  after_results_simp

theorem p_eq : (V m c main_arg3 : FVec Ideal S2048x8192 .f32) = aP m c := by
  unfold V V0
  simp only [List.flatten_cons, List.flatten_nil, List.append_nil, List.cons_append, List.nil_append]
  after_results_simp

theorem four (t : Fin grid0.N) : t.val < 4 := lt_of_lt_of_eq t.isLt N_0

/-- The row that row `r` of block `t` is. -/
def spot (t : Fin grid0.N) (r : Fin 512) : Fin 2048 := ⟨512 * t.val + r.val, by have := four t; omega⟩

/-- The column of the projection that holds a gate. -/
def gateS (k : Fin 1024) : Fin 8192 := ⟨6144 + k.val, by omega⟩
def gateA (k : Fin 1024) : Fin 8192 := ⟨7168 + k.val, by omega⟩

theorem blk0_at (t : Fin grid0.N) (r : Fin 512) (k : Fin 1024) : (iblk m c 0 t (ix2 r k) : EReal) = aD m c (ix2 (spot t r) k) := by
  rw [← d_eq]
  blk_ext [iblk, places t, spot]

theorem blk1_at (t : Fin grid0.N) (r : Fin 512) (k : Fin 1024) : (iblk m c 1 t (ix2 r k) : EReal) = aS m c (ix2 (spot t r) k) := by
  rw [← half_at (aS m c), ← half0_eq]
  blk_ext [iblk, places t, spot]

theorem blk2_at (t : Fin grid0.N) (r : Fin 512) (k : Fin 1024) : (iblk m c 2 t (ix2 r k) : EReal) = aA m c (ix2 (spot t r) k) := by
  rw [← half_at (aA m c), ← half1_eq]
  blk_ext [iblk, places t, spot]

theorem blk3_at (t : Fin grid0.N) (r : Fin 512) (k : Fin 1024) : (iblk m c 3 t (ix2 r k) : EReal) = aP m c (ix2 (spot t r) (gateS k)) := by
  rw [← p_eq]
  blk_ext [iblk, places t, spot, gateS]

theorem blk4_at (t : Fin grid0.N) (r : Fin 512) (k : Fin 1024) : (iblk m c 4 t (ix2 r k) : EReal) = aP m c (ix2 (spot t r) (gateA k)) := by
  rw [← p_eq]
  blk_ext [iblk, places t, spot, gateA]

theorem grad_gate (d s g : EReal) :
    0 - (0 - d * s * Ideal.div 1 ((1 + Ideal.exp (0 - g)) * (1 + Ideal.exp (0 - g))) * 1) * Ideal.exp (0 - g)
      = d * s * (logi g * (1 - logi g)) := by
  rw [zero_sub, zero_sub, zero_sub, mul_one, EReal.neg_mul, neg_neg, mul_assoc, logi_slope]

theorem grad_half (d g : EReal) : Ideal.div 1 (1 + Ideal.exp (0 - g)) * d = logi g * d := by
  rw [zero_sub, logi]

section Out
variable (x0 : Vec Ideal S512x1024 .f32) (x1 : Vec Ideal S512x1024 .bf16) (x2 : Vec Ideal S512x1024 .bf16)
  (x3 : Vec Ideal S512x1024 .f32) (x4 : Vec Ideal S512x1024 .f32) (r : Fin 512) (l : Fin 1024)

theorem out5_at : (out0_5 x0 x1 x2 x3 x4 (ix2 r l) : EReal) = logi (x3 (ix2 r l)) * x0 (ix2 r l) := by
  rw [← grad_half]
  unfold_out out0_5
  rw [View.canon_unit_zero (S := S512x1024) (by decide)]
  repeat rw [View.ld_unit_zero (S := S512x1024) (by decide)]
  pointwise [k0_pay1, k0_pay6, k0_pay5, k0_pay4, k0_pay11]

theorem out6_at : (out0_6 x0 x1 x2 x3 x4 (ix2 r l) : EReal) = logi (x4 (ix2 r l)) * x0 (ix2 r l) := by
  rw [← grad_half]
  unfold_out out0_6
  rw [View.canon_unit_zero (S := S512x1024) (by decide)]
  repeat rw [View.ld_unit_zero (S := S512x1024) (by decide)]
  pointwise [k0_pay13, k0_pay10, k0_pay9, k0_pay12]

theorem out7_at : (out0_7 x0 x1 x2 x3 x4 (ix2 r l) : EReal)
    = x0 (ix2 r l) * x1 (ix2 r l) * (logi (x3 (ix2 r l)) * (1 - logi (x3 (ix2 r l)))) := by
  rw [← grad_gate]
  unfold_out out0_7
  rw [View.canon_unit_zero (S := S512x1024) (by decide)]
  repeat rw [View.ld_unit_zero (S := S512x1024) (by decide)]
  pointwise [k0_pay2, k0_pay4, k0_pay7, k0_pay5, k0_pay8, k0_pay11]

theorem out8_at : (out0_8 x0 x1 x2 x3 x4 (ix2 r l) : EReal)
    = x0 (ix2 r l) * x2 (ix2 r l) * (logi (x4 (ix2 r l)) * (1 - logi (x4 (ix2 r l)))) := by
  rw [← grad_gate]
  unfold_out out0_8
  rw [View.canon_unit_zero (S := S512x1024) (by decide)]
  repeat rw [View.ld_unit_zero (S := S512x1024) (by decide)]
  pointwise [k0_pay3, k0_pay14, k0_pay9, k0_pay10, k0_pay12]

end Out

/-- The gradient of the first half. -/
def gradS (m : (ℓ : Loc nD τ sig) → Buf (Elt Ideal) ℓ) (c : Dev nD) : S2048x1024.Idx → EReal := fun i =>
  logi (aP m c (ix2 (i 0) (gateS (i 1)))) * aD m c (ix2 (i 0) (i 1))

/-- The gradient of the second half. -/
def gradA (m : (ℓ : Loc nD τ sig) → Buf (Elt Ideal) ℓ) (c : Dev nD) : S2048x1024.Idx → EReal := fun i =>
  logi (aP m c (ix2 (i 0) (gateA (i 1)))) * aD m c (ix2 (i 0) (i 1))

/-- The gradient of the first half's gate. -/
def gradGS (m : (ℓ : Loc nD τ sig) → Buf (Elt Ideal) ℓ) (c : Dev nD) : S2048x1024.Idx → EReal := fun i =>
  aD m c (ix2 (i 0) (i 1)) * aS m c (ix2 (i 0) (i 1))
    * (logi (aP m c (ix2 (i 0) (gateS (i 1)))) * (1 - logi (aP m c (ix2 (i 0) (gateS (i 1))))))

/-- The gradient of the second half's gate. -/
def gradGA (m : (ℓ : Loc nD τ sig) → Buf (Elt Ideal) ℓ) (c : Dev nD) : S2048x1024.Idx → EReal := fun i =>
  aD m c (ix2 (i 0) (i 1)) * aA m c (ix2 (i 0) (i 1))
    * (logi (aP m c (ix2 (i 0) (gateA (i 1)))) * (1 - logi (aP m c (ix2 (i 0) (gateA (i 1))))))

theorem arr5 : (dats m 0 c).arrAt 5 (cfgs 0).N = gradS m c := by
  refine (dats m 0 c).arrAt_eq_of_covers 5 _ (by decide +kernel) fun t hf y => ?_
  blk_simp
  rw [after0_5]
  idx_vars y
  have e0 : (win0_5.blk t).view.emb (ix2 y0 y1) 0 = spot t y0 := by
    refine Fin.ext ?_
    blk_simp [places t, spot]
    exact congrArg (· + _) (Nat.mul_comm _ _)
  have e1 : (win0_5.blk t).view.emb (ix2 y0 y1) 1 = y1 := by
    refine Fin.ext ?_
    blk_simp [places t]
  refine (out5_at _ _ _ _ _ y0 y1).trans ?_
  rw [gradS, e0, e1, blk0_at, blk3_at]

theorem arr6 : (dats m 0 c).arrAt 6 (cfgs 0).N = gradA m c := by
  refine (dats m 0 c).arrAt_eq_of_covers 6 _ (by decide +kernel) fun t hf y => ?_
  blk_simp
  rw [after0_6]
  idx_vars y
  have e0 : (win0_6.blk t).view.emb (ix2 y0 y1) 0 = spot t y0 := by
    refine Fin.ext ?_
    blk_simp [places t, spot]
    exact congrArg (· + _) (Nat.mul_comm _ _)
  have e1 : (win0_6.blk t).view.emb (ix2 y0 y1) 1 = y1 := by
    refine Fin.ext ?_
    blk_simp [places t]
  refine (out6_at _ _ _ _ _ y0 y1).trans ?_
  rw [gradA, e0, e1, blk0_at, blk4_at]

theorem arr7 : (dats m 0 c).arrAt 7 (cfgs 0).N = gradGS m c := by
  refine (dats m 0 c).arrAt_eq_of_covers 7 _ (by decide +kernel) fun t hf y => ?_
  blk_simp
  rw [after0_7]
  idx_vars y
  have e0 : (win0_7.blk t).view.emb (ix2 y0 y1) 0 = spot t y0 := by
    refine Fin.ext ?_
    blk_simp [places t, spot]
    exact congrArg (· + _) (Nat.mul_comm _ _)
  have e1 : (win0_7.blk t).view.emb (ix2 y0 y1) 1 = y1 := by
    refine Fin.ext ?_
    blk_simp [places t]
  refine (out7_at _ _ _ _ _ y0 y1).trans ?_
  rw [gradGS, e0, e1, blk0_at, blk1_at, blk3_at]

theorem arr8 : (dats m 0 c).arrAt 8 (cfgs 0).N = gradGA m c := by
  refine (dats m 0 c).arrAt_eq_of_covers 8 _ (by decide +kernel) fun t hf y => ?_
  blk_simp
  rw [after0_8]
  idx_vars y
  have e0 : (win0_8.blk t).view.emb (ix2 y0 y1) 0 = spot t y0 := by
    refine Fin.ext ?_
    blk_simp [places t, spot]
    exact congrArg (· + _) (Nat.mul_comm _ _)
  have e1 : (win0_8.blk t).view.emb (ix2 y0 y1) 1 = y1 := by
    refine Fin.ext ?_
    blk_simp [places t]
  refine (out8_at _ _ _ _ _ y0 y1).trans ?_
  rw [gradGA, e0, e1, blk0_at, blk2_at, blk4_at]

abbrev tailOps : List (HloOp τ sig (Elt Ideal)) := [hostOps1].flatten

theorem tail0_eq (W : Valuation τ sig (Elt Ideal)) : (StableHlo.after tailOps W (Proc.devRef .tc main_v3) : FVec Ideal S2048x1024 .f32)
    = extf (F := Ideal) .f32 (W (Proc.devRef .tc main_v2_0) : FVec Ideal S2048x1024 .bf16) bitsLt_bf16_f32 := by
  unfold tailOps
  simp only [List.flatten_cons, List.flatten_nil, List.append_nil, List.cons_append, List.nil_append]
  after_results_simp

theorem tail1_eq (W : Valuation τ sig (Elt Ideal)) : (StableHlo.after tailOps W (Proc.devRef .tc main_v4) : FVec Ideal S2048x1024 .f32)
    = extf (F := Ideal) .f32 (W (Proc.devRef .tc main_v2_1) : FVec Ideal S2048x1024 .bf16) bitsLt_bf16_f32 := by
  unfold tailOps
  simp only [List.flatten_cons, List.flatten_nil, List.append_nil, List.cons_append, List.nil_append]
  after_results_simp

theorem tail2_eq (W : Valuation τ sig (Elt Ideal)) : (StableHlo.after tailOps W (Proc.devRef .tc main_v5) : FVec Ideal S2048x1024 .f32)
    = extf (F := Ideal) .f32 (W (Proc.devRef .tc main_v2_2) : FVec Ideal S2048x1024 .bf16) bitsLt_bf16_f32 := by
  unfold tailOps
  simp only [List.flatten_cons, List.flatten_nil, List.append_nil, List.cons_append, List.nil_append]
  after_results_simp

theorem tail3_eq (W : Valuation τ sig (Elt Ideal)) : (StableHlo.after tailOps W (Proc.devRef .tc main_v6) : FVec Ideal S2048x1024 .f32)
    = extf (F := Ideal) .f32 (W (Proc.devRef .tc main_v2_3) : FVec Ideal S2048x1024 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v3 = gradS m c := by
  refine (tail0_eq (after0 m c)).trans ?_
  rw [show after0 m c (Proc.devRef .tc main_v2_0) = _ from (left 5).trans arr5]
  rfl

theorem value1 : endOf m c main_v4 = gradA m c := by
  refine (tail1_eq (after0 m c)).trans ?_
  rw [show after0 m c (Proc.devRef .tc main_v2_1) = _ from (left 6).trans arr6]
  rfl

theorem value2 : endOf m c main_v5 = gradGS m c := by
  refine (tail2_eq (after0 m c)).trans ?_
  rw [show after0 m c (Proc.devRef .tc main_v2_2) = _ from (left 7).trans arr7]
  rfl

theorem value3 : endOf m c main_v6 = gradGA m c := by
  refine (tail3_eq (after0 m c)).trans ?_
  rw [show after0 m c (Proc.devRef .tc main_v2_3) = _ from (left 8).trans arr8]
  rfl

end Cert.Kernel19Ideal.Body

namespace Cert.Join19

open Idealize.ShloMosaic Idealize.ShloMosaic.TcCoe Idealize.SL.Sem
open Cert.Scalars

/-- The reference runs no semaphore: every counter family over its signature is the zero one. -/
theorem no_counter (s : GSem Reference19Ideal.nD Reference19Ideal.τ Reference19Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference19Ideal (hReference19Ideal := Reference19Ideal.Gen.facts) := fun m ρ _ =>
  (θ_run Reference19Ideal.defs _ _).mono (fun r h => ⟨fun c => (h c).2.2.2.2, no_counter _⟩) (Reference19Ideal.Value.run m ρ)

/-- The kernel and the reference end with the same gradients. -/
theorem same : algebraic_Kernel19Ideal_Reference19Ideal (hKernel19Ideal := Kernel19Ideal.Gen.facts) (hReference19Ideal := Reference19Ideal.Gen.facts) := by
  intro m g m' g' _ ha
  refine ⟨fun c => Kernel19Ideal.Body.endOf m c _, fun c => Kernel19Ideal.Body.endOf m c _, fun c => Kernel19Ideal.Body.endOf m c _,
    fun c => Kernel19Ideal.Body.endOf m c _, ?_, ?_⟩
  · refine (θ_run Kernel19Ideal.defs _ _).mono (fun r h c => ?_) (θ_run_and (Kernel19Ideal.Gen.run_main m g) (Kernel19Ideal.Gen.unchanged m g))
    exact ⟨h.1.rest_eq c Kernel19Ideal.main_v3 (by decide), h.1.rest_eq c Kernel19Ideal.main_v4 (by decide),
      h.1.rest_eq c Kernel19Ideal.main_v5 (by decide), h.1.rest_eq c Kernel19Ideal.main_v6 (by decide), h.2 c⟩
  · refine (θ_run Reference19Ideal.defs _ _).mono (fun r h c => ?_) (Reference19Ideal.Value.run m' g')
    obtain ⟨h0, h1, h2, h3, hrest⟩ := h c
    obtain ⟨e0, e1, e2, e3⟩ := ha c
    refine ⟨h0.trans ?_, h1.trans ?_, h2.trans ?_, h3.trans ?_, hrest⟩
    · refine Eq.trans ?_ Kernel19Ideal.Body.value0.symm
      rw [e0, e3]
      funext i
      idx_vars i
      pointwise [Kernel19Ideal.Body.gradS, logi]
      rfl
    · refine Eq.trans ?_ Kernel19Ideal.Body.value1.symm
      rw [e0, e3]
      funext i
      idx_vars i
      pointwise [Kernel19Ideal.Body.gradA, logi]
      rfl
    · refine Eq.trans ?_ Kernel19Ideal.Body.value2.symm
      rw [e0, e1, e3]
      funext i
      idx_vars i
      pointwise [Kernel19Ideal.Body.gradGS, logi]
      rfl
    · refine Eq.trans ?_ Kernel19Ideal.Body.value3.symm
      rw [e0, e2, e3]
      funext i
      idx_vars i
      pointwise [Kernel19Ideal.Body.gradGA, logi]
      rfl

end Cert.Join19

end
-- ==== Proof.GateGrad.lean ====
module

public import proofs.«01_k».proof.Proof.Gen.Kernel20Ideal.Frame
public import proofs.«01_k».proof.Proof.Gen.Reference20Ideal.Run
public import proofs.«01_k».proof.Defs
public import proofs.«01_k».proof.Proof.Scalars
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel20Ideal.Body

open Idealize.ShloMosaic Idealize.ShloMosaic.TcCoe Idealize.SL.Sem
open Cert.Kernel20Ideal Cert.Kernel20Ideal.Gen Cert.Scalars Cert.Order

/-- The gradient of the gated value, of the gate's argument and of the outer gate's argument, at one entry. -/
def dValue (d t z b : EReal) : EReal := d * (z * logi z) * logi (t + b)
def dGate (d y t z b : EReal) : EReal := y * (d * (z * logi z)) * (logi (t + b) * (1 - logi (t + b)))
def dOuter (d y t z b : EReal) : EReal := y * logi (t + b) * d * logi z + z * (y * logi (t + b) * d) * (logi z * (1 - logi z))

/-- The way back through the logistic function, as the call spells it. -/
theorem back_eq (p x : EReal) : 0 - (0 - p * Ideal.div 1 ((1 + Ideal.exp (0 - x)) * (1 + Ideal.exp (0 - x)))) * Ideal.exp (0 - x)
    = p * (logi x * (1 - logi x)) := by
  simp only [zero_sub]
  rw [EReal.neg_mul, neg_neg, mul_assoc, logi_slope]

theorem gate_eq (d y t z b : EReal) :
    0 - (0 - y * (d * (z * Ideal.div 1 (1 + Ideal.exp (0 - z))))
        * Ideal.div 1 ((1 + Ideal.exp (0 - (t + b))) * (1 + Ideal.exp (0 - (t + b))))) * Ideal.exp (0 - (t + b)) = dGate d y t z b := by
  rw [back_eq]
  simp only [zero_sub]
  rfl

theorem outer_eq (d y t z b : EReal) :
    y * Ideal.div 1 (1 + Ideal.exp (0 - (t + b))) * d * Ideal.div 1 (1 + Ideal.exp (0 - z))
      + (0 - (0 - z * (y * Ideal.div 1 (1 + Ideal.exp (0 - (t + b))) * d)
        * Ideal.div 1 ((1 + Ideal.exp (0 - z)) * (1 + Ideal.exp (0 - z)))) * Ideal.exp (0 - z)) = dOuter d y t z b := by
  rw [back_eq]
  simp only [zero_sub]
  rfl

theorem places : ∀ t : Fin grid0.N,
    win0_0.index t = ![t.val, 0] ∧ win0_1.index t = ![t.val, 0] ∧ win0_2.index t = ![t.val, 0] ∧ win0_3.index t = ![t.val, 1] ∧ win0_4.index t = ![0, 0] ∧ win0_5.index t = ![t.val, 0] ∧ win0_6.index t = ![t.val, 0] ∧ win0_7.index t = ![t.val, 0] ∧ win0_8.index t = ![0, 0] := by decide +kernel

theorem pay5_at (x0 x1 x2 x3 : Vec Ideal S512x512 .f32) (x4 : Vec Ideal S1x512 .f32) (r : Fin 512) (l : Fin 512) :
    (k0_pay1 (k0_pay12 x2 x4) (k0_pay18 x0 x3) (ix2 r l) : EReal) = dValue (x0 (ix2 r l)) (x2 (ix2 r l)) (x3 (ix2 r l)) (x4 (ix2 0 l)) := by
  pointwise [k0_pay1, k0_pay7, k0_pay9, k0_pay10, k0_pay11, k0_pay12, k0_pay14, k0_pay15, k0_pay16, k0_pay18, dValue, logi]
  simp only [zero_sub]

theorem pay6_at (x0 x1 x2 x3 : Vec Ideal S512x512 .f32) (x4 : Vec Ideal S1x512 .f32) (r : Fin 512) (l : Fin 512) :
    (k0_pay3 (k0_pay8 x1) (k0_pay10 x2 x4) (k0_pay13 x2 x4) (k0_pay18 x0 x3) (ix2 r l) : EReal) = dGate (x0 (ix2 r l)) (x1 (ix2 r l)) (x2 (ix2 r l)) (x3 (ix2 r l)) (x4 (ix2 0 l)) := by
  pointwise [k0_pay3, k0_pay2, k0_pay7, k0_pay8, k0_pay9, k0_pay10, k0_pay11, k0_pay13, k0_pay14, k0_pay15, k0_pay16, k0_pay18]
  exact gate_eq _ _ _ _ _

theorem pay7_at (x0 x1 x2 x3 : Vec Ideal S512x512 .f32) (x4 : Vec Ideal S1x512 .f32) (r : Fin 512) (l : Fin 512) :
    (k0_pay4 (k0_pay14 x3) (k0_pay19 x0 x1 x2 x3 x4) (k0_pay20 x0 x1 x2 x3 x4) (k0_pay21 (F := Ideal)) (ix2 r l) : EReal) = dOuter (x0 (ix2 r l)) (x1 (ix2 r l)) (x2 (ix2 r l)) (x3 (ix2 r l)) (x4 (ix2 0 l)) := by
  pointwise [k0_pay4, k0_pay7, k0_pay8, k0_pay9, k0_pay10, k0_pay11, k0_pay12, k0_pay14, k0_pay15, k0_pay16, k0_pay17, k0_pay19, k0_pay20, k0_pay21]
  exact outer_eq _ _ _ _ _

theorem pay8_at (x0 x1 x2 x3 : Vec Ideal S512x512 .f32) (x4 : Vec Ideal S1x512 .f32) (v : FVec Ideal S1x512 .f32) (l : Fin 512) :
    (k0_pay6 (k0_pay8 x1) (k0_pay10 x2 x4) (k0_pay13 x2 x4) (k0_pay18 x0 x3) v (ix2 0 l) : EReal) = v (ix2 0 l) + ∑ r : Fin 512, dGate (x0 (ix2 r l)) (x1 (ix2 r l)) (x2 (ix2 r l)) (x3 (ix2 r l)) (x4 (ix2 0 l)) := by
  pointwise [k0_pay6, k0_pay2, k0_pay7, k0_pay8, k0_pay9, k0_pay10, k0_pay11, k0_pay13, k0_pay14, k0_pay15, k0_pay16, k0_pay18]
  exact congrArg (_ + ·) (Finset.sum_congr rfl fun r _ => gate_eq _ _ _ _ _)

theorem zero_at (l : Fin 512) : (k0_pay5 (F := Ideal) (ix2 0 l) : EReal) = 0 := by
  pointwise [k0_pay5]

section
variable (c : Dev nD) (i : grid0.Coords)
  (arg1 : Memref sig .tc .vmem S512x512 .f32) (harg1 : arg1.IsWhole)
  (arg2 : Memref sig .tc .vmem S512x512 .f32) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S1x512 .f32) (harg5 : arg5.IsWhole)
  (arg6 : Memref sig .tc .vmem S512x512 .f32) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S1x512 .f32) (harg9 : arg9.IsWhole)
  (x0 x1 x2 x3 : Vec Ideal S512x512 .f32) (x4 : Vec Ideal S1x512 .f32)

theorem outA5 (hc0 : cond0_0 i) : out0_A_5 c i arg1 harg1 arg2 harg2 arg3 harg3 arg4 harg4 arg5 harg5 arg6 harg6 arg7 harg7 arg8 harg8 arg9 harg9 hc0 x0 x1 x2 x3 x4 = k0_pay1 (k0_pay12 x2 x4) (k0_pay18 x0 x3) := by
  unfold out0_A_5
  rw [View.read_writes_junk_eq_canon]
  unfold kernelRun0_A
  dsimp only [kernelRun0_A.sl.r_2, kernelRun0_A.sl.r_5]
  rw [View.canon_unit_zero (S := S512x512) (by decide)]
  simp only [View.readAt_eq_ld, harg1.read_unread, harg3.read_unread, harg4.read_unread, harg5.read_unread]
  repeat rw [View.ld_unit_zero (S := S512x512) (by decide)]
  repeat rw [View.ld_unit_zero (S := S1x512) (by decide)]

theorem outA6 (hc0 : cond0_0 i) : out0_A_6 c i arg1 harg1 arg2 harg2 arg3 harg3 arg4 harg4 arg5 harg5 arg6 harg6 arg7 harg7 arg8 harg8 arg9 harg9 hc0 x0 x1 x2 x3 x4 = k0_pay3 (k0_pay8 x1) (k0_pay10 x2 x4) (k0_pay13 x2 x4) (k0_pay18 x0 x3) := by
  unfold out0_A_6
  rw [View.read_writes_junk_eq_canon]
  unfold kernelRun0_A
  dsimp only [kernelRun0_A.sl.r, kernelRun0_A.sl.r_1, kernelRun0_A.sl.r_3, kernelRun0_A.sl.r_5]
  rw [View.canon_unit_zero (S := S512x512) (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outA7 (hc0 : cond0_0 i) : out0_A_7 c i arg1 harg1 arg2 harg2 arg3 harg3 arg4 harg4 arg5 harg5 arg6 harg6 arg7 harg7 arg8 harg8 arg9 harg9 hc0 x0 x1 x2 x3 x4 = k0_pay4 (k0_pay14 x3) (k0_pay19 x0 x1 x2 x3 x4) (k0_pay20 x0 x1 x2 x3 x4) (k0_pay21 (F := Ideal)) := by
  unfold out0_A_7
  rw [View.read_writes_junk_eq_canon]
  unfold kernelRun0_A
  dsimp only [kernelRun0_A.sl.r_4, kernelRun0_A.sl.r_6, kernelRun0_A.sl.r_7]
  rw [View.canon_unit_zero (S := S512x512) (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outB5 (hc0 : ¬cond0_0 i) (v : Vec Ideal S1x512 .f32) : out0_B_5 c i arg1 harg1 arg2 harg2 arg3 harg3 arg4 harg4 arg5 harg5 arg6 harg6 arg7 harg7 arg8 harg8 arg9 harg9 hc0 x0 x1 x2 x3 x4 v = k0_pay1 (k0_pay12 x2 x4) (k0_pay18 x0 x3) := by
  unfold out0_B_5
  rw [View.read_writes_junk_eq_canon]
  unfold kernelRun0_B
  dsimp only [kernelRun0_B.sl.r_2, kernelRun0_B.sl.r_5]
  rw [View.canon_unit_zero (S := S512x512) (by decide)]
  simp only [View.readAt_eq_ld, harg1.read_unread, harg3.read_unread, harg4.read_unread, harg5.read_unread]
  repeat rw [View.ld_unit_zero (S := S512x512) (by decide)]
  repeat rw [View.ld_unit_zero (S := S1x512) (by decide)]

theorem outB6 (hc0 : ¬cond0_0 i) (v : Vec Ideal S1x512 .f32) : out0_B_6 c i arg1 harg1 arg2 harg2 arg3 harg3 arg4 harg4 arg5 harg5 arg6 harg6 arg7 harg7 arg8 harg8 arg9 harg9 hc0 x0 x1 x2 x3 x4 v = k0_pay3 (k0_pay8 x1) (k0_pay10 x2 x4) (k0_pay13 x2 x4) (k0_pay18 x0 x3) := by
  unfold out0_B_6
  rw [View.read_writes_junk_eq_canon]
  unfold kernelRun0_B
  dsimp only [kernelRun0_B.sl.r, kernelRun0_B.sl.r_1, kernelRun0_B.sl.r_3, kernelRun0_B.sl.r_5]
  rw [View.canon_unit_zero (S := S512x512) (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outB7 (hc0 : ¬cond0_0 i) (v : Vec Ideal S1x512 .f32) : out0_B_7 c i arg1 harg1 arg2 harg2 arg3 harg3 arg4 harg4 arg5 harg5 arg6 harg6 arg7 harg7 arg8 harg8 arg9 harg9 hc0 x0 x1 x2 x3 x4 v = k0_pay4 (k0_pay14 x3) (k0_pay19 x0 x1 x2 x3 x4) (k0_pay20 x0 x1 x2 x3 x4) (k0_pay21 (F := Ideal)) := by
  unfold out0_B_7
  rw [View.read_writes_junk_eq_canon]
  unfold kernelRun0_B
  dsimp only [kernelRun0_B.sl.r_4, kernelRun0_B.sl.r_6, kernelRun0_B.sl.r_7]
  rw [View.canon_unit_zero (S := S512x512) (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outA8 (hc0 : cond0_0 i) : out0_A_8 c i arg1 harg1 arg2 harg2 arg3 harg3 arg4 harg4 arg5 harg5 arg6 harg6 arg7 harg7 arg8 harg8 arg9 harg9 hc0 x0 x1 x2 x3 x4 = k0_pay6 (k0_pay8 x1) (k0_pay10 x2 x4) (k0_pay13 x2 x4) (k0_pay18 x0 x3) (k0_pay5 (F := Ideal)) := by
  unfold out0_A_8
  rw [View.read_writes_junk_eq_canon]
  unfold kernelRun0_A
  dsimp only [kernelRun0_A.sl.r, kernelRun0_A.sl.r_1, kernelRun0_A.sl.r_3, kernelRun0_A.sl.r_5, kernelRun0_A.sl.v67, kernelRun0_A.sl.H8_1]
  rw [View.canon_cons_unit_zero (S := S1x512) (by decide), View.readCov_unit_zero (S := S1x512) _ (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outB8 (hc0 : ¬cond0_0 i) (v : Vec Ideal S1x512 .f32) : out0_B_8 c i arg1 harg1 arg2 harg2 arg3 harg3 arg4 harg4 arg5 harg5 arg6 harg6 arg7 harg7 arg8 harg8 arg9 harg9 hc0 x0 x1 x2 x3 x4 v = k0_pay6 (k0_pay8 x1) (k0_pay10 x2 x4) (k0_pay13 x2 x4) (k0_pay18 x0 x3) v := by
  unfold out0_B_8
  rw [View.read_writes_junk_eq_canon]
  unfold kernelRun0_B
  dsimp only [kernelRun0_B.sl.r, kernelRun0_B.sl.r_1, kernelRun0_B.sl.r_3, kernelRun0_B.sl.r_5]
  rw [View.canon_unit_zero (S := S1x512) (by decide)]
  simp only [View.readAt_eq_ld, harg1.read_unread, harg2.read_unread, harg3.read_unread, harg4.read_unread, harg5.read_unread, harg9.read_unread]
  repeat rw [View.ld_unit_zero (S := S512x512) (by decide)]
  repeat rw [View.ld_unit_zero (S := S1x512) (by decide)]

end

variable {m : (ℓ : Loc nD τ sig) → Buf (Elt Ideal) ℓ} {c : Dev nD}

/-- The arguments at a device: the gradient, the value, the gate's argument, the projected rows and the bias. -/
abbrev aD (m : (ℓ : Loc nD τ sig) → Buf (Elt Ideal) ℓ) (c : Dev nD) : FVec Ideal S2048x512 .f32 := m ((c : Thread nD τ).loc main_arg0)
abbrev aY (m : (ℓ : Loc nD τ sig) → Buf (Elt Ideal) ℓ) (c : Dev nD) : FVec Ideal S2048x512 .f32 := m ((c : Thread nD τ).loc main_arg1)
abbrev aT (m : (ℓ : Loc nD τ sig) → Buf (Elt Ideal) ℓ) (c : Dev nD) : FVec Ideal S2048x512 .f32 := m ((c : Thread nD τ).loc main_arg2)
abbrev aZ (m : (ℓ : Loc nD τ sig) → Buf (Elt Ideal) ℓ) (c : Dev nD) : FVec Ideal S2048x8192 .f32 := m ((c : Thread nD τ).loc main_arg3)
abbrev aB (m : (ℓ : Loc nD τ sig) → Buf (Elt Ideal) ℓ) (c : Dev nD) : FVec Ideal S512 .f32 := m ((c : Thread nD τ).loc main_arg4)

/-- A row over the features, as the call takes it. -/
def line (x : FVec Ideal S512 .f32) : FVec Ideal S1x512 .f32 := shapeCast S1x512 x shapeCasts_S512_S1x512

theorem line_at (x : FVec Ideal S512 .f32) (k : Fin 512) : (line x (ix2 0 k) : EReal) = x (ix1 k) := by
  pointwise [line]

/-- The rows in the order of the chunks, and back. -/
def turn (x : FVec Ideal S2048x512 .f32) : FVec Ideal S2048x512 .f32 :=
  shapeCast S2048x512 (transpose S256x8x512 [1, 0, 2] (shapeCast S8x256x512 x shapeCasts_S2048x512_S8x256x512)
    transposes_S8x256x512_S256x8x512_1_0_2) shapeCasts_S256x8x512_S2048x512
def unturn (x : FVec Ideal S2048x512 .f32) : FVec Ideal S2048x512 .f32 :=
  shapeCast S2048x512 (transpose S8x256x512 [1, 0, 2] (shapeCast S256x8x512 x shapeCasts_S2048x512_S256x8x512)
    transposes_S256x8x512_S8x256x512_1_0_2) shapeCasts_S8x256x512_S2048x512

theorem turn_at (x : FVec Ideal S2048x512 .f32) (r : Fin 2048) (k : Fin 512) : (turn x (ix2 r k) : EReal) = x (ix2 (time r) k) := by
  pointwise [turn]
  simp only [time, Nat.mul_comm]

theorem unturn_at (f : Fin 2048 → Fin 512 → EReal) (t : Fin 2048) (k : Fin 512) :
    (unturn (fun i : S2048x512.Idx => f (time (i 0)) (i 1)) (ix2 t k) : EReal) = f t k := by
  pointwise [unturn]
  rw [time_mk]

/-- The array with the rows of its first 1024 columns in the order of the chunks. -/
def step (x : FVec Ideal S2048x8192 .f32) : FVec Ideal S2048x8192 .f32 :=
  concatenate S2048x8192 1
    [⟨S2048x1024, shapeCast S2048x1024 (transpose S256x8x1024 [1, 0, 2] (shapeCast S8x256x1024
        (extractStridedSlice S2048x1024 ![0, 0] x slices_S2048x8192_S2048x1024_0_0)
        shapeCasts_S2048x1024_S8x256x1024) transposes_S8x256x1024_S256x8x1024_1_0_2) shapeCasts_S256x8x1024_S2048x1024⟩,
      ⟨S2048x7168, extractStridedSlice S2048x7168 ![0, 1024] x slices_S2048x8192_S2048x7168_0_1024⟩]
    concatenates_S2048x1024_S2048x7168_S2048x8192_d1

theorem step_at (x : FVec Ideal S2048x8192 .f32) (r : Fin 2048) (q : Fin 8192) :
    (step x (ix2 r q) : EReal) = x (ix2 (row q r) q) := by
  pointwise [step]
  split
  · rename_i h
    simp [row, h, time, Nat.mul_comm]
  · rename_i h
    have e : 1024 + (q.val - 1024) = q.val := by omega
    simp only [row, h, e, if_false]

theorem arg0_eq : (V m c main_v2 : FVec Ideal S2048x512 .f32) = turn (aD m c) := by
  unfold V V0
  simp only [List.flatten_cons, List.flatten_nil, List.append_nil, List.cons_append, List.nil_append]
  after_results_simp
  rfl

theorem arg1_eq : (V m c main_v5 : FVec Ideal S2048x512 .f32) = turn (aY m c) := by
  unfold V V0
  simp only [List.flatten_cons, List.flatten_nil, List.append_nil, List.cons_append, List.nil_append]
  after_results_simp
  rfl

theorem arg2_eq : (V m c main_v8 : FVec Ideal S2048x512 .f32) = turn (aT m c) := by
  unfold V V0
  simp only [List.flatten_cons, List.flatten_nil, List.append_nil, List.cons_append, List.nil_append]
  after_results_simp
  rfl

theorem arg3_eq : (V m c main_v14 : FVec Ideal S2048x8192 .f32) = step (aZ m c) := by
  unfold V V0
  simp only [List.flatten_cons, List.flatten_nil, List.append_nil, List.cons_append, List.nil_append]
  after_results_simp
  rfl

theorem arg4_eq : (V m c main_v15 : FVec Ideal S1x512 .f32) = line (aB m c) := by
  unfold V V0
  simp only [List.flatten_cons, List.flatten_nil, List.append_nil, List.cons_append, List.nil_append]
  after_results_simp
  rfl

theorem four (t : Fin grid0.N) : t.val < 4 := lt_of_lt_of_eq t.isLt N_0

/-- The row that row `r` of block `n` is. -/
def spot (n : ℕ) (h : n < 4) (r : Fin 512) : Fin 2048 := ⟨512 * n + r.val, by omega⟩

/-- The rows that the call reads, and the features. -/
def rowD (m : (ℓ : Loc nD τ sig) → Buf (Elt Ideal) ℓ) (c : Dev nD) (r : Fin 2048) (k : Fin 512) : EReal := aD m c (ix2 r k)
def rowY (m : (ℓ : Loc nD τ sig) → Buf (Elt Ideal) ℓ) (c : Dev nD) (r : Fin 2048) (k : Fin 512) : EReal := aY m c (ix2 r k)
def rowT (m : (ℓ : Loc nD τ sig) → Buf (Elt Ideal) ℓ) (c : Dev nD) (r : Fin 2048) (k : Fin 512) : EReal := aT m c (ix2 r k)
def rowZ (m : (ℓ : Loc nD τ sig) → Buf (Elt Ideal) ℓ) (c : Dev nD) (r : Fin 2048) (k : Fin 512) : EReal := aZ m c (ix2 r ⟨512 + k.val, by omega⟩)
def rowB (m : (ℓ : Loc nD τ sig) → Buf (Elt Ideal) ℓ) (c : Dev nD) (k : Fin 512) : EReal := aB m c (ix1 k)

theorem blk0_at (t : Fin grid0.N) (r : Fin 512) (k : Fin 512) : (iblk m c 0 t (ix2 r k) : EReal) = rowD m c (time (spot t.val (four t) r)) k := by
  unfold rowD
  rw [← turn_at (aD m c), ← arg0_eq]
  blk_ext [iblk, places t, spot]

theorem blk1_at (t : Fin grid0.N) (r : Fin 512) (k : Fin 512) : (iblk m c 1 t (ix2 r k) : EReal) = rowY m c (time (spot t.val (four t) r)) k := by
  unfold rowY
  rw [← turn_at (aY m c), ← arg1_eq]
  blk_ext [iblk, places t, spot]

theorem blk2_at (t : Fin grid0.N) (r : Fin 512) (k : Fin 512) : (iblk m c 2 t (ix2 r k) : EReal) = rowT m c (time (spot t.val (four t) r)) k := by
  unfold rowT
  rw [← turn_at (aT m c), ← arg2_eq]
  blk_ext [iblk, places t, spot]

theorem blk3_at (t : Fin grid0.N) (r : Fin 512) (k : Fin 512) : (iblk m c 3 t (ix2 r k) : EReal) = rowZ m c (time (spot t.val (four t) r)) k := by
  have e := step_at (aZ m c) (spot t.val (four t) r) ⟨512 + k.val, by omega⟩
  rw [row, if_pos (by simp only; omega)] at e
  refine Eq.trans ?_ e
  rw [← arg3_eq]
  blk_ext [iblk, places t, spot]

theorem blk4_at (t : Fin grid0.N) (k : Fin 512) : (iblk m c 4 t (ix2 0 k) : EReal) = rowB m c k := by
  unfold rowB
  rw [← line_at (aB m c), ← arg4_eq]
  blk_ext [iblk, places t]

theorem left5_at (t : Fin grid0.N) (r : Fin 512) (l : Fin 512) :
    ((outsAt0 m c t.val t.isLt).1 (ix2 r l) : EReal) = dValue (rowD m c (time (spot t.val (four t) r)) l) (rowT m c (time (spot t.val (four t) r)) l) (rowZ m c (time (spot t.val (four t) r)) l) (rowB m c l) := by
  have e : (outsAt0 m c t.val t.isLt).1 = (fun x0 x1 x2 x3 x4 => k0_pay1 (k0_pay12 x2 x4) (k0_pay18 x0 x3)) (iblk m c 0 t) (iblk m c 1 t) (iblk m c 2 t) (iblk m c 3 t) (iblk m c 4 t) := by
    by_cases h : t.val % 4 = 0
    · rw [outsAt0_A m c t h]
      dsimp only
      rw [outA5]
    · rw [outsAt0_B m c t h]
      dsimp only
      rw [outB5]
  rw [e]
  refine (pay5_at (iblk m c 0 t) (iblk m c 1 t) (iblk m c 2 t) (iblk m c 3 t) (iblk m c 4 t) r l).trans ?_
  simp only [blk0_at, blk2_at, blk3_at, blk4_at]

theorem left6_at (t : Fin grid0.N) (r : Fin 512) (l : Fin 512) :
    ((outsAt0 m c t.val t.isLt).2.1 (ix2 r l) : EReal) = dGate (rowD m c (time (spot t.val (four t) r)) l) (rowY m c (time (spot t.val (four t) r)) l) (rowT m c (time (spot t.val (four t) r)) l) (rowZ m c (time (spot t.val (four t) r)) l) (rowB m c l) := by
  have e : (outsAt0 m c t.val t.isLt).2.1 = (fun x0 x1 x2 x3 x4 => k0_pay3 (k0_pay8 x1) (k0_pay10 x2 x4) (k0_pay13 x2 x4) (k0_pay18 x0 x3)) (iblk m c 0 t) (iblk m c 1 t) (iblk m c 2 t) (iblk m c 3 t) (iblk m c 4 t) := by
    by_cases h : t.val % 4 = 0
    · rw [outsAt0_A m c t h]
      dsimp only
      rw [outA6]
    · rw [outsAt0_B m c t h]
      dsimp only
      rw [outB6]
  rw [e]
  refine (pay6_at (iblk m c 0 t) (iblk m c 1 t) (iblk m c 2 t) (iblk m c 3 t) (iblk m c 4 t) r l).trans ?_
  simp only [blk0_at, blk1_at, blk2_at, blk3_at, blk4_at]

theorem left7_at (t : Fin grid0.N) (r : Fin 512) (l : Fin 512) :
    ((outsAt0 m c t.val t.isLt).2.2.1 (ix2 r l) : EReal) = dOuter (rowD m c (time (spot t.val (four t) r)) l) (rowY m c (time (spot t.val (four t) r)) l) (rowT m c (time (spot t.val (four t) r)) l) (rowZ m c (time (spot t.val (four t) r)) l) (rowB m c l) := by
  have e : (outsAt0 m c t.val t.isLt).2.2.1 = (fun x0 x1 x2 x3 x4 => k0_pay4 (k0_pay14 x3) (k0_pay19 x0 x1 x2 x3 x4) (k0_pay20 x0 x1 x2 x3 x4) (k0_pay21 (F := Ideal))) (iblk m c 0 t) (iblk m c 1 t) (iblk m c 2 t) (iblk m c 3 t) (iblk m c 4 t) := by
    by_cases h : t.val % 4 = 0
    · rw [outsAt0_A m c t h]
      dsimp only
      rw [outA7]
    · rw [outsAt0_B m c t h]
      dsimp only
      rw [outB7]
  rw [e]
  refine (pay7_at (iblk m c 0 t) (iblk m c 1 t) (iblk m c 2 t) (iblk m c 3 t) (iblk m c 4 t) r l).trans ?_
  simp only [blk0_at, blk1_at, blk2_at, blk3_at, blk4_at]

/-- What block `n` adds to the sum over the rows. -/
def part (m : (ℓ : Loc nD τ sig) → Buf (Elt Ideal) ℓ) (c : Dev nD) (l : Fin 512) (n : ℕ) : EReal :=
  if h : n < 4 then ∑ r : Fin 512, dGate (rowD m c (time (spot n h r)) l) (rowY m c (time (spot n h r)) l) (rowT m c (time (spot n h r)) l) (rowZ m c (time (spot n h r)) l) (rowB m c l) else 0

theorem part_at (t : Fin grid0.N) (v : FVec Ideal S1x512 .f32) (l : Fin 512) :
    ((fun x0 x1 x2 x3 x4 => k0_pay6 (k0_pay8 x1) (k0_pay10 x2 x4) (k0_pay13 x2 x4) (k0_pay18 x0 x3) v) (iblk m c 0 t) (iblk m c 1 t) (iblk m c 2 t) (iblk m c 3 t) (iblk m c 4 t) (ix2 0 l) : EReal) = v (ix2 0 l) + part m c l t.val := by
  refine (pay8_at (iblk m c 0 t) (iblk m c 1 t) (iblk m c 2 t) (iblk m c 3 t) (iblk m c 4 t) v l).trans ?_
  rw [part, dif_pos (four t)]
  simp only [blk0_at, blk1_at, blk2_at, blk3_at, blk4_at]

/-- After point `n` the buffer holds the sum over the blocks up to the `n`-th. -/
theorem outs_at (l : Fin 512) : ∀ (n : ℕ) (hn : n < cfg0.N),
    ((outsAt0 m c n hn).2.2.2 (ix2 0 l) : EReal) = ∑ s ∈ Finset.range (n + 1), part m c l s
  | 0, hn => by
    rw [outsAt0_A m c ⟨0, hn⟩ rfl, Finset.sum_range_one]
    dsimp only
    rw [outA8]
    refine (part_at ⟨0, hn⟩ _ l).trans ?_
    rw [zero_at, zero_add]
  | n + 1, hn => by
    have h4 := four ⟨n + 1, hn⟩
    simp only at h4
    rw [outsAt0_B m c ⟨n + 1, hn⟩ (by simp only; omega), Finset.sum_range_succ, ← outs_at l n (Nat.lt_of_succ_lt hn)]
    dsimp only
    rw [outB8]
    exact part_at ⟨n + 1, hn⟩ _ l

theorem sum_part (l : Fin 512) : ∑ s ∈ Finset.range 4, part m c l s = ∑ r : Fin 2048, dGate (rowD m c r l) (rowY m c r l) (rowT m c r l) (rowZ m c r l) (rowB m c l) := by
  rw [← sum_time fun r => dGate (rowD m c r l) (rowY m c r l) (rowT m c r l) (rowZ m c r l) (rowB m c l)]
  rw [Finset.sum_range]
  rw [← Fintype.sum_equiv (finProdFinEquiv (m := 4) (n := 512)) (fun p => dGate (rowD m c (time (spot p.1.val p.1.isLt p.2)) l) (rowY m c (time (spot p.1.val p.1.isLt p.2)) l) (rowT m c (time (spot p.1.val p.1.isLt p.2)) l) (rowZ m c (time (spot p.1.val p.1.isLt p.2)) l) (rowB m c l))
    (fun r : Fin 2048 => dGate (rowD m c (time r) l) (rowY m c (time r) l) (rowT m c (time r) l) (rowZ m c (time r) l) (rowB m c l)) (fun p => ?_)]
  · rw [Fintype.sum_prod_type]
    exact Finset.sum_congr rfl fun s _ => dif_pos s.isLt
  · have e : spot p.1.val p.1.isLt p.2 = finProdFinEquiv p := Fin.ext (by simp only [spot, finProdFinEquiv_apply_val]; omega)
    rw [e]

theorem arr5 : (dats m 0 c).arrAt 5 (cfgs 0).N = fun i : S2048x512.Idx => dValue (rowD m c (time (i 0)) (i 1)) (rowT m c (time (i 0)) (i 1)) (rowZ m c (time (i 0)) (i 1)) (rowB m c (i 1)) := by
  refine (dats m 0 c).arrAt_eq_of_covers 5 _ (by decide +kernel) fun t hf y => ?_
  blk_simp
  rw [after0_5]
  idx_vars y
  have e0 : (win0_5.blk t).view.emb (ix2 y0 y1) 0 = spot t.val (four t) y0 := by
    refine Fin.ext ?_
    blk_simp [places t, spot]
    exact congrArg (· + _) (Nat.mul_comm _ _)
  have e1 : (win0_5.blk t).view.emb (ix2 y0 y1) 1 = y1 := by
    refine Fin.ext ?_
    blk_simp [places t]
  rw [e0, e1]
  exact left5_at t y0 y1

theorem arr6 : (dats m 0 c).arrAt 6 (cfgs 0).N = fun i : S2048x512.Idx => dGate (rowD m c (time (i 0)) (i 1)) (rowY m c (time (i 0)) (i 1)) (rowT m c (time (i 0)) (i 1)) (rowZ m c (time (i 0)) (i 1)) (rowB m c (i 1)) := by
  refine (dats m 0 c).arrAt_eq_of_covers 6 _ (by decide +kernel) fun t hf y => ?_
  blk_simp
  rw [after0_6]
  idx_vars y
  have e0 : (win0_6.blk t).view.emb (ix2 y0 y1) 0 = spot t.val (four t) y0 := by
    refine Fin.ext ?_
    blk_simp [places t, spot]
    exact congrArg (· + _) (Nat.mul_comm _ _)
  have e1 : (win0_6.blk t).view.emb (ix2 y0 y1) 1 = y1 := by
    refine Fin.ext ?_
    blk_simp [places t]
  rw [e0, e1]
  exact left6_at t y0 y1

theorem arr7 : (dats m 0 c).arrAt 7 (cfgs 0).N = fun i : S2048x512.Idx => dOuter (rowD m c (time (i 0)) (i 1)) (rowY m c (time (i 0)) (i 1)) (rowT m c (time (i 0)) (i 1)) (rowZ m c (time (i 0)) (i 1)) (rowB m c (i 1)) := by
  refine (dats m 0 c).arrAt_eq_of_covers 7 _ (by decide +kernel) fun t hf y => ?_
  blk_simp
  rw [after0_7]
  idx_vars y
  have e0 : (win0_7.blk t).view.emb (ix2 y0 y1) 0 = spot t.val (four t) y0 := by
    refine Fin.ext ?_
    blk_simp [places t, spot]
    exact congrArg (· + _) (Nat.mul_comm _ _)
  have e1 : (win0_7.blk t).view.emb (ix2 y0 y1) 1 = y1 := by
    refine Fin.ext ?_
    blk_simp [places t]
  rw [e0, e1]
  exact left7_at t y0 y1

theorem arr8 : (dats m 0 c).arrAt 8 (cfgs 0).N = fun i : S1x512.Idx => ∑ r : Fin 2048, dGate (rowD m c r (i 1)) (rowY m c r (i 1)) (rowT m c r (i 1)) (rowZ m c r (i 1)) (rowB m c (i 1)) := by
  refine (dats m 0 c).arrAt_eq_of_covers 8 _ (by decide +kernel) fun t hf y => ?_
  have h3 : t.val = 3 := by
    have := (flush0_8 t).mp hf
    have := four t
    omega
  blk_simp
  rw [after0_8]
  idx_vars y
  have e1 : (win0_8.blk t).view.emb (ix2 y0 y1) 1 = y1 := by
    refine Fin.ext ?_
    blk_simp [places t]
  obtain rfl : y0 = 0 := Subsingleton.elim _ _
  refine (outs_at y1 _ _).trans ?_
  rw [e1, h3]
  exact sum_part y1

abbrev tailOps : List (HloOp τ sig (Elt Ideal)) := [hostOps1].flatten

theorem tail0_eq (W : Valuation τ sig (Elt Ideal)) : (StableHlo.after tailOps W (Proc.devRef .tc main_v19) : FVec Ideal S2048x512 .f32)
    = unturn (W (Proc.devRef .tc main_v16_0) : FVec Ideal S2048x512 .f32) := by
  unfold tailOps
  simp only [List.flatten_cons, List.flatten_nil, List.append_nil, List.cons_append, List.nil_append]
  after_results_simp
  rfl

theorem tail1_eq (W : Valuation τ sig (Elt Ideal)) : (StableHlo.after tailOps W (Proc.devRef .tc main_v23) : FVec Ideal S2048x512 .f32)
    = unturn (extf (F := Ideal) .f32 (W (Proc.devRef .tc main_v16_1) : FVec Ideal S2048x512 .bf16) bitsLt_bf16_f32) := by
  unfold tailOps
  simp only [List.flatten_cons, List.flatten_nil, List.append_nil, List.cons_append, List.nil_append]
  after_results_simp
  rfl

theorem tail2_eq (W : Valuation τ sig (Elt Ideal)) : (StableHlo.after tailOps W (Proc.devRef .tc main_v27) : FVec Ideal S2048x512 .f32)
    = unturn (extf (F := Ideal) .f32 (W (Proc.devRef .tc main_v16_2) : FVec Ideal S2048x512 .bf16) bitsLt_bf16_f32) := by
  unfold tailOps
  simp only [List.flatten_cons, List.flatten_nil, List.append_nil, List.cons_append, List.nil_append]
  after_results_simp
  rfl

theorem tail3_eq (W : Valuation τ sig (Elt Ideal)) : (StableHlo.after tailOps W (Proc.devRef .tc main_v28) : FVec Ideal S512 .f32)
    = shapeCast S512 (W (Proc.devRef .tc main_v16_3) : FVec Ideal S1x512 .f32) shapeCasts_S1x512_S512 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v19 = fun i : S2048x512.Idx => dValue (rowD m c (i 0) (i 1)) (rowT m c (i 0) (i 1)) (rowZ m c (i 0) (i 1)) (rowB m c (i 1)) := by
  refine (tail0_eq (after0 m c)).trans ?_
  rw [show after0 m c (Proc.devRef .tc main_v16_0) = _ from (left 5).trans arr5]
  funext i
  idx_vars i
  exact unturn_at (fun r l => dValue (rowD m c r l) (rowT m c r l) (rowZ m c r l) (rowB m c l)) i0 i1

theorem value1 : endOf m c main_v23 = fun i : S2048x512.Idx => dGate (rowD m c (i 0) (i 1)) (rowY m c (i 0) (i 1)) (rowT m c (i 0) (i 1)) (rowZ m c (i 0) (i 1)) (rowB m c (i 1)) := by
  refine (tail1_eq (after0 m c)).trans ?_
  rw [show after0 m c (Proc.devRef .tc main_v16_1) = _ from (left 6).trans arr6]
  funext i
  idx_vars i
  exact unturn_at (fun r l => dGate (rowD m c r l) (rowY m c r l) (rowT m c r l) (rowZ m c r l) (rowB m c l)) i0 i1

theorem value2 : endOf m c main_v27 = fun i : S2048x512.Idx => dOuter (rowD m c (i 0) (i 1)) (rowY m c (i 0) (i 1)) (rowT m c (i 0) (i 1)) (rowZ m c (i 0) (i 1)) (rowB m c (i 1)) := by
  refine (tail2_eq (after0 m c)).trans ?_
  rw [show after0 m c (Proc.devRef .tc main_v16_2) = _ from (left 7).trans arr7]
  funext i
  idx_vars i
  exact unturn_at (fun r l => dOuter (rowD m c r l) (rowY m c r l) (rowT m c r l) (rowZ m c r l) (rowB m c l)) i0 i1

theorem value3 : endOf m c main_v28 = fun i : S512.Idx => ∑ r : Fin 2048, dGate (rowD m c r (i 0)) (rowY m c r (i 0)) (rowT m c r (i 0)) (rowZ m c r (i 0)) (rowB m c (i 0)) := by
  refine (tail3_eq (after0 m c)).trans ?_
  rw [show after0 m c (Proc.devRef .tc main_v16_3) = _ from (left 8).trans arr8]
  funext i
  idx_vars i
  pointwise

end Cert.Kernel20Ideal.Body

namespace Cert.Join20

open Idealize.ShloMosaic Idealize.ShloMosaic.TcCoe Idealize.SL.Sem

/-- The reference runs no semaphore: every counter family over its signature is the zero one. -/
theorem no_counter (s : GSem Reference20Ideal.nD Reference20Ideal.τ Reference20Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference20Ideal (hReference20Ideal := Reference20Ideal.Gen.facts) := fun m ρ _ =>
  (θ_run Reference20Ideal.defs _ _).mono (fun r h => ⟨fun c => (h c).2.2.2.2, no_counter _⟩) (Reference20Ideal.Value.run m ρ)

/-- The kernel and the reference end with the same gradients. -/
theorem same : algebraic_Kernel20Ideal_Reference20Ideal (hKernel20Ideal := Kernel20Ideal.Gen.facts) (hReference20Ideal := Reference20Ideal.Gen.facts) := by
  intro m g m' g' _ ha
  refine ⟨fun c => Kernel20Ideal.Body.endOf m c _, fun c => Kernel20Ideal.Body.endOf m c _, fun c => Kernel20Ideal.Body.endOf m c _, fun c => Kernel20Ideal.Body.endOf m c _,
    ?_, ?_⟩
  · refine (θ_run Kernel20Ideal.defs _ _).mono (fun r h c => ?_) (θ_run_and (Kernel20Ideal.Gen.run_main m g) (Kernel20Ideal.Gen.unchanged m g))
    exact ⟨h.1.rest_eq c Kernel20Ideal.main_v19 (by decide), h.1.rest_eq c Kernel20Ideal.main_v23 (by decide), h.1.rest_eq c Kernel20Ideal.main_v27 (by decide), h.1.rest_eq c Kernel20Ideal.main_v28 (by decide), h.2 c⟩
  · refine (θ_run Reference20Ideal.defs _ _).mono (fun r h c => ?_) (Reference20Ideal.Value.run m' g')
    obtain ⟨h0, h1, h2, h3, hrest⟩ := h c
    obtain ⟨e0, e1, e2, e3, e4⟩ := ha c
    refine ⟨h0.trans ?_, h1.trans ?_, h2.trans ?_, h3.trans ?_, hrest⟩
    · refine Eq.trans ?_ Kernel20Ideal.Body.value0.symm
      rw [e0, e2, e3, e4]
      funext i
      idx_vars i
      pointwise [Kernel20Ideal.Body.dValue, Kernel20Ideal.Body.rowD, Kernel20Ideal.Body.rowY, Kernel20Ideal.Body.rowT, Kernel20Ideal.Body.rowZ, Kernel20Ideal.Body.rowB, Scalars.logi]
    · refine Eq.trans ?_ Kernel20Ideal.Body.value1.symm
      rw [e0, e1, e2, e3, e4]
      funext i
      idx_vars i
      pointwise [Kernel20Ideal.Body.dGate, Kernel20Ideal.Body.rowD, Kernel20Ideal.Body.rowY, Kernel20Ideal.Body.rowT, Kernel20Ideal.Body.rowZ, Kernel20Ideal.Body.rowB, Scalars.logi]
    · refine Eq.trans ?_ Kernel20Ideal.Body.value2.symm
      rw [e0, e1, e2, e3, e4]
      funext i
      idx_vars i
      pointwise [Kernel20Ideal.Body.dOuter, Kernel20Ideal.Body.rowD, Kernel20Ideal.Body.rowY, Kernel20Ideal.Body.rowT, Kernel20Ideal.Body.rowZ, Kernel20Ideal.Body.rowB, Scalars.logi]
    · refine Eq.trans ?_ Kernel20Ideal.Body.value3.symm
      rw [e0, e1, e2, e3, e4]
      funext i
      idx_vars i
      pointwise [Kernel20Ideal.Body.dGate, Kernel20Ideal.Body.rowD, Kernel20Ideal.Body.rowY, Kernel20Ideal.Body.rowT, Kernel20Ideal.Body.rowZ, Kernel20Ideal.Body.rowB, Scalars.logi]
      simp only [Fin.sum_univ_one]

end Cert.Join20

end
-- ==== Proof.ActGrad.lean ====
module

public import proofs.«01_k».proof.Proof.Gen.Kernel21Ideal.Frame
public import proofs.«01_k».proof.Proof.Gen.Reference21Ideal.Run
public import proofs.«01_k».proof.Defs
public import proofs.«01_k».proof.Proof.Scalars
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel21Ideal.Body

open Idealize.ShloMosaic Idealize.ShloMosaic.TcCoe Idealize.SL.Sem
open Cert.Kernel21Ideal Cert.Kernel21Ideal.Gen Cert.Order

/-- The constants of the activation, as the programs hold them. -/
def half : EReal := Ideal.ofBits .f32 0x3F000000#32
def root : EReal := Ideal.ofBits .f32 0x3F4C422A#32
def cub : EReal := Ideal.ofBits .f32 0x3D372713#32
def three : EReal := Ideal.ofBits .f32 0x40400000#32

/-- The hyperbolic tangent inside the activation, and the gradient that goes through it. -/
def bend (x : EReal) : EReal := Ideal.tanh (root * (x + cub * (x * x * x)))
def bent (d x : EReal) : EReal := root * (half * (x * d) * ((1 + bend x) * (1 - bend x)))

/-- The gradient under the activation at `x`. -/
def dAct (d x : EReal) : EReal := d * (half * (1 + bend x)) + bent d x + cub * bent d x * (three * (x * x))

theorem three_times (w : EReal) : three * w = w + w + w := by
  have h : three = 1 + 1 + 1 := by
    have e : three = ((3 : ℝ) : EReal) := by
      unfold three
      simp [Ideal.ofBits, Ideal.ieee, -EReal.coe_mul]; norm_num
    rw [e, ← EReal.coe_one, ← EReal.coe_add, ← EReal.coe_add]
    norm_num
  rw [h, EReal.right_distrib_of_nonneg (by norm_num) (by norm_num), EReal.right_distrib_of_nonneg (by norm_num) (by norm_num), one_mul]

/-- The same gradient as the call spells it: the cube is a product of three factors, and each of them sends a summand back. -/
theorem act_eq (d x : EReal) :
    root * (half * x * d * ((1 + bend x) * (1 - bend x)))
      + x * x * (cub * (root * (half * x * d * ((1 + bend x) * (1 - bend x)))))
      + x * (cub * (root * (half * x * d * ((1 + bend x) * (1 - bend x)))) * x)
      + cub * (root * (half * x * d * ((1 + bend x) * (1 - bend x)))) * x * x
      + half * (d * (1 + bend x)) = dAct d x := by
  unfold dAct bent
  rw [← mul_assoc half x d]
  generalize root * (half * x * d * ((1 + bend x) * (1 - bend x))) = p
  have e : cub * p * (three * (x * x)) = cub * p * (x * x) + cub * p * (x * x) + cub * p * (x * x) := by
    rw [← three_times]
    ac_rfl
  have e1 : x * x * (cub * p) = cub * p * (x * x) := mul_comm _ _
  have e2 : x * (cub * p * x) = cub * p * (x * x) := by ac_rfl
  have e3 : cub * p * x * x = cub * p * (x * x) := mul_assoc _ _ _
  have e4 : half * (d * (1 + bend x)) = d * (half * (1 + bend x)) := by ac_rfl
  rw [e, e1, e2, e3, e4]
  ac_rfl

/-- The gradients of the summand, of the skipped input and of its factor, at one entry. -/
def dSum (a b y u s : EReal) : EReal := dAct (a + b) (y + s * u)
def dSkip (a b y u s : EReal) : EReal := s * dAct (a + b) (y + s * u)
def dFactor (a b y u s : EReal) : EReal := dAct (a + b) (y + s * u) * u

theorem places : ∀ t : Fin grid0.N,
    win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] := by decide +kernel

theorem pay5_at (x0 x1 x2 x3 : Vec Ideal S512x512 .f32) (x4 : Vec Ideal S1x512 .f32) (r : Fin 512) (l : Fin 512) :
    (k0_pay3 (k0_pay8 x2 x3 x4) (k0_pay12 x0 x1 x2 x3 x4) (k0_pay15 x0 x1 x2 x3 x4) (k0_pay16 x0 x1 x2 x3 x4) (ix2 r l) : EReal) = dSum (x0 (ix2 r l)) (x1 (ix2 r l)) (x2 (ix2 r l)) (x3 (ix2 r l)) (x4 (ix2 0 l)) := by
  pointwise [k0_pay3, k0_pay1, k0_pay6, k0_pay7, k0_pay8, k0_pay9, k0_pay10, k0_pay11, k0_pay12, k0_pay13, k0_pay14, k0_pay15, k0_pay16]
  exact act_eq _ _

theorem pay6_at (x0 x1 x2 x3 : Vec Ideal S512x512 .f32) (x4 : Vec Ideal S1x512 .f32) (r : Fin 512) (l : Fin 512) :
    (k0_pay2 (k0_pay7 x4) (k0_pay8 x2 x3 x4) (k0_pay12 x0 x1 x2 x3 x4) (k0_pay15 x0 x1 x2 x3 x4) (k0_pay16 x0 x1 x2 x3 x4) (ix2 r l) : EReal) = dSkip (x0 (ix2 r l)) (x1 (ix2 r l)) (x2 (ix2 r l)) (x3 (ix2 r l)) (x4 (ix2 0 l)) := by
  pointwise [k0_pay2, k0_pay1, k0_pay6, k0_pay7, k0_pay8, k0_pay9, k0_pay10, k0_pay11, k0_pay12, k0_pay13, k0_pay14, k0_pay15, k0_pay16]
  exact congrArg (_ * ·) (act_eq _ _)

theorem pay7_at (x0 x1 x2 x3 : Vec Ideal S512x512 .f32) (x4 : Vec Ideal S1x512 .f32) (v : FVec Ideal S1x512 .f32) (l : Fin 512) :
    (k0_pay5 (k0_pay6 x3) (k0_pay8 x2 x3 x4) (k0_pay12 x0 x1 x2 x3 x4) (k0_pay15 x0 x1 x2 x3 x4) (k0_pay16 x0 x1 x2 x3 x4) v (ix2 0 l) : EReal) = v (ix2 0 l) + ∑ r : Fin 512, dFactor (x0 (ix2 r l)) (x1 (ix2 r l)) (x2 (ix2 r l)) (x3 (ix2 r l)) (x4 (ix2 0 l)) := by
  pointwise [k0_pay5, k0_pay1, k0_pay6, k0_pay7, k0_pay8, k0_pay9, k0_pay10, k0_pay11, k0_pay12, k0_pay13, k0_pay14, k0_pay15, k0_pay16]
  exact congrArg (_ + ·) (Finset.sum_congr rfl fun r _ => congrArg (· * _) (act_eq _ _))

theorem zero_at (l : Fin 512) : (k0_pay4 (F := Ideal) (ix2 0 l) : EReal) = 0 := by
  pointwise [k0_pay4]

section
variable (c : Dev nD) (i : grid0.Coords)
  (arg1 : Memref sig .tc .vmem S512x512 .f32) (harg1 : arg1.IsWhole)
  (arg2 : Memref sig .tc .vmem S512x512 .f32) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S1x512 .f32) (harg5 : arg5.IsWhole)
  (arg6 : Memref sig .tc .vmem S512x512 .bf16) (harg6 : arg6.IsWhole)
  (arg7 : Memref sig .tc .vmem S512x512 .f32) (harg7 : arg7.IsWhole)
  (arg8 : Memref sig .tc .vmem S1x512 .f32) (harg8 : arg8.IsWhole)
  (x0 x1 x2 x3 : Vec Ideal S512x512 .f32) (x4 : Vec Ideal S1x512 .f32)

theorem outA5 (hc0 : cond0_0 i) : out0_A_5 c i arg1 harg1 arg2 harg2 arg3 harg3 arg4 harg4 arg5 harg5 arg6 harg6 arg7 harg7 arg8 harg8 hc0 x0 x1 x2 x3 x4 = k0_pay3 (k0_pay8 x2 x3 x4) (k0_pay12 x0 x1 x2 x3 x4) (k0_pay15 x0 x1 x2 x3 x4) (k0_pay16 x0 x1 x2 x3 x4) := by
  unfold out0_A_5
  rw [View.read_writes_junk_eq_canon]
  unfold kernelRun0_A
  dsimp only [kernelRun0_A.sl.r_2, kernelRun0_A.sl.r_3, kernelRun0_A.sl.r_4, kernelRun0_A.sl.r_5]
  rw [View.canon_unit_zero (S := S512x512) (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outA6 (hc0 : cond0_0 i) : out0_A_6 c i arg1 harg1 arg2 harg2 arg3 harg3 arg4 harg4 arg5 harg5 arg6 harg6 arg7 harg7 arg8 harg8 hc0 x0 x1 x2 x3 x4 = k0_pay2 (k0_pay7 x4) (k0_pay8 x2 x3 x4) (k0_pay12 x0 x1 x2 x3 x4) (k0_pay15 x0 x1 x2 x3 x4) (k0_pay16 x0 x1 x2 x3 x4) := by
  unfold out0_A_6
  rw [View.read_writes_junk_eq_canon]
  unfold kernelRun0_A
  dsimp only [kernelRun0_A.sl.r_1, kernelRun0_A.sl.r_2, kernelRun0_A.sl.r_3, kernelRun0_A.sl.r_4, kernelRun0_A.sl.r_5]
  rw [View.canon_unit_zero (S := S512x512) (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outB5 (hc0 : ¬cond0_0 i) (v : Vec Ideal S1x512 .f32) : out0_B_5 c i arg1 harg1 arg2 harg2 arg3 harg3 arg4 harg4 arg5 harg5 arg6 harg6 arg7 harg7 arg8 harg8 hc0 x0 x1 x2 x3 x4 v = k0_pay3 (k0_pay8 x2 x3 x4) (k0_pay12 x0 x1 x2 x3 x4) (k0_pay15 x0 x1 x2 x3 x4) (k0_pay16 x0 x1 x2 x3 x4) := by
  unfold out0_B_5
  rw [View.read_writes_junk_eq_canon]
  unfold kernelRun0_B
  dsimp only [kernelRun0_B.sl.r_2, kernelRun0_B.sl.r_3, kernelRun0_B.sl.r_4, kernelRun0_B.sl.r_5]
  rw [View.canon_unit_zero (S := S512x512) (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outB6 (hc0 : ¬cond0_0 i) (v : Vec Ideal S1x512 .f32) : out0_B_6 c i arg1 harg1 arg2 harg2 arg3 harg3 arg4 harg4 arg5 harg5 arg6 harg6 arg7 harg7 arg8 harg8 hc0 x0 x1 x2 x3 x4 v = k0_pay2 (k0_pay7 x4) (k0_pay8 x2 x3 x4) (k0_pay12 x0 x1 x2 x3 x4) (k0_pay15 x0 x1 x2 x3 x4) (k0_pay16 x0 x1 x2 x3 x4) := by
  unfold out0_B_6
  rw [View.read_writes_junk_eq_canon]
  unfold kernelRun0_B
  dsimp only [kernelRun0_B.sl.r_1, kernelRun0_B.sl.r_2, kernelRun0_B.sl.r_3, kernelRun0_B.sl.r_4, kernelRun0_B.sl.r_5]
  rw [View.canon_unit_zero (S := S512x512) (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outA7 (hc0 : cond0_0 i) : out0_A_7 c i arg1 harg1 arg2 harg2 arg3 harg3 arg4 harg4 arg5 harg5 arg6 harg6 arg7 harg7 arg8 harg8 hc0 x0 x1 x2 x3 x4 = k0_pay5 (k0_pay6 x3) (k0_pay8 x2 x3 x4) (k0_pay12 x0 x1 x2 x3 x4) (k0_pay15 x0 x1 x2 x3 x4) (k0_pay16 x0 x1 x2 x3 x4) (k0_pay4 (F := Ideal)) := by
  unfold out0_A_7
  rw [View.read_writes_junk_eq_canon]
  unfold kernelRun0_A
  dsimp only [kernelRun0_A.sl.r, kernelRun0_A.sl.r_2, kernelRun0_A.sl.r_3, kernelRun0_A.sl.r_4, kernelRun0_A.sl.r_5, kernelRun0_A.sl.v59, kernelRun0_A.sl.H7_1]
  rw [View.canon_cons_unit_zero (S := S1x512) (by decide), View.readCov_unit_zero (S := S1x512) _ (by decide)]
  simp only [View.readAt_eq_ld, harg1.read_unread, harg2.read_unread, harg3.read_unread, harg4.read_unread, harg5.read_unread]
  repeat rw [View.ld_unit_zero (S := S512x512) (by decide)]
  repeat rw [View.ld_unit_zero (S := S1x512) (by decide)]

theorem outB7 (hc0 : ¬cond0_0 i) (v : Vec Ideal S1x512 .f32) : out0_B_7 c i arg1 harg1 arg2 harg2 arg3 harg3 arg4 harg4 arg5 harg5 arg6 harg6 arg7 harg7 arg8 harg8 hc0 x0 x1 x2 x3 x4 v = k0_pay5 (k0_pay6 x3) (k0_pay8 x2 x3 x4) (k0_pay12 x0 x1 x2 x3 x4) (k0_pay15 x0 x1 x2 x3 x4) (k0_pay16 x0 x1 x2 x3 x4) v := by
  unfold out0_B_7
  rw [View.read_writes_junk_eq_canon]
  unfold kernelRun0_B
  dsimp only [kernelRun0_B.sl.r, kernelRun0_B.sl.r_2, kernelRun0_B.sl.r_3, kernelRun0_B.sl.r_4, kernelRun0_B.sl.r_5]
  rw [View.canon_unit_zero (S := S1x512) (by decide)]
  simp only [View.readAt_eq_ld, harg1.read_unread, harg2.read_unread, harg3.read_unread, harg4.read_unread, harg5.read_unread, harg8.read_unread]
  repeat rw [View.ld_unit_zero (S := S512x512) (by decide)]
  repeat rw [View.ld_unit_zero (S := S1x512) (by decide)]

end

variable {m : (ℓ : Loc nD τ sig) → Buf (Elt Ideal) ℓ} {c : Dev nD}

/-- The arguments at a device: two gradients, the summand, the projected rows and the factor. -/
abbrev aA (m : (ℓ : Loc nD τ sig) → Buf (Elt Ideal) ℓ) (c : Dev nD) : FVec Ideal S2048x512 .f32 := m ((c : Thread nD τ).loc main_arg0)
abbrev aB (m : (ℓ : Loc nD τ sig) → Buf (Elt Ideal) ℓ) (c : Dev nD) : FVec Ideal S2048x512 .f32 := m ((c : Thread nD τ).loc main_arg1)
abbrev aY (m : (ℓ : Loc nD τ sig) → Buf (Elt Ideal) ℓ) (c : Dev nD) : FVec Ideal S2048x512 .f32 := m ((c : Thread nD τ).loc main_arg2)
abbrev aU (m : (ℓ : Loc nD τ sig) → Buf (Elt Ideal) ℓ) (c : Dev nD) : FVec Ideal S2048x8192 .f32 := m ((c : Thread nD τ).loc main_arg3)
abbrev aS (m : (ℓ : Loc nD τ sig) → Buf (Elt Ideal) ℓ) (c : Dev nD) : FVec Ideal S512 .f32 := m ((c : Thread nD τ).loc main_arg4)

/-- A row over the features, as the call takes it. -/
def line (x : FVec Ideal S512 .f32) : FVec Ideal S1x512 .f32 := shapeCast S1x512 x shapeCasts_S512_S1x512

theorem line_at (x : FVec Ideal S512 .f32) (k : Fin 512) : (line x (ix2 0 k) : EReal) = x (ix1 k) := by
  pointwise [line]

/-- The rows in the order of the chunks, and back. -/
def turn (x : FVec Ideal S2048x512 .f32) : FVec Ideal S2048x512 .f32 :=
  shapeCast S2048x512 (transpose S256x8x512 [1, 0, 2] (shapeCast S8x256x512 x shapeCasts_S2048x512_S8x256x512)
    transposes_S8x256x512_S256x8x512_1_0_2) shapeCasts_S256x8x512_S2048x512
def unturn (x : FVec Ideal S2048x512 .f32) : FVec Ideal S2048x512 .f32 :=
  shapeCast S2048x512 (transpose S8x256x512 [1, 0, 2] (shapeCast S256x8x512 x shapeCasts_S2048x512_S256x8x512)
    transposes_S256x8x512_S8x256x512_1_0_2) shapeCasts_S8x256x512_S2048x512

theorem turn_at (x : FVec Ideal S2048x512 .f32) (r : Fin 2048) (k : Fin 512) : (turn x (ix2 r k) : EReal) = x (ix2 (time r) k) := by
  pointwise [turn]
  simp only [time, Nat.mul_comm]

theorem unturn_at (f : Fin 2048 → Fin 512 → EReal) (t : Fin 2048) (k : Fin 512) :
    (unturn (fun i : S2048x512.Idx => f (time (i 0)) (i 1)) (ix2 t k) : EReal) = f t k := by
  pointwise [unturn]
  rw [time_mk]

/-- The array with the rows of its first 1024 columns in the order of the chunks. -/
def step (x : FVec Ideal S2048x8192 .f32) : FVec Ideal S2048x8192 .f32 :=
  concatenate S2048x8192 1
    [⟨S2048x1024, shapeCast S2048x1024 (transpose S256x8x1024 [1, 0, 2] (shapeCast S8x256x1024
        (extractStridedSlice S2048x1024 ![0, 0] x slices_S2048x8192_S2048x1024_0_0)
        shapeCasts_S2048x1024_S8x256x1024) transposes_S8x256x1024_S256x8x1024_1_0_2) shapeCasts_S256x8x1024_S2048x1024⟩,
      ⟨S2048x7168, extractStridedSlice S2048x7168 ![0, 1024] x slices_S2048x8192_S2048x7168_0_1024⟩]
    concatenates_S2048x1024_S2048x7168_S2048x8192_d1

theorem step_at (x : FVec Ideal S2048x8192 .f32) (r : Fin 2048) (q : Fin 8192) :
    (step x (ix2 r q) : EReal) = x (ix2 (row q r) q) := by
  pointwise [step]
  split
  · rename_i h
    simp [row, h, time, Nat.mul_comm]
  · rename_i h
    have e : 1024 + (q.val - 1024) = q.val := by omega
    simp only [row, h, e, if_false]

theorem arg0_eq : (V m c main_v2 : FVec Ideal S2048x512 .f32) = turn (aA m c) := by
  unfold V V0
  simp only [List.flatten_cons, List.flatten_nil, List.append_nil, List.cons_append, List.nil_append]
  after_results_simp
  rfl

theorem arg1_eq : (V m c main_v5 : FVec Ideal S2048x512 .f32) = turn (aB m c) := by
  unfold V V0
  simp only [List.flatten_cons, List.flatten_nil, List.append_nil, List.cons_append, List.nil_append]
  after_results_simp
  rfl

theorem arg2_eq : (V m c main_v8 : FVec Ideal S2048x512 .f32) = turn (aY m c) := by
  unfold V V0
  simp only [List.flatten_cons, List.flatten_nil, List.append_nil, List.cons_append, List.nil_append]
  after_results_simp
  rfl

theorem arg3_eq : (V m c main_v14 : FVec Ideal S2048x8192 .f32) = step (aU m c) := by
  unfold V V0
  simp only [List.flatten_cons, List.flatten_nil, List.append_nil, List.cons_append, List.nil_append]
  after_results_simp
  rfl

theorem arg4_eq : (V m c main_v15 : FVec Ideal S1x512 .f32) = line (aS m c) := by
  unfold V V0
  simp only [List.flatten_cons, List.flatten_nil, List.append_nil, List.cons_append, List.nil_append]
  after_results_simp
  rfl

theorem four (t : Fin grid0.N) : t.val < 4 := lt_of_lt_of_eq t.isLt N_0

/-- The row that row `r` of block `n` is. -/
def spot (n : ℕ) (h : n < 4) (r : Fin 512) : Fin 2048 := ⟨512 * n + r.val, by omega⟩

/-- The rows that the call reads, and the features. -/
def rowA (m : (ℓ : Loc nD τ sig) → Buf (Elt Ideal) ℓ) (c : Dev nD) (r : Fin 2048) (k : Fin 512) : EReal := aA m c (ix2 r k)
def rowB (m : (ℓ : Loc nD τ sig) → Buf (Elt Ideal) ℓ) (c : Dev nD) (r : Fin 2048) (k : Fin 512) : EReal := aB m c (ix2 r k)
def rowY (m : (ℓ : Loc nD τ sig) → Buf (Elt Ideal) ℓ) (c : Dev nD) (r : Fin 2048) (k : Fin 512) : EReal := aY m c (ix2 r k)
def rowU (m : (ℓ : Loc nD τ sig) → Buf (Elt Ideal) ℓ) (c : Dev nD) (r : Fin 2048) (k : Fin 512) : EReal := aU m c (ix2 r ⟨0 + k.val, by omega⟩)
def rowS (m : (ℓ : Loc nD τ sig) → Buf (Elt Ideal) ℓ) (c : Dev nD) (k : Fin 512) : EReal := aS m c (ix1 k)

theorem blk0_at (t : Fin grid0.N) (r : Fin 512) (k : Fin 512) : (iblk m c 0 t (ix2 r k) : EReal) = rowA m c (time (spot t.val (four t) r)) k := by
  unfold rowA
  rw [← turn_at (aA m c), ← arg0_eq]
  blk_ext [iblk, places t, spot]

theorem blk1_at (t : Fin grid0.N) (r : Fin 512) (k : Fin 512) : (iblk m c 1 t (ix2 r k) : EReal) = rowB m c (time (spot t.val (four t) r)) k := by
  unfold rowB
  rw [← turn_at (aB m c), ← arg1_eq]
  blk_ext [iblk, places t, spot]

theorem blk2_at (t : Fin grid0.N) (r : Fin 512) (k : Fin 512) : (iblk m c 2 t (ix2 r k) : EReal) = rowY m c (time (spot t.val (four t) r)) k := by
  unfold rowY
  rw [← turn_at (aY m c), ← arg2_eq]
  blk_ext [iblk, places t, spot]

theorem blk3_at (t : Fin grid0.N) (r : Fin 512) (k : Fin 512) : (iblk m c 3 t (ix2 r k) : EReal) = rowU m c (time (spot t.val (four t) r)) k := by
  have e := step_at (aU m c) (spot t.val (four t) r) ⟨0 + k.val, by omega⟩
  rw [row, if_pos (by simp only; omega)] at e
  refine Eq.trans ?_ e
  rw [← arg3_eq]
  blk_ext [iblk, places t, spot]

theorem blk4_at (t : Fin grid0.N) (k : Fin 512) : (iblk m c 4 t (ix2 0 k) : EReal) = rowS m c k := by
  unfold rowS
  rw [← line_at (aS m c), ← arg4_eq]
  blk_ext [iblk, places t]

theorem left5_at (t : Fin grid0.N) (r : Fin 512) (l : Fin 512) :
    ((outsAt0 m c t.val t.isLt).1 (ix2 r l) : EReal) = dSum (rowA m c (time (spot t.val (four t) r)) l) (rowB m c (time (spot t.val (four t) r)) l) (rowY m c (time (spot t.val (four t) r)) l) (rowU m c (time (spot t.val (four t) r)) l) (rowS m c l) := by
  have e : (outsAt0 m c t.val t.isLt).1 = (fun x0 x1 x2 x3 x4 => k0_pay3 (k0_pay8 x2 x3 x4) (k0_pay12 x0 x1 x2 x3 x4) (k0_pay15 x0 x1 x2 x3 x4) (k0_pay16 x0 x1 x2 x3 x4)) (iblk m c 0 t) (iblk m c 1 t) (iblk m c 2 t) (iblk m c 3 t) (iblk m c 4 t) := by
    by_cases h : t.val % 4 = 0
    · rw [outsAt0_A m c t h]
      dsimp only
      rw [outA5]
    · rw [outsAt0_B m c t h]
      dsimp only
      rw [outB5]
  rw [e]
  refine (pay5_at (iblk m c 0 t) (iblk m c 1 t) (iblk m c 2 t) (iblk m c 3 t) (iblk m c 4 t) r l).trans ?_
  simp only [blk0_at, blk1_at, blk2_at, blk3_at, blk4_at]

theorem left6_at (t : Fin grid0.N) (r : Fin 512) (l : Fin 512) :
    ((outsAt0 m c t.val t.isLt).2.1 (ix2 r l) : EReal) = dSkip (rowA m c (time (spot t.val (four t) r)) l) (rowB m c (time (spot t.val (four t) r)) l) (rowY m c (time (spot t.val (four t) r)) l) (rowU m c (time (spot t.val (four t) r)) l) (rowS m c l) := by
  have e : (outsAt0 m c t.val t.isLt).2.1 = (fun x0 x1 x2 x3 x4 => k0_pay2 (k0_pay7 x4) (k0_pay8 x2 x3 x4) (k0_pay12 x0 x1 x2 x3 x4) (k0_pay15 x0 x1 x2 x3 x4) (k0_pay16 x0 x1 x2 x3 x4)) (iblk m c 0 t) (iblk m c 1 t) (iblk m c 2 t) (iblk m c 3 t) (iblk m c 4 t) := by
    by_cases h : t.val % 4 = 0
    · rw [outsAt0_A m c t h]
      dsimp only
      rw [outA6]
    · rw [outsAt0_B m c t h]
      dsimp only
      rw [outB6]
  rw [e]
  refine (pay6_at (iblk m c 0 t) (iblk m c 1 t) (iblk m c 2 t) (iblk m c 3 t) (iblk m c 4 t) r l).trans ?_
  simp only [blk0_at, blk1_at, blk2_at, blk3_at, blk4_at]

/-- What block `n` adds to the sum over the rows. -/
def part (m : (ℓ : Loc nD τ sig) → Buf (Elt Ideal) ℓ) (c : Dev nD) (l : Fin 512) (n : ℕ) : EReal :=
  if h : n < 4 then ∑ r : Fin 512, dFactor (rowA m c (time (spot n h r)) l) (rowB m c (time (spot n h r)) l) (rowY m c (time (spot n h r)) l) (rowU m c (time (spot n h r)) l) (rowS m c l) else 0

theorem part_at (t : Fin grid0.N) (v : FVec Ideal S1x512 .f32) (l : Fin 512) :
    ((fun x0 x1 x2 x3 x4 => k0_pay5 (k0_pay6 x3) (k0_pay8 x2 x3 x4) (k0_pay12 x0 x1 x2 x3 x4) (k0_pay15 x0 x1 x2 x3 x4) (k0_pay16 x0 x1 x2 x3 x4) v) (iblk m c 0 t) (iblk m c 1 t) (iblk m c 2 t) (iblk m c 3 t) (iblk m c 4 t) (ix2 0 l) : EReal) = v (ix2 0 l) + part m c l t.val := by
  refine (pay7_at (iblk m c 0 t) (iblk m c 1 t) (iblk m c 2 t) (iblk m c 3 t) (iblk m c 4 t) v l).trans ?_
  rw [part, dif_pos (four t)]
  simp only [blk0_at, blk1_at, blk2_at, blk3_at, blk4_at]

/-- After point `n` the buffer holds the sum over the blocks up to the `n`-th. -/
theorem outs_at (l : Fin 512) : ∀ (n : ℕ) (hn : n < cfg0.N),
    ((outsAt0 m c n hn).2.2 (ix2 0 l) : EReal) = ∑ s ∈ Finset.range (n + 1), part m c l s
  | 0, hn => by
    rw [outsAt0_A m c ⟨0, hn⟩ rfl, Finset.sum_range_one]
    dsimp only
    rw [outA7]
    refine (part_at ⟨0, hn⟩ _ l).trans ?_
    rw [zero_at, zero_add]
  | n + 1, hn => by
    have h4 := four ⟨n + 1, hn⟩
    simp only at h4
    rw [outsAt0_B m c ⟨n + 1, hn⟩ (by simp only; omega), Finset.sum_range_succ, ← outs_at l n (Nat.lt_of_succ_lt hn)]
    dsimp only
    rw [outB7]
    exact part_at ⟨n + 1, hn⟩ _ l

theorem sum_part (l : Fin 512) : ∑ s ∈ Finset.range 4, part m c l s = ∑ r : Fin 2048, dFactor (rowA m c r l) (rowB m c r l) (rowY m c r l) (rowU m c r l) (rowS m c l) := by
  rw [← sum_time fun r => dFactor (rowA m c r l) (rowB m c r l) (rowY m c r l) (rowU m c r l) (rowS m c l)]
  rw [Finset.sum_range]
  rw [← Fintype.sum_equiv (finProdFinEquiv (m := 4) (n := 512)) (fun p => dFactor (rowA m c (time (spot p.1.val p.1.isLt p.2)) l) (rowB m c (time (spot p.1.val p.1.isLt p.2)) l) (rowY m c (time (spot p.1.val p.1.isLt p.2)) l) (rowU m c (time (spot p.1.val p.1.isLt p.2)) l) (rowS m c l))
    (fun r : Fin 2048 => dFactor (rowA m c (time r) l) (rowB m c (time r) l) (rowY m c (time r) l) (rowU m c (time r) l) (rowS m c l)) (fun p => ?_)]
  · rw [Fintype.sum_prod_type]
    exact Finset.sum_congr rfl fun s _ => dif_pos s.isLt
  · have e : spot p.1.val p.1.isLt p.2 = finProdFinEquiv p := Fin.ext (by simp only [spot, finProdFinEquiv_apply_val]; omega)
    rw [e]

theorem arr5 : (dats m 0 c).arrAt 5 (cfgs 0).N = fun i : S2048x512.Idx => dSum (rowA m c (time (i 0)) (i 1)) (rowB m c (time (i 0)) (i 1)) (rowY m c (time (i 0)) (i 1)) (rowU m c (time (i 0)) (i 1)) (rowS m c (i 1)) := by
  refine (dats m 0 c).arrAt_eq_of_covers 5 _ (by decide +kernel) fun t hf y => ?_
  blk_simp
  rw [after0_5]
  idx_vars y
  have e0 : (win0_5.blk t).view.emb (ix2 y0 y1) 0 = spot t.val (four t) y0 := by
    refine Fin.ext ?_
    blk_simp [places t, spot]
    exact congrArg (· + _) (Nat.mul_comm _ _)
  have e1 : (win0_5.blk t).view.emb (ix2 y0 y1) 1 = y1 := by
    refine Fin.ext ?_
    blk_simp [places t]
  rw [e0, e1]
  exact left5_at t y0 y1

theorem arr6 : (dats m 0 c).arrAt 6 (cfgs 0).N = fun i : S2048x512.Idx => dSkip (rowA m c (time (i 0)) (i 1)) (rowB m c (time (i 0)) (i 1)) (rowY m c (time (i 0)) (i 1)) (rowU m c (time (i 0)) (i 1)) (rowS m c (i 1)) := by
  refine (dats m 0 c).arrAt_eq_of_covers 6 _ (by decide +kernel) fun t hf y => ?_
  blk_simp
  rw [after0_6]
  idx_vars y
  have e0 : (win0_6.blk t).view.emb (ix2 y0 y1) 0 = spot t.val (four t) y0 := by
    refine Fin.ext ?_
    blk_simp [places t, spot]
    exact congrArg (· + _) (Nat.mul_comm _ _)
  have e1 : (win0_6.blk t).view.emb (ix2 y0 y1) 1 = y1 := by
    refine Fin.ext ?_
    blk_simp [places t]
  rw [e0, e1]
  exact left6_at t y0 y1

theorem arr7 : (dats m 0 c).arrAt 7 (cfgs 0).N = fun i : S1x512.Idx => ∑ r : Fin 2048, dFactor (rowA m c r (i 1)) (rowB m c r (i 1)) (rowY m c r (i 1)) (rowU m c r (i 1)) (rowS m c (i 1)) := by
  refine (dats m 0 c).arrAt_eq_of_covers 7 _ (by decide +kernel) fun t hf y => ?_
  have h3 : t.val = 3 := by
    have := (flush0_7 t).mp hf
    have := four t
    omega
  blk_simp
  rw [after0_7]
  idx_vars y
  have e1 : (win0_7.blk t).view.emb (ix2 y0 y1) 1 = y1 := by
    refine Fin.ext ?_
    blk_simp [places t]
  obtain rfl : y0 = 0 := Subsingleton.elim _ _
  refine (outs_at y1 _ _).trans ?_
  rw [e1, h3]
  exact sum_part y1

abbrev tailOps : List (HloOp τ sig (Elt Ideal)) := [hostOps1].flatten

theorem tail0_eq (W : Valuation τ sig (Elt Ideal)) : (StableHlo.after tailOps W (Proc.devRef .tc main_v20) : FVec Ideal S2048x512 .f32)
    = unturn (extf (F := Ideal) .f32 (W (Proc.devRef .tc main_v16_0) : FVec Ideal S2048x512 .bf16) bitsLt_bf16_f32) := by
  unfold tailOps
  simp only [List.flatten_cons, List.flatten_nil, List.append_nil, List.cons_append, List.nil_append]
  after_results_simp
  rfl

theorem tail1_eq (W : Valuation τ sig (Elt Ideal)) : (StableHlo.after tailOps W (Proc.devRef .tc main_v23) : FVec Ideal S2048x512 .f32)
    = unturn (W (Proc.devRef .tc main_v16_1) : FVec Ideal S2048x512 .f32) := by
  unfold tailOps
  simp only [List.flatten_cons, List.flatten_nil, List.append_nil, List.cons_append, List.nil_append]
  after_results_simp
  rfl

theorem tail2_eq (W : Valuation τ sig (Elt Ideal)) : (StableHlo.after tailOps W (Proc.devRef .tc main_v24) : FVec Ideal S512 .f32)
    = shapeCast S512 (W (Proc.devRef .tc main_v16_2) : FVec Ideal S1x512 .f32) shapeCasts_S1x512_S512 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v20 = fun i : S2048x512.Idx => dSum (rowA m c (i 0) (i 1)) (rowB m c (i 0) (i 1)) (rowY m c (i 0) (i 1)) (rowU m c (i 0) (i 1)) (rowS m c (i 1)) := by
  refine (tail0_eq (after0 m c)).trans ?_
  rw [show after0 m c (Proc.devRef .tc main_v16_0) = _ from (left 5).trans arr5]
  funext i
  idx_vars i
  exact unturn_at (fun r l => dSum (rowA m c r l) (rowB m c r l) (rowY m c r l) (rowU m c r l) (rowS m c l)) i0 i1

theorem value1 : endOf m c main_v23 = fun i : S2048x512.Idx => dSkip (rowA m c (i 0) (i 1)) (rowB m c (i 0) (i 1)) (rowY m c (i 0) (i 1)) (rowU m c (i 0) (i 1)) (rowS m c (i 1)) := by
  refine (tail1_eq (after0 m c)).trans ?_
  rw [show after0 m c (Proc.devRef .tc main_v16_1) = _ from (left 6).trans arr6]
  funext i
  idx_vars i
  exact unturn_at (fun r l => dSkip (rowA m c r l) (rowB m c r l) (rowY m c r l) (rowU m c r l) (rowS m c l)) i0 i1

theorem value2 : endOf m c main_v24 = fun i : S512.Idx => ∑ r : Fin 2048, dFactor (rowA m c r (i 0)) (rowB m c r (i 0)) (rowY m c r (i 0)) (rowU m c r (i 0)) (rowS m c (i 0)) := by
  refine (tail2_eq (after0 m c)).trans ?_
  rw [show after0 m c (Proc.devRef .tc main_v16_2) = _ from (left 7).trans arr7]
  funext i
  idx_vars i
  pointwise

end Cert.Kernel21Ideal.Body

namespace Cert.Join21

open Idealize.ShloMosaic Idealize.ShloMosaic.TcCoe Idealize.SL.Sem

/-- The reference runs no semaphore: every counter family over its signature is the zero one. -/
theorem no_counter (s : GSem Reference21Ideal.nD Reference21Ideal.τ Reference21Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference21Ideal (hReference21Ideal := Reference21Ideal.Gen.facts) := fun m ρ _ =>
  (θ_run Reference21Ideal.defs _ _).mono (fun r h => ⟨fun c => (h c).2.2.2, no_counter _⟩) (Reference21Ideal.Value.run m ρ)

/-- The kernel and the reference end with the same gradients. -/
theorem same : algebraic_Kernel21Ideal_Reference21Ideal (hKernel21Ideal := Kernel21Ideal.Gen.facts) (hReference21Ideal := Reference21Ideal.Gen.facts) := by
  intro m g m' g' _ ha
  refine ⟨fun c => Kernel21Ideal.Body.endOf m c _, fun c => Kernel21Ideal.Body.endOf m c _, fun c => Kernel21Ideal.Body.endOf m c _,
    ?_, ?_⟩
  · refine (θ_run Kernel21Ideal.defs _ _).mono (fun r h c => ?_) (θ_run_and (Kernel21Ideal.Gen.run_main m g) (Kernel21Ideal.Gen.unchanged m g))
    exact ⟨h.1.rest_eq c Kernel21Ideal.main_v20 (by decide), h.1.rest_eq c Kernel21Ideal.main_v23 (by decide), h.1.rest_eq c Kernel21Ideal.main_v24 (by decide), h.2 c⟩
  · refine (θ_run Reference21Ideal.defs _ _).mono (fun r h c => ?_) (Reference21Ideal.Value.run m' g')
    obtain ⟨h0, h1, h2, hrest⟩ := h c
    obtain ⟨e0, e1, e2, e3, e4⟩ := ha c
    refine ⟨h0.trans ?_, h1.trans ?_, h2.trans ?_, hrest⟩
    · refine Eq.trans ?_ Kernel21Ideal.Body.value0.symm
      unfold Reference21Ideal.Value.res_main_v38
      rw [e0, e1, e2, e3, e4]
      funext i
      idx_vars i
      pointwise [Kernel21Ideal.Body.dSum, Kernel21Ideal.Body.dAct, Kernel21Ideal.Body.bend, Kernel21Ideal.Body.bent, Kernel21Ideal.Body.half, Kernel21Ideal.Body.root, Kernel21Ideal.Body.cub, Kernel21Ideal.Body.three, Kernel21Ideal.Body.rowA, Kernel21Ideal.Body.rowB, Kernel21Ideal.Body.rowY, Kernel21Ideal.Body.rowU, Kernel21Ideal.Body.rowS]
    · refine Eq.trans ?_ Kernel21Ideal.Body.value1.symm
      unfold Reference21Ideal.Value.res_main_v40
      rw [e0, e1, e2, e3, e4]
      funext i
      idx_vars i
      pointwise [Kernel21Ideal.Body.dSkip, Kernel21Ideal.Body.dAct, Kernel21Ideal.Body.bend, Kernel21Ideal.Body.bent, Kernel21Ideal.Body.half, Kernel21Ideal.Body.root, Kernel21Ideal.Body.cub, Kernel21Ideal.Body.three, Kernel21Ideal.Body.rowA, Kernel21Ideal.Body.rowB, Kernel21Ideal.Body.rowY, Kernel21Ideal.Body.rowU, Kernel21Ideal.Body.rowS]
    · refine Eq.trans ?_ Kernel21Ideal.Body.value2.symm
      unfold Reference21Ideal.Value.res_main_v44
      rw [e0, e1, e2, e3, e4]
      funext i
      idx_vars i
      pointwise [Kernel21Ideal.Body.dFactor, Kernel21Ideal.Body.dAct, Kernel21Ideal.Body.bend, Kernel21Ideal.Body.bent, Kernel21Ideal.Body.half, Kernel21Ideal.Body.root, Kernel21Ideal.Body.cub, Kernel21Ideal.Body.three, Kernel21Ideal.Body.rowA, Kernel21Ideal.Body.rowB, Kernel21Ideal.Body.rowY, Kernel21Ideal.Body.rowU, Kernel21Ideal.Body.rowS]
      simp only [Fin.sum_univ_one]

end Cert.Join21

end
-- ==== Proof.PreNorm.lean ====
module

public import proofs.«01_k».proof.Proof.Gen.Kernel22Ideal.Frame
public import proofs.«01_k».proof.Proof.Gen.Reference22Ideal.Run
public import proofs.«01_k».proof.Defs
public import proofs.«01_k».proof.Proof.Norms
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel22Ideal.Body

open Idealize.ShloMosaic Idealize.ShloMosaic.TcCoe Idealize.SL.Sem
open Cert.Kernel22Ideal Cert.Kernel22Ideal.Gen Cert.Norms

/-- The gradient of a row: what reaches it directly, and what the normalisation sends back of the sum of two gradients. -/
def whole (d e f x g : Fin 1024 → EReal) (l : Fin 1024) : EReal := d l + back (fun k => e k + f k) x g l

/-- What a row adds to the gradient of the gain. -/
def gains (e f x : Fin 1024 → EReal) (l : Fin 1024) : EReal := gain (fun k => e k + f k) x l

theorem places : ∀ t : Fin grid0.N,
    win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![0, 0] := by decide +kernel

theorem pay5_at (x0 x1 x2 x3 : Vec Ideal S512x1024 .f32) (x4 : Vec Ideal S1x1024 .f32) (r : Fin 512) (l : Fin 1024) :
    (k0_pay7 x0 x1 x2 x3 x4 (ix2 r l) : EReal) = whole (fun k => x0 (ix2 r k)) (fun k => x1 (ix2 r k)) (fun k => x2 (ix2 r k)) (fun k => x3 (ix2 r k)) (fun k => x4 (ix2 0 k)) l := by
  pointwise [k0_pay7, k0_pay5, k0_pay4, k0_pay3, whole, back, pull, scl, mean, width, eps]
  simp only [Fin.sum_univ_one]

theorem pay6_at (x0 x1 x2 x3 : Vec Ideal S512x1024 .f32) (x4 : Vec Ideal S1x1024 .f32) (v : FVec Ideal S1x1024 .f32) (l : Fin 1024) :
    (k0_pay2 (k0_pay6 x1 x2 x3) v (ix2 0 l) : EReal) = v (ix2 0 l) + ∑ r : Fin 512, gains (fun k => x1 (ix2 r k)) (fun k => x2 (ix2 r k)) (fun k => x3 (ix2 r k)) l := by
  pointwise [k0_pay2, k0_pay6, k0_pay5, k0_pay4, k0_pay3, gains, gain, scl, mean, width, eps]

theorem zero_at (l : Fin 1024) : (k0_pay1 (F := Ideal) (ix2 0 l) : EReal) = 0 := by
  pointwise [k0_pay1]

section
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S1x1024 .f32) (harg7 : arg7.IsWhole)
  (x0 x1 x2 x3 : Vec Ideal S512x1024 .f32) (x4 : Vec Ideal S1x1024 .f32)

theorem outA5 (hc0 : cond0_0 i) : out0_A_5 c i arg1 harg1 arg2 harg2 arg3 harg3 arg4 harg4 arg5 harg5 arg6 harg6 arg7 harg7 hc0 x0 x1 x2 x3 x4 = k0_pay7 x0 x1 x2 x3 x4 := by
  unfold out0_A_5
  rw [View.read_writes_junk_eq_canon]
  unfold kernelRun0_A
  dsimp only [kernelRun0_A.sl.r_1]
  rw [View.canon_unit_zero (S := S512x1024) (by decide)]
  simp only [View.readAt_eq_ld, harg1.read_unread, harg2.read_unread, harg3.read_unread, harg4.read_unread, harg5.read_unread]
  repeat rw [View.ld_unit_zero (S := S512x1024) (by decide)]
  repeat rw [View.ld_unit_zero (S := S1x1024) (by decide)]

theorem outB5 (hc0 : ¬cond0_0 i) (v : Vec Ideal S1x1024 .f32) : out0_B_5 c i arg1 harg1 arg2 harg2 arg3 harg3 arg4 harg4 arg5 harg5 arg6 harg6 arg7 harg7 hc0 x0 x1 x2 x3 x4 v = k0_pay7 x0 x1 x2 x3 x4 := by
  unfold out0_B_5
  rw [View.read_writes_junk_eq_canon]
  unfold kernelRun0_B
  dsimp only [kernelRun0_B.sl.r_1]
  rw [View.canon_unit_zero (S := S512x1024) (by decide)]
  simp only [View.readAt_eq_ld, harg1.read_unread, harg2.read_unread, harg3.read_unread, harg4.read_unread, harg5.read_unread]
  repeat rw [View.ld_unit_zero (S := S512x1024) (by decide)]
  repeat rw [View.ld_unit_zero (S := S1x1024) (by decide)]

theorem outA6 (hc0 : cond0_0 i) : out0_A_6 c i arg1 harg1 arg2 harg2 arg3 harg3 arg4 harg4 arg5 harg5 arg6 harg6 arg7 harg7 hc0 x0 x1 x2 x3 x4 = k0_pay2 (k0_pay6 x1 x2 x3) (k0_pay1 (F := Ideal)) := by
  unfold out0_A_6
  rw [View.read_writes_junk_eq_canon]
  unfold kernelRun0_A
  dsimp only [kernelRun0_A.sl.r, kernelRun0_A.sl.v45, kernelRun0_A.sl.H6_1]
  rw [View.canon_cons_unit_zero (S := S1x1024) (by decide), View.readCov_unit_zero (S := S1x1024) _ (by decide)]
  simp only [View.readAt_eq_ld, harg2.read_unread, harg3.read_unread, harg4.read_unread]
  repeat rw [View.ld_unit_zero (S := S512x1024) (by decide)]

theorem outB6 (hc0 : ¬cond0_0 i) (v : Vec Ideal S1x1024 .f32) : out0_B_6 c i arg1 harg1 arg2 harg2 arg3 harg3 arg4 harg4 arg5 harg5 arg6 harg6 arg7 harg7 hc0 x0 x1 x2 x3 x4 v = k0_pay2 (k0_pay6 x1 x2 x3) v := by
  unfold out0_B_6
  rw [View.read_writes_junk_eq_canon]
  unfold kernelRun0_B
  dsimp only [kernelRun0_B.sl.r]
  rw [View.canon_unit_zero (S := S1x1024) (by decide)]
  simp only [View.readAt_eq_ld, harg2.read_unread, harg3.read_unread, harg4.read_unread, harg7.read_unread]
  repeat rw [View.ld_unit_zero (S := S512x1024) (by decide)]
  repeat rw [View.ld_unit_zero (S := S1x1024) (by decide)]

end

variable {m : (ℓ : Loc nD τ sig) → Buf (Elt Ideal) ℓ} {c : Dev nD}

/-- The arguments at a device: three gradients, the rows that were normalised and the gain. -/
abbrev aD (m : (ℓ : Loc nD τ sig) → Buf (Elt Ideal) ℓ) (c : Dev nD) : FVec Ideal S2048x1024 .f32 := m ((c : Thread nD τ).loc main_arg0)
abbrev aE (m : (ℓ : Loc nD τ sig) → Buf (Elt Ideal) ℓ) (c : Dev nD) : FVec Ideal S2048x1024 .f32 := m ((c : Thread nD τ).loc main_arg1)
abbrev aH (m : (ℓ : Loc nD τ sig) → Buf (Elt Ideal) ℓ) (c : Dev nD) : FVec Ideal S2048x1024 .f32 := m ((c : Thread nD τ).loc main_arg2)
abbrev aX (m : (ℓ : Loc nD τ sig) → Buf (Elt Ideal) ℓ) (c : Dev nD) : FVec Ideal S2048x1024 .f32 := m ((c : Thread nD τ).loc main_arg3)
abbrev aG (m : (ℓ : Loc nD τ sig) → Buf (Elt Ideal) ℓ) (c : Dev nD) : FVec Ideal S1024 .f32 := m ((c : Thread nD τ).loc main_arg4)

/-- A row over the features, as the call takes it. -/
def line (x : FVec Ideal S1024 .f32) : FVec Ideal S1x1024 .f32 := shapeCast S1x1024 x shapeCasts_S1024_S1x1024

theorem line_at (x : FVec Ideal S1024 .f32) (k : Fin 1024) : (line x (ix2 0 k) : EReal) = x (ix1 k) := by
  pointwise [line]

theorem arg0_eq : (V m c main_arg0 : FVec Ideal S2048x1024 .f32) = aD m c := by
  unfold V V0
  simp only [List.flatten_cons, List.flatten_nil, List.append_nil, List.cons_append, List.nil_append]
  after_results_simp

theorem arg1_eq : (V m c main_arg1 : FVec Ideal S2048x1024 .f32) = aE m c := by
  unfold V V0
  simp only [List.flatten_cons, List.flatten_nil, List.append_nil, List.cons_append, List.nil_append]
  after_results_simp

theorem arg2_eq : (V m c main_arg2 : FVec Ideal S2048x1024 .f32) = aH m c := by
  unfold V V0
  simp only [List.flatten_cons, List.flatten_nil, List.append_nil, List.cons_append, List.nil_append]
  after_results_simp

theorem arg3_eq : (V m c main_arg3 : FVec Ideal S2048x1024 .f32) = aX m c := by
  unfold V V0
  simp only [List.flatten_cons, List.flatten_nil, List.append_nil, List.cons_append, List.nil_append]
  after_results_simp

theorem arg4_eq : (V m c main_v0 : FVec Ideal S1x1024 .f32) = line (aG m c) := by
  unfold V V0
  simp only [List.flatten_cons, List.flatten_nil, List.append_nil, List.cons_append, List.nil_append]
  after_results_simp
  rfl

theorem four (t : Fin grid0.N) : t.val < 4 := lt_of_lt_of_eq t.isLt N_0

/-- The row that row `r` of block `n` is. -/
def spot (n : ℕ) (h : n < 4) (r : Fin 512) : Fin 2048 := ⟨512 * n + r.val, by omega⟩

/-- The rows that the call reads, and the features. -/
def rowD (m : (ℓ : Loc nD τ sig) → Buf (Elt Ideal) ℓ) (c : Dev nD) (r : Fin 2048) (k : Fin 1024) : EReal := aD m c (ix2 r k)
def rowE (m : (ℓ : Loc nD τ sig) → Buf (Elt Ideal) ℓ) (c : Dev nD) (r : Fin 2048) (k : Fin 1024) : EReal := aE m c (ix2 r k)
def rowH (m : (ℓ : Loc nD τ sig) → Buf (Elt Ideal) ℓ) (c : Dev nD) (r : Fin 2048) (k : Fin 1024) : EReal := aH m c (ix2 r k)
def rowX (m : (ℓ : Loc nD τ sig) → Buf (Elt Ideal) ℓ) (c : Dev nD) (r : Fin 2048) (k : Fin 1024) : EReal := aX m c (ix2 r k)
def rowG (m : (ℓ : Loc nD τ sig) → Buf (Elt Ideal) ℓ) (c : Dev nD) (k : Fin 1024) : EReal := aG m c (ix1 k)

theorem blk0_at (t : Fin grid0.N) (r : Fin 512) (k : Fin 1024) : (iblk m c 0 t (ix2 r k) : EReal) = rowD m c (spot t.val (four t) r) k := by
  unfold rowD
  rw [← arg0_eq]
  blk_ext [iblk, places t, spot]

theorem blk1_at (t : Fin grid0.N) (r : Fin 512) (k : Fin 1024) : (iblk m c 1 t (ix2 r k) : EReal) = rowE m c (spot t.val (four t) r) k := by
  unfold rowE
  rw [← arg1_eq]
  blk_ext [iblk, places t, spot]

theorem blk2_at (t : Fin grid0.N) (r : Fin 512) (k : Fin 1024) : (iblk m c 2 t (ix2 r k) : EReal) = rowH m c (spot t.val (four t) r) k := by
  unfold rowH
  rw [← arg2_eq]
  blk_ext [iblk, places t, spot]

theorem blk3_at (t : Fin grid0.N) (r : Fin 512) (k : Fin 1024) : (iblk m c 3 t (ix2 r k) : EReal) = rowX m c (spot t.val (four t) r) k := by
  unfold rowX
  rw [← arg3_eq]
  blk_ext [iblk, places t, spot]

theorem blk4_at (t : Fin grid0.N) (k : Fin 1024) : (iblk m c 4 t (ix2 0 k) : EReal) = rowG m c k := by
  unfold rowG
  rw [← line_at (aG m c), ← arg4_eq]
  blk_ext [iblk, places t]

theorem left5_at (t : Fin grid0.N) (r : Fin 512) (l : Fin 1024) :
    ((outsAt0 m c t.val t.isLt).1 (ix2 r l) : EReal) = whole (rowD m c (spot t.val (four t) r)) (rowE m c (spot t.val (four t) r)) (rowH m c (spot t.val (four t) r)) (rowX m c (spot t.val (four t) r)) (rowG m c) l := by
  have e : (outsAt0 m c t.val t.isLt).1 = (fun x0 x1 x2 x3 x4 => k0_pay7 x0 x1 x2 x3 x4) (iblk m c 0 t) (iblk m c 1 t) (iblk m c 2 t) (iblk m c 3 t) (iblk m c 4 t) := by
    by_cases h : t.val % 4 = 0
    · rw [outsAt0_A m c t h]
      dsimp only
      rw [outA5]
    · rw [outsAt0_B m c t h]
      dsimp only
      rw [outB5]
  rw [e]
  refine (pay5_at (iblk m c 0 t) (iblk m c 1 t) (iblk m c 2 t) (iblk m c 3 t) (iblk m c 4 t) r l).trans ?_
  simp only [blk0_at, blk1_at, blk2_at, blk3_at, blk4_at]

/-- What block `n` adds to the sum over the rows. -/
def part (m : (ℓ : Loc nD τ sig) → Buf (Elt Ideal) ℓ) (c : Dev nD) (l : Fin 1024) (n : ℕ) : EReal :=
  if h : n < 4 then ∑ r : Fin 512, gains (rowE m c (spot n h r)) (rowH m c (spot n h r)) (rowX m c (spot n h r)) l else 0

theorem part_at (t : Fin grid0.N) (v : FVec Ideal S1x1024 .f32) (l : Fin 1024) :
    ((fun x0 x1 x2 x3 x4 => k0_pay2 (k0_pay6 x1 x2 x3) v) (iblk m c 0 t) (iblk m c 1 t) (iblk m c 2 t) (iblk m c 3 t) (iblk m c 4 t) (ix2 0 l) : EReal) = v (ix2 0 l) + part m c l t.val := by
  refine (pay6_at (iblk m c 0 t) (iblk m c 1 t) (iblk m c 2 t) (iblk m c 3 t) (iblk m c 4 t) v l).trans ?_
  rw [part, dif_pos (four t)]
  simp only [blk1_at, blk2_at, blk3_at]

/-- After point `n` the buffer holds the sum over the blocks up to the `n`-th. -/
theorem outs_at (l : Fin 1024) : ∀ (n : ℕ) (hn : n < cfg0.N),
    ((outsAt0 m c n hn).2 (ix2 0 l) : EReal) = ∑ s ∈ Finset.range (n + 1), part m c l s
  | 0, hn => by
    rw [outsAt0_A m c ⟨0, hn⟩ rfl, Finset.sum_range_one]
    dsimp only
    rw [outA6]
    refine (part_at ⟨0, hn⟩ _ l).trans ?_
    rw [zero_at, zero_add]
  | n + 1, hn => by
    have h4 := four ⟨n + 1, hn⟩
    simp only at h4
    rw [outsAt0_B m c ⟨n + 1, hn⟩ (by simp only; omega), Finset.sum_range_succ, ← outs_at l n (Nat.lt_of_succ_lt hn)]
    dsimp only
    rw [outB6]
    exact part_at ⟨n + 1, hn⟩ _ l

theorem sum_part (l : Fin 1024) : ∑ s ∈ Finset.range 4, part m c l s = ∑ r : Fin 2048, gains (rowE m c r) (rowH m c r) (rowX m c r) l := by
  rw [Finset.sum_range]
  rw [← Fintype.sum_equiv (finProdFinEquiv (m := 4) (n := 512)) (fun p => gains (rowE m c (spot p.1.val p.1.isLt p.2)) (rowH m c (spot p.1.val p.1.isLt p.2)) (rowX m c (spot p.1.val p.1.isLt p.2)) l)
    (fun r : Fin 2048 => gains (rowE m c r) (rowH m c r) (rowX m c r) l) (fun p => ?_)]
  · rw [Fintype.sum_prod_type]
    exact Finset.sum_congr rfl fun s _ => dif_pos s.isLt
  · have e : spot p.1.val p.1.isLt p.2 = finProdFinEquiv p := Fin.ext (by simp only [spot, finProdFinEquiv_apply_val]; omega)
    rw [e]

theorem arr5 : (dats m 0 c).arrAt 5 (cfgs 0).N = fun i : S2048x1024.Idx => whole (rowD m c (i 0)) (rowE m c (i 0)) (rowH m c (i 0)) (rowX m c (i 0)) (rowG m c) (i 1) := by
  refine (dats m 0 c).arrAt_eq_of_covers 5 _ (by decide +kernel) fun t hf y => ?_
  blk_simp
  rw [after0_5]
  idx_vars y
  have e0 : (win0_5.blk t).view.emb (ix2 y0 y1) 0 = spot t.val (four t) y0 := by
    refine Fin.ext ?_
    blk_simp [places t, spot]
    exact congrArg (· + _) (Nat.mul_comm _ _)
  have e1 : (win0_5.blk t).view.emb (ix2 y0 y1) 1 = y1 := by
    refine Fin.ext ?_
    blk_simp [places t]
  rw [e0, e1]
  exact left5_at t y0 y1

theorem arr6 : (dats m 0 c).arrAt 6 (cfgs 0).N = fun i : S1x1024.Idx => ∑ r : Fin 2048, gains (rowE m c r) (rowH m c r) (rowX m c r) (i 1) := by
  refine (dats m 0 c).arrAt_eq_of_covers 6 _ (by decide +kernel) fun t hf y => ?_
  have h3 : t.val = 3 := by
    have := (flush0_6 t).mp hf
    have := four t
    omega
  blk_simp
  rw [after0_6]
  idx_vars y
  have e1 : (win0_6.blk t).view.emb (ix2 y0 y1) 1 = y1 := by
    refine Fin.ext ?_
    blk_simp [places t]
  obtain rfl : y0 = 0 := Subsingleton.elim _ _
  refine (outs_at y1 _ _).trans ?_
  rw [e1, h3]
  exact sum_part y1

abbrev tailOps : List (HloOp τ sig (Elt Ideal)) := [hostOps1].flatten

theorem tail1_eq (W : Valuation τ sig (Elt Ideal)) : (StableHlo.after tailOps W (Proc.devRef .tc main_v2) : FVec Ideal S1024 .f32)
    = shapeCast S1024 (W (Proc.devRef .tc main_v1_1) : FVec Ideal S1x1024 .f32) shapeCasts_S1x1024_S1024 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : (dats m 0 c).arrAt 5 cfg0.N = fun i : S2048x1024.Idx => whole (rowD m c (i 0)) (rowE m c (i 0)) (rowH m c (i 0)) (rowX m c (i 0)) (rowG m c) (i 1) := arr5

theorem value1 : endOf m c main_v2 = fun i : S1024.Idx => ∑ r : Fin 2048, gains (rowE m c r) (rowH m c r) (rowX m c r) (i 0) := by
  refine (tail1_eq (after0 m c)).trans ?_
  rw [show after0 m c (Proc.devRef .tc main_v1_1) = _ from (left 6).trans arr6]
  funext i
  idx_vars i
  pointwise

end Cert.Kernel22Ideal.Body

namespace Cert.Join22

open Idealize.ShloMosaic Idealize.ShloMosaic.TcCoe Idealize.SL.Sem

/-- The reference runs no semaphore: every counter family over its signature is the zero one. -/
theorem no_counter (s : GSem Reference22Ideal.nD Reference22Ideal.τ Reference22Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference22Ideal (hReference22Ideal := Reference22Ideal.Gen.facts) := fun m ρ _ =>
  (θ_run Reference22Ideal.defs _ _).mono (fun r h => ⟨fun c => (h c).2.2, no_counter _⟩) (Reference22Ideal.Value.run m ρ)

/-- The kernel and the reference end with the same gradients. -/
theorem same : algebraic_Kernel22Ideal_Reference22Ideal (hKernel22Ideal := Kernel22Ideal.Gen.facts) (hReference22Ideal := Reference22Ideal.Gen.facts) := by
  intro m g m' g' _ ha
  refine ⟨fun c => (Kernel22Ideal.Gen.dats m 0 c).arrAt 5 Kernel22Ideal.cfg0.N, fun c => Kernel22Ideal.Body.endOf m c _,
    ?_, ?_⟩
  · refine (θ_run Kernel22Ideal.defs _ _).mono (fun r h c => ?_) (θ_run_and (Kernel22Ideal.Gen.run_main m g) (Kernel22Ideal.Gen.unchanged m g))
    exact ⟨(h.1 c).1 5, h.1.rest_eq c Kernel22Ideal.main_v2 (by decide), h.2 c⟩
  · refine (θ_run Reference22Ideal.defs _ _).mono (fun r h c => ?_) (Reference22Ideal.Value.run m' g')
    obtain ⟨h0, h1, hrest⟩ := h c
    obtain ⟨e0, e1, e2, e3, e4⟩ := ha c
    refine ⟨h0.trans ?_, h1.trans ?_, hrest⟩
    · refine Eq.trans ?_ Kernel22Ideal.Body.value0.symm
      unfold Reference22Ideal.Value.res_main_v37
      rw [e0, e1, e2, e3, e4]
      funext i
      idx_vars i
      pointwise [Kernel22Ideal.Body.whole, Norms.back, Norms.pull, Kernel22Ideal.Body.rowD, Kernel22Ideal.Body.rowE, Kernel22Ideal.Body.rowH, Kernel22Ideal.Body.rowX, Kernel22Ideal.Body.rowG, Norms.scl, Norms.mean, Norms.width, Norms.eps]
      simp only [Fin.sum_univ_one, add_assoc]
    · refine Eq.trans ?_ Kernel22Ideal.Body.value1.symm
      rw [e1, e2, e3]
      funext i
      idx_vars i
      pointwise [Kernel22Ideal.Body.gains, Norms.gain, Kernel22Ideal.Body.rowE, Kernel22Ideal.Body.rowH, Kernel22Ideal.Body.rowX, Norms.scl, Norms.mean, Norms.width, Norms.eps]
      simp only [Fin.sum_univ_one]

end Cert.Join22

end
-- ==== Proof.ScaleGrad.lean ====
module

public import proofs.«01_k».proof.Proof.Gen.Kernel23Ideal.Frame
public import proofs.«01_k».proof.Proof.Gen.Reference23Ideal.Run
public import proofs.«01_k».proof.Defs
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel23Ideal.Body

open Idealize.ShloMosaic Idealize.ShloMosaic.TcCoe Idealize.SL.Sem
open Cert.Kernel23Ideal Cert.Kernel23Ideal.Gen

theorem places : ∀ t : Fin grid0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] := by decide +kernel

variable {m : (ℓ : Loc nD τ sig) → Buf (Elt Ideal) ℓ} {c : Dev nD}

/-- The arguments at a device: the factor, the matrix and the gradient of their product, each as its real and its imaginary part. -/
abbrev aFr (m : (ℓ : Loc nD τ sig) → Buf (Elt Ideal) ℓ) (c : Dev nD) : FVec Ideal S32x64 .f32 := m ((c : Thread nD τ).loc main_arg0)
abbrev aFi (m : (ℓ : Loc nD τ sig) → Buf (Elt Ideal) ℓ) (c : Dev nD) : FVec Ideal S32x64 .f32 := m ((c : Thread nD τ).loc main_arg1)
abbrev aBr (m : (ℓ : Loc nD τ sig) → Buf (Elt Ideal) ℓ) (c : Dev nD) : FVec Ideal S32x64x16 .f32 := m ((c : Thread nD τ).loc main_arg2)
abbrev aBi (m : (ℓ : Loc nD τ sig) → Buf (Elt Ideal) ℓ) (c : Dev nD) : FVec Ideal S32x64x16 .f32 := m ((c : Thread nD τ).loc main_arg3)
abbrev aDr (m : (ℓ : Loc nD τ sig) → Buf (Elt Ideal) ℓ) (c : Dev nD) : FVec Ideal S32x64x16 .f32 := m ((c : Thread nD τ).loc main_arg4)
abbrev aDi (m : (ℓ : Loc nD τ sig) → Buf (Elt Ideal) ℓ) (c : Dev nD) : FVec Ideal S32x64x16 .f32 := m ((c : Thread nD τ).loc main_arg5)

/-- The row of the flattened array that state `p` of group `g` is. -/
def spot (g : Fin 32) (p : Fin 64) : Fin 2048 := ⟨64 * g.val + p.val, by omega⟩

/-- The group and the state of a row of the flattened array. -/
def grp (r : Fin 2048) : Fin 32 := ⟨r.val / 64, by omega⟩
def st (r : Fin 2048) : Fin 64 := ⟨r.val % 64, by omega⟩

theorem spot_grp (r : Fin 2048) : spot (grp r) (st r) = r := Fin.ext (by simp only [spot, grp, st]; omega)

theorem flat0_eq : (V m c main_v2 : FVec Ideal S2048x1 .f32) = shapeCast S2048x1 (aFr m c) shapeCasts_S32x64_S2048x1 := by
  unfold V V0
  simp only [List.flatten_cons, List.flatten_nil, List.append_nil, List.cons_append, List.nil_append]
  after_results_simp
  rfl

theorem flat1_eq : (V m c main_v3 : FVec Ideal S2048x1 .f32) = shapeCast S2048x1 (aFi m c) shapeCasts_S32x64_S2048x1 := by
  unfold V V0
  simp only [List.flatten_cons, List.flatten_nil, List.append_nil, List.cons_append, List.nil_append]
  after_results_simp
  rfl

theorem flat2_eq : (V m c main_v0 : FVec Ideal S2048x16 .f32) = shapeCast S2048x16 (aBr m c) shapeCasts_S32x64x16_S2048x16 := by
  unfold V V0
  simp only [List.flatten_cons, List.flatten_nil, List.append_nil, List.cons_append, List.nil_append]
  after_results_simp
  rfl

theorem flat3_eq : (V m c main_v1 : FVec Ideal S2048x16 .f32) = shapeCast S2048x16 (aBi m c) shapeCasts_S32x64x16_S2048x16 := by
  unfold V V0
  simp only [List.flatten_cons, List.flatten_nil, List.append_nil, List.cons_append, List.nil_append]
  after_results_simp
  rfl

theorem flat4_eq : (V m c main_v4 : FVec Ideal S2048x16 .f32) = shapeCast S2048x16 (aDr m c) shapeCasts_S32x64x16_S2048x16 := by
  unfold V V0
  simp only [List.flatten_cons, List.flatten_nil, List.append_nil, List.cons_append, List.nil_append]
  after_results_simp
  rfl

theorem flat5_eq : (V m c main_v5 : FVec Ideal S2048x16 .f32) = shapeCast S2048x16 (aDi m c) shapeCasts_S32x64x16_S2048x16 := by
  unfold V V0
  simp only [List.flatten_cons, List.flatten_nil, List.append_nil, List.cons_append, List.nil_append]
  after_results_simp
  rfl

theorem blk0_at (t : Fin grid0.N) (g : Fin 32) (p : Fin 64) :
    (iblk m c 0 t (ix2 (spot g p) (0 : Fin 1)) : EReal) = aFr m c (ix2 g p) := by
  refine Eq.trans (b := (V m c main_v2 : FVec Ideal S2048x1 .f32) (ix2 (spot g p) (0 : Fin 1))) ?_ ?_
  · blk_ext [iblk, places t]
  · rw [flat0_eq]
    pointwise [spot]

theorem blk1_at (t : Fin grid0.N) (g : Fin 32) (p : Fin 64) :
    (iblk m c 1 t (ix2 (spot g p) (0 : Fin 1)) : EReal) = aFi m c (ix2 g p) := by
  refine Eq.trans (b := (V m c main_v3 : FVec Ideal S2048x1 .f32) (ix2 (spot g p) (0 : Fin 1))) ?_ ?_
  · blk_ext [iblk, places t]
  · rw [flat1_eq]
    pointwise [spot]

theorem blk2_at (t : Fin grid0.N) (g : Fin 32) (p : Fin 64) (k : Fin 16) :
    (iblk m c 2 t (ix2 (spot g p) k) : EReal) = aBr m c (ix3 g p k) := by
  refine Eq.trans (b := (V m c main_v0 : FVec Ideal S2048x16 .f32) (ix2 (spot g p) k)) ?_ ?_
  · blk_ext [iblk, places t]
  · rw [flat2_eq]
    pointwise [spot]

theorem blk3_at (t : Fin grid0.N) (g : Fin 32) (p : Fin 64) (k : Fin 16) :
    (iblk m c 3 t (ix2 (spot g p) k) : EReal) = aBi m c (ix3 g p k) := by
  refine Eq.trans (b := (V m c main_v1 : FVec Ideal S2048x16 .f32) (ix2 (spot g p) k)) ?_ ?_
  · blk_ext [iblk, places t]
  · rw [flat3_eq]
    pointwise [spot]

theorem blk4_at (t : Fin grid0.N) (g : Fin 32) (p : Fin 64) (k : Fin 16) :
    (iblk m c 4 t (ix2 (spot g p) k) : EReal) = aDr m c (ix3 g p k) := by
  refine Eq.trans (b := (V m c main_v4 : FVec Ideal S2048x16 .f32) (ix2 (spot g p) k)) ?_ ?_
  · blk_ext [iblk, places t]
  · rw [flat4_eq]
    pointwise [spot]

theorem blk5_at (t : Fin grid0.N) (g : Fin 32) (p : Fin 64) (k : Fin 16) :
    (iblk m c 5 t (ix2 (spot g p) k) : EReal) = aDi m c (ix3 g p k) := by
  refine Eq.trans (b := (V m c main_v5 : FVec Ideal S2048x16 .f32) (ix2 (spot g p) k)) ?_ ?_
  · blk_ext [iblk, places t]
  · rw [flat5_eq]
    pointwise [spot]

section Out
variable (x0 x1 : Vec Ideal S2048x1 .f32) (x2 x3 x4 x5 : Vec Ideal S2048x16 .f32) (r : Fin 2048)

theorem out6_at (l : Fin 1) : (out0_6 x0 x1 x2 x3 x4 x5 (ix2 r l) : EReal)
    = (∑ k : Fin 16, (x5 (ix2 r k) : EReal) * x3 (ix2 r k)) + ∑ k : Fin 16, (x4 (ix2 r k) : EReal) * x2 (ix2 r k) := by
  unfold out0_6
  rw [View.canon_unit_zero (S := S2048x1) (by decide)]
  repeat rw [View.ld_unit_zero (S := S2048x1) (by decide)]
  repeat rw [View.ld_unit_zero (S := S2048x16) (by decide)]
  pointwise [k0_pay11, k0_pay6, k0_pay4, k0_pay5, k0_pay3]

theorem out7_at (l : Fin 1) : (out0_7 x0 x1 x2 x3 x4 x5 (ix2 r l) : EReal)
    = (∑ k : Fin 16, (x5 (ix2 r k) : EReal) * x2 (ix2 r k)) + ∑ k : Fin 16, -(x4 (ix2 r k) : EReal) * x3 (ix2 r k) := by
  unfold out0_7
  rw [View.canon_unit_zero (S := S2048x1) (by decide)]
  repeat rw [View.ld_unit_zero (S := S2048x1) (by decide)]
  repeat rw [View.ld_unit_zero (S := S2048x16) (by decide)]
  simp only [← zero_sub]
  pointwise [k0_pay9, k0_pay6, k0_pay4, k0_pay5, k0_pay3, k0_pay7]

theorem out8_at (l : Fin 16) : (out0_8 x0 x1 x2 x3 x4 x5 (ix2 r l) : EReal)
    = (x1 (ix2 r 0) : EReal) * x5 (ix2 r l) + x0 (ix2 r 0) * x4 (ix2 r l) := by
  unfold out0_8
  rw [View.canon_unit_zero (S := S2048x16) (by decide)]
  repeat rw [View.ld_unit_zero (S := S2048x1) (by decide)]
  repeat rw [View.ld_unit_zero (S := S2048x16) (by decide)]
  pointwise [k0_pay10, k0_pay1, k0_pay2, k0_pay5, k0_pay6]

theorem out9_at (l : Fin 16) : (out0_9 x0 x1 x2 x3 x4 x5 (ix2 r l) : EReal)
    = (x0 (ix2 r 0) : EReal) * x5 (ix2 r l) + x1 (ix2 r 0) * -(x4 (ix2 r l) : EReal) := by
  unfold out0_9
  rw [View.canon_unit_zero (S := S2048x16) (by decide)]
  repeat rw [View.ld_unit_zero (S := S2048x1) (by decide)]
  repeat rw [View.ld_unit_zero (S := S2048x16) (by decide)]
  simp only [← zero_sub]
  pointwise [k0_pay8, k0_pay1, k0_pay2, k0_pay5, k0_pay6, k0_pay7]

end Out

/-- The gradient of the factor's real part. -/
def gradFr (m : (ℓ : Loc nD τ sig) → Buf (Elt Ideal) ℓ) (c : Dev nD) (g : Fin 32) (p : Fin 64) : EReal :=
  (∑ k : Fin 16, (aDi m c (ix3 g p k) : EReal) * aBi m c (ix3 g p k)) + ∑ k : Fin 16, (aDr m c (ix3 g p k) : EReal) * aBr m c (ix3 g p k)

/-- The gradient of the factor's imaginary part. -/
def gradFi (m : (ℓ : Loc nD τ sig) → Buf (Elt Ideal) ℓ) (c : Dev nD) (g : Fin 32) (p : Fin 64) : EReal :=
  (∑ k : Fin 16, (aDi m c (ix3 g p k) : EReal) * aBr m c (ix3 g p k)) + ∑ k : Fin 16, -(aDr m c (ix3 g p k) : EReal) * aBi m c (ix3 g p k)

/-- The gradient of the matrix's real part. -/
def gradBr (m : (ℓ : Loc nD τ sig) → Buf (Elt Ideal) ℓ) (c : Dev nD) (g : Fin 32) (p : Fin 64) (l : Fin 16) : EReal :=
  (aFi m c (ix2 g p) : EReal) * aDi m c (ix3 g p l) + aFr m c (ix2 g p) * aDr m c (ix3 g p l)

/-- The gradient of the matrix's imaginary part. -/
def gradBi (m : (ℓ : Loc nD τ sig) → Buf (Elt Ideal) ℓ) (c : Dev nD) (g : Fin 32) (p : Fin 64) (l : Fin 16) : EReal :=
  (aFr m c (ix2 g p) : EReal) * aDi m c (ix3 g p l) + aFi m c (ix2 g p) * -(aDr m c (ix3 g p l) : EReal)

theorem after6_at (t : Fin grid0.N) (g : Fin 32) (p : Fin 64) (l : Fin 1) :
    ((dats m 0 c).after 6 t (ix2 (spot g p) l) : EReal) = gradFr m c g p := by
  rw [after0_6]
  refine (out6_at _ _ _ _ _ _ (spot g p) l).trans ?_
  simp only [gradFr, blk0_at, blk1_at, blk2_at, blk3_at, blk4_at, blk5_at]

theorem arr6 : (dats m 0 c).arrAt 6 (cfgs 0).N = fun i : S2048x1.Idx =>
    gradFr m c (grp (i 0)) (st (i 0)) := by
  refine (dats m 0 c).arrAt_eq_of_covers 6 _ (by decide +kernel) fun t hf y => ?_
  blk_simp
  idx_vars y
  have e0 : (win0_6.blk t).view.emb (ix2 y0 y1) 0 = y0 := by
    refine Fin.ext ?_
    blk_simp [places t]
  have e1 : (win0_6.blk t).view.emb (ix2 y0 y1) 1 = y1 := by
    refine Fin.ext ?_
    blk_simp [places t]
  have h := after6_at (m := m) (c := c) t (grp y0) (st y0) y1
  rw [spot_grp] at h
  refine h.trans ?_
  rw [e0]

theorem after7_at (t : Fin grid0.N) (g : Fin 32) (p : Fin 64) (l : Fin 1) :
    ((dats m 0 c).after 7 t (ix2 (spot g p) l) : EReal) = gradFi m c g p := by
  rw [after0_7]
  refine (out7_at _ _ _ _ _ _ (spot g p) l).trans ?_
  simp only [gradFi, blk0_at, blk1_at, blk2_at, blk3_at, blk4_at, blk5_at]

theorem arr7 : (dats m 0 c).arrAt 7 (cfgs 0).N = fun i : S2048x1.Idx =>
    gradFi m c (grp (i 0)) (st (i 0)) := by
  refine (dats m 0 c).arrAt_eq_of_covers 7 _ (by decide +kernel) fun t hf y => ?_
  blk_simp
  idx_vars y
  have e0 : (win0_7.blk t).view.emb (ix2 y0 y1) 0 = y0 := by
    refine Fin.ext ?_
    blk_simp [places t]
  have e1 : (win0_7.blk t).view.emb (ix2 y0 y1) 1 = y1 := by
    refine Fin.ext ?_
    blk_simp [places t]
  have h := after7_at (m := m) (c := c) t (grp y0) (st y0) y1
  rw [spot_grp] at h
  refine h.trans ?_
  rw [e0]

theorem after8_at (t : Fin grid0.N) (g : Fin 32) (p : Fin 64) (l : Fin 16) :
    ((dats m 0 c).after 8 t (ix2 (spot g p) l) : EReal) = gradBr m c g p l := by
  rw [after0_8]
  refine (out8_at _ _ _ _ _ _ (spot g p) l).trans ?_
  simp only [gradBr, blk0_at, blk1_at, blk2_at, blk3_at, blk4_at, blk5_at]

theorem arr8 : (dats m 0 c).arrAt 8 (cfgs 0).N = fun i : S2048x16.Idx =>
    gradBr m c (grp (i 0)) (st (i 0)) (i 1) := by
  refine (dats m 0 c).arrAt_eq_of_covers 8 _ (by decide +kernel) fun t hf y => ?_
  blk_simp
  idx_vars y
  have e0 : (win0_8.blk t).view.emb (ix2 y0 y1) 0 = y0 := by
    refine Fin.ext ?_
    blk_simp [places t]
  have e1 : (win0_8.blk t).view.emb (ix2 y0 y1) 1 = y1 := by
    refine Fin.ext ?_
    blk_simp [places t]
  have h := after8_at (m := m) (c := c) t (grp y0) (st y0) y1
  rw [spot_grp] at h
  refine h.trans ?_
  rw [e0, e1]

theorem after9_at (t : Fin grid0.N) (g : Fin 32) (p : Fin 64) (l : Fin 16) :
    ((dats m 0 c).after 9 t (ix2 (spot g p) l) : EReal) = gradBi m c g p l := by
  rw [after0_9]
  refine (out9_at _ _ _ _ _ _ (spot g p) l).trans ?_
  simp only [gradBi, blk0_at, blk1_at, blk2_at, blk3_at, blk4_at, blk5_at]

theorem arr9 : (dats m 0 c).arrAt 9 (cfgs 0).N = fun i : S2048x16.Idx =>
    gradBi m c (grp (i 0)) (st (i 0)) (i 1) := by
  refine (dats m 0 c).arrAt_eq_of_covers 9 _ (by decide +kernel) fun t hf y => ?_
  blk_simp
  idx_vars y
  have e0 : (win0_9.blk t).view.emb (ix2 y0 y1) 0 = y0 := by
    refine Fin.ext ?_
    blk_simp [places t]
  have e1 : (win0_9.blk t).view.emb (ix2 y0 y1) 1 = y1 := by
    refine Fin.ext ?_
    blk_simp [places t]
  have h := after9_at (m := m) (c := c) t (grp y0) (st y0) y1
  rw [spot_grp] at h
  refine h.trans ?_
  rw [e0, e1]

abbrev tailOps : List (HloOp τ sig (Elt Ideal)) := [hostOps1].flatten

theorem tail0_eq (W : Valuation τ sig (Elt Ideal)) : (StableHlo.after tailOps W (Proc.devRef .tc main_v7) : FVec Ideal S32x64 .f32)
    = shapeCast S32x64 (W (Proc.devRef .tc main_v6_0) : FVec Ideal S2048x1 .f32) shapeCasts_S2048x1_S32x64 := by
  unfold tailOps
  simp only [List.flatten_cons, List.flatten_nil, List.append_nil, List.cons_append, List.nil_append]
  after_results_simp
  rfl

theorem tail1_eq (W : Valuation τ sig (Elt Ideal)) : (StableHlo.after tailOps W (Proc.devRef .tc main_v8) : FVec Ideal S32x64 .f32)
    = shapeCast S32x64 (W (Proc.devRef .tc main_v6_1) : FVec Ideal S2048x1 .f32) shapeCasts_S2048x1_S32x64 := by
  unfold tailOps
  simp only [List.flatten_cons, List.flatten_nil, List.append_nil, List.cons_append, List.nil_append]
  after_results_simp
  rfl

theorem tail2_eq (W : Valuation τ sig (Elt Ideal)) : (StableHlo.after tailOps W (Proc.devRef .tc main_v9) : FVec Ideal S32x64x16 .f32)
    = shapeCast S32x64x16 (W (Proc.devRef .tc main_v6_2) : FVec Ideal S2048x16 .f32) shapeCasts_S2048x16_S32x64x16 := by
  unfold tailOps
  simp only [List.flatten_cons, List.flatten_nil, List.append_nil, List.cons_append, List.nil_append]
  after_results_simp
  rfl

theorem tail3_eq (W : Valuation τ sig (Elt Ideal)) : (StableHlo.after tailOps W (Proc.devRef .tc main_v10) : FVec Ideal S32x64x16 .f32)
    = shapeCast S32x64x16 (W (Proc.devRef .tc main_v6_3) : FVec Ideal S2048x16 .f32) shapeCasts_S2048x16_S32x64x16 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v7 = fun i : S32x64.Idx => gradFr m c (i 0) (i 1) := by
  refine (tail0_eq (after0 m c)).trans ?_
  rw [show after0 m c (Proc.devRef .tc main_v6_0) = _ from (left 6).trans arr6]
  funext i
  idx_vars i
  pointwise
  congr 1 <;> exact Fin.ext (by simp only [grp, st]; omega)

theorem value1 : endOf m c main_v8 = fun i : S32x64.Idx => gradFi m c (i 0) (i 1) := by
  refine (tail1_eq (after0 m c)).trans ?_
  rw [show after0 m c (Proc.devRef .tc main_v6_1) = _ from (left 7).trans arr7]
  funext i
  idx_vars i
  pointwise
  congr 1 <;> exact Fin.ext (by simp only [grp, st]; omega)

theorem value2 : endOf m c main_v9 = fun i : S32x64x16.Idx => gradBr m c (i 0) (i 1) (i 2) := by
  refine (tail2_eq (after0 m c)).trans ?_
  rw [show after0 m c (Proc.devRef .tc main_v6_2) = _ from (left 8).trans arr8]
  funext i
  idx_vars i
  pointwise
  congr 1 <;> exact Fin.ext (by simp only [grp, st]; omega)

theorem value3 : endOf m c main_v10 = fun i : S32x64x16.Idx => gradBi m c (i 0) (i 1) (i 2) := by
  refine (tail3_eq (after0 m c)).trans ?_
  rw [show after0 m c (Proc.devRef .tc main_v6_3) = _ from (left 9).trans arr9]
  funext i
  idx_vars i
  pointwise
  congr 1 <;> exact Fin.ext (by simp only [grp, st]; omega)

end Cert.Kernel23Ideal.Body

namespace Cert.Join23

open Idealize.ShloMosaic Idealize.ShloMosaic.TcCoe Idealize.SL.Sem

/-- The reference runs no semaphore: every counter family over its signature is the zero one. -/
theorem no_counter (s : GSem Reference23Ideal.nD Reference23Ideal.τ Reference23Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference23Ideal (hReference23Ideal := Reference23Ideal.Gen.facts) := fun m ρ _ =>
  (θ_run Reference23Ideal.defs _ _).mono (fun r h => ⟨fun c => (h c).2.2.2.2, no_counter _⟩) (Reference23Ideal.Value.run m ρ)

/-- The kernel and the reference end with the same gradients. -/
theorem same : algebraic_Kernel23Ideal_Reference23Ideal (hKernel23Ideal := Kernel23Ideal.Gen.facts) (hReference23Ideal := Reference23Ideal.Gen.facts) := by
  intro m g m' g' _ ha
  refine ⟨fun c => Kernel23Ideal.Body.endOf m c _, fun c => Kernel23Ideal.Body.endOf m c _, fun c => Kernel23Ideal.Body.endOf m c _, fun c => Kernel23Ideal.Body.endOf m c _,
    ?_, ?_⟩
  · refine (θ_run Kernel23Ideal.defs _ _).mono (fun r h c => ?_) (θ_run_and (Kernel23Ideal.Gen.run_main m g) (Kernel23Ideal.Gen.unchanged m g))
    exact ⟨h.1.rest_eq c Kernel23Ideal.main_v7 (by decide), h.1.rest_eq c Kernel23Ideal.main_v8 (by decide), h.1.rest_eq c Kernel23Ideal.main_v9 (by decide), h.1.rest_eq c Kernel23Ideal.main_v10 (by decide), h.2 c⟩
  · refine (θ_run Reference23Ideal.defs _ _).mono (fun r h c => ?_) (Reference23Ideal.Value.run m' g')
    obtain ⟨h0, h1, h2, h3, hrest⟩ := h c
    obtain ⟨e0, e1, e2, e3, e4, e5⟩ := ha c
    refine ⟨h0.trans ?_, h1.trans ?_, h2.trans ?_, h3.trans ?_, hrest⟩
    · refine Eq.trans ?_ Kernel23Ideal.Body.value0.symm
      rw [e2, e3, e4, e5]
      funext i
      idx_vars i
      pointwise [Kernel23Ideal.Body.gradFr]
      exact Fin.sum_univ_one _
    · refine Eq.trans ?_ Kernel23Ideal.Body.value1.symm
      rw [e2, e3, e4, e5]
      funext i
      idx_vars i
      pointwise [Kernel23Ideal.Body.gradFi]
      exact Fin.sum_univ_one _
    · refine Eq.trans ?_ Kernel23Ideal.Body.value2.symm
      rw [e0, e1, e4, e5]
      funext i
      idx_vars i
      pointwise [Kernel23Ideal.Body.gradBr]
    · refine Eq.trans ?_ Kernel23Ideal.Body.value3.symm
      rw [e0, e1, e4, e5]
      funext i
      idx_vars i
      pointwise [Kernel23Ideal.Body.gradBi]

end Cert.Join23

end
-- ==== Proof.DiscGrad.lean ====
module

public import proofs.«01_k».proof.Proof.Gen.Kernel24Ideal.Frame
public import proofs.«01_k».proof.Proof.Gen.Reference24Ideal.Run
public import proofs.«01_k».proof.Defs
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel24Ideal.Body

open Idealize.ShloMosaic Idealize.ShloMosaic.TcCoe Idealize.SL.Sem
open Cert.Kernel24Ideal Cert.Kernel24Ideal.Gen

theorem places : ∀ t : Fin grid0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] := by decide +kernel

variable {m : (ℓ : Loc nD τ sig) → Buf (Elt Ideal) ℓ} {c : Dev nD}

/-- The arguments at a device: the eigenvalues, the logarithm of the step and the gradients of the two discretised values. -/
abbrev aLr (m : (ℓ : Loc nD τ sig) → Buf (Elt Ideal) ℓ) (c : Dev nD) : FVec Ideal S32x64 .f32 := m ((c : Thread nD τ).loc main_arg0)
abbrev aLi (m : (ℓ : Loc nD τ sig) → Buf (Elt Ideal) ℓ) (c : Dev nD) : FVec Ideal S32x64 .f32 := m ((c : Thread nD τ).loc main_arg1)
abbrev aDt (m : (ℓ : Loc nD τ sig) → Buf (Elt Ideal) ℓ) (c : Dev nD) : FVec Ideal S32 .f32 := m ((c : Thread nD τ).loc main_arg2)
abbrev aEr (m : (ℓ : Loc nD τ sig) → Buf (Elt Ideal) ℓ) (c : Dev nD) : FVec Ideal S32x64 .f32 := m ((c : Thread nD τ).loc main_arg3)
abbrev aEi (m : (ℓ : Loc nD τ sig) → Buf (Elt Ideal) ℓ) (c : Dev nD) : FVec Ideal S32x64 .f32 := m ((c : Thread nD τ).loc main_arg4)
abbrev aFr (m : (ℓ : Loc nD τ sig) → Buf (Elt Ideal) ℓ) (c : Dev nD) : FVec Ideal S32x64 .f32 := m ((c : Thread nD τ).loc main_arg5)
abbrev aFi (m : (ℓ : Loc nD τ sig) → Buf (Elt Ideal) ℓ) (c : Dev nD) : FVec Ideal S32x64 .f32 := m ((c : Thread nD τ).loc main_arg6)

/-- The logarithm of the step as the call takes it. -/
def col (x : FVec Ideal S32 .f32) : FVec Ideal S32x1 .f32 := shapeCast S32x1 x shapeCasts_S32_S32x1

theorem in0_eq : (V m c main_arg0 : FVec Ideal S32x64 .f32) = aLr m c := by
  unfold V V0
  simp only [List.flatten_cons, List.flatten_nil, List.append_nil, List.cons_append, List.nil_append]
  after_results_simp

theorem in1_eq : (V m c main_arg1 : FVec Ideal S32x64 .f32) = aLi m c := by
  unfold V V0
  simp only [List.flatten_cons, List.flatten_nil, List.append_nil, List.cons_append, List.nil_append]
  after_results_simp

theorem in2_eq : (V m c main_v0 : FVec Ideal S32x1 .f32) = col (aDt m c) := by
  unfold V V0
  simp only [List.flatten_cons, List.flatten_nil, List.append_nil, List.cons_append, List.nil_append]
  after_results_simp
  rfl

theorem in3_eq : (V m c main_arg3 : FVec Ideal S32x64 .f32) = aEr m c := by
  unfold V V0
  simp only [List.flatten_cons, List.flatten_nil, List.append_nil, List.cons_append, List.nil_append]
  after_results_simp

theorem in4_eq : (V m c main_arg4 : FVec Ideal S32x64 .f32) = aEi m c := by
  unfold V V0
  simp only [List.flatten_cons, List.flatten_nil, List.append_nil, List.cons_append, List.nil_append]
  after_results_simp

theorem in5_eq : (V m c main_arg5 : FVec Ideal S32x64 .f32) = aFr m c := by
  unfold V V0
  simp only [List.flatten_cons, List.flatten_nil, List.append_nil, List.cons_append, List.nil_append]
  after_results_simp

theorem in6_eq : (V m c main_arg6 : FVec Ideal S32x64 .f32) = aFi m c := by
  unfold V V0
  simp only [List.flatten_cons, List.flatten_nil, List.append_nil, List.cons_append, List.nil_append]
  after_results_simp

theorem blk0 (t : Fin grid0.N) : (iblk m c 0 t : FVec Ideal S32x64 .f32) = aLr m c := by
  rw [← in0_eq]
  funext y
  idx_vars y
  blk_ext [iblk, places t]

theorem blk1 (t : Fin grid0.N) : (iblk m c 1 t : FVec Ideal S32x64 .f32) = aLi m c := by
  rw [← in1_eq]
  funext y
  idx_vars y
  blk_ext [iblk, places t]

theorem blk2 (t : Fin grid0.N) : (iblk m c 2 t : FVec Ideal S32x1 .f32) = col (aDt m c) := by
  rw [← in2_eq]
  funext y
  idx_vars y
  blk_ext [iblk, places t]

theorem blk3 (t : Fin grid0.N) : (iblk m c 3 t : FVec Ideal S32x64 .f32) = aEr m c := by
  rw [← in3_eq]
  funext y
  idx_vars y
  blk_ext [iblk, places t]

theorem blk4 (t : Fin grid0.N) : (iblk m c 4 t : FVec Ideal S32x64 .f32) = aEi m c := by
  rw [← in4_eq]
  funext y
  idx_vars y
  blk_ext [iblk, places t]

theorem blk5 (t : Fin grid0.N) : (iblk m c 5 t : FVec Ideal S32x64 .f32) = aFr m c := by
  rw [← in5_eq]
  funext y
  idx_vars y
  blk_ext [iblk, places t]

theorem blk6 (t : Fin grid0.N) : (iblk m c 6 t : FVec Ideal S32x64 .f32) = aFi m c := by
  rw [← in6_eq]
  funext y
  idx_vars y
  blk_ext [iblk, places t]

theorem arr7 : (dats m 0 c).arrAt 7 (cfgs 0).N = (out0_7 (F := Ideal) (aLr m c) (aLi m c) (col (aDt m c)) (aEr m c) (aEi m c) (aFr m c) (aFi m c) : FVec Ideal S32x64 .f32) := by
  refine (dats m 0 c).arrAt_eq_of_covers 7 _ (by decide +kernel) fun t hf y => ?_
  blk_simp
  rw [after0_7]
  idx_vars y
  have e : (win0_7.blk t).view.emb (ix2 y0 y1) = ix2 y0 y1 := by
    refine funext fun d => ?_
    match d with
    | 0 => exact Fin.ext (by blk_simp [places t])
    | 1 => exact Fin.ext (by blk_simp [places t])
  rw [e, blk0, blk1, blk2, blk3, blk4, blk5, blk6]

theorem arr8 : (dats m 0 c).arrAt 8 (cfgs 0).N = (out0_8 (F := Ideal) (aLr m c) (aLi m c) (col (aDt m c)) (aEr m c) (aEi m c) (aFr m c) (aFi m c) : FVec Ideal S32x64 .f32) := by
  refine (dats m 0 c).arrAt_eq_of_covers 8 _ (by decide +kernel) fun t hf y => ?_
  blk_simp
  rw [after0_8]
  idx_vars y
  have e : (win0_8.blk t).view.emb (ix2 y0 y1) = ix2 y0 y1 := by
    refine funext fun d => ?_
    match d with
    | 0 => exact Fin.ext (by blk_simp [places t])
    | 1 => exact Fin.ext (by blk_simp [places t])
  rw [e, blk0, blk1, blk2, blk3, blk4, blk5, blk6]

theorem arr9 : (dats m 0 c).arrAt 9 (cfgs 0).N = (out0_9 (F := Ideal) (aLr m c) (aLi m c) (col (aDt m c)) (aEr m c) (aEi m c) (aFr m c) (aFi m c) : FVec Ideal S32x1 .f32) := by
  refine (dats m 0 c).arrAt_eq_of_covers 9 _ (by decide +kernel) fun t hf y => ?_
  blk_simp
  rw [after0_9]
  idx_vars y
  have e : (win0_9.blk t).view.emb (ix2 y0 y1) = ix2 y0 y1 := by
    refine funext fun d => ?_
    match d with
    | 0 => exact Fin.ext (by blk_simp [places t])
    | 1 => exact Fin.ext (by blk_simp [places t])
  rw [e, blk0, blk1, blk2, blk3, blk4, blk5, blk6]

/-- What the body stores of output 0, its operands read whole. -/
def sum7 (x0 x1 : Vec Ideal S32x64 .f32) (x2 : Vec Ideal S32x1 .f32) (x3 x4 x5 x6 : Vec Ideal S32x64 .f32) : FVec Ideal S32x64 .f32 :=
  k0_pay5 (k0_pay7 x0) (k0_pay8 x2) (k0_pay9 x0 x2) (k0_pay11 x1 x2) (k0_pay26 x1 x3 x5 x6 (k0_pay6 x0) (k0_pay18 x0 x1)) (k0_pay28 x1 x5 x6 (k0_pay6 x0) (k0_pay13 x0 x1 x2) (k0_pay17 x0 x1 x2) (k0_pay18 x0 x1) (k0_pay19 x0 x1 x2)) (k0_pay29 x1 x4 x5 x6 (k0_pay6 x0) (k0_pay15 x1 x2) (k0_pay18 x0 x1))

theorem out7_eq (x0 x1 : Vec Ideal S32x64 .f32) (x2 : Vec Ideal S32x1 .f32) (x3 x4 x5 x6 : Vec Ideal S32x64 .f32) :
    out0_7 x0 x1 x2 x3 x4 x5 x6 = sum7 x0 x1 x2 x3 x4 x5 x6 := by
  unfold_out out0_7
  rw [View.canon_unit_zero (S := S32x64) (by decide)]
  repeat rw [View.ld_unit_zero (S := S32x64) (by decide)]
  repeat rw [View.ld_unit_zero (S := S32x1) (by decide)]
  rfl

/-- What the body stores of output 1, its operands read whole. -/
def sum8 (x0 x1 : Vec Ideal S32x64 .f32) (x2 : Vec Ideal S32x1 .f32) (x3 x4 x5 x6 : Vec Ideal S32x64 .f32) : FVec Ideal S32x64 .f32 :=
  k0_pay2 (k0_pay8 x2) (k0_pay9 x0 x2) (k0_pay12 x1 x2) (k0_pay26 x1 x3 x5 x6 (k0_pay6 x0) (k0_pay18 x0 x1)) (k0_pay27 x1 x5 x6 (k0_pay6 x0) (k0_pay13 x0 x1 x2) (k0_pay17 x0 x1 x2) (k0_pay18 x0 x1) (k0_pay19 x0 x1 x2)) (k0_pay30 x1 x4 x5 x6 (k0_pay6 x0) (k0_pay9 x0 x2) (k0_pay16 x1 x2) (k0_pay18 x0 x1))

theorem out8_eq (x0 x1 : Vec Ideal S32x64 .f32) (x2 : Vec Ideal S32x1 .f32) (x3 x4 x5 x6 : Vec Ideal S32x64 .f32) :
    out0_8 x0 x1 x2 x3 x4 x5 x6 = sum8 x0 x1 x2 x3 x4 x5 x6 := by
  unfold_out out0_8
  rw [View.canon_unit_zero (S := S32x64) (by decide)]
  repeat rw [View.ld_unit_zero (S := S32x64) (by decide)]
  repeat rw [View.ld_unit_zero (S := S32x1) (by decide)]
  rfl

/-- What the body stores of output 2, its operands read whole. -/
def sum9 (x0 x1 : Vec Ideal S32x64 .f32) (x2 : Vec Ideal S32x1 .f32) (x3 x4 x5 x6 : Vec Ideal S32x64 .f32) : FVec Ideal S32x1 .f32 :=
  k0_pay4 x1 (k0_pay6 x0) (k0_pay8 x2) (k0_pay9 x0 x2) (k0_pay11 x1 x2) (k0_pay12 x1 x2) (k0_pay26 x1 x3 x5 x6 (k0_pay6 x0) (k0_pay18 x0 x1)) (k0_pay29 x1 x4 x5 x6 (k0_pay6 x0) (k0_pay15 x1 x2) (k0_pay18 x0 x1)) (k0_pay31 x1 x4 x5 x6 (k0_pay6 x0) (k0_pay9 x0 x2) (k0_pay16 x1 x2) (k0_pay18 x0 x1))

theorem out9_eq (x0 x1 : Vec Ideal S32x64 .f32) (x2 : Vec Ideal S32x1 .f32) (x3 x4 x5 x6 : Vec Ideal S32x64 .f32) :
    out0_9 x0 x1 x2 x3 x4 x5 x6 = sum9 x0 x1 x2 x3 x4 x5 x6 := by
  unfold_out out0_9
  rw [View.canon_unit_zero (S := S32x1) (by decide)]
  repeat rw [View.ld_unit_zero (S := S32x64) (by decide)]
  repeat rw [View.ld_unit_zero (S := S32x1) (by decide)]
  rfl

abbrev tailOps : List (HloOp τ sig (Elt Ideal)) := [hostOps1].flatten

theorem tail2_eq (W : Valuation τ sig (Elt Ideal)) : (StableHlo.after tailOps W (Proc.devRef .tc main_v2) : FVec Ideal S32 .f32)
    = shapeCast S32 (W (Proc.devRef .tc main_v1_2) : FVec Ideal S32x1 .f32) shapeCasts_S32x1_S32 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : (dats m 0 c).arrAt 7 (cfgs 0).N = (out0_7 (F := Ideal) (aLr m c) (aLi m c) (col (aDt m c)) (aEr m c) (aEi m c) (aFr m c) (aFi m c) : FVec Ideal S32x64 .f32) := arr7

theorem value1 : (dats m 0 c).arrAt 8 (cfgs 0).N = (out0_8 (F := Ideal) (aLr m c) (aLi m c) (col (aDt m c)) (aEr m c) (aEi m c) (aFr m c) (aFi m c) : FVec Ideal S32x64 .f32) := arr8

theorem value2 : endOf m c main_v2 = (shapeCast S32 (out0_9 (F := Ideal) (aLr m c) (aLi m c) (col (aDt m c)) (aEr m c) (aEi m c) (aFr m c) (aFi m c) : FVec Ideal S32x1 .f32) shapeCasts_S32x1_S32 : FVec Ideal S32 .f32) := by
  refine (tail2_eq (after0 m c)).trans ?_
  rw [show after0 m c (Proc.devRef .tc main_v1_2) = _ from (left 9).trans arr9]

end Cert.Kernel24Ideal.Body

namespace Cert.Join24

open Idealize.ShloMosaic Idealize.ShloMosaic.TcCoe Idealize.SL.Sem

/-- The reference runs no semaphore: every counter family over its signature is the zero one. -/
theorem no_counter (s : GSem Reference24Ideal.nD Reference24Ideal.τ Reference24Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference24Ideal (hReference24Ideal := Reference24Ideal.Gen.facts) := fun m ρ _ =>
  (θ_run Reference24Ideal.defs _ _).mono (fun r h => ⟨fun c => (h c).2.2.2, no_counter _⟩) (Reference24Ideal.Value.run m ρ)

open Reference24Ideal Reference24Ideal.Gen in
theorem match0 (x0 x1 : FVec Ideal S32x64 .f32) (x2 : FVec Ideal S32 .f32) (x3 x4 x5 x6 : FVec Ideal S32x64 .f32) (r : Fin 32) (l : Fin 64)
    (n : (ℓ : Loc nD τ sig) → Buf (Elt Ideal) ℓ) (c : Dev nD) (e0 : n ((c.tc : Thread nD τ).loc main_arg0) = x0) (e1 : n ((c.tc : Thread nD τ).loc main_arg1) = x1) (e2 : n ((c.tc : Thread nD τ).loc main_arg2) = x2) (e3 : n ((c.tc : Thread nD τ).loc main_arg3) = x3) (e4 : n ((c.tc : Thread nD τ).loc main_arg4) = x4) (e5 : n ((c.tc : Thread nD τ).loc main_arg5) = x5) (e6 : n ((c.tc : Thread nD τ).loc main_arg6) = x6) :
    ((Value.res_main_v110 n c : FVec Ideal S32x64 .f32) (ix2 r l) : EReal)
      = (Kernel24Ideal.Gen.out0_7 (F := Ideal) x0 x1 (Kernel24Ideal.Body.col x2) x3 x4 x5 x6 : FVec Ideal S32x64 .f32) (ix2 r l) := by
  unfold Value.res_main_v110
  rw [e0, e1, e2, e3, e4, e5, e6]
  rw [Kernel24Ideal.Body.out7_eq]
  pointwise [Kernel24Ideal.Body.sum7, Kernel24Ideal.Body.col, Kernel24Ideal.Gen.k0_pay1, Kernel24Ideal.Gen.k0_pay2, Kernel24Ideal.Gen.k0_pay3, Kernel24Ideal.Gen.k0_pay4, Kernel24Ideal.Gen.k0_pay5, Kernel24Ideal.Gen.k0_pay6, Kernel24Ideal.Gen.k0_pay7, Kernel24Ideal.Gen.k0_pay8, Kernel24Ideal.Gen.k0_pay9, Kernel24Ideal.Gen.k0_pay10, Kernel24Ideal.Gen.k0_pay11, Kernel24Ideal.Gen.k0_pay12, Kernel24Ideal.Gen.k0_pay13, Kernel24Ideal.Gen.k0_pay14, Kernel24Ideal.Gen.k0_pay15, Kernel24Ideal.Gen.k0_pay16, Kernel24Ideal.Gen.k0_pay17, Kernel24Ideal.Gen.k0_pay18, Kernel24Ideal.Gen.k0_pay19, Kernel24Ideal.Gen.k0_pay20, Kernel24Ideal.Gen.k0_pay21, Kernel24Ideal.Gen.k0_pay22, Kernel24Ideal.Gen.k0_pay23, Kernel24Ideal.Gen.k0_pay24, Kernel24Ideal.Gen.k0_pay25, Kernel24Ideal.Gen.k0_pay26, Kernel24Ideal.Gen.k0_pay27, Kernel24Ideal.Gen.k0_pay28, Kernel24Ideal.Gen.k0_pay29, Kernel24Ideal.Gen.k0_pay30, Kernel24Ideal.Gen.k0_pay31]
  simp only [zero_sub]

open Reference24Ideal Reference24Ideal.Gen in
theorem match1 (x0 x1 : FVec Ideal S32x64 .f32) (x2 : FVec Ideal S32 .f32) (x3 x4 x5 x6 : FVec Ideal S32x64 .f32) (r : Fin 32) (l : Fin 64)
    (n : (ℓ : Loc nD τ sig) → Buf (Elt Ideal) ℓ) (c : Dev nD) (e0 : n ((c.tc : Thread nD τ).loc main_arg0) = x0) (e1 : n ((c.tc : Thread nD τ).loc main_arg1) = x1) (e2 : n ((c.tc : Thread nD τ).loc main_arg2) = x2) (e3 : n ((c.tc : Thread nD τ).loc main_arg3) = x3) (e4 : n ((c.tc : Thread nD τ).loc main_arg4) = x4) (e5 : n ((c.tc : Thread nD τ).loc main_arg5) = x5) (e6 : n ((c.tc : Thread nD τ).loc main_arg6) = x6) :
    ((Value.res_main_v99 n c : FVec Ideal S32x64 .f32) (ix2 r l) : EReal)
      = (Kernel24Ideal.Gen.out0_8 (F := Ideal) x0 x1 (Kernel24Ideal.Body.col x2) x3 x4 x5 x6 : FVec Ideal S32x64 .f32) (ix2 r l) := by
  unfold Value.res_main_v99
  rw [e0, e1, e2, e3, e4, e5, e6]
  rw [Kernel24Ideal.Body.out8_eq]
  pointwise [Kernel24Ideal.Body.sum8, Kernel24Ideal.Body.col, Kernel24Ideal.Gen.k0_pay1, Kernel24Ideal.Gen.k0_pay2, Kernel24Ideal.Gen.k0_pay3, Kernel24Ideal.Gen.k0_pay4, Kernel24Ideal.Gen.k0_pay5, Kernel24Ideal.Gen.k0_pay6, Kernel24Ideal.Gen.k0_pay7, Kernel24Ideal.Gen.k0_pay8, Kernel24Ideal.Gen.k0_pay9, Kernel24Ideal.Gen.k0_pay10, Kernel24Ideal.Gen.k0_pay11, Kernel24Ideal.Gen.k0_pay12, Kernel24Ideal.Gen.k0_pay13, Kernel24Ideal.Gen.k0_pay14, Kernel24Ideal.Gen.k0_pay15, Kernel24Ideal.Gen.k0_pay16, Kernel24Ideal.Gen.k0_pay17, Kernel24Ideal.Gen.k0_pay18, Kernel24Ideal.Gen.k0_pay19, Kernel24Ideal.Gen.k0_pay20, Kernel24Ideal.Gen.k0_pay21, Kernel24Ideal.Gen.k0_pay22, Kernel24Ideal.Gen.k0_pay23, Kernel24Ideal.Gen.k0_pay24, Kernel24Ideal.Gen.k0_pay25, Kernel24Ideal.Gen.k0_pay26, Kernel24Ideal.Gen.k0_pay27, Kernel24Ideal.Gen.k0_pay28, Kernel24Ideal.Gen.k0_pay29, Kernel24Ideal.Gen.k0_pay30, Kernel24Ideal.Gen.k0_pay31]
  simp only [zero_sub]

open Reference24Ideal Reference24Ideal.Gen in
theorem match2 (x0 x1 : FVec Ideal S32x64 .f32) (x2 : FVec Ideal S32 .f32) (x3 x4 x5 x6 : FVec Ideal S32x64 .f32) (r : Fin 32)
    (n : (ℓ : Loc nD τ sig) → Buf (Elt Ideal) ℓ) (c : Dev nD) (e0 : n ((c.tc : Thread nD τ).loc main_arg0) = x0) (e1 : n ((c.tc : Thread nD τ).loc main_arg1) = x1) (e2 : n ((c.tc : Thread nD τ).loc main_arg2) = x2) (e3 : n ((c.tc : Thread nD τ).loc main_arg3) = x3) (e4 : n ((c.tc : Thread nD τ).loc main_arg4) = x4) (e5 : n ((c.tc : Thread nD τ).loc main_arg5) = x5) (e6 : n ((c.tc : Thread nD τ).loc main_arg6) = x6) :
    ((Value.res_main_v109 n c : FVec Ideal S32 .f32) (ix1 r) : EReal)
      = (shapeCast S32 (Kernel24Ideal.Gen.out0_9 (F := Ideal) x0 x1 (Kernel24Ideal.Body.col x2) x3 x4 x5 x6 : FVec Ideal S32x1 .f32) Kernel24Ideal.Gen.shapeCasts_S32x1_S32 : FVec Ideal S32 .f32) (ix1 r) := by
  unfold Value.res_main_v109
  rw [e0, e1, e2, e3, e4, e5, e6]
  rw [Kernel24Ideal.Body.out9_eq]
  pointwise [Kernel24Ideal.Body.sum9, Kernel24Ideal.Body.col, Kernel24Ideal.Gen.k0_pay1, Kernel24Ideal.Gen.k0_pay2, Kernel24Ideal.Gen.k0_pay3, Kernel24Ideal.Gen.k0_pay4, Kernel24Ideal.Gen.k0_pay5, Kernel24Ideal.Gen.k0_pay6, Kernel24Ideal.Gen.k0_pay7, Kernel24Ideal.Gen.k0_pay8, Kernel24Ideal.Gen.k0_pay9, Kernel24Ideal.Gen.k0_pay10, Kernel24Ideal.Gen.k0_pay11, Kernel24Ideal.Gen.k0_pay12, Kernel24Ideal.Gen.k0_pay13, Kernel24Ideal.Gen.k0_pay14, Kernel24Ideal.Gen.k0_pay15, Kernel24Ideal.Gen.k0_pay16, Kernel24Ideal.Gen.k0_pay17, Kernel24Ideal.Gen.k0_pay18, Kernel24Ideal.Gen.k0_pay19, Kernel24Ideal.Gen.k0_pay20, Kernel24Ideal.Gen.k0_pay21, Kernel24Ideal.Gen.k0_pay22, Kernel24Ideal.Gen.k0_pay23, Kernel24Ideal.Gen.k0_pay24, Kernel24Ideal.Gen.k0_pay25, Kernel24Ideal.Gen.k0_pay26, Kernel24Ideal.Gen.k0_pay27, Kernel24Ideal.Gen.k0_pay28, Kernel24Ideal.Gen.k0_pay29, Kernel24Ideal.Gen.k0_pay30, Kernel24Ideal.Gen.k0_pay31]
  simp only [zero_sub, Fin.sum_univ_one]

/-- The kernel and the reference end with the same gradients. -/
theorem same : algebraic_Kernel24Ideal_Reference24Ideal (hKernel24Ideal := Kernel24Ideal.Gen.facts) (hReference24Ideal := Reference24Ideal.Gen.facts) := by
  intro m g m' g' _ ha
  refine ⟨fun c => (Kernel24Ideal.Gen.dats m 0 c).arrAt 7 Kernel24Ideal.cfg0.N, fun c => (Kernel24Ideal.Gen.dats m 0 c).arrAt 8 Kernel24Ideal.cfg0.N, fun c => Kernel24Ideal.Body.endOf m c _,
    ?_, ?_⟩
  · refine (θ_run Kernel24Ideal.defs _ _).mono (fun r h c => ?_) (θ_run_and (Kernel24Ideal.Gen.run_main m g) (Kernel24Ideal.Gen.unchanged m g))
    exact ⟨(h.1 c).1 7, (h.1 c).1 8, h.1.rest_eq c Kernel24Ideal.main_v2 (by decide), h.2 c⟩
  · refine (θ_run Reference24Ideal.defs _ _).mono (fun r h c => ?_) (Reference24Ideal.Value.run m' g')
    obtain ⟨h0, h1, h2, hrest⟩ := h c
    obtain ⟨e0, e1, e2, e3, e4, e5, e6⟩ := ha c
    refine ⟨h0.trans ?_, h1.trans ?_, h2.trans ?_, hrest⟩
    · refine Eq.trans ?_ Kernel24Ideal.Body.value0.symm
      funext i
      idx_vars i
      exact match0 _ _ _ _ _ _ _ _ _ m' c e0 e1 e2 e3 e4 e5 e6
    · refine Eq.trans ?_ Kernel24Ideal.Body.value1.symm
      funext i
      idx_vars i
      exact match1 _ _ _ _ _ _ _ _ _ m' c e0 e1 e2 e3 e4 e5 e6
    · refine Eq.trans ?_ Kernel24Ideal.Body.value2.symm
      funext i
      idx_vars i
      exact match2 _ _ _ _ _ _ _ _ m' c e0 e1 e2 e3 e4 e5 e6

end Cert.Join24

end
-- ==== Proof.Disc.lean ====
module

public import proofs.«01_k».proof.Proof.Gen.Kernel25Ideal.Frame
public import proofs.«01_k».proof.Proof.Gen.Reference25Ideal.Run
public import proofs.«01_k».proof.Defs
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel25Ideal.Body

open Idealize.ShloMosaic Idealize.ShloMosaic.TcCoe Idealize.SL.Sem
open Cert.Kernel25Ideal Cert.Kernel25Ideal.Gen

theorem places : ∀ t : Fin grid0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by decide +kernel

/-- The constant that bounds the real part of the eigenvalue, as the programs hold it. -/
def cap : EReal := Ideal.ofBits .f32 0xB8D1B717#32

/-- The discretised eigenvalue and the input factor at one entry: the eigenvalue is `x + i y`, the step's logarithm `d`. -/
def low (x : EReal) : EReal := min x cap
def expR (x y d : EReal) : EReal := Ideal.exp (low x * Ideal.exp d) * Ideal.cos (y * Ideal.exp d)
def expI (x y d : EReal) : EReal := Ideal.exp (low x * Ideal.exp d) * Ideal.sin (y * Ideal.exp d)
def size (x y : EReal) : EReal := low x * low x + y * y
def facR (x y d : EReal) : EReal := Ideal.div ((expR x y d - 1) * low x + expI x y d * y) (size x y)
def facI (x y d : EReal) : EReal := Ideal.div (expI x y d * low x - (expR x y d - 1) * y) (size x y)

theorem out3_at (x0 : Vec Ideal S32x64 .f32) (x1 : Vec Ideal S32x64 .f32) (x2 : Vec Ideal S32x1 .f32) (r : Fin 32) (l : Fin 64) :
    (out0_3 x0 x1 x2 (ix2 r l) : EReal) = expR (x0 (ix2 r l)) (x1 (ix2 r l)) (x2 (ix2 r 0)) := by
  unfold out0_3
  rw [View.canon_unit_zero (S := S32x64) (by decide)]
  repeat rw [View.ld_unit_zero (S := S32x64) (by decide)]
  repeat rw [View.ld_unit_zero (S := S32x1) (by decide)]
  pointwise [k0_pay1, k0_pay2, k0_pay3, k0_pay4, k0_pay5, k0_pay6, k0_pay7, k0_pay8, facR, facI, expR, expI, size, low, cap]

theorem out4_at (x0 : Vec Ideal S32x64 .f32) (x1 : Vec Ideal S32x64 .f32) (x2 : Vec Ideal S32x1 .f32) (r : Fin 32) (l : Fin 64) :
    (out0_4 x0 x1 x2 (ix2 r l) : EReal) = expI (x0 (ix2 r l)) (x1 (ix2 r l)) (x2 (ix2 r 0)) := by
  unfold out0_4
  rw [View.canon_unit_zero (S := S32x64) (by decide)]
  repeat rw [View.ld_unit_zero (S := S32x64) (by decide)]
  repeat rw [View.ld_unit_zero (S := S32x1) (by decide)]
  pointwise [k0_pay1, k0_pay2, k0_pay3, k0_pay4, k0_pay5, k0_pay6, k0_pay7, k0_pay8, facR, facI, expR, expI, size, low, cap]

theorem out5_at (x0 : Vec Ideal S32x64 .f32) (x1 : Vec Ideal S32x64 .f32) (x2 : Vec Ideal S32x1 .f32) (r : Fin 32) (l : Fin 64) :
    (out0_5 x0 x1 x2 (ix2 r l) : EReal) = facR (x0 (ix2 r l)) (x1 (ix2 r l)) (x2 (ix2 r 0)) := by
  unfold out0_5
  rw [View.canon_unit_zero (S := S32x64) (by decide)]
  repeat rw [View.ld_unit_zero (S := S32x64) (by decide)]
  repeat rw [View.ld_unit_zero (S := S32x1) (by decide)]
  pointwise [k0_pay1, k0_pay2, k0_pay3, k0_pay4, k0_pay5, k0_pay6, k0_pay7, k0_pay8, facR, facI, expR, expI, size, low, cap]

theorem out6_at (x0 : Vec Ideal S32x64 .f32) (x1 : Vec Ideal S32x64 .f32) (x2 : Vec Ideal S32x1 .f32) (r : Fin 32) (l : Fin 64) :
    (out0_6 x0 x1 x2 (ix2 r l) : EReal) = facI (x0 (ix2 r l)) (x1 (ix2 r l)) (x2 (ix2 r 0)) := by
  unfold out0_6
  rw [View.canon_unit_zero (S := S32x64) (by decide)]
  repeat rw [View.ld_unit_zero (S := S32x64) (by decide)]
  repeat rw [View.ld_unit_zero (S := S32x1) (by decide)]
  pointwise [k0_pay1, k0_pay2, k0_pay3, k0_pay4, k0_pay5, k0_pay6, k0_pay7, k0_pay8, facR, facI, expR, expI, size, low, cap]

variable {m : (ℓ : Loc nD τ sig) → Buf (Elt Ideal) ℓ} {c : Dev nD}

/-- The arguments at a device: the eigenvalues and the logarithm of the step. -/
abbrev aLr (m : (ℓ : Loc nD τ sig) → Buf (Elt Ideal) ℓ) (c : Dev nD) : FVec Ideal S32x64 .f32 := m ((c : Thread nD τ).loc main_arg0)
abbrev aLi (m : (ℓ : Loc nD τ sig) → Buf (Elt Ideal) ℓ) (c : Dev nD) : FVec Ideal S32x64 .f32 := m ((c : Thread nD τ).loc main_arg1)
abbrev aDt (m : (ℓ : Loc nD τ sig) → Buf (Elt Ideal) ℓ) (c : Dev nD) : FVec Ideal S32 .f32 := m ((c : Thread nD τ).loc main_arg2)

/-- The logarithm of the step as the call takes it. -/
def col (x : FVec Ideal S32 .f32) : FVec Ideal S32x1 .f32 := shapeCast S32x1 x shapeCasts_S32_S32x1

theorem col_at (x : FVec Ideal S32 .f32) (r : Fin 32) : (col x (ix2 r 0) : EReal) = x (ix1 r) := by
  pointwise [col]

theorem in0_eq : (V m c main_arg0 : FVec Ideal S32x64 .f32) = aLr m c := by
  unfold V
  after_results_simp

theorem in1_eq : (V m c main_arg1 : FVec Ideal S32x64 .f32) = aLi m c := by
  unfold V
  after_results_simp

theorem in2_eq : (V m c main_v0 : FVec Ideal S32x1 .f32) = col (aDt m c) := by
  unfold V
  after_results_simp
  rfl

theorem blk0_at (t : Fin grid0.N) (r : Fin 32) (k : Fin 64) : (iblk m c 0 t (ix2 r k) : EReal) = aLr m c (ix2 r k) := by
  rw [← in0_eq]
  blk_ext [iblk, places t]

theorem blk1_at (t : Fin grid0.N) (r : Fin 32) (k : Fin 64) : (iblk m c 1 t (ix2 r k) : EReal) = aLi m c (ix2 r k) := by
  rw [← in1_eq]
  blk_ext [iblk, places t]

theorem blk2_at (t : Fin grid0.N) (r : Fin 32) : (iblk m c 2 t (ix2 r 0) : EReal) = aDt m c (ix1 r) := by
  rw [← col_at (aDt m c), ← in2_eq]
  blk_ext [iblk, places t]

theorem arr3 : (dats m 0 c).arrAt 3 (cfgs 0).N = fun i : S32x64.Idx => expR (aLr m c (ix2 (i 0) (i 1))) (aLi m c (ix2 (i 0) (i 1))) (aDt m c (ix1 (i 0))) := by
  refine (dats m 0 c).arrAt_eq_of_covers 3 _ (by decide +kernel) fun t hf y => ?_
  blk_simp
  rw [after0_3]
  idx_vars y
  have e0 : (win0_3.blk t).view.emb (ix2 y0 y1) 0 = y0 := by
    refine Fin.ext ?_
    blk_simp [places t]
  have e1 : (win0_3.blk t).view.emb (ix2 y0 y1) 1 = y1 := by
    refine Fin.ext ?_
    blk_simp [places t]
  refine (out3_at (iblk m c 0 t) (iblk m c 1 t) (iblk m c 2 t) y0 y1).trans ?_
  rw [e0, e1]
  simp only [blk0_at, blk1_at, blk2_at]

theorem arr4 : (dats m 0 c).arrAt 4 (cfgs 0).N = fun i : S32x64.Idx => expI (aLr m c (ix2 (i 0) (i 1))) (aLi m c (ix2 (i 0) (i 1))) (aDt m c (ix1 (i 0))) := by
  refine (dats m 0 c).arrAt_eq_of_covers 4 _ (by decide +kernel) fun t hf y => ?_
  blk_simp
  rw [after0_4]
  idx_vars y
  have e0 : (win0_4.blk t).view.emb (ix2 y0 y1) 0 = y0 := by
    refine Fin.ext ?_
    blk_simp [places t]
  have e1 : (win0_4.blk t).view.emb (ix2 y0 y1) 1 = y1 := by
    refine Fin.ext ?_
    blk_simp [places t]
  refine (out4_at (iblk m c 0 t) (iblk m c 1 t) (iblk m c 2 t) y0 y1).trans ?_
  rw [e0, e1]
  simp only [blk0_at, blk1_at, blk2_at]

theorem arr5 : (dats m 0 c).arrAt 5 (cfgs 0).N = fun i : S32x64.Idx => facR (aLr m c (ix2 (i 0) (i 1))) (aLi m c (ix2 (i 0) (i 1))) (aDt m c (ix1 (i 0))) := by
  refine (dats m 0 c).arrAt_eq_of_covers 5 _ (by decide +kernel) fun t hf y => ?_
  blk_simp
  rw [after0_5]
  idx_vars y
  have e0 : (win0_5.blk t).view.emb (ix2 y0 y1) 0 = y0 := by
    refine Fin.ext ?_
    blk_simp [places t]
  have e1 : (win0_5.blk t).view.emb (ix2 y0 y1) 1 = y1 := by
    refine Fin.ext ?_
    blk_simp [places t]
  refine (out5_at (iblk m c 0 t) (iblk m c 1 t) (iblk m c 2 t) y0 y1).trans ?_
  rw [e0, e1]
  simp only [blk0_at, blk1_at, blk2_at]

theorem arr6 : (dats m 0 c).arrAt 6 (cfgs 0).N = fun i : S32x64.Idx => facI (aLr m c (ix2 (i 0) (i 1))) (aLi m c (ix2 (i 0) (i 1))) (aDt m c (ix1 (i 0))) := by
  refine (dats m 0 c).arrAt_eq_of_covers 6 _ (by decide +kernel) fun t hf y => ?_
  blk_simp
  rw [after0_6]
  idx_vars y
  have e0 : (win0_6.blk t).view.emb (ix2 y0 y1) 0 = y0 := by
    refine Fin.ext ?_
    blk_simp [places t]
  have e1 : (win0_6.blk t).view.emb (ix2 y0 y1) 1 = y1 := by
    refine Fin.ext ?_
    blk_simp [places t]
  refine (out6_at (iblk m c 0 t) (iblk m c 1 t) (iblk m c 2 t) y0 y1).trans ?_
  rw [e0, e1]
  simp only [blk0_at, blk1_at, blk2_at]

theorem value0 : (dats m 0 c).arrAt 3 cfg0.N = fun i : S32x64.Idx => expR (aLr m c (ix2 (i 0) (i 1))) (aLi m c (ix2 (i 0) (i 1))) (aDt m c (ix1 (i 0))) := arr3

theorem value1 : (dats m 0 c).arrAt 4 cfg0.N = fun i : S32x64.Idx => expI (aLr m c (ix2 (i 0) (i 1))) (aLi m c (ix2 (i 0) (i 1))) (aDt m c (ix1 (i 0))) := arr4

theorem value2 : (dats m 0 c).arrAt 5 cfg0.N = fun i : S32x64.Idx => facR (aLr m c (ix2 (i 0) (i 1))) (aLi m c (ix2 (i 0) (i 1))) (aDt m c (ix1 (i 0))) := arr5

theorem value3 : (dats m 0 c).arrAt 6 cfg0.N = fun i : S32x64.Idx => facI (aLr m c (ix2 (i 0) (i 1))) (aLi m c (ix2 (i 0) (i 1))) (aDt m c (ix1 (i 0))) := arr6

end Cert.Kernel25Ideal.Body

namespace Cert.Join25

open Idealize.ShloMosaic Idealize.ShloMosaic.TcCoe Idealize.SL.Sem

/-- The reference runs no semaphore: every counter family over its signature is the zero one. -/
theorem no_counter (s : GSem Reference25Ideal.nD Reference25Ideal.τ Reference25Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference25Ideal (hReference25Ideal := Reference25Ideal.Gen.facts) := fun m ρ _ =>
  (θ_run Reference25Ideal.defs _ _).mono (fun r h => ⟨fun c => (h c).2.2.2.2, no_counter _⟩) (Reference25Ideal.Value.run m ρ)

/-- The kernel and the reference end with the same values. -/
theorem same : algebraic_Kernel25Ideal_Reference25Ideal (hKernel25Ideal := Kernel25Ideal.Gen.facts) (hReference25Ideal := Reference25Ideal.Gen.facts) := by
  intro m g m' g' _ ha
  refine ⟨fun c => (Kernel25Ideal.Gen.dats m 0 c).arrAt 3 Kernel25Ideal.cfg0.N, fun c => (Kernel25Ideal.Gen.dats m 0 c).arrAt 4 Kernel25Ideal.cfg0.N, fun c => (Kernel25Ideal.Gen.dats m 0 c).arrAt 5 Kernel25Ideal.cfg0.N, fun c => (Kernel25Ideal.Gen.dats m 0 c).arrAt 6 Kernel25Ideal.cfg0.N,
    ?_, ?_⟩
  · refine (θ_run Kernel25Ideal.defs _ _).mono (fun r h c => ?_) (θ_run_and (Kernel25Ideal.Gen.run_main m g) (Kernel25Ideal.Gen.unchanged m g))
    exact ⟨(h.1 c).1 3, (h.1 c).1 4, (h.1 c).1 5, (h.1 c).1 6, h.2 c⟩
  · refine (θ_run Reference25Ideal.defs _ _).mono (fun r h c => ?_) (Reference25Ideal.Value.run m' g')
    obtain ⟨h0, h1, h2, h3, hrest⟩ := h c
    obtain ⟨e0, e1, e2⟩ := ha c
    refine ⟨h0.trans ?_, h1.trans ?_, h2.trans ?_, h3.trans ?_, hrest⟩
    · refine Eq.trans ?_ Kernel25Ideal.Body.value0.symm
      rw [e0, e1, e2]
      funext i
      idx_vars i
      pointwise [Kernel25Ideal.Body.facR, Kernel25Ideal.Body.facI, Kernel25Ideal.Body.expR, Kernel25Ideal.Body.expI, Kernel25Ideal.Body.size, Kernel25Ideal.Body.low, Kernel25Ideal.Body.cap]
    · refine Eq.trans ?_ Kernel25Ideal.Body.value1.symm
      rw [e0, e1, e2]
      funext i
      idx_vars i
      pointwise [Kernel25Ideal.Body.facR, Kernel25Ideal.Body.facI, Kernel25Ideal.Body.expR, Kernel25Ideal.Body.expI, Kernel25Ideal.Body.size, Kernel25Ideal.Body.low, Kernel25Ideal.Body.cap]
    · refine Eq.trans ?_ Kernel25Ideal.Body.value2.symm
      rw [e0, e1, e2]
      funext i
      idx_vars i
      pointwise [Kernel25Ideal.Body.facR, Kernel25Ideal.Body.facI, Kernel25Ideal.Body.expR, Kernel25Ideal.Body.expI, Kernel25Ideal.Body.size, Kernel25Ideal.Body.low, Kernel25Ideal.Body.cap]
    · refine Eq.trans ?_ Kernel25Ideal.Body.value3.symm
      rw [e0, e1, e2]
      funext i
      idx_vars i
      pointwise [Kernel25Ideal.Body.facR, Kernel25Ideal.Body.facI, Kernel25Ideal.Body.expR, Kernel25Ideal.Body.expI, Kernel25Ideal.Body.size, Kernel25Ideal.Body.low, Kernel25Ideal.Body.cap]

end Cert.Join25

end
-- ==== Proof.Scale.lean ====
module

public import proofs.«01_k».proof.Proof.Gen.Kernel26Ideal.Frame
public import proofs.«01_k».proof.Proof.Gen.Reference26Ideal.Run
public import proofs.«01_k».proof.Defs
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel26Ideal.Body

open Idealize.ShloMosaic Idealize.ShloMosaic.TcCoe Idealize.SL.Sem
open Cert.Kernel26Ideal Cert.Kernel26Ideal.Gen

theorem places : ∀ t : Fin grid0.N,
    win0_0.index t = ![0, 0] ∧ win0_1.index t = ![0, 0] ∧ win0_2.index t = ![0, 0] ∧ win0_3.index t = ![0, 0] ∧ win0_4.index t = ![0, 0] ∧ win0_5.index t = ![0, 0] := by decide +kernel

theorem out4_at (x0 : Vec Ideal S2048x1 .f32) (x1 : Vec Ideal S2048x1 .f32) (x2 : Vec Ideal S2048x16 .f32) (x3 : Vec Ideal S2048x16 .f32) (r : Fin 2048) (l : Fin 16) :
    (out0_4 x0 x1 x2 x3 (ix2 r l) : EReal) = (x0 (ix2 r 0) : EReal) * x2 (ix2 r l) - x1 (ix2 r 0) * x3 (ix2 r l) := by
  unfold out0_4
  rw [View.canon_unit_zero (S := S2048x16) (by decide)]
  repeat rw [View.ld_unit_zero (S := S2048x1) (by decide)]
  repeat rw [View.ld_unit_zero (S := S2048x16) (by decide)]
  pointwise [k0_pay1, k0_pay2, k0_pay3, k0_pay4, k0_pay5]

theorem out5_at (x0 : Vec Ideal S2048x1 .f32) (x1 : Vec Ideal S2048x1 .f32) (x2 : Vec Ideal S2048x16 .f32) (x3 : Vec Ideal S2048x16 .f32) (r : Fin 2048) (l : Fin 16) :
    (out0_5 x0 x1 x2 x3 (ix2 r l) : EReal) = (x0 (ix2 r 0) : EReal) * x3 (ix2 r l) + x1 (ix2 r 0) * x2 (ix2 r l) := by
  unfold out0_5
  rw [View.canon_unit_zero (S := S2048x16) (by decide)]
  repeat rw [View.ld_unit_zero (S := S2048x1) (by decide)]
  repeat rw [View.ld_unit_zero (S := S2048x16) (by decide)]
  pointwise [k0_pay1, k0_pay2, k0_pay3, k0_pay4, k0_pay6]

variable {m : (ℓ : Loc nD τ sig) → Buf (Elt Ideal) ℓ} {c : Dev nD}

/-- The arguments at a device: the factor and the matrix, each as its real and its imaginary part. -/
abbrev aFr (m : (ℓ : Loc nD τ sig) → Buf (Elt Ideal) ℓ) (c : Dev nD) : FVec Ideal S32x64 .f32 := m ((c : Thread nD τ).loc main_arg0)
abbrev aFi (m : (ℓ : Loc nD τ sig) → Buf (Elt Ideal) ℓ) (c : Dev nD) : FVec Ideal S32x64 .f32 := m ((c : Thread nD τ).loc main_arg1)
abbrev aBr (m : (ℓ : Loc nD τ sig) → Buf (Elt Ideal) ℓ) (c : Dev nD) : FVec Ideal S32x64x16 .f32 := m ((c : Thread nD τ).loc main_arg2)
abbrev aBi (m : (ℓ : Loc nD τ sig) → Buf (Elt Ideal) ℓ) (c : Dev nD) : FVec Ideal S32x64x16 .f32 := m ((c : Thread nD τ).loc main_arg3)

/-- The row of the flattened array that state `p` of group `g` is. -/
def spot (g : Fin 32) (p : Fin 64) : Fin 2048 := ⟨64 * g.val + p.val, by omega⟩

/-- The group and the state of a row of the flattened array. -/
def grp (r : Fin 2048) : Fin 32 := ⟨r.val / 64, by omega⟩
def st (r : Fin 2048) : Fin 64 := ⟨r.val % 64, by omega⟩

theorem spot_grp (r : Fin 2048) : spot (grp r) (st r) = r := Fin.ext (by simp only [spot, grp, st]; omega)

theorem flat0_eq : (V m c main_v0 : FVec Ideal S2048x1 .f32) = shapeCast S2048x1 (aFr m c) shapeCasts_S32x64_S2048x1 := by
  unfold V V0
  simp only [List.flatten_cons, List.flatten_nil, List.append_nil, List.cons_append, List.nil_append]
  after_results_simp
  rfl

theorem flat1_eq : (V m c main_v1 : FVec Ideal S2048x1 .f32) = shapeCast S2048x1 (aFi m c) shapeCasts_S32x64_S2048x1 := by
  unfold V V0
  simp only [List.flatten_cons, List.flatten_nil, List.append_nil, List.cons_append, List.nil_append]
  after_results_simp
  rfl

theorem flat2_eq : (V m c main_v2 : FVec Ideal S2048x16 .f32) = shapeCast S2048x16 (aBr m c) shapeCasts_S32x64x16_S2048x16 := by
  unfold V V0
  simp only [List.flatten_cons, List.flatten_nil, List.append_nil, List.cons_append, List.nil_append]
  after_results_simp
  rfl

theorem flat3_eq : (V m c main_v3 : FVec Ideal S2048x16 .f32) = shapeCast S2048x16 (aBi m c) shapeCasts_S32x64x16_S2048x16 := by
  unfold V V0
  simp only [List.flatten_cons, List.flatten_nil, List.append_nil, List.cons_append, List.nil_append]
  after_results_simp
  rfl

theorem blk0_at (t : Fin grid0.N) (g : Fin 32) (p : Fin 64) :
    (iblk m c 0 t (ix2 (spot g p) (0 : Fin 1)) : EReal) = aFr m c (ix2 g p) := by
  refine Eq.trans (b := (V m c main_v0 : FVec Ideal S2048x1 .f32) (ix2 (spot g p) (0 : Fin 1))) ?_ ?_
  · blk_ext [iblk, places t]
  · rw [flat0_eq]
    pointwise [spot]

theorem blk1_at (t : Fin grid0.N) (g : Fin 32) (p : Fin 64) :
    (iblk m c 1 t (ix2 (spot g p) (0 : Fin 1)) : EReal) = aFi m c (ix2 g p) := by
  refine Eq.trans (b := (V m c main_v1 : FVec Ideal S2048x1 .f32) (ix2 (spot g p) (0 : Fin 1))) ?_ ?_
  · blk_ext [iblk, places t]
  · rw [flat1_eq]
    pointwise [spot]

theorem blk2_at (t : Fin grid0.N) (g : Fin 32) (p : Fin 64) (k : Fin 16) :
    (iblk m c 2 t (ix2 (spot g p) k) : EReal) = aBr m c (ix3 g p k) := by
  refine Eq.trans (b := (V m c main_v2 : FVec Ideal S2048x16 .f32) (ix2 (spot g p) k)) ?_ ?_
  · blk_ext [iblk, places t]
  · rw [flat2_eq]
    pointwise [spot]

theorem blk3_at (t : Fin grid0.N) (g : Fin 32) (p : Fin 64) (k : Fin 16) :
    (iblk m c 3 t (ix2 (spot g p) k) : EReal) = aBi m c (ix3 g p k) := by
  refine Eq.trans (b := (V m c main_v3 : FVec Ideal S2048x16 .f32) (ix2 (spot g p) k)) ?_ ?_
  · blk_ext [iblk, places t]
  · rw [flat3_eq]
    pointwise [spot]

/-- The real and the imaginary part of the product of the factor and the matrix. -/
def prodR (m : (ℓ : Loc nD τ sig) → Buf (Elt Ideal) ℓ) (c : Dev nD) (g : Fin 32) (p : Fin 64) (l : Fin 16) : EReal :=
  (aFr m c (ix2 g p) : EReal) * aBr m c (ix3 g p l) - aFi m c (ix2 g p) * aBi m c (ix3 g p l)
def prodI (m : (ℓ : Loc nD τ sig) → Buf (Elt Ideal) ℓ) (c : Dev nD) (g : Fin 32) (p : Fin 64) (l : Fin 16) : EReal :=
  (aFr m c (ix2 g p) : EReal) * aBi m c (ix3 g p l) + aFi m c (ix2 g p) * aBr m c (ix3 g p l)

theorem after4_at (t : Fin grid0.N) (g : Fin 32) (p : Fin 64) (l : Fin 16) :
    ((dats m 0 c).after 4 t (ix2 (spot g p) l) : EReal) = prodR m c g p l := by
  rw [after0_4]
  refine (out4_at (iblk m c 0 t) (iblk m c 1 t) (iblk m c 2 t) (iblk m c 3 t) (spot g p) l).trans ?_
  simp only [prodR, blk0_at, blk1_at, blk2_at, blk3_at]

theorem arr4 : (dats m 0 c).arrAt 4 (cfgs 0).N = fun i : S2048x16.Idx => prodR m c (grp (i 0)) (st (i 0)) (i 1) := by
  refine (dats m 0 c).arrAt_eq_of_covers 4 _ (by decide +kernel) fun t hf y => ?_
  blk_simp
  idx_vars y
  have e0 : (win0_4.blk t).view.emb (ix2 y0 y1) 0 = y0 := by
    refine Fin.ext ?_
    blk_simp [places t]
  have e1 : (win0_4.blk t).view.emb (ix2 y0 y1) 1 = y1 := by
    refine Fin.ext ?_
    blk_simp [places t]
  have h := after4_at (m := m) (c := c) t (grp y0) (st y0) y1
  rw [spot_grp] at h
  refine h.trans ?_
  rw [e0, e1]

theorem after5_at (t : Fin grid0.N) (g : Fin 32) (p : Fin 64) (l : Fin 16) :
    ((dats m 0 c).after 5 t (ix2 (spot g p) l) : EReal) = prodI m c g p l := by
  rw [after0_5]
  refine (out5_at (iblk m c 0 t) (iblk m c 1 t) (iblk m c 2 t) (iblk m c 3 t) (spot g p) l).trans ?_
  simp only [prodI, blk0_at, blk1_at, blk2_at, blk3_at]

theorem arr5 : (dats m 0 c).arrAt 5 (cfgs 0).N = fun i : S2048x16.Idx => prodI m c (grp (i 0)) (st (i 0)) (i 1) := by
  refine (dats m 0 c).arrAt_eq_of_covers 5 _ (by decide +kernel) fun t hf y => ?_
  blk_simp
  idx_vars y
  have e0 : (win0_5.blk t).view.emb (ix2 y0 y1) 0 = y0 := by
    refine Fin.ext ?_
    blk_simp [places t]
  have e1 : (win0_5.blk t).view.emb (ix2 y0 y1) 1 = y1 := by
    refine Fin.ext ?_
    blk_simp [places t]
  have h := after5_at (m := m) (c := c) t (grp y0) (st y0) y1
  rw [spot_grp] at h
  refine h.trans ?_
  rw [e0, e1]

abbrev tailOps : List (HloOp τ sig (Elt Ideal)) := [hostOps1].flatten

theorem tail0_eq (W : Valuation τ sig (Elt Ideal)) : (StableHlo.after tailOps W (Proc.devRef .tc main_v5) : FVec Ideal S32x64x16 .f32)
    = shapeCast S32x64x16 (W (Proc.devRef .tc main_v4_0) : FVec Ideal S2048x16 .f32) shapeCasts_S2048x16_S32x64x16 := by
  unfold tailOps
  simp only [List.flatten_cons, List.flatten_nil, List.append_nil, List.cons_append, List.nil_append]
  after_results_simp
  rfl

theorem tail1_eq (W : Valuation τ sig (Elt Ideal)) : (StableHlo.after tailOps W (Proc.devRef .tc main_v6) : FVec Ideal S32x64x16 .f32)
    = shapeCast S32x64x16 (W (Proc.devRef .tc main_v4_1) : FVec Ideal S2048x16 .f32) shapeCasts_S2048x16_S32x64x16 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v5 = fun i : S32x64x16.Idx => prodR m c (i 0) (i 1) (i 2) := by
  refine (tail0_eq (after0 m c)).trans ?_
  rw [show after0 m c (Proc.devRef .tc main_v4_0) = _ from (left 4).trans arr4]
  funext i
  idx_vars i
  pointwise
  congr 1 <;> exact Fin.ext (by simp only [grp, st]; omega)

theorem value1 : endOf m c main_v6 = fun i : S32x64x16.Idx => prodI m c (i 0) (i 1) (i 2) := by
  refine (tail1_eq (after0 m c)).trans ?_
  rw [show after0 m c (Proc.devRef .tc main_v4_1) = _ from (left 5).trans arr5]
  funext i
  idx_vars i
  pointwise
  congr 1 <;> exact Fin.ext (by simp only [grp, st]; omega)

end Cert.Kernel26Ideal.Body

namespace Cert.Join26

open Idealize.ShloMosaic Idealize.ShloMosaic.TcCoe Idealize.SL.Sem

/-- The reference runs no semaphore: every counter family over its signature is the zero one. -/
theorem no_counter (s : GSem Reference26Ideal.nD Reference26Ideal.τ Reference26Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference26Ideal (hReference26Ideal := Reference26Ideal.Gen.facts) := fun m ρ _ =>
  (θ_run Reference26Ideal.defs _ _).mono (fun r h => ⟨fun c => (h c).2.2, no_counter _⟩) (Reference26Ideal.Value.run m ρ)

/-- The kernel and the reference end with the same products. -/
theorem same : algebraic_Kernel26Ideal_Reference26Ideal (hKernel26Ideal := Kernel26Ideal.Gen.facts) (hReference26Ideal := Reference26Ideal.Gen.facts) := by
  intro m g m' g' _ ha
  refine ⟨fun c => Kernel26Ideal.Body.endOf m c _, fun c => Kernel26Ideal.Body.endOf m c _,
    ?_, ?_⟩
  · refine (θ_run Kernel26Ideal.defs _ _).mono (fun r h c => ?_) (θ_run_and (Kernel26Ideal.Gen.run_main m g) (Kernel26Ideal.Gen.unchanged m g))
    exact ⟨h.1.rest_eq c Kernel26Ideal.main_v5 (by decide), h.1.rest_eq c Kernel26Ideal.main_v6 (by decide), h.2 c⟩
  · refine (θ_run Reference26Ideal.defs _ _).mono (fun r h c => ?_) (Reference26Ideal.Value.run m' g')
    obtain ⟨h0, h1, hrest⟩ := h c
    obtain ⟨e0, e1, e2, e3⟩ := ha c
    refine ⟨h0.trans ?_, h1.trans ?_, hrest⟩
    · refine Eq.trans ?_ Kernel26Ideal.Body.value0.symm
      rw [e0, e1, e2, e3]
      funext i
      idx_vars i
      pointwise [Kernel26Ideal.Body.prodR]
    · refine Eq.trans ?_ Kernel26Ideal.Body.value1.symm
      rw [e0, e1, e2, e3]
      funext i
      idx_vars i
      pointwise [Kernel26Ideal.Body.prodI]

end Cert.Join26

end
-- ==== Proof.PreNormF.lean ====
module

public import proofs.«01_k».proof.Proof.Gen.Kernel27Ideal.Frame
public import proofs.«01_k».proof.Proof.Gen.Reference27Ideal.Run
public import proofs.«01_k».proof.Defs
public import proofs.«01_k».proof.Proof.Norms
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel27Ideal.Body

open Idealize.ShloMosaic Idealize.ShloMosaic.TcCoe Idealize.SL.Sem
open Cert.Kernel27Ideal Cert.Kernel27Ideal.Gen Cert.Norms

theorem places : ∀ t : Fin grid0.N,
    win0_0.index t = ![t.val, 0] ∧ win0_1.index t = ![0, 0] ∧ win0_2.index t = ![t.val, 0] := by decide +kernel

/-- The normalised row at one entry. -/
def normed (x g : Fin 1024 → EReal) (l : Fin 1024) : EReal := x l * scl x * g l

theorem out2_at (x0 : Vec Ideal S512x1024 .f32) (x1 : Vec Ideal S1x1024 .f32) (r : Fin 512) (l : Fin 1024) :
    (out0_2 x0 x1 (ix2 r l) : EReal) = normed (fun k => x0 (ix2 r k)) (fun k => x1 (ix2 0 k)) l := by
  unfold out0_2
  rw [View.canon_unit_zero (S := S512x1024) (by decide)]
  repeat rw [View.ld_unit_zero (S := S512x1024) (by decide)]
  repeat rw [View.ld_unit_zero (S := S1x1024) (by decide)]
  pointwise [k0_pay1, normed, scl, mean, width, eps]

variable {m : (ℓ : Loc nD τ sig) → Buf (Elt Ideal) ℓ} {c : Dev nD}

/-- The arguments at a device: the rows and the gain. -/
abbrev aX (m : (ℓ : Loc nD τ sig) → Buf (Elt Ideal) ℓ) (c : Dev nD) : FVec Ideal S2048x1024 .f32 := m ((c : Thread nD τ).loc main_arg0)
abbrev aG (m : (ℓ : Loc nD τ sig) → Buf (Elt Ideal) ℓ) (c : Dev nD) : FVec Ideal S1024 .f32 := m ((c : Thread nD τ).loc main_arg1)

/-- A row over the features, as the call takes it. -/
def line (x : FVec Ideal S1024 .f32) : FVec Ideal S1x1024 .f32 := shapeCast S1x1024 x shapeCasts_S1024_S1x1024

theorem line_at (x : FVec Ideal S1024 .f32) (k : Fin 1024) : (line x (ix2 0 k) : EReal) = x (ix1 k) := by
  pointwise [line]

theorem x_eq : (V m c main_arg0 : FVec Ideal S2048x1024 .f32) = aX m c := by
  unfold V V0
  simp only [List.flatten_cons, List.flatten_nil, List.append_nil, List.cons_append, List.nil_append]
  after_results_simp

theorem g_eq : (V m c main_v0 : FVec Ideal S1x1024 .f32) = line (aG m c) := by
  unfold V V0
  simp only [List.flatten_cons, List.flatten_nil, List.append_nil, List.cons_append, List.nil_append]
  after_results_simp
  rfl

theorem four (t : Fin grid0.N) : t.val < 4 := lt_of_lt_of_eq t.isLt N_0

/-- The row that row `r` of block `t` is. -/
def spot (t : Fin grid0.N) (r : Fin 512) : Fin 2048 := ⟨512 * t.val + r.val, by have := four t; omega⟩

theorem blk0_at (t : Fin grid0.N) (r : Fin 512) (k : Fin 1024) : (iblk m c 0 t (ix2 r k) : EReal) = aX m c (ix2 (spot t r) k) := by
  rw [← x_eq]
  blk_ext [iblk, places t, spot]

theorem blk1_at (t : Fin grid0.N) (k : Fin 1024) : (iblk m c 1 t (ix2 0 k) : EReal) = aG m c (ix1 k) := by
  rw [← line_at (aG m c), ← g_eq]
  blk_ext [iblk, places t]

theorem arr2 : (dats m 0 c).arrAt 2 (cfgs 0).N = fun i : S2048x1024.Idx => normed (fun k => aX m c (ix2 (i 0) k)) (fun k => aG m c (ix1 k)) (i 1) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out2_at (iblk m c 0 t) (iblk m c 1 t) y0 y1).trans ?_
  rw [e0, e1]
  simp only [blk0_at, blk1_at]

abbrev tailOps : List (HloOp τ sig (Elt Ideal)) := [hostOps1].flatten

theorem tail0_eq (W : Valuation τ sig (Elt Ideal)) : (StableHlo.after tailOps W (Proc.devRef .tc main_v2) : FVec Ideal S2048x1024 .f32)
    = extf (F := Ideal) .f32 (W (Proc.devRef .tc main_v1) : FVec Ideal S2048x1024 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v2 = fun i : S2048x1024.Idx => normed (fun k => aX m c (ix2 (i 0) k)) (fun k => aG m c (ix1 k)) (i 1) := by
  refine (tail0_eq (after0 m c)).trans ?_
  rw [show after0 m c (Proc.devRef .tc main_v1) = _ from (left 2).trans arr2]
  rfl

end Cert.Kernel27Ideal.Body

namespace Cert.Join27

open Idealize.ShloMosaic Idealize.ShloMosaic.TcCoe Idealize.SL.Sem

/-- The reference runs no semaphore: every counter family over its signature is the zero one. -/
theorem no_counter (s : GSem Reference27Ideal.nD Reference27Ideal.τ Reference27Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference27Ideal (hReference27Ideal := Reference27Ideal.Gen.facts) := fun m ρ _ =>
  (θ_run Reference27Ideal.defs _ _).mono (fun r h => ⟨fun c => (h c).2, no_counter _⟩) (Reference27Ideal.Value.run m ρ)

/-- The kernel and the reference end with the same rows. -/
theorem same : algebraic_Kernel27Ideal_Reference27Ideal (hKernel27Ideal := Kernel27Ideal.Gen.facts) (hReference27Ideal := Reference27Ideal.Gen.facts) := by
  intro m g m' g' _ ha
  refine ⟨fun c => Kernel27Ideal.Body.endOf m c _,
    ?_, ?_⟩
  · refine (θ_run Kernel27Ideal.defs _ _).mono (fun r h c => ?_) (θ_run_and (Kernel27Ideal.Gen.run_main m g) (Kernel27Ideal.Gen.unchanged m g))
    exact ⟨h.1.rest_eq c Kernel27Ideal.main_v2 (by decide), h.2 c⟩
  · refine (θ_run Reference27Ideal.defs _ _).mono (fun r h c => ?_) (Reference27Ideal.Value.run m' g')
    obtain ⟨h0, hrest⟩ := h c
    obtain ⟨e0, e1⟩ := ha c
    refine ⟨h0.trans ?_, hrest⟩
    · refine Eq.trans ?_ Kernel27Ideal.Body.value0.symm
      rw [e0, e1]
      funext i
      idx_vars i
      pointwise [Kernel27Ideal.Body.normed, Norms.scl, Norms.mean, Norms.width, Norms.eps]

end Cert.Join27

end
-- ==== Proof.ActF.lean ====
module

public import proofs.«01_k».proof.Proof.Gen.Kernel28Ideal.Frame
public import proofs.«01_k».proof.Proof.Gen.Reference28Ideal.Run
public import proofs.«01_k».proof.Defs
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel28Ideal.Body

open Idealize.ShloMosaic Idealize.ShloMosaic.TcCoe Idealize.SL.Sem
open Cert.Kernel28Ideal Cert.Kernel28Ideal.Gen Cert.Order

theorem places : ∀ t : Fin grid0.N,
    win0_0.index t = ![t.val, 0] ∧ win0_1.index t = ![t.val, 0] ∧ win0_2.index t = ![0, 0] ∧ win0_3.index t = ![t.val, 0] := by decide +kernel

/-- The constants of the activation, as the programs hold them. -/
def half : EReal := Ideal.ofBits .f32 0x3F000000#32
def root : EReal := Ideal.ofBits .f32 0x3F4C422A#32
def cub : EReal := Ideal.ofBits .f32 0x3D372713#32

/-- The activation. -/
def act (x : EReal) : EReal := x * (half * (1 + Ideal.tanh (root * (x + cub * (x * x * x)))))

theorem act_eq (x : EReal) : half * x * (1 + Ideal.tanh (root * (x + cub * (x * x * x)))) = act x := by
  rw [act, mul_comm half x, mul_assoc]

/-- The activated value at one entry: the summand and the skipped input. -/
def bent (y u s : EReal) : EReal := act (y + s * u)

theorem out3_at (x0 : Vec Ideal S512x512 .f32) (x1 : Vec Ideal S512x512 .f32) (x2 : Vec Ideal S1x512 .f32) (r : Fin 512) (l : Fin 512) :
    (out0_3 x0 x1 x2 (ix2 r l) : EReal) = bent (x0 (ix2 r l)) (x1 (ix2 r l)) (x2 (ix2 0 l)) := by
  rw [bent, ← act_eq]
  unfold out0_3
  rw [View.canon_unit_zero (S := S512x512) (by decide)]
  repeat rw [View.ld_unit_zero (S := S512x512) (by decide)]
  repeat rw [View.ld_unit_zero (S := S1x512) (by decide)]
  pointwise [k0_pay1, half, root, cub]

variable {m : (ℓ : Loc nD τ sig) → Buf (Elt Ideal) ℓ} {c : Dev nD}

/-- The arguments at a device: the summand, the projection that holds the skipped input and the factor. -/
abbrev aY (m : (ℓ : Loc nD τ sig) → Buf (Elt Ideal) ℓ) (c : Dev nD) : FVec Ideal S2048x512 .f32 := m ((c : Thread nD τ).loc main_arg0)
abbrev aU (m : (ℓ : Loc nD τ sig) → Buf (Elt Ideal) ℓ) (c : Dev nD) : FVec Ideal S2048x8192 .f32 := m ((c : Thread nD τ).loc main_arg1)
abbrev aB (m : (ℓ : Loc nD τ sig) → Buf (Elt Ideal) ℓ) (c : Dev nD) : FVec Ideal S512 .f32 := m ((c : Thread nD τ).loc main_arg2)

/-- A row over the features, as the call takes it. -/
def line (x : FVec Ideal S512 .f32) : FVec Ideal S1x512 .f32 := shapeCast S1x512 x shapeCasts_S512_S1x512

theorem line_at (x : FVec Ideal S512 .f32) (k : Fin 512) : (line x (ix2 0 k) : EReal) = x (ix1 k) := by
  pointwise [line]

/-- The rows in the order of the chunks, and back. -/
def turn (x : FVec Ideal S2048x512 .f32) : FVec Ideal S2048x512 .f32 :=
  shapeCast S2048x512 (transpose S256x8x512 [1, 0, 2] (shapeCast S8x256x512 x shapeCasts_S2048x512_S8x256x512)
    transposes_S8x256x512_S256x8x512_1_0_2) shapeCasts_S256x8x512_S2048x512
def unturn (x : FVec Ideal S2048x512 .f32) : FVec Ideal S2048x512 .f32 :=
  shapeCast S2048x512 (transpose S8x256x512 [1, 0, 2] (shapeCast S256x8x512 x shapeCasts_S2048x512_S256x8x512)
    transposes_S256x8x512_S8x256x512_1_0_2) shapeCasts_S8x256x512_S2048x512

theorem turn_at (x : FVec Ideal S2048x512 .f32) (r : Fin 2048) (k : Fin 512) : (turn x (ix2 r k) : EReal) = x (ix2 (time r) k) := by
  pointwise [turn]
  simp only [time, Nat.mul_comm]

theorem unturn_at (f : Fin 2048 → Fin 512 → EReal) (t : Fin 2048) (k : Fin 512) :
    (unturn (fun i : S2048x512.Idx => f (time (i 0)) (i 1)) (ix2 t k) : EReal) = f t k := by
  pointwise [unturn]
  rw [time_mk]

/-- The array with the rows of its first 1024 columns in the order of the chunks. -/
def step (x : FVec Ideal S2048x8192 .f32) : FVec Ideal S2048x8192 .f32 :=
  concatenate S2048x8192 1
    [⟨S2048x1024, shapeCast S2048x1024 (transpose S256x8x1024 [1, 0, 2] (shapeCast S8x256x1024
        (extractStridedSlice S2048x1024 ![0, 0] x slices_S2048x8192_S2048x1024_0_0)
        shapeCasts_S2048x1024_S8x256x1024) transposes_S8x256x1024_S256x8x1024_1_0_2) shapeCasts_S256x8x1024_S2048x1024⟩,
      ⟨S2048x7168, extractStridedSlice S2048x7168 ![0, 1024] x slices_S2048x8192_S2048x7168_0_1024⟩]
    concatenates_S2048x1024_S2048x7168_S2048x8192_d1

theorem step_at (x : FVec Ideal S2048x8192 .f32) (r : Fin 2048) (q : Fin 8192) :
    (step x (ix2 r q) : EReal) = x (ix2 (row q r) q) := by
  pointwise [step]
  split
  · rename_i h
    simp [row, h, time, Nat.mul_comm]
  · rename_i h
    have e : 1024 + (q.val - 1024) = q.val := by omega
    simp only [row, h, e, if_false]

theorem arg0_eq : (V m c main_v2 : FVec Ideal S2048x512 .f32) = turn (aY m c) := by
  unfold V V0
  simp only [List.flatten_cons, List.flatten_nil, List.append_nil, List.cons_append, List.nil_append]
  after_results_simp
  rfl

theorem arg1_eq : (V m c main_v8 : FVec Ideal S2048x8192 .f32) = step (aU m c) := by
  unfold V V0
  simp only [List.flatten_cons, List.flatten_nil, List.append_nil, List.cons_append, List.nil_append]
  after_results_simp
  rfl

theorem arg2_eq : (V m c main_v9 : FVec Ideal S1x512 .f32) = line (aB m c) := by
  unfold V V0
  simp only [List.flatten_cons, List.flatten_nil, List.append_nil, List.cons_append, List.nil_append]
  after_results_simp
  rfl

theorem four (t : Fin grid0.N) : t.val < 4 := lt_of_lt_of_eq t.isLt N_0

/-- The row that row `r` of block `t` is. -/
def spot (t : Fin grid0.N) (r : Fin 512) : Fin 2048 := ⟨512 * t.val + r.val, by have := four t; omega⟩

/-- The column of the projection that the call reads. -/
def col (k : Fin 512) : Fin 8192 := ⟨0 + k.val, by omega⟩

theorem blk0_at (t : Fin grid0.N) (r : Fin 512) (k : Fin 512) : (iblk m c 0 t (ix2 r k) : EReal) = aY m c (ix2 (time (spot t r)) k) := by
  rw [← turn_at (aY m c), ← arg0_eq]
  blk_ext [iblk, places t, spot]

theorem blk1_at (t : Fin grid0.N) (r : Fin 512) (k : Fin 512) : (iblk m c 1 t (ix2 r k) : EReal) = aU m c (ix2 (time (spot t r)) (col k)) := by
  have e := step_at (aU m c) (spot t r) (col k)
  rw [row, if_pos (by simp only [col]; omega)] at e
  refine Eq.trans ?_ e
  rw [← arg1_eq]
  blk_ext [iblk, places t, spot, col]

theorem blk2_at (t : Fin grid0.N) (k : Fin 512) : (iblk m c 2 t (ix2 0 k) : EReal) = aB m c (ix1 k) := by
  rw [← line_at (aB m c), ← arg2_eq]
  blk_ext [iblk, places t]

theorem arr3 : (dats m 0 c).arrAt 3 (cfgs 0).N = fun i : S2048x512.Idx => bent (aY m c (ix2 (time (i 0)) (i 1))) (aU m c (ix2 (time (i 0)) (col (i 1)))) (aB m c (ix1 (i 1))) := by
  refine (dats m 0 c).arrAt_eq_of_covers 3 _ (by decide +kernel) fun t hf y => ?_
  blk_simp
  rw [after0_3]
  idx_vars y
  have e0 : (win0_3.blk t).view.emb (ix2 y0 y1) 0 = spot t y0 := by
    refine Fin.ext ?_
    blk_simp [places t, spot]
    exact congrArg (· + _) (Nat.mul_comm _ _)
  have e1 : (win0_3.blk t).view.emb (ix2 y0 y1) 1 = y1 := by
    refine Fin.ext ?_
    blk_simp [places t]
  refine (out3_at (iblk m c 0 t) (iblk m c 1 t) (iblk m c 2 t) y0 y1).trans ?_
  rw [e0, e1]
  simp only [blk0_at, blk1_at, blk2_at]

abbrev tailOps : List (HloOp τ sig (Elt Ideal)) := [hostOps1].flatten

theorem tail0_eq (W : Valuation τ sig (Elt Ideal)) : (StableHlo.after tailOps W (Proc.devRef .tc main_v13) : FVec Ideal S2048x512 .f32)
    = unturn (W (Proc.devRef .tc main_v10) : FVec Ideal S2048x512 .f32) := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v13 = fun i : S2048x512.Idx => bent (aY m c (ix2 (i 0) (i 1))) (aU m c (ix2 (i 0) (col (i 1)))) (aB m c (ix1 (i 1))) := by
  refine (tail0_eq (after0 m c)).trans ?_
  rw [show after0 m c (Proc.devRef .tc main_v10) = _ from (left 3).trans arr3]
  funext i
  idx_vars i
  exact unturn_at (fun r l => bent (aY m c (ix2 r l)) (aU m c (ix2 r (col l))) (aB m c (ix1 l))) i0 i1

end Cert.Kernel28Ideal.Body

namespace Cert.Join28

open Idealize.ShloMosaic Idealize.ShloMosaic.TcCoe Idealize.SL.Sem

/-- The reference runs no semaphore: every counter family over its signature is the zero one. -/
theorem no_counter (s : GSem Reference28Ideal.nD Reference28Ideal.τ Reference28Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference28Ideal (hReference28Ideal := Reference28Ideal.Gen.facts) := fun m ρ _ =>
  (θ_run Reference28Ideal.defs _ _).mono (fun r h => ⟨fun c => (h c).2, no_counter _⟩) (Reference28Ideal.Value.run m ρ)

/-- The kernel and the reference end with the same rows. -/
theorem same : algebraic_Kernel28Ideal_Reference28Ideal (hKernel28Ideal := Kernel28Ideal.Gen.facts) (hReference28Ideal := Reference28Ideal.Gen.facts) := by
  intro m g m' g' _ ha
  refine ⟨fun c => Kernel28Ideal.Body.endOf m c _,
    ?_, ?_⟩
  · refine (θ_run Kernel28Ideal.defs _ _).mono (fun r h c => ?_) (θ_run_and (Kernel28Ideal.Gen.run_main m g) (Kernel28Ideal.Gen.unchanged m g))
    exact ⟨h.1.rest_eq c Kernel28Ideal.main_v13 (by decide), h.2 c⟩
  · refine (θ_run Reference28Ideal.defs _ _).mono (fun r h c => ?_) (Reference28Ideal.Value.run m' g')
    obtain ⟨h0, hrest⟩ := h c
    obtain ⟨e0, e1, e2⟩ := ha c
    refine ⟨h0.trans ?_, hrest⟩
    · refine Eq.trans ?_ Kernel28Ideal.Body.value0.symm
      rw [e0, e1, e2]
      funext i
      idx_vars i
      pointwise [Kernel28Ideal.Body.bent, Kernel28Ideal.Body.act, Kernel28Ideal.Body.half, Kernel28Ideal.Body.root, Kernel28Ideal.Body.cub, Kernel28Ideal.Body.col]

end Cert.Join28

end
-- ==== Proof.GateF.lean ====
module

public import proofs.«01_k».proof.Proof.Gen.Kernel29Ideal.Frame
public import proofs.«01_k».proof.Proof.Gen.Reference29Ideal.Run
public import proofs.«01_k».proof.Defs
public import proofs.«01_k».proof.Proof.Scalars
public import proofs.«01_k».proof.Proof.Order
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel29Ideal.Body

open Idealize.ShloMosaic Idealize.ShloMosaic.TcCoe Idealize.SL.Sem
open Cert.Kernel29Ideal Cert.Kernel29Ideal.Gen Cert.Order Cert.Scalars

theorem places : ∀ t : Fin grid0.N,
    win0_0.index t = ![t.val, 0] ∧ win0_1.index t = ![t.val, 0] ∧ win0_2.index t = ![t.val, 1] ∧ win0_3.index t = ![0, 0] ∧ win0_4.index t = ![t.val, 0] := by decide +kernel

/-- The doubly gated value at one entry. -/
def gated (y t z b : EReal) : EReal := y * logi (t + b) * (z * logi z)

theorem gated_eq (y t z b : EReal) :
    y * Ideal.div 1 (1 + Ideal.exp (0 - (t + b))) * (z * Ideal.div 1 (1 + Ideal.exp (0 - z))) = gated y t z b := by
  rw [zero_sub, zero_sub, gated, logi, logi]

theorem out4_at (x0 : Vec Ideal S512x512 .f32) (x1 : Vec Ideal S512x512 .f32) (x2 : Vec Ideal S512x512 .f32) (x3 : Vec Ideal S1x512 .f32) (r : Fin 512) (l : Fin 512) :
    (out0_4 x0 x1 x2 x3 (ix2 r l) : EReal) = gated (x0 (ix2 r l)) (x1 (ix2 r l)) (x2 (ix2 r l)) (x3 (ix2 0 l)) := by
  rw [← gated_eq]
  unfold out0_4
  rw [View.canon_unit_zero (S := S512x512) (by decide)]
  repeat rw [View.ld_unit_zero (S := S512x512) (by decide)]
  repeat rw [View.ld_unit_zero (S := S1x512) (by decide)]
  pointwise [k0_pay1]

variable {m : (ℓ : Loc nD τ sig) → Buf (Elt Ideal) ℓ} {c : Dev nD}

/-- The arguments at a device: the value, the gate's product, the projection that holds the second gate and the bias. -/
abbrev aY (m : (ℓ : Loc nD τ sig) → Buf (Elt Ideal) ℓ) (c : Dev nD) : FVec Ideal S2048x512 .f32 := m ((c : Thread nD τ).loc main_arg0)
abbrev aT (m : (ℓ : Loc nD τ sig) → Buf (Elt Ideal) ℓ) (c : Dev nD) : FVec Ideal S2048x512 .f32 := m ((c : Thread nD τ).loc main_arg1)
abbrev aU (m : (ℓ : Loc nD τ sig) → Buf (Elt Ideal) ℓ) (c : Dev nD) : FVec Ideal S2048x8192 .f32 := m ((c : Thread nD τ).loc main_arg2)
abbrev aB (m : (ℓ : Loc nD τ sig) → Buf (Elt Ideal) ℓ) (c : Dev nD) : FVec Ideal S512 .f32 := m ((c : Thread nD τ).loc main_arg3)

/-- A row over the features, as the call takes it. -/
def line (x : FVec Ideal S512 .f32) : FVec Ideal S1x512 .f32 := shapeCast S1x512 x shapeCasts_S512_S1x512

theorem line_at (x : FVec Ideal S512 .f32) (k : Fin 512) : (line x (ix2 0 k) : EReal) = x (ix1 k) := by
  pointwise [line]

/-- The rows in the order of the chunks, and back. -/
def turn (x : FVec Ideal S2048x512 .f32) : FVec Ideal S2048x512 .f32 :=
  shapeCast S2048x512 (transpose S256x8x512 [1, 0, 2] (shapeCast S8x256x512 x shapeCasts_S2048x512_S8x256x512)
    transposes_S8x256x512_S256x8x512_1_0_2) shapeCasts_S256x8x512_S2048x512
def unturn (x : FVec Ideal S2048x512 .f32) : FVec Ideal S2048x512 .f32 :=
  shapeCast S2048x512 (transpose S8x256x512 [1, 0, 2] (shapeCast S256x8x512 x shapeCasts_S2048x512_S256x8x512)
    transposes_S256x8x512_S8x256x512_1_0_2) shapeCasts_S8x256x512_S2048x512

theorem turn_at (x : FVec Ideal S2048x512 .f32) (r : Fin 2048) (k : Fin 512) : (turn x (ix2 r k) : EReal) = x (ix2 (time r) k) := by
  pointwise [turn]
  simp only [time, Nat.mul_comm]

theorem unturn_at (f : Fin 2048 → Fin 512 → EReal) (t : Fin 2048) (k : Fin 512) :
    (unturn (fun i : S2048x512.Idx => f (time (i 0)) (i 1)) (ix2 t k) : EReal) = f t k := by
  pointwise [unturn]
  rw [time_mk]

/-- The array with the rows of its first 1024 columns in the order of the chunks. -/
def step (x : FVec Ideal S2048x8192 .f32) : FVec Ideal S2048x8192 .f32 :=
  concatenate S2048x8192 1
    [⟨S2048x1024, shapeCast S2048x1024 (transpose S256x8x1024 [1, 0, 2] (shapeCast S8x256x1024
        (extractStridedSlice S2048x1024 ![0, 0] x slices_S2048x8192_S2048x1024_0_0)
        shapeCasts_S2048x1024_S8x256x1024) transposes_S8x256x1024_S256x8x1024_1_0_2) shapeCasts_S256x8x1024_S2048x1024⟩,
      ⟨S2048x7168, extractStridedSlice S2048x7168 ![0, 1024] x slices_S2048x8192_S2048x7168_0_1024⟩]
    concatenates_S2048x1024_S2048x7168_S2048x8192_d1

theorem step_at (x : FVec Ideal S2048x8192 .f32) (r : Fin 2048) (q : Fin 8192) :
    (step x (ix2 r q) : EReal) = x (ix2 (row q r) q) := by
  pointwise [step]
  split
  · rename_i h
    simp [row, h, time, Nat.mul_comm]
  · rename_i h
    have e : 1024 + (q.val - 1024) = q.val := by omega
    simp only [row, h, e, if_false]

theorem arg0_eq : (V m c main_v2 : FVec Ideal S2048x512 .f32) = turn (aY m c) := by
  unfold V V0
  simp only [List.flatten_cons, List.flatten_nil, List.append_nil, List.cons_append, List.nil_append]
  after_results_simp
  rfl

theorem arg1_eq : (V m c main_v5 : FVec Ideal S2048x512 .f32) = turn (aT m c) := by
  unfold V V0
  simp only [List.flatten_cons, List.flatten_nil, List.append_nil, List.cons_append, List.nil_append]
  after_results_simp
  rfl

theorem arg2_eq : (V m c main_v11 : FVec Ideal S2048x8192 .f32) = step (aU m c) := by
  unfold V V0
  simp only [List.flatten_cons, List.flatten_nil, List.append_nil, List.cons_append, List.nil_append]
  after_results_simp
  rfl

theorem arg3_eq : (V m c main_v12 : FVec Ideal S1x512 .f32) = line (aB m c) := by
  unfold V V0
  simp only [List.flatten_cons, List.flatten_nil, List.append_nil, List.cons_append, List.nil_append]
  after_results_simp
  rfl

theorem four (t : Fin grid0.N) : t.val < 4 := lt_of_lt_of_eq t.isLt N_0

/-- The row that row `r` of block `t` is. -/
def spot (t : Fin grid0.N) (r : Fin 512) : Fin 2048 := ⟨512 * t.val + r.val, by have := four t; omega⟩

/-- The column of the projection that the call reads. -/
def col (k : Fin 512) : Fin 8192 := ⟨512 + k.val, by omega⟩

theorem blk0_at (t : Fin grid0.N) (r : Fin 512) (k : Fin 512) : (iblk m c 0 t (ix2 r k) : EReal) = aY m c (ix2 (time (spot t r)) k) := by
  rw [← turn_at (aY m c), ← arg0_eq]
  blk_ext [iblk, places t, spot]

theorem blk1_at (t : Fin grid0.N) (r : Fin 512) (k : Fin 512) : (iblk m c 1 t (ix2 r k) : EReal) = aT m c (ix2 (time (spot t r)) k) := by
  rw [← turn_at (aT m c), ← arg1_eq]
  blk_ext [iblk, places t, spot]

theorem blk2_at (t : Fin grid0.N) (r : Fin 512) (k : Fin 512) : (iblk m c 2 t (ix2 r k) : EReal) = aU m c (ix2 (time (spot t r)) (col k)) := by
  have e := step_at (aU m c) (spot t r) (col k)
  rw [row, if_pos (by simp only [col]; omega)] at e
  refine Eq.trans ?_ e
  rw [← arg2_eq]
  blk_ext [iblk, places t, spot, col]

theorem blk3_at (t : Fin grid0.N) (k : Fin 512) : (iblk m c 3 t (ix2 0 k) : EReal) = aB m c (ix1 k) := by
  rw [← line_at (aB m c), ← arg3_eq]
  blk_ext [iblk, places t]

theorem arr4 : (dats m 0 c).arrAt 4 (cfgs 0).N = fun i : S2048x512.Idx => gated (aY m c (ix2 (time (i 0)) (i 1))) (aT m c (ix2 (time (i 0)) (i 1))) (aU m c (ix2 (time (i 0)) (col (i 1)))) (aB m c (ix1 (i 1))) := by
  refine (dats m 0 c).arrAt_eq_of_covers 4 _ (by decide +kernel) fun t hf y => ?_
  blk_simp
  rw [after0_4]
  idx_vars y
  have e0 : (win0_4.blk t).view.emb (ix2 y0 y1) 0 = spot t y0 := by
    refine Fin.ext ?_
    blk_simp [places t, spot]
    exact congrArg (· + _) (Nat.mul_comm _ _)
  have e1 : (win0_4.blk t).view.emb (ix2 y0 y1) 1 = y1 := by
    refine Fin.ext ?_
    blk_simp [places t]
  refine (out4_at (iblk m c 0 t) (iblk m c 1 t) (iblk m c 2 t) (iblk m c 3 t) y0 y1).trans ?_
  rw [e0, e1]
  simp only [blk0_at, blk1_at, blk2_at, blk3_at]

abbrev tailOps : List (HloOp τ sig (Elt Ideal)) := [hostOps1].flatten

theorem tail0_eq (W : Valuation τ sig (Elt Ideal)) : (StableHlo.after tailOps W (Proc.devRef .tc main_v17) : FVec Ideal S2048x512 .f32)
    = unturn (extf (F := Ideal) .f32 (W (Proc.devRef .tc main_v13) : FVec Ideal S2048x512 .bf16) bitsLt_bf16_f32) := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v17 = fun i : S2048x512.Idx => gated (aY m c (ix2 (i 0) (i 1))) (aT m c (ix2 (i 0) (i 1))) (aU m c (ix2 (i 0) (col (i 1)))) (aB m c (ix1 (i 1))) := by
  refine (tail0_eq (after0 m c)).trans ?_
  rw [show after0 m c (Proc.devRef .tc main_v13) = _ from (left 4).trans arr4]
  funext i
  idx_vars i
  exact unturn_at (fun r l => gated (aY m c (ix2 r l)) (aT m c (ix2 r l)) (aU m c (ix2 r (col l))) (aB m c (ix1 l))) i0 i1

end Cert.Kernel29Ideal.Body

namespace Cert.Join29

open Idealize.ShloMosaic Idealize.ShloMosaic.TcCoe Idealize.SL.Sem

/-- The reference runs no semaphore: every counter family over its signature is the zero one. -/
theorem no_counter (s : GSem Reference29Ideal.nD Reference29Ideal.τ Reference29Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference29Ideal (hReference29Ideal := Reference29Ideal.Gen.facts) := fun m ρ _ =>
  (θ_run Reference29Ideal.defs _ _).mono (fun r h => ⟨fun c => (h c).2, no_counter _⟩) (Reference29Ideal.Value.run m ρ)

/-- The kernel and the reference end with the same rows. -/
theorem same : algebraic_Kernel29Ideal_Reference29Ideal (hKernel29Ideal := Kernel29Ideal.Gen.facts) (hReference29Ideal := Reference29Ideal.Gen.facts) := by
  intro m g m' g' _ ha
  refine ⟨fun c => Kernel29Ideal.Body.endOf m c _,
    ?_, ?_⟩
  · refine (θ_run Kernel29Ideal.defs _ _).mono (fun r h c => ?_) (θ_run_and (Kernel29Ideal.Gen.run_main m g) (Kernel29Ideal.Gen.unchanged m g))
    exact ⟨h.1.rest_eq c Kernel29Ideal.main_v17 (by decide), h.2 c⟩
  · refine (θ_run Reference29Ideal.defs _ _).mono (fun r h c => ?_) (Reference29Ideal.Value.run m' g')
    obtain ⟨h0, hrest⟩ := h c
    obtain ⟨e0, e1, e2, e3⟩ := ha c
    refine ⟨h0.trans ?_, hrest⟩
    · refine Eq.trans ?_ Kernel29Ideal.Body.value0.symm
      rw [e0, e1, e2, e3]
      funext i
      idx_vars i
      pointwise [Kernel29Ideal.Body.gated, Kernel29Ideal.Body.col, Scalars.logi]

end Cert.Join29

end
-- ==== Proof.MergeF.lean ====
module

public import proofs.«01_k».proof.Proof.Gen.Kernel30Ideal.Frame
public import proofs.«01_k».proof.Proof.Gen.Reference30Ideal.Run
public import proofs.«01_k».proof.Defs
public import proofs.«01_k».proof.Proof.Scalars
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel30Ideal.Body

open Idealize.ShloMosaic Idealize.ShloMosaic.TcCoe Idealize.SL.Sem
open Cert.Kernel30Ideal Cert.Kernel30Ideal.Gen Cert.Scalars

theorem places : ∀ t : Fin grid0.N,
    win0_0.index t = ![t.val, 0] ∧ win0_1.index t = ![t.val, 0] ∧ win0_2.index t = ![t.val, 6] ∧ win0_3.index t = ![t.val, 7] ∧ win0_4.index t = ![t.val, 0] := by decide +kernel

/-- A half of the merged value as the call takes it. -/
def half (x : FVec Ideal S2048x1024 .f32) : FVec Ideal S2048x1024 .bf16 := truncf .bf16 x bitsLt_bf16_f32

theorem half_at (x : FVec Ideal S2048x1024 .f32) (r : Fin 2048) (k : Fin 1024) : (half x (ix2 r k) : EReal) = x (ix2 r k) := by
  pointwise [half]

/-- The gated sum of the two halves at one entry. -/
def mix (s a g h : EReal) : EReal := logi g * s + logi h * a

theorem mix_eq (s a g h : EReal) :
    Ideal.div 1 (1 + Ideal.exp (0 - g)) * s + Ideal.div 1 (1 + Ideal.exp (0 - h)) * a = mix s a g h := by
  rw [zero_sub, zero_sub, mix, logi, logi]

theorem out4_at (x0 : Vec Ideal S512x1024 .bf16) (x1 : Vec Ideal S512x1024 .bf16) (x2 : Vec Ideal S512x1024 .f32) (x3 : Vec Ideal S512x1024 .f32) (r : Fin 512) (l : Fin 1024) :
    (out0_4 x0 x1 x2 x3 (ix2 r l) : EReal) = mix (x0 (ix2 r l)) (x1 (ix2 r l)) (x2 (ix2 r l)) (x3 (ix2 r l)) := by
  rw [← mix_eq]
  unfold out0_4
  rw [View.canon_unit_zero (S := S512x1024) (by decide)]
  repeat rw [View.ld_unit_zero (S := S512x1024) (by decide)]
  pointwise [k0_pay1]

variable {m : (ℓ : Loc nD τ sig) → Buf (Elt Ideal) ℓ} {c : Dev nD}

/-- The arguments at a device: the two halves and the projection that holds their gates. -/
abbrev aS (m : (ℓ : Loc nD τ sig) → Buf (Elt Ideal) ℓ) (c : Dev nD) : FVec Ideal S2048x1024 .f32 := m ((c : Thread nD τ).loc main_arg0)
abbrev aA (m : (ℓ : Loc nD τ sig) → Buf (Elt Ideal) ℓ) (c : Dev nD) : FVec Ideal S2048x1024 .f32 := m ((c : Thread nD τ).loc main_arg1)
abbrev aP (m : (ℓ : Loc nD τ sig) → Buf (Elt Ideal) ℓ) (c : Dev nD) : FVec Ideal S2048x8192 .f32 := m ((c : Thread nD τ).loc main_arg2)

theorem half0_eq : (V m c main_v0 : FVec Ideal S2048x1024 .bf16) = half (aS m c) := by
  unfold V V0
  simp only [List.flatten_cons, List.flatten_nil, List.append_nil, List.cons_append, List.nil_append]
  after_results_simp
  rfl

theorem half1_eq : (V m c main_v1 : FVec Ideal S2048x1024 .bf16) = half (aA m c) := by
  unfold V V0
  simp only [List.flatten_cons, List.flatten_nil, List.append_nil, List.cons_append, List.nil_append]
  after_results_simp
  rfl

theorem p_eq : (V m c main_arg2 : FVec Ideal S2048x8192 .f32) = aP m c := by
  unfold V V0
  simp only [List.flatten_cons, List.flatten_nil, List.append_nil, List.cons_append, List.nil_append]
  after_results_simp

theorem four (t : Fin grid0.N) : t.val < 4 := lt_of_lt_of_eq t.isLt N_0

/-- The row that row `r` of block `t` is. -/
def spot (t : Fin grid0.N) (r : Fin 512) : Fin 2048 := ⟨512 * t.val + r.val, by have := four t; omega⟩

/-- The column of the projection that holds a gate. -/
def gateS (k : Fin 1024) : Fin 8192 := ⟨6144 + k.val, by omega⟩
def gateA (k : Fin 1024) : Fin 8192 := ⟨7168 + k.val, by omega⟩

theorem blk0_at (t : Fin grid0.N) (r : Fin 512) (k : Fin 1024) : (iblk m c 0 t (ix2 r k) : EReal) = aS m c (ix2 (spot t r) k) := by
  rw [← half_at (aS m c), ← half0_eq]
  blk_ext [iblk, places t, spot]

theorem blk1_at (t : Fin grid0.N) (r : Fin 512) (k : Fin 1024) : (iblk m c 1 t (ix2 r k) : EReal) = aA m c (ix2 (spot t r) k) := by
  rw [← half_at (aA m c), ← half1_eq]
  blk_ext [iblk, places t, spot]

theorem blk2_at (t : Fin grid0.N) (r : Fin 512) (k : Fin 1024) : (iblk m c 2 t (ix2 r k) : EReal) = aP m c (ix2 (spot t r) (gateS k)) := by
  rw [← p_eq]
  blk_ext [iblk, places t, spot, gateS]

theorem blk3_at (t : Fin grid0.N) (r : Fin 512) (k : Fin 1024) : (iblk m c 3 t (ix2 r k) : EReal) = aP m c (ix2 (spot t r) (gateA k)) := by
  rw [← p_eq]
  blk_ext [iblk, places t, spot, gateA]

theorem arr4 : (dats m 0 c).arrAt 4 (cfgs 0).N = fun i : S2048x1024.Idx => mix (aS m c (ix2 (i 0) (i 1))) (aA m c (ix2 (i 0) (i 1))) (aP m c (ix2 (i 0) (gateS (i 1)))) (aP m c (ix2 (i 0) (gateA (i 1)))) := by
  refine (dats m 0 c).arrAt_eq_of_covers 4 _ (by decide +kernel) fun t hf y => ?_
  blk_simp
  rw [after0_4]
  idx_vars y
  have e0 : (win0_4.blk t).view.emb (ix2 y0 y1) 0 = spot t y0 := by
    refine Fin.ext ?_
    blk_simp [places t, spot]
    exact congrArg (· + _) (Nat.mul_comm _ _)
  have e1 : (win0_4.blk t).view.emb (ix2 y0 y1) 1 = y1 := by
    refine Fin.ext ?_
    blk_simp [places t]
  refine (out4_at (iblk m c 0 t) (iblk m c 1 t) (iblk m c 2 t) (iblk m c 3 t) y0 y1).trans ?_
  rw [e0, e1]
  simp only [blk0_at, blk1_at, blk2_at, blk3_at]

abbrev tailOps : List (HloOp τ sig (Elt Ideal)) := [hostOps1].flatten

theorem tail0_eq (W : Valuation τ sig (Elt Ideal)) : (StableHlo.after tailOps W (Proc.devRef .tc main_v3) : FVec Ideal S2048x1024 .f32)
    = extf (F := Ideal) .f32 (W (Proc.devRef .tc main_v2) : FVec Ideal S2048x1024 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v3 = fun i : S2048x1024.Idx => mix (aS m c (ix2 (i 0) (i 1))) (aA m c (ix2 (i 0) (i 1))) (aP m c (ix2 (i 0) (gateS (i 1)))) (aP m c (ix2 (i 0) (gateA (i 1)))) := by
  refine (tail0_eq (after0 m c)).trans ?_
  rw [show after0 m c (Proc.devRef .tc main_v2) = _ from (left 4).trans arr4]
  rfl

end Cert.Kernel30Ideal.Body

namespace Cert.Join30

open Idealize.ShloMosaic Idealize.ShloMosaic.TcCoe Idealize.SL.Sem

/-- The reference runs no semaphore: every counter family over its signature is the zero one. -/
theorem no_counter (s : GSem Reference30Ideal.nD Reference30Ideal.τ Reference30Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference30Ideal (hReference30Ideal := Reference30Ideal.Gen.facts) := fun m ρ _ =>
  (θ_run Reference30Ideal.defs _ _).mono (fun r h => ⟨fun c => (h c).2, no_counter _⟩) (Reference30Ideal.Value.run m ρ)

/-- The kernel and the reference end with the same sum. -/
theorem same : algebraic_Kernel30Ideal_Reference30Ideal (hKernel30Ideal := Kernel30Ideal.Gen.facts) (hReference30Ideal := Reference30Ideal.Gen.facts) := by
  intro m g m' g' _ ha
  refine ⟨fun c => Kernel30Ideal.Body.endOf m c _,
    ?_, ?_⟩
  · refine (θ_run Kernel30Ideal.defs _ _).mono (fun r h c => ?_) (θ_run_and (Kernel30Ideal.Gen.run_main m g) (Kernel30Ideal.Gen.unchanged m g))
    exact ⟨h.1.rest_eq c Kernel30Ideal.main_v3 (by decide), h.2 c⟩
  · refine (θ_run Reference30Ideal.defs _ _).mono (fun r h c => ?_) (Reference30Ideal.Value.run m' g')
    obtain ⟨h0, hrest⟩ := h c
    obtain ⟨e0, e1, e2⟩ := ha c
    refine ⟨h0.trans ?_, hrest⟩
    · refine Eq.trans ?_ Kernel30Ideal.Body.value0.symm
      rw [e0, e1, e2]
      funext i
      idx_vars i
      pointwise [Kernel30Ideal.Body.mix, Kernel30Ideal.Body.gateS, Kernel30Ideal.Body.gateA, Scalars.logi]

end Cert.Join30

end
-- ==== Proof.PostNormF.lean ====
module

public import proofs.«01_k».proof.Proof.Gen.Kernel31Ideal.Frame
public import proofs.«01_k».proof.Proof.Gen.Reference31Ideal.Run
public import proofs.«01_k».proof.Defs
public import proofs.«01_k».proof.Proof.Norms
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel31Ideal.Body

open Idealize.ShloMosaic Idealize.ShloMosaic.TcCoe Idealize.SL.Sem
open Cert.Kernel31Ideal Cert.Kernel31Ideal.Gen Cert.Norms

theorem places : ∀ t : Fin grid0.N,
    win0_0.index t = ![t.val, 0] ∧ win0_1.index t = ![t.val, 0] ∧ win0_2.index t = ![0, 0] ∧ win0_3.index t = ![t.val, 0] := by decide +kernel

/-- The row with its normalised branch added, at one entry. -/
def normed (v : EReal) (x g : Fin 1024 → EReal) (l : Fin 1024) : EReal := v + x l * scl x * g l

theorem out3_at (x0 : Vec Ideal S512x1024 .f32) (x1 : Vec Ideal S512x1024 .f32) (x2 : Vec Ideal S1x1024 .f32) (r : Fin 512) (l : Fin 1024) :
    (out0_3 x0 x1 x2 (ix2 r l) : EReal) = normed (x0 (ix2 r l)) (fun k => x1 (ix2 r k)) (fun k => x2 (ix2 0 k)) l := by
  unfold out0_3
  rw [View.canon_unit_zero (S := S512x1024) (by decide)]
  repeat rw [View.ld_unit_zero (S := S512x1024) (by decide)]
  repeat rw [View.ld_unit_zero (S := S1x1024) (by decide)]
  pointwise [k0_pay1, normed, scl, mean, width, eps]

variable {m : (ℓ : Loc nD τ sig) → Buf (Elt Ideal) ℓ} {c : Dev nD}

/-- The arguments at a device: the rows, the branch and the gain. -/
abbrev aV (m : (ℓ : Loc nD τ sig) → Buf (Elt Ideal) ℓ) (c : Dev nD) : FVec Ideal S2048x1024 .f32 := m ((c : Thread nD τ).loc main_arg0)
abbrev aX (m : (ℓ : Loc nD τ sig) → Buf (Elt Ideal) ℓ) (c : Dev nD) : FVec Ideal S2048x1024 .f32 := m ((c : Thread nD τ).loc main_arg1)
abbrev aG (m : (ℓ : Loc nD τ sig) → Buf (Elt Ideal) ℓ) (c : Dev nD) : FVec Ideal S1024 .f32 := m ((c : Thread nD τ).loc main_arg2)

/-- A row over the features, as the call takes it. -/
def line (x : FVec Ideal S1024 .f32) : FVec Ideal S1x1024 .f32 := shapeCast S1x1024 x shapeCasts_S1024_S1x1024

theorem line_at (x : FVec Ideal S1024 .f32) (k : Fin 1024) : (line x (ix2 0 k) : EReal) = x (ix1 k) := by
  pointwise [line]

theorem v_eq : (V m c main_arg0 : FVec Ideal S2048x1024 .f32) = aV m c := by
  unfold V
  after_results_simp

theorem x_eq : (V m c main_arg1 : FVec Ideal S2048x1024 .f32) = aX m c := by
  unfold V
  after_results_simp

theorem g_eq : (V m c main_v0 : FVec Ideal S1x1024 .f32) = line (aG m c) := by
  unfold V
  after_results_simp
  rfl

theorem four (t : Fin grid0.N) : t.val < 4 := lt_of_lt_of_eq t.isLt N_0

/-- The row that row `r` of block `t` is. -/
def spot (t : Fin grid0.N) (r : Fin 512) : Fin 2048 := ⟨512 * t.val + r.val, by have := four t; omega⟩

theorem blk0_at (t : Fin grid0.N) (r : Fin 512) (k : Fin 1024) : (iblk m c 0 t (ix2 r k) : EReal) = aV m c (ix2 (spot t r) k) := by
  rw [← v_eq]
  blk_ext [iblk, places t, spot]

theorem blk1_at (t : Fin grid0.N) (r : Fin 512) (k : Fin 1024) : (iblk m c 1 t (ix2 r k) : EReal) = aX m c (ix2 (spot t r) k) := by
  rw [← x_eq]
  blk_ext [iblk, places t, spot]

theorem blk2_at (t : Fin grid0.N) (k : Fin 1024) : (iblk m c 2 t (ix2 0 k) : EReal) = aG m c (ix1 k) := by
  rw [← line_at (aG m c), ← g_eq]
  blk_ext [iblk, places t]

theorem arr3 : (dats m 0 c).arrAt 3 (cfgs 0).N = fun i : S2048x1024.Idx => normed (aV m c (ix2 (i 0) (i 1))) (fun k => aX m c (ix2 (i 0) k)) (fun k => aG m c (ix1 k)) (i 1) := by
  refine (dats m 0 c).arrAt_eq_of_covers 3 _ (by decide +kernel) fun t hf y => ?_
  blk_simp
  rw [after0_3]
  idx_vars y
  have e0 : (win0_3.blk t).view.emb (ix2 y0 y1) 0 = spot t y0 := by
    refine Fin.ext ?_
    blk_simp [places t, spot]
    exact congrArg (· + _) (Nat.mul_comm _ _)
  have e1 : (win0_3.blk t).view.emb (ix2 y0 y1) 1 = y1 := by
    refine Fin.ext ?_
    blk_simp [places t]
  refine (out3_at (iblk m c 0 t) (iblk m c 1 t) (iblk m c 2 t) y0 y1).trans ?_
  rw [e0, e1]
  simp only [blk0_at, blk1_at, blk2_at]

theorem value0 : (dats m 0 c).arrAt 3 cfg0.N = fun i : S2048x1024.Idx => normed (aV m c (ix2 (i 0) (i 1))) (fun k => aX m c (ix2 (i 0) k)) (fun k => aG m c (ix1 k)) (i 1) := arr3

end Cert.Kernel31Ideal.Body

namespace Cert.Join31

open Idealize.ShloMosaic Idealize.ShloMosaic.TcCoe Idealize.SL.Sem

/-- The reference runs no semaphore: every counter family over its signature is the zero one. -/
theorem no_counter (s : GSem Reference31Ideal.nD Reference31Ideal.τ Reference31Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference31Ideal (hReference31Ideal := Reference31Ideal.Gen.facts) := fun m ρ _ =>
  (θ_run Reference31Ideal.defs _ _).mono (fun r h => ⟨fun c => (h c).2, no_counter _⟩) (Reference31Ideal.Value.run m ρ)

/-- The kernel and the reference end with the same sum. -/
theorem same : algebraic_Kernel31Ideal_Reference31Ideal (hKernel31Ideal := Kernel31Ideal.Gen.facts) (hReference31Ideal := Reference31Ideal.Gen.facts) := by
  intro m g m' g' _ ha
  refine ⟨fun c => (Kernel31Ideal.Gen.dats m 0 c).arrAt 3 Kernel31Ideal.cfg0.N,
    ?_, ?_⟩
  · refine (θ_run Kernel31Ideal.defs _ _).mono (fun r h c => ?_) (θ_run_and (Kernel31Ideal.Gen.run_main m g) (Kernel31Ideal.Gen.unchanged m g))
    exact ⟨(h.1 c).1 3, h.2 c⟩
  · refine (θ_run Reference31Ideal.defs _ _).mono (fun r h c => ?_) (Reference31Ideal.Value.run m' g')
    obtain ⟨h0, hrest⟩ := h c
    obtain ⟨e0, e1, e2⟩ := ha c
    refine ⟨h0.trans ?_, hrest⟩
    · refine Eq.trans ?_ Kernel31Ideal.Body.value0.symm
      rw [e0, e1, e2]
      funext i
      idx_vars i
      pointwise [Kernel31Ideal.Body.normed, Norms.scl, Norms.mean, Norms.width, Norms.eps]

end Cert.Join31

end
-- ==== Proof.DuSum.lean ====
module

public import proofs.«01_k».proof.Proof.Gen.Kernel32Ideal.Frame
public import proofs.«01_k».proof.Proof.Gen.Reference32Ideal.Run
public import proofs.«01_k».proof.Defs
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel32Ideal.Body

open Idealize.ShloMosaic Idealize.ShloMosaic.TcCoe Idealize.SL.Sem
open Cert.Kernel32Ideal Cert.Kernel32Ideal.Gen

theorem places : ∀ t : Fin grid0.N,
    win0_0.index t = ![t.val, 0] ∧ win0_1.index t = ![t.val, 0] ∧ win0_2.index t = ![t.val, 0] := by decide +kernel

theorem out2_at (x0 : Vec Ideal S512x512 .f32) (x1 : Vec Ideal S512x512 .f32) (r : Fin 512) (l : Fin 512) :
    (out0_2 x0 x1 (ix2 r l) : EReal) = (x0 (ix2 r l) : EReal) + x1 (ix2 r l) := by
  unfold out0_2
  rw [View.canon_unit_zero (S := S512x512) (by decide)]
  repeat rw [View.ld_unit_zero (S := S512x512) (by decide)]
  pointwise [k0_pay1]

variable {m : (ℓ : Loc nD τ sig) → Buf (Elt Ideal) ℓ} {c : Dev nD}

/-- The arguments at a device: the two parts of the sum. -/
abbrev aS (m : (ℓ : Loc nD τ sig) → Buf (Elt Ideal) ℓ) (c : Dev nD) : FVec Ideal S2048x512 .f32 := m ((c : Thread nD τ).loc main_arg0)
abbrev aK (m : (ℓ : Loc nD τ sig) → Buf (Elt Ideal) ℓ) (c : Dev nD) : FVec Ideal S2048x512 .f32 := m ((c : Thread nD τ).loc main_arg1)

theorem x0_eq : (V m c main_arg0 : FVec Ideal S2048x512 .f32) = aS m c := by
  unfold V V0
  simp only [List.flatten_cons, List.flatten_nil, List.append_nil, List.cons_append, List.nil_append]
  after_results_simp

theorem x1_eq : (V m c main_arg1 : FVec Ideal S2048x512 .f32) = aK m c := by
  unfold V V0
  simp only [List.flatten_cons, List.flatten_nil, List.append_nil, List.cons_append, List.nil_append]
  after_results_simp

theorem four (t : Fin grid0.N) : t.val < 4 := lt_of_lt_of_eq t.isLt N_0

/-- The row that row `r` of block `t` is. -/
def spot (t : Fin grid0.N) (r : Fin 512) : Fin 2048 := ⟨512 * t.val + r.val, by have := four t; omega⟩

theorem blk0_at (t : Fin grid0.N) (r : Fin 512) (k : Fin 512) : (iblk m c 0 t (ix2 r k) : EReal) = aS m c (ix2 (spot t r) k) := by
  rw [← x0_eq]
  blk_ext [iblk, places t, spot]

theorem blk1_at (t : Fin grid0.N) (r : Fin 512) (k : Fin 512) : (iblk m c 1 t (ix2 r k) : EReal) = aK m c (ix2 (spot t r) k) := by
  rw [← x1_eq]
  blk_ext [iblk, places t, spot]

theorem arr2 : (dats m 0 c).arrAt 2 (cfgs 0).N = fun i : S2048x512.Idx => (aS m c (ix2 (i 0) (i 1)) : EReal) + aK m c (ix2 (i 0) (i 1)) := by
  refine (dats m 0 c).arrAt_eq_of_covers 2 _ (by decide +kernel) fun t hf y => ?_
  blk_simp
  rw [after0_2]
  idx_vars y
  have e0 : (win0_2.blk t).view.emb (ix2 y0 y1) 0 = spot t y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  refine (out2_at (iblk m c 0 t) (iblk m c 1 t) y0 y1).trans ?_
  rw [e0, e1]
  simp only [blk0_at, blk1_at]

abbrev tailOps : List (HloOp τ sig (Elt Ideal)) := [hostOps1].flatten

theorem tail0_eq (W : Valuation τ sig (Elt Ideal)) : (StableHlo.after tailOps W (Proc.devRef .tc main_v1) : FVec Ideal S2048x512 .f32)
    = extf (F := Ideal) .f32 (W (Proc.devRef .tc main_v0) : FVec Ideal S2048x512 .bf16) bitsLt_bf16_f32 := by
  unfold tailOps
  simp only [List.flatten_cons, List.flatten_nil, List.append_nil, List.cons_append, List.nil_append]
  after_results_simp

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v1 = fun i : S2048x512.Idx => (aS m c (ix2 (i 0) (i 1)) : EReal) + aK m c (ix2 (i 0) (i 1)) := by
  refine (tail0_eq (after0 m c)).trans ?_
  rw [show after0 m c (Proc.devRef .tc main_v0) = _ from (left 2).trans arr2]
  rfl

end Cert.Kernel32Ideal.Body

namespace Cert.Join32

open Idealize.ShloMosaic Idealize.ShloMosaic.TcCoe Idealize.SL.Sem

/-- The reference runs no semaphore: every counter family over its signature is the zero one. -/
theorem no_counter (s : GSem Reference32Ideal.nD Reference32Ideal.τ Reference32Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference32Ideal (hReference32Ideal := Reference32Ideal.Gen.facts) := fun m ρ _ =>
  (θ_run Reference32Ideal.defs _ _).mono (fun r h => ⟨fun c => (h c).2, no_counter _⟩) (Reference32Ideal.Value.run m ρ)

/-- The kernel and the reference end with the same sum. -/
theorem same : algebraic_Kernel32Ideal_Reference32Ideal (hKernel32Ideal := Kernel32Ideal.Gen.facts) (hReference32Ideal := Reference32Ideal.Gen.facts) := by
  intro m g m' g' _ ha
  refine ⟨fun c => Kernel32Ideal.Body.endOf m c _,
    ?_, ?_⟩
  · refine (θ_run Kernel32Ideal.defs _ _).mono (fun r h c => ?_) (θ_run_and (Kernel32Ideal.Gen.run_main m g) (Kernel32Ideal.Gen.unchanged m g))
    exact ⟨h.1.rest_eq c Kernel32Ideal.main_v1 (by decide), h.2 c⟩
  · refine (θ_run Reference32Ideal.defs _ _).mono (fun r h c => ?_) (Reference32Ideal.Value.run m' g')
    obtain ⟨h0, hrest⟩ := h c
    obtain ⟨e0, e1⟩ := ha c
    refine ⟨h0.trans ?_, hrest⟩
    · refine Eq.trans ?_ Kernel32Ideal.Body.value0.symm
      rw [e0, e1]
      funext i
      idx_vars i
      pointwise

end Cert.Join32

end
-- ==== Proof.Loss.lean ====
module

public import proofs.«01_k».proof.Proof.Gen.Kernel33Ideal.Frame
public import proofs.«01_k».proof.Proof.Gen.Reference33Ideal.Run
public import proofs.«01_k».proof.Defs
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel33Ideal.Body

open Idealize.ShloMosaic Idealize.ShloMosaic.TcCoe Idealize.SL.Sem
open Cert.Kernel33Ideal Cert.Kernel33Ideal.Gen

/-- The constants: a half, and the inverse of the number of features. -/
def half : EReal := Ideal.ofBits .f32 0x3F000000#32
def inv : EReal := Ideal.ofBits .f32 0x3A800000#32

theorem half_eq : half = ((1 / 2 : ℝ) : EReal) := by
  unfold half
  simp [Ideal.ofBits, Ideal.ieee, -EReal.coe_mul]; norm_num

theorem inv_eq : inv = ((1 / 1024 : ℝ) : EReal) := by
  unfold inv
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

/-- A quotient by the number of features is a product with its inverse. -/
theorem div_width (x : EReal) : Ideal.div x (Ideal.ofBits .f32 0x44800000#32) = inv * x := by
  rw [width_eq, inv_eq]
  rw [Ideal.div_coe (by norm_num), mul_comm]

/-- A non-negative real distributes over any sum of extended reals. -/
theorem mul_total {ι : Type} (s : Finset ι) (a : ℝ) (ha : 0 ≤ a) (f : ι → EReal) : ((a : ℝ) : EReal) * ∑ i ∈ s, f i = ∑ i ∈ s, (a : EReal) * f i := by
  classical
  induction s using Finset.induction_on with
  | empty => simp
  | insert i s h ih =>
    rw [Finset.sum_insert h, Finset.sum_insert h, ← ih]
    exact EReal.left_distrib_of_nonneg_of_ne_top (EReal.coe_nonneg.mpr ha) (EReal.coe_ne_top a) _ _

/-- The gradient at one entry, and what an entry adds to the loss. -/
def grad (x t : EReal) : EReal := (x - t) * inv
def term (x t : EReal) : EReal := half * (x - t) * (x - t) * inv

theorem grad_eq (x t : EReal) :
    Ideal.div half (Ideal.ofBits .f32 0x44800000#32) * (Ideal.ofBits .f32 0x40000000#32 * (x - t)) = grad x t := by
  rw [div_width, grad, two_eq, half_eq, ← mul_assoc, mul_comm (x - t)]
  congr 1
  rw [mul_assoc, ← EReal.coe_mul]
  norm_num

theorem loss_eq (x t : Fin 2048 → Fin 1024 → EReal) :
    half * ∑ r, Ideal.div (∑ k, (x r k - t r k) * (x r k - t r k)) (Ideal.ofBits .f32 0x44800000#32) = ∑ r, ∑ k, term (x r k) (t r k) := by
  simp only [div_width]
  rw [half_eq, mul_total _ _ (by norm_num)]
  refine Finset.sum_congr rfl fun r _ => ?_
  rw [inv_eq, mul_total _ _ (by norm_num), mul_total _ _ (by norm_num)]
  refine Finset.sum_congr rfl fun k _ => ?_
  rw [term, ← half_eq, ← inv_eq]
  ac_rfl

theorem places : ∀ t : Fin grid0.N,
    win0_0.index t = ![t.val, 0] ∧ win0_1.index t = ![t.val, 0] ∧ win0_2.index t = ![t.val, 0] ∧ win0_3.index t = ![0, 0] := by decide +kernel

theorem pay2_at (x0 x1 : Vec Ideal S512x1024 .f32) (r : Fin 512) (l : Fin 1024) :
    (k0_pay2 x0 x1 (ix2 r l) : EReal) = grad (x0 (ix2 r l)) (x1 (ix2 r l)) := by
  pointwise [k0_pay1, k0_pay2, grad, inv]

theorem pay3_at (x0 x1 : Vec Ideal S512x1024 .f32) (v : FVec Ideal S1x1 .f32) :
    (k0_pay4 x0 x1 v (ix2 0 0) : EReal) = v (ix2 0 0) + ∑ r : Fin 512, ∑ k : Fin 1024, term (x0 (ix2 r k)) (x1 (ix2 r k)) := by
  rw [Finset.sum_comm]
  pointwise [k0_pay1, k0_pay4, term, half, inv]

theorem zero_at : (k0_pay3 (F := Ideal) (ix2 0 0) : EReal) = 0 := by
  pointwise [k0_pay3]

section
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S1x1 .f32) (harg4 : arg4.IsWhole)
  (x0 x1 : Vec Ideal S512x1024 .f32)

theorem outA2 (hc0 : cond0_0 i) : out0_A_2 c i arg1 harg1 arg2 harg2 arg3 harg3 arg4 harg4 hc0 x0 x1 = k0_pay2 x0 x1 := by
  unfold out0_A_2
  rw [View.read_writes_junk_eq_canon]
  unfold kernelRun0_A
  dsimp only
  rw [View.canon_unit_zero (S := S512x1024) (by decide)]
  simp only [View.readAt_eq_ld, harg1.read_unread, harg2.read_unread]
  repeat rw [View.ld_unit_zero (S := S512x1024) (by decide)]

theorem outB2 (hc0 : ¬cond0_0 i) (v : Vec Ideal S1x1 .f32) : out0_B_2 c i arg1 harg1 arg2 harg2 arg3 harg3 arg4 harg4 hc0 x0 x1 v = k0_pay2 x0 x1 := by
  unfold out0_B_2
  rw [View.read_writes_junk_eq_canon]
  unfold kernelRun0_B
  dsimp only
  rw [View.canon_unit_zero (S := S512x1024) (by decide)]
  simp only [View.readAt_eq_ld, harg1.read_unread, harg2.read_unread]
  repeat rw [View.ld_unit_zero (S := S512x1024) (by decide)]

theorem outA3 (hc0 : cond0_0 i) : out0_A_3 c i arg1 harg1 arg2 harg2 arg3 harg3 arg4 harg4 hc0 x0 x1 = k0_pay4 x0 x1 (k0_pay3 (F := Ideal)) := by
  unfold out0_A_3
  rw [View.read_writes_junk_eq_canon]
  unfold kernelRun0_A
  dsimp only [kernelRun0_A.sl.v18, kernelRun0_A.sl.H3_1]
  rw [View.canon_cons_unit_zero (S := S1x1) (by decide), View.readCov_unit_zero (S := S1x1) _ (by decide)]
  simp only [View.readAt_eq_ld, harg1.read_unread, harg2.read_unread]
  repeat rw [View.ld_unit_zero (S := S512x1024) (by decide)]

theorem outB3 (hc0 : ¬cond0_0 i) (v : Vec Ideal S1x1 .f32) : out0_B_3 c i arg1 harg1 arg2 harg2 arg3 harg3 arg4 harg4 hc0 x0 x1 v = k0_pay4 x0 x1 v := by
  unfold out0_B_3
  rw [View.read_writes_junk_eq_canon]
  unfold kernelRun0_B
  dsimp only
  rw [View.canon_unit_zero (S := S1x1) (by decide)]
  simp only [View.readAt_eq_ld, harg1.read_unread, harg2.read_unread, harg4.read_unread]
  repeat rw [View.ld_unit_zero (S := S512x1024) (by decide)]
  repeat rw [View.ld_unit_zero (S := S1x1) (by decide)]

end

variable {m : (ℓ : Loc nD τ sig) → Buf (Elt Ideal) ℓ} {c : Dev nD}

/-- The arguments at a device: the output and the target. -/
abbrev aX (m : (ℓ : Loc nD τ sig) → Buf (Elt Ideal) ℓ) (c : Dev nD) : FVec Ideal S2048x1024 .f32 := m ((c : Thread nD τ).loc main_arg0)
abbrev aT (m : (ℓ : Loc nD τ sig) → Buf (Elt Ideal) ℓ) (c : Dev nD) : FVec Ideal S2048x1024 .f32 := m ((c : Thread nD τ).loc main_arg1)

theorem x_eq : (V m c main_arg0 : FVec Ideal S2048x1024 .f32) = aX m c := by
  unfold V V0
  simp only [List.flatten_cons, List.flatten_nil, List.append_nil, List.cons_append, List.nil_append]
  after_results_simp

theorem t_eq : (V m c main_arg1 : FVec Ideal S2048x1024 .f32) = aT m c := by
  unfold V V0
  simp only [List.flatten_cons, List.flatten_nil, List.append_nil, List.cons_append, List.nil_append]
  after_results_simp

theorem four (t : Fin grid0.N) : t.val < 4 := lt_of_lt_of_eq t.isLt N_0

/-- The row that row `r` of block `n` is. -/
def spot (n : ℕ) (h : n < 4) (r : Fin 512) : Fin 2048 := ⟨512 * n + r.val, by omega⟩

theorem blk0_at (t : Fin grid0.N) (r : Fin 512) (k : Fin 1024) : (iblk m c 0 t (ix2 r k) : EReal) = aX m c (ix2 (spot t.val (four t) r) k) := by
  rw [← x_eq]
  blk_ext [iblk, places t, spot]

theorem blk1_at (t : Fin grid0.N) (r : Fin 512) (k : Fin 1024) : (iblk m c 1 t (ix2 r k) : EReal) = aT m c (ix2 (spot t.val (four t) r) k) := by
  rw [← t_eq]
  blk_ext [iblk, places t, spot]

/-- The gradient at one entry of the array, and what a row adds to the loss. -/
def gradOf (m : (ℓ : Loc nD τ sig) → Buf (Elt Ideal) ℓ) (c : Dev nD) (r : Fin 2048) (k : Fin 1024) : EReal := grad (aX m c (ix2 r k)) (aT m c (ix2 r k))
def rowOf (m : (ℓ : Loc nD τ sig) → Buf (Elt Ideal) ℓ) (c : Dev nD) (r : Fin 2048) : EReal := ∑ k, term (aX m c (ix2 r k)) (aT m c (ix2 r k))

theorem left2_at (t : Fin grid0.N) (r : Fin 512) (l : Fin 1024) :
    ((outsAt0 m c t.val t.isLt).1 (ix2 r l) : EReal) = gradOf m c (spot t.val (four t) r) l := by
  have e : (outsAt0 m c t.val t.isLt).1 = (fun x0 x1 => k0_pay2 x0 x1) (iblk m c 0 t) (iblk m c 1 t) := by
    by_cases h : t.val % 4 = 0
    · rw [outsAt0_A m c t h]
      dsimp only
      rw [outA2]
    · rw [outsAt0_B m c t h]
      dsimp only
      rw [outB2]
  rw [e]
  refine (pay2_at (iblk m c 0 t) (iblk m c 1 t) r l).trans ?_
  simp only [gradOf, blk0_at, blk1_at]

/-- What block `n` adds to the loss. -/
def part (m : (ℓ : Loc nD τ sig) → Buf (Elt Ideal) ℓ) (c : Dev nD) (n : ℕ) : EReal := if h : n < 4 then ∑ r : Fin 512, rowOf m c (spot n h r) else 0

theorem part_at (t : Fin grid0.N) (v : FVec Ideal S1x1 .f32) :
    ((fun x0 x1 => k0_pay4 x0 x1 v) (iblk m c 0 t) (iblk m c 1 t) (ix2 0 0) : EReal) = v (ix2 0 0) + part m c t.val := by
  refine (pay3_at (iblk m c 0 t) (iblk m c 1 t) v).trans ?_
  rw [part, dif_pos (four t)]
  simp only [rowOf, blk0_at, blk1_at]

/-- After point `n` the buffer holds the sum over the blocks up to the `n`-th. -/
theorem outs_at : ∀ (n : ℕ) (hn : n < cfg0.N),
    ((outsAt0 m c n hn).2 (ix2 0 0) : EReal) = ∑ s ∈ Finset.range (n + 1), part m c s
  | 0, hn => by
    rw [outsAt0_A m c ⟨0, hn⟩ rfl, Finset.sum_range_one]
    dsimp only
    rw [outA3]
    refine (part_at ⟨0, hn⟩ _).trans ?_
    rw [zero_at, zero_add]
  | n + 1, hn => by
    have h4 := four ⟨n + 1, hn⟩
    simp only at h4
    rw [outsAt0_B m c ⟨n + 1, hn⟩ (by simp only; omega), Finset.sum_range_succ, ← outs_at n (Nat.lt_of_succ_lt hn)]
    dsimp only
    rw [outB3]
    exact part_at ⟨n + 1, hn⟩ _

theorem sum_part : ∑ s ∈ Finset.range 4, part m c s = ∑ r : Fin 2048, rowOf m c r := by
  rw [Finset.sum_range]
  rw [← Fintype.sum_equiv (finProdFinEquiv (m := 4) (n := 512)) (fun p => rowOf m c (spot p.1.val p.1.isLt p.2))
    (fun r : Fin 2048 => rowOf m c r) (fun p => ?_)]
  · rw [Fintype.sum_prod_type]
    exact Finset.sum_congr rfl fun s _ => dif_pos s.isLt
  · have e : spot p.1.val p.1.isLt p.2 = finProdFinEquiv p := Fin.ext (by simp only [spot, finProdFinEquiv_apply_val]; omega)
    rw [e]

theorem arr2 : (dats m 0 c).arrAt 2 (cfgs 0).N = fun i : S2048x1024.Idx => gradOf m c (i 0) (i 1) := by
  refine (dats m 0 c).arrAt_eq_of_covers 2 _ (by decide +kernel) fun t hf y => ?_
  blk_simp
  rw [after0_2]
  idx_vars y
  have e0 : (win0_2.blk t).view.emb (ix2 y0 y1) 0 = spot t.val (four t) y0 := by
    refine Fin.ext ?_
    blk_simp [places t, spot]
    exact congrArg (· + _) (Nat.mul_comm _ _)
  have e1 : (win0_2.blk t).view.emb (ix2 y0 y1) 1 = y1 := by
    refine Fin.ext ?_
    blk_simp [places t]
  rw [e0, e1]
  exact left2_at t y0 y1

theorem arr3 : (dats m 0 c).arrAt 3 (cfgs 0).N = fun _ : S1x1.Idx => ∑ r : Fin 2048, rowOf m c r := by
  refine (dats m 0 c).arrAt_eq_of_covers 3 _ (by decide +kernel) fun t hf y => ?_
  have h3 : t.val = 3 := by
    have := (flush0_3 t).mp hf
    have := four t
    omega
  blk_simp
  rw [after0_3]
  idx_vars y
  obtain rfl : y0 = 0 := Subsingleton.elim _ _
  obtain rfl : y1 = 0 := Subsingleton.elim _ _
  refine (outs_at _ _).trans ?_
  rw [h3]
  exact sum_part

abbrev tailOps : List (HloOp τ sig (Elt Ideal)) := [hostOps1].flatten

theorem tail1_eq (W : Valuation τ sig (Elt Ideal)) : (StableHlo.after tailOps W (Proc.devRef .tc main_v1) : FVec Ideal S_ .f32)
    = shapeCast S_ (W (Proc.devRef .tc main_v0_1) : FVec Ideal S1x1 .f32) shapeCasts_S1x1_S_ := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : (dats m 0 c).arrAt 2 cfg0.N = fun i : S2048x1024.Idx => gradOf m c (i 0) (i 1) := arr2

theorem value1 : endOf m c main_v1 = fun _ : S_.Idx => ∑ r : Fin 2048, rowOf m c r := by
  refine (tail1_eq (after0 m c)).trans ?_
  rw [show after0 m c (Proc.devRef .tc main_v0_1) = _ from (left 3).trans arr3]
  rfl

end Cert.Kernel33Ideal.Body

namespace Cert.Join33

open Idealize.ShloMosaic Idealize.ShloMosaic.TcCoe Idealize.SL.Sem

/-- The reference runs no semaphore: every counter family over its signature is the zero one. -/
theorem no_counter (s : GSem Reference33Ideal.nD Reference33Ideal.τ Reference33Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference33Ideal (hReference33Ideal := Reference33Ideal.Gen.facts) := fun m ρ _ =>
  (θ_run Reference33Ideal.defs _ _).mono (fun r h => ⟨fun c => (h c).2.2, no_counter _⟩) (Reference33Ideal.Value.run m ρ)

/-- The kernel and the reference end with the same gradient and loss. -/
theorem same : algebraic_Kernel33Ideal_Reference33Ideal (hKernel33Ideal := Kernel33Ideal.Gen.facts) (hReference33Ideal := Reference33Ideal.Gen.facts) := by
  intro m g m' g' _ ha
  refine ⟨fun c => (Kernel33Ideal.Gen.dats m 0 c).arrAt 2 Kernel33Ideal.cfg0.N, fun c => Kernel33Ideal.Body.endOf m c _,
    ?_, ?_⟩
  · refine (θ_run Kernel33Ideal.defs _ _).mono (fun r h c => ?_) (θ_run_and (Kernel33Ideal.Gen.run_main m g) (Kernel33Ideal.Gen.unchanged m g))
    exact ⟨(h.1 c).1 2, h.1.rest_eq c Kernel33Ideal.main_v1 (by decide), h.2 c⟩
  · refine (θ_run Reference33Ideal.defs _ _).mono (fun r h c => ?_) (Reference33Ideal.Value.run m' g')
    obtain ⟨h0, h1, hrest⟩ := h c
    obtain ⟨e0, e1⟩ := ha c
    refine ⟨h0.trans ?_, h1.trans ?_, hrest⟩
    · refine Eq.trans ?_ Kernel33Ideal.Body.value0.symm
      rw [e0, e1]
      funext i
      idx_vars i
      rw [Kernel33Ideal.Body.gradOf, ← Kernel33Ideal.Body.grad_eq]
      pointwise [Kernel33Ideal.Body.half]
    · refine Eq.trans ?_ Kernel33Ideal.Body.value1.symm
      rw [e0, e1]
      funext i
      simp only [Kernel33Ideal.Body.rowOf]
      rw [← Kernel33Ideal.Body.loss_eq (fun r k => Kernel33Ideal.Body.aX m c (ix2 r k)) (fun r k => Kernel33Ideal.Body.aT m c (ix2 r k))]
      pointwise [Kernel33Ideal.Body.half]

end Cert.Join33

end
-- ==== Proof.GradsSum.lean ====
module

public import proofs.«01_k».proof.Proof.Gen.Kernel34Ideal.Frame
public import proofs.«01_k».proof.Proof.Gen.Reference34Ideal.Run
public import proofs.«01_k».proof.Defs
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel34Ideal.Body

open Idealize.ShloMosaic Idealize.ShloMosaic.TcCoe Idealize.SL.Sem
open Cert.Kernel34Ideal Cert.Kernel34Ideal.Gen

theorem places : ∀ t : Fin grid0.N,
    win0_0.index t = ![t.val, 0] ∧ win0_1.index t = ![4 + t.val, 0] ∧ win0_2.index t = ![8 + t.val, 0] ∧ win0_3.index t = ![12 + t.val, 0] ∧ win0_4.index t = ![16 + t.val, 0] ∧ win0_5.index t = ![20 + t.val, 0] ∧ win0_6.index t = ![24 + t.val, 0] ∧ win0_7.index t = ![28 + t.val, 0] ∧ win0_8.index t = ![t.val, 0] := by decide +kernel

theorem out8_at (x0 : Vec Ideal S136x1024 .f32) (x1 : Vec Ideal S136x1024 .f32) (x2 : Vec Ideal S136x1024 .f32) (x3 : Vec Ideal S136x1024 .f32) (x4 : Vec Ideal S136x1024 .f32) (x5 : Vec Ideal S136x1024 .f32) (x6 : Vec Ideal S136x1024 .f32) (x7 : Vec Ideal S136x1024 .f32) (r : Fin 136) (l : Fin 1024) :
    (out0_8 x0 x1 x2 x3 x4 x5 x6 x7 (ix2 r l) : EReal) = ((((((((x0 (ix2 r l) : EReal) + x1 (ix2 r l)) + x2 (ix2 r l)) + x3 (ix2 r l)) + x4 (ix2 r l)) + x5 (ix2 r l)) + x6 (ix2 r l)) + x7 (ix2 r l)) := by
  unfold out0_8
  rw [View.canon_unit_zero (S := S136x1024) (by decide)]
  repeat rw [View.ld_unit_zero (S := S136x1024) (by decide)]
  pointwise [k0_pay1]

variable {m : (ℓ : Loc nD τ sig) → Buf (Elt Ideal) ℓ} {c : Dev nD}

/-- The arguments at a device: the gradients received from each device. -/
abbrev aR (m : (ℓ : Loc nD τ sig) → Buf (Elt Ideal) ℓ) (c : Dev nD) : FVec Ideal S8x544x1024 .f32 := m ((c : Thread nD τ).loc main_arg0)

/-- The received gradients, the devices one below the other. -/
def stack (x : FVec Ideal S8x544x1024 .f32) : FVec Ideal S4352x1024 .f32 := shapeCast S4352x1024 x shapeCasts_S8x544x1024_S4352x1024

/-- The row of the stack that row `r` of device `d` is. -/
def place (d : Fin 8) (r : Fin 544) : Fin 4352 := ⟨544 * d.val + r.val, by omega⟩

theorem stack_at (x : FVec Ideal S8x544x1024 .f32) (d : Fin 8) (r : Fin 544) (k : Fin 1024) :
    (stack x (ix2 (place d r) k) : EReal) = x (ix3 d r k) := by
  pointwise [stack, place]

theorem x_eq : (V m c main_v0 : FVec Ideal S4352x1024 .f32) = stack (aR m c) := by
  unfold V
  after_results_simp
  rfl

theorem four (t : Fin grid0.N) : t.val < 4 := lt_of_lt_of_eq t.isLt N_0

/-- The row that row `r` of block `t` is. -/
def spot (t : Fin grid0.N) (r : Fin 136) : Fin 544 := ⟨136 * t.val + r.val, by have := four t; omega⟩

theorem blk0_at (t : Fin grid0.N) (r : Fin 136) (k : Fin 1024) : (iblk m c 0 t (ix2 r k) : EReal) = aR m c (ix3 0 (spot t r) k) := by
  rw [← stack_at (aR m c), ← x_eq]
  blk_ext [iblk, places t, spot, place]

theorem blk1_at (t : Fin grid0.N) (r : Fin 136) (k : Fin 1024) : (iblk m c 1 t (ix2 r k) : EReal) = aR m c (ix3 1 (spot t r) k) := by
  rw [← stack_at (aR m c), ← x_eq]
  blk_ext [iblk, places t, spot, place]

theorem blk2_at (t : Fin grid0.N) (r : Fin 136) (k : Fin 1024) : (iblk m c 2 t (ix2 r k) : EReal) = aR m c (ix3 2 (spot t r) k) := by
  rw [← stack_at (aR m c), ← x_eq]
  blk_ext [iblk, places t, spot, place]

theorem blk3_at (t : Fin grid0.N) (r : Fin 136) (k : Fin 1024) : (iblk m c 3 t (ix2 r k) : EReal) = aR m c (ix3 3 (spot t r) k) := by
  rw [← stack_at (aR m c), ← x_eq]
  blk_ext [iblk, places t, spot, place]

theorem blk4_at (t : Fin grid0.N) (r : Fin 136) (k : Fin 1024) : (iblk m c 4 t (ix2 r k) : EReal) = aR m c (ix3 4 (spot t r) k) := by
  rw [← stack_at (aR m c), ← x_eq]
  blk_ext [iblk, places t, spot, place]

theorem blk5_at (t : Fin grid0.N) (r : Fin 136) (k : Fin 1024) : (iblk m c 5 t (ix2 r k) : EReal) = aR m c (ix3 5 (spot t r) k) := by
  rw [← stack_at (aR m c), ← x_eq]
  blk_ext [iblk, places t, spot, place]

theorem blk6_at (t : Fin grid0.N) (r : Fin 136) (k : Fin 1024) : (iblk m c 6 t (ix2 r k) : EReal) = aR m c (ix3 6 (spot t r) k) := by
  rw [← stack_at (aR m c), ← x_eq]
  blk_ext [iblk, places t, spot, place]

theorem blk7_at (t : Fin grid0.N) (r : Fin 136) (k : Fin 1024) : (iblk m c 7 t (ix2 r k) : EReal) = aR m c (ix3 7 (spot t r) k) := by
  rw [← stack_at (aR m c), ← x_eq]
  blk_ext [iblk, places t, spot, place]

theorem arr8 : (dats m 0 c).arrAt 8 (cfgs 0).N = fun i : S544x1024.Idx => ∑ d : Fin 8, (aR m c (ix3 d (i 0) (i 1)) : EReal) := by
  refine (dats m 0 c).arrAt_eq_of_covers 8 _ (by decide +kernel) fun t hf y => ?_
  blk_simp
  rw [after0_8]
  idx_vars y
  have e0 : (win0_8.blk t).view.emb (ix2 y0 y1) 0 = spot t y0 := by
    refine Fin.ext ?_
    blk_simp [places t, spot]
    exact congrArg (· + _) (Nat.mul_comm _ _)
  have e1 : (win0_8.blk t).view.emb (ix2 y0 y1) 1 = y1 := by
    refine Fin.ext ?_
    blk_simp [places t]
  refine (out8_at (iblk m c 0 t) (iblk m c 1 t) (iblk m c 2 t) (iblk m c 3 t) (iblk m c 4 t) (iblk m c 5 t) (iblk m c 6 t) (iblk m c 7 t) y0 y1).trans ?_
  rw [e0, e1]
  simp only [blk0_at, blk1_at, blk2_at, blk3_at, blk4_at, blk5_at, blk6_at, blk7_at, Fin.sum_univ_eight]

theorem value0 : (dats m 0 c).arrAt 8 cfg0.N = fun i : S544x1024.Idx => ∑ d : Fin 8, (aR m c (ix3 d (i 0) (i 1)) : EReal) := arr8

end Cert.Kernel34Ideal.Body

namespace Cert.Join34

open Idealize.ShloMosaic Idealize.ShloMosaic.TcCoe Idealize.SL.Sem

/-- The reference runs no semaphore: every counter family over its signature is the zero one. -/
theorem no_counter (s : GSem Reference34Ideal.nD Reference34Ideal.τ Reference34Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference34Ideal (hReference34Ideal := Reference34Ideal.Gen.facts) := fun m ρ _ =>
  (θ_run Reference34Ideal.defs _ _).mono (fun r h => ⟨fun c => (h c).2, no_counter _⟩) (Reference34Ideal.Value.run m ρ)

/-- The kernel and the reference end with the same sum. -/
theorem same : algebraic_Kernel34Ideal_Reference34Ideal (hKernel34Ideal := Kernel34Ideal.Gen.facts) (hReference34Ideal := Reference34Ideal.Gen.facts) := by
  intro m g m' g' _ ha
  refine ⟨fun c => (Kernel34Ideal.Gen.dats m 0 c).arrAt 8 Kernel34Ideal.cfg0.N,
    ?_, ?_⟩
  · refine (θ_run Kernel34Ideal.defs _ _).mono (fun r h c => ?_) (θ_run_and (Kernel34Ideal.Gen.run_main m g) (Kernel34Ideal.Gen.unchanged m g))
    exact ⟨(h.1 c).1 8, h.2 c⟩
  · refine (θ_run Reference34Ideal.defs _ _).mono (fun r h c => ?_) (Reference34Ideal.Value.run m' g')
    obtain ⟨h0, hrest⟩ := h c
    have e0 := ha c
    refine ⟨h0.trans ?_, hrest⟩
    · refine Eq.trans ?_ Kernel34Ideal.Body.value0.symm
      rw [e0]
      funext i
      idx_vars i
      pointwise

end Cert.Join34

end
-- ==== Proof.Adam.lean ====
module

public import Idealize.ShloMosaic.Lib.Pointwise

@[expose] public section

noncomputable section

namespace Cert.Adam

open Idealize.ShloMosaic

/-- The new first moment from the gradient and the old one. -/
def newM (g m : EReal) : EReal := Ideal.ofBits .f32 0x3F666666#32 * m + Ideal.ofBits .f32 0x3DCCCCCD#32 * g

/-- The new second moment from the gradient and the old one. -/
def newV (g v : EReal) : EReal := Ideal.ofBits .f32 0x3F7FBE77#32 * v + Ideal.ofBits .f32 0x3A83126F#32 * (g * g)

/-- The change of a weight from its gradient, its value and its two moments. -/
def delta (g w m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.Adam

end
-- ==== Proof.AdamNorm.lean ====
module

public import proofs.«01_k».proof.Proof.Gen.Kernel35Ideal.Frame
public import proofs.«01_k».proof.Proof.Gen.Reference35Ideal.Run
public import proofs.«01_k».proof.Defs
public import proofs.«01_k».proof.Proof.Adam
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel35Ideal.Body

open Idealize.ShloMosaic Idealize.ShloMosaic.TcCoe Idealize.SL.Sem
open Cert.Kernel35Ideal Cert.Kernel35Ideal.Gen Cert.Adam

theorem places : ∀ t : Fin grid0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem out4_at (x0 : Vec Ideal S4x1024 .f32) (x1 : Vec Ideal S4x1024 .f32) (x2 : Vec Ideal S4x1024 .f32) (x3 : Vec Ideal S4x1024 .f32) (r : Fin 4) (l : Fin 1024) :
    (out0_4 x0 x1 x2 x3 (ix2 r l) : EReal) = x0 (ix2 r l) := by
  unfold out0_4
  rw [View.canon_unit_zero (S := S4x1024) (by decide)]
  repeat rw [View.ld_unit_zero (S := S4x1024) (by decide)]

theorem out5_at (x0 : Vec Ideal S4x1024 .f32) (x1 : Vec Ideal S4x1024 .f32) (x2 : Vec Ideal S4x1024 .f32) (x3 : Vec Ideal S4x1024 .f32) (r : Fin 4) (l : Fin 1024) :
    (out0_5 x0 x1 x2 x3 (ix2 r l) : EReal) = delta (x0 (ix2 r l)) (x1 (ix2 r l)) (x2 (ix2 r l)) (x3 (ix2 r l)) := by
  unfold out0_5
  rw [View.canon_unit_zero (S := S4x1024) (by decide)]
  repeat rw [View.ld_unit_zero (S := S4x1024) (by decide)]
  pointwise [k0_pay1, k0_pay2, k0_pay3, delta, newM, newV]

theorem out6_at (x0 : Vec Ideal S4x1024 .f32) (x1 : Vec Ideal S4x1024 .f32) (x2 : Vec Ideal S4x1024 .f32) (x3 : Vec Ideal S4x1024 .f32) (r : Fin 4) (l : Fin 1024) :
    (out0_6 x0 x1 x2 x3 (ix2 r l) : EReal) = newM (x0 (ix2 r l)) (x2 (ix2 r l)) := by
  unfold out0_6
  rw [View.canon_unit_zero (S := S4x1024) (by decide)]
  repeat rw [View.ld_unit_zero (S := S4x1024) (by decide)]
  pointwise [k0_pay1, k0_pay2, k0_pay3, delta, newM, newV]

theorem out7_at (x0 : Vec Ideal S4x1024 .f32) (x1 : Vec Ideal S4x1024 .f32) (x2 : Vec Ideal S4x1024 .f32) (x3 : Vec Ideal S4x1024 .f32) (r : Fin 4) (l : Fin 1024) :
    (out0_7 x0 x1 x2 x3 (ix2 r l) : EReal) = newV (x0 (ix2 r l)) (x3 (ix2 r l)) := by
  unfold out0_7
  rw [View.canon_unit_zero (S := S4x1024) (by decide)]
  repeat rw [View.ld_unit_zero (S := S4x1024) (by decide)]
  pointwise [k0_pay1, k0_pay2, k0_pay3, delta, newM, newV]

variable {m : (ℓ : Loc nD τ sig) → Buf (Elt Ideal) ℓ} {c : Dev nD}

/-- The arguments at a device: the gradient, the weights and the two moments. -/
abbrev aG (m : (ℓ : Loc nD τ sig) → Buf (Elt Ideal) ℓ) (c : Dev nD) : FVec Ideal S4x1024 .f32 := m ((c : Thread nD τ).loc main_arg0)
abbrev aW (m : (ℓ : Loc nD τ sig) → Buf (Elt Ideal) ℓ) (c : Dev nD) : FVec Ideal S4x1024 .f32 := m ((c : Thread nD τ).loc main_arg1)
abbrev aM (m : (ℓ : Loc nD τ sig) → Buf (Elt Ideal) ℓ) (c : Dev nD) : FVec Ideal S4x1024 .f32 := m ((c : Thread nD τ).loc main_arg2)
abbrev aV (m : (ℓ : Loc nD τ sig) → Buf (Elt Ideal) ℓ) (c : Dev nD) : FVec Ideal S4x1024 .f32 := m ((c : Thread nD τ).loc main_arg3)

theorem x0_eq : (V m c main_arg0 : FVec Ideal S4x1024 .f32) = aG m c := by
  unfold V
  after_results_simp

theorem x1_eq : (V m c main_arg1 : FVec Ideal S4x1024 .f32) = aW m c := by
  unfold V
  after_results_simp

theorem x2_eq : (V m c main_arg2 : FVec Ideal S4x1024 .f32) = aM m c := by
  unfold V
  after_results_simp

theorem x3_eq : (V m c main_arg3 : FVec Ideal S4x1024 .f32) = aV m c := by
  unfold V
  after_results_simp

theorem few (t : Fin grid0.N) : t.val < 1 := lt_of_lt_of_eq t.isLt N_0

/-- The row that row `r` of block `t` is. -/
def spot (t : Fin grid0.N) (r : Fin 4) : Fin 4 := ⟨4 * t.val + r.val, by have := few t; omega⟩

theorem blk0_at (t : Fin grid0.N) (r : Fin 4) (k : Fin 1024) : (iblk m c 0 t (ix2 r k) : EReal) = aG m c (ix2 (spot t r) k) := by
  rw [← x0_eq]
  blk_ext [iblk, places t, spot]

theorem blk1_at (t : Fin grid0.N) (r : Fin 4) (k : Fin 1024) : (iblk m c 1 t (ix2 r k) : EReal) = aW m c (ix2 (spot t r) k) := by
  rw [← x1_eq]
  blk_ext [iblk, places t, spot]

theorem blk2_at (t : Fin grid0.N) (r : Fin 4) (k : Fin 1024) : (iblk m c 2 t (ix2 r k) : EReal) = aM m c (ix2 (spot t r) k) := by
  rw [← x2_eq]
  blk_ext [iblk, places t, spot]

theorem blk3_at (t : Fin grid0.N) (r : Fin 4) (k : Fin 1024) : (iblk m c 3 t (ix2 r k) : EReal) = aV m c (ix2 (spot t r) k) := by
  rw [← x3_eq]
  blk_ext [iblk, places t, spot]

theorem arr4 : (dats m 0 c).arrAt 4 (cfgs 0).N = fun i : S4x1024.Idx => (aG m c (ix2 (i 0) (i 1))) := by
  refine (dats m 0 c).arrAt_eq_of_covers 4 _ (by decide +kernel) fun t hf y => ?_
  blk_simp
  rw [after0_4]
  idx_vars y
  have e0 : (win0_4.blk t).view.emb (ix2 y0 y1) 0 = spot t y0 := by
    refine Fin.ext ?_
    blk_simp [places t, spot]
    exact (Nat.zero_add _).symm
  have e1 : (win0_4.blk t).view.emb (ix2 y0 y1) 1 = y1 := by
    refine Fin.ext ?_
    blk_simp [places t]
  refine (out4_at (iblk m c 0 t) (iblk m c 1 t) (iblk m c 2 t) (iblk m c 3 t) y0 y1).trans ?_
  rw [e0, e1]
  simp only [blk0_at]

theorem arr5 : (dats m 0 c).arrAt 5 (cfgs 0).N = fun i : S4x1024.Idx => delta (aG m c (ix2 (i 0) (i 1))) (aW m c (ix2 (i 0) (i 1))) (aM m c (ix2 (i 0) (i 1))) (aV m c (ix2 (i 0) (i 1))) := by
  refine (dats m 0 c).arrAt_eq_of_covers 5 _ (by decide +kernel) fun t hf y => ?_
  blk_simp
  rw [after0_5]
  idx_vars y
  have e0 : (win0_5.blk t).view.emb (ix2 y0 y1) 0 = spot t y0 := by
    refine Fin.ext ?_
    blk_simp [places t, spot]
    exact (Nat.zero_add _).symm
  have e1 : (win0_5.blk t).view.emb (ix2 y0 y1) 1 = y1 := by
    refine Fin.ext ?_
    blk_simp [places t]
  refine (out5_at (iblk m c 0 t) (iblk m c 1 t) (iblk m c 2 t) (iblk m c 3 t) y0 y1).trans ?_
  rw [e0, e1]
  simp only [blk0_at, blk1_at, blk2_at, blk3_at]

theorem arr6 : (dats m 0 c).arrAt 6 (cfgs 0).N = fun i : S4x1024.Idx => newM (aG m c (ix2 (i 0) (i 1))) (aM m c (ix2 (i 0) (i 1))) := by
  refine (dats m 0 c).arrAt_eq_of_covers 6 _ (by decide +kernel) fun t hf y => ?_
  blk_simp
  rw [after0_6]
  idx_vars y
  have e0 : (win0_6.blk t).view.emb (ix2 y0 y1) 0 = spot t y0 := by
    refine Fin.ext ?_
    blk_simp [places t, spot]
    exact (Nat.zero_add _).symm
  have e1 : (win0_6.blk t).view.emb (ix2 y0 y1) 1 = y1 := by
    refine Fin.ext ?_
    blk_simp [places t]
  refine (out6_at (iblk m c 0 t) (iblk m c 1 t) (iblk m c 2 t) (iblk m c 3 t) y0 y1).trans ?_
  rw [e0, e1]
  simp only [blk0_at, blk2_at]

theorem arr7 : (dats m 0 c).arrAt 7 (cfgs 0).N = fun i : S4x1024.Idx => newV (aG m c (ix2 (i 0) (i 1))) (aV m c (ix2 (i 0) (i 1))) := by
  refine (dats m 0 c).arrAt_eq_of_covers 7 _ (by decide +kernel) fun t hf y => ?_
  blk_simp
  rw [after0_7]
  idx_vars y
  have e0 : (win0_7.blk t).view.emb (ix2 y0 y1) 0 = spot t y0 := by
    refine Fin.ext ?_
    blk_simp [places t, spot]
    exact (Nat.zero_add _).symm
  have e1 : (win0_7.blk t).view.emb (ix2 y0 y1) 1 = y1 := by
    refine Fin.ext ?_
    blk_simp [places t]
  refine (out7_at (iblk m c 0 t) (iblk m c 1 t) (iblk m c 2 t) (iblk m c 3 t) y0 y1).trans ?_
  rw [e0, e1]
  simp only [blk0_at, blk3_at]

theorem value0 : (dats m 0 c).arrAt 4 cfg0.N = fun i : S4x1024.Idx => (aG m c (ix2 (i 0) (i 1))) := arr4

theorem value1 : (dats m 0 c).arrAt 5 cfg0.N = fun i : S4x1024.Idx => delta (aG m c (ix2 (i 0) (i 1))) (aW m c (ix2 (i 0) (i 1))) (aM m c (ix2 (i 0) (i 1))) (aV m c (ix2 (i 0) (i 1))) := arr5

theorem value2 : (dats m 0 c).arrAt 6 cfg0.N = fun i : S4x1024.Idx => newM (aG m c (ix2 (i 0) (i 1))) (aM m c (ix2 (i 0) (i 1))) := arr6

theorem value3 : (dats m 0 c).arrAt 7 cfg0.N = fun i : S4x1024.Idx => newV (aG m c (ix2 (i 0) (i 1))) (aV m c (ix2 (i 0) (i 1))) := arr7

end Cert.Kernel35Ideal.Body

namespace Cert.Join35

open Idealize.ShloMosaic Idealize.ShloMosaic.TcCoe Idealize.SL.Sem

/-- The reference runs no semaphore: every counter family over its signature is the zero one. -/
theorem no_counter (s : GSem Reference35Ideal.nD Reference35Ideal.τ Reference35Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference35Ideal (hReference35Ideal := Reference35Ideal.Gen.facts) := fun m ρ _ =>
  (θ_run Reference35Ideal.defs _ _).mono (fun r h => ⟨fun c => (h c).2.2.2.2, no_counter _⟩) (Reference35Ideal.Value.run m ρ)

/-- The kernel and the reference end with the same gradient, change and moments. -/
theorem same : algebraic_Kernel35Ideal_Reference35Ideal (hKernel35Ideal := Kernel35Ideal.Gen.facts) (hReference35Ideal := Reference35Ideal.Gen.facts) := by
  intro m g m' g' _ ha
  refine ⟨fun c => (Kernel35Ideal.Gen.dats m 0 c).arrAt 4 Kernel35Ideal.cfg0.N, fun c => (Kernel35Ideal.Gen.dats m 0 c).arrAt 5 Kernel35Ideal.cfg0.N, fun c => (Kernel35Ideal.Gen.dats m 0 c).arrAt 6 Kernel35Ideal.cfg0.N, fun c => (Kernel35Ideal.Gen.dats m 0 c).arrAt 7 Kernel35Ideal.cfg0.N,
    ?_, ?_⟩
  · refine (θ_run Kernel35Ideal.defs _ _).mono (fun r h c => ?_) (θ_run_and (Kernel35Ideal.Gen.run_main m g) (Kernel35Ideal.Gen.unchanged m g))
    exact ⟨(h.1 c).1 4, (h.1 c).1 5, (h.1 c).1 6, (h.1 c).1 7, h.2 c⟩
  · refine (θ_run Reference35Ideal.defs _ _).mono (fun r h c => ?_) (Reference35Ideal.Value.run m' g')
    obtain ⟨h0, h1, h2, h3, hrest⟩ := h c
    obtain ⟨e0, e1, e2, e3⟩ := ha c
    refine ⟨h0.trans ?_, h1.trans ?_, h2.trans ?_, h3.trans ?_, hrest⟩
    · refine Eq.trans ?_ Kernel35Ideal.Body.value0.symm
      rw [e0]
      funext i
      idx_vars i
    · refine Eq.trans ?_ Kernel35Ideal.Body.value1.symm
      rw [e0, e1, e2, e3]
      funext i
      idx_vars i
      pointwise [Adam.delta, Adam.newM, Adam.newV]
    · refine Eq.trans ?_ Kernel35Ideal.Body.value2.symm
      rw [e0, e2]
      funext i
      idx_vars i
      pointwise [Adam.delta, Adam.newM, Adam.newV]
    · refine Eq.trans ?_ Kernel35Ideal.Body.value3.symm
      rw [e0, e3]
      funext i
      idx_vars i
      pointwise [Adam.delta, Adam.newM, Adam.newV]

end Cert.Join35

end
-- ==== Proof.AdamLambda.lean ====
module

public import proofs.«01_k».proof.Proof.Gen.Kernel36Ideal.Frame
public import proofs.«01_k».proof.Proof.Gen.Reference36Ideal.Run
public import proofs.«01_k».proof.Defs
public import proofs.«01_k».proof.Proof.Adam
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel36Ideal.Body

open Idealize.ShloMosaic Idealize.ShloMosaic.TcCoe Idealize.SL.Sem
open Cert.Kernel36Ideal Cert.Kernel36Ideal.Gen Cert.Adam

theorem places : ∀ t : Fin grid0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem out4_at (x0 : Vec Ideal S128x64 .f32) (x1 : Vec Ideal S128x64 .f32) (x2 : Vec Ideal S128x64 .f32) (x3 : Vec Ideal S128x64 .f32) (r : Fin 128) (l : Fin 64) :
    (out0_4 x0 x1 x2 x3 (ix2 r l) : EReal) = x0 (ix2 r l) := by
  unfold out0_4
  rw [View.canon_unit_zero (S := S128x64) (by decide)]
  repeat rw [View.ld_unit_zero (S := S128x64) (by decide)]
  pointwise [k0_pay1, k0_pay2, k0_pay3, k0_pay4, delta, newM, newV]

theorem out5_at (x0 : Vec Ideal S128x64 .f32) (x1 : Vec Ideal S128x64 .f32) (x2 : Vec Ideal S128x64 .f32) (x3 : Vec Ideal S128x64 .f32) (r : Fin 128) (l : Fin 64) :
    (out0_5 x0 x1 x2 x3 (ix2 r l) : EReal) = delta (x0 (ix2 r l)) (x1 (ix2 r l)) (x2 (ix2 r l)) (x3 (ix2 r l)) := by
  unfold out0_5
  rw [View.canon_unit_zero (S := S128x64) (by decide)]
  repeat rw [View.ld_unit_zero (S := S128x64) (by decide)]
  pointwise [k0_pay1, k0_pay2, k0_pay3, k0_pay4, delta, newM, newV]

theorem out6_at (x0 : Vec Ideal S128x64 .f32) (x1 : Vec Ideal S128x64 .f32) (x2 : Vec Ideal S128x64 .f32) (x3 : Vec Ideal S128x64 .f32) (r : Fin 128) (l : Fin 64) :
    (out0_6 x0 x1 x2 x3 (ix2 r l) : EReal) = newM (x0 (ix2 r l)) (x2 (ix2 r l)) := by
  unfold out0_6
  rw [View.canon_unit_zero (S := S128x64) (by decide)]
  repeat rw [View.ld_unit_zero (S := S128x64) (by decide)]
  pointwise [k0_pay1, k0_pay2, k0_pay3, k0_pay4, delta, newM, newV]

theorem out7_at (x0 : Vec Ideal S128x64 .f32) (x1 : Vec Ideal S128x64 .f32) (x2 : Vec Ideal S128x64 .f32) (x3 : Vec Ideal S128x64 .f32) (r : Fin 128) (l : Fin 64) :
    (out0_7 x0 x1 x2 x3 (ix2 r l) : EReal) = newV (x0 (ix2 r l)) (x3 (ix2 r l)) := by
  unfold out0_7
  rw [View.canon_unit_zero (S := S128x64) (by decide)]
  repeat rw [View.ld_unit_zero (S := S128x64) (by decide)]
  pointwise [k0_pay1, k0_pay2, k0_pay3, k0_pay4, delta, newM, newV]

variable {m : (ℓ : Loc nD τ sig) → Buf (Elt Ideal) ℓ} {c : Dev nD}

/-- The arguments at a device: the gradient, the weights and the two moments. -/
abbrev aG (m : (ℓ : Loc nD τ sig) → Buf (Elt Ideal) ℓ) (c : Dev nD) : FVec Ideal S4x32x64 .f32 := m ((c : Thread nD τ).loc main_arg0)
abbrev aW (m : (ℓ : Loc nD τ sig) → Buf (Elt Ideal) ℓ) (c : Dev nD) : FVec Ideal S4x32x64 .f32 := m ((c : Thread nD τ).loc main_arg1)
abbrev aM (m : (ℓ : Loc nD τ sig) → Buf (Elt Ideal) ℓ) (c : Dev nD) : FVec Ideal S4x32x64 .f32 := m ((c : Thread nD τ).loc main_arg2)
abbrev aV (m : (ℓ : Loc nD τ sig) → Buf (Elt Ideal) ℓ) (c : Dev nD) : FVec Ideal S4x32x64 .f32 := m ((c : Thread nD τ).loc main_arg3)

/-- An array over the rows of the call. -/
def flat (x : FVec Ideal S4x32x64 .f32) : FVec Ideal S128x64 .f32 := shapeCast S128x64 x shapeCasts_S4x32x64_S128x64

theorem x0_eq : (V m c main_v0 : FVec Ideal S128x64 .f32) = flat (aG m c) := by
  unfold V V0
  simp only [List.flatten_cons, List.flatten_nil, List.append_nil, List.cons_append, List.nil_append]
  after_results_simp
  rfl

theorem x1_eq : (V m c main_v1 : FVec Ideal S128x64 .f32) = flat (aW m c) := by
  unfold V V0
  simp only [List.flatten_cons, List.flatten_nil, List.append_nil, List.cons_append, List.nil_append]
  after_results_simp
  rfl

theorem x2_eq : (V m c main_v2 : FVec Ideal S128x64 .f32) = flat (aM m c) := by
  unfold V V0
  simp only [List.flatten_cons, List.flatten_nil, List.append_nil, List.cons_append, List.nil_append]
  after_results_simp
  rfl

theorem x3_eq : (V m c main_v3 : FVec Ideal S128x64 .f32) = flat (aV m c) := by
  unfold V V0
  simp only [List.flatten_cons, List.flatten_nil, List.append_nil, List.cons_append, List.nil_append]
  after_results_simp
  rfl

theorem few (t : Fin grid0.N) : t.val < 1 := lt_of_lt_of_eq t.isLt N_0

/-- The row that row `r` of block `t` is. -/
def spot (t : Fin grid0.N) (r : Fin 128) : Fin 128 := ⟨128 * t.val + r.val, by have := few t; omega⟩

theorem blk0_at (t : Fin grid0.N) (r : Fin 128) (k : Fin 64) : (iblk m c 0 t (ix2 r k) : EReal) = flat (aG m c) (ix2 (spot t r) k) := by
  rw [← x0_eq]
  blk_ext [iblk, places t, spot]

theorem blk1_at (t : Fin grid0.N) (r : Fin 128) (k : Fin 64) : (iblk m c 1 t (ix2 r k) : EReal) = flat (aW m c) (ix2 (spot t r) k) := by
  rw [← x1_eq]
  blk_ext [iblk, places t, spot]

theorem blk2_at (t : Fin grid0.N) (r : Fin 128) (k : Fin 64) : (iblk m c 2 t (ix2 r k) : EReal) = flat (aM m c) (ix2 (spot t r) k) := by
  rw [← x2_eq]
  blk_ext [iblk, places t, spot]

theorem blk3_at (t : Fin grid0.N) (r : Fin 128) (k : Fin 64) : (iblk m c 3 t (ix2 r k) : EReal) = flat (aV m c) (ix2 (spot t r) k) := by
  rw [← x3_eq]
  blk_ext [iblk, places t, spot]

theorem arr4 : (dats m 0 c).arrAt 4 (cfgs 0).N = fun i : S128x64.Idx => (flat (aG m c) (ix2 (i 0) (i 1))) := by
  refine (dats m 0 c).arrAt_eq_of_covers 4 _ (by decide +kernel) fun t hf y => ?_
  blk_simp
  rw [after0_4]
  idx_vars y
  have e0 : (win0_4.blk t).view.emb (ix2 y0 y1) 0 = spot t y0 := by
    refine Fin.ext ?_
    blk_simp [places t, spot]
    exact (Nat.zero_add _).symm
  have e1 : (win0_4.blk t).view.emb (ix2 y0 y1) 1 = y1 := by
    refine Fin.ext ?_
    blk_simp [places t]
  refine (out4_at (iblk m c 0 t) (iblk m c 1 t) (iblk m c 2 t) (iblk m c 3 t) y0 y1).trans ?_
  rw [e0, e1]
  simp only [blk0_at]

theorem arr5 : (dats m 0 c).arrAt 5 (cfgs 0).N = fun i : S128x64.Idx => delta (flat (aG m c) (ix2 (i 0) (i 1))) (flat (aW m c) (ix2 (i 0) (i 1))) (flat (aM m c) (ix2 (i 0) (i 1))) (flat (aV m c) (ix2 (i 0) (i 1))) := by
  refine (dats m 0 c).arrAt_eq_of_covers 5 _ (by decide +kernel) fun t hf y => ?_
  blk_simp
  rw [after0_5]
  idx_vars y
  have e0 : (win0_5.blk t).view.emb (ix2 y0 y1) 0 = spot t y0 := by
    refine Fin.ext ?_
    blk_simp [places t, spot]
    exact (Nat.zero_add _).symm
  have e1 : (win0_5.blk t).view.emb (ix2 y0 y1) 1 = y1 := by
    refine Fin.ext ?_
    blk_simp [places t]
  refine (out5_at (iblk m c 0 t) (iblk m c 1 t) (iblk m c 2 t) (iblk m c 3 t) y0 y1).trans ?_
  rw [e0, e1]
  simp only [blk0_at, blk1_at, blk2_at, blk3_at]

theorem arr6 : (dats m 0 c).arrAt 6 (cfgs 0).N = fun i : S128x64.Idx => newM (flat (aG m c) (ix2 (i 0) (i 1))) (flat (aM m c) (ix2 (i 0) (i 1))) := by
  refine (dats m 0 c).arrAt_eq_of_covers 6 _ (by decide +kernel) fun t hf y => ?_
  blk_simp
  rw [after0_6]
  idx_vars y
  have e0 : (win0_6.blk t).view.emb (ix2 y0 y1) 0 = spot t y0 := by
    refine Fin.ext ?_
    blk_simp [places t, spot]
    exact (Nat.zero_add _).symm
  have e1 : (win0_6.blk t).view.emb (ix2 y0 y1) 1 = y1 := by
    refine Fin.ext ?_
    blk_simp [places t]
  refine (out6_at (iblk m c 0 t) (iblk m c 1 t) (iblk m c 2 t) (iblk m c 3 t) y0 y1).trans ?_
  rw [e0, e1]
  simp only [blk0_at, blk2_at]

theorem arr7 : (dats m 0 c).arrAt 7 (cfgs 0).N = fun i : S128x64.Idx => newV (flat (aG m c) (ix2 (i 0) (i 1))) (flat (aV m c) (ix2 (i 0) (i 1))) := by
  refine (dats m 0 c).arrAt_eq_of_covers 7 _ (by decide +kernel) fun t hf y => ?_
  blk_simp
  rw [after0_7]
  idx_vars y
  have e0 : (win0_7.blk t).view.emb (ix2 y0 y1) 0 = spot t y0 := by
    refine Fin.ext ?_
    blk_simp [places t, spot]
    exact (Nat.zero_add _).symm
  have e1 : (win0_7.blk t).view.emb (ix2 y0 y1) 1 = y1 := by
    refine Fin.ext ?_
    blk_simp [places t]
  refine (out7_at (iblk m c 0 t) (iblk m c 1 t) (iblk m c 2 t) (iblk m c 3 t) y0 y1).trans ?_
  rw [e0, e1]
  simp only [blk0_at, blk3_at]

abbrev tailOps : List (HloOp τ sig (Elt Ideal)) := [hostOps1].flatten

theorem tail0_eq (W : Valuation τ sig (Elt Ideal)) : (StableHlo.after tailOps W (Proc.devRef .tc main_v5) : FVec Ideal S4x32x64 .f32)
    = shapeCast S4x32x64 (W (Proc.devRef .tc main_v4_0) : FVec Ideal S128x64 .f32) shapeCasts_S128x64_S4x32x64 := by
  unfold tailOps
  simp only [List.flatten_cons, List.flatten_nil, List.append_nil, List.cons_append, List.nil_append]
  after_results_simp
  rfl

theorem tail1_eq (W : Valuation τ sig (Elt Ideal)) : (StableHlo.after tailOps W (Proc.devRef .tc main_v6) : FVec Ideal S4x32x64 .f32)
    = shapeCast S4x32x64 (W (Proc.devRef .tc main_v4_1) : FVec Ideal S128x64 .f32) shapeCasts_S128x64_S4x32x64 := by
  unfold tailOps
  simp only [List.flatten_cons, List.flatten_nil, List.append_nil, List.cons_append, List.nil_append]
  after_results_simp
  rfl

theorem tail2_eq (W : Valuation τ sig (Elt Ideal)) : (StableHlo.after tailOps W (Proc.devRef .tc main_v7) : FVec Ideal S4x32x64 .f32)
    = shapeCast S4x32x64 (W (Proc.devRef .tc main_v4_2) : FVec Ideal S128x64 .f32) shapeCasts_S128x64_S4x32x64 := by
  unfold tailOps
  simp only [List.flatten_cons, List.flatten_nil, List.append_nil, List.cons_append, List.nil_append]
  after_results_simp
  rfl

theorem tail3_eq (W : Valuation τ sig (Elt Ideal)) : (StableHlo.after tailOps W (Proc.devRef .tc main_v8) : FVec Ideal S4x32x64 .f32)
    = shapeCast S4x32x64 (W (Proc.devRef .tc main_v4_3) : FVec Ideal S128x64 .f32) shapeCasts_S128x64_S4x32x64 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v5 = fun i : S4x32x64.Idx => (aG m c i) := by
  refine (tail0_eq (after0 m c)).trans ?_
  rw [show after0 m c (Proc.devRef .tc main_v4_0) = (fun i : S128x64.Idx => (flat (aG m c) i)) from
    ((left 4).trans arr4).trans (funext fun i => by idx_vars i)]
  funext i
  refine Eq.trans (b := ((shapeCast S4x32x64 (flat (aG m c)) shapeCasts_S128x64_S4x32x64 i) : EReal)) rfl ?_
  simp only [flat, shapeCast_shapeCast]

theorem value1 : endOf m c main_v6 = fun i : S4x32x64.Idx => delta (aG m c i) (aW m c i) (aM m c i) (aV m c i) := by
  refine (tail1_eq (after0 m c)).trans ?_
  rw [show after0 m c (Proc.devRef .tc main_v4_1) = (fun i : S128x64.Idx => delta (flat (aG m c) i) (flat (aW m c) i) (flat (aM m c) i) (flat (aV m c) i)) from
    ((left 5).trans arr5).trans (funext fun i => by idx_vars i)]
  funext i
  refine Eq.trans (b := (delta (shapeCast S4x32x64 (flat (aG m c)) shapeCasts_S128x64_S4x32x64 i) (shapeCast S4x32x64 (flat (aW m c)) shapeCasts_S128x64_S4x32x64 i) (shapeCast S4x32x64 (flat (aM m c)) shapeCasts_S128x64_S4x32x64 i) (shapeCast S4x32x64 (flat (aV m c)) shapeCasts_S128x64_S4x32x64 i) : EReal)) rfl ?_
  simp only [flat, shapeCast_shapeCast]

theorem value2 : endOf m c main_v7 = fun i : S4x32x64.Idx => newM (aG m c i) (aM m c i) := by
  refine (tail2_eq (after0 m c)).trans ?_
  rw [show after0 m c (Proc.devRef .tc main_v4_2) = (fun i : S128x64.Idx => newM (flat (aG m c) i) (flat (aM m c) i)) from
    ((left 6).trans arr6).trans (funext fun i => by idx_vars i)]
  funext i
  refine Eq.trans (b := (newM (shapeCast S4x32x64 (flat (aG m c)) shapeCasts_S128x64_S4x32x64 i) (shapeCast S4x32x64 (flat (aM m c)) shapeCasts_S128x64_S4x32x64 i) : EReal)) rfl ?_
  simp only [flat, shapeCast_shapeCast]

theorem value3 : endOf m c main_v8 = fun i : S4x32x64.Idx => newV (aG m c i) (aV m c i) := by
  refine (tail3_eq (after0 m c)).trans ?_
  rw [show after0 m c (Proc.devRef .tc main_v4_3) = (fun i : S128x64.Idx => newV (flat (aG m c) i) (flat (aV m c) i)) from
    ((left 7).trans arr7).trans (funext fun i => by idx_vars i)]
  funext i
  refine Eq.trans (b := (newV (shapeCast S4x32x64 (flat (aG m c)) shapeCasts_S128x64_S4x32x64 i) (shapeCast S4x32x64 (flat (aV m c)) shapeCasts_S128x64_S4x32x64 i) : EReal)) rfl ?_
  simp only [flat, shapeCast_shapeCast]

end Cert.Kernel36Ideal.Body

namespace Cert.Join36

open Idealize.ShloMosaic Idealize.ShloMosaic.TcCoe Idealize.SL.Sem

/-- The reference runs no semaphore: every counter family over its signature is the zero one. -/
theorem no_counter (s : GSem Reference36Ideal.nD Reference36Ideal.τ Reference36Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference36Ideal (hReference36Ideal := Reference36Ideal.Gen.facts) := fun m ρ _ =>
  (θ_run Reference36Ideal.defs _ _).mono (fun r h => ⟨fun c => (h c).2.2.2.2, no_counter _⟩) (Reference36Ideal.Value.run m ρ)

/-- The kernel and the reference end with the same gradient, change and moments. -/
theorem same : algebraic_Kernel36Ideal_Reference36Ideal (hKernel36Ideal := Kernel36Ideal.Gen.facts) (hReference36Ideal := Reference36Ideal.Gen.facts) := by
  intro m g m' g' _ ha
  refine ⟨fun c => Kernel36Ideal.Body.endOf m c _, fun c => Kernel36Ideal.Body.endOf m c _, fun c => Kernel36Ideal.Body.endOf m c _, fun c => Kernel36Ideal.Body.endOf m c _,
    ?_, ?_⟩
  · refine (θ_run Kernel36Ideal.defs _ _).mono (fun r h c => ?_) (θ_run_and (Kernel36Ideal.Gen.run_main m g) (Kernel36Ideal.Gen.unchanged m g))
    exact ⟨h.1.rest_eq c Kernel36Ideal.main_v5 (by decide), h.1.rest_eq c Kernel36Ideal.main_v6 (by decide), h.1.rest_eq c Kernel36Ideal.main_v7 (by decide), h.1.rest_eq c Kernel36Ideal.main_v8 (by decide), h.2 c⟩
  · refine (θ_run Reference36Ideal.defs _ _).mono (fun r h c => ?_) (Reference36Ideal.Value.run m' g')
    obtain ⟨h0, h1, h2, h3, hrest⟩ := h c
    obtain ⟨e0, e1, e2, e3⟩ := ha c
    refine ⟨h0.trans ?_, h1.trans ?_, h2.trans ?_, h3.trans ?_, hrest⟩
    · refine Eq.trans ?_ Kernel36Ideal.Body.value0.symm
      rw [e0]
      rfl
    · refine Eq.trans ?_ Kernel36Ideal.Body.value1.symm
      rw [e0, e1, e2, e3]
      funext i
      idx_vars i
      pointwise [Adam.delta, Adam.newM, Adam.newV]
    · refine Eq.trans ?_ Kernel36Ideal.Body.value2.symm
      rw [e0, e2]
      funext i
      idx_vars i
      pointwise [Adam.delta, Adam.newM, Adam.newV]
    · refine Eq.trans ?_ Kernel36Ideal.Body.value3.symm
      rw [e0, e3]
      funext i
      idx_vars i
      pointwise [Adam.delta, Adam.newM, Adam.newV]

end Cert.Join36

end
-- ==== Proof.AdamStep.lean ====
module

public import proofs.«01_k».proof.Proof.Gen.Kernel37Ideal.Frame
public import proofs.«01_k».proof.Proof.Gen.Reference37Ideal.Run
public import proofs.«01_k».proof.Defs
public import proofs.«01_k».proof.Proof.Adam
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel37Ideal.Body

open Idealize.ShloMosaic Idealize.ShloMosaic.TcCoe Idealize.SL.Sem
open Cert.Kernel37Ideal Cert.Kernel37Ideal.Gen Cert.Adam

theorem places : ∀ t : Fin grid0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem out4_at (x0 : Vec Ideal S4x32 .f32) (x1 : Vec Ideal S4x32 .f32) (x2 : Vec Ideal S4x32 .f32) (x3 : Vec Ideal S4x32 .f32) (r : Fin 4) (l : Fin 32) :
    (out0_4 x0 x1 x2 x3 (ix2 r l) : EReal) = x0 (ix2 r l) := by
  unfold out0_4
  rw [View.canon_unit_zero (S := S4x32) (by decide)]
  repeat rw [View.ld_unit_zero (S := S4x32) (by decide)]

theorem out5_at (x0 : Vec Ideal S4x32 .f32) (x1 : Vec Ideal S4x32 .f32) (x2 : Vec Ideal S4x32 .f32) (x3 : Vec Ideal S4x32 .f32) (r : Fin 4) (l : Fin 32) :
    (out0_5 x0 x1 x2 x3 (ix2 r l) : EReal) = delta (x0 (ix2 r l)) (x1 (ix2 r l)) (x2 (ix2 r l)) (x3 (ix2 r l)) := by
  unfold out0_5
  rw [View.canon_unit_zero (S := S4x32) (by decide)]
  repeat rw [View.ld_unit_zero (S := S4x32) (by decide)]
  pointwise [k0_pay1, k0_pay2, k0_pay3, delta, newM, newV]

theorem out6_at (x0 : Vec Ideal S4x32 .f32) (x1 : Vec Ideal S4x32 .f32) (x2 : Vec Ideal S4x32 .f32) (x3 : Vec Ideal S4x32 .f32) (r : Fin 4) (l : Fin 32) :
    (out0_6 x0 x1 x2 x3 (ix2 r l) : EReal) = newM (x0 (ix2 r l)) (x2 (ix2 r l)) := by
  unfold out0_6
  rw [View.canon_unit_zero (S := S4x32) (by decide)]
  repeat rw [View.ld_unit_zero (S := S4x32) (by decide)]
  pointwise [k0_pay1, k0_pay2, k0_pay3, delta, newM, newV]

theorem out7_at (x0 : Vec Ideal S4x32 .f32) (x1 : Vec Ideal S4x32 .f32) (x2 : Vec Ideal S4x32 .f32) (x3 : Vec Ideal S4x32 .f32) (r : Fin 4) (l : Fin 32) :
    (out0_7 x0 x1 x2 x3 (ix2 r l) : EReal) = newV (x0 (ix2 r l)) (x3 (ix2 r l)) := by
  unfold out0_7
  rw [View.canon_unit_zero (S := S4x32) (by decide)]
  repeat rw [View.ld_unit_zero (S := S4x32) (by decide)]
  pointwise [k0_pay1, k0_pay2, k0_pay3, delta, newM, newV]

variable {m : (ℓ : Loc nD τ sig) → Buf (Elt Ideal) ℓ} {c : Dev nD}

/-- The arguments at a device: the gradient, the weights and the two moments. -/
abbrev aG (m : (ℓ : Loc nD τ sig) → Buf (Elt Ideal) ℓ) (c : Dev nD) : FVec Ideal S4x32 .f32 := m ((c : Thread nD τ).loc main_arg0)
abbrev aW (m : (ℓ : Loc nD τ sig) → Buf (Elt Ideal) ℓ) (c : Dev nD) : FVec Ideal S4x32 .f32 := m ((c : Thread nD τ).loc main_arg1)
abbrev aM (m : (ℓ : Loc nD τ sig) → Buf (Elt Ideal) ℓ) (c : Dev nD) : FVec Ideal S4x32 .f32 := m ((c : Thread nD τ).loc main_arg2)
abbrev aV (m : (ℓ : Loc nD τ sig) → Buf (Elt Ideal) ℓ) (c : Dev nD) : FVec Ideal S4x32 .f32 := m ((c : Thread nD τ).loc main_arg3)

theorem x0_eq : (V m c main_arg0 : FVec Ideal S4x32 .f32) = aG m c := by
  unfold V
  after_results_simp

theorem x1_eq : (V m c main_arg1 : FVec Ideal S4x32 .f32) = aW m c := by
  unfold V
  after_results_simp

theorem x2_eq : (V m c main_arg2 : FVec Ideal S4x32 .f32) = aM m c := by
  unfold V
  after_results_simp

theorem x3_eq : (V m c main_arg3 : FVec Ideal S4x32 .f32) = aV m c := by
  unfold V
  after_results_simp

theorem few (t : Fin grid0.N) : t.val < 1 := lt_of_lt_of_eq t.isLt N_0

/-- The row that row `r` of block `t` is. -/
def spot (t : Fin grid0.N) (r : Fin 4) : Fin 4 := ⟨4 * t.val + r.val, by have := few t; omega⟩

theorem blk0_at (t : Fin grid0.N) (r : Fin 4) (k : Fin 32) : (iblk m c 0 t (ix2 r k) : EReal) = aG m c (ix2 (spot t r) k) := by
  rw [← x0_eq]
  blk_ext [iblk, places t, spot]

theorem blk1_at (t : Fin grid0.N) (r : Fin 4) (k : Fin 32) : (iblk m c 1 t (ix2 r k) : EReal) = aW m c (ix2 (spot t r) k) := by
  rw [← x1_eq]
  blk_ext [iblk, places t, spot]

theorem blk2_at (t : Fin grid0.N) (r : Fin 4) (k : Fin 32) : (iblk m c 2 t (ix2 r k) : EReal) = aM m c (ix2 (spot t r) k) := by
  rw [← x2_eq]
  blk_ext [iblk, places t, spot]

theorem blk3_at (t : Fin grid0.N) (r : Fin 4) (k : Fin 32) : (iblk m c 3 t (ix2 r k) : EReal) = aV m c (ix2 (spot t r) k) := by
  rw [← x3_eq]
  blk_ext [iblk, places t, spot]

theorem arr4 : (dats m 0 c).arrAt 4 (cfgs 0).N = fun i : S4x32.Idx => (aG m c (ix2 (i 0) (i 1))) := by
  refine (dats m 0 c).arrAt_eq_of_covers 4 _ (by decide +kernel) fun t hf y => ?_
  blk_simp
  rw [after0_4]
  idx_vars y
  have e0 : (win0_4.blk t).view.emb (ix2 y0 y1) 0 = spot t y0 := by
    refine Fin.ext ?_
    blk_simp [places t, spot]
    exact (Nat.zero_add _).symm
  have e1 : (win0_4.blk t).view.emb (ix2 y0 y1) 1 = y1 := by
    refine Fin.ext ?_
    blk_simp [places t]
  refine (out4_at (iblk m c 0 t) (iblk m c 1 t) (iblk m c 2 t) (iblk m c 3 t) y0 y1).trans ?_
  rw [e0, e1]
  simp only [blk0_at]

theorem arr5 : (dats m 0 c).arrAt 5 (cfgs 0).N = fun i : S4x32.Idx => delta (aG m c (ix2 (i 0) (i 1))) (aW m c (ix2 (i 0) (i 1))) (aM m c (ix2 (i 0) (i 1))) (aV m c (ix2 (i 0) (i 1))) := by
  refine (dats m 0 c).arrAt_eq_of_covers 5 _ (by decide +kernel) fun t hf y => ?_
  blk_simp
  rw [after0_5]
  idx_vars y
  have e0 : (win0_5.blk t).view.emb (ix2 y0 y1) 0 = spot t y0 := by
    refine Fin.ext ?_
    blk_simp [places t, spot]
    exact (Nat.zero_add _).symm
  have e1 : (win0_5.blk t).view.emb (ix2 y0 y1) 1 = y1 := by
    refine Fin.ext ?_
    blk_simp [places t]
  refine (out5_at (iblk m c 0 t) (iblk m c 1 t) (iblk m c 2 t) (iblk m c 3 t) y0 y1).trans ?_
  rw [e0, e1]
  simp only [blk0_at, blk1_at, blk2_at, blk3_at]

theorem arr6 : (dats m 0 c).arrAt 6 (cfgs 0).N = fun i : S4x32.Idx => newM (aG m c (ix2 (i 0) (i 1))) (aM m c (ix2 (i 0) (i 1))) := by
  refine (dats m 0 c).arrAt_eq_of_covers 6 _ (by decide +kernel) fun t hf y => ?_
  blk_simp
  rw [after0_6]
  idx_vars y
  have e0 : (win0_6.blk t).view.emb (ix2 y0 y1) 0 = spot t y0 := by
    refine Fin.ext ?_
    blk_simp [places t, spot]
    exact (Nat.zero_add _).symm
  have e1 : (win0_6.blk t).view.emb (ix2 y0 y1) 1 = y1 := by
    refine Fin.ext ?_
    blk_simp [places t]
  refine (out6_at (iblk m c 0 t) (iblk m c 1 t) (iblk m c 2 t) (iblk m c 3 t) y0 y1).trans ?_
  rw [e0, e1]
  simp only [blk0_at, blk2_at]

theorem arr7 : (dats m 0 c).arrAt 7 (cfgs 0).N = fun i : S4x32.Idx => newV (aG m c (ix2 (i 0) (i 1))) (aV m c (ix2 (i 0) (i 1))) := by
  refine (dats m 0 c).arrAt_eq_of_covers 7 _ (by decide +kernel) fun t hf y => ?_
  blk_simp
  rw [after0_7]
  idx_vars y
  have e0 : (win0_7.blk t).view.emb (ix2 y0 y1) 0 = spot t y0 := by
    refine Fin.ext ?_
    blk_simp [places t, spot]
    exact (Nat.zero_add _).symm
  have e1 : (win0_7.blk t).view.emb (ix2 y0 y1) 1 = y1 := by
    refine Fin.ext ?_
    blk_simp [places t]
  refine (out7_at (iblk m c 0 t) (iblk m c 1 t) (iblk m c 2 t) (iblk m c 3 t) y0 y1).trans ?_
  rw [e0, e1]
  simp only [blk0_at, blk3_at]

theorem value0 : (dats m 0 c).arrAt 4 cfg0.N = fun i : S4x32.Idx => (aG m c (ix2 (i 0) (i 1))) := arr4

theorem value1 : (dats m 0 c).arrAt 5 cfg0.N = fun i : S4x32.Idx => delta (aG m c (ix2 (i 0) (i 1))) (aW m c (ix2 (i 0) (i 1))) (aM m c (ix2 (i 0) (i 1))) (aV m c (ix2 (i 0) (i 1))) := arr5

theorem value2 : (dats m 0 c).arrAt 6 cfg0.N = fun i : S4x32.Idx => newM (aG m c (ix2 (i 0) (i 1))) (aM m c (ix2 (i 0) (i 1))) := arr6

theorem value3 : (dats m 0 c).arrAt 7 cfg0.N = fun i : S4x32.Idx => newV (aG m c (ix2 (i 0) (i 1))) (aV m c (ix2 (i 0) (i 1))) := arr7

end Cert.Kernel37Ideal.Body

namespace Cert.Join37

open Idealize.ShloMosaic Idealize.ShloMosaic.TcCoe Idealize.SL.Sem

/-- The reference runs no semaphore: every counter family over its signature is the zero one. -/
theorem no_counter (s : GSem Reference37Ideal.nD Reference37Ideal.τ Reference37Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference37Ideal (hReference37Ideal := Reference37Ideal.Gen.facts) := fun m ρ _ =>
  (θ_run Reference37Ideal.defs _ _).mono (fun r h => ⟨fun c => (h c).2.2.2.2, no_counter _⟩) (Reference37Ideal.Value.run m ρ)

/-- The kernel and the reference end with the same gradient, change and moments. -/
theorem same : algebraic_Kernel37Ideal_Reference37Ideal (hKernel37Ideal := Kernel37Ideal.Gen.facts) (hReference37Ideal := Reference37Ideal.Gen.facts) := by
  intro m g m' g' _ ha
  refine ⟨fun c => (Kernel37Ideal.Gen.dats m 0 c).arrAt 4 Kernel37Ideal.cfg0.N, fun c => (Kernel37Ideal.Gen.dats m 0 c).arrAt 5 Kernel37Ideal.cfg0.N, fun c => (Kernel37Ideal.Gen.dats m 0 c).arrAt 6 Kernel37Ideal.cfg0.N, fun c => (Kernel37Ideal.Gen.dats m 0 c).arrAt 7 Kernel37Ideal.cfg0.N,
    ?_, ?_⟩
  · refine (θ_run Kernel37Ideal.defs _ _).mono (fun r h c => ?_) (θ_run_and (Kernel37Ideal.Gen.run_main m g) (Kernel37Ideal.Gen.unchanged m g))
    exact ⟨(h.1 c).1 4, (h.1 c).1 5, (h.1 c).1 6, (h.1 c).1 7, h.2 c⟩
  · refine (θ_run Reference37Ideal.defs _ _).mono (fun r h c => ?_) (Reference37Ideal.Value.run m' g')
    obtain ⟨h0, h1, h2, h3, hrest⟩ := h c
    obtain ⟨e0, e1, e2, e3⟩ := ha c
    refine ⟨h0.trans ?_, h1.trans ?_, h2.trans ?_, h3.trans ?_, hrest⟩
    · refine Eq.trans ?_ Kernel37Ideal.Body.value0.symm
      rw [e0]
      funext i
      idx_vars i
    · refine Eq.trans ?_ Kernel37Ideal.Body.value1.symm
      rw [e0, e1, e2, e3]
      funext i
      idx_vars i
      pointwise [Adam.delta, Adam.newM, Adam.newV]
    · refine Eq.trans ?_ Kernel37Ideal.Body.value2.symm
      rw [e0, e2]
      funext i
      idx_vars i
      pointwise [Adam.delta, Adam.newM, Adam.newV]
    · refine Eq.trans ?_ Kernel37Ideal.Body.value3.symm
      rw [e0, e3]
      funext i
      idx_vars i
      pointwise [Adam.delta, Adam.newM, Adam.newV]

end Cert.Join37

end
-- ==== Proof.AdamB.lean ====
module

public import proofs.«01_k».proof.Proof.Gen.Kernel38Ideal.Frame
public import proofs.«01_k».proof.Proof.Gen.Reference38Ideal.Run
public import proofs.«01_k».proof.Defs
public import proofs.«01_k».proof.Proof.Adam
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel38Ideal.Body

open Idealize.ShloMosaic Idealize.ShloMosaic.TcCoe Idealize.SL.Sem
open Cert.Kernel38Ideal Cert.Kernel38Ideal.Gen Cert.Adam

theorem places : ∀ t : Fin grid0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem out4_at (x0 : Vec Ideal S1024x16 .f32) (x1 : Vec Ideal S1024x16 .f32) (x2 : Vec Ideal S1024x16 .f32) (x3 : Vec Ideal S1024x16 .f32) (r : Fin 1024) (l : Fin 16) :
    (out0_4 x0 x1 x2 x3 (ix2 r l) : EReal) = x0 (ix2 r l) := by
  unfold out0_4
  rw [View.canon_unit_zero (S := S1024x16) (by decide)]
  repeat rw [View.ld_unit_zero (S := S1024x16) (by decide)]
  pointwise [k0_pay1, k0_pay2, k0_pay3, k0_pay4, delta, newM, newV]

theorem out5_at (x0 : Vec Ideal S1024x16 .f32) (x1 : Vec Ideal S1024x16 .f32) (x2 : Vec Ideal S1024x16 .f32) (x3 : Vec Ideal S1024x16 .f32) (r : Fin 1024) (l : Fin 16) :
    (out0_5 x0 x1 x2 x3 (ix2 r l) : EReal) = delta (x0 (ix2 r l)) (x1 (ix2 r l)) (x2 (ix2 r l)) (x3 (ix2 r l)) := by
  unfold out0_5
  rw [View.canon_unit_zero (S := S1024x16) (by decide)]
  repeat rw [View.ld_unit_zero (S := S1024x16) (by decide)]
  pointwise [k0_pay1, k0_pay2, k0_pay3, k0_pay4, delta, newM, newV]

theorem out6_at (x0 : Vec Ideal S1024x16 .f32) (x1 : Vec Ideal S1024x16 .f32) (x2 : Vec Ideal S1024x16 .f32) (x3 : Vec Ideal S1024x16 .f32) (r : Fin 1024) (l : Fin 16) :
    (out0_6 x0 x1 x2 x3 (ix2 r l) : EReal) = newM (x0 (ix2 r l)) (x2 (ix2 r l)) := by
  unfold out0_6
  rw [View.canon_unit_zero (S := S1024x16) (by decide)]
  repeat rw [View.ld_unit_zero (S := S1024x16) (by decide)]
  pointwise [k0_pay1, k0_pay2, k0_pay3, k0_pay4, delta, newM, newV]

theorem out7_at (x0 : Vec Ideal S1024x16 .f32) (x1 : Vec Ideal S1024x16 .f32) (x2 : Vec Ideal S1024x16 .f32) (x3 : Vec Ideal S1024x16 .f32) (r : Fin 1024) (l : Fin 16) :
    (out0_7 x0 x1 x2 x3 (ix2 r l) : EReal) = newV (x0 (ix2 r l)) (x3 (ix2 r l)) := by
  unfold out0_7
  rw [View.canon_unit_zero (S := S1024x16) (by decide)]
  repeat rw [View.ld_unit_zero (S := S1024x16) (by decide)]
  pointwise [k0_pay1, k0_pay2, k0_pay3, k0_pay4, delta, newM, newV]

variable {m : (ℓ : Loc nD τ sig) → Buf (Elt Ideal) ℓ} {c : Dev nD}

/-- The arguments at a device: the gradient, the weights and the two moments. -/
abbrev aG (m : (ℓ : Loc nD τ sig) → Buf (Elt Ideal) ℓ) (c : Dev nD) : FVec Ideal S4x32x64x16 .f32 := m ((c : Thread nD τ).loc main_arg0)
abbrev aW (m : (ℓ : Loc nD τ sig) → Buf (Elt Ideal) ℓ) (c : Dev nD) : FVec Ideal S4x32x64x16 .f32 := m ((c : Thread nD τ).loc main_arg1)
abbrev aM (m : (ℓ : Loc nD τ sig) → Buf (Elt Ideal) ℓ) (c : Dev nD) : FVec Ideal S4x32x64x16 .f32 := m ((c : Thread nD τ).loc main_arg2)
abbrev aV (m : (ℓ : Loc nD τ sig) → Buf (Elt Ideal) ℓ) (c : Dev nD) : FVec Ideal S4x32x64x16 .f32 := m ((c : Thread nD τ).loc main_arg3)

/-- An array over the rows of the call. -/
def flat (x : FVec Ideal S4x32x64x16 .f32) : FVec Ideal S8192x16 .f32 := shapeCast S8192x16 x shapeCasts_S4x32x64x16_S8192x16

theorem x0_eq : (V m c main_v0 : FVec Ideal S8192x16 .f32) = flat (aG m c) := by
  unfold V V0
  simp only [List.flatten_cons, List.flatten_nil, List.append_nil, List.cons_append, List.nil_append]
  after_results_simp
  rfl

theorem x1_eq : (V m c main_v1 : FVec Ideal S8192x16 .f32) = flat (aW m c) := by
  unfold V V0
  simp only [List.flatten_cons, List.flatten_nil, List.append_nil, List.cons_append, List.nil_append]
  after_results_simp
  rfl

theorem x2_eq : (V m c main_v2 : FVec Ideal S8192x16 .f32) = flat (aM m c) := by
  unfold V V0
  simp only [List.flatten_cons, List.flatten_nil, List.append_nil, List.cons_append, List.nil_append]
  after_results_simp
  rfl

theorem x3_eq : (V m c main_v3 : FVec Ideal S8192x16 .f32) = flat (aV m c) := by
  unfold V V0
  simp only [List.flatten_cons, List.flatten_nil, List.append_nil, List.cons_append, List.nil_append]
  after_results_simp
  rfl

theorem few (t : Fin grid0.N) : t.val < 8 := lt_of_lt_of_eq t.isLt N_0

/-- The row that row `r` of block `t` is. -/
def spot (t : Fin grid0.N) (r : Fin 1024) : Fin 8192 := ⟨1024 * t.val + r.val, by have := few t; omega⟩

theorem blk0_at (t : Fin grid0.N) (r : Fin 1024) (k : Fin 16) : (iblk m c 0 t (ix2 r k) : EReal) = flat (aG m c) (ix2 (spot t r) k) := by
  rw [← x0_eq]
  blk_ext [iblk, places t, spot]

theorem blk1_at (t : Fin grid0.N) (r : Fin 1024) (k : Fin 16) : (iblk m c 1 t (ix2 r k) : EReal) = flat (aW m c) (ix2 (spot t r) k) := by
  rw [← x1_eq]
  blk_ext [iblk, places t, spot]

theorem blk2_at (t : Fin grid0.N) (r : Fin 1024) (k : Fin 16) : (iblk m c 2 t (ix2 r k) : EReal) = flat (aM m c) (ix2 (spot t r) k) := by
  rw [← x2_eq]
  blk_ext [iblk, places t, spot]

theorem blk3_at (t : Fin grid0.N) (r : Fin 1024) (k : Fin 16) : (iblk m c 3 t (ix2 r k) : EReal) = flat (aV m c) (ix2 (spot t r) k) := by
  rw [← x3_eq]
  blk_ext [iblk, places t, spot]

theorem arr4 : (dats m 0 c).arrAt 4 (cfgs 0).N = fun i : S8192x16.Idx => (flat (aG m c) (ix2 (i 0) (i 1))) := by
  refine (dats m 0 c).arrAt_eq_of_covers 4 _ (by decide +kernel) fun t hf y => ?_
  blk_simp
  rw [after0_4]
  idx_vars y
  have e0 : (win0_4.blk t).view.emb (ix2 y0 y1) 0 = spot t y0 := by
    refine Fin.ext ?_
    blk_simp [places t, spot]
    exact congrArg (· + _) (Nat.mul_comm _ _)
  have e1 : (win0_4.blk t).view.emb (ix2 y0 y1) 1 = y1 := by
    refine Fin.ext ?_
    blk_simp [places t]
  refine (out4_at (iblk m c 0 t) (iblk m c 1 t) (iblk m c 2 t) (iblk m c 3 t) y0 y1).trans ?_
  rw [e0, e1]
  simp only [blk0_at]

theorem arr5 : (dats m 0 c).arrAt 5 (cfgs 0).N = fun i : S8192x16.Idx => delta (flat (aG m c) (ix2 (i 0) (i 1))) (flat (aW m c) (ix2 (i 0) (i 1))) (flat (aM m c) (ix2 (i 0) (i 1))) (flat (aV m c) (ix2 (i 0) (i 1))) := by
  refine (dats m 0 c).arrAt_eq_of_covers 5 _ (by decide +kernel) fun t hf y => ?_
  blk_simp
  rw [after0_5]
  idx_vars y
  have e0 : (win0_5.blk t).view.emb (ix2 y0 y1) 0 = spot t y0 := by
    refine Fin.ext ?_
    blk_simp [places t, spot]
    exact congrArg (· + _) (Nat.mul_comm _ _)
  have e1 : (win0_5.blk t).view.emb (ix2 y0 y1) 1 = y1 := by
    refine Fin.ext ?_
    blk_simp [places t]
  refine (out5_at (iblk m c 0 t) (iblk m c 1 t) (iblk m c 2 t) (iblk m c 3 t) y0 y1).trans ?_
  rw [e0, e1]
  simp only [blk0_at, blk1_at, blk2_at, blk3_at]

theorem arr6 : (dats m 0 c).arrAt 6 (cfgs 0).N = fun i : S8192x16.Idx => newM (flat (aG m c) (ix2 (i 0) (i 1))) (flat (aM m c) (ix2 (i 0) (i 1))) := by
  refine (dats m 0 c).arrAt_eq_of_covers 6 _ (by decide +kernel) fun t hf y => ?_
  blk_simp
  rw [after0_6]
  idx_vars y
  have e0 : (win0_6.blk t).view.emb (ix2 y0 y1) 0 = spot t y0 := by
    refine Fin.ext ?_
    blk_simp [places t, spot]
    exact congrArg (· + _) (Nat.mul_comm _ _)
  have e1 : (win0_6.blk t).view.emb (ix2 y0 y1) 1 = y1 := by
    refine Fin.ext ?_
    blk_simp [places t]
  refine (out6_at (iblk m c 0 t) (iblk m c 1 t) (iblk m c 2 t) (iblk m c 3 t) y0 y1).trans ?_
  rw [e0, e1]
  simp only [blk0_at, blk2_at]

theorem arr7 : (dats m 0 c).arrAt 7 (cfgs 0).N = fun i : S8192x16.Idx => newV (flat (aG m c) (ix2 (i 0) (i 1))) (flat (aV m c) (ix2 (i 0) (i 1))) := by
  refine (dats m 0 c).arrAt_eq_of_covers 7 _ (by decide +kernel) fun t hf y => ?_
  blk_simp
  rw [after0_7]
  idx_vars y
  have e0 : (win0_7.blk t).view.emb (ix2 y0 y1) 0 = spot t y0 := by
    refine Fin.ext ?_
    blk_simp [places t, spot]
    exact congrArg (· + _) (Nat.mul_comm _ _)
  have e1 : (win0_7.blk t).view.emb (ix2 y0 y1) 1 = y1 := by
    refine Fin.ext ?_
    blk_simp [places t]
  refine (out7_at (iblk m c 0 t) (iblk m c 1 t) (iblk m c 2 t) (iblk m c 3 t) y0 y1).trans ?_
  rw [e0, e1]
  simp only [blk0_at, blk3_at]

abbrev tailOps : List (HloOp τ sig (Elt Ideal)) := [hostOps1].flatten

theorem tail0_eq (W : Valuation τ sig (Elt Ideal)) : (StableHlo.after tailOps W (Proc.devRef .tc main_v5) : FVec Ideal S4x32x64x16 .f32)
    = shapeCast S4x32x64x16 (W (Proc.devRef .tc main_v4_0) : FVec Ideal S8192x16 .f32) shapeCasts_S8192x16_S4x32x64x16 := by
  unfold tailOps
  simp only [List.flatten_cons, List.flatten_nil, List.append_nil, List.cons_append, List.nil_append]
  after_results_simp
  rfl

theorem tail1_eq (W : Valuation τ sig (Elt Ideal)) : (StableHlo.after tailOps W (Proc.devRef .tc main_v6) : FVec Ideal S4x32x64x16 .f32)
    = shapeCast S4x32x64x16 (W (Proc.devRef .tc main_v4_1) : FVec Ideal S8192x16 .f32) shapeCasts_S8192x16_S4x32x64x16 := by
  unfold tailOps
  simp only [List.flatten_cons, List.flatten_nil, List.append_nil, List.cons_append, List.nil_append]
  after_results_simp
  rfl

theorem tail2_eq (W : Valuation τ sig (Elt Ideal)) : (StableHlo.after tailOps W (Proc.devRef .tc main_v7) : FVec Ideal S4x32x64x16 .f32)
    = shapeCast S4x32x64x16 (W (Proc.devRef .tc main_v4_2) : FVec Ideal S8192x16 .f32) shapeCasts_S8192x16_S4x32x64x16 := by
  unfold tailOps
  simp only [List.flatten_cons, List.flatten_nil, List.append_nil, List.cons_append, List.nil_append]
  after_results_simp
  rfl

theorem tail3_eq (W : Valuation τ sig (Elt Ideal)) : (StableHlo.after tailOps W (Proc.devRef .tc main_v8) : FVec Ideal S4x32x64x16 .f32)
    = shapeCast S4x32x64x16 (W (Proc.devRef .tc main_v4_3) : FVec Ideal S8192x16 .f32) shapeCasts_S8192x16_S4x32x64x16 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v5 = fun i : S4x32x64x16.Idx => (aG m c i) := by
  refine (tail0_eq (after0 m c)).trans ?_
  rw [show after0 m c (Proc.devRef .tc main_v4_0) = (fun i : S8192x16.Idx => (flat (aG m c) i)) from
    ((left 4).trans arr4).trans (funext fun i => by idx_vars i)]
  funext i
  refine Eq.trans (b := ((shapeCast S4x32x64x16 (flat (aG m c)) shapeCasts_S8192x16_S4x32x64x16 i) : EReal)) rfl ?_
  simp only [flat, shapeCast_shapeCast]

theorem value1 : endOf m c main_v6 = fun i : S4x32x64x16.Idx => delta (aG m c i) (aW m c i) (aM m c i) (aV m c i) := by
  refine (tail1_eq (after0 m c)).trans ?_
  rw [show after0 m c (Proc.devRef .tc main_v4_1) = (fun i : S8192x16.Idx => delta (flat (aG m c) i) (flat (aW m c) i) (flat (aM m c) i) (flat (aV m c) i)) from
    ((left 5).trans arr5).trans (funext fun i => by idx_vars i)]
  funext i
  refine Eq.trans (b := (delta (shapeCast S4x32x64x16 (flat (aG m c)) shapeCasts_S8192x16_S4x32x64x16 i) (shapeCast S4x32x64x16 (flat (aW m c)) shapeCasts_S8192x16_S4x32x64x16 i) (shapeCast S4x32x64x16 (flat (aM m c)) shapeCasts_S8192x16_S4x32x64x16 i) (shapeCast S4x32x64x16 (flat (aV m c)) shapeCasts_S8192x16_S4x32x64x16 i) : EReal)) rfl ?_
  simp only [flat, shapeCast_shapeCast]

theorem value2 : endOf m c main_v7 = fun i : S4x32x64x16.Idx => newM (aG m c i) (aM m c i) := by
  refine (tail2_eq (after0 m c)).trans ?_
  rw [show after0 m c (Proc.devRef .tc main_v4_2) = (fun i : S8192x16.Idx => newM (flat (aG m c) i) (flat (aM m c) i)) from
    ((left 6).trans arr6).trans (funext fun i => by idx_vars i)]
  funext i
  refine Eq.trans (b := (newM (shapeCast S4x32x64x16 (flat (aG m c)) shapeCasts_S8192x16_S4x32x64x16 i) (shapeCast S4x32x64x16 (flat (aM m c)) shapeCasts_S8192x16_S4x32x64x16 i) : EReal)) rfl ?_
  simp only [flat, shapeCast_shapeCast]

theorem value3 : endOf m c main_v8 = fun i : S4x32x64x16.Idx => newV (aG m c i) (aV m c i) := by
  refine (tail3_eq (after0 m c)).trans ?_
  rw [show after0 m c (Proc.devRef .tc main_v4_3) = (fun i : S8192x16.Idx => newV (flat (aG m c) i) (flat (aV m c) i)) from
    ((left 7).trans arr7).trans (funext fun i => by idx_vars i)]
  funext i
  refine Eq.trans (b := (newV (shapeCast S4x32x64x16 (flat (aG m c)) shapeCasts_S8192x16_S4x32x64x16 i) (shapeCast S4x32x64x16 (flat (aV m c)) shapeCasts_S8192x16_S4x32x64x16 i) : EReal)) rfl ?_
  simp only [flat, shapeCast_shapeCast]

end Cert.Kernel38Ideal.Body

namespace Cert.Join38

open Idealize.ShloMosaic Idealize.ShloMosaic.TcCoe Idealize.SL.Sem

/-- The reference runs no semaphore: every counter family over its signature is the zero one. -/
theorem no_counter (s : GSem Reference38Ideal.nD Reference38Ideal.τ Reference38Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference38Ideal (hReference38Ideal := Reference38Ideal.Gen.facts) := fun m ρ _ =>
  (θ_run Reference38Ideal.defs _ _).mono (fun r h => ⟨fun c => (h c).2.2.2.2, no_counter _⟩) (Reference38Ideal.Value.run m ρ)

/-- The kernel and the reference end with the same gradient, change and moments. -/
theorem same : algebraic_Kernel38Ideal_Reference38Ideal (hKernel38Ideal := Kernel38Ideal.Gen.facts) (hReference38Ideal := Reference38Ideal.Gen.facts) := by
  intro m g m' g' _ ha
  refine ⟨fun c => Kernel38Ideal.Body.endOf m c _, fun c => Kernel38Ideal.Body.endOf m c _, fun c => Kernel38Ideal.Body.endOf m c _, fun c => Kernel38Ideal.Body.endOf m c _,
    ?_, ?_⟩
  · refine (θ_run Kernel38Ideal.defs _ _).mono (fun r h c => ?_) (θ_run_and (Kernel38Ideal.Gen.run_main m g) (Kernel38Ideal.Gen.unchanged m g))
    exact ⟨h.1.rest_eq c Kernel38Ideal.main_v5 (by decide), h.1.rest_eq c Kernel38Ideal.main_v6 (by decide), h.1.rest_eq c Kernel38Ideal.main_v7 (by decide), h.1.rest_eq c Kernel38Ideal.main_v8 (by decide), h.2 c⟩
  · refine (θ_run Reference38Ideal.defs _ _).mono (fun r h c => ?_) (Reference38Ideal.Value.run m' g')
    obtain ⟨h0, h1, h2, h3, hrest⟩ := h c
    obtain ⟨e0, e1, e2, e3⟩ := ha c
    refine ⟨h0.trans ?_, h1.trans ?_, h2.trans ?_, h3.trans ?_, hrest⟩
    · refine Eq.trans ?_ Kernel38Ideal.Body.value0.symm
      rw [e0]
      rfl
    · refine Eq.trans ?_ Kernel38Ideal.Body.value1.symm
      rw [e0, e1, e2, e3]
      funext i
      idx_vars i
      pointwise [Adam.delta, Adam.newM, Adam.newV]
    · refine Eq.trans ?_ Kernel38Ideal.Body.value2.symm
      rw [e0, e2]
      funext i
      idx_vars i
      pointwise [Adam.delta, Adam.newM, Adam.newV]
    · refine Eq.trans ?_ Kernel38Ideal.Body.value3.symm
      rw [e0, e3]
      funext i
      idx_vars i
      pointwise [Adam.delta, Adam.newM, Adam.newV]

end Cert.Join38

end
-- ==== Proof.AdamC.lean ====
module

public import proofs.«01_k».proof.Proof.Gen.Kernel39Ideal.Frame
public import proofs.«01_k».proof.Proof.Gen.Reference39Ideal.Run
public import proofs.«01_k».proof.Defs
public import proofs.«01_k».proof.Proof.Adam
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel39Ideal.Body

open Idealize.ShloMosaic Idealize.ShloMosaic.TcCoe Idealize.SL.Sem
open Cert.Kernel39Ideal Cert.Kernel39Ideal.Gen Cert.Adam

theorem places : ∀ t : Fin grid0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem out4_at (x0 : Vec Ideal S1024x64 .f32) (x1 : Vec Ideal S1024x64 .f32) (x2 : Vec Ideal S1024x64 .f32) (x3 : Vec Ideal S1024x64 .f32) (r : Fin 1024) (l : Fin 64) :
    (out0_4 x0 x1 x2 x3 (ix2 r l) : EReal) = x0 (ix2 r l) := by
  unfold out0_4
  rw [View.canon_unit_zero (S := S1024x64) (by decide)]
  repeat rw [View.ld_unit_zero (S := S1024x64) (by decide)]
  pointwise [k0_pay1, k0_pay2, k0_pay3, k0_pay4, delta, newM, newV]

theorem out5_at (x0 : Vec Ideal S1024x64 .f32) (x1 : Vec Ideal S1024x64 .f32) (x2 : Vec Ideal S1024x64 .f32) (x3 : Vec Ideal S1024x64 .f32) (r : Fin 1024) (l : Fin 64) :
    (out0_5 x0 x1 x2 x3 (ix2 r l) : EReal) = delta (x0 (ix2 r l)) (x1 (ix2 r l)) (x2 (ix2 r l)) (x3 (ix2 r l)) := by
  unfold out0_5
  rw [View.canon_unit_zero (S := S1024x64) (by decide)]
  repeat rw [View.ld_unit_zero (S := S1024x64) (by decide)]
  pointwise [k0_pay1, k0_pay2, k0_pay3, k0_pay4, delta, newM, newV]

theorem out6_at (x0 : Vec Ideal S1024x64 .f32) (x1 : Vec Ideal S1024x64 .f32) (x2 : Vec Ideal S1024x64 .f32) (x3 : Vec Ideal S1024x64 .f32) (r : Fin 1024) (l : Fin 64) :
    (out0_6 x0 x1 x2 x3 (ix2 r l) : EReal) = newM (x0 (ix2 r l)) (x2 (ix2 r l)) := by
  unfold out0_6
  rw [View.canon_unit_zero (S := S1024x64) (by decide)]
  repeat rw [View.ld_unit_zero (S := S1024x64) (by decide)]
  pointwise [k0_pay1, k0_pay2, k0_pay3, k0_pay4, delta, newM, newV]

theorem out7_at (x0 : Vec Ideal S1024x64 .f32) (x1 : Vec Ideal S1024x64 .f32) (x2 : Vec Ideal S1024x64 .f32) (x3 : Vec Ideal S1024x64 .f32) (r : Fin 1024) (l : Fin 64) :
    (out0_7 x0 x1 x2 x3 (ix2 r l) : EReal) = newV (x0 (ix2 r l)) (x3 (ix2 r l)) := by
  unfold out0_7
  rw [View.canon_unit_zero (S := S1024x64) (by decide)]
  repeat rw [View.ld_unit_zero (S := S1024x64) (by decide)]
  pointwise [k0_pay1, k0_pay2, k0_pay3, k0_pay4, delta, newM, newV]

variable {m : (ℓ : Loc nD τ sig) → Buf (Elt Ideal) ℓ} {c : Dev nD}

/-- The arguments at a device: the gradient, the weights and the two moments. -/
abbrev aG (m : (ℓ : Loc nD τ sig) → Buf (Elt Ideal) ℓ) (c : Dev nD) : FVec Ideal S4x32x16x64 .f32 := m ((c : Thread nD τ).loc main_arg0)
abbrev aW (m : (ℓ : Loc nD τ sig) → Buf (Elt Ideal) ℓ) (c : Dev nD) : FVec Ideal S4x32x16x64 .f32 := m ((c : Thread nD τ).loc main_arg1)
abbrev aM (m : (ℓ : Loc nD τ sig) → Buf (Elt Ideal) ℓ) (c : Dev nD) : FVec Ideal S4x32x16x64 .f32 := m ((c : Thread nD τ).loc main_arg2)
abbrev aV (m : (ℓ : Loc nD τ sig) → Buf (Elt Ideal) ℓ) (c : Dev nD) : FVec Ideal S4x32x16x64 .f32 := m ((c : Thread nD τ).loc main_arg3)

/-- An array over the rows of the call. -/
def flat (x : FVec Ideal S4x32x16x64 .f32) : FVec Ideal S2048x64 .f32 := shapeCast S2048x64 x shapeCasts_S4x32x16x64_S2048x64

theorem x0_eq : (V m c main_v0 : FVec Ideal S2048x64 .f32) = flat (aG m c) := by
  unfold V V0
  simp only [List.flatten_cons, List.flatten_nil, List.append_nil, List.cons_append, List.nil_append]
  after_results_simp
  rfl

theorem x1_eq : (V m c main_v1 : FVec Ideal S2048x64 .f32) = flat (aW m c) := by
  unfold V V0
  simp only [List.flatten_cons, List.flatten_nil, List.append_nil, List.cons_append, List.nil_append]
  after_results_simp
  rfl

theorem x2_eq : (V m c main_v2 : FVec Ideal S2048x64 .f32) = flat (aM m c) := by
  unfold V V0
  simp only [List.flatten_cons, List.flatten_nil, List.append_nil, List.cons_append, List.nil_append]
  after_results_simp
  rfl

theorem x3_eq : (V m c main_v3 : FVec Ideal S2048x64 .f32) = flat (aV m c) := by
  unfold V V0
  simp only [List.flatten_cons, List.flatten_nil, List.append_nil, List.cons_append, List.nil_append]
  after_results_simp
  rfl

theorem few (t : Fin grid0.N) : t.val < 2 := lt_of_lt_of_eq t.isLt N_0

/-- The row that row `r` of block `t` is. -/
def spot (t : Fin grid0.N) (r : Fin 1024) : Fin 2048 := ⟨1024 * t.val + r.val, by have := few t; omega⟩

theorem blk0_at (t : Fin grid0.N) (r : Fin 1024) (k : Fin 64) : (iblk m c 0 t (ix2 r k) : EReal) = flat (aG m c) (ix2 (spot t r) k) := by
  rw [← x0_eq]
  blk_ext [iblk, places t, spot]

theorem blk1_at (t : Fin grid0.N) (r : Fin 1024) (k : Fin 64) : (iblk m c 1 t (ix2 r k) : EReal) = flat (aW m c) (ix2 (spot t r) k) := by
  rw [← x1_eq]
  blk_ext [iblk, places t, spot]

theorem blk2_at (t : Fin grid0.N) (r : Fin 1024) (k : Fin 64) : (iblk m c 2 t (ix2 r k) : EReal) = flat (aM m c) (ix2 (spot t r) k) := by
  rw [← x2_eq]
  blk_ext [iblk, places t, spot]

theorem blk3_at (t : Fin grid0.N) (r : Fin 1024) (k : Fin 64) : (iblk m c 3 t (ix2 r k) : EReal) = flat (aV m c) (ix2 (spot t r) k) := by
  rw [← x3_eq]
  blk_ext [iblk, places t, spot]

theorem arr4 : (dats m 0 c).arrAt 4 (cfgs 0).N = fun i : S2048x64.Idx => (flat (aG m c) (ix2 (i 0) (i 1))) := by
  refine (dats m 0 c).arrAt_eq_of_covers 4 _ (by decide +kernel) fun t hf y => ?_
  blk_simp
  rw [after0_4]
  idx_vars y
  have e0 : (win0_4.blk t).view.emb (ix2 y0 y1) 0 = spot t y0 := by
    refine Fin.ext ?_
    blk_simp [places t, spot]
    exact congrArg (· + _) (Nat.mul_comm _ _)
  have e1 : (win0_4.blk t).view.emb (ix2 y0 y1) 1 = y1 := by
    refine Fin.ext ?_
    blk_simp [places t]
  refine (out4_at (iblk m c 0 t) (iblk m c 1 t) (iblk m c 2 t) (iblk m c 3 t) y0 y1).trans ?_
  rw [e0, e1]
  simp only [blk0_at]

theorem arr5 : (dats m 0 c).arrAt 5 (cfgs 0).N = fun i : S2048x64.Idx => delta (flat (aG m c) (ix2 (i 0) (i 1))) (flat (aW m c) (ix2 (i 0) (i 1))) (flat (aM m c) (ix2 (i 0) (i 1))) (flat (aV m c) (ix2 (i 0) (i 1))) := by
  refine (dats m 0 c).arrAt_eq_of_covers 5 _ (by decide +kernel) fun t hf y => ?_
  blk_simp
  rw [after0_5]
  idx_vars y
  have e0 : (win0_5.blk t).view.emb (ix2 y0 y1) 0 = spot t y0 := by
    refine Fin.ext ?_
    blk_simp [places t, spot]
    exact congrArg (· + _) (Nat.mul_comm _ _)
  have e1 : (win0_5.blk t).view.emb (ix2 y0 y1) 1 = y1 := by
    refine Fin.ext ?_
    blk_simp [places t]
  refine (out5_at (iblk m c 0 t) (iblk m c 1 t) (iblk m c 2 t) (iblk m c 3 t) y0 y1).trans ?_
  rw [e0, e1]
  simp only [blk0_at, blk1_at, blk2_at, blk3_at]

theorem arr6 : (dats m 0 c).arrAt 6 (cfgs 0).N = fun i : S2048x64.Idx => newM (flat (aG m c) (ix2 (i 0) (i 1))) (flat (aM m c) (ix2 (i 0) (i 1))) := by
  refine (dats m 0 c).arrAt_eq_of_covers 6 _ (by decide +kernel) fun t hf y => ?_
  blk_simp
  rw [after0_6]
  idx_vars y
  have e0 : (win0_6.blk t).view.emb (ix2 y0 y1) 0 = spot t y0 := by
    refine Fin.ext ?_
    blk_simp [places t, spot]
    exact congrArg (· + _) (Nat.mul_comm _ _)
  have e1 : (win0_6.blk t).view.emb (ix2 y0 y1) 1 = y1 := by
    refine Fin.ext ?_
    blk_simp [places t]
  refine (out6_at (iblk m c 0 t) (iblk m c 1 t) (iblk m c 2 t) (iblk m c 3 t) y0 y1).trans ?_
  rw [e0, e1]
  simp only [blk0_at, blk2_at]

theorem arr7 : (dats m 0 c).arrAt 7 (cfgs 0).N = fun i : S2048x64.Idx => newV (flat (aG m c) (ix2 (i 0) (i 1))) (flat (aV m c) (ix2 (i 0) (i 1))) := by
  refine (dats m 0 c).arrAt_eq_of_covers 7 _ (by decide +kernel) fun t hf y => ?_
  blk_simp
  rw [after0_7]
  idx_vars y
  have e0 : (win0_7.blk t).view.emb (ix2 y0 y1) 0 = spot t y0 := by
    refine Fin.ext ?_
    blk_simp [places t, spot]
    exact congrArg (· + _) (Nat.mul_comm _ _)
  have e1 : (win0_7.blk t).view.emb (ix2 y0 y1) 1 = y1 := by
    refine Fin.ext ?_
    blk_simp [places t]
  refine (out7_at (iblk m c 0 t) (iblk m c 1 t) (iblk m c 2 t) (iblk m c 3 t) y0 y1).trans ?_
  rw [e0, e1]
  simp only [blk0_at, blk3_at]

abbrev tailOps : List (HloOp τ sig (Elt Ideal)) := [hostOps1].flatten

theorem tail0_eq (W : Valuation τ sig (Elt Ideal)) : (StableHlo.after tailOps W (Proc.devRef .tc main_v5) : FVec Ideal S4x32x16x64 .f32)
    = shapeCast S4x32x16x64 (W (Proc.devRef .tc main_v4_0) : FVec Ideal S2048x64 .f32) shapeCasts_S2048x64_S4x32x16x64 := by
  unfold tailOps
  simp only [List.flatten_cons, List.flatten_nil, List.append_nil, List.cons_append, List.nil_append]
  after_results_simp
  rfl

theorem tail1_eq (W : Valuation τ sig (Elt Ideal)) : (StableHlo.after tailOps W (Proc.devRef .tc main_v6) : FVec Ideal S4x32x16x64 .f32)
    = shapeCast S4x32x16x64 (W (Proc.devRef .tc main_v4_1) : FVec Ideal S2048x64 .f32) shapeCasts_S2048x64_S4x32x16x64 := by
  unfold tailOps
  simp only [List.flatten_cons, List.flatten_nil, List.append_nil, List.cons_append, List.nil_append]
  after_results_simp
  rfl

theorem tail2_eq (W : Valuation τ sig (Elt Ideal)) : (StableHlo.after tailOps W (Proc.devRef .tc main_v7) : FVec Ideal S4x32x16x64 .f32)
    = shapeCast S4x32x16x64 (W (Proc.devRef .tc main_v4_2) : FVec Ideal S2048x64 .f32) shapeCasts_S2048x64_S4x32x16x64 := by
  unfold tailOps
  simp only [List.flatten_cons, List.flatten_nil, List.append_nil, List.cons_append, List.nil_append]
  after_results_simp
  rfl

theorem tail3_eq (W : Valuation τ sig (Elt Ideal)) : (StableHlo.after tailOps W (Proc.devRef .tc main_v8) : FVec Ideal S4x32x16x64 .f32)
    = shapeCast S4x32x16x64 (W (Proc.devRef .tc main_v4_3) : FVec Ideal S2048x64 .f32) shapeCasts_S2048x64_S4x32x16x64 := by
  unfold tailOps
  simp only [List.flatten_cons, List.flatten_nil, List.append_nil, List.cons_append, List.nil_append]
  after_results_simp
  rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v5 = fun i : S4x32x16x64.Idx => (aG m c i) := by
  refine (tail0_eq (after0 m c)).trans ?_
  rw [show after0 m c (Proc.devRef .tc main_v4_0) = (fun i : S2048x64.Idx => (flat (aG m c) i)) from
    ((left 4).trans arr4).trans (funext fun i => by idx_vars i)]
  funext i
  refine Eq.trans (b := ((shapeCast S4x32x16x64 (flat (aG m c)) shapeCasts_S2048x64_S4x32x16x64 i) : EReal)) rfl ?_
  simp only [flat, shapeCast_shapeCast]

theorem value1 : endOf m c main_v6 = fun i : S4x32x16x64.Idx => delta (aG m c i) (aW m c i) (aM m c i) (aV m c i) := by
  refine (tail1_eq (after0 m c)).trans ?_
  rw [show after0 m c (Proc.devRef .tc main_v4_1) = (fun i : S2048x64.Idx => delta (flat (aG m c) i) (flat (aW m c) i) (flat (aM m c) i) (flat (aV m c) i)) from
    ((left 5).trans arr5).trans (funext fun i => by idx_vars i)]
  funext i
  refine Eq.trans (b := (delta (shapeCast S4x32x16x64 (flat (aG m c)) shapeCasts_S2048x64_S4x32x16x64 i) (shapeCast S4x32x16x64 (flat (aW m c)) shapeCasts_S2048x64_S4x32x16x64 i) (shapeCast S4x32x16x64 (flat (aM m c)) shapeCasts_S2048x64_S4x32x16x64 i) (shapeCast S4x32x16x64 (flat (aV m c)) shapeCasts_S2048x64_S4x32x16x64 i) : EReal)) rfl ?_
  simp only [flat, shapeCast_shapeCast]

theorem value2 : endOf m c main_v7 = fun i : S4x32x16x64.Idx => newM (aG m c i) (aM m c i) := by
  refine (tail2_eq (after0 m c)).trans ?_
  rw [show after0 m c (Proc.devRef .tc main_v4_2) = (fun i : S2048x64.Idx => newM (flat (aG m c) i) (flat (aM m c) i)) from
    ((left 6).trans arr6).trans (funext fun i => by idx_vars i)]
  funext i
  refine Eq.trans (b := (newM (shapeCast S4x32x16x64 (flat (aG m c)) shapeCasts_S2048x64_S4x32x16x64 i) (shapeCast S4x32x16x64 (flat (aM m c)) shapeCasts_S2048x64_S4x32x16x64 i) : EReal)) rfl ?_
  simp only [flat, shapeCast_shapeCast]

theorem value3 : endOf m c main_v8 = fun i : S4x32x16x64.Idx => newV (aG m c i) (aV m c i) := by
  refine (tail3_eq (after0 m c)).trans ?_
  rw [show after0 m c (Proc.devRef .tc main_v4_3) = (fun i : S2048x64.Idx => newV (flat (aG m c) i) (flat (aV m c) i)) from
    ((left 7).trans arr7).trans (funext fun i => by idx_vars i)]
  funext i
  refine Eq.trans (b := (newV (shapeCast S4x32x16x64 (flat (aG m c)) shapeCasts_S2048x64_S4x32x16x64 i) (shapeCast S4x32x16x64 (flat (aV m c)) shapeCasts_S2048x64_S4x32x16x64 i) : EReal)) rfl ?_
  simp only [flat, shapeCast_shapeCast]

end Cert.Kernel39Ideal.Body

namespace Cert.Join39

open Idealize.ShloMosaic Idealize.ShloMosaic.TcCoe Idealize.SL.Sem

/-- The reference runs no semaphore: every counter family over its signature is the zero one. -/
theorem no_counter (s : GSem Reference39Ideal.nD Reference39Ideal.τ Reference39Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference39Ideal (hReference39Ideal := Reference39Ideal.Gen.facts) := fun m ρ _ =>
  (θ_run Reference39Ideal.defs _ _).mono (fun r h => ⟨fun c => (h c).2.2.2.2, no_counter _⟩) (Reference39Ideal.Value.run m ρ)

/-- The kernel and the reference end with the same gradient, change and moments. -/
theorem same : algebraic_Kernel39Ideal_Reference39Ideal (hKernel39Ideal := Kernel39Ideal.Gen.facts) (hReference39Ideal := Reference39Ideal.Gen.facts) := by
  intro m g m' g' _ ha
  refine ⟨fun c => Kernel39Ideal.Body.endOf m c _, fun c => Kernel39Ideal.Body.endOf m c _, fun c => Kernel39Ideal.Body.endOf m c _, fun c => Kernel39Ideal.Body.endOf m c _,
    ?_, ?_⟩
  · refine (θ_run Kernel39Ideal.defs _ _).mono (fun r h c => ?_) (θ_run_and (Kernel39Ideal.Gen.run_main m g) (Kernel39Ideal.Gen.unchanged m g))
    exact ⟨h.1.rest_eq c Kernel39Ideal.main_v5 (by decide), h.1.rest_eq c Kernel39Ideal.main_v6 (by decide), h.1.rest_eq c Kernel39Ideal.main_v7 (by decide), h.1.rest_eq c Kernel39Ideal.main_v8 (by decide), h.2 c⟩
  · refine (θ_run Reference39Ideal.defs _ _).mono (fun r h c => ?_) (Reference39Ideal.Value.run m' g')
    obtain ⟨h0, h1, h2, h3, hrest⟩ := h c
    obtain ⟨e0, e1, e2, e3⟩ := ha c
    refine ⟨h0.trans ?_, h1.trans ?_, h2.trans ?_, h3.trans ?_, hrest⟩
    · refine Eq.trans ?_ Kernel39Ideal.Body.value0.symm
      rw [e0]
      rfl
    · refine Eq.trans ?_ Kernel39Ideal.Body.value1.symm
      rw [e0, e1, e2, e3]
      funext i
      idx_vars i
      pointwise [Adam.delta, Adam.newM, Adam.newV]
    · refine Eq.trans ?_ Kernel39Ideal.Body.value2.symm
      rw [e0, e2]
      funext i
      idx_vars i
      pointwise [Adam.delta, Adam.newM, Adam.newV]
    · refine Eq.trans ?_ Kernel39Ideal.Body.value3.symm
      rw [e0, e3]
      funext i
      idx_vars i
      pointwise [Adam.delta, Adam.newM, Adam.newV]

end Cert.Join39

end
-- ==== Proof.AdamSkip.lean ====
module

public import proofs.«01_k».proof.Proof.Gen.Kernel40Ideal.Frame
public import proofs.«01_k».proof.Proof.Gen.Reference40Ideal.Run
public import proofs.«01_k».proof.Defs
public import proofs.«01_k».proof.Proof.Adam
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel40Ideal.Body

open Idealize.ShloMosaic Idealize.ShloMosaic.TcCoe Idealize.SL.Sem
open Cert.Kernel40Ideal Cert.Kernel40Ideal.Gen Cert.Adam

theorem places : ∀ t : Fin grid0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem out4_at (x0 : Vec Ideal S4x512 .f32) (x1 : Vec Ideal S4x512 .f32) (x2 : Vec Ideal S4x512 .f32) (x3 : Vec Ideal S4x512 .f32) (r : Fin 4) (l : Fin 512) :
    (out0_4 x0 x1 x2 x3 (ix2 r l) : EReal) = x0 (ix2 r l) := by
  unfold out0_4
  rw [View.canon_unit_zero (S := S4x512) (by decide)]
  repeat rw [View.ld_unit_zero (S := S4x512) (by decide)]

theorem out5_at (x0 : Vec Ideal S4x512 .f32) (x1 : Vec Ideal S4x512 .f32) (x2 : Vec Ideal S4x512 .f32) (x3 : Vec Ideal S4x512 .f32) (r : Fin 4) (l : Fin 512) :
    (out0_5 x0 x1 x2 x3 (ix2 r l) : EReal) = delta (x0 (ix2 r l)) (x1 (ix2 r l)) (x2 (ix2 r l)) (x3 (ix2 r l)) := by
  unfold out0_5
  rw [View.canon_unit_zero (S := S4x512) (by decide)]
  repeat rw [View.ld_unit_zero (S := S4x512) (by decide)]
  pointwise [k0_pay1, k0_pay2, k0_pay3, delta, newM, newV]

theorem out6_at (x0 : Vec Ideal S4x512 .f32) (x1 : Vec Ideal S4x512 .f32) (x2 : Vec Ideal S4x512 .f32) (x3 : Vec Ideal S4x512 .f32) (r : Fin 4) (l : Fin 512) :
    (out0_6 x0 x1 x2 x3 (ix2 r l) : EReal) = newM (x0 (ix2 r l)) (x2 (ix2 r l)) := by
  unfold out0_6
  rw [View.canon_unit_zero (S := S4x512) (by decide)]
  repeat rw [View.ld_unit_zero (S := S4x512) (by decide)]
  pointwise [k0_pay1, k0_pay2, k0_pay3, delta, newM, newV]

theorem out7_at (x0 : Vec Ideal S4x512 .f32) (x1 : Vec Ideal S4x512 .f32) (x2 : Vec Ideal S4x512 .f32) (x3 : Vec Ideal S4x512 .f32) (r : Fin 4) (l : Fin 512) :
    (out0_7 x0 x1 x2 x3 (ix2 r l) : EReal) = newV (x0 (ix2 r l)) (x3 (ix2 r l)) := by
  unfold out0_7
  rw [View.canon_unit_zero (S := S4x512) (by decide)]
  repeat rw [View.ld_unit_zero (S := S4x512) (by decide)]
  pointwise [k0_pay1, k0_pay2, k0_pay3, delta, newM, newV]

variable {m : (ℓ : Loc nD τ sig) → Buf (Elt Ideal) ℓ} {c : Dev nD}

/-- The arguments at a device: the gradient, the weights and the two moments. -/
abbrev aG (m : (ℓ : Loc nD τ sig) → Buf (Elt Ideal) ℓ) (c : Dev nD) : FVec Ideal S4x512 .f32 := m ((c : Thread nD τ).loc main_arg0)
abbrev aW (m : (ℓ : Loc nD τ sig) → Buf (Elt Ideal) ℓ) (c : Dev nD) : FVec Ideal S4x512 .f32 := m ((c : Thread nD τ).loc main_arg1)
abbrev aM (m : (ℓ : Loc nD τ sig) → Buf (Elt Ideal) ℓ) (c : Dev nD) : FVec Ideal S4x512 .f32 := m ((c : Thread nD τ).loc main_arg2)
abbrev aV (m : (ℓ : Loc nD τ sig) → Buf (Elt Ideal) ℓ) (c : Dev nD) : FVec Ideal S4x512 .f32 := m ((c : Thread nD τ).loc main_arg3)

theorem x0_eq : (V m c main_arg0 : FVec Ideal S4x512 .f32) = aG m c := by
  unfold V
  after_results_simp

theorem x1_eq : (V m c main_arg1 : FVec Ideal S4x512 .f32) = aW m c := by
  unfold V
  after_results_simp

theorem x2_eq : (V m c main_arg2 : FVec Ideal S4x512 .f32) = aM m c := by
  unfold V
  after_results_simp

theorem x3_eq : (V m c main_arg3 : FVec Ideal S4x512 .f32) = aV m c := by
  unfold V
  after_results_simp

theorem few (t : Fin grid0.N) : t.val < 1 := lt_of_lt_of_eq t.isLt N_0

/-- The row that row `r` of block `t` is. -/
def spot (t : Fin grid0.N) (r : Fin 4) : Fin 4 := ⟨4 * t.val + r.val, by have := few t; omega⟩

theorem blk0_at (t : Fin grid0.N) (r : Fin 4) (k : Fin 512) : (iblk m c 0 t (ix2 r k) : EReal) = aG m c (ix2 (spot t r) k) := by
  rw [← x0_eq]
  blk_ext [iblk, places t, spot]

theorem blk1_at (t : Fin grid0.N) (r : Fin 4) (k : Fin 512) : (iblk m c 1 t (ix2 r k) : EReal) = aW m c (ix2 (spot t r) k) := by
  rw [← x1_eq]
  blk_ext [iblk, places t, spot]

theorem blk2_at (t : Fin grid0.N) (r : Fin 4) (k : Fin 512) : (iblk m c 2 t (ix2 r k) : EReal) = aM m c (ix2 (spot t r) k) := by
  rw [← x2_eq]
  blk_ext [iblk, places t, spot]

theorem blk3_at (t : Fin grid0.N) (r : Fin 4) (k : Fin 512) : (iblk m c 3 t (ix2 r k) : EReal) = aV m c (ix2 (spot t r) k) := by
  rw [← x3_eq]
  blk_ext [iblk, places t, spot]

theorem arr4 : (dats m 0 c).arrAt 4 (cfgs 0).N = fun i : S4x512.Idx => (aG m c (ix2 (i 0) (i 1))) := by
  refine (dats m 0 c).arrAt_eq_of_covers 4 _ (by decide +kernel) fun t hf y => ?_
  blk_simp
  rw [after0_4]
  idx_vars y
  have e0 : (win0_4.blk t).view.emb (ix2 y0 y1) 0 = spot t y0 := by
    refine Fin.ext ?_
    blk_simp [places t, spot]
    exact (Nat.zero_add _).symm
  have e1 : (win0_4.blk t).view.emb (ix2 y0 y1) 1 = y1 := by
    refine Fin.ext ?_
    blk_simp [places t]
  refine (out4_at (iblk m c 0 t) (iblk m c 1 t) (iblk m c 2 t) (iblk m c 3 t) y0 y1).trans ?_
  rw [e0, e1]
  simp only [blk0_at]

theorem arr5 : (dats m 0 c).arrAt 5 (cfgs 0).N = fun i : S4x512.Idx => delta (aG m c (ix2 (i 0) (i 1))) (aW m c (ix2 (i 0) (i 1))) (aM m c (ix2 (i 0) (i 1))) (aV m c (ix2 (i 0) (i 1))) := by
  refine (dats m 0 c).arrAt_eq_of_covers 5 _ (by decide +kernel) fun t hf y => ?_
  blk_simp
  rw [after0_5]
  idx_vars y
  have e0 : (win0_5.blk t).view.emb (ix2 y0 y1) 0 = spot t y0 := by
    refine Fin.ext ?_
    blk_simp [places t, spot]
    exact (Nat.zero_add _).symm
  have e1 : (win0_5.blk t).view.emb (ix2 y0 y1) 1 = y1 := by
    refine Fin.ext ?_
    blk_simp [places t]
  refine (out5_at (iblk m c 0 t) (iblk m c 1 t) (iblk m c 2 t) (iblk m c 3 t) y0 y1).trans ?_
  rw [e0, e1]
  simp only [blk0_at, blk1_at, blk2_at, blk3_at]

theorem arr6 : (dats m 0 c).arrAt 6 (cfgs 0).N = fun i : S4x512.Idx => newM (aG m c (ix2 (i 0) (i 1))) (aM m c (ix2 (i 0) (i 1))) := by
  refine (dats m 0 c).arrAt_eq_of_covers 6 _ (by decide +kernel) fun t hf y => ?_
  blk_simp
  rw [after0_6]
  idx_vars y
  have e0 : (win0_6.blk t).view.emb (ix2 y0 y1) 0 = spot t y0 := by
    refine Fin.ext ?_
    blk_simp [places t, spot]
    exact (Nat.zero_add _).symm
  have e1 : (win0_6.blk t).view.emb (ix2 y0 y1) 1 = y1 := by
    refine Fin.ext ?_
    blk_simp [places t]
  refine (out6_at (iblk m c 0 t) (iblk m c 1 t) (iblk m c 2 t) (iblk m c 3 t) y0 y1).trans ?_
  rw [e0, e1]
  simp only [blk0_at, blk2_at]

theorem arr7 : (dats m 0 c).arrAt 7 (cfgs 0).N = fun i : S4x512.Idx => newV (aG m c (ix2 (i 0) (i 1))) (aV m c (ix2 (i 0) (i 1))) := by
  refine (dats m 0 c).arrAt_eq_of_covers 7 _ (by decide +kernel) fun t hf y => ?_
  blk_simp
  rw [after0_7]
  idx_vars y
  have e0 : (win0_7.blk t).view.emb (ix2 y0 y1) 0 = spot t y0 := by
    refine Fin.ext ?_
    blk_simp [places t, spot]
    exact (Nat.zero_add _).symm
  have e1 : (win0_7.blk t).view.emb (ix2 y0 y1) 1 = y1 := by
    refine Fin.ext ?_
    blk_simp [places t]
  refine (out7_at (iblk m c 0 t) (iblk m c 1 t) (iblk m c 2 t) (iblk m c 3 t) y0 y1).trans ?_
  rw [e0, e1]
  simp only [blk0_at, blk3_at]

theorem value0 : (dats m 0 c).arrAt 4 cfg0.N = fun i : S4x512.Idx => (aG m c (ix2 (i 0) (i 1))) := arr4

theorem value1 : (dats m 0 c).arrAt 5 cfg0.N = fun i : S4x512.Idx => delta (aG m c (ix2 (i 0) (i 1))) (aW m c (ix2 (i 0) (i 1))) (aM m c (ix2 (i 0) (i 1))) (aV m c (ix2 (i 0) (i 1))) := arr5

theorem value2 : (dats m 0 c).arrAt 6 cfg0.N = fun i : S4x512.Idx => newM (aG m c (ix2 (i 0) (i 1))) (aM m c (ix2 (i 0) (i 1))) := arr6

theorem value3 : (dats m 0 c).arrAt 7 cfg0.N = fun i : S4x512.Idx => newV (aG m c (ix2 (i 0) (i 1))) (aV m c (ix2 (i 0) (i 1))) := arr7

end Cert.Kernel40Ideal.Body

namespace Cert.Join40

open Idealize.ShloMosaic Idealize.ShloMosaic.TcCoe Idealize.SL.Sem

/-- The reference runs no semaphore: every counter family over its signature is the zero one. -/
theorem no_counter (s : GSem Reference40Ideal.nD Reference40Ideal.τ Reference40Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference40Ideal (hReference40Ideal := Reference40Ideal.Gen.facts) := fun m ρ _ =>
  (θ_run Reference40Ideal.defs _ _).mono (fun r h => ⟨fun c => (h c).2.2.2.2, no_counter _⟩) (Reference40Ideal.Value.run m ρ)

/-- The kernel and the reference end with the same gradient, change and moments. -/
theorem same : algebraic_Kernel40Ideal_Reference40Ideal (hKernel40Ideal := Kernel40Ideal.Gen.facts) (hReference40Ideal := Reference40Ideal.Gen.facts) := by
  intro m g m' g' _ ha
  refine ⟨fun c => (Kernel40Ideal.Gen.dats m 0 c).arrAt 4 Kernel40Ideal.cfg0.N, fun c => (Kernel40Ideal.Gen.dats m 0 c).arrAt 5 Kernel40Ideal.cfg0.N, fun c => (Kernel40Ideal.Gen.dats m 0 c).arrAt 6 Kernel40Ideal.cfg0.N, fun c => (Kernel40Ideal.Gen.dats m 0 c).arrAt 7 Kernel40Ideal.cfg0.N,
    ?_, ?_⟩
  · refine (θ_run Kernel40Ideal.defs _ _).mono (fun r h c => ?_) (θ_run_and (Kernel40Ideal.Gen.run_main m g) (Kernel40Ideal.Gen.unchanged m g))
    exact ⟨(h.1 c).1 4, (h.1 c).1 5, (h.1 c).1 6, (h.1 c).1 7, h.2 c⟩
  · refine (θ_run Reference40Ideal.defs _ _).mono (fun r h c => ?_) (Reference40Ideal.Value.run m' g')
    obtain ⟨h0, h1, h2, h3, hrest⟩ := h c
    obtain ⟨e0, e1, e2, e3⟩ := ha c
    refine ⟨h0.trans ?_, h1.trans ?_, h2.trans ?_, h3.trans ?_, hrest⟩
    · refine Eq.trans ?_ Kernel40Ideal.Body.value0.symm
      rw [e0]
      funext i
      idx_vars i
    · refine Eq.trans ?_ Kernel40Ideal.Body.value1.symm
      rw [e0, e1, e2, e3]
      funext i
      idx_vars i
      pointwise [Adam.delta, Adam.newM, Adam.newV]
    · refine Eq.trans ?_ Kernel40Ideal.Body.value2.symm
      rw [e0, e2]
      funext i
      idx_vars i
      pointwise [Adam.delta, Adam.newM, Adam.newV]
    · refine Eq.trans ?_ Kernel40Ideal.Body.value3.symm
      rw [e0, e3]
      funext i
      idx_vars i
      pointwise [Adam.delta, Adam.newM, Adam.newV]

end Cert.Join40

end
-- ==== Proof.AdamIn.lean ====
module

public import proofs.«01_k».proof.Proof.Gen.Kernel41Ideal.Frame
public import proofs.«01_k».proof.Proof.Gen.Reference41Ideal.Run
public import proofs.«01_k».proof.Defs
public import proofs.«01_k».proof.Proof.Adam
public import Idealize.ShloMosaic.Lib.Pointwise
public import Idealize.ShloMosaic.Lib.Pipeline.ValueKit.Geometry
public import Idealize.ShloMosaic.Lib.Pipeline.ValueKit.Partial

@[expose] public section

set_option maxRecDepth 8192

noncomputable section

namespace Cert.Kernel41Ideal.Body

open Idealize.ShloMosaic Idealize.ShloMosaic.TcCoe Idealize.SL.Sem
open Cert.Kernel41Ideal Cert.Kernel41Ideal.Gen Cert.Adam

theorem places : ∀ t : Fin grid0.N,
    win0_0.index t = ![t.val, 0] ∧ win0_1.index t = ![4 + t.val, 0] ∧ win0_2.index t = ![8 + t.val, 0] ∧ win0_3.index t = ![12 + t.val, 0] ∧ win0_4.index t = ![16 + t.val, 0] ∧ win0_5.index t = ![20 + t.val, 0] ∧ win0_6.index t = ![24 + t.val, 0] ∧ win0_7.index t = ![28 + t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] := by decide +kernel

/-- The gradient of a layer's weight, summed over the devices. -/
def total (x : Fin 8 → EReal) : EReal := ∑ d, x d

section
variable {c : Dev nD} {i : grid0.Coords}
  {arg1 arg2 arg3 arg4 arg5 arg6 arg7 arg8 : Memref sig .tc .vmem S256x1024 .bf16} {arg9 arg10 arg11 arg16 arg17 arg18 arg19 : Memref sig .tc .vmem S256x1024 .f32}
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg16 : arg16.IsWhole} {harg17 : arg17.IsWhole} {harg18 : arg18.IsWhole} {harg19 : arg19.IsWhole}
  {x0 x1 x2 x3 x4 x5 x6 x7 : Vec Ideal S256x1024 .bf16} {x8 x9 x10 : Vec Ideal S256x1024 .f32}

/-- What the body stores of each output. -/
theorem outs_eq :
    out0_A_11 c i arg1 harg1 arg2 harg2 arg3 harg3 arg4 harg4 arg5 harg5 arg6 harg6 arg7 harg7 arg8 harg8 arg9 harg9 arg10 harg10 arg11 harg11 arg16 harg16 arg17 harg17 arg18 harg18 arg19 harg19 x0 x1 x2 x3 x4 x5 x6 x7 x8 x9 x10 = k0_pay4 x0 x1 x2 x3 x4 x5 x6 x7
    ∧ out0_A_12 c i arg1 harg1 arg2 harg2 arg3 harg3 arg4 harg4 arg5 harg5 arg6 harg6 arg7 harg7 arg8 harg8 arg9 harg9 arg10 harg10 arg11 harg11 arg16 harg16 arg17 harg17 arg18 harg18 arg19 harg19 x0 x1 x2 x3 x4 x5 x6 x7 x8 x9 x10 = k0_pay3 (k0_pay4 x0 x1 x2 x3 x4 x5 x6 x7) (k0_pay5 x8) (k0_pay6 x9) (k0_pay7 x10)
    ∧ out0_A_13 c i arg1 harg1 arg2 harg2 arg3 harg3 arg4 harg4 arg5 harg5 arg6 harg6 arg7 harg7 arg8 harg8 arg9 harg9 arg10 harg10 arg11 harg11 arg16 harg16 arg17 harg17 arg18 harg18 arg19 harg19 x0 x1 x2 x3 x4 x5 x6 x7 x8 x9 x10 = k0_pay1 (k0_pay4 x0 x1 x2 x3 x4 x5 x6 x7) (k0_pay6 x9)
    ∧ out0_A_14 c i arg1 harg1 arg2 harg2 arg3 harg3 arg4 harg4 arg5 harg5 arg6 harg6 arg7 harg7 arg8 harg8 arg9 harg9 arg10 harg10 arg11 harg11 arg16 harg16 arg17 harg17 arg18 harg18 arg19 harg19 x0 x1 x2 x3 x4 x5 x6 x7 x8 x9 x10 = k0_pay2 (k0_pay4 x0 x1 x2 x3 x4 x5 x6 x7) (k0_pay7 x10) := by
  refine ⟨?_, ?_, ?_, ?_⟩
  on_goal 1 => unfold out0_A_11
  on_goal 2 => unfold out0_A_12
  on_goal 3 => unfold out0_A_13
  on_goal 4 => unfold out0_A_14
  all_goals
    rw [View.read_writes_junk_eq_canon]
    unfold kernelRun0_A
    dsimp only [kernelRun0_A.sl.r, kernelRun0_A.sl.r_1, kernelRun0_A.sl.r_2, kernelRun0_A.sl.r_3]
    rw [View.canon_unit_zero (S := S256x1024) (by decide)]
    simp only [View.readAt_eq_ld, harg1.read_unread, harg2.read_unread, harg3.read_unread, harg4.read_unread, harg5.read_unread, harg6.read_unread, harg7.read_unread, harg8.read_unread, harg9.read_unread, harg10.read_unread, harg11.read_unread]
    repeat rw [View.ld_unit_zero (S := S256x1024) (by decide)]

end

/-- What is stored, entry by entry. -/
theorem pays_at (x0 x1 x2 x3 x4 x5 x6 x7 : Vec Ideal S256x1024 .bf16) (x8 x9 x10 : Vec Ideal S256x1024 .f32) (r : Fin 256) (l : Fin 1024) :
    (k0_pay4 x0 x1 x2 x3 x4 x5 x6 x7 (ix2 r l) : EReal) = (((((((x0 (ix2 r l) : EReal) + x1 (ix2 r l)) + x2 (ix2 r l)) + x3 (ix2 r l)) + x4 (ix2 r l)) + x5 (ix2 r l)) + x6 (ix2 r l)) + x7 (ix2 r l)
    ∧ (k0_pay3 (k0_pay4 x0 x1 x2 x3 x4 x5 x6 x7) (k0_pay5 x8) (k0_pay6 x9) (k0_pay7 x10) (ix2 r l) : EReal) = delta ((((((((x0 (ix2 r l) : EReal) + x1 (ix2 r l)) + x2 (ix2 r l)) + x3 (ix2 r l)) + x4 (ix2 r l)) + x5 (ix2 r l)) + x6 (ix2 r l)) + x7 (ix2 r l)) (x8 (ix2 r l)) (x9 (ix2 r l)) (x10 (ix2 r l))
    ∧ (k0_pay1 (k0_pay4 x0 x1 x2 x3 x4 x5 x6 x7) (k0_pay6 x9) (ix2 r l) : EReal) = newM ((((((((x0 (ix2 r l) : EReal) + x1 (ix2 r l)) + x2 (ix2 r l)) + x3 (ix2 r l)) + x4 (ix2 r l)) + x5 (ix2 r l)) + x6 (ix2 r l)) + x7 (ix2 r l)) (x9 (ix2 r l))
    ∧ (k0_pay2 (k0_pay4 x0 x1 x2 x3 x4 x5 x6 x7) (k0_pay7 x10) (ix2 r l) : EReal) = newV ((((((((x0 (ix2 r l) : EReal) + x1 (ix2 r l)) + x2 (ix2 r l)) + x3 (ix2 r l)) + x4 (ix2 r l)) + x5 (ix2 r l)) + x6 (ix2 r l)) + x7 (ix2 r l)) (x10 (ix2 r l)) := by
  refine ⟨?_, ?_, ?_, ?_⟩
  all_goals pointwise [k0_pay1, k0_pay2, k0_pay3, k0_pay4, k0_pay5, k0_pay6, k0_pay7, delta, newM, newV]

variable {m : (ℓ : Loc nD τ sig) → Buf (Elt Ideal) ℓ} {c : Dev nD}

/-- The arguments at a device: the gradients from each device, the weights, the two moments and the arrays to be filled. -/
abbrev aP (m : (ℓ : Loc nD τ sig) → Buf (Elt Ideal) ℓ) (c : Dev nD) : FVec Ideal S8x1024x1024 .f32 := m ((c : Thread nD τ).loc main_arg0)
abbrev aW (m : (ℓ : Loc nD τ sig) → Buf (Elt Ideal) ℓ) (c : Dev nD) : FVec Ideal S4x1024x1024 .f32 := m ((c : Thread nD τ).loc main_arg1)
abbrev aM (m : (ℓ : Loc nD τ sig) → Buf (Elt Ideal) ℓ) (c : Dev nD) : FVec Ideal S4x1024x1024 .f32 := m ((c : Thread nD τ).loc main_arg2)
abbrev aV (m : (ℓ : Loc nD τ sig) → Buf (Elt Ideal) ℓ) (c : Dev nD) : FVec Ideal S4x1024x1024 .f32 := m ((c : Thread nD τ).loc main_arg3)
abbrev aG (m : (ℓ : Loc nD τ sig) → Buf (Elt Ideal) ℓ) (c : Dev nD) : FVec Ideal S4x1024x1024 .f32 := m ((c : Thread nD τ).loc main_arg4)
abbrev aD (m : (ℓ : Loc nD τ sig) → Buf (Elt Ideal) ℓ) (c : Dev nD) : FVec Ideal S4x1024x1024 .f32 := m ((c : Thread nD τ).loc main_arg5)
abbrev aN (m : (ℓ : Loc nD τ sig) → Buf (Elt Ideal) ℓ) (c : Dev nD) : FVec Ideal S4x1024x1024 .f32 := m ((c : Thread nD τ).loc main_arg6)
abbrev aS (m : (ℓ : Loc nD τ sig) → Buf (Elt Ideal) ℓ) (c : Dev nD) : FVec Ideal S4x1024x1024 .f32 := m ((c : Thread nD τ).loc main_arg7)

/-- The gradients, the devices one below the other, as the call takes them. -/
def stack (x : FVec Ideal S8x1024x1024 .f32) : FVec Ideal S8192x1024 .bf16 := shapeCast S8192x1024 (truncf .bf16 x bitsLt_bf16_f32 : FVec Ideal S8x1024x1024 .bf16) shapeCasts_S8x1024x1024_S8192x1024

/-- The layers of an array one below the other. -/
def flat (x : FVec Ideal S4x1024x1024 .f32) : FVec Ideal S4096x1024 .f32 := shapeCast S4096x1024 x shapeCasts_S4x1024x1024_S4096x1024

/-- The rows of the two that hold row `r` of a device and of a layer. -/
def seat (d : Fin 8) (r : Fin 1024) : Fin 8192 := ⟨1024 * d.val + r.val, by omega⟩
def lay (d : Fin 4) (r : Fin 1024) : Fin 4096 := ⟨1024 * d.val + r.val, by omega⟩

theorem stack_at (x : FVec Ideal S8x1024x1024 .f32) (d : Fin 8) (r : Fin 1024) (k : Fin 1024) : (stack x (ix2 (seat d r) k) : EReal) = x (ix3 d r k) := by
  pointwise [stack, seat]

theorem flat_at (x : FVec Ideal S4x1024x1024 .f32) (d : Fin 4) (r : Fin 1024) (k : Fin 1024) : (flat x (ix2 (lay d r) k) : EReal) = x (ix3 d r k) := by
  pointwise [flat, lay]

theorem flat_back (x : FVec Ideal S4x1024x1024 .f32) : shapeCast S4x1024x1024 (flat x) shapeCasts_S4096x1024_S4x1024x1024 = x := by
  rw [flat, shapeCast_shapeCast]

/-- What the call is given. -/
theorem v_eq :
    (V m c main_v1 : FVec Ideal S8192x1024 .bf16) = stack (aP m c)
    ∧ (V m c main_v2 : FVec Ideal S4096x1024 .f32) = flat (aW m c)
    ∧ (V m c main_v3 : FVec Ideal S4096x1024 .f32) = flat (aM m c)
    ∧ (V m c main_v4 : FVec Ideal S4096x1024 .f32) = flat (aV m c)
    ∧ (V m c main_v9_0 : FVec Ideal S4096x1024 .f32) = flat (aG m c)
    ∧ (V m c main_v9_1 : FVec Ideal S4096x1024 .f32) = flat (aD m c)
    ∧ (V m c main_v9_2 : FVec Ideal S4096x1024 .f32) = flat (aN m c)
    ∧ (V m c main_v9_3 : FVec Ideal S4096x1024 .f32) = flat (aS m c) := by
  refine ⟨?_, ?_, ?_, ?_, ?_, ?_, ?_, ?_⟩
  all_goals
    unfold V V0
    simp only [List.flatten_cons, List.flatten_nil, List.append_nil, List.cons_append, List.nil_append]
    after_results_simp
    rfl

theorem few (t : Fin grid0.N) : t.val < 4 := lt_of_lt_of_eq t.isLt N_0

/-- The row that row `r` of block `t` is. -/
def spot (t : Fin grid0.N) (r : Fin 256) : Fin 1024 := ⟨256 * t.val + r.val, by have := few t; omega⟩

theorem blkP_at (t : Fin grid0.N) (r : Fin 256) (k : Fin 1024) :
    (iblk m c 0 t (ix2 r k) : EReal) = aP m c (ix3 0 (spot t r) k)
    ∧ (iblk m c 1 t (ix2 r k) : EReal) = aP m c (ix3 1 (spot t r) k)
    ∧ (iblk m c 2 t (ix2 r k) : EReal) = aP m c (ix3 2 (spot t r) k)
    ∧ (iblk m c 3 t (ix2 r k) : EReal) = aP m c (ix3 3 (spot t r) k)
    ∧ (iblk m c 4 t (ix2 r k) : EReal) = aP m c (ix3 4 (spot t r) k)
    ∧ (iblk m c 5 t (ix2 r k) : EReal) = aP m c (ix3 5 (spot t r) k)
    ∧ (iblk m c 6 t (ix2 r k) : EReal) = aP m c (ix3 6 (spot t r) k)
    ∧ (iblk m c 7 t (ix2 r k) : EReal) = aP m c (ix3 7 (spot t r) k) := by
  refine ⟨?_, ?_, ?_, ?_, ?_, ?_, ?_, ?_⟩
  all_goals
    rw [← stack_at (aP m c), ← v_eq.1]
    blk_ext [iblk, places t, spot, seat]

theorem blkW_at (t : Fin grid0.N) (r : Fin 256) (k : Fin 1024) :
    (iblk m c 8 t (ix2 r k) : EReal) = aW m c (ix3 0 (spot t r) k)
    ∧ (iblk m c 9 t (ix2 r k) : EReal) = aM m c (ix3 0 (spot t r) k)
    ∧ (iblk m c 10 t (ix2 r k) : EReal) = aV m c (ix3 0 (spot t r) k) := by
  refine ⟨?_, ?_, ?_⟩
  on_goal 1 => rw [← flat_at (aW m c), ← v_eq.2.1]
  on_goal 2 => rw [← flat_at (aM m c), ← v_eq.2.2.1]
  on_goal 3 => rw [← flat_at (aV m c), ← v_eq.2.2.2.1]
  all_goals blk_ext [iblk, places t, spot, lay]

/-- The summed gradient of the first layer, the change of its weights and its new moments. -/
def sumOf (m : (ℓ : Loc nD τ sig) → Buf (Elt Ideal) ℓ) (c : Dev nD) (r : Fin 1024) (k : Fin 1024) : EReal := total fun d => aP m c (ix3 d r k)
def deltaOf (m : (ℓ : Loc nD τ sig) → Buf (Elt Ideal) ℓ) (c : Dev nD) (r : Fin 1024) (k : Fin 1024) : EReal := delta (sumOf m c r k) (aW m c (ix3 0 r k)) (aM m c (ix3 0 r k)) (aV m c (ix3 0 r k))
def momOf (m : (ℓ : Loc nD τ sig) → Buf (Elt Ideal) ℓ) (c : Dev nD) (r : Fin 1024) (k : Fin 1024) : EReal := newM (sumOf m c r k) (aM m c (ix3 0 r k))
def sqOf (m : (ℓ : Loc nD τ sig) → Buf (Elt Ideal) ℓ) (c : Dev nD) (r : Fin 1024) (k : Fin 1024) : EReal := newV (sumOf m c r k) (aV m c (ix3 0 r k))

/-- An array with its first layer replaced. -/
def put (x : FVec Ideal S4x1024x1024 .f32) (n : Fin 1024 → Fin 1024 → EReal) : FVec Ideal S4x1024x1024 .f32 := fun i => if (i 0).val < 1 then n (i 1) (i 2) else x i

theorem put_new (x : FVec Ideal S4x1024x1024 .f32) (n : Fin 1024 → Fin 1024 → EReal) (r : Fin 1024) (k : Fin 1024) : (flat (put x n) (ix2 (lay 0 r) k) : EReal) = n r k := by
  rw [flat_at]
  exact if_pos Nat.zero_lt_one

theorem put_old (x : FVec Ideal S4x1024x1024 .f32) (n : Fin 1024 → Fin 1024 → EReal) (r : Fin 4096) (k : Fin 1024) (h : 1024 ≤ r.val) :
    (flat (put x n) (ix2 r k) : EReal) = flat x (ix2 r k) := by
  have e : r = lay ⟨r.val / 1024, by omega⟩ ⟨r.val % 1024, by omega⟩ := Fin.ext (by simp only [lay]; omega)
  rw [e, flat_at, flat_at]
  refine if_neg fun z => ?_
  have z' : r.val / 1024 < 1 := z
  omega

/-- Where an entry of a block lies. -/
theorem emb_at (t : Fin grid0.N) (y0 : Fin 256) (y1 : Fin 1024) :
    (win0_11.blk t).view.emb (ix2 y0 y1) 0 = lay 0 (spot t y0) ∧ (win0_11.blk t).view.emb (ix2 y0 y1) 1 = y1
    ∧ (win0_12.blk t).view.emb (ix2 y0 y1) 0 = lay 0 (spot t y0) ∧ (win0_12.blk t).view.emb (ix2 y0 y1) 1 = y1
    ∧ (win0_13.blk t).view.emb (ix2 y0 y1) 0 = lay 0 (spot t y0) ∧ (win0_13.blk t).view.emb (ix2 y0 y1) 1 = y1
    ∧ (win0_14.blk t).view.emb (ix2 y0 y1) 0 = lay 0 (spot t y0) ∧ (win0_14.blk t).view.emb (ix2 y0 y1) 1 = y1 := by
  refine ⟨?_, ?_, ?_, ?_, ?_, ?_, ?_, ?_⟩
  all_goals
    refine Fin.ext ?_
    blk_simp [places t, spot, lay]
  all_goals
    show t.val * 256 + y0.val = 1024 * 0 + (256 * t.val + y0.val)
    omega

theorem arr11 : (dats m 0 c).arrAt 11 (cfgs 0).N = fun i : S4096x1024.Idx => flat (put (aG m c) (sumOf m c)) (ix2 (i 0) (i 1)) := by
  refine (dats m 0 c).arrAt_eq_of_coversWhere_of_agree 11 _ (fun β => β (0 : Fin 2) < 4) (by decide +kernel) (fun t hf y => ?_) (fun j hj => ?_)
  · blk_simp
    rw [after0_11]
    dsimp only [outsAt0]
    rw [outs_eq.1]
    idx_vars y
    refine (pays_at (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).1.trans ?_
    rw [(emb_at t y0 y1).1, (emb_at t y0 y1).2.1, put_new]
    simp only [blkP_at]
    simp only [sumOf, total, Fin.sum_univ_eight]
  · have hj' : 1024 ≤ (j (0 : Fin 2)).val := by
      blk_simp [Pipeline.Window.cell_apply] at hj
      omega
    rw [A_eq]
    refine Eq.trans (b := ((V m c main_v9_0 : FVec Ideal S4096x1024 .f32) j : EReal)) rfl ?_
    rw [v_eq.2.2.2.2.1]
    refine Eq.trans ?_ (put_old _ _ (j 0) (j 1) hj').symm
    idx_vars j

theorem arr12 : (dats m 0 c).arrAt 12 (cfgs 0).N = fun i : S4096x1024.Idx => flat (put (aD m c) (deltaOf m c)) (ix2 (i 0) (i 1)) := by
  refine (dats m 0 c).arrAt_eq_of_coversWhere_of_agree 12 _ (fun β => β (0 : Fin 2) < 4) (by decide +kernel) (fun t hf y => ?_) (fun j hj => ?_)
  · blk_simp
    rw [after0_12]
    dsimp only [outsAt0]
    rw [outs_eq.2.1]
    idx_vars y
    refine (pays_at (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).2.1.trans ?_
    rw [(emb_at t y0 y1).2.2.1, (emb_at t y0 y1).2.2.2.1, put_new]
    simp only [blkP_at, blkW_at]
    simp only [deltaOf, sumOf, total, Fin.sum_univ_eight]
  · have hj' : 1024 ≤ (j (0 : Fin 2)).val := by
      blk_simp [Pipeline.Window.cell_apply] at hj
      omega
    rw [A_eq]
    refine Eq.trans (b := ((V m c main_v9_1 : FVec Ideal S4096x1024 .f32) j : EReal)) rfl ?_
    rw [v_eq.2.2.2.2.2.1]
    refine Eq.trans ?_ (put_old _ _ (j 0) (j 1) hj').symm
    idx_vars j

theorem arr13 : (dats m 0 c).arrAt 13 (cfgs 0).N = fun i : S4096x1024.Idx => flat (put (aN m c) (momOf m c)) (ix2 (i 0) (i 1)) := by
  refine (dats m 0 c).arrAt_eq_of_coversWhere_of_agree 13 _ (fun β => β (0 : Fin 2) < 4) (by decide +kernel) (fun t hf y => ?_) (fun j hj => ?_)
  · blk_simp
    rw [after0_13]
    dsimp only [outsAt0]
    rw [outs_eq.2.2.1]
    idx_vars y
    refine (pays_at (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).2.2.1.trans ?_
    rw [(emb_at t y0 y1).2.2.2.2.1, (emb_at t y0 y1).2.2.2.2.2.1, put_new]
    simp only [blkP_at, blkW_at]
    simp only [momOf, sumOf, total, Fin.sum_univ_eight]
  · have hj' : 1024 ≤ (j (0 : Fin 2)).val := by
      blk_simp [Pipeline.Window.cell_apply] at hj
      omega
    rw [A_eq]
    refine Eq.trans (b := ((V m c main_v9_2 : FVec Ideal S4096x1024 .f32) j : EReal)) rfl ?_
    rw [v_eq.2.2.2.2.2.2.1]
    refine Eq.trans ?_ (put_old _ _ (j 0) (j 1) hj').symm
    idx_vars j

theorem arr14 : (dats m 0 c).arrAt 14 (cfgs 0).N = fun i : S4096x1024.Idx => flat (put (aS m c) (sqOf m c)) (ix2 (i 0) (i 1)) := by
  refine (dats m 0 c).arrAt_eq_of_coversWhere_of_agree 14 _ (fun β => β (0 : Fin 2) < 4) (by decide +kernel) (fun t hf y => ?_) (fun j hj => ?_)
  · blk_simp
    rw [after0_14]
    dsimp only [outsAt0]
    rw [outs_eq.2.2.2]
    idx_vars y
    refine (pays_at (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).2.2.2.trans ?_
    rw [(emb_at t y0 y1).2.2.2.2.2.2.1, (emb_at t y0 y1).2.2.2.2.2.2.2, put_new]
    simp only [blkP_at, blkW_at]
    simp only [sqOf, sumOf, total, Fin.sum_univ_eight]
  · have hj' : 1024 ≤ (j (0 : Fin 2)).val := by
      blk_simp [Pipeline.Window.cell_apply] at hj
      omega
    rw [A_eq]
    refine Eq.trans (b := ((V m c main_v9_3 : FVec Ideal S4096x1024 .f32) j : EReal)) rfl ?_
    rw [v_eq.2.2.2.2.2.2.2]
    refine Eq.trans ?_ (put_old _ _ (j 0) (j 1) hj').symm
    idx_vars j

abbrev tailOps : List (HloOp τ sig (Elt Ideal)) := [hostOps1].flatten

theorem tails_eq (W : Valuation τ sig (Elt Ideal)) :
    (StableHlo.after tailOps W (Proc.devRef .tc main_v10) : FVec Ideal S4x1024x1024 .f32) = shapeCast S4x1024x1024 (W (Proc.devRef .tc main_v9_0) : FVec Ideal S4096x1024 .f32) shapeCasts_S4096x1024_S4x1024x1024
    ∧ (StableHlo.after tailOps W (Proc.devRef .tc main_v11) : FVec Ideal S4x1024x1024 .f32) = shapeCast S4x1024x1024 (W (Proc.devRef .tc main_v9_1) : FVec Ideal S4096x1024 .f32) shapeCasts_S4096x1024_S4x1024x1024
    ∧ (StableHlo.after tailOps W (Proc.devRef .tc main_v12) : FVec Ideal S4x1024x1024 .f32) = shapeCast S4x1024x1024 (W (Proc.devRef .tc main_v9_2) : FVec Ideal S4096x1024 .f32) shapeCasts_S4096x1024_S4x1024x1024
    ∧ (StableHlo.after tailOps W (Proc.devRef .tc main_v13) : FVec Ideal S4x1024x1024 .f32) = shapeCast S4x1024x1024 (W (Proc.devRef .tc main_v9_3) : FVec Ideal S4096x1024 .f32) shapeCasts_S4096x1024_S4x1024x1024 := by
  refine ⟨?_, ?_, ?_, ?_⟩
  all_goals
    unfold tailOps
    simp only [List.flatten_cons, List.flatten_nil, List.append_nil, List.cons_append, List.nil_append]
    after_results_simp
    rfl

/-- What the buffers hold when the call returns. -/
abbrev after0 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem sharedIn0 : Pipeline.SharedIn spec0 := by decide

theorem left (w : Fin cfg0.W) : after0 m c (Proc.devRef .tc (Pipeline.arrRef spec0 w)) = (dats m 0 c).arrAt w (cfgs 0).N :=
  (dats m 0 c).withArrays_arrAt sharedIn0 (V0 m c) (A_eq m c) w

/-- What the host operations after the call leave in a buffer. -/
abbrev endOf (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

theorem value0 : endOf m c main_v10 = put (aG m c) (sumOf m c) := by
  refine (tails_eq (after0 m c)).1.trans ?_
  rw [show after0 m c (Proc.devRef .tc main_v9_0) = flat (put (aG m c) (sumOf m c)) from
    ((left 11).trans arr11).trans (funext fun i => by idx_vars i), flat_back]

theorem value1 : endOf m c main_v11 = put (aD m c) (deltaOf m c) := by
  refine (tails_eq (after0 m c)).2.1.trans ?_
  rw [show after0 m c (Proc.devRef .tc main_v9_1) = flat (put (aD m c) (deltaOf m c)) from
    ((left 12).trans arr12).trans (funext fun i => by idx_vars i), flat_back]

theorem value2 : endOf m c main_v12 = put (aN m c) (momOf m c) := by
  refine (tails_eq (after0 m c)).2.2.1.trans ?_
  rw [show after0 m c (Proc.devRef .tc main_v9_2) = flat (put (aN m c) (momOf m c)) from
    ((left 13).trans arr13).trans (funext fun i => by idx_vars i), flat_back]

theorem value3 : endOf m c main_v13 = put (aS m c) (sqOf m c) := by
  refine (tails_eq (after0 m c)).2.2.2.trans ?_
  rw [show after0 m c (Proc.devRef .tc main_v9_3) = flat (put (aS m c) (sqOf m c)) from
    ((left 14).trans arr14).trans (funext fun i => by idx_vars i), flat_back]

end Cert.Kernel41Ideal.Body

namespace Cert.Join41

open Idealize.ShloMosaic Idealize.ShloMosaic.TcCoe Idealize.SL.Sem

/-- The reference runs no semaphore: every counter family over its signature is the zero one. -/
theorem no_counter (s : GSem Reference41Ideal.nD Reference41Ideal.τ Reference41Ideal.sig → ℤ) : s = fun _ => 0 := by
  funext g
  rcases g with ⟨t, ⟨⟨k, h⟩⟩ | ⟨⟨k, h⟩⟩⟩ <;> exact absurd h (Nat.not_lt_zero _)

/-- The frame of the reference: it ends with its arguments unchanged and every counter at zero. -/
theorem reference_frame : quiescent_Reference41Ideal (hReference41Ideal := Reference41Ideal.Gen.facts) := fun m ρ _ =>
  (θ_run Reference41Ideal.defs _ _).mono (fun r h => ⟨fun c => (h c).2.2.2.2, no_counter _⟩) (Reference41Ideal.Value.run m ρ)

/-- The kernel and the reference end with the same gradient, change and moments. -/
theorem same : algebraic_Kernel41Ideal_Reference41Ideal (hKernel41Ideal := Kernel41Ideal.Gen.facts) (hReference41Ideal := Reference41Ideal.Gen.facts) := by
  intro m g m' g' _ ha
  refine ⟨fun c => Kernel41Ideal.Body.endOf m c _, fun c => Kernel41Ideal.Body.endOf m c _, fun c => Kernel41Ideal.Body.endOf m c _, fun c => Kernel41Ideal.Body.endOf m c _,
    ?_, ?_⟩
  · refine (θ_run Kernel41Ideal.defs _ _).mono (fun r h c => ?_) (θ_run_and (Kernel41Ideal.Gen.run_main m g) (Kernel41Ideal.Gen.unchanged m g))
    exact ⟨h.1.rest_eq c Kernel41Ideal.main_v10 (by decide), h.1.rest_eq c Kernel41Ideal.main_v11 (by decide), h.1.rest_eq c Kernel41Ideal.main_v12 (by decide), h.1.rest_eq c Kernel41Ideal.main_v13 (by decide), h.2 c⟩
  · refine (θ_run Reference41Ideal.defs _ _).mono (fun r h c => ?_) (Reference41Ideal.Value.run m' g')
    obtain ⟨h0, h1, h2, h3, hrest⟩ := h c
    obtain ⟨e0, e1, e2, e3, e4, e5, e6, e7⟩ := ha c
    refine ⟨h0.trans ?_, h1.trans ?_, h2.trans ?_, h3.trans ?_, hrest⟩
    · refine Eq.trans ?_ Kernel41Ideal.Body.value0.symm
      rw [e0, e4]
      clear h0 h1 h2 h3 hrest e0 e1 e2 e3 e4 e5 e6 e7
      funext i
      idx_vars i
      pointwise [Kernel41Ideal.Body.put, Kernel41Ideal.Body.sumOf, Kernel41Ideal.Body.total, Adam.delta, Adam.newM, Adam.newV]
      by_cases z : i0.val < 1
      · rw [dif_pos z, if_pos z]
      · rw [dif_neg z, if_neg z]
        exact congrArg (fun d => Kernel41Ideal.Body.aG m c (ix3 d i1 i2)) (show (⟨1 + (i0.val - 1), by omega⟩ : Fin 4) = i0 from Fin.ext (by dsimp only; omega))
    · refine Eq.trans ?_ Kernel41Ideal.Body.value1.symm
      rw [e0, e1, e2, e3, e5]
      clear h0 h1 h2 h3 hrest e0 e1 e2 e3 e4 e5 e6 e7
      funext i
      idx_vars i
      pointwise [Kernel41Ideal.Body.put, Kernel41Ideal.Body.deltaOf, Kernel41Ideal.Body.sumOf, Kernel41Ideal.Body.total, Adam.delta, Adam.newM, Adam.newV]
      by_cases z : i0.val < 1
      · rw [dif_pos z, if_pos z]
      · rw [dif_neg z, if_neg z]
        exact congrArg (fun d => Kernel41Ideal.Body.aD m c (ix3 d i1 i2)) (show (⟨1 + (i0.val - 1), by omega⟩ : Fin 4) = i0 from Fin.ext (by dsimp only; omega))
    · refine Eq.trans ?_ Kernel41Ideal.Body.value2.symm
      rw [e0, e2, e6]
      clear h0 h1 h2 h3 hrest e0 e1 e2 e3 e4 e5 e6 e7
      funext i
      idx_vars i
      pointwise [Kernel41Ideal.Body.put, Kernel41Ideal.Body.momOf, Kernel41Ideal.Body.sumOf, Kernel41Ideal.Body.total, Adam.delta, Adam.newM, Adam.newV]
      by_cases z : i0.val < 1
      · rw [dif_pos z, if_pos z]
      · rw [dif_neg z, if_neg z]
        exact congrArg (fun d => Kernel41Ideal.Body.aN m c (ix3 d i1 i2)) (show (⟨1 + (i0.val - 1), by omega⟩ : Fin 4) = i0 from Fin.ext (by dsimp only; omega))
    · refine Eq.trans ?_ Kernel41Ideal.Body.value3.symm
      rw [e0, e3, e7]
      clear h0 h1 h2 h3 hrest e0 e1 e2 e3 e4 e5 e6 e7
      funext i
      idx_vars i
      pointwise [Kernel41Ideal.Body.put, Kernel41Ideal.Body.sqOf, Kernel41Ideal.Body.sumOf, Kernel41Ideal.Body.total, Adam.delta, Adam.newM, Adam.newV]
      by_cases z : i0.val < 1
      · rw [dif_pos z, if_pos z]
      · rw [dif_neg z, if_neg z]
        exact congrArg (fun d => Kernel41Ideal.Body.aS m c (ix3 d i1 i2)) (show (⟨1 + (i0.val - 1), by omega⟩ : Fin 4) = i0 from Fin.ext (by dsimp only; omega))

end Cert.Join41

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.Gen.Kernel41.Frame
public import proofs.«01_k».proof.Proof.Join
public import proofs.«01_k».proof.Proof.Proj
public import proofs.«01_k».proof.Proof.DwIn
public import proofs.«01_k».proof.Proof.DhTime
public import proofs.«01_k».proof.Proof.DhChunked
public import proofs.«01_k».proof.Proof.DwOut
public import proofs.«01_k».proof.Proof.DMerged
public import proofs.«01_k».proof.Proof.DwBranchS
public import proofs.«01_k».proof.Proof.DwBranchA
public import proofs.«01_k».proof.Proof.DYs
public import proofs.«01_k».proof.Proof.DYa
public import proofs.«01_k».proof.Proof.DwGlu
public import proofs.«01_k».proof.Proof.DY1
public import proofs.«01_k».proof.Proof.Glu
public import proofs.«01_k».proof.Proof.BranchS
public import proofs.«01_k».proof.Proof.BranchA
public import proofs.«01_k».proof.Proof.Out
public import proofs.«01_k».proof.Proof.PostNorm
public import proofs.«01_k».proof.Proof.MergeGrad
public import proofs.«01_k».proof.Proof.GateGrad
public import proofs.«01_k».proof.Proof.ActGrad
public import proofs.«01_k».proof.Proof.PreNorm
public import proofs.«01_k».proof.Proof.ScaleGrad
public import proofs.«01_k».proof.Proof.DiscGrad
public import proofs.«01_k».proof.Proof.Disc
public import proofs.«01_k».proof.Proof.Scale
public import proofs.«01_k».proof.Proof.PreNormF
public import proofs.«01_k».proof.Proof.ActF
public import proofs.«01_k».proof.Proof.GateF
public import proofs.«01_k».proof.Proof.MergeF
public import proofs.«01_k».proof.Proof.PostNormF
public import proofs.«01_k».proof.Proof.DuSum
public import proofs.«01_k».proof.Proof.Loss
public import proofs.«01_k».proof.Proof.GradsSum
public import proofs.«01_k».proof.Proof.AdamNorm
public import proofs.«01_k».proof.Proof.AdamLambda
public import proofs.«01_k».proof.Proof.AdamStep
public import proofs.«01_k».proof.Proof.AdamB
public import proofs.«01_k».proof.Proof.AdamC
public import proofs.«01_k».proof.Proof.AdamSkip
public import proofs.«01_k».proof.Proof.AdamIn
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Join.preFacts,
  fun m ρ _ => Cert.Kernel.Gen.frame m ρ, fun m ρ _ => Cert.KernelIdeal.Gen.frame m ρ, fun m ρ _ => Cert.KernelIdeal.Gen.frame m ρ,
  Cert.Join.reference_frame, fun m ρ _ => Cert.Join.reference_frame m ρ trivial,
  fun m ρ _ => Cert.Kernel2.Gen.frame m ρ, fun m ρ _ => Cert.Kernel2Ideal.Gen.frame m ρ, Cert.Join2.reference_frame,
  fun m ρ _ => Cert.Kernel3.Gen.frame m ρ, fun m ρ _ => Cert.Kernel3Ideal.Gen.frame m ρ, Cert.Join3.reference_frame,
  fun m ρ _ => Cert.Kernel4.Gen.frame m ρ, fun m ρ _ => Cert.Kernel4Ideal.Gen.frame m ρ, Cert.Join4.reference_frame,
  fun m ρ _ => Cert.Kernel5.Gen.frame m ρ, fun m ρ _ => Cert.Kernel5Ideal.Gen.frame m ρ, Cert.Join5.reference_frame,
  fun m ρ _ => Cert.Kernel6.Gen.frame m ρ, fun m ρ _ => Cert.Kernel6Ideal.Gen.frame m ρ, Cert.Join6.reference_frame,
  fun m ρ _ => Cert.Kernel7.Gen.frame m ρ, fun m ρ _ => Cert.Kernel7Ideal.Gen.frame m ρ, Cert.Join7.reference_frame,
  fun m ρ _ => Cert.Kernel8.Gen.frame m ρ, fun m ρ _ => Cert.Kernel8Ideal.Gen.frame m ρ, Cert.Join8.reference_frame,
  fun m ρ _ => Cert.Kernel9.Gen.frame m ρ, fun m ρ _ => Cert.Kernel9Ideal.Gen.frame m ρ, Cert.Join9.reference_frame,
  fun m ρ _ => Cert.Kernel10.Gen.frame m ρ, fun m ρ _ => Cert.Kernel10Ideal.Gen.frame m ρ, Cert.Join10.reference_frame,
  fun m ρ _ => Cert.Kernel11.Gen.frame m ρ, fun m ρ _ => Cert.Kernel11Ideal.Gen.frame m ρ, Cert.Join11.reference_frame,
  fun m ρ _ => Cert.Kernel12.Gen.frame m ρ, fun m ρ _ => Cert.Kernel12Ideal.Gen.frame m ρ, Cert.Join12.reference_frame,
  fun m ρ _ => Cert.Kernel13.Gen.frame m ρ, fun m ρ _ => Cert.Kernel13Ideal.Gen.frame m ρ, Cert.Join13.reference_frame,
  fun m ρ _ => Cert.Kernel14.Gen.frame m ρ, fun m ρ _ => Cert.Kernel14Ideal.Gen.frame m ρ, Cert.Join14.reference_frame,
  fun m ρ _ => Cert.Kernel15.Gen.frame m ρ, fun m ρ _ => Cert.Kernel15Ideal.Gen.frame m ρ, Cert.Join15.reference_frame,
  fun m ρ _ => Cert.Kernel16.Gen.frame m ρ, fun m ρ _ => Cert.Kernel16Ideal.Gen.frame m ρ, Cert.Join16.reference_frame,
  fun m ρ _ => Cert.Kernel17.Gen.frame m ρ, fun m ρ _ => Cert.Kernel17Ideal.Gen.frame m ρ, Cert.Join17.reference_frame,
  fun m ρ _ => Cert.Kernel18.Gen.frame m ρ, fun m ρ _ => Cert.Kernel18Ideal.Gen.frame m ρ, Cert.Join18.reference_frame,
  fun m ρ _ => Cert.Kernel19.Gen.frame m ρ, fun m ρ _ => Cert.Kernel19Ideal.Gen.frame m ρ, Cert.Join19.reference_frame,
  fun m ρ _ => Cert.Kernel20.Gen.frame m ρ, fun m ρ _ => Cert.Kernel20Ideal.Gen.frame m ρ, Cert.Join20.reference_frame,
  fun m ρ _ => Cert.Kernel21.Gen.frame m ρ, fun m ρ _ => Cert.Kernel21Ideal.Gen.frame m ρ, Cert.Join21.reference_frame,
  fun m ρ _ => Cert.Kernel22.Gen.frame m ρ, fun m ρ _ => Cert.Kernel22Ideal.Gen.frame m ρ, Cert.Join22.reference_frame,
  fun m ρ _ => Cert.Kernel23.Gen.frame m ρ, fun m ρ _ => Cert.Kernel23Ideal.Gen.frame m ρ, Cert.Join23.reference_frame,
  fun m ρ _ => Cert.Kernel24.Gen.frame m ρ, fun m ρ _ => Cert.Kernel24Ideal.Gen.frame m ρ, Cert.Join24.reference_frame,
  fun m ρ _ => Cert.Kernel25.Gen.frame m ρ, fun m ρ _ => Cert.Kernel25Ideal.Gen.frame m ρ, Cert.Join25.reference_frame,
  fun m ρ _ => Cert.Kernel26.Gen.frame m ρ, fun m ρ _ => Cert.Kernel26Ideal.Gen.frame m ρ, Cert.Join26.reference_frame,
  fun m ρ _ => Cert.Kernel27.Gen.frame m ρ, fun m ρ _ => Cert.Kernel27Ideal.Gen.frame m ρ, Cert.Join27.reference_frame,
  fun m ρ _ => Cert.Kernel28.Gen.frame m ρ, fun m ρ _ => Cert.Kernel28Ideal.Gen.frame m ρ, Cert.Join28.reference_frame,
  fun m ρ _ => Cert.Kernel29.Gen.frame m ρ, fun m ρ _ => Cert.Kernel29Ideal.Gen.frame m ρ, Cert.Join29.reference_frame,
  fun m ρ _ => Cert.Kernel30.Gen.frame m ρ, fun m ρ _ => Cert.Kernel30Ideal.Gen.frame m ρ, Cert.Join30.reference_frame,
  fun m ρ _ => Cert.Kernel31.Gen.frame m ρ, fun m ρ _ => Cert.Kernel31Ideal.Gen.frame m ρ, Cert.Join31.reference_frame,
  fun m ρ _ => Cert.Kernel32.Gen.frame m ρ, fun m ρ _ => Cert.Kernel32Ideal.Gen.frame m ρ, Cert.Join32.reference_frame,
  fun m ρ _ => Cert.Kernel33.Gen.frame m ρ, fun m ρ _ => Cert.Kernel33Ideal.Gen.frame m ρ, Cert.Join33.reference_frame,
  fun m ρ _ => Cert.Kernel34.Gen.frame m ρ, fun m ρ _ => Cert.Kernel34Ideal.Gen.frame m ρ, Cert.Join34.reference_frame,
  fun m ρ _ => Cert.Kernel35.Gen.frame m ρ, fun m ρ _ => Cert.Kernel35Ideal.Gen.frame m ρ, Cert.Join35.reference_frame,
  fun m ρ _ => Cert.Kernel36.Gen.frame m ρ, fun m ρ _ => Cert.Kernel36Ideal.Gen.frame m ρ, Cert.Join36.reference_frame,
  fun m ρ _ => Cert.Kernel37.Gen.frame m ρ, fun m ρ _ => Cert.Kernel37Ideal.Gen.frame m ρ, Cert.Join37.reference_frame,
  fun m ρ _ => Cert.Kernel38.Gen.frame m ρ, fun m ρ _ => Cert.Kernel38Ideal.Gen.frame m ρ, Cert.Join38.reference_frame,
  fun m ρ _ => Cert.Kernel39.Gen.frame m ρ, fun m ρ _ => Cert.Kernel39Ideal.Gen.frame m ρ, Cert.Join39.reference_frame,
  fun m ρ _ => Cert.Kernel40.Gen.frame m ρ, fun m ρ _ => Cert.Kernel40Ideal.Gen.frame m ρ, Cert.Join40.reference_frame,
  fun m ρ _ => Cert.Kernel41.Gen.frame m ρ, fun m ρ _ => Cert.Kernel41Ideal.Gen.frame m ρ, Cert.Join41.reference_frame,
  trivial, Cert.Join.same,
  trivial, Cert.Join2.same,
  trivial, Cert.Join3.same,
  trivial, Cert.Join4.same,
  trivial, Cert.Join5.same,
  trivial, Cert.Join6.same,
  trivial, Cert.Join7.same,
  trivial, Cert.Join8.same,
  trivial, Cert.Join9.same,
  trivial, Cert.Join10.same,
  trivial, Cert.Join11.same,
  trivial, Cert.Join12.same,
  trivial, Cert.Join13.same,
  trivial, Cert.Join14.same,
  trivial, Cert.Join15.same,
  trivial, Cert.Join16.same,
  trivial, Cert.Join17.same,
  trivial, Cert.Join18.same,
  trivial, Cert.Join19.same,
  trivial, Cert.Join20.same,
  trivial, Cert.Join21.same,
  trivial, Cert.Join22.same,
  trivial, Cert.Join23.same,
  trivial, Cert.Join24.same,
  trivial, Cert.Join25.same,
  trivial, Cert.Join26.same,
  trivial, Cert.Join27.same,
  trivial, Cert.Join28.same,
  trivial, Cert.Join29.same,
  trivial, Cert.Join30.same,
  trivial, Cert.Join31.same,
  trivial, Cert.Join32.same,
  trivial, Cert.Join33.same,
  trivial, Cert.Join34.same,
  trivial, Cert.Join35.same,
  trivial, Cert.Join36.same,
  trivial, Cert.Join37.same,
  trivial, Cert.Join38.same,
  trivial, Cert.Join39.same,
  trivial, Cert.Join40.same,
  trivial, Cert.Join41.same⟩

end Cert.Proof

end
